-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite_inputs [hPre_finite_inputs : Cert.Pre_finite_inputs.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite_inputs.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5))).1 = (fun _ => 1#1)
    ∧ (Cert.Pre_finite_inputs.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5))).2.1 = (fun _ => 1#1)
    ∧ (Cert.Pre_finite_inputs.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5))).2.2.1 = (fun _ => 1#1)
    ∧ (Cert.Pre_finite_inputs.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5))).2.2.2.1 = (fun _ => 1#1)
    ∧ (Cert.Pre_finite_inputs.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5))).2.2.2.2 = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite_inputs [hPre_finite_inputs : Cert.Pre_finite_inputs.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite_inputs.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5))).1 = (fun _ => 1#1)
    ∧ (Cert.Pre_finite_inputs.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5))).2.1 = (fun _ => 1#1)
    ∧ (Cert.Pre_finite_inputs.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5))).2.2.1 = (fun _ => 1#1)
    ∧ (Cert.Pre_finite_inputs.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5))).2.2.2.1 = (fun _ => 1#1)
    ∧ (Cert.Pre_finite_inputs.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5))).2.2.2.2 = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite_scan [hPre_finite_scan : Cert.Pre_finite_scan.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite_scan.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7))).1 = (fun _ => 1#1)
    ∧ (Cert.Pre_finite_scan.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7))).2.1 = (fun _ => 1#1)
    ∧ (Cert.Pre_finite_scan.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7))).2.2.1 = (fun _ => 1#1)
    ∧ (Cert.Pre_finite_scan.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7))).2.2.2.1 = (fun _ => 1#1)
    ∧ (Cert.Pre_finite_scan.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7))).2.2.2.2 = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite_scan [hPre_finite_scan : Cert.Pre_finite_scan.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite_scan.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7))).1 = (fun _ => 1#1)
    ∧ (Cert.Pre_finite_scan.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7))).2.1 = (fun _ => 1#1)
    ∧ (Cert.Pre_finite_scan.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7))).2.2.1 = (fun _ => 1#1)
    ∧ (Cert.Pre_finite_scan.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7))).2.2.2.1 = (fun _ => 1#1)
    ∧ (Cert.Pre_finite_scan.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Kernel11Ideal_pre_finite_inputs [hKernel11Ideal : Cert.Kernel11Ideal.Facts] [hPre_finite_inputs : Cert.Pre_finite_inputs.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite_inputs m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Reference11Ideal_pre_finite_inputs [hReference11Ideal : Cert.Reference11Ideal.Facts] [hPre_finite_inputs : Cert.Pre_finite_inputs.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite_inputs m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ r.2.sem = fun _ => 0)

def quiescent_Kernel12Ideal_pre_finite_scan [hKernel12Ideal : Cert.Kernel12Ideal.Facts] [hPre_finite_scan : Cert.Pre_finite_scan.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite_scan m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7))
      ∧ r.2.sem = fun _ => 0)

def quiescent_Reference12Ideal_pre_finite_scan [hReference12Ideal : Cert.Reference12Ideal.Facts] [hPre_finite_scan : Cert.Pre_finite_scan.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite_scan m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_v29) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v15) = v0 c
          ∧ r.2.mem ((c.tc : Thread Cert.Reference8Ideal.nD Cert.Reference8Ideal.τ).loc Cert.Reference8Ideal.main_v29) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v3_0)) (v1 : (c : Dev Cert.Kernel9Ideal.nD) → Buf (Elt Ideal) ((c.tc : Thread Cert.Kernel9Ideal.nD Cert.Kernel9Ideal.τ).loc Cert.Kernel9Ideal.main_v3_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3_0) = v0 c
          ∧ r.2.mem ((c.tc : Thread Cert.Kernel9Ideal.nD Cert.Kernel9Ideal.τ).loc Cert.Kernel9Ideal.main_v3_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v15) = v0 c
          ∧ r.2.mem ((c.tc : Thread Cert.Reference9Ideal.nD Cert.Reference9Ideal.τ).loc Cert.Reference9Ideal.main_v29) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v14) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal_pre_finite_inputs [hKernel11Ideal : Cert.Kernel11Ideal.Facts] [hReference11Ideal : Cert.Reference11Ideal.Facts] [hPre_finite_inputs : Cert.Pre_finite_inputs.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite_inputs m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v5)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v5) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v61) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel12_Kernel12Ideal : Prop :=
  True

def algebraic_Kernel12Ideal_Reference12Ideal_pre_finite_scan [hKernel12Ideal : Cert.Kernel12Ideal.Facts] [hReference12Ideal : Cert.Reference12Ideal.Facts] [hPre_finite_scan : Cert.Pre_finite_scan.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite_scan m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)) →
    ∃ (v0 : (c : Dev Cert.Kernel12Ideal.nD) → Buf (Elt Ideal) ((c.tc : Thread Cert.Kernel12Ideal.nD Cert.Kernel12Ideal.τ).loc Cert.Kernel12Ideal.main_v23)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v23) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v104) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite_inputs : Cert.Pre_finite_inputs.Facts) (hPre_finite_scan : Cert.Pre_finite_scan.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite_inputs (hKernel11Ideal := hKernel11Ideal) (hPre_finite_inputs := hPre_finite_inputs)
    ∧ quiescent_Reference11Ideal (hReference11Ideal := hReference11Ideal)
    ∧ quiescent_Reference11Ideal_pre_finite_inputs (hReference11Ideal := hReference11Ideal) (hPre_finite_inputs := hPre_finite_inputs)
    ∧ quiescent_Kernel12 (hKernel12 := hKernel12)
    ∧ quiescent_Kernel12Ideal (hKernel12Ideal := hKernel12Ideal)
    ∧ quiescent_Kernel12Ideal_pre_finite_scan (hKernel12Ideal := hKernel12Ideal) (hPre_finite_scan := hPre_finite_scan)
    ∧ quiescent_Reference12Ideal (hReference12Ideal := hReference12Ideal)
    ∧ quiescent_Reference12Ideal_pre_finite_scan (hReference12Ideal := hReference12Ideal) (hPre_finite_scan := hPre_finite_scan)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite_inputs (hKernel11Ideal := hKernel11Ideal) (hReference11Ideal := hReference11Ideal) (hPre_finite_inputs := hPre_finite_inputs)
    ∧ preserves_Kernel12_Kernel12Ideal
    ∧ algebraic_Kernel12Ideal_Reference12Ideal_pre_finite_scan (hKernel12Ideal := hKernel12Ideal) (hReference12Ideal := hReference12Ideal) (hPre_finite_scan := hPre_finite_scan)
-- ==== Pre_finite_inputs.lean ====
abbrev S16384x6144 : Shape := ⟨2, ![16384, 6144]⟩
abbrev S64 : Shape := ⟨1, ![64]⟩
abbrev S128 : Shape := ⟨1, ![128]⟩
abbrev S_ : Shape := ⟨0, ![]⟩

class Facts : Prop where
  bcast_S_S16384x6144 : S_.BroadcastsInDim S16384x6144 (![] : Fin 0 → Fin S16384x6144.rank)
  bcast_S_S64 : S_.BroadcastsInDim S64 (![] : Fin 0 → Fin S64.rank)

variable [Facts]

def fn {F : FTy → Type} [FloatOps F] (main_arg0 : FVec F S16384x6144 .bf16) (main_arg1 : FVec F S64 .f32) (main_arg2 : FVec F S64 .f32) (main_arg3 : FVec F S64 .f32) (main_arg4 : FVec F S64 .f32) (main_arg5 : FVec F S128 .f32) : IVec S16384x6144 1 × IVec S64 1 × IVec S64 1 × IVec S64 1 × IVec S64 1 :=
  let main_v0 : FVec F S16384x6144 .bf16 := Host.absf main_arg0
  let main_cst : FVec F S_ .bf16 := constant S_ .bf16 0x7F80#16
  let main_v1 : FVec F S16384x6144 .bf16 := broadcastInDim S16384x6144 ![] bcast_S_S16384x6144 main_cst
  let main_v2 : IVec S16384x6144 1 := cmpf .olt main_v0 main_v1
  let main_v3 : FVec F S64 .f32 := Host.absf main_arg1
  let main_cst_0 : FVec F S_ .f32 := constant S_ .f32 0x7F800000#32
  let main_v4 : FVec F S64 .f32 := broadcastInDim S64 ![] bcast_S_S64 main_cst_0
  let main_v5 : IVec S64 1 := cmpf .olt main_v3 main_v4
  let main_v6 : FVec F S64 .f32 := Host.absf main_arg2
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_v12 : FVec F S64 .f32 := Host.absf main_arg4
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  (main_v2, main_v5, main_v8, main_v11, main_v14)
-- ==== Pre_finite_scan.lean ====
abbrev S16384x10240 : Shape := ⟨2, ![16384, 10240]⟩
abbrev S16384x128 : Shape := ⟨2, ![16384, 128]⟩
abbrev S4x6144 : Shape := ⟨2, ![4, 6144]⟩
abbrev S6144 : Shape := ⟨1, ![6144]⟩
abbrev S64 : Shape := ⟨1, ![64]⟩
abbrev S4096 : Shape := ⟨1, ![4096]⟩
abbrev S16384x6144 : Shape := ⟨2, ![16384, 6144]⟩
abbrev S_ : Shape := ⟨0, ![]⟩
abbrev S16384x64 : Shape := ⟨2, ![16384, 64]⟩

class Facts : Prop where
  slices_S16384x10240_S16384x6144_0_4096 : S16384x10240.Slices ![0, 4096] S16384x6144
  bcast_S_S16384x6144 : S_.BroadcastsInDim S16384x6144 (![] : Fin 0 → Fin S16384x6144.rank)
  slices_S16384x128_S16384x64_0_0 : S16384x128.Slices ![0, 0] S16384x64
  bcast_S_S16384x64 : S_.BroadcastsInDim S16384x64 (![] : Fin 0 → Fin S16384x64.rank)
  bcast_S_S4x6144 : S_.BroadcastsInDim S4x6144 (![] : Fin 0 → Fin S4x6144.rank)
  bcast_S_S6144 : S_.BroadcastsInDim S6144 (![] : Fin 0 → Fin S6144.rank)
  bcast_S_S64 : S_.BroadcastsInDim S64 (![] : Fin 0 → Fin S64.rank)

variable [Facts]

def fn {F : FTy → Type} [FloatOps F] (main_arg0 : FVec F S16384x10240 .bf16) (main_arg1 : FVec F S16384x128 .f32) (main_arg2 : FVec F S4x6144 .f32) (main_arg3 : FVec F S6144 .f32) (main_arg4 : FVec F S64 .f32) (main_arg5 : FVec F S64 .f32) (main_arg6 : FVec F S64 .f32) (main_arg7 : FVec F S4096 .f32) : IVec S16384x6144 1 × IVec S16384x64 1 × IVec S4x6144 1 × IVec S6144 1 × IVec S64 1 :=
  let main_v0 : FVec F S16384x6144 .bf16 := (extractStridedSlice S16384x6144 ![0, 4096] · slices_S16384x10240_S16384x6144_0_4096) main_arg0
  let main_v1 : FVec F S16384x6144 .bf16 := Host.absf main_v0
  let main_cst : FVec F S_ .bf16 := constant S_ .bf16 0x7F80#16
  let main_v2 : FVec F S16384x6144 .bf16 := broadcastInDim S16384x6144 ![] bcast_S_S16384x6144 main_cst
  let main_v3 : IVec S16384x6144 1 := cmpf .olt main_v1 main_v2
  let main_v4 : FVec F S16384x64 .f32 := (extractStridedSlice S16384x64 ![0, 0] · slices_S16384x128_S16384x64_0_0) main_arg1
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_v7 : FVec F S4x6144 .f32 := Host.absf main_arg2
  let main_cst_1 : FVec F S_ .f32 := constant S_ .f32 0x7F800000#32
  let main_v8 : FVec F S4x6144 .f32 := broadcastInDim S4x6144 ![] bcast_S_S4x6144 main_cst_1
  let main_v9 : IVec S4x6144 1 := cmpf .olt main_v7 main_v8
  let main_cst_2 : FVec F S_ .f32 := constant S_ .f32 0x7F800000#32
  let main_v10 : FVec F S6144 .f32 := broadcastInDim S6144 ![] bcast_S_S6144 main_cst_2
  let main_v11 : IVec S6144 1 := cmpf .olt main_arg3 main_v10
  let main_cst_3 : FVec F S_ .f32 := constant S_ .f32 0x7F800000#32
  let main_v12 : FVec F S64 .f32 := broadcastInDim S64 ![] bcast_S_S64 main_cst_3
  let main_v13 : IVec S64 1 := cmpf .olt main_arg4 main_v12
  (main_v3, main_v6, main_v9, main_v11, main_v13)
-- ==== Kernel.lean ====
abbrev S16384x6144 : Shape := ⟨2, ![16384, 6144]⟩
abbrev S64 : Shape := ⟨1, ![64]⟩
abbrev S128 : Shape := ⟨1, ![128]⟩
abbrev S1x64 : Shape := ⟨2, ![1, 64]⟩
abbrev S1x128 : Shape := ⟨2, ![1, 128]⟩
abbrev S16384x2048 : Shape := ⟨2, ![16384, 2048]⟩
abbrev S256x128 : Shape := ⟨2, ![256, 128]⟩
abbrev S8192x128 : Shape := ⟨2, ![8192, 128]⟩
abbrev S512x128 : Shape := ⟨2, ![512, 128]⟩
abbrev S512x256 : Shape := ⟨2, ![512, 256]⟩
abbrev S512 : Shape := ⟨1, ![512]⟩
abbrev S512x1 : Shape := ⟨2, ![512, 1]⟩
abbrev S1 : Shape := ⟨1, ![1]⟩
abbrev S1x1 : Shape := ⟨2, ![1, 1]⟩
abbrev S256 : Shape := ⟨1, ![256]⟩
abbrev S256x1 : Shape := ⟨2, ![256, 1]⟩

abbrev nBuf : Space → Nat
  | .hbm => 12
  | .vmem => 17
  | .smem => 0
  | _ => 0

abbrev bufTy : (tb : Table) → Fin (tcTables nBuf tb) → BufTy
  | .hbm, ⟨0, _⟩ => ⟨S16384x6144, .bf16⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S128, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x64, .f32⟩
  | .hbm, ⟨10, _⟩ => ⟨S1x128, .f32⟩
  | .hbm, ⟨11, _⟩ => ⟨S16384x2048, .bf16⟩
  | .local _ .vmem, ⟨0, _⟩ => ⟨S256x128, .bf16⟩
  | .local _ .vmem, ⟨1, _⟩ => ⟨S256x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x128, .f32⟩
  | .local _ .vmem, ⟨11, _⟩ => ⟨S256x128, .bf16⟩
  | .local _ .vmem, ⟨12, _⟩ => ⟨S256x128, .bf16⟩
  | .local _ .vmem, ⟨13, _⟩ => ⟨S512x128, .bf16⟩
  | .local _ .vmem, ⟨14, _⟩ => ⟨S512x128, .f32⟩
  | .local _ .vmem, ⟨15, _⟩ => ⟨S512x128, .f32⟩
  | .local _ .vmem, ⟨16, _⟩ => ⟨S512x128, .f32⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨3, ![2, 16, 32], ![false, false, false]⟩

@[reducible] def k0_t1_loop (i : grid0.Coords) : Scf.Loop 32 :=
  let c0_i32_15 : BitVec 32 := 0#32
  let arg2 : BitVec 32 := BitVec.ofNat 32 (i 2).val
  let v29 : BitVec 32 := Scalar.subi arg2 c0_i32_15
  let c1_i32 : BitVec 32 := 1#32
  let v31 : BitVec 32 := Scalar.divsi v29 c1_i32
  let v32 : BitVec 32 := Scalar.muli v31 c1_i32
  let v33 : BitVec 32 := Scalar.addi c0_i32_15 v32
  let c1_i32_16 : BitVec 32 := 1#32
  ⟨c0_i32_15, v33, c1_i32_16⟩
def k0_mult1 (i : grid0.Coords) (k0_t1 : Fin (k0_t1_loop i).trips) : BitVec 32 :=
  let c0_i32_15 : BitVec 32 := 0#32
  let c1_i32_16 : BitVec 32 := 1#32
  let arg16 : BitVec 32 := Scf.iv c0_i32_15 c1_i32_16 k0_t1
  let c256_i32_62 : BitVec 32 := 256#32
  let v124 : BitVec 32 := Scalar.muli arg16 c256_i32_62
  v124
def k0_off1 (i : grid0.Coords) (k0_t1 : Fin (k0_t1_loop i).trips) : Fin 2 → Nat :=
  let c0_i32_15 : BitVec 32 := 0#32
  let c1_i32_16 : BitVec 32 := 1#32
  let arg16 : BitVec 32 := Scf.iv c0_i32_15 c1_i32_16 k0_t1
  let c256_i32_62 : BitVec 32 := 256#32
  let v124 : BitVec 32 := Scalar.muli arg16 c256_i32_62
  let v125 : BitVec 32 := v124
  let v126 : Index := Scalar.indexCast v125
  let c0_63 : Index := 0#32
  ![v126.toNat, 0]
@[reducible] def k0_t2_loop (i : grid0.Coords) : Scf.Loop 32 :=
  let c0_i32_15 : BitVec 32 := 0#32
  let arg2 : BitVec 32 := BitVec.ofNat 32 (i 2).val
  let v29 : BitVec 32 := Scalar.subi arg2 c0_i32_15
  let c1_i32 : BitVec 32 := 1#32
  let v31 : BitVec 32 := Scalar.divsi v29 c1_i32
  let v32 : BitVec 32 := Scalar.muli v31 c1_i32
  let v33 : BitVec 32 := Scalar.addi c0_i32_15 v32
  let v30 : BitVec 32 := Scalar.addi c0_i32_15 v29
  let c1_i32_17 : BitVec 32 := 1#32
  ⟨v33, v30, c1_i32_17⟩
def k0_mult2 (i : grid0.Coords) (k0_t2 : Fin (k0_t2_loop i).trips) : BitVec 32 :=
  let c0_i32_15 : BitVec 32 := 0#32
  let arg2 : BitVec 32 := BitVec.ofNat 32 (i 2).val
  let v29 : BitVec 32 := Scalar.subi arg2 c0_i32_15
  let c1_i32 : BitVec 32 := 1#32
  let v31 : BitVec 32 := Scalar.divsi v29 c1_i32
  let v32 : BitVec 32 := Scalar.muli v31 c1_i32
  let v33 : BitVec 32 := Scalar.addi c0_i32_15 v32
  let c1_i32_17 : BitVec 32 := 1#32
  let arg16 : BitVec 32 := Scf.iv v33 c1_i32_17 k0_t2
  let c256_i32_62 : BitVec 32 := 256#32
  let v124 : BitVec 32 := Scalar.muli arg16 c256_i32_62
  v124
def k0_off2 (i : grid0.Coords) (k0_t2 : Fin (k0_t2_loop i).trips) : Fin 2 → Nat :=
  let c0_i32_15 : BitVec 32 := 0#32
  let arg2 : BitVec 32 := BitVec.ofNat 32 (i 2).val
  let v29 : BitVec 32 := Scalar.subi arg2 c0_i32_15
  let c1_i32 : BitVec 32 := 1#32
  let v31 : BitVec 32 := Scalar.divsi v29 c1_i32
  let v32 : BitVec 32 := Scalar.muli v31 c1_i32
  let v33 : BitVec 32 := Scalar.addi c0_i32_15 v32
  let c1_i32_17 : BitVec 32 := 1#32
  let arg16 : BitVec 32 := Scf.iv v33 c1_i32_17 k0_t2
  let c256_i32_62 : BitVec 32 := 256#32
  let v124 : BitVec 32 := Scalar.muli arg16 c256_i32_62
  let v125 : BitVec 32 := v124
  let v126 : Index := Scalar.indexCast v125
  let c0_63 : Index := 0#32
  ![v126.toNat, 0]
def k0_mult3 (i : grid0.Coords) : BitVec 32 :=
  let arg2 : BitVec 32 := BitVec.ofNat 32 (i 2).val
  let c256_i32 : BitVec 32 := 256#32
  let v34 : BitVec 32 := Scalar.muli arg2 c256_i32
  v34
def k0_off3 (i : grid0.Coords) : Fin 2 → Nat :=
  let arg2 : BitVec 32 := BitVec.ofNat 32 (i 2).val
  let c256_i32 : BitVec 32 := 256#32
  let v34 : BitVec 32 := Scalar.muli arg2 c256_i32
  let v35 : BitVec 32 := v34
  let v36 : Index := Scalar.indexCast v35
  let c0_18 : Index := 0#32
  ![v36.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceIdeal.lean ====
abbrev S16384x6144 : Shape := ⟨2, ![16384, 6144]⟩
abbrev S64 : Shape := ⟨1, ![64]⟩
abbrev S128 : Shape := ⟨1, ![128]⟩
abbrev S16384x2048 : Shape := ⟨2, ![16384, 2048]⟩
abbrev S2x8192x16x2x64 : Shape := ⟨5, ![2, 8192, 16, 2, 64]⟩
abbrev S_ : Shape := ⟨0, ![]⟩
abbrev S2x8192x16x128 : Shape := ⟨4, ![2, 8192, 16, 128]⟩
abbrev S8192 : Shape := ⟨1, ![8192]⟩
abbrev S2x16x2x8192x8192 : Shape := ⟨5, ![2, 16, 2, 8192, 8192]⟩
abbrev S1x8192 : Shape := ⟨2, ![1, 8192]⟩
abbrev S8192x1 : Shape := ⟨2, ![8192, 1]⟩
abbrev S8192x8192 : Shape := ⟨2, ![8192, 8192]⟩
abbrev S2x16x2x8192 : Shape := ⟨4, ![2, 16, 2, 8192]⟩
abbrev S2x16x2x8192x1 : Shape := ⟨5, ![2, 16, 2, 8192, 1]⟩
abbrev S2x16x1x8192x8192 : Shape := ⟨5, ![2, 16, 1, 8192, 8192]⟩
abbrev S2x16x8192x8192 : Shape := ⟨4, ![2, 16, 8192, 8192]⟩
abbrev S2x16x128x8192 : Shape := ⟨4, ![2, 16, 128, 8192]⟩
abbrev S2x8192x16 : Shape := ⟨3, ![2, 8192, 16]⟩
abbrev S2x8192x16x1 : Shape := ⟨4, ![2, 8192, 16, 1]⟩
abbrev S1x1x1x128 : Shape := ⟨4, ![1, 1, 1, 128]⟩

abbrev nBuf : Space → Nat
  | .hbm => 83
  | .vmem => 0
  | .smem => 0
  | _ => 0

abbrev bufTy : (tb : Table) → Fin (tcTables nBuf tb) → BufTy
  | .hbm, ⟨0, _⟩ => ⟨S16384x6144, .bf16⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S128, .f32⟩
  | .hbm, ⟨6, _⟩ => ⟨S16384x6144, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S2x8192x16x2x64, .f32⟩
  | .hbm, ⟨11, _⟩ => ⟨S_, .f32⟩
  | .hbm, ⟨12, _⟩ => ⟨S2x8192x16x2x64, .f32⟩
  | .hbm, ⟨13, _⟩ => ⟨S2x8192x16x2x64, .f32⟩
  | .hbm, ⟨14, _⟩ => ⟨S2x8192x16x2x64, .f32⟩
  | .hbm, ⟨15, _⟩ => ⟨S2x8192x16x128, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S8192, .i32⟩
  | .hbm, ⟨28, _⟩ => ⟨S2x16x2x8192x8192, .f32⟩
  | .hbm, ⟨29, _⟩ => ⟨S1x8192, .i32⟩
  | .hbm, ⟨30, _⟩ => ⟨S8192x1, .i32⟩
  | .hbm, ⟨31, _⟩ => ⟨S8192x8192, .i32⟩
  | .hbm, ⟨32, _⟩ => ⟨S8192x8192, .i32⟩
  | .hbm, ⟨33, _⟩ => ⟨S8192x8192, .i1⟩
  | .hbm, ⟨34, _⟩ => ⟨S_, .f32⟩
  | .hbm, ⟨35, _⟩ => ⟨S_, .f32⟩
  | .hbm, ⟨36, _⟩ => ⟨S2x16x2x8192x8192, .i1⟩
  | .hbm, ⟨37, _⟩ => ⟨S2x16x2x8192x8192, .f32⟩
  | .hbm, ⟨38, _⟩ => ⟨S2x16x2x8192x8192, .f32⟩
  | .hbm, ⟨39, _⟩ => ⟨S_, .f32⟩
  | .hbm, ⟨40, _⟩ => ⟨S2x16x2x8192, .f32⟩
  | .hbm, ⟨41, _⟩ => ⟨S_, .f32⟩
  | .hbm, ⟨42, _⟩ => ⟨S2x16x2x8192, .f32⟩
  | .hbm, ⟨43, _⟩ => ⟨S2x16x2x8192, .f32⟩
  | .hbm, ⟨44, _⟩ => ⟨S2x16x2x8192x1, .f32⟩
  | .hbm, ⟨45, _⟩ => ⟨S2x16x2x8192x8192, .f32⟩
  | .hbm, ⟨46, _⟩ => ⟨S2x16x2x8192x8192, .f32⟩
  | .hbm, ⟨47, _⟩ => ⟨S2x16x2x8192x8192, .f32⟩
  | .hbm, ⟨48, _⟩ => ⟨S_, .f32⟩
  | .hbm, ⟨49, _⟩ => ⟨S2x16x2x8192, .f32⟩
  | .hbm, ⟨50, _⟩ => ⟨S2x16x2x8192x1, .f32⟩
  | .hbm, ⟨51, _⟩ => ⟨S2x16x2x8192x8192, .f32⟩
  | .hbm, ⟨52, _⟩ => ⟨S2x16x2x8192x8192, .f32⟩
  | .hbm, ⟨53, _⟩ => ⟨S2x16x1x8192x8192, .f32⟩
  | .hbm, ⟨54, _⟩ => ⟨S2x16x8192x8192, .f32⟩
  | .hbm, ⟨55, _⟩ => ⟨S2x16x1x8192x8192, .f32⟩
  | .hbm, ⟨56, _⟩ => ⟨S2x16x8192x8192, .f32⟩
  | .hbm, ⟨57, _⟩ => ⟨S2x16x8192x8192, .f32⟩
  | .hbm, ⟨58, _⟩ => ⟨S2x16x8192x8192, .f32⟩
  | .hbm, ⟨59, _⟩ => ⟨S2x16x8192x8192, .f32⟩
  | .hbm, ⟨60, _⟩ => ⟨S2x16x128x8192, .f32⟩
  | .hbm, ⟨61, _⟩ => ⟨S2x8192x16x128, .f32⟩
  | .hbm, ⟨62, _⟩ => ⟨S2x8192x16x128, .f32⟩
  | .hbm, ⟨63, _⟩ => ⟨S_, .f32⟩
  | .hbm, ⟨64, _⟩ => ⟨S2x8192x16, .f32⟩
  | .hbm, ⟨65, _⟩ => ⟨S2x8192x16x1, .f32⟩
  | .hbm, ⟨66, _⟩ => ⟨S_, .f32⟩
  | .hbm, ⟨67, _⟩ => ⟨S2x8192x16x1, .f32⟩
  | .hbm, ⟨68, _⟩ => ⟨S2x8192x16x1, .f32⟩
  | .hbm, ⟨69, _⟩ => ⟨S_, .f32⟩
  | .hbm, ⟨70, _⟩ => ⟨S2x8192x16x1, .f32⟩
  | .hbm, ⟨71, _⟩ => ⟨S2x8192x16x1, .f32⟩
  | .hbm, ⟨72, _⟩ => ⟨S2x8192x16x1, .f32⟩
  | .hbm, ⟨73, _⟩ => ⟨S2x8192x16x128, .f32⟩
  | .hbm, ⟨74, _⟩ => ⟨S2x8192x16x128, .f32⟩
  | .hbm, ⟨75, _⟩ => ⟨S1x1x1x128, .f32⟩
  | .hbm, ⟨76, _⟩ => ⟨S2x8192x16x128, .f32⟩
  | .hbm, ⟨77, _⟩ => ⟨S2x8192x16x128, .f32⟩
  | .hbm, ⟨78, _⟩ => ⟨S_, .f32⟩
  | .hbm, ⟨79, _⟩ => ⟨S2x8192x16x128, .f32⟩
  | .hbm, ⟨80, _⟩ => ⟨S2x8192x16x128, .f32⟩
  | .hbm, ⟨81, _⟩ => ⟨S16384x2048, .f32⟩
  | .hbm, ⟨82, _⟩ => ⟨S16384x2048, .bf16⟩
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]
-- ==== Kernel2.lean ====
abbrev S16384x2048 : Shape := ⟨2, ![16384, 2048]⟩
abbrev S2048x5632 : Shape := ⟨2, ![2048, 5632]⟩
abbrev S16384x5632 : Shape := ⟨2, ![16384, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2048x5632, .f32⟩
  | .hbm, ⟨2, _⟩ => ⟨S2048x5632, .f32⟩
  | .hbm, ⟨3, _⟩ => ⟨S2048x5632, .bf16⟩
  | .hbm, ⟨4, _⟩ => ⟨S2048x5632, .bf16⟩
  | .hbm, ⟨5, _⟩ => ⟨S16384x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .bf16⟩
  | .local _ .vmem, ⟨7, _⟩ => ⟨S1024x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S16384x2048 : Shape := ⟨2, ![16384, 2048]⟩
abbrev S2048x5632 : Shape := ⟨2, ![2048, 5632]⟩
abbrev S16384x5632 : Shape := ⟨2, ![16384, 5632]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x5632, .f32⟩
  | .hbm, ⟨2, _⟩ => ⟨S2048x5632, .f32⟩
  | .hbm, ⟨3, _⟩ => ⟨S16384x2048, .f32⟩
  | .hbm, ⟨4, _⟩ => ⟨S16384x5632, .f32⟩
  | .hbm, ⟨5, _⟩ => ⟨S16384x5632, .f32⟩
  | .hbm, ⟨6, _⟩ => ⟨S16384x5632, .f32⟩
  | .hbm, ⟨7, _⟩ => ⟨S_, .f32⟩
  | .hbm, ⟨8, _⟩ => ⟨S16384x5632, .f32⟩
  | .hbm, ⟨9, _⟩ => ⟨S16384x5632, .f32⟩
  | .hbm, ⟨10, _⟩ => ⟨S_, .f32⟩
  | .hbm, ⟨11, _⟩ => ⟨S16384x5632, .f32⟩
  | .hbm, ⟨12, _⟩ => ⟨S16384x5632, .f32⟩
  | .hbm, ⟨13, _⟩ => ⟨S16384x5632, .f32⟩
  | .hbm, ⟨14, _⟩ => ⟨S16384x5632, .f32⟩
  | .hbm, ⟨15, _⟩ => ⟨S16384x5632, .f32⟩
  | .hbm, ⟨16, _⟩ => ⟨S16384x5632, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel3.lean ====
abbrev S16384x5632 : Shape := ⟨2, ![16384, 5632]⟩
abbrev S5632x2048 : Shape := ⟨2, ![5632, 2048]⟩
abbrev S16384x2048 : Shape := ⟨2, ![16384, 2048]⟩
abbrev S2048 : Shape := ⟨1, ![2048]⟩
abbrev S1x2048 : Shape := ⟨2, ![1, 2048]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S16384x5632, .bf16⟩
  | .hbm, ⟨1, _⟩ => ⟨S5632x2048, .f32⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S5632x2048, .bf16⟩
  | .hbm, ⟨6, _⟩ => ⟨S1x2048, .f32⟩
  | .hbm, ⟨7, _⟩ => ⟨S1x2048, .f32⟩
  | .hbm, ⟨8, _⟩ => ⟨S16384x2048, .f32⟩
  | .hbm, ⟨9, _⟩ => ⟨S16384x2048, .bf16⟩
  | .local _ .vmem, ⟨0, _⟩ => ⟨S512x512, .bf16⟩
  | .local _ .vmem, ⟨1, _⟩ => ⟨S512x512, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S512x2048, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v12 : BitVec 1 := Scalar.cmpi .eq arg1 c10_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Kernel3Ideal.lean ====
abbrev S16384x5632 : Shape := ⟨2, ![16384, 5632]⟩
abbrev S5632x2048 : Shape := ⟨2, ![5632, 2048]⟩
abbrev S16384x2048 : Shape := ⟨2, ![16384, 2048]⟩
abbrev S2048 : Shape := ⟨1, ![2048]⟩
abbrev S1x2048 : Shape := ⟨2, ![1, 2048]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S16384x5632, .bf16⟩
  | .hbm, ⟨1, _⟩ => ⟨S5632x2048, .f32⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S5632x2048, .bf16⟩
  | .hbm, ⟨6, _⟩ => ⟨S1x2048, .f32⟩
  | .hbm, ⟨7, _⟩ => ⟨S1x2048, .f32⟩
  | .hbm, ⟨8, _⟩ => ⟨S16384x2048, .f32⟩
  | .hbm, ⟨9, _⟩ => ⟨S16384x2048, .bf16⟩
  | .local _ .vmem, ⟨0, _⟩ => ⟨S512x512, .bf16⟩
  | .local _ .vmem, ⟨1, _⟩ => ⟨S512x512, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S512x2048, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v12 : BitVec 1 := Scalar.cmpi .eq arg1 c10_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S16384x5632 : Shape := ⟨2, ![16384, 5632]⟩
abbrev S5632x2048 : Shape := ⟨2, ![5632, 2048]⟩
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S5632x2048, .f32⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S16384x5632, .f32⟩
  | .hbm, ⟨6, _⟩ => ⟨S16384x2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S1x2048, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1, .f32⟩
  | .hbm, ⟨35, _⟩ => ⟨S16384x2048, .f32⟩
  | .hbm, ⟨36, _⟩ => ⟨S16384x2048, .f32⟩
  | .hbm, ⟨37, _⟩ => ⟨S1x2048, .f32⟩
  | .hbm, ⟨38, _⟩ => ⟨S16384x2048, .f32⟩
  | .hbm, ⟨39, _⟩ => ⟨S16384x2048, .f32⟩
  | .hbm, ⟨40, _⟩ => ⟨S16384x2048, .bf16⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel4.lean ====
abbrev S16384x5632 : Shape := ⟨2, ![16384, 5632]⟩
abbrev S5632x2048 : Shape := ⟨2, ![5632, 2048]⟩
abbrev S16384x2048 : Shape := ⟨2, ![16384, 2048]⟩
abbrev S2048 : Shape := ⟨1, ![2048]⟩
abbrev S1x2048 : Shape := ⟨2, ![1, 2048]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 11
  | .smem => 0
  | _ => 0

abbrev bufTy : (tb : Table) → Fin (tcTables nBuf tb) → BufTy
  | .hbm, ⟨0, _⟩ => ⟨S16384x5632, .bf16⟩
  | .hbm, ⟨1, _⟩ => ⟨S5632x2048, .f32⟩
  | .hbm, ⟨2, _⟩ => ⟨S16384x2048, .f32⟩
  | .hbm, ⟨3, _⟩ => ⟨S2048, .f32⟩
  | .hbm, ⟨4, _⟩ => ⟨S5632x2048, .bf16⟩
  | .hbm, ⟨5, _⟩ => ⟨S1x2048, .f32⟩
  | .hbm, ⟨6, _⟩ => ⟨S1x2048, .f32⟩
  | .hbm, ⟨7, _⟩ => ⟨S16384x2048, .f32⟩
  | .local _ .vmem, ⟨0, _⟩ => ⟨S512x512, .bf16⟩
  | .local _ .vmem, ⟨1, _⟩ => ⟨S512x512, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v12 : BitVec 1 := Scalar.cmpi .eq arg1 c10_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference4Ideal.lean ====
abbrev S16384x5632 : Shape := ⟨2, ![16384, 5632]⟩
abbrev S5632x2048 : Shape := ⟨2, ![5632, 2048]⟩
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S5632x2048, .f32⟩
  | .hbm, ⟨2, _⟩ => ⟨S16384x2048, .f32⟩
  | .hbm, ⟨3, _⟩ => ⟨S2048, .f32⟩
  | .hbm, ⟨4, _⟩ => ⟨S16384x5632, .f32⟩
  | .hbm, ⟨5, _⟩ => ⟨S16384x2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S16384x2048, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel5.lean ====
abbrev S16384x2048 : Shape := ⟨2, ![16384, 2048]⟩
abbrev S2048x10304 : Shape := ⟨2, ![2048, 10304]⟩
abbrev S2048x10240 : Shape := ⟨2, ![2048, 10240]⟩
abbrev S16384x10240 : Shape := ⟨2, ![16384, 10240]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x10304, .f32⟩
  | .hbm, ⟨2, _⟩ => ⟨S2048x10240, .f32⟩
  | .hbm, ⟨3, _⟩ => ⟨S2048x10240, .bf16⟩
  | .hbm, ⟨4, _⟩ => ⟨S16384x10240, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S16384x2048 : Shape := ⟨2, ![16384, 2048]⟩
abbrev S2048x10304 : Shape := ⟨2, ![2048, 10304]⟩
abbrev S16384x10304 : Shape := ⟨2, ![16384, 10304]⟩
abbrev S16384x10240 : Shape := ⟨2, ![16384, 10240]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x10304, .f32⟩
  | .hbm, ⟨2, _⟩ => ⟨S16384x2048, .f32⟩
  | .hbm, ⟨3, _⟩ => ⟨S16384x10304, .f32⟩
  | .hbm, ⟨4, _⟩ => ⟨S16384x10240, .f32⟩
  | .hbm, ⟨5, _⟩ => ⟨S16384x10240, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel6.lean ====
abbrev S16384x2048 : Shape := ⟨2, ![16384, 2048]⟩
abbrev S2048x10304 : Shape := ⟨2, ![2048, 10304]⟩
abbrev S2048x64 : Shape := ⟨2, ![2048, 64]⟩
abbrev S_ : Shape := ⟨0, ![]⟩
abbrev S2048x128 : Shape := ⟨2, ![2048, 128]⟩
abbrev S16384x128 : Shape := ⟨2, ![16384, 128]⟩
abbrev S1024x2048 : Shape := ⟨2, ![1024, 2048]⟩
abbrev S1024x128 : Shape := ⟨2, ![1024, 128]⟩

abbrev nBuf : Space → Nat
  | .hbm => 8
  | .vmem => 5
  | .smem => 0
  | _ => 0

abbrev bufTy : (tb : Table) → Fin (tcTables nBuf tb) → BufTy
  | .hbm, ⟨0, _⟩ => ⟨S16384x2048, .bf16⟩
  | .hbm, ⟨1, _⟩ => ⟨S2048x10304, .f32⟩
  | .hbm, ⟨2, _⟩ => ⟨S2048x64, .f32⟩
  | .hbm, ⟨3, _⟩ => ⟨S_, .i32⟩
  | .hbm, ⟨4, _⟩ => ⟨S_, .f32⟩
  | .hbm, ⟨5, _⟩ => ⟨S2048x128, .f32⟩
  | .hbm, ⟨6, _⟩ => ⟨S2048x128, .bf16⟩
  | .hbm, ⟨7, _⟩ => ⟨S16384x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S16384x2048 : Shape := ⟨2, ![16384, 2048]⟩
abbrev S2048x10304 : Shape := ⟨2, ![2048, 10304]⟩
abbrev S16384x10304 : Shape := ⟨2, ![16384, 10304]⟩
abbrev S16384x64 : Shape := ⟨2, ![16384, 64]⟩
abbrev S_ : Shape := ⟨0, ![]⟩
abbrev S16384x128 : Shape := ⟨2, ![16384, 128]⟩

abbrev nBuf : Space → Nat
  | .hbm => 8
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x10304, .f32⟩
  | .hbm, ⟨2, _⟩ => ⟨S16384x2048, .f32⟩
  | .hbm, ⟨3, _⟩ => ⟨S16384x10304, .f32⟩
  | .hbm, ⟨4, _⟩ => ⟨S16384x64, .f32⟩
  | .hbm, ⟨5, _⟩ => ⟨S_, .f32⟩
  | .hbm, ⟨6, _⟩ => ⟨S16384x64, .f32⟩
  | .hbm, ⟨7, _⟩ => ⟨S16384x128, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S16384x2048 : Shape := ⟨2, ![16384, 2048]⟩
abbrev S2048x6144 : Shape := ⟨2, ![2048, 6144]⟩
abbrev S16384x6144 : Shape := ⟨2, ![16384, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x6144, .f32⟩
  | .hbm, ⟨2, _⟩ => ⟨S2048x6144, .bf16⟩
  | .hbm, ⟨3, _⟩ => ⟨S16384x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S16384x2048 : Shape := ⟨2, ![16384, 2048]⟩
abbrev S2048x6144 : Shape := ⟨2, ![2048, 6144]⟩
abbrev S16384x6144 : Shape := ⟨2, ![16384, 6144]⟩

abbrev nBuf : Space → Nat
  | .hbm => 5
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x6144, .f32⟩
  | .hbm, ⟨2, _⟩ => ⟨S16384x2048, .f32⟩
  | .hbm, ⟨3, _⟩ => ⟨S16384x6144, .f32⟩
  | .hbm, ⟨4, _⟩ => ⟨S16384x6144, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S16384x4096 : Shape := ⟨2, ![16384, 4096]⟩
abbrev S4096x2048 : Shape := ⟨2, ![4096, 2048]⟩
abbrev S16384x2048 : Shape := ⟨2, ![16384, 2048]⟩
abbrev S2048 : Shape := ⟨1, ![2048]⟩
abbrev S1x2048 : Shape := ⟨2, ![1, 2048]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .f32⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S4096x2048, .bf16⟩
  | .hbm, ⟨6, _⟩ => ⟨S1x2048, .f32⟩
  | .hbm, ⟨7, _⟩ => ⟨S1x2048, .f32⟩
  | .hbm, ⟨8, _⟩ => ⟨S16384x2048, .f32⟩
  | .hbm, ⟨9, _⟩ => ⟨S16384x2048, .bf16⟩
  | .local _ .vmem, ⟨0, _⟩ => ⟨S512x512, .bf16⟩
  | .local _ .vmem, ⟨1, _⟩ => ⟨S512x512, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S512x2048, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Kernel8Ideal.lean ====
abbrev S16384x4096 : Shape := ⟨2, ![16384, 4096]⟩
abbrev S4096x2048 : Shape := ⟨2, ![4096, 2048]⟩
abbrev S16384x2048 : Shape := ⟨2, ![16384, 2048]⟩
abbrev S2048 : Shape := ⟨1, ![2048]⟩
abbrev S1x2048 : Shape := ⟨2, ![1, 2048]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .f32⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S4096x2048, .bf16⟩
  | .hbm, ⟨6, _⟩ => ⟨S1x2048, .f32⟩
  | .hbm, ⟨7, _⟩ => ⟨S1x2048, .f32⟩
  | .hbm, ⟨8, _⟩ => ⟨S16384x2048, .f32⟩
  | .hbm, ⟨9, _⟩ => ⟨S16384x2048, .bf16⟩
  | .local _ .vmem, ⟨0, _⟩ => ⟨S512x512, .bf16⟩
  | .local _ .vmem, ⟨1, _⟩ => ⟨S512x512, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S512x2048, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference8Ideal.lean ====
abbrev S16384x4096 : Shape := ⟨2, ![16384, 4096]⟩
abbrev S4096x2048 : Shape := ⟨2, ![4096, 2048]⟩
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .f32⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S16384x4096, .f32⟩
  | .hbm, ⟨6, _⟩ => ⟨S16384x2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S1x2048, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1, .f32⟩
  | .hbm, ⟨35, _⟩ => ⟨S16384x2048, .f32⟩
  | .hbm, ⟨36, _⟩ => ⟨S16384x2048, .f32⟩
  | .hbm, ⟨37, _⟩ => ⟨S1x2048, .f32⟩
  | .hbm, ⟨38, _⟩ => ⟨S16384x2048, .f32⟩
  | .hbm, ⟨39, _⟩ => ⟨S16384x2048, .f32⟩
  | .hbm, ⟨40, _⟩ => ⟨S16384x2048, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel9.lean ====
abbrev S16384x2048 : Shape := ⟨2, ![16384, 2048]⟩
abbrev S2048x2048 : Shape := ⟨2, ![2048, 2048]⟩
abbrev S2048 : Shape := ⟨1, ![2048]⟩
abbrev S1x2048 : Shape := ⟨2, ![1, 2048]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S2048x2048, .bf16⟩
  | .hbm, ⟨6, _⟩ => ⟨S1x2048, .f32⟩
  | .hbm, ⟨7, _⟩ => ⟨S1x2048, .f32⟩
  | .hbm, ⟨8, _⟩ => ⟨S16384x2048, .f32⟩
  | .hbm, ⟨9, _⟩ => ⟨S16384x2048, .bf16⟩
  | .local _ .vmem, ⟨0, _⟩ => ⟨S512x512, .bf16⟩
  | .local _ .vmem, ⟨1, _⟩ => ⟨S512x512, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference9Ideal.lean ====
abbrev S16384x2048 : Shape := ⟨2, ![16384, 2048]⟩
abbrev S2048x2048 : Shape := ⟨2, ![2048, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S16384x2048, .f32⟩
  | .hbm, ⟨6, _⟩ => ⟨S16384x2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S1x2048, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1, .f32⟩
  | .hbm, ⟨35, _⟩ => ⟨S16384x2048, .f32⟩
  | .hbm, ⟨36, _⟩ => ⟨S16384x2048, .f32⟩
  | .hbm, ⟨37, _⟩ => ⟨S1x2048, .f32⟩
  | .hbm, ⟨38, _⟩ => ⟨S16384x2048, .f32⟩
  | .hbm, ⟨39, _⟩ => ⟨S16384x2048, .f32⟩
  | .hbm, ⟨40, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel10.lean ====
abbrev S2x8192x2048 : Shape := ⟨3, ![2, 8192, 2048]⟩
abbrev S2048 : Shape := ⟨1, ![2048]⟩
abbrev S16384x2048 : Shape := ⟨2, ![16384, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S16384x2048, .f32⟩
  | .hbm, ⟨3, _⟩ => ⟨S1x2048, .f32⟩
  | .hbm, ⟨4, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S2x8192x2048 : Shape := ⟨3, ![2, 8192, 2048]⟩
abbrev S2048 : Shape := ⟨1, ![2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S16384x2048 : Shape := ⟨2, ![16384, 2048]⟩

abbrev nBuf : Space → Nat
  | .hbm => 20
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2x8192x2048, .f32⟩
  | .hbm, ⟨3, _⟩ => ⟨S_, .f32⟩
  | .hbm, ⟨4, _⟩ => ⟨S2x8192, .f32⟩
  | .hbm, ⟨5, _⟩ => ⟨S2x8192x1, .f32⟩
  | .hbm, ⟨6, _⟩ => ⟨S_, .f32⟩
  | .hbm, ⟨7, _⟩ => ⟨S2x8192x1, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S2x8192x1, .f32⟩
  | .hbm, ⟨13, _⟩ => ⟨S2x8192x2048, .f32⟩
  | .hbm, ⟨14, _⟩ => ⟨S2x8192x2048, .f32⟩
  | .hbm, ⟨15, _⟩ => ⟨S1x1x2048, .f32⟩
  | .hbm, ⟨16, _⟩ => ⟨S2x8192x2048, .f32⟩
  | .hbm, ⟨17, _⟩ => ⟨S2x8192x2048, .f32⟩
  | .hbm, ⟨18, _⟩ => ⟨S16384x2048, .f32⟩
  | .hbm, ⟨19, _⟩ => ⟨S16384x2048, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel11.lean ====
abbrev S16384x6144 : Shape := ⟨2, ![16384, 6144]⟩
abbrev S64 : Shape := ⟨1, ![64]⟩
abbrev S128 : Shape := ⟨1, ![128]⟩
abbrev S1x64 : Shape := ⟨2, ![1, 64]⟩
abbrev S1x128 : Shape := ⟨2, ![1, 128]⟩
abbrev S16384x2048 : Shape := ⟨2, ![16384, 2048]⟩
abbrev S256x128 : Shape := ⟨2, ![256, 128]⟩
abbrev S8192x128 : Shape := ⟨2, ![8192, 128]⟩
abbrev S512x128 : Shape := ⟨2, ![512, 128]⟩
abbrev S512x256 : Shape := ⟨2, ![512, 256]⟩
abbrev S512 : Shape := ⟨1, ![512]⟩
abbrev S512x1 : Shape := ⟨2, ![512, 1]⟩
abbrev S1 : Shape := ⟨1, ![1]⟩
abbrev S1x1 : Shape := ⟨2, ![1, 1]⟩
abbrev S256 : Shape := ⟨1, ![256]⟩
abbrev S256x1 : Shape := ⟨2, ![256, 1]⟩

abbrev nBuf : Space → Nat
  | .hbm => 12
  | .vmem => 17
  | .smem => 0
  | _ => 0

abbrev bufTy : (tb : Table) → Fin (tcTables nBuf tb) → BufTy
  | .hbm, ⟨0, _⟩ => ⟨S16384x6144, .bf16⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S128, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x64, .f32⟩
  | .hbm, ⟨10, _⟩ => ⟨S1x128, .f32⟩
  | .hbm, ⟨11, _⟩ => ⟨S16384x2048, .bf16⟩
  | .local _ .vmem, ⟨0, _⟩ => ⟨S256x128, .bf16⟩
  | .local _ .vmem, ⟨1, _⟩ => ⟨S256x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x128, .f32⟩
  | .local _ .vmem, ⟨11, _⟩ => ⟨S256x128, .bf16⟩
  | .local _ .vmem, ⟨12, _⟩ => ⟨S256x128, .bf16⟩
  | .local _ .vmem, ⟨13, _⟩ => ⟨S512x128, .bf16⟩
  | .local _ .vmem, ⟨14, _⟩ => ⟨S512x128, .f32⟩
  | .local _ .vmem, ⟨15, _⟩ => ⟨S512x128, .f32⟩
  | .local _ .vmem, ⟨16, _⟩ => ⟨S512x128, .f32⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨3, ![2, 16, 32], ![false, false, false]⟩

@[reducible] def k0_t1_loop (i : grid0.Coords) : Scf.Loop 32 :=
  let c0_i32_15 : BitVec 32 := 0#32
  let arg2 : BitVec 32 := BitVec.ofNat 32 (i 2).val
  let v29 : BitVec 32 := Scalar.subi arg2 c0_i32_15
  let c1_i32 : BitVec 32 := 1#32
  let v31 : BitVec 32 := Scalar.divsi v29 c1_i32
  let v32 : BitVec 32 := Scalar.muli v31 c1_i32
  let v33 : BitVec 32 := Scalar.addi c0_i32_15 v32
  let c1_i32_16 : BitVec 32 := 1#32
  ⟨c0_i32_15, v33, c1_i32_16⟩
def k0_mult1 (i : grid0.Coords) (k0_t1 : Fin (k0_t1_loop i).trips) : BitVec 32 :=
  let c0_i32_15 : BitVec 32 := 0#32
  let c1_i32_16 : BitVec 32 := 1#32
  let arg16 : BitVec 32 := Scf.iv c0_i32_15 c1_i32_16 k0_t1
  let c256_i32_62 : BitVec 32 := 256#32
  let v124 : BitVec 32 := Scalar.muli arg16 c256_i32_62
  v124
def k0_off1 (i : grid0.Coords) (k0_t1 : Fin (k0_t1_loop i).trips) : Fin 2 → Nat :=
  let c0_i32_15 : BitVec 32 := 0#32
  let c1_i32_16 : BitVec 32 := 1#32
  let arg16 : BitVec 32 := Scf.iv c0_i32_15 c1_i32_16 k0_t1
  let c256_i32_62 : BitVec 32 := 256#32
  let v124 : BitVec 32 := Scalar.muli arg16 c256_i32_62
  let v125 : BitVec 32 := v124
  let v126 : Index := Scalar.indexCast v125
  let c0_63 : Index := 0#32
  ![v126.toNat, 0]
@[reducible] def k0_t2_loop (i : grid0.Coords) : Scf.Loop 32 :=
  let c0_i32_15 : BitVec 32 := 0#32
  let arg2 : BitVec 32 := BitVec.ofNat 32 (i 2).val
  let v29 : BitVec 32 := Scalar.subi arg2 c0_i32_15
  let c1_i32 : BitVec 32 := 1#32
  let v31 : BitVec 32 := Scalar.divsi v29 c1_i32
  let v32 : BitVec 32 := Scalar.muli v31 c1_i32
  let v33 : BitVec 32 := Scalar.addi c0_i32_15 v32
  let v30 : BitVec 32 := Scalar.addi c0_i32_15 v29
  let c1_i32_17 : BitVec 32 := 1#32
  ⟨v33, v30, c1_i32_17⟩
def k0_mult2 (i : grid0.Coords) (k0_t2 : Fin (k0_t2_loop i).trips) : BitVec 32 :=
  let c0_i32_15 : BitVec 32 := 0#32
  let arg2 : BitVec 32 := BitVec.ofNat 32 (i 2).val
  let v29 : BitVec 32 := Scalar.subi arg2 c0_i32_15
  let c1_i32 : BitVec 32 := 1#32
  let v31 : BitVec 32 := Scalar.divsi v29 c1_i32
  let v32 : BitVec 32 := Scalar.muli v31 c1_i32
  let v33 : BitVec 32 := Scalar.addi c0_i32_15 v32
  let c1_i32_17 : BitVec 32 := 1#32
  let arg16 : BitVec 32 := Scf.iv v33 c1_i32_17 k0_t2
  let c256_i32_62 : BitVec 32 := 256#32
  let v124 : BitVec 32 := Scalar.muli arg16 c256_i32_62
  v124
def k0_off2 (i : grid0.Coords) (k0_t2 : Fin (k0_t2_loop i).trips) : Fin 2 → Nat :=
  let c0_i32_15 : BitVec 32 := 0#32
  let arg2 : BitVec 32 := BitVec.ofNat 32 (i 2).val
  let v29 : BitVec 32 := Scalar.subi arg2 c0_i32_15
  let c1_i32 : BitVec 32 := 1#32
  let v31 : BitVec 32 := Scalar.divsi v29 c1_i32
  let v32 : BitVec 32 := Scalar.muli v31 c1_i32
  let v33 : BitVec 32 := Scalar.addi c0_i32_15 v32
  let c1_i32_17 : BitVec 32 := 1#32
  let arg16 : BitVec 32 := Scf.iv v33 c1_i32_17 k0_t2
  let c256_i32_62 : BitVec 32 := 256#32
  let v124 : BitVec 32 := Scalar.muli arg16 c256_i32_62
  let v125 : BitVec 32 := v124
  let v126 : Index := Scalar.indexCast v125
  let c0_63 : Index := 0#32
  ![v126.toNat, 0]
def k0_mult3 (i : grid0.Coords) : BitVec 32 :=
  let arg2 : BitVec 32 := BitVec.ofNat 32 (i 2).val
  let c256_i32 : BitVec 32 := 256#32
  let v34 : BitVec 32 := Scalar.muli arg2 c256_i32
  v34
def k0_off3 (i : grid0.Coords) : Fin 2 → Nat :=
  let arg2 : BitVec 32 := BitVec.ofNat 32 (i 2).val
  let c256_i32 : BitVec 32 := 256#32
  let v34 : BitVec 32 := Scalar.muli arg2 c256_i32
  let v35 : BitVec 32 := v34
  let v36 : Index := Scalar.indexCast v35
  let c0_18 : Index := 0#32
  ![v36.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference11Ideal.lean ====
abbrev S16384x6144 : Shape := ⟨2, ![16384, 6144]⟩
abbrev S64 : Shape := ⟨1, ![64]⟩
abbrev S128 : Shape := ⟨1, ![128]⟩
abbrev S16384x2048 : Shape := ⟨2, ![16384, 2048]⟩
abbrev S2x8192x16x2x64 : Shape := ⟨5, ![2, 8192, 16, 2, 64]⟩
abbrev S_ : Shape := ⟨0, ![]⟩
abbrev S2x8192x16x128 : Shape := ⟨4, ![2, 8192, 16, 128]⟩
abbrev S8192 : Shape := ⟨1, ![8192]⟩
abbrev S2x16x2x8192x8192 : Shape := ⟨5, ![2, 16, 2, 8192, 8192]⟩
abbrev S1x8192 : Shape := ⟨2, ![1, 8192]⟩
abbrev S8192x1 : Shape := ⟨2, ![8192, 1]⟩
abbrev S8192x8192 : Shape := ⟨2, ![8192, 8192]⟩
abbrev S2x16x2x8192 : Shape := ⟨4, ![2, 16, 2, 8192]⟩
abbrev S2x16x2x8192x1 : Shape := ⟨5, ![2, 16, 2, 8192, 1]⟩
abbrev S2x16x1x8192x8192 : Shape := ⟨5, ![2, 16, 1, 8192, 8192]⟩
abbrev S2x16x8192x8192 : Shape := ⟨4, ![2, 16, 8192, 8192]⟩
abbrev S2x16x128x8192 : Shape := ⟨4, ![2, 16, 128, 8192]⟩
abbrev S2x8192x16 : Shape := ⟨3, ![2, 8192, 16]⟩
abbrev S2x8192x16x1 : Shape := ⟨4, ![2, 8192, 16, 1]⟩
abbrev S1x1x1x128 : Shape := ⟨4, ![1, 1, 1, 128]⟩

abbrev nBuf : Space → Nat
  | .hbm => 83
  | .vmem => 0
  | .smem => 0
  | _ => 0

abbrev bufTy : (tb : Table) → Fin (tcTables nBuf tb) → BufTy
  | .hbm, ⟨0, _⟩ => ⟨S16384x6144, .bf16⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S128, .f32⟩
  | .hbm, ⟨6, _⟩ => ⟨S16384x6144, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S2x8192x16x2x64, .f32⟩
  | .hbm, ⟨11, _⟩ => ⟨S_, .f32⟩
  | .hbm, ⟨12, _⟩ => ⟨S2x8192x16x2x64, .f32⟩
  | .hbm, ⟨13, _⟩ => ⟨S2x8192x16x2x64, .f32⟩
  | .hbm, ⟨14, _⟩ => ⟨S2x8192x16x2x64, .f32⟩
  | .hbm, ⟨15, _⟩ => ⟨S2x8192x16x128, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S8192, .i32⟩
  | .hbm, ⟨28, _⟩ => ⟨S2x16x2x8192x8192, .f32⟩
  | .hbm, ⟨29, _⟩ => ⟨S1x8192, .i32⟩
  | .hbm, ⟨30, _⟩ => ⟨S8192x1, .i32⟩
  | .hbm, ⟨31, _⟩ => ⟨S8192x8192, .i32⟩
  | .hbm, ⟨32, _⟩ => ⟨S8192x8192, .i32⟩
  | .hbm, ⟨33, _⟩ => ⟨S8192x8192, .i1⟩
  | .hbm, ⟨34, _⟩ => ⟨S_, .f32⟩
  | .hbm, ⟨35, _⟩ => ⟨S_, .f32⟩
  | .hbm, ⟨36, _⟩ => ⟨S2x16x2x8192x8192, .i1⟩
  | .hbm, ⟨37, _⟩ => ⟨S2x16x2x8192x8192, .f32⟩
  | .hbm, ⟨38, _⟩ => ⟨S2x16x2x8192x8192, .f32⟩
  | .hbm, ⟨39, _⟩ => ⟨S_, .f32⟩
  | .hbm, ⟨40, _⟩ => ⟨S2x16x2x8192, .f32⟩
  | .hbm, ⟨41, _⟩ => ⟨S_, .f32⟩
  | .hbm, ⟨42, _⟩ => ⟨S2x16x2x8192, .f32⟩
  | .hbm, ⟨43, _⟩ => ⟨S2x16x2x8192, .f32⟩
  | .hbm, ⟨44, _⟩ => ⟨S2x16x2x8192x1, .f32⟩
  | .hbm, ⟨45, _⟩ => ⟨S2x16x2x8192x8192, .f32⟩
  | .hbm, ⟨46, _⟩ => ⟨S2x16x2x8192x8192, .f32⟩
  | .hbm, ⟨47, _⟩ => ⟨S2x16x2x8192x8192, .f32⟩
  | .hbm, ⟨48, _⟩ => ⟨S_, .f32⟩
  | .hbm, ⟨49, _⟩ => ⟨S2x16x2x8192, .f32⟩
  | .hbm, ⟨50, _⟩ => ⟨S2x16x2x8192x1, .f32⟩
  | .hbm, ⟨51, _⟩ => ⟨S2x16x2x8192x8192, .f32⟩
  | .hbm, ⟨52, _⟩ => ⟨S2x16x2x8192x8192, .f32⟩
  | .hbm, ⟨53, _⟩ => ⟨S2x16x1x8192x8192, .f32⟩
  | .hbm, ⟨54, _⟩ => ⟨S2x16x8192x8192, .f32⟩
  | .hbm, ⟨55, _⟩ => ⟨S2x16x1x8192x8192, .f32⟩
  | .hbm, ⟨56, _⟩ => ⟨S2x16x8192x8192, .f32⟩
  | .hbm, ⟨57, _⟩ => ⟨S2x16x8192x8192, .f32⟩
  | .hbm, ⟨58, _⟩ => ⟨S2x16x8192x8192, .f32⟩
  | .hbm, ⟨59, _⟩ => ⟨S2x16x8192x8192, .f32⟩
  | .hbm, ⟨60, _⟩ => ⟨S2x16x128x8192, .f32⟩
  | .hbm, ⟨61, _⟩ => ⟨S2x8192x16x128, .f32⟩
  | .hbm, ⟨62, _⟩ => ⟨S2x8192x16x128, .f32⟩
  | .hbm, ⟨63, _⟩ => ⟨S_, .f32⟩
  | .hbm, ⟨64, _⟩ => ⟨S2x8192x16, .f32⟩
  | .hbm, ⟨65, _⟩ => ⟨S2x8192x16x1, .f32⟩
  | .hbm, ⟨66, _⟩ => ⟨S_, .f32⟩
  | .hbm, ⟨67, _⟩ => ⟨S2x8192x16x1, .f32⟩
  | .hbm, ⟨68, _⟩ => ⟨S2x8192x16x1, .f32⟩
  | .hbm, ⟨69, _⟩ => ⟨S_, .f32⟩
  | .hbm, ⟨70, _⟩ => ⟨S2x8192x16x1, .f32⟩
  | .hbm, ⟨71, _⟩ => ⟨S2x8192x16x1, .f32⟩
  | .hbm, ⟨72, _⟩ => ⟨S2x8192x16x1, .f32⟩
  | .hbm, ⟨73, _⟩ => ⟨S2x8192x16x128, .f32⟩
  | .hbm, ⟨74, _⟩ => ⟨S2x8192x16x128, .f32⟩
  | .hbm, ⟨75, _⟩ => ⟨S1x1x1x128, .f32⟩
  | .hbm, ⟨76, _⟩ => ⟨S2x8192x16x128, .f32⟩
  | .hbm, ⟨77, _⟩ => ⟨S2x8192x16x128, .f32⟩
  | .hbm, ⟨78, _⟩ => ⟨S_, .f32⟩
  | .hbm, ⟨79, _⟩ => ⟨S2x8192x16x128, .f32⟩
  | .hbm, ⟨80, _⟩ => ⟨S2x8192x16x128, .f32⟩
  | .hbm, ⟨81, _⟩ => ⟨S16384x2048, .f32⟩
  | .hbm, ⟨82, _⟩ => ⟨S16384x2048, .bf16⟩
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]
-- ==== Kernel12.lean ====
abbrev S16384x10240 : Shape := ⟨2, ![16384, 10240]⟩
abbrev S16384x128 : Shape := ⟨2, ![16384, 128]⟩
abbrev S4x6144 : Shape := ⟨2, ![4, 6144]⟩
abbrev S6144 : Shape := ⟨1, ![6144]⟩
abbrev S64 : Shape := ⟨1, ![64]⟩
abbrev S4096 : Shape := ⟨1, ![4096]⟩
abbrev S4x4096 : Shape := ⟨2, ![4, 4096]⟩
abbrev S4x2048 : Shape := ⟨2, ![4, 2048]⟩
abbrev S1x4096 : Shape := ⟨2, ![1, 4096]⟩
abbrev S2048 : Shape := ⟨1, ![2048]⟩
abbrev S1x2048 : Shape := ⟨2, ![1, 2048]⟩
abbrev S_ : Shape := ⟨0, ![]⟩
abbrev S128 : Shape := ⟨1, ![128]⟩
abbrev S1x128 : Shape := ⟨2, ![1, 128]⟩
abbrev S64x64 : Shape := ⟨2, ![64, 64]⟩
abbrev S128x1 : Shape := ⟨2, ![128, 1]⟩
abbrev S128x4096 : Shape := ⟨2, ![128, 4096]⟩
abbrev S16384x4096 : Shape := ⟨2, ![16384, 4096]⟩
abbrev S128x2048 : Shape := ⟨2, ![128, 2048]⟩
abbrev S128x128 : Shape := ⟨2, ![128, 128]⟩
abbrev S136x4096 : Shape := ⟨2, ![136, 4096]⟩
abbrev S136x2048 : Shape := ⟨2, ![136, 2048]⟩
abbrev S8x4096 : Shape := ⟨2, ![8, 4096]⟩
abbrev S8x2048 : Shape := ⟨2, ![8, 2048]⟩
abbrev S384x128 : Shape := ⟨2, ![384, 128]⟩
abbrev S384x4096 : Shape := ⟨2, ![384, 4096]⟩
abbrev S6x128 : Shape := ⟨2, ![6, 128]⟩
abbrev S8x128 : Shape := ⟨2, ![8, 128]⟩
abbrev S1x512 : Shape := ⟨2, ![1, 512]⟩
abbrev S128x512 : Shape := ⟨2, ![128, 512]⟩
abbrev S128x256 : Shape := ⟨2, ![128, 256]⟩
abbrev S256x128 : Shape := ⟨2, ![256, 128]⟩

abbrev nBuf : Space → Nat
  | .hbm => 53
  | .vmem => 22
  | .smem => 0
  | _ => 0

abbrev bufTy : (tb : Table) → Fin (tcTables nBuf tb) → BufTy
  | .hbm, ⟨0, _⟩ => ⟨S16384x10240, .bf16⟩
  | .hbm, ⟨1, _⟩ => ⟨S16384x128, .f32⟩
  | .hbm, ⟨2, _⟩ => ⟨S4x6144, .f32⟩
  | .hbm, ⟨3, _⟩ => ⟨S6144, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S4096, .f32⟩
  | .hbm, ⟨8, _⟩ => ⟨S4x4096, .f32⟩
  | .hbm, ⟨9, _⟩ => ⟨S4x2048, .f32⟩
  | .hbm, ⟨10, _⟩ => ⟨S4096, .f32⟩
  | .hbm, ⟨11, _⟩ => ⟨S1x4096, .f32⟩
  | .hbm, ⟨12, _⟩ => ⟨S2048, .f32⟩
  | .hbm, ⟨13, _⟩ => ⟨S1x2048, .f32⟩
  | .hbm, ⟨14, _⟩ => ⟨S_, .i32⟩
  | .hbm, ⟨15, _⟩ => ⟨S_, .f32⟩
  | .hbm, ⟨16, _⟩ => ⟨S128, .f32⟩
  | .hbm, ⟨17, _⟩ => ⟨S1x128, .f32⟩
  | .hbm, ⟨18, _⟩ => ⟨S_, .i32⟩
  | .hbm, ⟨19, _⟩ => ⟨S_, .f32⟩
  | .hbm, ⟨20, _⟩ => ⟨S128, .f32⟩
  | .hbm, ⟨21, _⟩ => ⟨S1x128, .f32⟩
  | .hbm, ⟨22, _⟩ => ⟨S64x64, .f32⟩
  | .hbm, ⟨23, _⟩ => ⟨S4096, .f32⟩
  | .hbm, ⟨24, _⟩ => ⟨S1x4096, .f32⟩
  | .hbm, ⟨25, _⟩ => ⟨S1x4096, .f32⟩
  | .hbm, ⟨26, _⟩ => ⟨S4096, .i32⟩
  | .hbm, ⟨27, _⟩ => ⟨S1x4096, .i32⟩
  | .hbm, ⟨28, _⟩ => ⟨S_, .i32⟩
  | .hbm, ⟨29, _⟩ => ⟨S_, .i32⟩
  | .hbm, ⟨30, _⟩ => ⟨S1x4096, .i32⟩
  | .hbm, ⟨31, _⟩ => ⟨S1x4096, .i32⟩
  | .hbm, ⟨32, _⟩ => ⟨S1x4096, .i32⟩
  | .hbm, ⟨33, _⟩ => ⟨S_, .i32⟩
  | .hbm, ⟨34, _⟩ => ⟨S1x4096, .i32⟩
  | .hbm, ⟨35, _⟩ => ⟨S1x4096, .i1⟩
  | .hbm, ⟨36, _⟩ => ⟨S1x4096, .i32⟩
  | .hbm, ⟨37, _⟩ => ⟨S1x4096, .i32⟩
  | .hbm, ⟨38, _⟩ => ⟨S_, .i32⟩
  | .hbm, ⟨39, _⟩ => ⟨S1x4096, .i32⟩
  | .hbm, ⟨40, _⟩ => ⟨S1x4096, .i1⟩
  | .hbm, ⟨41, _⟩ => ⟨S1x4096, .i1⟩
  | .hbm, ⟨42, _⟩ => ⟨S_, .i32⟩
  | .hbm, ⟨43, _⟩ => ⟨S1x4096, .i32⟩
  | .hbm, ⟨44, _⟩ => ⟨S1x4096, .i32⟩
  | .hbm, ⟨45, _⟩ => ⟨S1x4096, .i32⟩
  | .hbm, ⟨46, _⟩ => ⟨S128, .i32⟩
  | .hbm, ⟨47, _⟩ => ⟨S128x1, .i32⟩
  | .hbm, ⟨48, _⟩ => ⟨S128x4096, .i32⟩
  | .hbm, ⟨49, _⟩ => ⟨S128x4096, .i32⟩
  | .hbm, ⟨50, _⟩ => ⟨S128x4096, .i1⟩
  | .hbm, ⟨51, _⟩ => ⟨S128x4096, .bf16⟩
  | .hbm, ⟨52, _⟩ => ⟨S16384x4096, .bf16⟩
  | .local _ .vmem, ⟨0, _⟩ => ⟨S128x4096, .bf16⟩
  | .local _ .vmem, ⟨1, _⟩ => ⟨S128x4096, .bf16⟩
  | .local _ .vmem, ⟨2, _⟩ => ⟨S128x4096, .bf16⟩
  | .local _ .vmem, ⟨3, _⟩ => ⟨S128x4096, .bf16⟩
  | .local _ .vmem, ⟨4, _⟩ => ⟨S128x2048, .bf16⟩
  | .local _ .vmem, ⟨5, _⟩ => ⟨S128x2048, .bf16⟩
  | .local _ .vmem, ⟨6, _⟩ => ⟨S128x128, .f32⟩
  | .local _ .vmem, ⟨7, _⟩ => ⟨S128x128, .f32⟩
  | .local _ .vmem, ⟨8, _⟩ => ⟨S4x4096, .f32⟩
  | .local _ .vmem, ⟨9, _⟩ => ⟨S1x4096, .f32⟩
  | .local _ .vmem, ⟨10, _⟩ => ⟨S4x2048, .f32⟩
  | .local _ .vmem, ⟨11, _⟩ => ⟨S1x2048, .f32⟩
  | .local _ .vmem, ⟨12, _⟩ => ⟨S1x128, .f32⟩
  | .local _ .vmem, ⟨13, _⟩ => ⟨S1x128, .f32⟩
  | .local _ .vmem, ⟨14, _⟩ => ⟨S1x4096, .f32⟩
  | .local _ .vmem, ⟨15, _⟩ => ⟨S1x4096, .f32⟩
  | .local _ .vmem, ⟨16, _⟩ => ⟨S128x4096, .bf16⟩
  | .local _ .vmem, ⟨17, _⟩ => ⟨S128x4096, .bf16⟩
  | .local _ .vmem, ⟨18, _⟩ => ⟨S128x4096, .bf16⟩
  | .local _ .vmem, ⟨19, _⟩ => ⟨S136x4096, .f32⟩
  | .local _ .vmem, ⟨20, _⟩ => ⟨S136x2048, .f32⟩
  | .local _ .vmem, ⟨21, _⟩ => ⟨S128x4096, .f32⟩
  | _, _ => ⟨S16384x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_call0_v0 : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_call1_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_1 : Ref sig .tc := ⟨.hbm, 28, rfl⟩
abbrev main_call2_v0 : Ref sig .tc := ⟨.hbm, 29, rfl⟩
abbrev main_call2_v1 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_call2_v5 : Ref sig .tc := ⟨.hbm, 34, rfl⟩
abbrev main_call2_v6 : Ref sig .tc := ⟨.hbm, 35, rfl⟩
abbrev main_call2_v7 : Ref sig .tc := ⟨.hbm, 36, rfl⟩
abbrev main_call2_v8 : Ref sig .tc := ⟨.hbm, 37, rfl⟩
abbrev main_call2_c : Ref sig .tc := ⟨.hbm, 38, rfl⟩
abbrev main_call2_v9 : Ref sig .tc := ⟨.hbm, 39, rfl⟩
abbrev main_call2_v10 : Ref sig .tc := ⟨.hbm, 40, rfl⟩
abbrev main_call2_v11 : Ref sig .tc := ⟨.hbm, 41, rfl⟩
abbrev main_call2_c_0 : Ref sig .tc := ⟨.hbm, 42, rfl⟩
abbrev main_call2_v12 : Ref sig .tc := ⟨.hbm, 43, rfl⟩
abbrev main_call2_v13 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c4_i32 : BitVec 32 := 4#32
  let c0_i32 : BitVec 32 := 0#32
  ![v1.toNat, c4_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x4096 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S128x4096 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference12Ideal.lean ====
abbrev S16384x10240 : Shape := ⟨2, ![16384, 10240]⟩
abbrev S16384x128 : Shape := ⟨2, ![16384, 128]⟩
abbrev S4x6144 : Shape := ⟨2, ![4, 6144]⟩
abbrev S6144 : Shape := ⟨1, ![6144]⟩
abbrev S64 : Shape := ⟨1, ![64]⟩
abbrev S4096 : Shape := ⟨1, ![4096]⟩
abbrev S16384x4096 : Shape := ⟨2, ![16384, 4096]⟩
abbrev S16384x6144 : Shape := ⟨2, ![16384, 6144]⟩
abbrev S2x8192x6144 : Shape := ⟨3, ![2, 8192, 6144]⟩
abbrev S_ : Shape := ⟨0, ![]⟩
abbrev S2x3x6144 : Shape := ⟨3, ![2, 3, 6144]⟩
abbrev S2x8195x6144 : Shape := ⟨3, ![2, 8195, 6144]⟩
abbrev S1x6144 : Shape := ⟨2, ![1, 6144]⟩
abbrev S1x1x6144 : Shape := ⟨3, ![1, 1, 6144]⟩
abbrev S2x8192x4096 : Shape := ⟨3, ![2, 8192, 4096]⟩
abbrev S2x8192x64x64 : Shape := ⟨4, ![2, 8192, 64, 64]⟩
abbrev S2x8192x1024 : Shape := ⟨3, ![2, 8192, 1024]⟩
abbrev S2x8192x8x128 : Shape := ⟨4, ![2, 8192, 8, 128]⟩
abbrev S16384x64 : Shape := ⟨2, ![16384, 64]⟩
abbrev S2x8192x64 : Shape := ⟨3, ![2, 8192, 64]⟩
abbrev S1x1x64 : Shape := ⟨3, ![1, 1, 64]⟩
abbrev S2x64x8192 : Shape := ⟨3, ![2, 64, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x64x1x8192 : Shape := ⟨4, ![2, 64, 1, 8192]⟩
abbrev S2x64x8192x8192 : Shape := ⟨4, ![2, 64, 8192, 8192]⟩
abbrev S2x64x8192x1 : Shape := ⟨4, ![2, 64, 8192, 1]⟩
abbrev S2x8x8192x8192 : Shape := ⟨4, ![2, 8, 8192, 8192]⟩
abbrev S2x8x8x8192x8192 : Shape := ⟨5, ![2, 8, 8, 8192, 8192]⟩
abbrev S2x8192x64x1 : Shape := ⟨4, ![2, 8192, 64, 1]⟩
abbrev S2x64x64x8192 : Shape := ⟨4, ![2, 64, 64, 8192]⟩
abbrev S64x1 : Shape := ⟨2, ![64, 1]⟩
abbrev S1x1x64x1 : Shape := ⟨4, ![1, 1, 64, 1]⟩
abbrev S16384x8x512 : Shape := ⟨3, ![16384, 8, 512]⟩
abbrev S16384x8 : Shape := ⟨2, ![16384, 8]⟩
abbrev S16384x8x1 : Shape := ⟨3, ![16384, 8, 1]⟩
abbrev S1x4096 : Shape := ⟨2, ![1, 4096]⟩

abbrev nBuf : Space → Nat
  | .hbm => 156
  | .vmem => 0
  | .smem => 0
  | _ => 0

abbrev hbmTy0_0 (i : Nat) : BufTy := match i % 128 with
  | 0 => ⟨S16384x10240, .bf16⟩
  | 1 => ⟨S16384x128, .f32⟩
  | 2 => ⟨S4x6144, .f32⟩
  | 3 => ⟨S6144, .f32⟩
  | 4 => ⟨S64, .f32⟩
  | 5 => ⟨S64, .f32⟩
  | 6 => ⟨S64, .f32⟩
  | 7 => ⟨S4096, .f32⟩
  | 8 => ⟨S16384x4096, .bf16⟩
  | 9 => ⟨S16384x4096, .f32⟩
  | 10 => ⟨S16384x6144, .bf16⟩
  | 11 => ⟨S16384x6144, .f32⟩
  | 12 => ⟨S2x8192x6144, .f32⟩
  | 13 => ⟨S_, .f32⟩
  | 14 => ⟨S2x3x6144, .f32⟩
  | 15 => ⟨S2x8195x6144, .f32⟩
  | 16 => ⟨S2x8192x6144, .f32⟩
  | 17 => ⟨S1x6144, .f32⟩
  | 18 => ⟨S6144, .f32⟩
  | 19 => ⟨S1x1x6144, .f32⟩
  | 20 => ⟨S2x8192x6144, .f32⟩
  | 21 => ⟨S2x8192x6144, .f32⟩
  | 22 => ⟨S1x1x6144, .f32⟩
  | 23 => ⟨S2x8192x6144, .f32⟩
  | 24 => ⟨S2x8192x6144, .f32⟩
  | 25 => ⟨S2x8192x6144, .f32⟩
  | 26 => ⟨S1x6144, .f32⟩
  | 27 => ⟨S6144, .f32⟩
  | 28 => ⟨S1x1x6144, .f32⟩
  | 29 => ⟨S2x8192x6144, .f32⟩
  | 30 => ⟨S2x8192x6144, .f32⟩
  | 31 => ⟨S2x8192x6144, .f32⟩
  | 32 => ⟨S2x8192x6144, .f32⟩
  | 33 => ⟨S1x6144, .f32⟩
  | 34 => ⟨S6144, .f32⟩
  | 35 => ⟨S1x1x6144, .f32⟩
  | 36 => ⟨S2x8192x6144, .f32⟩
  | 37 => ⟨S2x8192x6144, .f32⟩
  | 38 => ⟨S2x8192x6144, .f32⟩
  | 39 => ⟨S2x8192x6144, .f32⟩
  | 40 => ⟨S1x6144, .f32⟩
  | 41 => ⟨S6144, .f32⟩
  | 42 => ⟨S1x1x6144, .f32⟩
  | 43 => ⟨S2x8192x6144, .f32⟩
  | 44 => ⟨S2x8192x6144, .f32⟩
  | 45 => ⟨S2x8192x6144, .f32⟩
  | 46 => ⟨S2x8192x6144, .f32⟩
  | 47 => ⟨S2x8192x6144, .f32⟩
  | 48 => ⟨S_, .f32⟩
  | 49 => ⟨S2x8192x6144, .f32⟩
  | 50 => ⟨S2x8192x6144, .f32⟩
  | 51 => ⟨S_, .f32⟩
  | 52 => ⟨S2x8192x6144, .f32⟩
  | 53 => ⟨S2x8192x6144, .f32⟩
  | 54 => ⟨S2x8192x6144, .f32⟩
  | 55 => ⟨S2x8192x4096, .f32⟩
  | 56 => ⟨S2x8192x64x64, .f32⟩
  | 57 => ⟨S2x8192x1024, .f32⟩
  | 58 => ⟨S2x8192x8x128, .f32⟩
  | 59 => ⟨S2x8192x1024, .f32⟩
  | 60 => ⟨S2x8192x8x128, .f32⟩
  | 61 => ⟨S16384x64, .f32⟩
  | 62 => ⟨S2x8192x64, .f32⟩
  | 63 => ⟨S1x1x64, .f32⟩
  | 64 => ⟨S2x8192x64, .f32⟩
  | 65 => ⟨S2x8192x64, .f32⟩
  | 66 => ⟨S_, .f32⟩
  | 67 => ⟨S2x8192x64, .f32⟩
  | 68 => ⟨S2x8192x64, .f32⟩
  | 69 => ⟨S2x8192x64, .f32⟩
  | 70 => ⟨S2x8192x64, .f32⟩
  | 71 => ⟨S2x8192x64, .i1⟩
  | 72 => ⟨S2x8192x64, .f32⟩
  | 73 => ⟨S2x8192x64, .f32⟩
  | 74 => ⟨S2x8192x64, .f32⟩
  | 75 => ⟨S2x8192x64, .f32⟩
  | 76 => ⟨S2x8192x64, .f32⟩
  | 77 => ⟨S2x8192x64, .f32⟩
  | 78 => ⟨S2x8192x64, .f32⟩
  | 79 => ⟨S2x8192x64, .f32⟩
  | 80 => ⟨S64, .f32⟩
  | 81 => ⟨S64, .f32⟩
  | 82 => ⟨S1x1x64, .f32⟩
  | 83 => ⟨S2x8192x64, .f32⟩
  | 84 => ⟨S2x8192x64, .f32⟩
  | 85 => ⟨S2x64x8192, .f32⟩
  | 86 => ⟨S8192, .i32⟩
  | 87 => ⟨S1x8192, .i32⟩
  | 88 => ⟨S8192x1, .i32⟩
  | 89 => ⟨S8192x8192, .i32⟩
  | 90 => ⟨S8192x8192, .i32⟩
  | 91 => ⟨S8192x8192, .i1⟩
  | 92 => ⟨S2x64x1x8192, .f32⟩
  | 93 => ⟨S_, .f32⟩
  | 94 => ⟨S_, .f32⟩
  | 95 => ⟨S2x64x8192x8192, .i1⟩
  | 96 => ⟨S2x64x8192x8192, .f32⟩
  | 97 => ⟨S2x64x8192x8192, .f32⟩
  | 98 => ⟨S2x64x8192x8192, .f32⟩
  | 99 => ⟨S_, .f32⟩
  | 100 => ⟨S2x64x8192, .f32⟩
  | 101 => ⟨S2x64x8192x1, .f32⟩
  | 102 => ⟨S2x64x1x8192, .f32⟩
  | 103 => ⟨S2x64x8192x8192, .f32⟩
  | 104 => ⟨S2x64x8192x8192, .f32⟩
  | 105 => ⟨S2x64x8192x8192, .f32⟩
  | 106 => ⟨S_, .f32⟩
  | 107 => ⟨S_, .f32⟩
  | 108 => ⟨S2x64x8192x8192, .i1⟩
  | 109 => ⟨S2x64x8192x8192, .f32⟩
  | 110 => ⟨S2x64x8192x8192, .f32⟩
  | 111 => ⟨S2x64x8192x8192, .f32⟩
  | 112 => ⟨S2x8x8192x8192, .f32⟩
  | 113 => ⟨S2x8x8x8192x8192, .f32⟩
  | 114 => ⟨S2x64x8192x8192, .f32⟩
  | 115 => ⟨S2x64x8192x8192, .f32⟩
  | 116 => ⟨S2x8192x64x1, .f32⟩
  | 117 => ⟨S2x8192x64x64, .f32⟩
  | 118 => ⟨S2x8192x64x64, .f32⟩
  | 119 => ⟨S2x64x64x8192, .f32⟩
  | 120 => ⟨S2x8192x64x64, .f32⟩
  | 121 => ⟨S64x1, .f32⟩
  | 122 => ⟨S1x1x64x1, .f32⟩
  | 123 => ⟨S2x8192x64x64, .f32⟩
  | 124 => ⟨S2x8192x64x64, .f32⟩
  | 125 => ⟨S2x8192x64x64, .f32⟩
  | 126 => ⟨S16384x4096, .f32⟩
  | 127 => ⟨S16384x4096, .f32⟩
  | _ => ⟨S16384x10240, .bf16⟩

abbrev hbmTy0_1 (i : Nat) : BufTy := match i % 128 with
  | 0 => ⟨S16384x4096, .f32⟩
  | 1 => ⟨S_, .f32⟩
  | 2 => ⟨S16384x4096, .f32⟩
  | 3 => ⟨S16384x4096, .f32⟩
  | 4 => ⟨S_, .f32⟩
  | 5 => ⟨S16384x4096, .f32⟩
  | 6 => ⟨S16384x4096, .f32⟩
  | 7 => ⟨S16384x4096, .f32⟩
  | 8 => ⟨S16384x4096, .f32⟩
  | 9 => ⟨S16384x8x512, .f32⟩
  | 10 => ⟨S16384x8x512, .f32⟩
  | 11 => ⟨S_, .f32⟩
  | 12 => ⟨S16384x8, .f32⟩
  | 13 => ⟨S16384x8x1, .f32⟩
  | 14 => ⟨S_, .f32⟩
  | 15 => ⟨S16384x8x1, .f32⟩
  | 16 => ⟨S16384x8x1, .f32⟩
  | 17 => ⟨S_, .f32⟩
  | 18 => ⟨S16384x8x1, .f32⟩
  | 19 => ⟨S16384x8x1, .f32⟩
  | 20 => ⟨S16384x8x1, .f32⟩
  | 21 => ⟨S16384x8x512, .f32⟩
  | 22 => ⟨S16384x8x512, .f32⟩
  | 23 => ⟨S16384x4096, .f32⟩
  | 24 => ⟨S1x4096, .f32⟩
  | 25 => ⟨S16384x4096, .f32⟩
  | 26 => ⟨S16384x4096, .f32⟩
  | 27 => ⟨S16384x4096, .bf16⟩
  | _ => ⟨S16384x10240, .bf16⟩

abbrev hbmTy (i : Nat) : BufTy := match i / 128 with
  | 0 => hbmTy0_0 i
  | 1 => hbmTy0_1 i
  | _ => ⟨S16384x10240, .bf16⟩

abbrev bufTy : (tb : Table) → Fin (tcTables nBuf tb) → BufTy
  | .hbm, ⟨i, _⟩ => hbmTy i
  | _, _ => ⟨S16384x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_call1_cst : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_v6 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_0 : Ref sig .tc := ⟨.hbm, 93, rfl⟩
abbrev main_call2_v0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_v63 : Ref sig .tc := ⟨.hbm, 98, rfl⟩
abbrev main_cst_1 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_cst_2 : Ref sig .tc := ⟨.hbm, 106, rfl⟩
abbrev main_call3_v0 : Ref sig .tc := ⟨.hbm, 107, rfl⟩
abbrev main_call3_v1 : Ref sig .tc := ⟨.hbm, 108, rfl⟩
abbrev main_call3_v2 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_call4_v0 : Ref sig .tc := ⟨.hbm, 127, rfl⟩
abbrev main_call4_v1 : Ref sig .tc := ⟨.hbm, 128, rfl⟩
abbrev main_call4_cst : Ref sig .tc := ⟨.hbm, 129, rfl⟩
abbrev main_call4_v2 : Ref sig .tc := ⟨.hbm, 130, rfl⟩
abbrev main_call4_v3 : Ref sig .tc := ⟨.hbm, 131, rfl⟩
abbrev main_call4_cst_0 : Ref sig .tc := ⟨.hbm, 132, rfl⟩
abbrev main_call4_v4 : Ref sig .tc := ⟨.hbm, 133, rfl⟩
abbrev main_call4_v5 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_cst_3 : Ref sig .tc := ⟨.hbm, 139, rfl⟩
abbrev main_v91 : Ref sig .tc := ⟨.hbm, 140, rfl⟩
abbrev main_v92 : Ref sig .tc := ⟨.hbm, 141, rfl⟩
abbrev main_cst_4 : Ref sig .tc := ⟨.hbm, 142, rfl⟩
abbrev main_v93 : Ref sig .tc := ⟨.hbm, 143, rfl⟩
abbrev main_v94 : Ref sig .tc := ⟨.hbm, 144, rfl⟩
abbrev main_cst_5 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩

abbrev nD : Nat := 1
abbrev τ : Topo := Topo.v7x

variable {F : FTy → Type} [FloatOps F]
-- ==== Proof.Attn.KernelRun.lean ====
module

public import proofs.«01_k».proof.Proof.Gen.KernelIdeal.Value
public import Idealize.ShloMosaic.Lib.Pointwise
public import Idealize.ShloMosaic.Lib.WritesUnit
public import Idealize.ShloMosaic.Lib.VecWindow

@[expose] public section

set_option maxRecDepth 16384
noncomputable section

namespace Cert.KernelIdeal.Attn

open Cert.KernelIdeal Cert.KernelIdeal.Gen Idealize.ShloMosaic Idealize.ShloMosaic.TcCoe Idealize.SL.Sem

variable {F : FTy → Type} [FloatOps F]

/-- Both offsets of a whole-block access are zero. -/
theorem hz : (![0, 0] : Fin 2 → Nat) = fun _ => 0 := funext fun a => by fin_cases a <;> rfl

/-- The `k`-th block of 256 rows of a sequence of keys or values. -/
def rows (x : Vec F S8192x128 .bf16) (k : ℕ) : Vec F S256x128 .bf16 :=
  fun j => x (ix2 ⟨(256 * k + (j 0).val) % 8192, Nat.mod_lt _ (by norm_num)⟩ (j 1))

/-- The two masked copies of the scaled queries, one above the other. -/
def qsOf (x0 : Vec F S256x128 .bf16) : Vec F S512x128 .bf16 :=
  fun j => if h : (j 0).val < 256 then k0_pay16 x0 (ix2 ⟨(j 0).val, h⟩ (j 1))
    else k0_pay17 x0 (ix2 ⟨(j 0).val - 256, by have : (j 0).val < 512 := (j 0).isLt; omega⟩ (j 1))

/-- The running maximum, the running sum and the running product. -/
abbrev State (F : FTy → Type) [FloatOps F] := Vec F S512x128 .f32 × Vec F S512x128 .f32 × Vec F S512x128 .f32

/-- One unmasked block of keys and values taken into the running state. -/
def step (kb vb : Vec F S256x128 .bf16) (qs : Vec F S512x128 .bf16) (s : State F) : State F :=
  (k0_pay3 kb qs s.1, k0_pay6 kb qs s.1 s.2.1, k0_pay7 kb vb qs s.1 s.2.2)

/-- The running state after `n` unmasked blocks. -/
def iter (x1 x2 : Vec F S8192x128 .bf16) (qs : Vec F S512x128 .bf16) : ℕ → State F
  | 0 => (k0_pay18, k0_pay19, k0_pay20)
  | n + 1 => step (rows x1 n) (rows x2 n) qs (iter x1 x2 qs n)

/-- A load of 256 rows at row `256 * k` reads the `k`-th block. -/
theorem ld_rows (x : Vec F S8192x128 .bf16) (off : Fin 2 → ℕ) (inb : ∀ a, off a + S256x128.size a ≤ S8192x128.size a)
    (k : ℕ) (h : off = ![256 * k, 0]) : View.ld (Val := Elt F) (e' := .bf16) x (Rect.unit (s := S8192x128) off S256x128.size inb) = rows x k := by
  subst h
  funext j
  rw [View.ld]
  unfold rows
  congr 1
  have h0 : 256 * k + 256 ≤ 8192 := inb 0
  have hj : (j 0).val < 256 := (j 0).isLt
  refine (eq_ix2 _).trans ?_
  congr 1
  · apply Fin.ext
    show 256 * k + 1 * (j 0).val = (256 * k + (j 0).val) % 8192
    omega
  · apply Fin.ext
    show 0 + 1 * (j 1).val = (j 1).val
    omega

/-- The first loop takes as many trips as there are blocks before the diagonal one. -/
theorem trips1 (i : grid0.Coords) : (k0_t1_loop i).trips = (i 2).val := by
  have h : ∀ q : Fin 32, Scf.trips (0#32) (Scalar.addi 0#32 (Scalar.muli (Scalar.divsi (Scalar.subi (BitVec.ofNat 32 q.val) 0#32) 1#32) 1#32)) (1#32) = q.val := by decide +kernel
  exact h (i 2)

/-- The second loop takes no trip. -/
theorem trips2 (i : grid0.Coords) : (k0_t2_loop i).trips = 0 := Nat.le_zero.1 (k0_t2_abs i).2.1

set_option maxHeartbeats 1000000 in
/-- What one trip of the first loop leaves in the three scratch buffers. -/
theorem trip_read (c : Dev nD) (i : grid0.Coords) (arg3 : Memref sig .tc .vmem S256x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S256x128 .bf16) (harg11 : arg11.IsWhole) (arg12 : Memref sig .tc .vmem S512x128 .bf16) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
    (a2 a15 a29 : BitVec 32) (X4 : BufTy.Contents (Elt F) arg4.view.ty) (X5 : BufTy.Contents (Elt F) arg5.view.ty)
    (X12 : BufTy.Contents (Elt F) arg12.view.ty) (k : Fin (k0_t1_loop i).trips)
    (f13 : BufTy.Contents (Elt F) arg13.view.ty) (f14 : BufTy.Contents (Elt F) arg14.view.ty) (f15 : BufTy.Contents (Elt F) arg15.view.ty)
    (g13 : BufTy.Contents (Elt F) arg13.view.ty) (g14 : BufTy.Contents (Elt F) arg14.view.ty) (g15 : BufTy.Contents (Elt F) arg15.view.ty)
    (L13 L14 L15 : List (View.Piece (Elt F) S512x128 .f32)) (s : State F)
    (h13 : arg13.view.read (Elt F) f13 = s.1) (h14 : arg14.view.read (Elt F) f14 = s.2.1) (h15 : arg15.view.read (Elt F) f15 = s.2.2) :
    let t := tripL_k0_t1 (F := F) Variants.none c none i arg3 harg3 arg4 harg4 arg5 harg5 arg6 harg6 arg7 harg7 arg8 harg8 arg9 harg9 arg10 harg10 arg11 harg11 arg12 harg12 arg13 harg13 arg14 harg14 arg15 harg15 a2 a15 a29 X4 X5 X12 k f13 f14 f15
    let s' := step (rows (arg4.view.read (Elt F) X4) k.val) (rows (arg5.view.read (Elt F) X5) k.val) (arg12.view.read (Elt F) X12) s
    arg13.view.read (Elt F) (arg13.view.writes (Elt F) g13 (t.1 ++ L13)) = s'.1
      ∧ arg14.view.read (Elt F) (arg14.view.writes (Elt F) g14 (t.2.1 ++ L14)) = s'.2.1
      ∧ arg15.view.read (Elt F) (arg15.view.writes (Elt F) g15 (t.2.2 ++ L15)) = s'.2.2 := by
  intro t s'
  have e1 := ld_rows (arg4.view.read (Elt F) X4) (k0_off1 i k) (k0_off1_inb i k) k.val (k0_off1_eq i k)
  have e2 := ld_rows (arg5.view.read (Elt F) X5) (k0_off1 i k) (k0_off1_inb i k) k.val (k0_off1_eq i k)
  refine ⟨?_, ?_, ?_⟩
  · subst t; unfold tripL_k0_t1 trip_k0_t1; dsimp only; sl_unfold_words
    refine (View.read_writes_full _ _ _ _ _).trans ?_
    simp only [View.readAt_eq_ld, View.ld_unit_zero (S := S512x128) hz, h13]
    rw [show k0_pay21 (F := F) = fun x => x from funext fun x => shapeCast_self _ _]
    exact congrArg (fun kb => k0_pay3 kb _ _) e1
  · subst t; unfold tripL_k0_t1 trip_k0_t1; dsimp only; sl_unfold_words
    refine (View.read_writes_full _ _ _ _ _).trans ?_
    simp only [View.readAt_eq_ld, View.ld_unit_zero (S := S512x128) hz, h13, h14]
    exact congrArg (fun kb => k0_pay6 kb _ _ _) e1
  · subst t; unfold tripL_k0_t1 trip_k0_t1; dsimp only; sl_unfold_words
    refine (View.read_writes_full _ _ _ _ _).trans ?_
    simp only [View.readAt_eq_ld, View.ld_unit_zero (S := S512x128) hz, h13, h15]
    exact congrArg₂ (fun kb vb => k0_pay7 kb vb _ _ _) e1 e2

/-- What `n` trips of the first loop leave in the three scratch buffers. -/
theorem pb1_read (c : Dev nD) (i : grid0.Coords) (arg3 : Memref sig .tc .vmem S256x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S256x128 .bf16) (harg11 : arg11.IsWhole) (arg12 : Memref sig .tc .vmem S512x128 .bf16) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
    (a2 a15 a29 : BitVec 32) (X4 : BufTy.Contents (Elt F) arg4.view.ty) (X5 : BufTy.Contents (Elt F) arg5.view.ty)
    (X12 : BufTy.Contents (Elt F) arg12.view.ty)
    (g13 : BufTy.Contents (Elt F) arg13.view.ty) (g14 : BufTy.Contents (Elt F) arg14.view.ty) (g15 : BufTy.Contents (Elt F) arg15.view.ty)
    (h13 : arg13.view.read (Elt F) g13 = k0_pay18) (h14 : arg14.view.read (Elt F) g14 = k0_pay19) (h15 : arg15.view.read (Elt F) g15 = k0_pay20)
    (n : ℕ) (hn : n ≤ (k0_t1_loop i).trips) :
    let t := pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 a2 a15 a29 X4 X5 X12 g13 g14 g15 n
    let s' := iter (arg4.view.read (Elt F) X4) (arg5.view.read (Elt F) X5) (arg12.view.read (Elt F) X12) n
    arg13.view.read (Elt F) (arg13.view.writes (Elt F) g13 t.1) = s'.1
      ∧ arg14.view.read (Elt F) (arg14.view.writes (Elt F) g14 t.2.1) = s'.2.1
      ∧ arg15.view.read (Elt F) (arg15.view.writes (Elt F) g15 t.2.2) = s'.2.2 := by
  induction n with
  | zero => exact ⟨h13, h14, h15⟩
  | succ n ih =>
    intro t s'
    obtain ⟨i1, i2, i3⟩ := ih (by omega)
    have hs := pb_k0_t1_succ (F := F) Variants.none c none i arg3 harg3 arg4 harg4 arg5 harg5 arg6 harg6 arg7 harg7 arg8 harg8 arg9 harg9 arg10 harg10 arg11 harg11 arg12 harg12 arg13 harg13 arg14 harg14 arg15 harg15 a2 a15 a29 X4 X5 X12 g13 g14 g15 ⟨n, hn⟩
    have ht : t = _ := hs
    rw [ht]
    exact trip_read c i arg3 harg3 arg4 harg4 arg5 harg5 arg6 harg6 arg7 harg7 arg8 harg8 arg9 harg9 arg10 harg10 arg11 harg11 arg12 harg12 arg13 harg13 arg14 harg14 arg15 harg15 a2 a15 a29 X4 X5 X12 ⟨n, hn⟩ _ _ _ _ _ _ _ _ _ _ i1 i2 i3

/-- What the body leaves in the query scratch. -/
theorem qs_read (arg12 : Memref sig .tc .vmem S512x128 .bf16) (g : BufTy.Contents (Elt F) arg12.view.ty)
    (inb1 : ∀ a, (![256, 0] : Fin 2 → ℕ) a + S256x128.size a ≤ S512x128.size a)
    (inb2 : ∀ a, (![0, 0] : Fin 2 → ℕ) a + S256x128.size a ≤ S512x128.size a) (x0 : Vec F S256x128 .bf16) :
    arg12.view.read (Elt F) (arg12.view.writes (Elt F) g
      [⟨Rect.unit (s := S512x128) ![256, 0] S256x128.size inb1, k0_pay17 x0⟩, ⟨Rect.unit (s := S512x128) ![0, 0] S256x128.size inb2, k0_pay16 x0⟩])
      = qsOf x0 := by
  funext j
  have hj : (j 0).val < 512 := (j 0).isLt
  unfold qsOf
  by_cases h : (j 0).val < 256
  · rw [dif_pos h]
    refine (View.read_writes_cons_rows_of_not_mem (d := S512x128.size) _ _ inb1 _ _ j rfl rfl (Or.inl h)).trans ?_
    exact View.read_writes_cons_rows_of_mem (d := S512x128.size) _ _ inb2 _ _ j _ rfl (Nat.zero_add _).symm rfl
  · rw [dif_neg h]
    exact View.read_writes_cons_rows_of_mem (d := S512x128.size) _ _ inb1 _ _ j (ix2 ⟨(j 0).val - 256, by omega⟩ (j 1)) rfl (by show (j 0).val = 256 + ((j 0).val - 256); omega) rfl

/-- What one block of the kernel computes, from its input blocks: `n` unmasked blocks of keys and
    values, then the masked one on the diagonal. -/
def blockOut (n : ℕ) (x0 : Vec F S256x128 .bf16) (x1 x2 : Vec F S8192x128 .bf16) (x3 x4 x5 x6 : Vec F S1x64 .f32)
    (x7 : Vec F S1x128 .f32) : Vec F S256x128 .bf16 :=
  let s := iter x1 x2 (qsOf x0) n
  let kb := rows x1 n
  let vb := rows x2 n
  let l := k0_pay27 kb (qsOf x0) s.1 s.2.1
  let a := k0_pay28 vb (k0_pay25 kb (qsOf x0) s.1) (k0_pay26 kb (qsOf x0) s.1) s.2.2
  k0_pay1 (k0_pay31 a l) (k0_pay32 x3 x4 x5 x6 a l) x7

set_option maxHeartbeats 1000000 in
/-- The body's output block is `blockOut` of its input blocks. -/
theorem outA (c : Dev nD) (i : grid0.Coords) (arg3 : Memref sig .tc .vmem S256x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S256x128 .bf16) (harg11 : arg11.IsWhole) (arg12 : Memref sig .tc .vmem S512x128 .bf16) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
    (x0 : Vec F S256x128 .bf16) (x1 : Vec F S8192x128 .bf16) (x2 : Vec F S8192x128 .bf16) (x3 : Vec F S1x64 .f32) (x4 : Vec F S1x64 .f32) (x5 : Vec F S1x64 .f32) (x6 : Vec F S1x64 .f32) (x7 : Vec F S1x128 .f32) :
    out0_A_8 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 = blockOut (i 2).val x0 x1 x2 x3 x4 x5 x6 x7 := by
  have e1 := ld_rows x1 (k0_off3 i) (k0_off3_inb i) (i 2).val (k0_off3_eq i)
  have e2 := ld_rows x2 (k0_off3 i) (k0_off3_inb i) (i 2).val (k0_off3_eq i)
  unfold out0_A_8
  rw [View.read_writes_eq_canon _ _ _ (cover0_A_8 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7)]
  unfold kernelRun0_A
  dsimp only
  sl_unfold_words
  rw [View.canon_unit_zero hz]
  have t2 : Scf.trips (k0_t2_loop i).lb (k0_t2_loop i).ub (k0_t2_loop i).st = 0 := trips2 i
  have t1 : Scf.trips (k0_t1_loop i).lb (k0_t1_loop i).ub (k0_t1_loop i).st = (i 2).val := trips1 i
  simp only [View.readCov, View.readAt_eq_ld, View.ld_unit_zero (S := S512x128) hz, View.ld_unit_zero (S := S256x128) hz,
    View.ld_unit_zero (S := S1x64) hz, View.ld_unit_zero (S := S1x128) hz, Memref.IsWhole.read_unread, View.read_writes_full, t1, t2]
  simp only [pb_k0_t2, List.nil_append, View.writes_append]
  have q := qs_read (F := F) arg12 arg12.view.junk inb_S512x128_S256x128_256_0 inb_S512x128_S256x128_0_0 x0
  have r13 : arg13.view.read (Elt F) (arg13.view.writes (Elt F) arg13.view.junk [⟨Rect.unit ![0, 0] S512x128.size inb_S512x128_S512x128_0_0, k0_pay18⟩]) = k0_pay18 :=
    View.read_writes_full _ _ _ _ _
  have r14 : arg14.view.read (Elt F) (arg14.view.writes (Elt F) arg14.view.junk [⟨Rect.unit ![0, 0] S512x128.size inb_S512x128_S512x128_0_0, k0_pay19⟩]) = k0_pay19 :=
    View.read_writes_full _ _ _ _ _
  have r15 : arg15.view.read (Elt F) (arg15.view.writes (Elt F) arg15.view.junk [⟨Rect.unit ![0, 0] S512x128.size inb_S512x128_S512x128_0_0, k0_pay20⟩]) = k0_pay20 :=
    View.read_writes_full _ _ _ _ _
  generalize arg12.view.writes (Elt F) arg12.view.junk _ = g12 at q ⊢
  generalize arg13.view.writes (Elt F) arg13.view.junk _ = g13 at r13 ⊢
  generalize arg14.view.writes (Elt F) arg14.view.junk _ = g14 at r14 ⊢
  generalize arg15.view.writes (Elt F) arg15.view.junk _ = g15 at r15 ⊢
  obtain ⟨p1, p2, p3⟩ := pb1_read c i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) 0#32 (Scalar.subi (BitVec.ofNat 32 (i 2).val) 0#32)
    (harg4.unread x1) (harg5.unread x2) g12 g13 g14 g15 r13 r14 r15 (i 2).val (trips1 i).ge
  rw [q] at p1 p2 p3 ⊢
  rw [harg4.read_unread, harg5.read_unread] at p1 p2 p3
  rw [p1, p2, p3]
  refine (congrArg₂ (fun a l => k0_pay1 (k0_pay31 a l) (k0_pay32 x3 x4 x5 x6 a l) x7) (View.read_writes_full _ _ _ _ _) (View.read_writes_full _ _ _ _ _)).trans ?_
  exact congrArg₂ (fun kb vb =>
    let s := iter x1 x2 (qsOf x0) (i 2).val
    let l := k0_pay27 kb (qsOf x0) s.1 s.2.1
    let a := k0_pay28 vb (k0_pay25 kb (qsOf x0) s.1) (k0_pay26 kb (qsOf x0) s.1) s.2.2
    k0_pay1 (k0_pay31 a l) (k0_pay32 x3 x4 x5 x6 a l) x7) e1 e2

end Cert.KernelIdeal.Attn
-- ==== Proof.Attn.SoftmaxMath.lean ====
module

public import Idealize.ShloMosaic.Lib.Pointwise

@[expose] public section

noncomputable section

namespace Cert.Attn

open Idealize.ShloMosaic

/-- A sum of reals, taken among the extended reals, is the sum of the reals. -/
theorem coe_sum {ι : Type} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The greatest of finitely many numbers, none of them `⊤` and one of them above `⊥`, is real. -/
theorem foldmax_real {ι : Type} [Fintype ι] (s : ι → EReal) (h : ∀ k, s k ≠ ⊤) (k0 : ι) (h0 : s k0 ≠ ⊥) :
    ∃ μ : ℝ, Finset.univ.fold max ⊥ s = (μ : EReal) := by
  have e : Finset.univ.fold max ⊥ s = Finset.univ.sup s := rfl
  rw [e]
  have h1 : Finset.univ.sup s ≠ ⊤ := by
    refine ne_of_lt ((Finset.sup_lt_iff (bot_lt_top)).2 fun k _ => lt_top_iff_ne_top.2 (h k))
  have h2 : Finset.univ.sup s ≠ ⊥ := by
    intro hb
    have := Finset.le_sup (f := s) (Finset.mem_univ k0)
    rw [hb] at this
    exact h0 (le_bot_iff.1 this)
  exact ⟨_, (EReal.coe_toReal h1 h2).symm⟩

/-- The greatest of the running maximum and a block's scores is real. -/
theorem max_real {ι : Type} [Fintype ι] (m : EReal) (hm : m ≠ ⊤) (s : ι → EReal) (h : ∀ k, s k ≠ ⊤) (k0 : ι) (h0 : s k0 ≠ ⊥) :
    ∃ μ : ℝ, max m (Finset.univ.fold max ⊥ s) = (μ : EReal) := by
  obtain ⟨ν, hν⟩ := foldmax_real s h k0 h0
  rw [hν]
  have h1 : max m (ν : EReal) ≠ ⊤ := ne_of_lt (max_lt (lt_top_iff_ne_top.2 hm) (EReal.coe_lt_top ν))
  have h2 : max m (ν : EReal) ≠ ⊥ := fun hb => by
    have := le_max_right m (ν : EReal)
    rw [hb] at this
    exact EReal.coe_ne_bot _ (le_bot_iff.1 this)
  exact ⟨_, (EReal.coe_toReal h1 h2).symm⟩

/-- A score that is kept is real, one that is not is `⊥`: its weight under the maximum `μ`. -/
theorem exp_kept (A : Prop) [Decidable A] (σ μ : ℝ) :
    Ideal.exp ((if A then (σ : EReal) else ⊥) - (μ : EReal)) = ((if A then Real.exp (σ - μ) else 0 : ℝ) : EReal) := by
  by_cases hA : A
  · rw [if_pos hA, if_pos hA, ← EReal.coe_sub, Ideal.exp_coe]
  · rw [if_neg hA, if_neg hA, EReal.bot_sub]; rfl

/-- One block taken into a running sum of weighted terms, rescaled to the new maximum. -/
theorem acc_step {n : ℕ} (m acc : EReal) (E : ℝ)
    (h : (∃ μ : ℝ, m = μ ∧ acc = ((Real.exp (-μ) * E : ℝ) : EReal)) ∨ (m = ⊥ ∧ acc = 0 ∧ E = 0))
    (A : Fin n → Prop) [DecidablePred A] (σ w : Fin n → ℝ) (μ' : ℝ) :
    Ideal.exp (m - (μ' : EReal)) * acc
        + ∑ k, Ideal.exp ((if A k then (σ k : EReal) else ⊥) - (μ' : EReal)) * (w k : EReal)
      = ((Real.exp (-μ') * (E + ∑ k, if A k then Real.exp (σ k) * w k else 0) : ℝ) : EReal) := by
  have h1 : Ideal.exp (m - (μ' : EReal)) * acc = ((Real.exp (-μ') * E : ℝ) : EReal) := by
    rcases h with ⟨μ, rfl, rfl⟩ | ⟨rfl, rfl, rfl⟩
    · rw [← EReal.coe_sub, Ideal.exp_coe, ← EReal.coe_mul, ← mul_assoc, ← Real.exp_add]
      congr 3
      ring_nf
    · simp
  have h2 : ∀ k, Ideal.exp ((if A k then (σ k : EReal) else ⊥) - (μ' : EReal)) * (w k : EReal)
      = ((Real.exp (-μ') * (if A k then Real.exp (σ k) * w k else 0) : ℝ) : EReal) := by
    intro k
    rw [exp_kept, ← EReal.coe_mul]
    congr 1
    by_cases hA : A k
    · rw [if_pos hA, if_pos hA, sub_eq_neg_add, Real.exp_add, mul_assoc]
    · rw [if_neg hA, if_neg hA, zero_mul, mul_zero]
  rw [h1, Finset.sum_congr rfl fun k _ => h2 k, coe_sum, ← EReal.coe_add, mul_add, Finset.mul_sum]

/-- The running state of one row of queries: a maximum, a sum of exponentials and a sum of weighted values, both relative
    to that maximum; before the first block, nothing. -/
def RowInv {D : ℕ} (m l a : Fin D → EReal) (E : ℝ) (V : Fin D → ℝ) : Prop :=
  (∃ μ : ℝ, ∀ d, m d = μ ∧ l d = ((Real.exp (-μ) * E : ℝ) : EReal) ∧ a d = ((Real.exp (-μ) * V d : ℝ) : EReal))
    ∨ ((∀ d, m d = ⊥ ∧ l d = 0 ∧ a d = 0 ∧ V d = 0) ∧ E = 0)

/-- The state after a block holds a real maximum. -/
def RowDone {D : ℕ} (m l a : Fin D → EReal) (E : ℝ) (V : Fin D → ℝ) : Prop :=
  ∃ μ : ℝ, ∀ d, m d = μ ∧ l d = ((Real.exp (-μ) * E : ℝ) : EReal) ∧ a d = ((Real.exp (-μ) * V d : ℝ) : EReal)

/-- One block of keys and values, masked or not, taken into a row's state. -/
theorem row_step {D n : ℕ} (m l a m' l' a' : Fin D → EReal) (E : ℝ) (V : Fin D → ℝ) (hinv : RowInv m l a E V) (hD : 0 < D)
    (A : Fin n → Prop) [DecidablePred A] (k0 : Fin n) (hk0 : A k0) (σ : Fin n → ℝ) (v : Fin n → Fin D → ℝ)
    (hm : ∀ d, m' d = max (m d) (Finset.univ.fold max ⊥ fun k => if A k then (σ k : EReal) else ⊥))
    (hl : ∀ d, l' d = Ideal.exp (m d - m' d) * l d + ∑ k, Ideal.exp ((if A k then (σ k : EReal) else ⊥) - m' d))
    (ha : ∀ d, a' d = Ideal.exp (m d - m' d) * a d + ∑ k, Ideal.exp ((if A k then (σ k : EReal) else ⊥) - m' d) * (v k d : EReal)) :
    RowDone m' l' a' (E + ∑ k, if A k then Real.exp (σ k) else 0)
      (fun d => V d + ∑ k, if A k then Real.exp (σ k) * v k d else 0) := by
  have hs : ∀ k, (if A k then (σ k : EReal) else ⊥) ≠ ⊤ := fun k => by
    by_cases hA : A k
    · rw [if_pos hA]; exact EReal.coe_ne_top _
    · rw [if_neg hA]; exact bot_ne_top
  have hs0 : (if A k0 then (σ k0 : EReal) else ⊥) ≠ ⊥ := by rw [if_pos hk0]; exact EReal.coe_ne_bot _
  have hconst : ∃ m0 : EReal, m0 ≠ ⊤ ∧ ∀ d, m d = m0 := by
    rcases hinv with ⟨μ, h⟩ | ⟨h, _⟩
    · exact ⟨μ, EReal.coe_ne_top _, fun d => (h d).1⟩
    · exact ⟨⊥, bot_ne_top, fun d => (h d).1⟩
  obtain ⟨m0, hm0, hmd⟩ := hconst
  obtain ⟨μ', hμ'⟩ := max_real m0 hm0 _ hs k0 hs0
  have hm' : ∀ d, m' d = μ' := fun d => by rw [hm, hmd, hμ']
  refine ⟨μ', fun d => ⟨hm' d, ?_, ?_⟩⟩
  · rw [hl, hm']
    have := acc_step (m d) (l d) E (by
      rcases hinv with ⟨μ, h⟩ | ⟨h, h'⟩
      · exact Or.inl ⟨μ, (h d).1, (h d).2.1⟩
      · exact Or.inr ⟨(h d).1, (h d).2.1, h'⟩) A σ (fun _ => 1) μ'
    simpa using this
  · rw [ha, hm']
    exact acc_step (m d) (a d) (V d) (by
      rcases hinv with ⟨μ, h⟩ | ⟨h, h'⟩
      · exact Or.inl ⟨μ, (h d).1, (h d).2.2⟩
      · exact Or.inr ⟨(h d).1, (h d).2.2.1, (h d).2.2.2⟩) A σ (fun k => v k d) μ'

/-- The quotient the kernel ends with is the weighted mean of the values. -/
theorem row_div {D : ℕ} {m l a : Fin D → EReal} {E : ℝ} {V : Fin D → ℝ} (h : RowDone m l a E V) (hE : 0 < E) (d : Fin D) :
    Ideal.div (a d) (l d) = ((V d / E : ℝ) : EReal) := by
  obtain ⟨μ, h⟩ := h
  have hp := Real.exp_pos (-μ)
  rw [(h d).2.1, (h d).2.2, Ideal.div_coe (mul_pos hp hE).ne', ← EReal.coe_mul]
  congr 1
  field_simp

/-- A softmax row of the plain mathematics: the kept scores less their greatest, exponentiated, over their sum. -/
theorem softmax_real {n : ℕ} (A : Fin n → Prop) [DecidablePred A] (k0 : Fin n) (hk0 : A k0) (σ : Fin n → ℝ) (k : Fin n) :
    Ideal.div (Ideal.exp ((if A k then (σ k : EReal) else ⊥) - Finset.univ.fold max ⊥ fun k => if A k then (σ k : EReal) else ⊥))
        (∑ k, Ideal.exp ((if A k then (σ k : EReal) else ⊥) - Finset.univ.fold max ⊥ fun k => if A k then (σ k : EReal) else ⊥))
      = (((if A k then Real.exp (σ k) else 0) / (∑ k, if A k then Real.exp (σ k) else 0) : ℝ) : EReal) := by
  have hs : ∀ k, (if A k then (σ k : EReal) else ⊥) ≠ ⊤ := fun k => by
    by_cases hA : A k
    · rw [if_pos hA]; exact EReal.coe_ne_top _
    · rw [if_neg hA]; exact bot_ne_top
  have hs0 : (if A k0 then (σ k0 : EReal) else ⊥) ≠ ⊥ := by rw [if_pos hk0]; exact EReal.coe_ne_bot _
  obtain ⟨μ, hμ⟩ := foldmax_real _ hs k0 hs0
  have hp := Real.exp_pos (-μ)
  have hE : 0 < ∑ k, if A k then Real.exp (σ k) else 0 :=
    Finset.sum_pos' (fun k _ => by by_cases hA : A k <;> simp [hA, Real.exp_nonneg])
      ⟨k0, Finset.mem_univ _, by simp [hk0, Real.exp_pos]⟩
  rw [hμ]
  have h2 : ∀ k, Ideal.exp ((if A k then (σ k : EReal) else ⊥) - (μ : EReal))
      = ((Real.exp (-μ) * (if A k then Real.exp (σ k) else 0) : ℝ) : EReal) := by
    intro k
    rw [exp_kept]
    congr 1
    by_cases hA : A k
    · rw [if_pos hA, if_pos hA, sub_eq_neg_add, Real.exp_add]
    · rw [if_neg hA, if_neg hA, mul_zero]
  rw [Finset.sum_congr rfl fun k _ => h2 k, h2, coe_sum, ← Finset.mul_sum, Ideal.div_coe (mul_pos hp hE).ne', ← EReal.coe_mul]
  congr 1
  field_simp

/-- A sum over blocks of `B` is the sum over the range they make up. -/
theorem sum_block (g : ℕ → ℝ) (B n : ℕ) : ∑ t ∈ Finset.range (B * (n + 1)), g t
    = ∑ t ∈ Finset.range (B * n), g t + ∑ k : Fin B, g (B * n + k.val) := by
  rw [mul_add, mul_one, Finset.sum_range_add, Finset.sum_range (fun k => g (B * n + k))]

/-- The masked last block ends the sum at the diagonal. -/
theorem sum_diag (g : ℕ → ℝ) (B n r : ℕ) (hr : r < B) : ∑ t ∈ Finset.range (B * n), g t
    + ∑ k : Fin B, (if k.val ≤ r then g (B * n + k.val) else 0) = ∑ t ∈ Finset.range (B * n + r + 1), g t := by
  rw [add_assoc (B * n), Finset.sum_range_add, ← Finset.sum_range (fun k => if k ≤ r then g (B * n + k) else 0)]
  congr 1
  rw [← Finset.sum_filter]
  congr 1
  ext k
  simp only [Finset.mem_filter, Finset.mem_range]
  omega

/-- A causally masked sum over all positions ends at the diagonal. -/
theorem sum_causal (g : ℕ → ℝ) (N s : ℕ) (hs : s < N) : (∑ t : Fin N, if t.val ≤ s then g t.val else 0)
    = ∑ t ∈ Finset.range (s + 1), g t := by
  rw [← Finset.sum_range (fun k => if k ≤ s then g k else 0), ← Finset.sum_filter]
  congr 1
  ext k
  simp only [Finset.mem_filter, Finset.mem_range]
  omega

end Cert.Attn
-- ==== Proof.Attn.KernelVals.lean ====
module

public import proofs.«01_k».proof.Proof.Attn.KernelRun
public import proofs.«01_k».proof.Proof.Attn.SoftmaxMath

@[expose] public section

set_option maxRecDepth 16384
noncomputable section

namespace Cert.KernelIdeal.Attn

open Cert.KernelIdeal Cert.KernelIdeal.Gen Idealize.ShloMosaic Idealize.ShloMosaic.TcCoe Idealize.SL.Sem Cert.Attn

/-- The word of minus infinity. -/
theorem word_bot : Ideal.ofBits FTy.f32 4286578688#32 = ⊥ := by simp [Ideal.ofBits, Ideal.ieee]

/-- The word of one eighth, in bf16. -/
theorem word_eighth : Ideal.ofBits FTy.bf16 15872#16 = ((1 / 8 : ℝ) : EReal) := by
  simp [Ideal.ofBits, Ideal.ieee, -EReal.coe_mul]; norm_num

section Block

variable (kb vb : Vec Ideal S256x128 .bf16) (qs : Vec Ideal S512x128 .bf16) (m l a : Vec Ideal S512x128 .f32)

/-- The scores of one block. -/
theorem pay2_apply (r : Fin 512) (k : Fin 256) : k0_pay2 kb qs (ix2 r k) = ∑ d : Fin 128, qs (ix2 r d) * kb (ix2 k d) := by
  pointwise [k0_pay2]

theorem pay3_apply (r : Fin 512) (d : Fin 128) :
    k0_pay3 kb qs m (ix2 r d) = max (m (ix2 r d)) (Finset.univ.fold max ⊥ fun k : Fin 256 => k0_pay2 kb qs (ix2 r k)) := by
  rw [← word_bot]
  pointwise [k0_pay3]

theorem pay4_apply (r : Fin 512) (k : Fin 256) (μ : EReal) (h : ∀ d, k0_pay3 kb qs m (ix2 r d) = μ) :
    k0_pay4 kb qs m (ix2 r k) = Ideal.exp (k0_pay2 kb qs (ix2 r k) - μ) := by
  pointwise [k0_pay4]
  split <;> rw [h]

theorem pay6_apply (r : Fin 512) (d : Fin 128) : k0_pay6 kb qs m l (ix2 r d)
    = Ideal.exp (m (ix2 r d) - k0_pay3 kb qs m (ix2 r d)) * l (ix2 r d) + ∑ k : Fin 256, k0_pay4 kb qs m (ix2 r k) := by
  pointwise [k0_pay6, k0_pay5]

theorem pay7_apply (r : Fin 512) (d : Fin 128) : k0_pay7 kb vb qs m a (ix2 r d)
    = Ideal.exp (m (ix2 r d) - k0_pay3 kb qs m (ix2 r d)) * a (ix2 r d)
      + ∑ k : Fin 256, k0_pay4 kb qs m (ix2 r k) * vb (ix2 k d) := by
  pointwise [k0_pay7, k0_pay5]

/-- The masked scores: the columns up to the row's own. -/
theorem pay23_apply (r : Fin 512) (k : Fin 256) : k0_pay23 kb qs (ix2 r k)
    = if k.val ≤ r.val % 256 then k0_pay2 kb qs (ix2 r k) else ⊥ := by
  have h : ∀ (r : Fin 512) (k : Fin 256), IntOp.cmpi CmpIPredicate.sle (BitVec.ofNat 32 k.val) (IntOp.andi (BitVec.ofNat 32 r.val) 255#32)
      = if k.val ≤ r.val % 256 then 1#1 else 0#1 := by
    intro r k
    have e : IntOp.andi (BitVec.ofNat 32 r.val) 255#32 = BitVec.ofNat 32 (r.val % 256) := by
      have : ∀ r : Fin 512, IntOp.andi (BitVec.ofNat 32 r.val) 255#32 = BitVec.ofNat 32 (r.val % 256) := by decide +kernel
      exact this r
    rw [e]
    have h2 : ∀ (a b : Fin 256), IntOp.cmpi CmpIPredicate.sle (BitVec.ofNat 32 a.val) (BitVec.ofNat 32 b.val)
      = if a.val ≤ b.val then 1#1 else 0#1 := by decide +kernel
    exact h2 k ⟨r.val % 256, Nat.mod_lt _ (by norm_num)⟩
  rw [pay2_apply]
  pointwise [k0_pay23]
  rw [h, word_bot]
  split <;> rfl

theorem pay24_apply (r : Fin 512) (d : Fin 128) :
    k0_pay24 kb qs m (ix2 r d) = max (m (ix2 r d)) (Finset.univ.fold max ⊥ fun k : Fin 256 => k0_pay23 kb qs (ix2 r k)) := by
  rw [← word_bot]
  pointwise [k0_pay24]

theorem pay25_apply (r : Fin 512) (k : Fin 256) (μ : EReal) (h : ∀ d, k0_pay24 kb qs m (ix2 r d) = μ) :
    k0_pay25 kb qs m (ix2 r k) = Ideal.exp (k0_pay23 kb qs (ix2 r k) - μ) := by
  pointwise [k0_pay25]
  split <;> rw [h]

theorem pay27_apply (r : Fin 512) (d : Fin 128) : k0_pay27 kb qs m l (ix2 r d)
    = Ideal.exp (m (ix2 r d) - k0_pay24 kb qs m (ix2 r d)) * l (ix2 r d) + ∑ k : Fin 256, k0_pay25 kb qs m (ix2 r k) := by
  pointwise [k0_pay27, k0_pay26]

theorem pay28_apply (r : Fin 512) (d : Fin 128) : k0_pay28 vb (k0_pay25 kb qs m) (k0_pay26 kb qs m) a (ix2 r d)
    = Ideal.exp (m (ix2 r d) - k0_pay24 kb qs m (ix2 r d)) * a (ix2 r d)
      + ∑ k : Fin 256, k0_pay25 kb qs m (ix2 r k) * vb (ix2 k d) := by
  pointwise [k0_pay28, k0_pay26]

end Block

section Rows

variable (x0 : Vec Ideal S256x128 .bf16) (x1 x2 : Vec Ideal S8192x128 .bf16)
variable (q : Fin 256 → Fin 128 → ℝ) (kr vr : ℕ → Fin 128 → ℝ)

/-- A row of scaled queries, the half of its lanes that belongs to its component. -/
def qrow (r : Fin 512) (d : Fin 128) : ℝ :=
  if h : r.val < 256 then (if d.val < 64 then q ⟨r.val, h⟩ d * (1 / 8) else 0)
  else (if d.val < 64 then 0 else q ⟨r.val - 256, by omega⟩ d * (1 / 8))

/-- The score of a row of queries against a row of keys. -/
def score (r : Fin 512) (t : ℕ) : ℝ := ∑ d : Fin 128, qrow q r d * kr t d

theorem lane_lt (d : Fin 128) : IntOp.cmpi CmpIPredicate.slt (BitVec.ofNat 32 d.val) 64#32 = if d.val < 64 then 1#1 else 0#1 := by
  have : ∀ d : Fin 128, IntOp.cmpi CmpIPredicate.slt (BitVec.ofNat 32 d.val) 64#32 = if d.val < 64 then 1#1 else 0#1 := by
    decide +kernel
  exact this d

theorem qs_apply (h0 : ∀ r d, x0 (ix2 r d) = (q r d : EReal)) (r : Fin 512) (d : Fin 128) :
    qsOf x0 (ix2 r d) = (qrow q r d : EReal) := by
  unfold qsOf qrow
  show (if h : r.val < 256 then k0_pay16 x0 (ix2 ⟨r.val, h⟩ d) else k0_pay17 x0 (ix2 ⟨r.val - 256, _⟩ d)) = _
  by_cases h : r.val < 256
  · rw [dif_pos h, dif_pos h]
    pointwise [k0_pay16, k0_pay14, k0_pay15]
    rw [lane_lt, word_eighth, h0, ← EReal.coe_mul]
    split <;> rfl
  · rw [dif_neg h, dif_neg h]
    pointwise [k0_pay17, k0_pay14, k0_pay15]
    rw [lane_lt, word_eighth, h0, ← EReal.coe_mul]
    split <;> rfl

theorem rows_apply (h1 : ∀ (t : Fin 8192) d, x1 (ix2 t d) = (kr t.val d : EReal)) (n : ℕ) (hn : n < 32) (k : Fin 256) (d : Fin 128) :
    rows x1 n (ix2 k d) = (kr (256 * n + k.val) d : EReal) := by
  unfold rows
  refine (h1 _ _).trans ?_
  show (kr ((256 * n + k.val) % 8192) d : EReal) = _
  rw [Nat.mod_eq_of_lt (by omega)]

theorem score_apply (h0 : ∀ r d, x0 (ix2 r d) = (q r d : EReal)) (h1 : ∀ (t : Fin 8192) d, x1 (ix2 t d) = (kr t.val d : EReal))
    (n : ℕ) (hn : n < 32) (r : Fin 512) (k : Fin 256) :
    k0_pay2 (rows x1 n) (qsOf x0) (ix2 r k) = (score q kr r (256 * n + k.val) : EReal) := by
  rw [pay2_apply]
  unfold score
  rw [← coe_sum]
  refine Finset.sum_congr rfl fun d _ => ?_
  rw [qs_apply x0 q h0, rows_apply x1 kr h1 n hn, EReal.coe_mul]

theorem rowInv_const {D : ℕ} {m l a : Fin D → EReal} {E : ℝ} {V : Fin D → ℝ} (h : RowInv m l a E V) : ∃ μ, ∀ d, m d = μ := by
  rcases h with ⟨μ, h⟩ | ⟨h, _⟩
  · exact ⟨μ, fun d => (h d).1⟩
  · exact ⟨⊥, fun d => (h d).1⟩

/-- After `n` unmasked blocks a row's state is that of the first `256 * n` keys. -/
theorem iter_inv (h0 : ∀ r d, x0 (ix2 r d) = (q r d : EReal)) (h1 : ∀ (t : Fin 8192) d, x1 (ix2 t d) = (kr t.val d : EReal))
    (h2 : ∀ (t : Fin 8192) d, x2 (ix2 t d) = (vr t.val d : EReal)) (n : ℕ) (hn : n ≤ 32) (r : Fin 512) :
    RowInv (fun d : Fin 128 => (iter x1 x2 (qsOf x0) n).1 (ix2 r d)) (fun d => (iter x1 x2 (qsOf x0) n).2.1 (ix2 r d))
      (fun d => (iter x1 x2 (qsOf x0) n).2.2 (ix2 r d)) (∑ t ∈ Finset.range (256 * n), Real.exp (score q kr r t))
      (fun d => ∑ t ∈ Finset.range (256 * n), Real.exp (score q kr r t) * vr t d) := by
  induction n with
  | zero =>
    refine Or.inr ⟨fun d => ⟨?_, ?_, ?_, by simp⟩, by simp⟩
    · show k0_pay18 (ix2 r d) = ⊥
      rw [← word_bot]
      pointwise [k0_pay18]
    · show k0_pay19 (ix2 r d) = 0
      pointwise [k0_pay19]
    · show k0_pay20 (ix2 r d) = 0
      pointwise [k0_pay20]
  | succ n ih =>
    have hi := ih (by omega)
    obtain ⟨m0, hm0⟩ := rowInv_const hi
    have hs := score_apply x0 x1 q kr h0 h1 n (by omega) r
    have hv := rows_apply x2 vr h2 n (by omega)
    set s := iter x1 x2 (qsOf x0) n with hsdef
    have hc : ∀ d, k0_pay3 (rows x1 n) (qsOf x0) s.1 (ix2 r d) = max m0 (Finset.univ.fold max ⊥ fun k : Fin 256 => k0_pay2 (rows x1 n) (qsOf x0) (ix2 r k)) :=
      fun d => by rw [pay3_apply, hm0]
    have hstep := row_step _ _ _ (fun d : Fin 128 => (iter x1 x2 (qsOf x0) (n + 1)).1 (ix2 r d))
      (fun d : Fin 128 => (iter x1 x2 (qsOf x0) (n + 1)).2.1 (ix2 r d)) (fun d : Fin 128 => (iter x1 x2 (qsOf x0) (n + 1)).2.2 (ix2 r d))
      _ _ hi (by norm_num) (fun _ : Fin 256 => True) 0 trivial (fun k => score q kr r (256 * n + k.val))
      (fun k d => vr (256 * n + k.val) d)
      (fun d => by
        show k0_pay3 (rows x1 n) (qsOf x0) s.1 (ix2 r d) = _
        rw [pay3_apply]
        simp only [if_true, hs])
      (fun d => by
        show k0_pay6 (rows x1 n) (qsOf x0) s.1 s.2.1 (ix2 r d) = Ideal.exp (s.1 (ix2 r d) - k0_pay3 (rows x1 n) (qsOf x0) s.1 (ix2 r d)) * s.2.1 (ix2 r d)
          + ∑ k, Ideal.exp (_ - k0_pay3 (rows x1 n) (qsOf x0) s.1 (ix2 r d))
        rw [pay6_apply]
        congr 1
        refine Finset.sum_congr rfl fun k _ => ?_
        rw [pay4_apply _ _ _ _ _ _ hc, hs, hc, if_pos trivial])
      (fun d => by
        show k0_pay7 (rows x1 n) (rows x2 n) (qsOf x0) s.1 s.2.2 (ix2 r d) = Ideal.exp (s.1 (ix2 r d) - k0_pay3 (rows x1 n) (qsOf x0) s.1 (ix2 r d)) * s.2.2 (ix2 r d)
          + ∑ k, Ideal.exp (_ - k0_pay3 (rows x1 n) (qsOf x0) s.1 (ix2 r d)) * _
        rw [pay7_apply]
        congr 1
        refine Finset.sum_congr rfl fun k _ => ?_
        rw [pay4_apply _ _ _ _ _ _ hc, hs, hc, if_pos trivial, hv])
    simp only [if_true] at hstep
    refine Or.inl ?_
    simp only [sum_block]
    exact hstep

/-- After the masked block a row's state is that of the keys up to its own position. -/
theorem last_done (h0 : ∀ r d, x0 (ix2 r d) = (q r d : EReal)) (h1 : ∀ (t : Fin 8192) d, x1 (ix2 t d) = (kr t.val d : EReal))
    (h2 : ∀ (t : Fin 8192) d, x2 (ix2 t d) = (vr t.val d : EReal)) (n : ℕ) (hn : n < 32) (r : Fin 512) :
    let s := iter x1 x2 (qsOf x0) n
    RowDone (fun d : Fin 128 => k0_pay24 (rows x1 n) (qsOf x0) s.1 (ix2 r d))
      (fun d => k0_pay27 (rows x1 n) (qsOf x0) s.1 s.2.1 (ix2 r d))
      (fun d => k0_pay28 (rows x2 n) (k0_pay25 (rows x1 n) (qsOf x0) s.1) (k0_pay26 (rows x1 n) (qsOf x0) s.1) s.2.2 (ix2 r d))
      (∑ t ∈ Finset.range (256 * n + r.val % 256 + 1), Real.exp (score q kr r t))
      (fun d => ∑ t ∈ Finset.range (256 * n + r.val % 256 + 1), Real.exp (score q kr r t) * vr t d) := by
  intro s
  have hi := iter_inv x0 x1 x2 q kr vr h0 h1 h2 n hn.le r
  obtain ⟨m0, hm0⟩ := rowInv_const hi
  have hs : ∀ k, k0_pay23 (rows x1 n) (qsOf x0) (ix2 r k) = if k.val ≤ r.val % 256 then (score q kr r (256 * n + k.val) : EReal) else ⊥ :=
    fun k => by rw [pay23_apply, score_apply x0 x1 q kr h0 h1 n hn r k]
  have hv := rows_apply x2 vr h2 n hn
  have hc : ∀ d, k0_pay24 (rows x1 n) (qsOf x0) s.1 (ix2 r d) = max m0 (Finset.univ.fold max ⊥ fun k : Fin 256 => k0_pay23 (rows x1 n) (qsOf x0) (ix2 r k)) :=
    fun d => by rw [pay24_apply, hm0]
  have hstep := row_step _ _ _ (fun d : Fin 128 => k0_pay24 (rows x1 n) (qsOf x0) s.1 (ix2 r d))
      (fun d => k0_pay27 (rows x1 n) (qsOf x0) s.1 s.2.1 (ix2 r d))
      (fun d => k0_pay28 (rows x2 n) (k0_pay25 (rows x1 n) (qsOf x0) s.1) (k0_pay26 (rows x1 n) (qsOf x0) s.1) s.2.2 (ix2 r d))
      _ _ hi (by norm_num) (fun k : Fin 256 => k.val ≤ r.val % 256) 0 (Nat.zero_le _) (fun k => score q kr r (256 * n + k.val))
      (fun k d => vr (256 * n + k.val) d)
      (fun d => by
        rw [pay24_apply]
        simp only [hs]
        rfl)
      (fun d => by
        rw [pay27_apply]
        congr 1
        refine Finset.sum_congr rfl fun k _ => ?_
        rw [pay25_apply _ _ _ _ _ _ hc, hs, hc])
      (fun d => by
        rw [pay28_apply]
        congr 1
        refine Finset.sum_congr rfl fun k _ => ?_
        rw [pay25_apply _ _ _ _ _ _ hc, hs, hc, hv])
  have hr : r.val % 256 < 256 := Nat.mod_lt _ (by norm_num)
  have e1 := sum_diag (fun t => Real.exp (score q kr r t)) 256 n (r.val % 256) hr
  have e2 : ∀ d, _ := fun d => sum_diag (fun t => Real.exp (score q kr r t) * vr t d) 256 n (r.val % 256) hr
  simp only [e1, e2] at hstep
  exact hstep

end Rows

end Cert.KernelIdeal.Attn
-- ==== Proof.Attn.Target.lean ====
module

public import proofs.«01_k».proof.Proof.Attn.SoftmaxMath

@[expose] public section

noncomputable section

namespace Cert.Attn

open Idealize.ShloMosaic

/-- The scaled score of query `s` against key `t`, batch `b`, head `h`, component `c`: the queries, keys and values of a row of `X`
lie side by side. -/
def sc (X : ℕ → ℕ → ℝ) (b h c s t : ℕ) : ℝ :=
  ∑ d : Fin 64, (X (8192 * b + s) (128 * h + 64 * c + d.val) * (1 / 8)) * X (8192 * b + t) (2048 + 128 * h + 64 * c + d.val)

/-- The sum of the exponentials of a query's scores, over the keys up to its own position. -/
def den (X : ℕ → ℕ → ℝ) (b h c s : ℕ) : ℝ := ∑ t ∈ Finset.range (s + 1), Real.exp (sc X b h c s t)

/-- Causal attention of one component, at lane `e` of the values. -/
def att (X : ℕ → ℕ → ℝ) (b h c s e : ℕ) : ℝ :=
  (∑ t ∈ Finset.range (s + 1), Real.exp (sc X b h c s t) * X (8192 * b + t) (4096 + 128 * h + e)) / den X b h c s

theorem den_pos (X : ℕ → ℕ → ℝ) (b h c s : ℕ) : 0 < den X b h c s :=
  Finset.sum_pos (fun _ _ => Real.exp_pos _) ⟨0, by simp⟩

/-- The weight of the second component, from the four vectors that make it. -/
def lam (a1 a2 a3 a4 : Fin 64 → EReal) : EReal :=
  Ideal.exp (∑ x, a1 x * a2 x) - Ideal.exp (∑ x, a3 x * a4 x) + Ideal.ofBits FTy.f32 1052116297#32

/-- The difference of the two components. -/
def mix (X : ℕ → ℕ → ℝ) (la : EReal) (b h s : ℕ) (e : Fin 128) : EReal :=
  (att X b h 0 s e.val : EReal) - la * (att X b h 1 s e.val : EReal)

/-- The root-mean-square norm of a head's row, with its weight and the constant factor. -/
def headNorm (o w : Fin 128 → EReal) (e : Fin 128) : EReal :=
  o e * Ideal.rsqrt (Ideal.div (∑ x, o x * o x) (Ideal.ofBits FTy.f32 1124073472#32) + Ideal.ofBits FTy.f32 897988541#32)
    * w e * Ideal.ofBits FTy.f32 1059388764#32

/-- Row `i`, column `j` of differential attention's output. -/
def out (X : ℕ → ℕ → ℝ) (la : EReal) (w : Fin 128 → EReal) (i j : ℕ) : EReal :=
  headNorm (mix X la (i / 8192) (j / 128) (i % 8192)) w ⟨j % 128, Nat.mod_lt _ (by norm_num)⟩

end Cert.Attn
-- ==== Proof.Attn.KernelOut.lean ====
module

public import proofs.«01_k».proof.Proof.Attn.KernelVals
public import proofs.«01_k».proof.Proof.Attn.Target

@[expose] public section

set_option maxRecDepth 16384
noncomputable section

namespace Cert.KernelIdeal.Attn

open Cert.KernelIdeal Cert.KernelIdeal.Gen Idealize.ShloMosaic Idealize.ShloMosaic.TcCoe Idealize.SL.Sem Cert.Attn

theorem pay1_apply (l a : Vec Ideal S256x128 .f32) (x7 : Vec Ideal S1x128 .f32) (r : Fin 256) (d : Fin 128) :
    k0_pay1 l a x7 (ix2 r d) = headNorm (fun e => l (ix2 r e) - a (ix2 r e)) (fun e => x7 (ix2 0 e)) d := by
  unfold headNorm
  pointwise [k0_pay1]

theorem pay31_apply (a l : Vec Ideal S512x128 .f32) (r : Fin 256) (d : Fin 128) :
    k0_pay31 a l (ix2 r d) = Ideal.div (a (ix2 ⟨r.val, by omega⟩ d)) (l (ix2 ⟨r.val, by omega⟩ d)) := by
  pointwise [k0_pay31, k0_pay30]

theorem pay32_apply (x3 x4 x5 x6 : Vec Ideal S1x64 .f32) (a l : Vec Ideal S512x128 .f32) (r : Fin 256) (d : Fin 128) :
    k0_pay32 x3 x4 x5 x6 a l (ix2 r d) = lam (fun x => x3 (ix2 0 x)) (fun x => x4 (ix2 0 x)) (fun x => x5 (ix2 0 x)) (fun x => x6 (ix2 0 x))
      * Ideal.div (a (ix2 ⟨256 + r.val, by omega⟩ d)) (l (ix2 ⟨256 + r.val, by omega⟩ d)) := by
  unfold lam
  pointwise [k0_pay32, k0_pay30]

theorem score_lo (X : ℕ → ℕ → ℝ) (b h n : ℕ) (r : Fin 256) (t : ℕ) :
    score (fun r d => X (8192 * b + (256 * n + r.val)) (128 * h + d.val)) (fun t d => X (8192 * b + t) (2048 + 128 * h + d.val))
      (⟨r.val, by omega⟩ : Fin 512) t = sc X b h 0 (256 * n + r.val) t := by
  unfold score sc qrow
  rw [show (128 : ℕ) = 64 + 64 from rfl, Fin.sum_univ_add]
  have hz : (∑ i : Fin 64, (if h' : (⟨r.val, by omega⟩ : Fin 512).val < 256 then
      (if (Fin.natAdd 64 i).val < 64 then X (8192 * b + (256 * n + r.val)) ((64 + 64) * h + (Fin.natAdd 64 i).val) * (1 / 8) else 0)
      else 0) * X (8192 * b + t) (2048 + (64 + 64) * h + (Fin.natAdd 64 i).val)) = 0 :=
    Finset.sum_eq_zero fun i _ => by
      have : ¬ (Fin.natAdd 64 i).val < 64 := by simp
      rw [dif_pos r.isLt, if_neg this, zero_mul]
  have hr : r.val < 256 := r.isLt
  simp [hr]

theorem score_hi (X : ℕ → ℕ → ℝ) (b h n : ℕ) (r : Fin 256) (t : ℕ) :
    score (fun r d => X (8192 * b + (256 * n + r.val)) (128 * h + d.val)) (fun t d => X (8192 * b + t) (2048 + 128 * h + d.val))
      (⟨256 + r.val, by omega⟩ : Fin 512) t = sc X b h 1 (256 * n + r.val) t := by
  unfold score sc qrow
  rw [show (128 : ℕ) = 64 + 64 from rfl, Fin.sum_univ_add]
  simp [add_assoc]
  exact Finset.sum_congr rfl fun x _ => by rw [Nat.add_comm x.val 64]

variable (x0 : Vec Ideal S256x128 .bf16) (x1 x2 : Vec Ideal S8192x128 .bf16) (x3 x4 x5 x6 : Vec Ideal S1x64 .f32)
  (x7 : Vec Ideal S1x128 .f32)

/-- A block of the kernel's output: rows `256 * n …` of batch `b`, head `h`. -/
theorem blockOut_apply (X : ℕ → ℕ → ℝ) (b h n : ℕ) (hn : n < 32)
    (h0 : ∀ r d, x0 (ix2 r d) = (X (8192 * b + (256 * n + r.val)) (128 * h + d.val) : EReal))
    (h1 : ∀ (t : Fin 8192) d, x1 (ix2 t d) = (X (8192 * b + t.val) (2048 + 128 * h + d.val) : EReal))
    (h2 : ∀ (t : Fin 8192) d, x2 (ix2 t d) = (X (8192 * b + t.val) (4096 + 128 * h + d.val) : EReal)) (r : Fin 256) (d : Fin 128) :
    blockOut n x0 x1 x2 x3 x4 x5 x6 x7 (ix2 r d)
      = headNorm (mix X (lam (fun x => x3 (ix2 0 x)) (fun x => x4 (ix2 0 x)) (fun x => x5 (ix2 0 x)) (fun x => x6 (ix2 0 x))) b h
          (256 * n + r.val)) (fun e => x7 (ix2 0 e)) d := by
  have hr : r.val < 256 := r.isLt
  unfold blockOut
  rw [pay1_apply]
  congr 1
  funext e
  rw [pay31_apply, pay32_apply]
  unfold mix
  have hd := last_done x0 x1 x2 (fun r d => X (8192 * b + (256 * n + r.val)) (128 * h + d.val))
    (fun t d => X (8192 * b + t) (2048 + 128 * h + d.val)) (fun t d => X (8192 * b + t) (4096 + 128 * h + d.val)) h0 h1 h2 n hn
  have hlo := hd ⟨r.val, by omega⟩
  have hhi := hd ⟨256 + r.val, by omega⟩
  have m1 : (⟨r.val, by omega⟩ : Fin 512).val % 256 = r.val := Nat.mod_eq_of_lt hr
  have m2 : (⟨256 + r.val, by omega⟩ : Fin 512).val % 256 = r.val := by
    show (256 + r.val) % 256 = r.val
    omega
  simp only [score_lo, m1] at hlo
  simp only [score_hi, m2] at hhi
  have e1 := row_div hlo (den_pos X b h 0 (256 * n + r.val)) e
  have e2 := row_div hhi (den_pos X b h 1 (256 * n + r.val)) e
  exact congrArg₂ (fun u v => u - _ * v) e1 e2

end Cert.KernelIdeal.Attn
-- ==== Proof.Attn.Blocks.lean ====
module

public import proofs.«01_k».proof.Proof.Attn.KernelOut
public import Idealize.ShloMosaic.Lib.Pipeline.ValueKit
public import Idealize.ShloMosaic.Lib.Pipeline.Covers
public import Idealize.ShloMosaic.Lib.StableHlo.Run

@[expose] public section

set_option maxRecDepth 16384
noncomputable section

namespace Cert.KernelIdeal.Attn

open Cert.KernelIdeal Cert.KernelIdeal.Gen Idealize.ShloMosaic Idealize.ShloMosaic.TcCoe Idealize.SL.Sem Idealize.ShloMosaic.StableHlo Cert.Attn

variable (m : (ℓ : Loc nD τ sig) → Buf (Elt Ideal) ℓ)

theorem idx0 : ∀ t : Fin grid0.N, win0_0.index t = ![(grid0.coords t 0).val * 32 + (grid0.coords t 2).val, (grid0.coords t 1).val] := by
  decide +kernel
theorem idx1 : ∀ t : Fin grid0.N, win0_1.index t = ![(grid0.coords t 0).val, 16 + (grid0.coords t 1).val] := by decide +kernel
theorem idx2 : ∀ t : Fin grid0.N, win0_2.index t = ![(grid0.coords t 0).val, 32 + (grid0.coords t 1).val] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![0, 0] := by decide +kernel
theorem idx7 : ∀ t : Fin grid0.N, win0_7.index t = ![0, 0] := by decide +kernel
theorem idx8 : ∀ t : Fin grid0.N, win0_8.index t = ![(grid0.coords t 0).val * 32 + (grid0.coords t 2).val, (grid0.coords t 1).val] := by
  decide +kernel

/-- The grid point of a batch, a head and a block of rows. -/
theorem point : ∀ (b : Fin 2) (h : Fin 16) (i : Fin 32), ∃ t : Fin grid0.N,
    (grid0.coords t 0).val = b.val ∧ (grid0.coords t 1).val = h.val ∧ (grid0.coords t 2).val = i.val := by
  intro b h i
  obtain ⟨t, ht⟩ := grid0.coords_surjective (fun a => match a with | ⟨0, _⟩ => b | ⟨1, _⟩ => h | ⟨2, _⟩ => i)
  exact ⟨t, by rw [ht], by rw [ht], by rw [ht]⟩

theorem V_v0 (c : Dev nD) : V m c main_v0 = shapeCast S1x64 (m ((c : Thread nD τ).loc main_arg1)) shapeCasts_S64_S1x64 := by
  show StableHlo.after hostOps0 _ main_v0 = _
  after_results_simp <;> rfl
theorem V_v1 (c : Dev nD) : V m c main_v1 = shapeCast S1x64 (m ((c : Thread nD τ).loc main_arg2)) shapeCasts_S64_S1x64 := by
  show StableHlo.after hostOps0 _ main_v1 = _
  after_results_simp <;> rfl
theorem V_v2 (c : Dev nD) : V m c main_v2 = shapeCast S1x64 (m ((c : Thread nD τ).loc main_arg3)) shapeCasts_S64_S1x64 := by
  show StableHlo.after hostOps0 _ main_v2 = _
  after_results_simp <;> rfl
theorem V_v3 (c : Dev nD) : V m c main_v3 = shapeCast S1x64 (m ((c : Thread nD τ).loc main_arg4)) shapeCasts_S64_S1x64 := by
  show StableHlo.after hostOps0 _ main_v3 = _
  after_results_simp <;> rfl
theorem V_v4 (c : Dev nD) : V m c main_v4 = shapeCast S1x128 (m ((c : Thread nD τ).loc main_arg5)) shapeCasts_S128_S1x128 := by
  show StableHlo.after hostOps0 _ main_v4 = _
  after_results_simp <;> rfl

theorem c0 (t : Fin cfg0.N) : (grid0.coords t 0).val < 2 := (grid0.coords t 0).isLt
theorem c1 (t : Fin cfg0.N) : (grid0.coords t 1).val < 16 := (grid0.coords t 1).isLt
theorem c2 (t : Fin cfg0.N) : (grid0.coords t 2).val < 32 := (grid0.coords t 2).isLt

section Reads

variable (c : Dev nD) (X : ℕ → ℕ → ℝ)
variable (hx : ∀ (i : Fin 16384) (j : Fin 6144), (m ((c : Thread nD τ).loc main_arg0) : Vec Ideal S16384x6144 .bf16) (ix2 i j) = (X i.val j.val : EReal))

include hx

theorem read0 (t : Fin cfg0.N) (r : Fin 256) (d : Fin 128) : (iblk m c 0 t : Vec Ideal S256x128 .bf16) (ix2 r d)
    = (X (8192 * (grid0.coords t 0).val + (256 * (grid0.coords t 2).val + r.val)) (128 * (grid0.coords t 1).val + d.val) : EReal) := by
  have h0 := c0 t
  have h1 := c1 t
  have h2 := c2 t
  blk_simp [iblk]
  refine Eq.trans ?_ (hx ⟨8192 * (grid0.coords t 0).val + (256 * (grid0.coords t 2).val + r.val), by omega⟩ ⟨128 * (grid0.coords t 1).val + d.val, by omega⟩)
  rw [V_main_arg0]
  refine congrArg (m ((c : Thread nD τ).loc main_arg0)) (funext fun a => Fin.ext ?_)
  blk_simp [idx0]
  match a with
  | ⟨0, _⟩ => show ((grid0.coords t 0).val * 32 + (grid0.coords t 2).val) * 256 + r.val = 8192 * (grid0.coords t 0).val + (256 * (grid0.coords t 2).val + r.val); ring
  | ⟨1, _⟩ => show (grid0.coords t 1).val * 128 + d.val = 128 * (grid0.coords t 1).val + d.val; ring

theorem read1 (t : Fin cfg0.N) (r : Fin 8192) (d : Fin 128) : (iblk m c 1 t : Vec Ideal S8192x128 .bf16) (ix2 r d)
    = (X (8192 * (grid0.coords t 0).val + r.val) (2048 + 128 * (grid0.coords t 1).val + d.val) : EReal) := by
  have h0 := c0 t
  have h1 := c1 t
  blk_simp [iblk]
  refine Eq.trans ?_ (hx ⟨8192 * (grid0.coords t 0).val + r.val, by omega⟩ ⟨2048 + 128 * (grid0.coords t 1).val + d.val, by omega⟩)
  rw [V_main_arg0]
  refine congrArg (m ((c : Thread nD τ).loc main_arg0)) (funext fun a => Fin.ext ?_)
  blk_simp [idx1]
  match a with
  | ⟨0, _⟩ => show (grid0.coords t 0).val * 8192 + r.val = 8192 * (grid0.coords t 0).val + r.val; ring
  | ⟨1, _⟩ => show (16 + (grid0.coords t 1).val) * 128 + d.val = 2048 + 128 * (grid0.coords t 1).val + d.val; ring

theorem read2 (t : Fin cfg0.N) (r : Fin 8192) (d : Fin 128) : (iblk m c 2 t : Vec Ideal S8192x128 .bf16) (ix2 r d)
    = (X (8192 * (grid0.coords t 0).val + r.val) (4096 + 128 * (grid0.coords t 1).val + d.val) : EReal) := by
  have h0 := c0 t
  have h1 := c1 t
  blk_simp [iblk]
  refine Eq.trans ?_ (hx ⟨8192 * (grid0.coords t 0).val + r.val, by omega⟩ ⟨4096 + 128 * (grid0.coords t 1).val + d.val, by omega⟩)
  rw [V_main_arg0]
  refine congrArg (m ((c : Thread nD τ).loc main_arg0)) (funext fun a => Fin.ext ?_)
  blk_simp [idx2]
  match a with
  | ⟨0, _⟩ => show (grid0.coords t 0).val * 8192 + r.val = 8192 * (grid0.coords t 0).val + r.val; ring
  | ⟨1, _⟩ => show (32 + (grid0.coords t 1).val) * 128 + d.val = 4096 + 128 * (grid0.coords t 1).val + d.val; ring

omit hx

theorem read3 (t : Fin cfg0.N) (d : Fin 64) : (iblk m c 3 t : Vec Ideal S1x64 .f32) (ix2 0 d)
    = (m ((c : Thread nD τ).loc main_arg1) : Vec Ideal S64 .f32) (ix1 d) := by
  blk_simp [iblk]
  rw [V_v0]
  have e : (win0_3.blk t).view.emb (ix2 0 d) = (ix2 0 d : S1x64.Idx) := by
    refine funext fun a => Fin.ext ?_
    blk_simp [idx3]
    match a with
    | ⟨0, _⟩ => rfl
    | ⟨1, _⟩ => show 0 * 64 + d.val = d.val; ring
  rw [e]
  pointwise

theorem read4 (t : Fin cfg0.N) (d : Fin 64) : (iblk m c 4 t : Vec Ideal S1x64 .f32) (ix2 0 d)
    = (m ((c : Thread nD τ).loc main_arg2) : Vec Ideal S64 .f32) (ix1 d) := by
  blk_simp [iblk]
  rw [V_v1]
  have e : (win0_4.blk t).view.emb (ix2 0 d) = (ix2 0 d : S1x64.Idx) := by
    refine funext fun a => Fin.ext ?_
    blk_simp [idx4]
    match a with
    | ⟨0, _⟩ => rfl
    | ⟨1, _⟩ => show 0 * 64 + d.val = d.val; ring
  rw [e]
  pointwise

theorem read5 (t : Fin cfg0.N) (d : Fin 64) : (iblk m c 5 t : Vec Ideal S1x64 .f32) (ix2 0 d)
    = (m ((c : Thread nD τ).loc main_arg3) : Vec Ideal S64 .f32) (ix1 d) := by
  blk_simp [iblk]
  rw [V_v2]
  have e : (win0_5.blk t).view.emb (ix2 0 d) = (ix2 0 d : S1x64.Idx) := by
    refine funext fun a => Fin.ext ?_
    blk_simp [idx5]
    match a with
    | ⟨0, _⟩ => rfl
    | ⟨1, _⟩ => show 0 * 64 + d.val = d.val; ring
  rw [e]
  pointwise

theorem read6 (t : Fin cfg0.N) (d : Fin 64) : (iblk m c 6 t : Vec Ideal S1x64 .f32) (ix2 0 d)
    = (m ((c : Thread nD τ).loc main_arg4) : Vec Ideal S64 .f32) (ix1 d) := by
  blk_simp [iblk]
  rw [V_v3]
  have e : (win0_6.blk t).view.emb (ix2 0 d) = (ix2 0 d : S1x64.Idx) := by
    refine funext fun a => Fin.ext ?_
    blk_simp [idx6]
    match a with
    | ⟨0, _⟩ => rfl
    | ⟨1, _⟩ => show 0 * 64 + d.val = d.val; ring
  rw [e]
  pointwise

theorem read7 (t : Fin cfg0.N) (d : Fin 128) : (iblk m c 7 t : Vec Ideal S1x128 .f32) (ix2 0 d)
    = (m ((c : Thread nD τ).loc main_arg5) : Vec Ideal S128 .f32) (ix1 d) := by
  blk_simp [iblk]
  rw [V_v4]
  have e : (win0_7.blk t).view.emb (ix2 0 d) = (ix2 0 d : S1x128.Idx) := by
    refine funext fun a => Fin.ext ?_
    blk_simp [idx7]
    match a with
    | ⟨0, _⟩ => rfl
    | ⟨1, _⟩ => show 0 * 128 + d.val = d.val; ring
  rw [e]
  pointwise

/-- The weight of the second component, from the launch memory. -/
def lamM : EReal := lam (fun i => (m ((c : Thread nD τ).loc main_arg1) : Vec Ideal S64 .f32) (ix1 i))
  (fun i => (m ((c : Thread nD τ).loc main_arg2) : Vec Ideal S64 .f32) (ix1 i)) (fun i => (m ((c : Thread nD τ).loc main_arg3) : Vec Ideal S64 .f32) (ix1 i))
  (fun i => (m ((c : Thread nD τ).loc main_arg4) : Vec Ideal S64 .f32) (ix1 i))

include hx

/-- What a grid point leaves in its block of the output. -/
theorem point_out (t : Fin cfg0.N) (r : Fin 256) (d : Fin 128) : (outsAt0 m c t : Vec Ideal S256x128 .bf16) (ix2 r d)
    = out X (lamM m c) (fun e => (m ((c : Thread nD τ).loc main_arg5) : Vec Ideal S128 .f32) (ix1 e))
        (8192 * (grid0.coords t 0).val + (256 * (grid0.coords t 2).val + r.val)) (128 * (grid0.coords t 1).val + d.val) := by
  have h0 := c0 t
  have h1 := c1 t
  have h2 := c2 t
  have hr := r.isLt
  have hd := d.isLt
  unfold outsAt0
  rw [outA, blockOut_apply _ _ _ _ _ _ _ _ X (grid0.coords t 0).val (grid0.coords t 1).val (grid0.coords t 2).val h2
    (read0 m c X hx t) (read1 m c X hx t) (read2 m c X hx t)]
  simp only [read3, read4, read5, read6, read7]
  unfold out
  have e1 : (8192 * (grid0.coords t 0).val + (256 * (grid0.coords t 2).val + r.val)) / 8192 = (grid0.coords t 0).val := by omega
  have e2 : (8192 * (grid0.coords t 0).val + (256 * (grid0.coords t 2).val + r.val)) % 8192 = 256 * (grid0.coords t 2).val + r.val := by omega
  have e3 : (128 * (grid0.coords t 1).val + d.val) / 128 = (grid0.coords t 1).val := by omega
  have e4 : (128 * (grid0.coords t 1).val + d.val) % 128 = d.val := by omega
  rw [e1, e2, e3]
  congr 1
  exact Fin.ext e4.symm

/-- The output array after the run. -/
theorem final : (dats m 0 c).arrAt 8 cfg0.N
    = (fun i => out X (lamM m c) (fun e => (m ((c : Thread nD τ).loc main_arg5) : Vec Ideal S128 .f32) (ix1 e)) (i 0).val (i 1).val
        : Vec Ideal S16384x2048 .bf16) := by
  refine (dats m 0 c).arrAt_eq_of_covers 8 _ ?_ fun t hf y => ?_
  · refine Pipeline.Window.covers_of_index_surj _ rfl (by decide) fun β => ?_
    have b0 : (β 0).val < 64 := (β 0).isLt
    have b1 : (β 1).val < 16 := (β 1).isLt
    obtain ⟨t, h0, h1, h2⟩ := point ⟨(β 0).val / 32, by omega⟩ ⟨(β 1).val, b1⟩ ⟨(β 0).val % 32, by omega⟩
    refine ⟨t, fun a => ?_⟩
    have hi : (cfg0.win 8).index t = ![(grid0.coords t 0).val * 32 + (grid0.coords t 2).val, (grid0.coords t 1).val] := idx8 t
    rw [hi]
    match a with
    | ⟨0, _⟩ =>
      show (grid0.coords t 0).val * 32 + (grid0.coords t 2).val = (β 0).val
      rw [h0, h2]
      show (β 0).val / 32 * 32 + (β 0).val % 32 = (β 0).val
      omega
    | ⟨1, _⟩ => exact h1
  · blk_simp
    rw [after0_8]
    have hy : y = (ix2 (y 0) (y 1) : S256x128.Idx) := by
      funext a
      match a with
      | ⟨0, _⟩ => rfl
      | ⟨1, _⟩ => rfl
    have hp := point_out m c X hx t (y 0) (y 1)
    rw [← hy] at hp
    refine hp.trans ?_
    blk_simp [idx8]
    show out X _ _ _ _ = out X _ _ (((grid0.coords t 0).val * 32 + (grid0.coords t 2).val) * 256 + (y 0).val) ((grid0.coords t 1).val * 128 + (y 1).val)
    congr 1 <;> ring

end Reads

end Cert.KernelIdeal.Attn
-- ==== Proof.Attn.Ref.lean ====
module

public import proofs.«01_k».proof.Proof.Gen.ReferenceIdeal.Run
public import proofs.«01_k».proof.Proof.Attn.Target
public import Idealize.ShloMosaic.Lib.Pointwise

@[expose] public section

set_option maxRecDepth 16384
noncomputable section

namespace Cert.ReferenceIdeal.Attn

open Cert.ReferenceIdeal Cert.ReferenceIdeal.Gen Idealize.ShloMosaic Idealize.ShloMosaic.TcCoe Idealize.SL.Sem Cert.Attn

variable {F : FTy → Type} [FloatOps F]
variable (x : Vec F S16384x6144 .bf16) (a1 a2 a3 a4 : Vec F S64 .f32) (w : Vec F S128 .f32)

/-- The scaled queries. -/
def qv : Vec F S2x8192x16x2x64 .f32 :=
  mulf (shapeCast S2x8192x16x2x64 (extractStridedSlice S16384x2048 ![0, 0] (extf .f32 x bitsLt_bf16_f32) slices_S16384x6144_S16384x2048_0_0) shapeCasts_S16384x2048_S2x8192x16x2x64)
    (broadcastInDim S2x8192x16x2x64 ![] bcast_S_S2x8192x16x2x64 (constant S_ .f32 0x3E000000#32))

/-- The keys. -/
def kv : Vec F S2x8192x16x2x64 .f32 :=
  shapeCast S2x8192x16x2x64 (extractStridedSlice S16384x2048 ![0, 2048] (extf .f32 x bitsLt_bf16_f32) slices_S16384x6144_S16384x2048_0_2048) shapeCasts_S16384x2048_S2x8192x16x2x64

/-- The values. -/
def vv : Vec F S2x8192x16x128 .f32 :=
  shapeCast S2x8192x16x128 (extractStridedSlice S16384x2048 ![0, 4096] (extf .f32 x bitsLt_bf16_f32) slices_S16384x6144_S16384x2048_0_4096) shapeCasts_S16384x2048_S2x8192x16x128

/-- The weight of the second component. -/
def lv : Vec F S_ .f32 :=
  addf (subf (Host.exp (Host.reduceAdd (mulf a1 a2) (constant S_ .f32 0x00000000#32) reducesTo_S64_S_d0 h_S_))
    (Host.exp (Host.reduceAdd (mulf a3 a4) (constant S_ .f32 0x00000000#32) reducesTo_S64_S_d0 h_S_))) (constant S_ .f32 0x3EB60549#32)

/-- The causal mask. -/
def mask : Vec F S8192x8192 .i1 :=
  cmpi .sle (broadcastInDim S8192x8192 ![0, 1] bcast_S1x8192_S8192x8192_0_1 (broadcastInDim S1x8192 ![1] bcast_S8192_S1x8192_1 (iotaInDim S8192 32 0) : Vec F S1x8192 .i32) : Vec F S8192x8192 .i32)
    (broadcastInDim S8192x8192 ![0, 1] bcast_S8192x1_S8192x8192_0_1 (broadcastInDim S8192x1 ![0] bcast_S8192_S8192x1_0 (iotaInDim S8192 32 0) : Vec F S8192x1 .i32) : Vec F S8192x8192 .i32)

/-- The masked scores. -/
def sv (q k : Vec F S2x8192x16x2x64 .f32) : Vec F S2x16x2x8192x8192 .f32 :=
  select (broadcastInDim S2x16x2x8192x8192 ![3, 4] bcast_S8192x8192_S2x16x2x8192x8192_3_4 (mask (F := F)))
    (Host.dotGeneral dot_S2x8192x16x2x64_S2x8192x16x2x64_S2x16x2x8192x8192_4_4_1_1_023_023 none q k)
    (broadcastInDim S2x16x2x8192x8192 ![] bcast_S_S2x16x2x8192x8192 (id (constant S_ .f32 0xFF800000#32)))

/-- A row's greatest score. -/
def mv (s : Vec F S2x16x2x8192x8192 .f32) : Vec F S2x16x2x8192 .f32 :=
  maximumf (broadcastInDim S2x16x2x8192 ![] bcast_S_S2x16x2x8192 (constant S_ .f32 0xFF800000#32))
    (Host.reduce FloatOps.maximumf s (constant S_ .f32 0xFF800000#32) reducesTo_S2x16x2x8192x8192_S2x16x2x8192_d4 h_S_)

/-- The exponentials of the scores, below the greatest. -/
def ev (s : Vec F S2x16x2x8192x8192 .f32) (m : Vec F S2x16x2x8192 .f32) : Vec F S2x16x2x8192x8192 .f32 :=
  Host.exp (subf s (broadcastInDim S2x16x2x8192x8192 ![0, 1, 2, 3, 4] bcast_S2x16x2x8192x1_S2x16x2x8192x8192_0_1_2_3_4
    (broadcastInDim S2x16x2x8192x1 ![0, 1, 2, 3] bcast_S2x16x2x8192_S2x16x2x8192x1_0_1_2_3 m)))

/-- The softmax of each row. -/
def pv (e : Vec F S2x16x2x8192x8192 .f32) : Vec F S2x16x2x8192x8192 .f32 :=
  Host.divf e (broadcastInDim S2x16x2x8192x8192 ![0, 1, 2, 3, 4] bcast_S2x16x2x8192x1_S2x16x2x8192x8192_0_1_2_3_4
    (broadcastInDim S2x16x2x8192x1 ![0, 1, 2, 3] bcast_S2x16x2x8192_S2x16x2x8192x1_0_1_2_3
      (Host.reduceAdd e (constant S_ .f32 0x00000000#32) reducesTo_S2x16x2x8192x8192_S2x16x2x8192_d4 h_S_)))

/-- The first component's softmax less the weighted second's. -/
def dv (p : Vec F S2x16x2x8192x8192 .f32) (l : Vec F S_ .f32) : Vec F S2x16x8192x8192 .f32 :=
  subf (shapeCast S2x16x8192x8192 (extractStridedSlice S2x16x1x8192x8192 ![0, 0, 0, 0, 0] p slices_S2x16x2x8192x8192_S2x16x1x8192x8192_0_0_0_0_0) shapeCasts_S2x16x1x8192x8192_S2x16x8192x8192)
    (mulf (broadcastInDim S2x16x8192x8192 ![] bcast_S_S2x16x8192x8192 l)
      (shapeCast S2x16x8192x8192 (extractStridedSlice S2x16x1x8192x8192 ![0, 0, 1, 0, 0] p slices_S2x16x2x8192x8192_S2x16x1x8192x8192_0_0_1_0_0) shapeCasts_S2x16x1x8192x8192_S2x16x8192x8192))

/-- The values weighted by it. -/
def ov (v : Vec F S2x8192x16x128 .f32) (d : Vec F S2x16x8192x8192 .f32) : Vec F S2x8192x16x128 .f32 :=
  transpose S2x8192x16x128 [0, 3, 1, 2] (Host.dotGeneral dot_S2x8192x16x128_S2x16x8192x8192_S2x16x128x8192_1_3_3_2_02_01 none v d) transposes_S2x16x128x8192_S2x8192x16x128_0_3_1_2

/-- Each head's row divided by its root mean square, with the weight and the constant factor. -/
def nv (o : Vec F S2x8192x16x128 .f32) (w : Vec F S128 .f32) : Vec F S2x8192x16x128 .f32 :=
  mulf (mulf (mulf o (broadcastInDim S2x8192x16x128 ![0, 1, 2, 3] bcast_S2x8192x16x1_S2x8192x16x128_0_1_2_3
      (Host.rsqrt (addf (Host.divf (broadcastInDim S2x8192x16x1 ![0, 1, 2] bcast_S2x8192x16_S2x8192x16x1_0_1_2
          (Host.reduceAdd (mulf o o) (constant S_ .f32 0x00000000#32) reducesTo_S2x8192x16x128_S2x8192x16_d3 h_S_))
        (broadcastInDim S2x8192x16x1 ![] bcast_S_S2x8192x16x1 (constant S_ .f32 0x43000000#32)))
        (broadcastInDim S2x8192x16x1 ![] bcast_S_S2x8192x16x1 (constant S_ .f32 0x358637BD#32))))))
      (broadcastInDim S2x8192x16x128 ![0, 1, 2, 3] bcast_S1x1x1x128_S2x8192x16x128_0_1_2_3 (broadcastInDim S1x1x1x128 ![3] bcast_S128_S1x1x1x128_3 w)))
    (broadcastInDim S2x8192x16x128 ![] bcast_S_S2x8192x16x128 (constant S_ .f32 0x3F24FD5C#32))

/-- The whole of the reference. -/
def refOut : Vec F S16384x2048 .bf16 :=
  let s := sv (qv x) (kv x)
  truncf .bf16 (shapeCast S16384x2048 (nv (ov (vv x) (dv (pv (ev s (mv s))) (lv a1 a2 a3 a4))) w) shapeCasts_S2x8192x16x128_S16384x2048) bitsLt_bf16_f32

set_option maxHeartbeats 4000000 in
/-- The printed reference's result is the composition of the stages above. -/
theorem res_eq (m : (ℓ : Loc nD τ sig) → Buf (Elt F) ℓ) (c : Dev nD) :
    Cert.ReferenceIdeal.Value.res_out0 m c = refOut (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := by
  show Cert.ReferenceIdeal.Value.res_main_v61 m c = _
  unfold Cert.ReferenceIdeal.Value.res_main_v61
  rfl

end Cert.ReferenceIdeal.Attn
-- ==== Proof.Attn.RefVals.lean ====
module

public import proofs.«01_k».proof.Proof.Attn.Ref

@[expose] public section

set_option maxRecDepth 16384
noncomputable section

namespace Cert.ReferenceIdeal.Attn

open Cert.ReferenceIdeal Cert.ReferenceIdeal.Gen Idealize.ShloMosaic Idealize.ShloMosaic.TcCoe Idealize.SL.Sem Cert.Attn

variable (x : Vec Ideal S16384x6144 .bf16) (a1 a2 a3 a4 : Vec Ideal S64 .f32) (w : Vec Ideal S128 .f32)

theorem bot_word : Ideal.ofBits FTy.f32 4286578688#32 = ⊥ := by simp [Ideal.ofBits, Ideal.ieee]

theorem eighth_word : Ideal.ofBits FTy.f32 1040187392#32 = ((1 / 8 : ℝ) : EReal) := by
  simp [Ideal.ofBits, Ideal.ieee, -EReal.coe_mul]; norm_num

theorem qv_apply (b : Fin 2) (s : Fin 8192) (h : Fin 16) (c : Fin 2) (d : Fin 64) : qv x (ix5 b s h c d)
    = x (ix2 ⟨b.val * 8192 + s.val, by omega⟩ ⟨h.val * 128 + c.val * 64 + d.val, by omega⟩) * Ideal.ofBits FTy.f32 1040187392#32 := by
  pointwise [qv]

theorem kv_apply (b : Fin 2) (s : Fin 8192) (h : Fin 16) (c : Fin 2) (d : Fin 64) : kv x (ix5 b s h c d)
    = x (ix2 ⟨b.val * 8192 + s.val, by omega⟩ ⟨2048 + (h.val * 128 + c.val * 64 + d.val), by omega⟩) := by
  pointwise [kv]

theorem vv_apply (b : Fin 2) (s : Fin 8192) (h : Fin 16) (d : Fin 128) : vv x (ix4 b s h d)
    = x (ix2 ⟨b.val * 8192 + s.val, by omega⟩ ⟨4096 + (h.val * 128 + d.val), by omega⟩) := by
  pointwise [vv]

theorem lv_apply : lv a1 a2 a3 a4 ix0
    = lam (fun i => a1 (ix1 i)) (fun i => a2 (ix1 i)) (fun i => a3 (ix1 i)) (fun i => a4 (ix1 i)) := by
  unfold lam
  pointwise [lv]

theorem sle_val (t s : Fin 8192) : IntOp.cmpi CmpIPredicate.sle (BitVec.ofNat 32 t.val) (BitVec.ofNat 32 s.val)
    = if t.val ≤ s.val then 1#1 else 0#1 := by
  have e : ∀ k : Fin 8192, (BitVec.ofNat 32 k.val).toInt = (k.val : ℤ) := fun k => by
    rw [BitVec.toInt_eq_toNat_cond, BitVec.toNat_ofNat]
    have := k.isLt
    rw [Nat.mod_eq_of_lt (by omega)]
    split <;> omega
  show BitVec.ofBool ((BitVec.ofNat 32 t.val).sle (BitVec.ofNat 32 s.val)) = _
  unfold BitVec.sle
  rw [e, e]
  by_cases h : t.val ≤ s.val
  · simp [h]
  · simp [h]

theorem mask_apply (s t : Fin 8192) : mask (F := Ideal) (ix2 s t) = if t.val ≤ s.val then 1#1 else 0#1 := by
  rw [← sle_val]
  pointwise [mask]

theorem sv_apply (q k : Vec Ideal S2x8192x16x2x64 .f32) (b : Fin 2) (h : Fin 16) (c : Fin 2) (s t : Fin 8192) : sv q k (ix5 b h c s t)
    = if t.val ≤ s.val then ∑ d : Fin 64, q (ix5 b s h c d) * k (ix5 b t h c d) else ⊥ := by
  rw [← bot_word]
  pointwise [sv]
  rw [mask_apply]
  split <;> rfl

/-- A fold over the last of five axes, whatever the sizes. -/
theorem fold_last {α : Type} (f : α → α → α) [Std.Commutative f] [Std.Associative f] {n0 n1 n2 n3 n4 : ℕ} {u : Shape}
    (s : (⟨5, ![n0, n1, n2, n3, n4]⟩ : Shape).Idx → α) (z : u.Idx → α)
    (h' : (⟨5, ![n0, n1, n2, n3, n4]⟩ : Shape).ReducesTo [4] ⟨4, ![n0, n1, n2, n3]⟩)
    (hR : (⟨5, ![n0, n1, n2, n3, n4]⟩ : Shape).Reduces [4] ⟨4, ![n0, n1, n2, n3]⟩) (hu : 0 < u.numel)
    (a : Fin n0) (b : Fin n1) (c : Fin n2) (d : Fin n3) :
    Host.reduce f s z h' hu (ix4 a b c d)
      = (Finset.univ : Finset (Fin n4)).fold f (z (Shape.Idx.first hu)) fun t => s (ix5 a b c d t) := by
  rw [Host.reduce_eq_fold_single f s z h' hR hu]
  have hl : (s ∘ hR.lift (ix4 a b c d)) = fun t : Fin n4 => s (ix5 a b c d t) := by
    funext t
    refine congrArg s ?_
    funext i
    refine Fin.ext ?_
    rw [Shape.Reduces.lift_val]
    unfold Shape.Reduces.liftVal
    fin_cases i <;> rfl
  rw [hl]
  rfl

theorem reduces_last : S2x16x2x8192x8192.Reduces [4] S2x16x2x8192 := by decide

/-- The greatest of the last axis, whatever the sizes. -/
theorem max_last {n0 n1 n2 n3 n4 : ℕ} {u : Shape}
    (s : Vec Ideal (⟨5, ![n0, n1, n2, n3, n4]⟩ : Shape) .f32) (z : Vec Ideal u .f32) (y : Vec Ideal (⟨4, ![n0, n1, n2, n3]⟩ : Shape) .f32)
    (h' : (⟨5, ![n0, n1, n2, n3, n4]⟩ : Shape).ReducesTo [4] ⟨4, ![n0, n1, n2, n3]⟩)
    (hR : (⟨5, ![n0, n1, n2, n3, n4]⟩ : Shape).Reduces [4] ⟨4, ![n0, n1, n2, n3]⟩) (hu : 0 < u.numel)
    (a : Fin n0) (b : Fin n1) (c : Fin n2) (d : Fin n3) (hz : z (Shape.Idx.first hu) = (⊥ : EReal)) (hy : y (ix4 a b c d) = (⊥ : EReal)) :
    (maximumf y (Host.reduce (FloatOps.maximumf (F := Ideal) (φ := .f32)) s z h' hu) : Vec Ideal (⟨4, ![n0, n1, n2, n3]⟩ : Shape) .f32) (ix4 a b c d)
      = (Finset.univ : Finset (Fin n4)).fold max (⊥ : EReal) fun t => s (ix5 a b c d t) := by
  have hf := fold_last (max : EReal → EReal → EReal) s z h' hR hu a b c d
  rw [hz] at hf
  show max (y (ix4 a b c d)) (Host.reduce (max : EReal → EReal → EReal) s z h' hu (ix4 a b c d)) = _
  rw [hf, hy]
  exact max_eq_right bot_le

theorem mv_apply (s : Vec Ideal S2x16x2x8192x8192 .f32) (b : Fin 2) (h : Fin 16) (c : Fin 2) (i : Fin 8192) : mv s (ix4 b h c i)
    = Finset.univ.fold max ⊥ fun t : Fin 8192 => s (ix5 b h c i t) := by
  unfold mv
  exact max_last s _ _ reducesTo_S2x16x2x8192x8192_S2x16x2x8192_d4 reduces_last h_S_ b h c i bot_word bot_word

theorem ev_apply (s m) (b : Fin 2) (h : Fin 16) (c : Fin 2) (i t : Fin 8192) : ev (F := Ideal) s m (ix5 b h c i t)
    = Ideal.exp (s (ix5 b h c i t) - m (ix4 b h c i)) := by
  pointwise [ev]

theorem pv_apply (e) (b : Fin 2) (h : Fin 16) (c : Fin 2) (i t : Fin 8192) : pv (F := Ideal) e (ix5 b h c i t)
    = Ideal.div (e (ix5 b h c i t)) (∑ k : Fin 8192, e (ix5 b h c i k)) := by
  pointwise [pv]

theorem dv_apply (p l) (b : Fin 2) (h : Fin 16) (i t : Fin 8192) : dv (F := Ideal) p l (ix4 b h i t)
    = p (ix5 b h 0 i t) - l ix0 * p (ix5 b h 1 i t) := by
  pointwise [dv]

theorem ov_apply (v d) (b : Fin 2) (i : Fin 8192) (h : Fin 16) (e : Fin 128) : ov (F := Ideal) v d (ix4 b i h e)
    = ∑ t : Fin 8192, v (ix4 b t h e) * d (ix4 b h i t) := by
  pointwise [ov]

theorem nv_apply (o) (b : Fin 2) (i : Fin 8192) (h : Fin 16) (e : Fin 128) : nv (F := Ideal) o w (ix4 b i h e)
    = headNorm (fun e => o (ix4 b i h e)) (fun e => w (ix1 e)) e := by
  unfold headNorm
  pointwise [nv]

theorem refOut_split (r : Fin 16384) (j : Fin 2048) : refOut x a1 a2 a3 a4 w (ix2 r j)
    = nv (ov (vv x) (dv (pv (ev (sv (qv x) (kv x)) (mv (sv (qv x) (kv x))))) (lv a1 a2 a3 a4))) w
      (ix4 ⟨r.val / 8192, by omega⟩ ⟨r.val % 8192, by omega⟩ ⟨j.val / 128, by omega⟩ ⟨j.val % 128, by omega⟩) := by
  pointwise [refOut]

variable (X : ℕ → ℕ → ℝ)

/-- The masked scores of finite queries and keys. -/
theorem scores (hx : ∀ (i : Fin 16384) (j : Fin 6144), x (ix2 i j) = (X i.val j.val : EReal))
    (b : Fin 2) (h : Fin 16) (c : Fin 2) (i t : Fin 8192) : sv (qv x) (kv x) (ix5 b h c i t)
      = if t.val ≤ i.val then (sc X b.val h.val c.val i.val t.val : EReal) else ⊥ := by
  rw [sv_apply]
  refine if_congr Iff.rfl ?_ rfl
  unfold sc
  rw [← coe_sum]
  refine Finset.sum_congr rfl fun d _ => ?_
  rw [qv_apply, kv_apply, hx, hx, eighth_word, ← EReal.coe_mul, ← EReal.coe_mul]
  congr 3 <;> (try congr 1) <;> simp only [] <;> ring

/-- The softmax of the masked scores. -/
theorem probs (hx : ∀ (i : Fin 16384) (j : Fin 6144), x (ix2 i j) = (X i.val j.val : EReal))
    (b : Fin 2) (h : Fin 16) (c : Fin 2) (i t : Fin 8192) :
    pv (ev (sv (qv x) (kv x)) (mv (sv (qv x) (kv x)))) (ix5 b h c i t)
      = (((if t.val ≤ i.val then Real.exp (sc X b.val h.val c.val i.val t.val) else 0) / den X b.val h.val c.val i.val : ℝ) : EReal) := by
  rw [pv_apply]
  simp only [ev_apply, mv_apply, scores x X hx]
  rw [softmax_real (fun k : Fin 8192 => k.val ≤ i.val) 0 (Nat.zero_le _) (fun k => sc X b.val h.val c.val i.val k.val) t]
  rw [sum_causal (fun k => Real.exp (sc X b.val h.val c.val i.val k)) 8192 i.val i.isLt]
  rfl

/-- The difference of the two components' attentions. -/
theorem mixed (hx : ∀ (i : Fin 16384) (j : Fin 6144), x (ix2 i j) = (X i.val j.val : EReal)) (L : ℝ) (hL : lv a1 a2 a3 a4 ix0 = (L : EReal))
    (b : Fin 2) (i : Fin 8192) (h : Fin 16) (e : Fin 128) :
    ov (vv x) (dv (pv (ev (sv (qv x) (kv x)) (mv (sv (qv x) (kv x))))) (lv a1 a2 a3 a4)) (ix4 b i h e)
      = mix X (lv a1 a2 a3 a4 ix0) b.val h.val i.val e := by
  rw [ov_apply]
  simp only [dv_apply, probs x X hx, vv_apply, hx]
  rw [hL]
  unfold mix att
  rw [← EReal.coe_mul, ← EReal.coe_sub]
  simp only [← EReal.coe_mul, ← EReal.coe_sub]
  rw [coe_sum]
  congr 1
  simp only [Fin.val_zero, Fin.val_one]
  have hc : ∀ c : ℕ, (∑ t ∈ Finset.range (i.val + 1), Real.exp (sc X b.val h.val c i.val t) * X (8192 * b.val + t) (4096 + 128 * h.val + e.val))
      = ∑ t : Fin 8192, if t.val ≤ i.val then Real.exp (sc X b.val h.val c i.val t.val) * X (8192 * b.val + t.val) (4096 + 128 * h.val + e.val) else 0 :=
    fun c => (sum_causal (fun t => Real.exp (sc X b.val h.val c i.val t) * X (8192 * b.val + t) (4096 + 128 * h.val + e.val)) 8192 i.val i.isLt).symm
  rw [hc, hc, Finset.sum_div, Finset.sum_div, Finset.mul_sum, ← Finset.sum_sub_distrib]
  refine Finset.sum_congr rfl fun t _ => ?_
  have ea : b.val * 8192 + t.val = 8192 * b.val + t.val := by ring
  have eb : 4096 + (h.val * 128 + e.val) = 4096 + 128 * h.val + e.val := by ring
  rw [ea, eb]
  split <;> ring

/-- The reference's result, element by element. -/
theorem refOut_apply (hx : ∀ (i : Fin 16384) (j : Fin 6144), x (ix2 i j) = (X i.val j.val : EReal)) (L : ℝ)
    (hL : lv a1 a2 a3 a4 ix0 = (L : EReal)) (r : Fin 16384) (j : Fin 2048) :
    refOut x a1 a2 a3 a4 w (ix2 r j)
      = out X (lam (fun i => a1 (ix1 i)) (fun i => a2 (ix1 i)) (fun i => a3 (ix1 i)) (fun i => a4 (ix1 i))) (fun e => w (ix1 e)) r.val j.val := by
  rw [refOut_split, nv_apply]
  unfold out
  rw [← lv_apply]
  congr 1
  funext e
  exact mixed x a1 a2 a3 a4 X hx L hL _ _ _ e

end Cert.ReferenceIdeal.Attn
-- ==== Proof.Attn.Claims.lean ====
module

public import proofs.«01_k».proof.Defs
public import proofs.«01_k».proof.Proof.Attn.Blocks
public import proofs.«01_k».proof.Proof.Attn.RefVals
public import proofs.«01_k».proof.Proof.Gen.KernelIdeal
public import proofs.«01_k».proof.Proof.Gen.ReferenceIdeal

@[expose] public section

set_option maxRecDepth 16384
noncomputable section

namespace Cert.AttnClaims

open Idealize.ShloMosaic Idealize.ShloMosaic.TcCoe Idealize.SL.Sem Cert.Attn

/-- The side conditions that the printed precondition states. -/
theorem preFacts : Cert.Pre_finite_inputs.Facts := ⟨by decide, by decide⟩

/-- An extended real below plus infinity in absolute value is a real. -/
theorem real_of_abs {a : EReal} (h : Ideal.cmp CmpFPredicate.olt (max a (-a)) ⊤ = 1#1) : ∃ r : ℝ, a = (r : EReal) := by
  have hlt : max a (-a) < ⊤ := by
    by_contra hn
    have : Ideal.cmp CmpFPredicate.olt (max a (-a)) ⊤ = 0#1 := by
      unfold Ideal.cmp
      simp [hn]
    rw [this] at h
    exact absurd h (by decide)
  induction a using EReal.rec with
  | bot => exact absurd hlt (by simp)
  | coe r => exact ⟨r, rfl⟩
  | top => exact absurd hlt (by simp)

theorem top_bf16 : Ideal.ofBits FTy.bf16 32640#16 = ⊤ := by simp [Ideal.ofBits, Ideal.ieee]
theorem top_f32 : Ideal.ofBits FTy.f32 2139095040#32 = ⊤ := by simp [Ideal.ofBits, Ideal.ieee]

/-- What the precondition says of the array of queries, keys and values. -/
theorem finite_qkv (x : Vec Ideal Cert.KernelIdeal.S16384x6144 .bf16)
    (hb : Cert.Pre_finite_inputs.S_.BroadcastsInDim Cert.Pre_finite_inputs.S16384x6144 (![] : Fin 0 → Fin Cert.Pre_finite_inputs.S16384x6144.rank))
    (h : (cmpf .olt (Host.absf x) (broadcastInDim Cert.Pre_finite_inputs.S16384x6144 ![] hb (constant (F := Ideal) Cert.Pre_finite_inputs.S_ .bf16 0x7F80#16)) : IVec Cert.Pre_finite_inputs.S16384x6144 1) = fun _ => 1#1)
    (i : Cert.KernelIdeal.S16384x6144.Idx) : ∃ r : ℝ, x i = (r : EReal) := by
  refine real_of_abs ?_
  rw [← top_bf16]
  exact congrFun h i

/-- What it says of a vector of 64. -/
theorem finite_vec (x : Vec Ideal Cert.KernelIdeal.S64 .f32)
    (hb : Cert.Pre_finite_inputs.S_.BroadcastsInDim Cert.Pre_finite_inputs.S64 (![] : Fin 0 → Fin Cert.Pre_finite_inputs.S64.rank))
    (h : (cmpf .olt (Host.absf x) (broadcastInDim Cert.Pre_finite_inputs.S64 ![] hb (constant (F := Ideal) Cert.Pre_finite_inputs.S_ .f32 0x7F800000#32)) : IVec Cert.Pre_finite_inputs.S64 1) = fun _ => 1#1)
    (i : Cert.KernelIdeal.S64.Idx) : ∃ r : ℝ, x i = (r : EReal) := by
  refine real_of_abs ?_
  rw [← top_f32]
  exact congrFun h i

/-- The last constant of the second component's weight is a real. -/
theorem lam_word : ∃ r : ℝ, Ideal.ofBits FTy.f32 1052116297#32 = (r : EReal) := by
  refine ⟨11928905 / 2 ^ 25, ?_⟩
  simp [Ideal.ofBits, Ideal.ieee, -EReal.coe_mul]
  norm_num

/-- From finite vectors the weight of the second component is a real. -/
theorem lam_real (a1 a2 a3 a4 : Fin 64 → EReal) (h1 : ∀ i, ∃ r : ℝ, a1 i = (r : EReal)) (h2 : ∀ i, ∃ r : ℝ, a2 i = (r : EReal))
    (h3 : ∀ i, ∃ r : ℝ, a3 i = (r : EReal)) (h4 : ∀ i, ∃ r : ℝ, a4 i = (r : EReal)) : ∃ L : ℝ, lam a1 a2 a3 a4 = (L : EReal) := by
  choose b1 h1 using h1
  choose b2 h2 using h2
  choose b3 h3 using h3
  choose b4 h4 using h4
  obtain ⟨w, hw⟩ := lam_word
  unfold lam
  simp only [h1, h2, h3, h4, hw, ← EReal.coe_mul, coe_sum, Ideal.exp_coe, ← EReal.coe_sub, ← EReal.coe_add]
  exact ⟨_, rfl⟩

/-- Over the reals the kernel's result is the reference's, for finite queries, keys, values and weight vectors. -/
theorem algebraic : Cert.algebraic_KernelIdeal_ReferenceIdeal_pre_finite_inputs (hKernelIdeal := Cert.KernelIdeal.Gen.facts)
    (hReferenceIdeal := Cert.ReferenceIdeal.Gen.facts) (hPre_finite_inputs := preFacts) := by
  intro m g m' g' hpre hag
  have hX : ∀ c : Dev Cert.KernelIdeal.nD, ∃ X : ℕ → ℕ → ℝ, ∀ (i : Fin 16384) (j : Fin 6144),
      (m ((c.tc : Thread Cert.KernelIdeal.nD Cert.KernelIdeal.τ).loc Cert.KernelIdeal.main_arg0) : Vec Ideal Cert.KernelIdeal.S16384x6144 .bf16) (ix2 i j) = (X i.val j.val : EReal) := by
    intro c
    have hf := finite_qkv _ _ (hpre c).1
    choose f hf using hf
    exact ⟨fun i j => if h : i < 16384 ∧ j < 6144 then f (ix2 ⟨i, h.1⟩ ⟨j, h.2⟩) else 0, fun i j => by
      have e : (if h : i.val < 16384 ∧ j.val < 6144 then f (ix2 ⟨i.val, h.1⟩ ⟨j.val, h.2⟩) else 0) = f (ix2 i j) :=
        dif_pos ⟨i.isLt, j.isLt⟩
      rw [hf, ← e]⟩
  choose X hX using hX
  have hL : ∀ c : Dev Cert.KernelIdeal.nD, ∃ L : ℝ, Cert.KernelIdeal.Attn.lamM m c = (L : EReal) := fun c =>
    lam_real _ _ _ _ (fun i => finite_vec _ _ (hpre c).2.1 _) (fun i => finite_vec _ _ (hpre c).2.2.1 _)
      (fun i => finite_vec _ _ (hpre c).2.2.2.1 _) (fun i => finite_vec _ _ (hpre c).2.2.2.2 _)
  refine ⟨fun c => fun i => out (X c) (Cert.KernelIdeal.Attn.lamM m c)
      (fun e => (m ((c.tc : Thread Cert.KernelIdeal.nD Cert.KernelIdeal.τ).loc Cert.KernelIdeal.main_arg5) : Vec Ideal Cert.KernelIdeal.S128 .f32) (ix1 e)) (i 0).val (i 1).val, ?_, ?_⟩
  · exact (θ_run _ _ _).mono (fun _ h c => ⟨(h c).1.trans (Cert.KernelIdeal.Attn.final m c (X c) (hX c)), (h c).2⟩)
      (Cert.KernelIdeal.Value.run_blocks m g)
  · refine (θ_run _ _ _).mono (fun _ h c => ⟨(h c).1.trans ?_, (h c).2⟩) (Cert.ReferenceIdeal.Value.run m' g')
    refine (Cert.ReferenceIdeal.Attn.res_eq m' c).trans ?_
    obtain ⟨h0, h1, h2, h3, h4, h5⟩ := hag c
    rw [h0, h1, h2, h3, h4, h5]
    obtain ⟨L, hL⟩ := hL c
    funext j
    obtain ⟨r, k, rfl⟩ : ∃ (r : Fin 16384) (k : Fin 2048), j = ix2 r k := ⟨j 0, j 1, by
      funext a
      match a with
      | ⟨0, _⟩ => rfl
      | ⟨1, _⟩ => rfl⟩
    exact Cert.ReferenceIdeal.Attn.refOut_apply _ _ _ _ _ _ (X c) (hX c) L
      ((Cert.ReferenceIdeal.Attn.lv_apply _ _ _ _).trans hL) r k

end Cert.AttnClaims
-- ==== Proof.Attn3.KernelRun.lean ====
module

public import proofs.«01_k».proof.Proof.Gen.Kernel11Ideal.Value
public import Idealize.ShloMosaic.Lib.Pointwise
public import Idealize.ShloMosaic.Lib.WritesUnit
public import Idealize.ShloMosaic.Lib.VecWindow

@[expose] public section

set_option maxRecDepth 16384
noncomputable section

namespace Cert.Kernel11Ideal.Attn

open Cert.Kernel11Ideal Cert.Kernel11Ideal.Gen Idealize.ShloMosaic Idealize.ShloMosaic.TcCoe Idealize.SL.Sem

variable {F : FTy → Type} [FloatOps F]

/-- Both offsets of a whole-block access are zero. -/
theorem hz : (![0, 0] : Fin 2 → Nat) = fun _ => 0 := funext fun a => by fin_cases a <;> rfl

/-- The `k`-th block of 256 rows of a sequence of keys or values. -/
def rows (x : Vec F S8192x128 .bf16) (k : ℕ) : Vec F S256x128 .bf16 :=
  fun j => x (ix2 ⟨(256 * k + (j 0).val) % 8192, Nat.mod_lt _ (by norm_num)⟩ (j 1))

/-- The two masked copies of the scaled queries, one above the other. -/
def qsOf (x0 : Vec F S256x128 .bf16) : Vec F S512x128 .bf16 :=
  fun j => if h : (j 0).val < 256 then k0_pay16 x0 (ix2 ⟨(j 0).val, h⟩ (j 1))
    else k0_pay17 x0 (ix2 ⟨(j 0).val - 256, by have : (j 0).val < 512 := (j 0).isLt; omega⟩ (j 1))

/-- The running maximum, the running sum and the running product. -/
abbrev State (F : FTy → Type) [FloatOps F] := Vec F S512x128 .f32 × Vec F S512x128 .f32 × Vec F S512x128 .f32

/-- One unmasked block of keys and values taken into the running state. -/
def step (kb vb : Vec F S256x128 .bf16) (qs : Vec F S512x128 .bf16) (s : State F) : State F :=
  (k0_pay3 kb qs s.1, k0_pay6 kb qs s.1 s.2.1, k0_pay7 kb vb qs s.1 s.2.2)

/-- The running state after `n` unmasked blocks. -/
def iter (x1 x2 : Vec F S8192x128 .bf16) (qs : Vec F S512x128 .bf16) : ℕ → State F
  | 0 => (k0_pay18, k0_pay19, k0_pay20)
  | n + 1 => step (rows x1 n) (rows x2 n) qs (iter x1 x2 qs n)

/-- A load of 256 rows at row `256 * k` reads the `k`-th block. -/
theorem ld_rows (x : Vec F S8192x128 .bf16) (off : Fin 2 → ℕ) (inb : ∀ a, off a + S256x128.size a ≤ S8192x128.size a)
    (k : ℕ) (h : off = ![256 * k, 0]) : View.ld (Val := Elt F) (e' := .bf16) x (Rect.unit (s := S8192x128) off S256x128.size inb) = rows x k := by
  subst h
  funext j
  rw [View.ld]
  unfold rows
  congr 1
  have h0 : 256 * k + 256 ≤ 8192 := inb 0
  have hj : (j 0).val < 256 := (j 0).isLt
  refine (eq_ix2 _).trans ?_
  congr 1
  · apply Fin.ext
    show 256 * k + 1 * (j 0).val = (256 * k + (j 0).val) % 8192
    omega
  · apply Fin.ext
    show 0 + 1 * (j 1).val = (j 1).val
    omega

/-- The first loop takes as many trips as there are blocks before the diagonal one. -/
theorem trips1 (i : grid0.Coords) : (k0_t1_loop i).trips = (i 2).val := by
  have h : ∀ q : Fin 32, Scf.trips (0#32) (Scalar.addi 0#32 (Scalar.muli (Scalar.divsi (Scalar.subi (BitVec.ofNat 32 q.val) 0#32) 1#32) 1#32)) (1#32) = q.val := by decide +kernel
  exact h (i 2)

/-- The second loop takes no trip. -/
theorem trips2 (i : grid0.Coords) : (k0_t2_loop i).trips = 0 := Nat.le_zero.1 (k0_t2_abs i).2.1

set_option maxHeartbeats 1000000 in
/-- What one trip of the first loop leaves in the three scratch buffers. -/
theorem trip_read (c : Dev nD) (i : grid0.Coords) (arg3 : Memref sig .tc .vmem S256x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S256x128 .bf16) (harg11 : arg11.IsWhole) (arg12 : Memref sig .tc .vmem S512x128 .bf16) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
    (a2 a15 a29 : BitVec 32) (X4 : BufTy.Contents (Elt F) arg4.view.ty) (X5 : BufTy.Contents (Elt F) arg5.view.ty)
    (X12 : BufTy.Contents (Elt F) arg12.view.ty) (k : Fin (k0_t1_loop i).trips)
    (f13 : BufTy.Contents (Elt F) arg13.view.ty) (f14 : BufTy.Contents (Elt F) arg14.view.ty) (f15 : BufTy.Contents (Elt F) arg15.view.ty)
    (g13 : BufTy.Contents (Elt F) arg13.view.ty) (g14 : BufTy.Contents (Elt F) arg14.view.ty) (g15 : BufTy.Contents (Elt F) arg15.view.ty)
    (L13 L14 L15 : List (View.Piece (Elt F) S512x128 .f32)) (s : State F)
    (h13 : arg13.view.read (Elt F) f13 = s.1) (h14 : arg14.view.read (Elt F) f14 = s.2.1) (h15 : arg15.view.read (Elt F) f15 = s.2.2) :
    let t := tripL_k0_t1 (F := F) Variants.none c none i arg3 harg3 arg4 harg4 arg5 harg5 arg6 harg6 arg7 harg7 arg8 harg8 arg9 harg9 arg10 harg10 arg11 harg11 arg12 harg12 arg13 harg13 arg14 harg14 arg15 harg15 a2 a15 a29 X4 X5 X12 k f13 f14 f15
    let s' := step (rows (arg4.view.read (Elt F) X4) k.val) (rows (arg5.view.read (Elt F) X5) k.val) (arg12.view.read (Elt F) X12) s
    arg13.view.read (Elt F) (arg13.view.writes (Elt F) g13 (t.1 ++ L13)) = s'.1
      ∧ arg14.view.read (Elt F) (arg14.view.writes (Elt F) g14 (t.2.1 ++ L14)) = s'.2.1
      ∧ arg15.view.read (Elt F) (arg15.view.writes (Elt F) g15 (t.2.2 ++ L15)) = s'.2.2 := by
  intro t s'
  have e1 := ld_rows (arg4.view.read (Elt F) X4) (k0_off1 i k) (k0_off1_inb i k) k.val (k0_off1_eq i k)
  have e2 := ld_rows (arg5.view.read (Elt F) X5) (k0_off1 i k) (k0_off1_inb i k) k.val (k0_off1_eq i k)
  refine ⟨?_, ?_, ?_⟩
  · subst t; unfold tripL_k0_t1 trip_k0_t1; dsimp only; sl_unfold_words
    refine (View.read_writes_full _ _ _ _ _).trans ?_
    simp only [View.readAt_eq_ld, View.ld_unit_zero (S := S512x128) hz, h13]
    rw [show k0_pay21 (F := F) = fun x => x from funext fun x => shapeCast_self _ _]
    exact congrArg (fun kb => k0_pay3 kb _ _) e1
  · subst t; unfold tripL_k0_t1 trip_k0_t1; dsimp only; sl_unfold_words
    refine (View.read_writes_full _ _ _ _ _).trans ?_
    simp only [View.readAt_eq_ld, View.ld_unit_zero (S := S512x128) hz, h13, h14]
    exact congrArg (fun kb => k0_pay6 kb _ _ _) e1
  · subst t; unfold tripL_k0_t1 trip_k0_t1; dsimp only; sl_unfold_words
    refine (View.read_writes_full _ _ _ _ _).trans ?_
    simp only [View.readAt_eq_ld, View.ld_unit_zero (S := S512x128) hz, h13, h15]
    exact congrArg₂ (fun kb vb => k0_pay7 kb vb _ _ _) e1 e2

/-- What `n` trips of the first loop leave in the three scratch buffers. -/
theorem pb1_read (c : Dev nD) (i : grid0.Coords) (arg3 : Memref sig .tc .vmem S256x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S256x128 .bf16) (harg11 : arg11.IsWhole) (arg12 : Memref sig .tc .vmem S512x128 .bf16) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
    (a2 a15 a29 : BitVec 32) (X4 : BufTy.Contents (Elt F) arg4.view.ty) (X5 : BufTy.Contents (Elt F) arg5.view.ty)
    (X12 : BufTy.Contents (Elt F) arg12.view.ty)
    (g13 : BufTy.Contents (Elt F) arg13.view.ty) (g14 : BufTy.Contents (Elt F) arg14.view.ty) (g15 : BufTy.Contents (Elt F) arg15.view.ty)
    (h13 : arg13.view.read (Elt F) g13 = k0_pay18) (h14 : arg14.view.read (Elt F) g14 = k0_pay19) (h15 : arg15.view.read (Elt F) g15 = k0_pay20)
    (n : ℕ) (hn : n ≤ (k0_t1_loop i).trips) :
    let t := pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 a2 a15 a29 X4 X5 X12 g13 g14 g15 n
    let s' := iter (arg4.view.read (Elt F) X4) (arg5.view.read (Elt F) X5) (arg12.view.read (Elt F) X12) n
    arg13.view.read (Elt F) (arg13.view.writes (Elt F) g13 t.1) = s'.1
      ∧ arg14.view.read (Elt F) (arg14.view.writes (Elt F) g14 t.2.1) = s'.2.1
      ∧ arg15.view.read (Elt F) (arg15.view.writes (Elt F) g15 t.2.2) = s'.2.2 := by
  induction n with
  | zero => exact ⟨h13, h14, h15⟩
  | succ n ih =>
    intro t s'
    obtain ⟨i1, i2, i3⟩ := ih (by omega)
    have hs := pb_k0_t1_succ (F := F) Variants.none c none i arg3 harg3 arg4 harg4 arg5 harg5 arg6 harg6 arg7 harg7 arg8 harg8 arg9 harg9 arg10 harg10 arg11 harg11 arg12 harg12 arg13 harg13 arg14 harg14 arg15 harg15 a2 a15 a29 X4 X5 X12 g13 g14 g15 ⟨n, hn⟩
    have ht : t = _ := hs
    rw [ht]
    exact trip_read c i arg3 harg3 arg4 harg4 arg5 harg5 arg6 harg6 arg7 harg7 arg8 harg8 arg9 harg9 arg10 harg10 arg11 harg11 arg12 harg12 arg13 harg13 arg14 harg14 arg15 harg15 a2 a15 a29 X4 X5 X12 ⟨n, hn⟩ _ _ _ _ _ _ _ _ _ _ i1 i2 i3

/-- What the body leaves in the query scratch. -/
theorem qs_read (arg12 : Memref sig .tc .vmem S512x128 .bf16) (g : BufTy.Contents (Elt F) arg12.view.ty)
    (inb1 : ∀ a, (![256, 0] : Fin 2 → ℕ) a + S256x128.size a ≤ S512x128.size a)
    (inb2 : ∀ a, (![0, 0] : Fin 2 → ℕ) a + S256x128.size a ≤ S512x128.size a) (x0 : Vec F S256x128 .bf16) :
    arg12.view.read (Elt F) (arg12.view.writes (Elt F) g
      [⟨Rect.unit (s := S512x128) ![256, 0] S256x128.size inb1, k0_pay17 x0⟩, ⟨Rect.unit (s := S512x128) ![0, 0] S256x128.size inb2, k0_pay16 x0⟩])
      = qsOf x0 := by
  funext j
  have hj : (j 0).val < 512 := (j 0).isLt
  unfold qsOf
  by_cases h : (j 0).val < 256
  · rw [dif_pos h]
    refine (View.read_writes_cons_rows_of_not_mem (d := S512x128.size) _ _ inb1 _ _ j rfl rfl (Or.inl h)).trans ?_
    exact View.read_writes_cons_rows_of_mem (d := S512x128.size) _ _ inb2 _ _ j _ rfl (Nat.zero_add _).symm rfl
  · rw [dif_neg h]
    exact View.read_writes_cons_rows_of_mem (d := S512x128.size) _ _ inb1 _ _ j (ix2 ⟨(j 0).val - 256, by omega⟩ (j 1)) rfl (by show (j 0).val = 256 + ((j 0).val - 256); omega) rfl

/-- What one block of the kernel computes, from its input blocks: `n` unmasked blocks of keys and
    values, then the masked one on the diagonal. -/
def blockOut (n : ℕ) (x0 : Vec F S256x128 .bf16) (x1 x2 : Vec F S8192x128 .bf16) (x3 x4 x5 x6 : Vec F S1x64 .f32)
    (x7 : Vec F S1x128 .f32) : Vec F S256x128 .bf16 :=
  let s := iter x1 x2 (qsOf x0) n
  let kb := rows x1 n
  let vb := rows x2 n
  let l := k0_pay27 kb (qsOf x0) s.1 s.2.1
  let a := k0_pay28 vb (k0_pay25 kb (qsOf x0) s.1) (k0_pay26 kb (qsOf x0) s.1) s.2.2
  k0_pay1 (k0_pay31 a l) (k0_pay32 x3 x4 x5 x6 a l) x7

set_option maxHeartbeats 1000000 in
/-- The body's output block is `blockOut` of its input blocks. -/
theorem outA (c : Dev nD) (i : grid0.Coords) (arg3 : Memref sig .tc .vmem S256x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S256x128 .bf16) (harg11 : arg11.IsWhole) (arg12 : Memref sig .tc .vmem S512x128 .bf16) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
    (x0 : Vec F S256x128 .bf16) (x1 : Vec F S8192x128 .bf16) (x2 : Vec F S8192x128 .bf16) (x3 : Vec F S1x64 .f32) (x4 : Vec F S1x64 .f32) (x5 : Vec F S1x64 .f32) (x6 : Vec F S1x64 .f32) (x7 : Vec F S1x128 .f32) :
    out0_A_8 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 = blockOut (i 2).val x0 x1 x2 x3 x4 x5 x6 x7 := by
  have e1 := ld_rows x1 (k0_off3 i) (k0_off3_inb i) (i 2).val (k0_off3_eq i)
  have e2 := ld_rows x2 (k0_off3 i) (k0_off3_inb i) (i 2).val (k0_off3_eq i)
  unfold out0_A_8
  rw [View.read_writes_eq_canon _ _ _ (cover0_A_8 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7)]
  unfold kernelRun0_A
  dsimp only
  sl_unfold_words
  rw [View.canon_unit_zero hz]
  have t2 : Scf.trips (k0_t2_loop i).lb (k0_t2_loop i).ub (k0_t2_loop i).st = 0 := trips2 i
  have t1 : Scf.trips (k0_t1_loop i).lb (k0_t1_loop i).ub (k0_t1_loop i).st = (i 2).val := trips1 i
  simp only [View.readCov, View.readAt_eq_ld, View.ld_unit_zero (S := S512x128) hz, View.ld_unit_zero (S := S256x128) hz,
    View.ld_unit_zero (S := S1x64) hz, View.ld_unit_zero (S := S1x128) hz, Memref.IsWhole.read_unread, View.read_writes_full, t1, t2]
  simp only [pb_k0_t2, List.nil_append, View.writes_append]
  have q := qs_read (F := F) arg12 arg12.view.junk inb_S512x128_S256x128_256_0 inb_S512x128_S256x128_0_0 x0
  have r13 : arg13.view.read (Elt F) (arg13.view.writes (Elt F) arg13.view.junk [⟨Rect.unit ![0, 0] S512x128.size inb_S512x128_S512x128_0_0, k0_pay18⟩]) = k0_pay18 :=
    View.read_writes_full _ _ _ _ _
  have r14 : arg14.view.read (Elt F) (arg14.view.writes (Elt F) arg14.view.junk [⟨Rect.unit ![0, 0] S512x128.size inb_S512x128_S512x128_0_0, k0_pay19⟩]) = k0_pay19 :=
    View.read_writes_full _ _ _ _ _
  have r15 : arg15.view.read (Elt F) (arg15.view.writes (Elt F) arg15.view.junk [⟨Rect.unit ![0, 0] S512x128.size inb_S512x128_S512x128_0_0, k0_pay20⟩]) = k0_pay20 :=
    View.read_writes_full _ _ _ _ _
  generalize arg12.view.writes (Elt F) arg12.view.junk _ = g12 at q ⊢
  generalize arg13.view.writes (Elt F) arg13.view.junk _ = g13 at r13 ⊢
  generalize arg14.view.writes (Elt F) arg14.view.junk _ = g14 at r14 ⊢
  generalize arg15.view.writes (Elt F) arg15.view.junk _ = g15 at r15 ⊢
  obtain ⟨p1, p2, p3⟩ := pb1_read c i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) 0#32 (Scalar.subi (BitVec.ofNat 32 (i 2).val) 0#32)
    (harg4.unread x1) (harg5.unread x2) g12 g13 g14 g15 r13 r14 r15 (i 2).val (trips1 i).ge
  rw [q] at p1 p2 p3 ⊢
  rw [harg4.read_unread, harg5.read_unread] at p1 p2 p3
  rw [p1, p2, p3]
  refine (congrArg₂ (fun a l => k0_pay1 (k0_pay31 a l) (k0_pay32 x3 x4 x5 x6 a l) x7) (View.read_writes_full _ _ _ _ _) (View.read_writes_full _ _ _ _ _)).trans ?_
  exact congrArg₂ (fun kb vb =>
    let s := iter x1 x2 (qsOf x0) (i 2).val
    let l := k0_pay27 kb (qsOf x0) s.1 s.2.1
    let a := k0_pay28 vb (k0_pay25 kb (qsOf x0) s.1) (k0_pay26 kb (qsOf x0) s.1) s.2.2
    k0_pay1 (k0_pay31 a l) (k0_pay32 x3 x4 x5 x6 a l) x7) e1 e2

end Cert.Kernel11Ideal.Attn
-- ==== Proof.Attn3.KernelVals.lean ====
module

public import proofs.«01_k».proof.Proof.Attn3.KernelRun
public import proofs.«01_k».proof.Proof.Attn.SoftmaxMath

@[expose] public section

set_option maxRecDepth 16384
noncomputable section

namespace Cert.Kernel11Ideal.Attn

open Cert.Kernel11Ideal Cert.Kernel11Ideal.Gen Idealize.ShloMosaic Idealize.ShloMosaic.TcCoe Idealize.SL.Sem Cert.Attn

/-- The word of minus infinity. -/
theorem word_bot : Ideal.ofBits FTy.f32 4286578688#32 = ⊥ := by simp [Ideal.ofBits, Ideal.ieee]

/-- The word of one eighth, in bf16. -/
theorem word_eighth : Ideal.ofBits FTy.bf16 15872#16 = ((1 / 8 : ℝ) : EReal) := by
  simp [Ideal.ofBits, Ideal.ieee, -EReal.coe_mul]; norm_num

section Block

variable (kb vb : Vec Ideal S256x128 .bf16) (qs : Vec Ideal S512x128 .bf16) (m l a : Vec Ideal S512x128 .f32)

/-- The scores of one block. -/
theorem pay2_apply (r : Fin 512) (k : Fin 256) : k0_pay2 kb qs (ix2 r k) = ∑ d : Fin 128, qs (ix2 r d) * kb (ix2 k d) := by
  pointwise [k0_pay2]

theorem pay3_apply (r : Fin 512) (d : Fin 128) :
    k0_pay3 kb qs m (ix2 r d) = max (m (ix2 r d)) (Finset.univ.fold max ⊥ fun k : Fin 256 => k0_pay2 kb qs (ix2 r k)) := by
  rw [← word_bot]
  pointwise [k0_pay3]

theorem pay4_apply (r : Fin 512) (k : Fin 256) (μ : EReal) (h : ∀ d, k0_pay3 kb qs m (ix2 r d) = μ) :
    k0_pay4 kb qs m (ix2 r k) = Ideal.exp (k0_pay2 kb qs (ix2 r k) - μ) := by
  pointwise [k0_pay4]
  split <;> rw [h]

theorem pay6_apply (r : Fin 512) (d : Fin 128) : k0_pay6 kb qs m l (ix2 r d)
    = Ideal.exp (m (ix2 r d) - k0_pay3 kb qs m (ix2 r d)) * l (ix2 r d) + ∑ k : Fin 256, k0_pay4 kb qs m (ix2 r k) := by
  pointwise [k0_pay6, k0_pay5]

theorem pay7_apply (r : Fin 512) (d : Fin 128) : k0_pay7 kb vb qs m a (ix2 r d)
    = Ideal.exp (m (ix2 r d) - k0_pay3 kb qs m (ix2 r d)) * a (ix2 r d)
      + ∑ k : Fin 256, k0_pay4 kb qs m (ix2 r k) * vb (ix2 k d) := by
  pointwise [k0_pay7, k0_pay5]

/-- The masked scores: the columns up to the row's own. -/
theorem pay23_apply (r : Fin 512) (k : Fin 256) : k0_pay23 kb qs (ix2 r k)
    = if k.val ≤ r.val % 256 then k0_pay2 kb qs (ix2 r k) else ⊥ := by
  have h : ∀ (r : Fin 512) (k : Fin 256), IntOp.cmpi CmpIPredicate.sle (BitVec.ofNat 32 k.val) (IntOp.andi (BitVec.ofNat 32 r.val) 255#32)
      = if k.val ≤ r.val % 256 then 1#1 else 0#1 := by
    intro r k
    have e : IntOp.andi (BitVec.ofNat 32 r.val) 255#32 = BitVec.ofNat 32 (r.val % 256) := by
      have : ∀ r : Fin 512, IntOp.andi (BitVec.ofNat 32 r.val) 255#32 = BitVec.ofNat 32 (r.val % 256) := by decide +kernel
      exact this r
    rw [e]
    have h2 : ∀ (a b : Fin 256), IntOp.cmpi CmpIPredicate.sle (BitVec.ofNat 32 a.val) (BitVec.ofNat 32 b.val)
      = if a.val ≤ b.val then 1#1 else 0#1 := by decide +kernel
    exact h2 k ⟨r.val % 256, Nat.mod_lt _ (by norm_num)⟩
  rw [pay2_apply]
  pointwise [k0_pay23]
  rw [h, word_bot]
  split <;> rfl

theorem pay24_apply (r : Fin 512) (d : Fin 128) :
    k0_pay24 kb qs m (ix2 r d) = max (m (ix2 r d)) (Finset.univ.fold max ⊥ fun k : Fin 256 => k0_pay23 kb qs (ix2 r k)) := by
  rw [← word_bot]
  pointwise [k0_pay24]

theorem pay25_apply (r : Fin 512) (k : Fin 256) (μ : EReal) (h : ∀ d, k0_pay24 kb qs m (ix2 r d) = μ) :
    k0_pay25 kb qs m (ix2 r k) = Ideal.exp (k0_pay23 kb qs (ix2 r k) - μ) := by
  pointwise [k0_pay25]
  split <;> rw [h]

theorem pay27_apply (r : Fin 512) (d : Fin 128) : k0_pay27 kb qs m l (ix2 r d)
    = Ideal.exp (m (ix2 r d) - k0_pay24 kb qs m (ix2 r d)) * l (ix2 r d) + ∑ k : Fin 256, k0_pay25 kb qs m (ix2 r k) := by
  pointwise [k0_pay27, k0_pay26]

theorem pay28_apply (r : Fin 512) (d : Fin 128) : k0_pay28 vb (k0_pay25 kb qs m) (k0_pay26 kb qs m) a (ix2 r d)
    = Ideal.exp (m (ix2 r d) - k0_pay24 kb qs m (ix2 r d)) * a (ix2 r d)
      + ∑ k : Fin 256, k0_pay25 kb qs m (ix2 r k) * vb (ix2 k d) := by
  pointwise [k0_pay28, k0_pay26]

end Block

section Rows

variable (x0 : Vec Ideal S256x128 .bf16) (x1 x2 : Vec Ideal S8192x128 .bf16)
variable (q : Fin 256 → Fin 128 → ℝ) (kr vr : ℕ → Fin 128 → ℝ)

/-- A row of scaled queries, the half of its lanes that belongs to its component. -/
def qrow (r : Fin 512) (d : Fin 128) : ℝ :=
  if h : r.val < 256 then (if d.val < 64 then q ⟨r.val, h⟩ d * (1 / 8) else 0)
  else (if d.val < 64 then 0 else q ⟨r.val - 256, by omega⟩ d * (1 / 8))

/-- The score of a row of queries against a row of keys. -/
def score (r : Fin 512) (t : ℕ) : ℝ := ∑ d : Fin 128, qrow q r d * kr t d

theorem lane_lt (d : Fin 128) : IntOp.cmpi CmpIPredicate.slt (BitVec.ofNat 32 d.val) 64#32 = if d.val < 64 then 1#1 else 0#1 := by
  have : ∀ d : Fin 128, IntOp.cmpi CmpIPredicate.slt (BitVec.ofNat 32 d.val) 64#32 = if d.val < 64 then 1#1 else 0#1 := by
    decide +kernel
  exact this d

theorem qs_apply (h0 : ∀ r d, x0 (ix2 r d) = (q r d : EReal)) (r : Fin 512) (d : Fin 128) :
    qsOf x0 (ix2 r d) = (qrow q r d : EReal) := by
  unfold qsOf qrow
  show (if h : r.val < 256 then k0_pay16 x0 (ix2 ⟨r.val, h⟩ d) else k0_pay17 x0 (ix2 ⟨r.val - 256, _⟩ d)) = _
  by_cases h : r.val < 256
  · rw [dif_pos h, dif_pos h]
    pointwise [k0_pay16, k0_pay14, k0_pay15]
    rw [lane_lt, word_eighth, h0, ← EReal.coe_mul]
    split <;> rfl
  · rw [dif_neg h, dif_neg h]
    pointwise [k0_pay17, k0_pay14, k0_pay15]
    rw [lane_lt, word_eighth, h0, ← EReal.coe_mul]
    split <;> rfl

theorem rows_apply (h1 : ∀ (t : Fin 8192) d, x1 (ix2 t d) = (kr t.val d : EReal)) (n : ℕ) (hn : n < 32) (k : Fin 256) (d : Fin 128) :
    rows x1 n (ix2 k d) = (kr (256 * n + k.val) d : EReal) := by
  unfold rows
  refine (h1 _ _).trans ?_
  show (kr ((256 * n + k.val) % 8192) d : EReal) = _
  rw [Nat.mod_eq_of_lt (by omega)]

theorem score_apply (h0 : ∀ r d, x0 (ix2 r d) = (q r d : EReal)) (h1 : ∀ (t : Fin 8192) d, x1 (ix2 t d) = (kr t.val d : EReal))
    (n : ℕ) (hn : n < 32) (r : Fin 512) (k : Fin 256) :
    k0_pay2 (rows x1 n) (qsOf x0) (ix2 r k) = (score q kr r (256 * n + k.val) : EReal) := by
  rw [pay2_apply]
  unfold score
  rw [← coe_sum]
  refine Finset.sum_congr rfl fun d _ => ?_
  rw [qs_apply x0 q h0, rows_apply x1 kr h1 n hn, EReal.coe_mul]

theorem rowInv_const {D : ℕ} {m l a : Fin D → EReal} {E : ℝ} {V : Fin D → ℝ} (h : RowInv m l a E V) : ∃ μ, ∀ d, m d = μ := by
  rcases h with ⟨μ, h⟩ | ⟨h, _⟩
  · exact ⟨μ, fun d => (h d).1⟩
  · exact ⟨⊥, fun d => (h d).1⟩

/-- After `n` unmasked blocks a row's state is that of the first `256 * n` keys. -/
theorem iter_inv (h0 : ∀ r d, x0 (ix2 r d) = (q r d : EReal)) (h1 : ∀ (t : Fin 8192) d, x1 (ix2 t d) = (kr t.val d : EReal))
    (h2 : ∀ (t : Fin 8192) d, x2 (ix2 t d) = (vr t.val d : EReal)) (n : ℕ) (hn : n ≤ 32) (r : Fin 512) :
    RowInv (fun d : Fin 128 => (iter x1 x2 (qsOf x0) n).1 (ix2 r d)) (fun d => (iter x1 x2 (qsOf x0) n).2.1 (ix2 r d))
      (fun d => (iter x1 x2 (qsOf x0) n).2.2 (ix2 r d)) (∑ t ∈ Finset.range (256 * n), Real.exp (score q kr r t))
      (fun d => ∑ t ∈ Finset.range (256 * n), Real.exp (score q kr r t) * vr t d) := by
  induction n with
  | zero =>
    refine Or.inr ⟨fun d => ⟨?_, ?_, ?_, by simp⟩, by simp⟩
    · show k0_pay18 (ix2 r d) = ⊥
      rw [← word_bot]
      pointwise [k0_pay18]
    · show k0_pay19 (ix2 r d) = 0
      pointwise [k0_pay19]
    · show k0_pay20 (ix2 r d) = 0
      pointwise [k0_pay20]
  | succ n ih =>
    have hi := ih (by omega)
    obtain ⟨m0, hm0⟩ := rowInv_const hi
    have hs := score_apply x0 x1 q kr h0 h1 n (by omega) r
    have hv := rows_apply x2 vr h2 n (by omega)
    set s := iter x1 x2 (qsOf x0) n with hsdef
    have hc : ∀ d, k0_pay3 (rows x1 n) (qsOf x0) s.1 (ix2 r d) = max m0 (Finset.univ.fold max ⊥ fun k : Fin 256 => k0_pay2 (rows x1 n) (qsOf x0) (ix2 r k)) :=
      fun d => by rw [pay3_apply, hm0]
    have hstep := row_step _ _ _ (fun d : Fin 128 => (iter x1 x2 (qsOf x0) (n + 1)).1 (ix2 r d))
      (fun d : Fin 128 => (iter x1 x2 (qsOf x0) (n + 1)).2.1 (ix2 r d)) (fun d : Fin 128 => (iter x1 x2 (qsOf x0) (n + 1)).2.2 (ix2 r d))
      _ _ hi (by norm_num) (fun _ : Fin 256 => True) 0 trivial (fun k => score q kr r (256 * n + k.val))
      (fun k d => vr (256 * n + k.val) d)
      (fun d => by
        show k0_pay3 (rows x1 n) (qsOf x0) s.1 (ix2 r d) = _
        rw [pay3_apply]
        simp only [if_true, hs])
      (fun d => by
        show k0_pay6 (rows x1 n) (qsOf x0) s.1 s.2.1 (ix2 r d) = Ideal.exp (s.1 (ix2 r d) - k0_pay3 (rows x1 n) (qsOf x0) s.1 (ix2 r d)) * s.2.1 (ix2 r d)
          + ∑ k, Ideal.exp (_ - k0_pay3 (rows x1 n) (qsOf x0) s.1 (ix2 r d))
        rw [pay6_apply]
        congr 1
        refine Finset.sum_congr rfl fun k _ => ?_
        rw [pay4_apply _ _ _ _ _ _ hc, hs, hc, if_pos trivial])
      (fun d => by
        show k0_pay7 (rows x1 n) (rows x2 n) (qsOf x0) s.1 s.2.2 (ix2 r d) = Ideal.exp (s.1 (ix2 r d) - k0_pay3 (rows x1 n) (qsOf x0) s.1 (ix2 r d)) * s.2.2 (ix2 r d)
          + ∑ k, Ideal.exp (_ - k0_pay3 (rows x1 n) (qsOf x0) s.1 (ix2 r d)) * _
        rw [pay7_apply]
        congr 1
        refine Finset.sum_congr rfl fun k _ => ?_
        rw [pay4_apply _ _ _ _ _ _ hc, hs, hc, if_pos trivial, hv])
    simp only [if_true] at hstep
    refine Or.inl ?_
    simp only [sum_block]
    exact hstep

/-- After the masked block a row's state is that of the keys up to its own position. -/
theorem last_done (h0 : ∀ r d, x0 (ix2 r d) = (q r d : EReal)) (h1 : ∀ (t : Fin 8192) d, x1 (ix2 t d) = (kr t.val d : EReal))
    (h2 : ∀ (t : Fin 8192) d, x2 (ix2 t d) = (vr t.val d : EReal)) (n : ℕ) (hn : n < 32) (r : Fin 512) :
    let s := iter x1 x2 (qsOf x0) n
    RowDone (fun d : Fin 128 => k0_pay24 (rows x1 n) (qsOf x0) s.1 (ix2 r d))
      (fun d => k0_pay27 (rows x1 n) (qsOf x0) s.1 s.2.1 (ix2 r d))
      (fun d => k0_pay28 (rows x2 n) (k0_pay25 (rows x1 n) (qsOf x0) s.1) (k0_pay26 (rows x1 n) (qsOf x0) s.1) s.2.2 (ix2 r d))
      (∑ t ∈ Finset.range (256 * n + r.val % 256 + 1), Real.exp (score q kr r t))
      (fun d => ∑ t ∈ Finset.range (256 * n + r.val % 256 + 1), Real.exp (score q kr r t) * vr t d) := by
  intro s
  have hi := iter_inv x0 x1 x2 q kr vr h0 h1 h2 n hn.le r
  obtain ⟨m0, hm0⟩ := rowInv_const hi
  have hs : ∀ k, k0_pay23 (rows x1 n) (qsOf x0) (ix2 r k) = if k.val ≤ r.val % 256 then (score q kr r (256 * n + k.val) : EReal) else ⊥ :=
    fun k => by rw [pay23_apply, score_apply x0 x1 q kr h0 h1 n hn r k]
  have hv := rows_apply x2 vr h2 n hn
  have hc : ∀ d, k0_pay24 (rows x1 n) (qsOf x0) s.1 (ix2 r d) = max m0 (Finset.univ.fold max ⊥ fun k : Fin 256 => k0_pay23 (rows x1 n) (qsOf x0) (ix2 r k)) :=
    fun d => by rw [pay24_apply, hm0]
  have hstep := row_step _ _ _ (fun d : Fin 128 => k0_pay24 (rows x1 n) (qsOf x0) s.1 (ix2 r d))
      (fun d => k0_pay27 (rows x1 n) (qsOf x0) s.1 s.2.1 (ix2 r d))
      (fun d => k0_pay28 (rows x2 n) (k0_pay25 (rows x1 n) (qsOf x0) s.1) (k0_pay26 (rows x1 n) (qsOf x0) s.1) s.2.2 (ix2 r d))
      _ _ hi (by norm_num) (fun k : Fin 256 => k.val ≤ r.val % 256) 0 (Nat.zero_le _) (fun k => score q kr r (256 * n + k.val))
      (fun k d => vr (256 * n + k.val) d)
      (fun d => by
        rw [pay24_apply]
        simp only [hs]
        rfl)
      (fun d => by
        rw [pay27_apply]
        congr 1
        refine Finset.sum_congr rfl fun k _ => ?_
        rw [pay25_apply _ _ _ _ _ _ hc, hs, hc])
      (fun d => by
        rw [pay28_apply]
        congr 1
        refine Finset.sum_congr rfl fun k _ => ?_
        rw [pay25_apply _ _ _ _ _ _ hc, hs, hc, hv])
  have hr : r.val % 256 < 256 := Nat.mod_lt _ (by norm_num)
  have e1 := sum_diag (fun t => Real.exp (score q kr r t)) 256 n (r.val % 256) hr
  have e2 : ∀ d, _ := fun d => sum_diag (fun t => Real.exp (score q kr r t) * vr t d) 256 n (r.val % 256) hr
  simp only [e1, e2] at hstep
  exact hstep

end Rows

end Cert.Kernel11Ideal.Attn
-- ==== Proof.Attn3.Target.lean ====
module

public import proofs.«01_k».proof.Proof.Attn.SoftmaxMath

@[expose] public section

noncomputable section

namespace Cert.Attn3

open Idealize.ShloMosaic Cert.Attn

/-- The scaled score of query `s` against key `t`, batch `b`, head `h`, component `c`: the queries, keys and values of a row of `X`
lie side by side. -/
def sc (X : ℕ → ℕ → ℝ) (b h c s t : ℕ) : ℝ :=
  ∑ d : Fin 64, (X (8192 * b + s) (128 * h + 64 * c + d.val) * (1 / 8)) * X (8192 * b + t) (2048 + 128 * h + 64 * c + d.val)

/-- The sum of the exponentials of a query's scores, over the keys up to its own position. -/
def den (X : ℕ → ℕ → ℝ) (b h c s : ℕ) : ℝ := ∑ t ∈ Finset.range (s + 1), Real.exp (sc X b h c s t)

/-- Causal attention of one component, at lane `e` of the values. -/
def att (X : ℕ → ℕ → ℝ) (b h c s e : ℕ) : ℝ :=
  (∑ t ∈ Finset.range (s + 1), Real.exp (sc X b h c s t) * X (8192 * b + t) (4096 + 128 * h + e)) / den X b h c s

theorem den_pos (X : ℕ → ℕ → ℝ) (b h c s : ℕ) : 0 < den X b h c s :=
  Finset.sum_pos (fun _ _ => Real.exp_pos _) ⟨0, by simp⟩

/-- The weight of the second component, from the four vectors that make it. -/
def lam (a1 a2 a3 a4 : Fin 64 → EReal) : EReal :=
  Ideal.exp (∑ x, a1 x * a2 x) - Ideal.exp (∑ x, a3 x * a4 x) + Ideal.ofBits FTy.f32 1057905109#32

/-- The difference of the two components. -/
def mix (X : ℕ → ℕ → ℝ) (la : EReal) (b h s : ℕ) (e : Fin 128) : EReal :=
  (att X b h 0 s e.val : EReal) - la * (att X b h 1 s e.val : EReal)

/-- The root-mean-square norm of a head's row, with its weight and the constant factor. -/
def headNorm (o w : Fin 128 → EReal) (e : Fin 128) : EReal :=
  o e * Ideal.rsqrt (Ideal.div (∑ x, o x * o x) (Ideal.ofBits FTy.f32 1124073472#32) + Ideal.ofBits FTy.f32 897988541#32)
    * w e * Ideal.ofBits FTy.f32 1055083607#32

/-- Row `i`, column `j` of differential attention's output. -/
def out (X : ℕ → ℕ → ℝ) (la : EReal) (w : Fin 128 → EReal) (i j : ℕ) : EReal :=
  headNorm (mix X la (i / 8192) (j / 128) (i % 8192)) w ⟨j % 128, Nat.mod_lt _ (by norm_num)⟩

end Cert.Attn3
-- ==== Proof.Attn3.KernelOut.lean ====
module

public import proofs.«01_k».proof.Proof.Attn3.KernelVals
public import proofs.«01_k».proof.Proof.Attn3.Target

@[expose] public section

set_option maxRecDepth 16384
noncomputable section

namespace Cert.Kernel11Ideal.Attn

open Cert.Kernel11Ideal Cert.Kernel11Ideal.Gen Idealize.ShloMosaic Idealize.ShloMosaic.TcCoe Idealize.SL.Sem Cert.Attn Cert.Attn3

theorem pay1_apply (l a : Vec Ideal S256x128 .f32) (x7 : Vec Ideal S1x128 .f32) (r : Fin 256) (d : Fin 128) :
    k0_pay1 l a x7 (ix2 r d) = headNorm (fun e => l (ix2 r e) - a (ix2 r e)) (fun e => x7 (ix2 0 e)) d := by
  unfold headNorm
  pointwise [k0_pay1]

theorem pay31_apply (a l : Vec Ideal S512x128 .f32) (r : Fin 256) (d : Fin 128) :
    k0_pay31 a l (ix2 r d) = Ideal.div (a (ix2 ⟨r.val, by omega⟩ d)) (l (ix2 ⟨r.val, by omega⟩ d)) := by
  pointwise [k0_pay31, k0_pay30]

theorem pay32_apply (x3 x4 x5 x6 : Vec Ideal S1x64 .f32) (a l : Vec Ideal S512x128 .f32) (r : Fin 256) (d : Fin 128) :
    k0_pay32 x3 x4 x5 x6 a l (ix2 r d) = lam (fun x => x3 (ix2 0 x)) (fun x => x4 (ix2 0 x)) (fun x => x5 (ix2 0 x)) (fun x => x6 (ix2 0 x))
      * Ideal.div (a (ix2 ⟨256 + r.val, by omega⟩ d)) (l (ix2 ⟨256 + r.val, by omega⟩ d)) := by
  unfold lam
  pointwise [k0_pay32, k0_pay30]

theorem score_lo (X : ℕ → ℕ → ℝ) (b h n : ℕ) (r : Fin 256) (t : ℕ) :
    score (fun r d => X (8192 * b + (256 * n + r.val)) (128 * h + d.val)) (fun t d => X (8192 * b + t) (2048 + 128 * h + d.val))
      (⟨r.val, by omega⟩ : Fin 512) t = sc X b h 0 (256 * n + r.val) t := by
  unfold score sc qrow
  rw [show (128 : ℕ) = 64 + 64 from rfl, Fin.sum_univ_add]
  have hz : (∑ i : Fin 64, (if h' : (⟨r.val, by omega⟩ : Fin 512).val < 256 then
      (if (Fin.natAdd 64 i).val < 64 then X (8192 * b + (256 * n + r.val)) ((64 + 64) * h + (Fin.natAdd 64 i).val) * (1 / 8) else 0)
      else 0) * X (8192 * b + t) (2048 + (64 + 64) * h + (Fin.natAdd 64 i).val)) = 0 :=
    Finset.sum_eq_zero fun i _ => by
      have : ¬ (Fin.natAdd 64 i).val < 64 := by simp
      rw [dif_pos r.isLt, if_neg this, zero_mul]
  have hr : r.val < 256 := r.isLt
  simp [hr]

theorem score_hi (X : ℕ → ℕ → ℝ) (b h n : ℕ) (r : Fin 256) (t : ℕ) :
    score (fun r d => X (8192 * b + (256 * n + r.val)) (128 * h + d.val)) (fun t d => X (8192 * b + t) (2048 + 128 * h + d.val))
      (⟨256 + r.val, by omega⟩ : Fin 512) t = sc X b h 1 (256 * n + r.val) t := by
  unfold score sc qrow
  rw [show (128 : ℕ) = 64 + 64 from rfl, Fin.sum_univ_add]
  simp [add_assoc]
  exact Finset.sum_congr rfl fun x _ => by rw [Nat.add_comm x.val 64]

variable (x0 : Vec Ideal S256x128 .bf16) (x1 x2 : Vec Ideal S8192x128 .bf16) (x3 x4 x5 x6 : Vec Ideal S1x64 .f32)
  (x7 : Vec Ideal S1x128 .f32)

/-- A block of the kernel's output: rows `256 * n …` of batch `b`, head `h`. -/
theorem blockOut_apply (X : ℕ → ℕ → ℝ) (b h n : ℕ) (hn : n < 32)
    (h0 : ∀ r d, x0 (ix2 r d) = (X (8192 * b + (256 * n + r.val)) (128 * h + d.val) : EReal))
    (h1 : ∀ (t : Fin 8192) d, x1 (ix2 t d) = (X (8192 * b + t.val) (2048 + 128 * h + d.val) : EReal))
    (h2 : ∀ (t : Fin 8192) d, x2 (ix2 t d) = (X (8192 * b + t.val) (4096 + 128 * h + d.val) : EReal)) (r : Fin 256) (d : Fin 128) :
    blockOut n x0 x1 x2 x3 x4 x5 x6 x7 (ix2 r d)
      = headNorm (mix X (lam (fun x => x3 (ix2 0 x)) (fun x => x4 (ix2 0 x)) (fun x => x5 (ix2 0 x)) (fun x => x6 (ix2 0 x))) b h
          (256 * n + r.val)) (fun e => x7 (ix2 0 e)) d := by
  have hr : r.val < 256 := r.isLt
  unfold blockOut
  rw [pay1_apply]
  congr 1
  funext e
  rw [pay31_apply, pay32_apply]
  unfold mix
  have hd := last_done x0 x1 x2 (fun r d => X (8192 * b + (256 * n + r.val)) (128 * h + d.val))
    (fun t d => X (8192 * b + t) (2048 + 128 * h + d.val)) (fun t d => X (8192 * b + t) (4096 + 128 * h + d.val)) h0 h1 h2 n hn
  have hlo := hd ⟨r.val, by omega⟩
  have hhi := hd ⟨256 + r.val, by omega⟩
  have m1 : (⟨r.val, by omega⟩ : Fin 512).val % 256 = r.val := Nat.mod_eq_of_lt hr
  have m2 : (⟨256 + r.val, by omega⟩ : Fin 512).val % 256 = r.val := by
    show (256 + r.val) % 256 = r.val
    omega
  simp only [score_lo, m1] at hlo
  simp only [score_hi, m2] at hhi
  have e1 := row_div hlo (den_pos X b h 0 (256 * n + r.val)) e
  have e2 := row_div hhi (den_pos X b h 1 (256 * n + r.val)) e
  exact congrArg₂ (fun u v => u - _ * v) e1 e2

end Cert.Kernel11Ideal.Attn
-- ==== Proof.Attn3.Blocks.lean ====
module

public import proofs.«01_k».proof.Proof.Attn3.KernelOut
public import Idealize.ShloMosaic.Lib.Pipeline.ValueKit
public import Idealize.ShloMosaic.Lib.Pipeline.Covers
public import Idealize.ShloMosaic.Lib.StableHlo.Run

@[expose] public section

set_option maxRecDepth 16384
noncomputable section

namespace Cert.Kernel11Ideal.Attn

open Cert.Kernel11Ideal Cert.Kernel11Ideal.Gen Idealize.ShloMosaic Idealize.ShloMosaic.TcCoe Idealize.SL.Sem Idealize.ShloMosaic.StableHlo Cert.Attn Cert.Attn3

variable (m : (ℓ : Loc nD τ sig) → Buf (Elt Ideal) ℓ)

theorem idx0 : ∀ t : Fin grid0.N, win0_0.index t = ![(grid0.coords t 0).val * 32 + (grid0.coords t 2).val, (grid0.coords t 1).val] := by
  decide +kernel
theorem idx1 : ∀ t : Fin grid0.N, win0_1.index t = ![(grid0.coords t 0).val, 16 + (grid0.coords t 1).val] := by decide +kernel
theorem idx2 : ∀ t : Fin grid0.N, win0_2.index t = ![(grid0.coords t 0).val, 32 + (grid0.coords t 1).val] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![0, 0] := by decide +kernel
theorem idx7 : ∀ t : Fin grid0.N, win0_7.index t = ![0, 0] := by decide +kernel
theorem idx8 : ∀ t : Fin grid0.N, win0_8.index t = ![(grid0.coords t 0).val * 32 + (grid0.coords t 2).val, (grid0.coords t 1).val] := by
  decide +kernel

/-- The grid point of a batch, a head and a block of rows. -/
theorem point : ∀ (b : Fin 2) (h : Fin 16) (i : Fin 32), ∃ t : Fin grid0.N,
    (grid0.coords t 0).val = b.val ∧ (grid0.coords t 1).val = h.val ∧ (grid0.coords t 2).val = i.val := by
  intro b h i
  obtain ⟨t, ht⟩ := grid0.coords_surjective (fun a => match a with | ⟨0, _⟩ => b | ⟨1, _⟩ => h | ⟨2, _⟩ => i)
  exact ⟨t, by rw [ht], by rw [ht], by rw [ht]⟩

theorem V_v0 (c : Dev nD) : V m c main_v0 = shapeCast S1x64 (m ((c : Thread nD τ).loc main_arg1)) shapeCasts_S64_S1x64 := by
  show StableHlo.after hostOps0 _ main_v0 = _
  after_results_simp <;> rfl
theorem V_v1 (c : Dev nD) : V m c main_v1 = shapeCast S1x64 (m ((c : Thread nD τ).loc main_arg2)) shapeCasts_S64_S1x64 := by
  show StableHlo.after hostOps0 _ main_v1 = _
  after_results_simp <;> rfl
theorem V_v2 (c : Dev nD) : V m c main_v2 = shapeCast S1x64 (m ((c : Thread nD τ).loc main_arg3)) shapeCasts_S64_S1x64 := by
  show StableHlo.after hostOps0 _ main_v2 = _
  after_results_simp <;> rfl
theorem V_v3 (c : Dev nD) : V m c main_v3 = shapeCast S1x64 (m ((c : Thread nD τ).loc main_arg4)) shapeCasts_S64_S1x64 := by
  show StableHlo.after hostOps0 _ main_v3 = _
  after_results_simp <;> rfl
theorem V_v4 (c : Dev nD) : V m c main_v4 = shapeCast S1x128 (m ((c : Thread nD τ).loc main_arg5)) shapeCasts_S128_S1x128 := by
  show StableHlo.after hostOps0 _ main_v4 = _
  after_results_simp <;> rfl

theorem c0 (t : Fin cfg0.N) : (grid0.coords t 0).val < 2 := (grid0.coords t 0).isLt
theorem c1 (t : Fin cfg0.N) : (grid0.coords t 1).val < 16 := (grid0.coords t 1).isLt
theorem c2 (t : Fin cfg0.N) : (grid0.coords t 2).val < 32 := (grid0.coords t 2).isLt

section Reads

variable (c : Dev nD) (X : ℕ → ℕ → ℝ)
variable (hx : ∀ (i : Fin 16384) (j : Fin 6144), (m ((c : Thread nD τ).loc main_arg0) : Vec Ideal S16384x6144 .bf16) (ix2 i j) = (X i.val j.val : EReal))

include hx

theorem read0 (t : Fin cfg0.N) (r : Fin 256) (d : Fin 128) : (iblk m c 0 t : Vec Ideal S256x128 .bf16) (ix2 r d)
    = (X (8192 * (grid0.coords t 0).val + (256 * (grid0.coords t 2).val + r.val)) (128 * (grid0.coords t 1).val + d.val) : EReal) := by
  have h0 := c0 t
  have h1 := c1 t
  have h2 := c2 t
  blk_simp [iblk]
  refine Eq.trans ?_ (hx ⟨8192 * (grid0.coords t 0).val + (256 * (grid0.coords t 2).val + r.val), by omega⟩ ⟨128 * (grid0.coords t 1).val + d.val, by omega⟩)
  rw [V_main_arg0]
  refine congrArg (m ((c : Thread nD τ).loc main_arg0)) (funext fun a => Fin.ext ?_)
  blk_simp [idx0]
  match a with
  | ⟨0, _⟩ => show ((grid0.coords t 0).val * 32 + (grid0.coords t 2).val) * 256 + r.val = 8192 * (grid0.coords t 0).val + (256 * (grid0.coords t 2).val + r.val); ring
  | ⟨1, _⟩ => show (grid0.coords t 1).val * 128 + d.val = 128 * (grid0.coords t 1).val + d.val; ring

theorem read1 (t : Fin cfg0.N) (r : Fin 8192) (d : Fin 128) : (iblk m c 1 t : Vec Ideal S8192x128 .bf16) (ix2 r d)
    = (X (8192 * (grid0.coords t 0).val + r.val) (2048 + 128 * (grid0.coords t 1).val + d.val) : EReal) := by
  have h0 := c0 t
  have h1 := c1 t
  blk_simp [iblk]
  refine Eq.trans ?_ (hx ⟨8192 * (grid0.coords t 0).val + r.val, by omega⟩ ⟨2048 + 128 * (grid0.coords t 1).val + d.val, by omega⟩)
  rw [V_main_arg0]
  refine congrArg (m ((c : Thread nD τ).loc main_arg0)) (funext fun a => Fin.ext ?_)
  blk_simp [idx1]
  match a with
  | ⟨0, _⟩ => show (grid0.coords t 0).val * 8192 + r.val = 8192 * (grid0.coords t 0).val + r.val; ring
  | ⟨1, _⟩ => show (16 + (grid0.coords t 1).val) * 128 + d.val = 2048 + 128 * (grid0.coords t 1).val + d.val; ring

theorem read2 (t : Fin cfg0.N) (r : Fin 8192) (d : Fin 128) : (iblk m c 2 t : Vec Ideal S8192x128 .bf16) (ix2 r d)
    = (X (8192 * (grid0.coords t 0).val + r.val) (4096 + 128 * (grid0.coords t 1).val + d.val) : EReal) := by
  have h0 := c0 t
  have h1 := c1 t
  blk_simp [iblk]
  refine Eq.trans ?_ (hx ⟨8192 * (grid0.coords t 0).val + r.val, by omega⟩ ⟨4096 + 128 * (grid0.coords t 1).val + d.val, by omega⟩)
  rw [V_main_arg0]
  refine congrArg (m ((c : Thread nD τ).loc main_arg0)) (funext fun a => Fin.ext ?_)
  blk_simp [idx2]
  match a with
  | ⟨0, _⟩ => show (grid0.coords t 0).val * 8192 + r.val = 8192 * (grid0.coords t 0).val + r.val; ring
  | ⟨1, _⟩ => show (32 + (grid0.coords t 1).val) * 128 + d.val = 4096 + 128 * (grid0.coords t 1).val + d.val; ring

omit hx

theorem read3 (t : Fin cfg0.N) (d : Fin 64) : (iblk m c 3 t : Vec Ideal S1x64 .f32) (ix2 0 d)
    = (m ((c : Thread nD τ).loc main_arg1) : Vec Ideal S64 .f32) (ix1 d) := by
  blk_simp [iblk]
  rw [V_v0]
  have e : (win0_3.blk t).view.emb (ix2 0 d) = (ix2 0 d : S1x64.Idx) := by
    refine funext fun a => Fin.ext ?_
    blk_simp [idx3]
    match a with
    | ⟨0, _⟩ => rfl
    | ⟨1, _⟩ => show 0 * 64 + d.val = d.val; ring
  rw [e]
  pointwise

theorem read4 (t : Fin cfg0.N) (d : Fin 64) : (iblk m c 4 t : Vec Ideal S1x64 .f32) (ix2 0 d)
    = (m ((c : Thread nD τ).loc main_arg2) : Vec Ideal S64 .f32) (ix1 d) := by
  blk_simp [iblk]
  rw [V_v1]
  have e : (win0_4.blk t).view.emb (ix2 0 d) = (ix2 0 d : S1x64.Idx) := by
    refine funext fun a => Fin.ext ?_
    blk_simp [idx4]
    match a with
    | ⟨0, _⟩ => rfl
    | ⟨1, _⟩ => show 0 * 64 + d.val = d.val; ring
  rw [e]
  pointwise

theorem read5 (t : Fin cfg0.N) (d : Fin 64) : (iblk m c 5 t : Vec Ideal S1x64 .f32) (ix2 0 d)
    = (m ((c : Thread nD τ).loc main_arg3) : Vec Ideal S64 .f32) (ix1 d) := by
  blk_simp [iblk]
  rw [V_v2]
  have e : (win0_5.blk t).view.emb (ix2 0 d) = (ix2 0 d : S1x64.Idx) := by
    refine funext fun a => Fin.ext ?_
    blk_simp [idx5]
    match a with
    | ⟨0, _⟩ => rfl
    | ⟨1, _⟩ => show 0 * 64 + d.val = d.val; ring
  rw [e]
  pointwise

theorem read6 (t : Fin cfg0.N) (d : Fin 64) : (iblk m c 6 t : Vec Ideal S1x64 .f32) (ix2 0 d)
    = (m ((c : Thread nD τ).loc main_arg4) : Vec Ideal S64 .f32) (ix1 d) := by
  blk_simp [iblk]
  rw [V_v3]
  have e : (win0_6.blk t).view.emb (ix2 0 d) = (ix2 0 d : S1x64.Idx) := by
    refine funext fun a => Fin.ext ?_
    blk_simp [idx6]
    match a with
    | ⟨0, _⟩ => rfl
    | ⟨1, _⟩ => show 0 * 64 + d.val = d.val; ring
  rw [e]
  pointwise

theorem read7 (t : Fin cfg0.N) (d : Fin 128) : (iblk m c 7 t : Vec Ideal S1x128 .f32) (ix2 0 d)
    = (m ((c : Thread nD τ).loc main_arg5) : Vec Ideal S128 .f32) (ix1 d) := by
  blk_simp [iblk]
  rw [V_v4]
  have e : (win0_7.blk t).view.emb (ix2 0 d) = (ix2 0 d : S1x128.Idx) := by
    refine funext fun a => Fin.ext ?_
    blk_simp [idx7]
    match a with
    | ⟨0, _⟩ => rfl
    | ⟨1, _⟩ => show 0 * 128 + d.val = d.val; ring
  rw [e]
  pointwise

/-- The weight of the second component, from the launch memory. -/
def lamM : EReal := lam (fun i => (m ((c : Thread nD τ).loc main_arg1) : Vec Ideal S64 .f32) (ix1 i))
  (fun i => (m ((c : Thread nD τ).loc main_arg2) : Vec Ideal S64 .f32) (ix1 i)) (fun i => (m ((c : Thread nD τ).loc main_arg3) : Vec Ideal S64 .f32) (ix1 i))
  (fun i => (m ((c : Thread nD τ).loc main_arg4) : Vec Ideal S64 .f32) (ix1 i))

include hx

/-- What a grid point leaves in its block of the output. -/
theorem point_out (t : Fin cfg0.N) (r : Fin 256) (d : Fin 128) : (outsAt0 m c t : Vec Ideal S256x128 .bf16) (ix2 r d)
    = out X (lamM m c) (fun e => (m ((c : Thread nD τ).loc main_arg5) : Vec Ideal S128 .f32) (ix1 e))
        (8192 * (grid0.coords t 0).val + (256 * (grid0.coords t 2).val + r.val)) (128 * (grid0.coords t 1).val + d.val) := by
  have h0 := c0 t
  have h1 := c1 t
  have h2 := c2 t
  have hr := r.isLt
  have hd := d.isLt
  unfold outsAt0
  rw [outA, blockOut_apply _ _ _ _ _ _ _ _ X (grid0.coords t 0).val (grid0.coords t 1).val (grid0.coords t 2).val h2
    (read0 m c X hx t) (read1 m c X hx t) (read2 m c X hx t)]
  simp only [read3, read4, read5, read6, read7]
  unfold out
  have e1 : (8192 * (grid0.coords t 0).val + (256 * (grid0.coords t 2).val + r.val)) / 8192 = (grid0.coords t 0).val := by omega
  have e2 : (8192 * (grid0.coords t 0).val + (256 * (grid0.coords t 2).val + r.val)) % 8192 = 256 * (grid0.coords t 2).val + r.val := by omega
  have e3 : (128 * (grid0.coords t 1).val + d.val) / 128 = (grid0.coords t 1).val := by omega
  have e4 : (128 * (grid0.coords t 1).val + d.val) % 128 = d.val := by omega
  rw [e1, e2, e3]
  congr 1
  exact Fin.ext e4.symm

/-- The output array after the run. -/
theorem final : (dats m 0 c).arrAt 8 cfg0.N
    = (fun i => out X (lamM m c) (fun e => (m ((c : Thread nD τ).loc main_arg5) : Vec Ideal S128 .f32) (ix1 e)) (i 0).val (i 1).val
        : Vec Ideal S16384x2048 .bf16) := by
  refine (dats m 0 c).arrAt_eq_of_covers 8 _ ?_ fun t hf y => ?_
  · refine Pipeline.Window.covers_of_index_surj _ rfl (by decide) fun β => ?_
    have b0 : (β 0).val < 64 := (β 0).isLt
    have b1 : (β 1).val < 16 := (β 1).isLt
    obtain ⟨t, h0, h1, h2⟩ := point ⟨(β 0).val / 32, by omega⟩ ⟨(β 1).val, b1⟩ ⟨(β 0).val % 32, by omega⟩
    refine ⟨t, fun a => ?_⟩
    have hi : (cfg0.win 8).index t = ![(grid0.coords t 0).val * 32 + (grid0.coords t 2).val, (grid0.coords t 1).val] := idx8 t
    rw [hi]
    match a with
    | ⟨0, _⟩ =>
      show (grid0.coords t 0).val * 32 + (grid0.coords t 2).val = (β 0).val
      rw [h0, h2]
      show (β 0).val / 32 * 32 + (β 0).val % 32 = (β 0).val
      omega
    | ⟨1, _⟩ => exact h1
  · blk_simp
    rw [after0_8]
    have hy : y = (ix2 (y 0) (y 1) : S256x128.Idx) := by
      funext a
      match a with
      | ⟨0, _⟩ => rfl
      | ⟨1, _⟩ => rfl
    have hp := point_out m c X hx t (y 0) (y 1)
    rw [← hy] at hp
    refine hp.trans ?_
    blk_simp [idx8]
    show out X _ _ _ _ = out X _ _ (((grid0.coords t 0).val * 32 + (grid0.coords t 2).val) * 256 + (y 0).val) ((grid0.coords t 1).val * 128 + (y 1).val)
    congr 1 <;> ring

end Reads

end Cert.Kernel11Ideal.Attn
-- ==== Proof.Attn3.Ref.lean ====
module

public import proofs.«01_k».proof.Proof.Gen.Reference11Ideal.Run
public import proofs.«01_k».proof.Proof.Attn3.Target
public import Idealize.ShloMosaic.Lib.Pointwise

@[expose] public section

set_option maxRecDepth 16384
noncomputable section

namespace Cert.Reference11Ideal.Attn

open Cert.Reference11Ideal Cert.Reference11Ideal.Gen Idealize.ShloMosaic Idealize.ShloMosaic.TcCoe Idealize.SL.Sem Cert.Attn Cert.Attn3

variable {F : FTy → Type} [FloatOps F]
variable (x : Vec F S16384x6144 .bf16) (a1 a2 a3 a4 : Vec F S64 .f32) (w : Vec F S128 .f32)

/-- The scaled queries. -/
def qv : Vec F S2x8192x16x2x64 .f32 :=
  mulf (shapeCast S2x8192x16x2x64 (extractStridedSlice S16384x2048 ![0, 0] (extf .f32 x bitsLt_bf16_f32) slices_S16384x6144_S16384x2048_0_0) shapeCasts_S16384x2048_S2x8192x16x2x64)
    (broadcastInDim S2x8192x16x2x64 ![] bcast_S_S2x8192x16x2x64 (constant S_ .f32 0x3E000000#32))

/-- The keys. -/
def kv : Vec F S2x8192x16x2x64 .f32 :=
  shapeCast S2x8192x16x2x64 (extractStridedSlice S16384x2048 ![0, 2048] (extf .f32 x bitsLt_bf16_f32) slices_S16384x6144_S16384x2048_0_2048) shapeCasts_S16384x2048_S2x8192x16x2x64

/-- The values. -/
def vv : Vec F S2x8192x16x128 .f32 :=
  shapeCast S2x8192x16x128 (extractStridedSlice S16384x2048 ![0, 4096] (extf .f32 x bitsLt_bf16_f32) slices_S16384x6144_S16384x2048_0_4096) shapeCasts_S16384x2048_S2x8192x16x128

/-- The weight of the second component. -/
def lv : Vec F S_ .f32 :=
  addf (subf (Host.exp (Host.reduceAdd (mulf a1 a2) (constant S_ .f32 0x00000000#32) reducesTo_S64_S_d0 h_S_))
    (Host.exp (Host.reduceAdd (mulf a3 a4) (constant S_ .f32 0x00000000#32) reducesTo_S64_S_d0 h_S_))) (constant S_ .f32 0x3F0E59D5#32)

/-- The causal mask. -/
def mask : Vec F S8192x8192 .i1 :=
  cmpi .sle (broadcastInDim S8192x8192 ![0, 1] bcast_S1x8192_S8192x8192_0_1 (broadcastInDim S1x8192 ![1] bcast_S8192_S1x8192_1 (iotaInDim S8192 32 0) : Vec F S1x8192 .i32) : Vec F S8192x8192 .i32)
    (broadcastInDim S8192x8192 ![0, 1] bcast_S8192x1_S8192x8192_0_1 (broadcastInDim S8192x1 ![0] bcast_S8192_S8192x1_0 (iotaInDim S8192 32 0) : Vec F S8192x1 .i32) : Vec F S8192x8192 .i32)

/-- The masked scores. -/
def sv (q k : Vec F S2x8192x16x2x64 .f32) : Vec F S2x16x2x8192x8192 .f32 :=
  select (broadcastInDim S2x16x2x8192x8192 ![3, 4] bcast_S8192x8192_S2x16x2x8192x8192_3_4 (mask (F := F)))
    (Host.dotGeneral dot_S2x8192x16x2x64_S2x8192x16x2x64_S2x16x2x8192x8192_4_4_1_1_023_023 none q k)
    (broadcastInDim S2x16x2x8192x8192 ![] bcast_S_S2x16x2x8192x8192 (id (constant S_ .f32 0xFF800000#32)))

/-- A row's greatest score. -/
def mv (s : Vec F S2x16x2x8192x8192 .f32) : Vec F S2x16x2x8192 .f32 :=
  maximumf (broadcastInDim S2x16x2x8192 ![] bcast_S_S2x16x2x8192 (constant S_ .f32 0xFF800000#32))
    (Host.reduce FloatOps.maximumf s (constant S_ .f32 0xFF800000#32) reducesTo_S2x16x2x8192x8192_S2x16x2x8192_d4 h_S_)

/-- The exponentials of the scores, below the greatest. -/
def ev (s : Vec F S2x16x2x8192x8192 .f32) (m : Vec F S2x16x2x8192 .f32) : Vec F S2x16x2x8192x8192 .f32 :=
  Host.exp (subf s (broadcastInDim S2x16x2x8192x8192 ![0, 1, 2, 3, 4] bcast_S2x16x2x8192x1_S2x16x2x8192x8192_0_1_2_3_4
    (broadcastInDim S2x16x2x8192x1 ![0, 1, 2, 3] bcast_S2x16x2x8192_S2x16x2x8192x1_0_1_2_3 m)))

/-- The softmax of each row. -/
def pv (e : Vec F S2x16x2x8192x8192 .f32) : Vec F S2x16x2x8192x8192 .f32 :=
  Host.divf e (broadcastInDim S2x16x2x8192x8192 ![0, 1, 2, 3, 4] bcast_S2x16x2x8192x1_S2x16x2x8192x8192_0_1_2_3_4
    (broadcastInDim S2x16x2x8192x1 ![0, 1, 2, 3] bcast_S2x16x2x8192_S2x16x2x8192x1_0_1_2_3
      (Host.reduceAdd e (constant S_ .f32 0x00000000#32) reducesTo_S2x16x2x8192x8192_S2x16x2x8192_d4 h_S_)))

/-- The first component's softmax less the weighted second's. -/
def dv (p : Vec F S2x16x2x8192x8192 .f32) (l : Vec F S_ .f32) : Vec F S2x16x8192x8192 .f32 :=
  subf (shapeCast S2x16x8192x8192 (extractStridedSlice S2x16x1x8192x8192 ![0, 0, 0, 0, 0] p slices_S2x16x2x8192x8192_S2x16x1x8192x8192_0_0_0_0_0) shapeCasts_S2x16x1x8192x8192_S2x16x8192x8192)
    (mulf (broadcastInDim S2x16x8192x8192 ![] bcast_S_S2x16x8192x8192 l)
      (shapeCast S2x16x8192x8192 (extractStridedSlice S2x16x1x8192x8192 ![0, 0, 1, 0, 0] p slices_S2x16x2x8192x8192_S2x16x1x8192x8192_0_0_1_0_0) shapeCasts_S2x16x1x8192x8192_S2x16x8192x8192))

/-- The values weighted by it. -/
def ov (v : Vec F S2x8192x16x128 .f32) (d : Vec F S2x16x8192x8192 .f32) : Vec F S2x8192x16x128 .f32 :=
  transpose S2x8192x16x128 [0, 3, 1, 2] (Host.dotGeneral dot_S2x8192x16x128_S2x16x8192x8192_S2x16x128x8192_1_3_3_2_02_01 none v d) transposes_S2x16x128x8192_S2x8192x16x128_0_3_1_2

/-- Each head's row divided by its root mean square, with the weight and the constant factor. -/
def nv (o : Vec F S2x8192x16x128 .f32) (w : Vec F S128 .f32) : Vec F S2x8192x16x128 .f32 :=
  mulf (mulf (mulf o (broadcastInDim S2x8192x16x128 ![0, 1, 2, 3] bcast_S2x8192x16x1_S2x8192x16x128_0_1_2_3
      (Host.rsqrt (addf (Host.divf (broadcastInDim S2x8192x16x1 ![0, 1, 2] bcast_S2x8192x16_S2x8192x16x1_0_1_2
          (Host.reduceAdd (mulf o o) (constant S_ .f32 0x00000000#32) reducesTo_S2x8192x16x128_S2x8192x16_d3 h_S_))
        (broadcastInDim S2x8192x16x1 ![] bcast_S_S2x8192x16x1 (constant S_ .f32 0x43000000#32)))
        (broadcastInDim S2x8192x16x1 ![] bcast_S_S2x8192x16x1 (constant S_ .f32 0x358637BD#32))))))
      (broadcastInDim S2x8192x16x128 ![0, 1, 2, 3] bcast_S1x1x1x128_S2x8192x16x128_0_1_2_3 (broadcastInDim S1x1x1x128 ![3] bcast_S128_S1x1x1x128_3 w)))
    (broadcastInDim S2x8192x16x128 ![] bcast_S_S2x8192x16x128 (constant S_ .f32 0x3EE34C57#32))

/-- The whole of the reference. -/
def refOut : Vec F S16384x2048 .bf16 :=
  let s := sv (qv x) (kv x)
  truncf .bf16 (shapeCast S16384x2048 (nv (ov (vv x) (dv (pv (ev s (mv s))) (lv a1 a2 a3 a4))) w) shapeCasts_S2x8192x16x128_S16384x2048) bitsLt_bf16_f32

set_option maxHeartbeats 4000000 in
/-- The printed reference's result is the composition of the stages above. -/
theorem res_eq (m : (ℓ : Loc nD τ sig) → Buf (Elt F) ℓ) (c : Dev nD) :
    Cert.Reference11Ideal.Value.res_out0 m c = refOut (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := by
  show Cert.Reference11Ideal.Value.res_main_v61 m c = _
  unfold Cert.Reference11Ideal.Value.res_main_v61
  rfl

end Cert.Reference11Ideal.Attn
-- ==== Proof.Attn3.RefVals.lean ====
module

public import proofs.«01_k».proof.Proof.Attn3.Ref

@[expose] public section

set_option maxRecDepth 16384
noncomputable section

namespace Cert.Reference11Ideal.Attn

open Cert.Reference11Ideal Cert.Reference11Ideal.Gen Idealize.ShloMosaic Idealize.ShloMosaic.TcCoe Idealize.SL.Sem Cert.Attn Cert.Attn3

variable (x : Vec Ideal S16384x6144 .bf16) (a1 a2 a3 a4 : Vec Ideal S64 .f32) (w : Vec Ideal S128 .f32)

theorem bot_word : Ideal.ofBits FTy.f32 4286578688#32 = ⊥ := by simp [Ideal.ofBits, Ideal.ieee]

theorem eighth_word : Ideal.ofBits FTy.f32 1040187392#32 = ((1 / 8 : ℝ) : EReal) := by
  simp [Ideal.ofBits, Ideal.ieee, -EReal.coe_mul]; norm_num

theorem qv_apply (b : Fin 2) (s : Fin 8192) (h : Fin 16) (c : Fin 2) (d : Fin 64) : qv x (ix5 b s h c d)
    = x (ix2 ⟨b.val * 8192 + s.val, by omega⟩ ⟨h.val * 128 + c.val * 64 + d.val, by omega⟩) * Ideal.ofBits FTy.f32 1040187392#32 := by
  pointwise [qv]

theorem kv_apply (b : Fin 2) (s : Fin 8192) (h : Fin 16) (c : Fin 2) (d : Fin 64) : kv x (ix5 b s h c d)
    = x (ix2 ⟨b.val * 8192 + s.val, by omega⟩ ⟨2048 + (h.val * 128 + c.val * 64 + d.val), by omega⟩) := by
  pointwise [kv]

theorem vv_apply (b : Fin 2) (s : Fin 8192) (h : Fin 16) (d : Fin 128) : vv x (ix4 b s h d)
    = x (ix2 ⟨b.val * 8192 + s.val, by omega⟩ ⟨4096 + (h.val * 128 + d.val), by omega⟩) := by
  pointwise [vv]

theorem lv_apply : lv a1 a2 a3 a4 ix0
    = lam (fun i => a1 (ix1 i)) (fun i => a2 (ix1 i)) (fun i => a3 (ix1 i)) (fun i => a4 (ix1 i)) := by
  unfold lam
  pointwise [lv]

theorem sle_val (t s : Fin 8192) : IntOp.cmpi CmpIPredicate.sle (BitVec.ofNat 32 t.val) (BitVec.ofNat 32 s.val)
    = if t.val ≤ s.val then 1#1 else 0#1 := by
  have e : ∀ k : Fin 8192, (BitVec.ofNat 32 k.val).toInt = (k.val : ℤ) := fun k => by
    rw [BitVec.toInt_eq_toNat_cond, BitVec.toNat_ofNat]
    have := k.isLt
    rw [Nat.mod_eq_of_lt (by omega)]
    split <;> omega
  show BitVec.ofBool ((BitVec.ofNat 32 t.val).sle (BitVec.ofNat 32 s.val)) = _
  unfold BitVec.sle
  rw [e, e]
  by_cases h : t.val ≤ s.val
  · simp [h]
  · simp [h]

theorem mask_apply (s t : Fin 8192) : mask (F := Ideal) (ix2 s t) = if t.val ≤ s.val then 1#1 else 0#1 := by
  rw [← sle_val]
  pointwise [mask]

theorem sv_apply (q k : Vec Ideal S2x8192x16x2x64 .f32) (b : Fin 2) (h : Fin 16) (c : Fin 2) (s t : Fin 8192) : sv q k (ix5 b h c s t)
    = if t.val ≤ s.val then ∑ d : Fin 64, q (ix5 b s h c d) * k (ix5 b t h c d) else ⊥ := by
  rw [← bot_word]
  pointwise [sv]
  rw [mask_apply]
  split <;> rfl

/-- A fold over the last of five axes, whatever the sizes. -/
theorem fold_last {α : Type} (f : α → α → α) [Std.Commutative f] [Std.Associative f] {n0 n1 n2 n3 n4 : ℕ} {u : Shape}
    (s : (⟨5, ![n0, n1, n2, n3, n4]⟩ : Shape).Idx → α) (z : u.Idx → α)
    (h' : (⟨5, ![n0, n1, n2, n3, n4]⟩ : Shape).ReducesTo [4] ⟨4, ![n0, n1, n2, n3]⟩)
    (hR : (⟨5, ![n0, n1, n2, n3, n4]⟩ : Shape).Reduces [4] ⟨4, ![n0, n1, n2, n3]⟩) (hu : 0 < u.numel)
    (a : Fin n0) (b : Fin n1) (c : Fin n2) (d : Fin n3) :
    Host.reduce f s z h' hu (ix4 a b c d)
      = (Finset.univ : Finset (Fin n4)).fold f (z (Shape.Idx.first hu)) fun t => s (ix5 a b c d t) := by
  rw [Host.reduce_eq_fold_single f s z h' hR hu]
  have hl : (s ∘ hR.lift (ix4 a b c d)) = fun t : Fin n4 => s (ix5 a b c d t) := by
    funext t
    refine congrArg s ?_
    funext i
    refine Fin.ext ?_
    rw [Shape.Reduces.lift_val]
    unfold Shape.Reduces.liftVal
    fin_cases i <;> rfl
  rw [hl]
  rfl

theorem reduces_last : S2x16x2x8192x8192.Reduces [4] S2x16x2x8192 := by decide

/-- The greatest of the last axis, whatever the sizes. -/
theorem max_last {n0 n1 n2 n3 n4 : ℕ} {u : Shape}
    (s : Vec Ideal (⟨5, ![n0, n1, n2, n3, n4]⟩ : Shape) .f32) (z : Vec Ideal u .f32) (y : Vec Ideal (⟨4, ![n0, n1, n2, n3]⟩ : Shape) .f32)
    (h' : (⟨5, ![n0, n1, n2, n3, n4]⟩ : Shape).ReducesTo [4] ⟨4, ![n0, n1, n2, n3]⟩)
    (hR : (⟨5, ![n0, n1, n2, n3, n4]⟩ : Shape).Reduces [4] ⟨4, ![n0, n1, n2, n3]⟩) (hu : 0 < u.numel)
    (a : Fin n0) (b : Fin n1) (c : Fin n2) (d : Fin n3) (hz : z (Shape.Idx.first hu) = (⊥ : EReal)) (hy : y (ix4 a b c d) = (⊥ : EReal)) :
    (maximumf y (Host.reduce (FloatOps.maximumf (F := Ideal) (φ := .f32)) s z h' hu) : Vec Ideal (⟨4, ![n0, n1, n2, n3]⟩ : Shape) .f32) (ix4 a b c d)
      = (Finset.univ : Finset (Fin n4)).fold max (⊥ : EReal) fun t => s (ix5 a b c d t) := by
  have hf := fold_last (max : EReal → EReal → EReal) s z h' hR hu a b c d
  rw [hz] at hf
  show max (y (ix4 a b c d)) (Host.reduce (max : EReal → EReal → EReal) s z h' hu (ix4 a b c d)) = _
  rw [hf, hy]
  exact max_eq_right bot_le

theorem mv_apply (s : Vec Ideal S2x16x2x8192x8192 .f32) (b : Fin 2) (h : Fin 16) (c : Fin 2) (i : Fin 8192) : mv s (ix4 b h c i)
    = Finset.univ.fold max ⊥ fun t : Fin 8192 => s (ix5 b h c i t) := by
  unfold mv
  exact max_last s _ _ reducesTo_S2x16x2x8192x8192_S2x16x2x8192_d4 reduces_last h_S_ b h c i bot_word bot_word

theorem ev_apply (s m) (b : Fin 2) (h : Fin 16) (c : Fin 2) (i t : Fin 8192) : ev (F := Ideal) s m (ix5 b h c i t)
    = Ideal.exp (s (ix5 b h c i t) - m (ix4 b h c i)) := by
  pointwise [ev]

theorem pv_apply (e) (b : Fin 2) (h : Fin 16) (c : Fin 2) (i t : Fin 8192) : pv (F := Ideal) e (ix5 b h c i t)
    = Ideal.div (e (ix5 b h c i t)) (∑ k : Fin 8192, e (ix5 b h c i k)) := by
  pointwise [pv]

theorem dv_apply (p l) (b : Fin 2) (h : Fin 16) (i t : Fin 8192) : dv (F := Ideal) p l (ix4 b h i t)
    = p (ix5 b h 0 i t) - l ix0 * p (ix5 b h 1 i t) := by
  pointwise [dv]

theorem ov_apply (v d) (b : Fin 2) (i : Fin 8192) (h : Fin 16) (e : Fin 128) : ov (F := Ideal) v d (ix4 b i h e)
    = ∑ t : Fin 8192, v (ix4 b t h e) * d (ix4 b h i t) := by
  pointwise [ov]

theorem nv_apply (o) (b : Fin 2) (i : Fin 8192) (h : Fin 16) (e : Fin 128) : nv (F := Ideal) o w (ix4 b i h e)
    = headNorm (fun e => o (ix4 b i h e)) (fun e => w (ix1 e)) e := by
  unfold headNorm
  pointwise [nv]

theorem refOut_split (r : Fin 16384) (j : Fin 2048) : refOut x a1 a2 a3 a4 w (ix2 r j)
    = nv (ov (vv x) (dv (pv (ev (sv (qv x) (kv x)) (mv (sv (qv x) (kv x))))) (lv a1 a2 a3 a4))) w
      (ix4 ⟨r.val / 8192, by omega⟩ ⟨r.val % 8192, by omega⟩ ⟨j.val / 128, by omega⟩ ⟨j.val % 128, by omega⟩) := by
  pointwise [refOut]

variable (X : ℕ → ℕ → ℝ)

/-- The masked scores of finite queries and keys. -/
theorem scores (hx : ∀ (i : Fin 16384) (j : Fin 6144), x (ix2 i j) = (X i.val j.val : EReal))
    (b : Fin 2) (h : Fin 16) (c : Fin 2) (i t : Fin 8192) : sv (qv x) (kv x) (ix5 b h c i t)
      = if t.val ≤ i.val then (sc X b.val h.val c.val i.val t.val : EReal) else ⊥ := by
  rw [sv_apply]
  refine if_congr Iff.rfl ?_ rfl
  unfold sc
  rw [← coe_sum]
  refine Finset.sum_congr rfl fun d _ => ?_
  rw [qv_apply, kv_apply, hx, hx, eighth_word, ← EReal.coe_mul, ← EReal.coe_mul]
  congr 3 <;> (try congr 1) <;> simp only [] <;> ring

/-- The softmax of the masked scores. -/
theorem probs (hx : ∀ (i : Fin 16384) (j : Fin 6144), x (ix2 i j) = (X i.val j.val : EReal))
    (b : Fin 2) (h : Fin 16) (c : Fin 2) (i t : Fin 8192) :
    pv (ev (sv (qv x) (kv x)) (mv (sv (qv x) (kv x)))) (ix5 b h c i t)
      = (((if t.val ≤ i.val then Real.exp (sc X b.val h.val c.val i.val t.val) else 0) / den X b.val h.val c.val i.val : ℝ) : EReal) := by
  rw [pv_apply]
  simp only [ev_apply, mv_apply, scores x X hx]
  rw [softmax_real (fun k : Fin 8192 => k.val ≤ i.val) 0 (Nat.zero_le _) (fun k => sc X b.val h.val c.val i.val k.val) t]
  rw [sum_causal (fun k => Real.exp (sc X b.val h.val c.val i.val k)) 8192 i.val i.isLt]
  rfl

/-- The difference of the two components' attentions. -/
theorem mixed (hx : ∀ (i : Fin 16384) (j : Fin 6144), x (ix2 i j) = (X i.val j.val : EReal)) (L : ℝ) (hL : lv a1 a2 a3 a4 ix0 = (L : EReal))
    (b : Fin 2) (i : Fin 8192) (h : Fin 16) (e : Fin 128) :
    ov (vv x) (dv (pv (ev (sv (qv x) (kv x)) (mv (sv (qv x) (kv x))))) (lv a1 a2 a3 a4)) (ix4 b i h e)
      = mix X (lv a1 a2 a3 a4 ix0) b.val h.val i.val e := by
  rw [ov_apply]
  simp only [dv_apply, probs x X hx, vv_apply, hx]
  rw [hL]
  unfold mix att
  rw [← EReal.coe_mul, ← EReal.coe_sub]
  simp only [← EReal.coe_mul, ← EReal.coe_sub]
  rw [coe_sum]
  congr 1
  simp only [Fin.val_zero, Fin.val_one]
  have hc : ∀ c : ℕ, (∑ t ∈ Finset.range (i.val + 1), Real.exp (sc X b.val h.val c i.val t) * X (8192 * b.val + t) (4096 + 128 * h.val + e.val))
      = ∑ t : Fin 8192, if t.val ≤ i.val then Real.exp (sc X b.val h.val c i.val t.val) * X (8192 * b.val + t.val) (4096 + 128 * h.val + e.val) else 0 :=
    fun c => (sum_causal (fun t => Real.exp (sc X b.val h.val c i.val t) * X (8192 * b.val + t) (4096 + 128 * h.val + e.val)) 8192 i.val i.isLt).symm
  rw [hc, hc, Finset.sum_div, Finset.sum_div, Finset.mul_sum, ← Finset.sum_sub_distrib]
  refine Finset.sum_congr rfl fun t _ => ?_
  have ea : b.val * 8192 + t.val = 8192 * b.val + t.val := by ring
  have eb : 4096 + (h.val * 128 + e.val) = 4096 + 128 * h.val + e.val := by ring
  rw [ea, eb]
  split <;> ring

/-- The reference's result, element by element. -/
theorem refOut_apply (hx : ∀ (i : Fin 16384) (j : Fin 6144), x (ix2 i j) = (X i.val j.val : EReal)) (L : ℝ)
    (hL : lv a1 a2 a3 a4 ix0 = (L : EReal)) (r : Fin 16384) (j : Fin 2048) :
    refOut x a1 a2 a3 a4 w (ix2 r j)
      = out X (lam (fun i => a1 (ix1 i)) (fun i => a2 (ix1 i)) (fun i => a3 (ix1 i)) (fun i => a4 (ix1 i))) (fun e => w (ix1 e)) r.val j.val := by
  rw [refOut_split, nv_apply]
  unfold out
  rw [← lv_apply]
  congr 1
  funext e
  exact mixed x a1 a2 a3 a4 X hx L hL _ _ _ e

end Cert.Reference11Ideal.Attn
-- ==== Proof.Attn3.Claims.lean ====
module

public import proofs.«01_k».proof.Defs
public import proofs.«01_k».proof.Proof.Attn3.Blocks
public import proofs.«01_k».proof.Proof.Attn3.RefVals
public import proofs.«01_k».proof.Proof.Gen.Kernel11Ideal
public import proofs.«01_k».proof.Proof.Gen.Reference11Ideal

@[expose] public section

set_option maxRecDepth 16384
noncomputable section

namespace Cert.Attn3Claims

open Idealize.ShloMosaic Idealize.ShloMosaic.TcCoe Idealize.SL.Sem Cert.Attn Cert.Attn3

/-- The side conditions that the printed precondition states. -/
theorem preFacts : Cert.Pre_finite_inputs.Facts := ⟨by decide, by decide⟩

/-- An extended real below plus infinity in absolute value is a real. -/
theorem real_of_abs {a : EReal} (h : Ideal.cmp CmpFPredicate.olt (max a (-a)) ⊤ = 1#1) : ∃ r : ℝ, a = (r : EReal) := by
  have hlt : max a (-a) < ⊤ := by
    by_contra hn
    have : Ideal.cmp CmpFPredicate.olt (max a (-a)) ⊤ = 0#1 := by
      unfold Ideal.cmp
      simp [hn]
    rw [this] at h
    exact absurd h (by decide)
  induction a using EReal.rec with
  | bot => exact absurd hlt (by simp)
  | coe r => exact ⟨r, rfl⟩
  | top => exact absurd hlt (by simp)

theorem top_bf16 : Ideal.ofBits FTy.bf16 32640#16 = ⊤ := by simp [Ideal.ofBits, Ideal.ieee]
theorem top_f32 : Ideal.ofBits FTy.f32 2139095040#32 = ⊤ := by simp [Ideal.ofBits, Ideal.ieee]

/-- What the precondition says of the array of queries, keys and values. -/
theorem finite_qkv (x : Vec Ideal Cert.Kernel11Ideal.S16384x6144 .bf16)
    (hb : Cert.Pre_finite_inputs.S_.BroadcastsInDim Cert.Pre_finite_inputs.S16384x6144 (![] : Fin 0 → Fin Cert.Pre_finite_inputs.S16384x6144.rank))
    (h : (cmpf .olt (Host.absf x) (broadcastInDim Cert.Pre_finite_inputs.S16384x6144 ![] hb (constant (F := Ideal) Cert.Pre_finite_inputs.S_ .bf16 0x7F80#16)) : IVec Cert.Pre_finite_inputs.S16384x6144 1) = fun _ => 1#1)
    (i : Cert.Kernel11Ideal.S16384x6144.Idx) : ∃ r : ℝ, x i = (r : EReal) := by
  refine real_of_abs ?_
  rw [← top_bf16]
  exact congrFun h i

/-- What it says of a vector of 64. -/
theorem finite_vec (x : Vec Ideal Cert.Kernel11Ideal.S64 .f32)
    (hb : Cert.Pre_finite_inputs.S_.BroadcastsInDim Cert.Pre_finite_inputs.S64 (![] : Fin 0 → Fin Cert.Pre_finite_inputs.S64.rank))
    (h : (cmpf .olt (Host.absf x) (broadcastInDim Cert.Pre_finite_inputs.S64 ![] hb (constant (F := Ideal) Cert.Pre_finite_inputs.S_ .f32 0x7F800000#32)) : IVec Cert.Pre_finite_inputs.S64 1) = fun _ => 1#1)
    (i : Cert.Kernel11Ideal.S64.Idx) : ∃ r : ℝ, x i = (r : EReal) := by
  refine real_of_abs ?_
  rw [← top_f32]
  exact congrFun h i

/-- The last constant of the second component's weight is a real. -/
theorem lam_word : ∃ r : ℝ, Ideal.ofBits FTy.f32 1057905109#32 = (r : EReal) := by
  refine ⟨9329109 / 2 ^ 24, ?_⟩
  simp [Ideal.ofBits, Ideal.ieee, -EReal.coe_mul]
  norm_num

/-- From finite vectors the weight of the second component is a real. -/
theorem lam_real (a1 a2 a3 a4 : Fin 64 → EReal) (h1 : ∀ i, ∃ r : ℝ, a1 i = (r : EReal)) (h2 : ∀ i, ∃ r : ℝ, a2 i = (r : EReal))
    (h3 : ∀ i, ∃ r : ℝ, a3 i = (r : EReal)) (h4 : ∀ i, ∃ r : ℝ, a4 i = (r : EReal)) : ∃ L : ℝ, lam a1 a2 a3 a4 = (L : EReal) := by
  choose b1 h1 using h1
  choose b2 h2 using h2
  choose b3 h3 using h3
  choose b4 h4 using h4
  obtain ⟨w, hw⟩ := lam_word
  unfold lam
  simp only [h1, h2, h3, h4, hw, ← EReal.coe_mul, coe_sum, Ideal.exp_coe, ← EReal.coe_sub, ← EReal.coe_add]
  exact ⟨_, rfl⟩

/-- Over the reals the kernel's result is the reference's, for finite queries, keys, values and weight vectors. -/
theorem algebraic : Cert.algebraic_Kernel11Ideal_Reference11Ideal_pre_finite_inputs (hKernel11Ideal := Cert.Kernel11Ideal.Gen.facts)
    (hReference11Ideal := Cert.Reference11Ideal.Gen.facts) (hPre_finite_inputs := preFacts) := by
  intro m g m' g' hpre hag
  have hX : ∀ c : Dev Cert.Kernel11Ideal.nD, ∃ X : ℕ → ℕ → ℝ, ∀ (i : Fin 16384) (j : Fin 6144),
      (m ((c.tc : Thread Cert.Kernel11Ideal.nD Cert.Kernel11Ideal.τ).loc Cert.Kernel11Ideal.main_arg0) : Vec Ideal Cert.Kernel11Ideal.S16384x6144 .bf16) (ix2 i j) = (X i.val j.val : EReal) := by
    intro c
    have hf := finite_qkv _ _ (hpre c).1
    choose f hf using hf
    exact ⟨fun i j => if h : i < 16384 ∧ j < 6144 then f (ix2 ⟨i, h.1⟩ ⟨j, h.2⟩) else 0, fun i j => by
      have e : (if h : i.val < 16384 ∧ j.val < 6144 then f (ix2 ⟨i.val, h.1⟩ ⟨j.val, h.2⟩) else 0) = f (ix2 i j) :=
        dif_pos ⟨i.isLt, j.isLt⟩
      rw [hf, ← e]⟩
  choose X hX using hX
  have hL : ∀ c : Dev Cert.Kernel11Ideal.nD, ∃ L : ℝ, Cert.Kernel11Ideal.Attn.lamM m c = (L : EReal) := fun c =>
    lam_real _ _ _ _ (fun i => finite_vec _ _ (hpre c).2.1 _) (fun i => finite_vec _ _ (hpre c).2.2.1 _)
      (fun i => finite_vec _ _ (hpre c).2.2.2.1 _) (fun i => finite_vec _ _ (hpre c).2.2.2.2 _)
  refine ⟨fun c => fun i => out (X c) (Cert.Kernel11Ideal.Attn.lamM m c)
      (fun e => (m ((c.tc : Thread Cert.Kernel11Ideal.nD Cert.Kernel11Ideal.τ).loc Cert.Kernel11Ideal.main_arg5) : Vec Ideal Cert.Kernel11Ideal.S128 .f32) (ix1 e)) (i 0).val (i 1).val, ?_, ?_⟩
  · exact (θ_run _ _ _).mono (fun _ h c => ⟨(h c).1.trans (Cert.Kernel11Ideal.Attn.final m c (X c) (hX c)), (h c).2⟩)
      (Cert.Kernel11Ideal.Value.run_blocks m g)
  · refine (θ_run _ _ _).mono (fun _ h c => ⟨(h c).1.trans ?_, (h c).2⟩) (Cert.Reference11Ideal.Value.run m' g')
    refine (Cert.Reference11Ideal.Attn.res_eq m' c).trans ?_
    obtain ⟨h0, h1, h2, h3, h4, h5⟩ := hag c
    rw [h0, h1, h2, h3, h4, h5]
    obtain ⟨L, hL⟩ := hL c
    funext j
    obtain ⟨r, k, rfl⟩ : ∃ (r : Fin 16384) (k : Fin 2048), j = ix2 r k := ⟨j 0, j 1, by
      funext a
      match a with
      | ⟨0, _⟩ => rfl
      | ⟨1, _⟩ => rfl⟩
    exact Cert.Reference11Ideal.Attn.refOut_apply _ _ _ _ _ _ (X c) (hX c) L
      ((Cert.Reference11Ideal.Attn.lv_apply _ _ _ _).trans hL) r k

end Cert.Attn3Claims
-- ==== Proof.Scan.Canon.lean ====
module

public import proofs.«01_k».proof.Proof.Gen.Kernel12Ideal.Value
public import Idealize.ShloMosaic.Lib.Pointwise
public import Idealize.ShloMosaic.Lib.Pipeline.ValueKit
public import Idealize.ShloMosaic.Lib.Pipeline.ReadBack

@[expose] public section

set_option maxRecDepth 16384
noncomputable section

namespace Cert.Kernel12Ideal.Scan

open Cert.Kernel12Ideal Cert.Kernel12Ideal.Gen Idealize.ShloMosaic Idealize.ShloMosaic.TcCoe Idealize.SL.Sem

theorem slCol : ∀ (g i : Fin 8), S128x128.Slices ![0, 8 * g.val + i.val] S128x1 := by decide
theorem slRow : ∀ (g i : Fin 8), S128x128.Slices ![8 * g.val + i.val, 0] S1x128 := by decide
theorem slChan : ∀ (g : Fin 8) (i : Fin 3), S384x4096.Slices ![128 * i.val, 512 * g.val] S128x512 := by decide
theorem slLast : ∀ (g : Fin 8), S1x4096.Slices ![0, 512 * g.val] S1x512 := by decide
theorem slPair : ∀ (p : Fin 4), S128x512.Slices ![0, 128 * p.val] S128x128 := by decide

/-- One row of 512, repeated over the rows. -/
def wide (b : Vec Ideal S1x512 .f32) : FVec Ideal S128x512 .f32 :=
  broadcastTo S128x512 (shapeCast S1x512 b shapeCasts_S1x512_S1x512) broadcasts_S1x512_S128x512

/-- One row of 128, repeated over the rows. -/
def narrow (b : Vec Ideal S1x128 .f32) : FVec Ideal S128x128 .f32 :=
  broadcastTo S128x128 (shapeCast S1x128 b shapeCasts_S1x128_S1x128) broadcasts_S1x128_S128x128

/-- The convolution of a group's 512 channels, before its gate. -/
def preX (b w0 w1 w2 w3 : Vec Ideal S1x512 .f32) (u0 u1 u2 u3 : Vec Ideal S128x512 .f32) : FVec Ideal S128x512 .f32 :=
  addf (addf (addf (addf (wide b) (mulf u0 (wide w0))) (mulf u1 (wide w1))) (mulf u2 (wide w2))) (mulf u3 (wide w3))

/-- The convolution of a group's 512 channels. -/
def convX (b w0 w1 w2 w3 : Vec Ideal S1x512 .f32) (u0 u1 u2 u3 : Vec Ideal S128x512 .f32) : FVec Ideal S128x512 .f32 :=
  mulf (preX b w0 w1 w2 w3 u0 u1 u2 u3) (logistic (preX b w0 w1 w2 w3 u0 u1 u2 u3))

/-- The convolution of a group's 128 state channels, before its gate. -/
def preB (b w0 w1 w2 w3 : Vec Ideal S1x128 .f32) (u0 u1 u2 u3 : Vec Ideal S128x128 .f32) : FVec Ideal S128x128 .f32 :=
  addf (addf (addf (addf (narrow b) (mulf u0 (narrow w0))) (mulf u1 (narrow w1))) (mulf u2 (narrow w2))) (mulf u3 (narrow w3))

/-- The convolution of a group's 128 state channels. -/
def convB (b w0 w1 w2 w3 : Vec Ideal S1x128 .f32) (u0 u1 u2 u3 : Vec Ideal S128x128 .f32) : FVec Ideal S128x128 .f32 :=
  mulf (preB b w0 w1 w2 w3 u0 u1 u2 u3) (logistic (preB b w0 w1 w2 w3 u0 u1 u2 u3))

/-- The products of a group's rows. -/
def prods (bg cg : FVec Ideal S128x128 .f32) : FVec Ideal S128x128 .f32 :=
  matmul dot_S128x128_S128x128_S128x128_1_1_0_0_n_n none (truncf .bf16 cg bitsLt_bf16_f32 : FVec Ideal S128x128 .bf16)
    (truncf .bf16 bg bitsLt_bf16_f32 : FVec Ideal S128x128 .bf16) (constant S128x128 .f32 0x00000000#32)

/-- The channels weighted by the rows `128 i` on of the expanded weights. -/
def scaled (i : Fin 3) (g : Fin 8) (v93 : FVec Ideal S384x4096 .f32) (xg : FVec Ideal S128x512 .f32) : FVec Ideal S128x512 .bf16 :=
  truncf .bf16 (mulf xg (extractStridedSlice S128x512 ![128 * i.val, 512 * g.val] v93 (slChan g i))) bitsLt_bf16_f32

/-- The weighted products of one head. -/
def mat (g i : Fin 8) (v81 v82 : FVec Ideal S128x128 .f32) (v107 : IVec S128x128 1) (cb : FVec Ideal S128x128 .f32) : FVec Ideal S128x128 .bf16 :=
  truncf .bf16 (mulf cb (exp (select v107
    (subf (broadcastTo S128x128 (extractStridedSlice S128x1 ![0, 8 * g.val + i.val] v81 (slCol g i)) broadcasts_S128x1_S128x128)
      (broadcastTo S128x128 (extractStridedSlice S1x128 ![8 * g.val + i.val, 0] v82 (slRow g i)) broadcasts_S1x128_S128x128))
    (broadcast S128x128 (Scalar.ofBits .f32 0xFF800000#32 : Ideal .f32))))) bitsLt_bf16_f32

/-- Two heads' part of the result. -/
def pair (m0 m1 : FVec Ideal S128x128 .bf16) (v110 : IVec S128x128 1) (p : Fin 4) (xd : FVec Ideal S128x512 .bf16) : FVec Ideal S128x128 .f32 :=
  matmul dot_S128x256_S256x128_S128x128_1_0_0_1_n_n none
    (concatenate S128x256 1 [⟨S128x128, m0⟩, ⟨S128x128, m1⟩] concatenates_S128x128_S128x128_S128x256_d1)
    (concatenate S256x128 0
      [⟨S128x128, select v110 (extractStridedSlice S128x128 ![0, 128 * p.val] xd (slPair p)) (broadcast S128x128 (Scalar.ofBits .bf16 0x0000#16 : Ideal .bf16))⟩,
       ⟨S128x128, select v110 (broadcast S128x128 (Scalar.ofBits .bf16 0x0000#16 : Ideal .bf16)) (extractStridedSlice S128x128 ![0, 128 * p.val] xd (slPair p))⟩]
      concatenates_S128x128_S128x128_S256x128_d0) (constant S128x128 .f32 0x00000000#32)

/-- The part of the result that comes from the state. -/
def fromState (g : Fin 8) (v93 : FVec Ideal S384x4096 .f32) (cg : FVec Ideal S128x128 .f32) (st : Vec Ideal S128x512 .f32) : FVec Ideal S128x512 .f32 :=
  mulf (matmul dot_S128x128_S128x512_S128x512_1_0_0_1_n_n none (truncf .bf16 cg bitsLt_bf16_f32 : FVec Ideal S128x128 .bf16)
    (truncf .bf16 st bitsLt_bf16_f32 : FVec Ideal S128x512 .bf16) (constant S128x512 .f32 0x00000000#32))
    (extractStridedSlice S128x512 ![128 * (2 : Fin 3).val, 512 * g.val] v93 (slChan g 2))

/-- The part of the result that comes from the chunk's own rows. -/
def fromChunk (g : Fin 8) (v81 v82 : FVec Ideal S128x128 .f32) (v93 : FVec Ideal S384x4096 .f32) (v107 v110 : IVec S128x128 1)
    (xg : FVec Ideal S128x512 .f32) (bg cg : FVec Ideal S128x128 .f32) : FVec Ideal S128x512 .f32 :=
  concatenate S128x512 1
    [⟨S128x128, pair (mat g 0 v81 v82 v107 (prods bg cg)) (mat g 1 v81 v82 v107 (prods bg cg)) v110 0 (scaled 0 g v93 xg)⟩,
     ⟨S128x128, pair (mat g 2 v81 v82 v107 (prods bg cg)) (mat g 3 v81 v82 v107 (prods bg cg)) v110 1 (scaled 0 g v93 xg)⟩,
     ⟨S128x128, pair (mat g 4 v81 v82 v107 (prods bg cg)) (mat g 5 v81 v82 v107 (prods bg cg)) v110 2 (scaled 0 g v93 xg)⟩,
     ⟨S128x128, pair (mat g 6 v81 v82 v107 (prods bg cg)) (mat g 7 v81 v82 v107 (prods bg cg)) v110 3 (scaled 0 g v93 xg)⟩]
    concatenates_S128x128_S128x128_S128x128_S128x128_S128x512_d1

/-- The gated result, before the group's norm. -/
def gated (g : Fin 8) (v81 v82 : FVec Ideal S128x128 .f32) (v93 : FVec Ideal S384x4096 .f32) (v107 v110 : IVec S128x128 1)
    (xg : FVec Ideal S128x512 .f32) (bg cg : FVec Ideal S128x128 .f32) (st : Vec Ideal S128x512 .f32) (d : Vec Ideal S1x512 .f32)
    (z : Vec Ideal S128x512 .bf16) : FVec Ideal S128x512 .f32 :=
  mulf (addf (addf (fromState g v93 cg st) (fromChunk g v81 v82 v93 v107 v110 xg bg cg)) (mulf (wide d) xg))
    (mulf (extf .f32 z bitsLt_bf16_f32) (logistic (extf .f32 z bitsLt_bf16_f32 : FVec Ideal S128x512 .f32)))

/-- The norm of a group. -/
def normed (gv : FVec Ideal S128x512 .f32) (nw : Vec Ideal S1x512 .f32) : FVec Ideal S128x512 .bf16 :=
  truncf .bf16 (mulf (mulf gv (broadcastTo S128x512 (rsqrt (addf (divf (shapeCast S128x1 (multiReduction .add [1] S128 (mulf gv gv) 0x00000000#32 reduces_S128x512_S128 (.inl rfl) rfl) shapeCasts_S128_S128x1)
      (broadcast S128x1 (Scalar.ofBits .f32 0x44000000#32 : Ideal .f32))) (broadcast S128x1 (Scalar.ofBits .f32 0x358637BD#32 : Ideal .f32)))) broadcasts_S128x1_S128x512))
    (wide nw)) bitsLt_bf16_f32

/-- The group's state after the chunk. -/
def stateOut (g : Fin 8) (v93 : FVec Ideal S384x4096 .f32) (v104 : FVec Ideal S1x4096 .f32) (xg : FVec Ideal S128x512 .f32)
    (bg : FVec Ideal S128x128 .f32) (st : Vec Ideal S128x512 .f32) : FVec Ideal S128x512 .f32 :=
  shapeCast S128x512 (addf (mulf st (broadcastTo S128x512 (extractStridedSlice S1x512 ![0, 512 * g.val] v104 (slLast g)) broadcasts_S1x512_S128x512))
    (matmul dot_S128x128_S128x512_S128x512_0_0_1_1_n_n none (truncf .bf16 bg bitsLt_bf16_f32 : FVec Ideal S128x128 .bf16) (scaled 1 g v93 xg)
      (constant S128x512 .f32 0x00000000#32))) shapeCasts_S128x512_S128x512

end Cert.Kernel12Ideal.Scan

end
-- ==== Proof.Scan.GroupVals.lean ====
module

public import proofs.«01_k».proof.Proof.Scan.Canon

@[expose] public section

set_option maxRecDepth 16384
noncomputable section

namespace Cert.Kernel12Ideal.Scan

open Cert.Kernel12Ideal Cert.Kernel12Ideal.Gen Idealize.ShloMosaic Idealize.ShloMosaic.TcCoe Idealize.SL.Sem

theorem word_bot : Ideal.ofBits FTy.f32 4286578688#32 = ⊥ := by simp [Ideal.ofBits, Ideal.ieee]

theorem preX_apply (b w0 w1 w2 w3 : Vec Ideal S1x512 .f32) (u0 u1 u2 u3 : Vec Ideal S128x512 .f32) (l : Fin 128) (j : Fin 512) :
    preX b w0 w1 w2 w3 u0 u1 u2 u3 (ix2 l j) = b (ix2 0 j) + u0 (ix2 l j) * w0 (ix2 0 j) + u1 (ix2 l j) * w1 (ix2 0 j)
      + u2 (ix2 l j) * w2 (ix2 0 j) + u3 (ix2 l j) * w3 (ix2 0 j) := by
  pointwise [preX, wide]

theorem preB_apply (b w0 w1 w2 w3 : Vec Ideal S1x128 .f32) (u0 u1 u2 u3 : Vec Ideal S128x128 .f32) (l : Fin 128) (j : Fin 128) :
    preB b w0 w1 w2 w3 u0 u1 u2 u3 (ix2 l j) = b (ix2 0 j) + u0 (ix2 l j) * w0 (ix2 0 j) + u1 (ix2 l j) * w1 (ix2 0 j)
      + u2 (ix2 l j) * w2 (ix2 0 j) + u3 (ix2 l j) * w3 (ix2 0 j) := by
  pointwise [preB, narrow]

theorem convX_apply (b w0 w1 w2 w3 : Vec Ideal S1x512 .f32) (u0 u1 u2 u3 : Vec Ideal S128x512 .f32) (l : Fin 128) (j : Fin 512) :
    convX b w0 w1 w2 w3 u0 u1 u2 u3 (ix2 l j) = preX b w0 w1 w2 w3 u0 u1 u2 u3 (ix2 l j) * Ideal.logistic (preX b w0 w1 w2 w3 u0 u1 u2 u3 (ix2 l j)) := by
  pointwise [convX]

theorem convB_apply (b w0 w1 w2 w3 : Vec Ideal S1x128 .f32) (u0 u1 u2 u3 : Vec Ideal S128x128 .f32) (l : Fin 128) (j : Fin 128) :
    convB b w0 w1 w2 w3 u0 u1 u2 u3 (ix2 l j) = preB b w0 w1 w2 w3 u0 u1 u2 u3 (ix2 l j) * Ideal.logistic (preB b w0 w1 w2 w3 u0 u1 u2 u3 (ix2 l j)) := by
  pointwise [convB]

theorem prods_apply (bg cg : FVec Ideal S128x128 .f32) (l s : Fin 128) : prods bg cg (ix2 l s) = ∑ n : Fin 128, cg (ix2 l n) * bg (ix2 s n) := by
  pointwise [prods]

theorem scaled_apply (i : Fin 3) (g : Fin 8) (v93 : FVec Ideal S384x4096 .f32) (xg : FVec Ideal S128x512 .f32) (l : Fin 128) (j : Fin 512) :
    scaled i g v93 xg (ix2 l j) = xg (ix2 l j) * v93 (ix2 ⟨128 * i.val + l.val, by omega⟩ ⟨512 * g.val + j.val, by omega⟩) := by
  unfold scaled
  pointwise []

theorem mat_apply (g i : Fin 8) (v81 v82 : FVec Ideal S128x128 .f32) (v107 : IVec S128x128 1) (cb : FVec Ideal S128x128 .f32) (l s : Fin 128) :
    mat g i v81 v82 v107 cb (ix2 l s) = cb (ix2 l s) * Ideal.exp (if v107 (ix2 l s) = 1#1 then
      v81 (ix2 l ⟨8 * g.val + i.val, by omega⟩) - v82 (ix2 ⟨8 * g.val + i.val, by omega⟩ s) else ⊥) := by
  rw [← word_bot]
  unfold mat
  pointwise []
  rfl

theorem pair_apply (m0 m1 : FVec Ideal S128x128 .bf16) (v110 : IVec S128x128 1) (p : Fin 4) (xd : FVec Ideal S128x512 .bf16) (l q : Fin 128) :
    pair m0 m1 v110 p xd (ix2 l q)
      = (∑ s : Fin 128, if v110 (ix2 s q) = 1#1 then m0 (ix2 l s) * xd (ix2 s ⟨128 * p.val + q.val, by omega⟩) else 0)
        + ∑ s : Fin 128, if v110 (ix2 s q) = 1#1 then 0 else m1 (ix2 l s) * xd (ix2 s ⟨128 * p.val + q.val, by omega⟩) := by
  unfold pair
  pointwise []
  rfl

theorem fromState_apply (g : Fin 8) (v93 : FVec Ideal S384x4096 .f32) (cg : FVec Ideal S128x128 .f32) (st : Vec Ideal S128x512 .f32) (l : Fin 128) (j : Fin 512) :
    fromState g v93 cg st (ix2 l j) = (∑ n : Fin 128, cg (ix2 l n) * st (ix2 n j)) * v93 (ix2 ⟨256 + l.val, by omega⟩ ⟨512 * g.val + j.val, by omega⟩) := by
  unfold fromState
  pointwise []

theorem fromChunk_apply (g : Fin 8) (v81 v82 : FVec Ideal S128x128 .f32) (v93 : FVec Ideal S384x4096 .f32) (v107 v110 : IVec S128x128 1)
    (xg : FVec Ideal S128x512 .f32) (bg cg : FVec Ideal S128x128 .f32) (l : Fin 128) (p : Fin 4) (q : Fin 128) :
    fromChunk g v81 v82 v93 v107 v110 xg bg cg (ix2 l ⟨128 * p.val + q.val, by omega⟩)
      = pair (mat g ⟨2 * p.val, by omega⟩ v81 v82 v107 (prods bg cg)) (mat g ⟨2 * p.val + 1, by omega⟩ v81 v82 v107 (prods bg cg)) v110 p (scaled 0 g v93 xg) (ix2 l q) := by
  unfold fromChunk
  match p with
  | 0 => pointwise []
  | 1 => pointwise []
  | 2 =>
    pointwise []
    rw [dif_neg (by omega), dif_neg (by omega), dif_pos (by omega)]
    refine congrArg (fun y => pair _ _ _ _ _ (ix2 l y)) (Fin.ext ?_)
    show 256 + q.val - 128 - 128 = q.val
    omega
  | 3 =>
    pointwise []
    rw [dif_neg (by omega), dif_neg (by omega), dif_neg (by omega)]
    refine congrArg (fun y => pair _ _ _ _ _ (ix2 l y)) (Fin.ext ?_)
    show 384 + q.val - 128 - 128 - 128 = q.val
    omega

theorem normed_apply (gv : FVec Ideal S128x512 .f32) (nw : Vec Ideal S1x512 .f32) (l : Fin 128) (j : Fin 512) :
    normed gv nw (ix2 l j) = gv (ix2 l j) * Ideal.rsqrt (Ideal.div (∑ k : Fin 512, gv (ix2 l k) * gv (ix2 l k)) (Ideal.ofBits FTy.f32 0x44000000#32)
      + Ideal.ofBits FTy.f32 0x358637BD#32) * nw (ix2 0 j) := by
  pointwise [normed, wide]

theorem stateOut_apply (g : Fin 8) (v93 : FVec Ideal S384x4096 .f32) (v104 : FVec Ideal S1x4096 .f32) (xg : FVec Ideal S128x512 .f32)
    (bg : FVec Ideal S128x128 .f32) (st : Vec Ideal S128x512 .f32) (n : Fin 128) (j : Fin 512) :
    stateOut g v93 v104 xg bg st (ix2 n j) = st (ix2 n j) * v104 (ix2 0 ⟨512 * g.val + j.val, by omega⟩)
      + ∑ s : Fin 128, bg (ix2 s n) * scaled 1 g v93 xg (ix2 s j) := by
  unfold stateOut
  pointwise []

theorem gated_apply (g : Fin 8) (v81 v82 : FVec Ideal S128x128 .f32) (v93 : FVec Ideal S384x4096 .f32) (v107 v110 : IVec S128x128 1)
    (xg : FVec Ideal S128x512 .f32) (bg cg : FVec Ideal S128x128 .f32) (st : Vec Ideal S128x512 .f32) (d : Vec Ideal S1x512 .f32)
    (z : Vec Ideal S128x512 .bf16) (l : Fin 128) (j : Fin 512) : gated g v81 v82 v93 v107 v110 xg bg cg st d z (ix2 l j)
      = (fromState g v93 cg st (ix2 l j) + fromChunk g v81 v82 v93 v107 v110 xg bg cg (ix2 l j) + d (ix2 0 j) * xg (ix2 l j))
        * (z (ix2 l j) * Ideal.logistic (z (ix2 l j))) := by
  pointwise [gated, wide]

end Cert.Kernel12Ideal.Scan

end
-- ==== Proof.Scan.Math.lean ====
module

public import proofs.«01_k».proof.Proof.Attn.SoftmaxMath

@[expose] public section

set_option maxRecDepth 16384
noncomputable section

namespace Cert.Scan

open Idealize.ShloMosaic Cert.Attn

/-- The sum of the last `s` values up to place `l`. -/
def win (a : ℕ → ℝ) (s l : ℕ) : ℝ := ∑ r ∈ Finset.Ico (l + 1 - s) (l + 1), a r

theorem win_one (a : ℕ → ℝ) (l : ℕ) : win a 1 l = a l := by
  unfold win
  rw [show l + 1 - 1 = l from rfl, Nat.Ico_succ_singleton, Finset.sum_singleton]

/-- One doubling of the window. -/
theorem win_double (a : ℕ → ℝ) (s l : ℕ) : win a s l + (if s ≤ l then win a s (l - s) else 0) = win a (2 * s) l := by
  unfold win
  split
  · next h =>
    rw [add_comm, show l - s + 1 = l + 1 - s by omega, show l + 1 - s - s = l + 1 - 2 * s by omega]
    exact Finset.sum_Ico_consecutive a (by omega) (by omega)
  · next h =>
    rw [add_zero, show l + 1 - s = l + 1 - 2 * s by omega]

/-- The whole window is the sum from the start. -/
theorem win_all (a : ℕ → ℝ) (s l : ℕ) (h : l < s) : win a s l = ∑ r ∈ Finset.range (l + 1), a r := by
  unfold win
  rw [show l + 1 - s = 0 by omega, Finset.range_eq_Ico]

/-- What an exponent's exponential is: nothing in a head whose rate is infinite. -/
def ex (a : EReal) (r : ℝ) : ℝ := if a = ⊤ then 0 else Real.exp r

theorem ex_add (a : EReal) (x y : ℝ) : ex a (x + y) = ex a x * ex a y := by
  unfold ex
  split
  · rw [zero_mul]
  · exact Real.exp_add x y

/-- A value below infinity: a real, or minus infinity. -/
def lo : Option ℝ → EReal
  | none => ⊥
  | some r => (r : EReal)

def plus : Option ℝ → Option ℝ → Option ℝ
  | some x, some y => some (x + y)
  | _, _ => none

theorem lo_plus (x y : Option ℝ) : lo x + lo y = lo (plus x y) := by
  cases x <;> cases y <;> simp [lo, plus]

theorem lo_add (x : Option ℝ) (r : ℝ) : lo x + (r : EReal) = lo (plus x (some r)) := lo_plus x (some r)

/-- The gate of a value with itself. -/
def sil : Option ℝ → ℝ
  | none => 0
  | some r => r * (1 + Real.exp (-r))⁻¹

/-- The logarithm of one plus the exponential. -/
def sp : Option ℝ → ℝ
  | none => 0
  | some r => max r 0 + Real.log (1 + Real.exp (-|r|))

theorem sp_nonneg (x : Option ℝ) : 0 ≤ sp x := by
  cases x with
  | none => exact le_refl _
  | some r => exact add_nonneg (le_max_right _ _) (Real.log_nonneg (le_add_of_nonneg_right (Real.exp_pos _).le))

open Classical in
/-- Minus infinity where `P` holds, and nothing elsewhere. -/
def bo (P : Prop) : EReal := if P then ⊥ else 0

theorem bo_add (P Q : Prop) : bo P + bo Q = bo (P ∨ Q) := by
  unfold bo
  by_cases h : P <;> by_cases g : Q <;> simp [h, g]

theorem bo_sum {ι : Type} (t : Finset ι) (P : ι → Prop) : ∑ i ∈ t, bo (P i) = bo (∃ i ∈ t, P i) := by
  classical
  induction t using Finset.induction_on with
  | empty => simp [bo]
  | insert i t hi ih =>
    rw [Finset.sum_insert hi, ih, bo_add]
    congr 1
    simp

theorem mul_bot_of (r : ℝ) (h : 0 ≤ r) : (r : EReal) * ⊥ = bo (0 < r) := by
  unfold bo
  split
  · next hr => exact EReal.coe_mul_bot_of_pos hr
  · next hr => rw [le_antisymm (not_lt.1 hr) h, EReal.coe_zero, zero_mul]

/-- The exponential of anything below infinity is a real. -/
theorem exp_real (a : EReal) (h : a ≠ ⊤) : Ideal.exp a = ((Ideal.exp a).toReal : EReal) := by
  induction a using EReal.rec with
  | bot => rw [Ideal.exp_bot, EReal.toReal_zero, EReal.coe_zero]
  | coe x => rw [Ideal.exp_coe, EReal.toReal_coe]
  | top => exact absurd rfl h

section Model

variable (U W : ℕ → ℕ → ℝ) (Bc : ℕ → Option ℝ) (DT : ℕ → ℕ → Option ℝ) (Db : ℕ → Option ℝ) (Al : ℕ → EReal)

/-- Channel `j` of batch `b`, with three zeros before its rows. -/
def past (b s j : ℕ) : ℝ := if s < 3 then 0 else U (8192 * b + (s - 3)) j

/-- The convolution of four rows. -/
def pre (b s j : ℕ) : Option ℝ := plus (plus (plus (plus (Bc j) (some (past U b s j * W 0 j))) (some (past U b (s + 1) j * W 1 j)))
  (some (past U b (s + 2) j * W 2 j))) (some (past U b (s + 3) j * W 3 j))

/-- The gated convolution. -/
def cv (b s j : ℕ) : ℝ := sil (pre U W Bc b s j)

/-- The step sizes. -/
def dt (b s h : ℕ) : ℝ := sp (plus (DT (8192 * b + s) h) (Db h))

/-- The exponents' increments. -/
def da (b s h : ℕ) : ℝ := dt DT Db b s h * (-(Ideal.exp (Al h)).toReal)

/-- The exponents. -/
def cum (b h t : ℕ) : ℝ := ∑ r ∈ Finset.range t, da DT Db Al b r h

/-- The state before chunk `c`. -/
def state (b c n j : ℕ) : ℝ := ∑ s ∈ Finset.range (128 * c), cv U W Bc b s (4096 + 128 * (j / 512) + n)
  * (cv U W Bc b s j * (dt DT Db b s (j / 64) * ex (Al (j / 64)) (cum DT Db Al b (j / 64) (128 * c) - cum DT Db Al b (j / 64) (s + 1))))

/-- The product of two rows of a group. -/
def cb (b t s g : ℕ) : ℝ := ∑ n : Fin 128, cv U W Bc b t (5120 + 128 * g + n.val) * cv U W Bc b s (4096 + 128 * g + n.val)

/-- One term of the result. -/
def term (b t j s : ℕ) : ℝ := cb U W Bc b t s (j / 512) * ex (Al (j / 64)) (cum DT Db Al b (j / 64) (t + 1) - cum DT Db Al b (j / 64) (s + 1))
  * (cv U W Bc b s j * dt DT Db b s (j / 64))

/-- The result before the skip and the gate. -/
def scan (b t j : ℕ) : ℝ := ∑ s ∈ Finset.range (t + 1), term U W Bc DT Db Al b t j s

/-- The exponents of a chunk. -/
def loc (b c h l : ℕ) : ℝ := cum DT Db Al b h (128 * c + (l + 1)) - cum DT Db Al b h (128 * c)

theorem loc_eq (b c h l : ℕ) : loc DT Db Al b c h l = ∑ r ∈ Finset.range (l + 1), da DT Db Al b (128 * c + r) h := by
  unfold loc cum
  rw [Finset.sum_range_add]
  ring

/-- The state of the next chunk. -/
theorem state_step0 (b c n j : ℕ) : state U W Bc DT Db Al b c n j * ex (Al (j / 64)) (loc DT Db Al b c (j / 64) 127)
    + ∑ k : Fin 128, cv U W Bc b (128 * c + k.val) (4096 + 128 * (j / 512) + n) * (cv U W Bc b (128 * c + k.val) j
      * (dt DT Db b (128 * c + k.val) (j / 64) * ex (Al (j / 64)) (loc DT Db Al b c (j / 64) 127 - loc DT Db Al b c (j / 64) k.val)))
    = state U W Bc DT Db Al b (c + 1) n j := by
  unfold state
  rw [sum_block, Finset.sum_mul]
  congr 1
  · refine Finset.sum_congr rfl fun s _ => ?_
    have : ex (Al (j / 64)) (cum DT Db Al b (j / 64) (128 * (c + 1)) - cum DT Db Al b (j / 64) (s + 1))
        = ex (Al (j / 64)) (cum DT Db Al b (j / 64) (128 * c) - cum DT Db Al b (j / 64) (s + 1)) * ex (Al (j / 64)) (loc DT Db Al b c (j / 64) 127) := by
      rw [← ex_add]
      congr 1
      unfold loc
      rw [show 128 * c + (127 + 1) = 128 * (c + 1) by ring]
      ring
    rw [this]
    ring
  · refine Finset.sum_congr rfl fun k _ => ?_
    have : loc DT Db Al b c (j / 64) 127 - loc DT Db Al b c (j / 64) k.val
        = cum DT Db Al b (j / 64) (128 * (c + 1)) - cum DT Db Al b (j / 64) (128 * c + k.val + 1) := by
      unfold loc
      rw [show 128 * c + (127 + 1) = 128 * (c + 1) by ring, ← add_assoc (128 * c) k.val 1]
      ring
    rw [this]

/-- A chunk's result from the state and from its own rows. -/
theorem scan_step0 (b c j l : ℕ) (hl : l < 128) :
    (∑ n : Fin 128, cv U W Bc b (128 * c + l) (5120 + 128 * (j / 512) + n.val) * state U W Bc DT Db Al b c n.val j) * ex (Al (j / 64)) (loc DT Db Al b c (j / 64) l)
    + ∑ k : Fin 128, (if k.val ≤ l then cb U W Bc b (128 * c + l) (128 * c + k.val) (j / 512)
        * ex (Al (j / 64)) (loc DT Db Al b c (j / 64) l - loc DT Db Al b c (j / 64) k.val) * (cv U W Bc b (128 * c + k.val) j * dt DT Db b (128 * c + k.val) (j / 64)) else 0)
    = scan U W Bc DT Db Al b (128 * c + l) j := by
  unfold scan
  rw [← sum_diag (term U W Bc DT Db Al b (128 * c + l) j) 128 c l hl]
  congr 1
  · unfold state term cb
    simp only [Finset.mul_sum, Finset.sum_mul]
    rw [Finset.sum_comm]
    refine Finset.sum_congr rfl fun s _ => Finset.sum_congr rfl fun n _ => ?_
    have : ex (Al (j / 64)) (cum DT Db Al b (j / 64) (128 * c + l + 1) - cum DT Db Al b (j / 64) (s + 1))
        = ex (Al (j / 64)) (cum DT Db Al b (j / 64) (128 * c) - cum DT Db Al b (j / 64) (s + 1)) * ex (Al (j / 64)) (loc DT Db Al b c (j / 64) l) := by
      rw [← ex_add]
      congr 1
      unfold loc
      rw [← add_assoc (128 * c) l 1]
      ring
    rw [this]
    ring
  · refine Finset.sum_congr rfl fun k _ => ?_
    split
    · unfold term
      have : loc DT Db Al b c (j / 64) l - loc DT Db Al b c (j / 64) k.val
          = cum DT Db Al b (j / 64) (128 * c + l + 1) - cum DT Db Al b (j / 64) (128 * c + k.val + 1) := by
        unfold loc
        rw [← add_assoc (128 * c) k.val 1, ← add_assoc (128 * c) l 1]
        ring
      rw [this]
    · rfl

/-- The exponents of a chunk as the kernel holds them: minus infinity from the first positive step on, in a head whose rate is infinite. -/
def acu (b c h l : ℕ) : EReal := if Al h = ⊤ then bo (∃ r ≤ l, 0 < dt DT Db b (128 * c + r) h) else (loc DT Db Al b c h l : EReal)

theorem acu_ne (b c h l : ℕ) : acu DT Db Al b c h l ≠ ⊤ := by
  unfold acu bo
  split
  · split
    · exact bot_ne_top
    · exact EReal.zero_ne_top
  · exact EReal.coe_ne_top _

theorem acu_sub_ne (b c h l s : ℕ) (hs : s ≤ l) : acu DT Db Al b c h l - acu DT Db Al b c h s ≠ ⊤ := by
  unfold acu bo
  split
  · by_cases hp : ∃ r ≤ s, 0 < dt DT Db b (128 * c + r) h
    · have hq : ∃ r ≤ l, 0 < dt DT Db b (128 * c + r) h := by
        obtain ⟨r, h1, h2⟩ := hp
        exact ⟨r, le_trans h1 hs, h2⟩
      rw [if_pos hq, sub_eq_add_neg, EReal.bot_add]
      exact bot_ne_top
    · rw [if_neg hp, sub_zero]
      split
      · exact bot_ne_top
      · exact EReal.zero_ne_top
  · rw [← EReal.coe_sub]
    exact EReal.coe_ne_top _

/-- The decay from the chunk's start. -/
def pe (b c h l : ℕ) : ℝ := (Ideal.exp (acu DT Db Al b c h l)).toReal

/-- The decay between two rows of a chunk. -/
def we (b c h l s : ℕ) : ℝ := (Ideal.exp (acu DT Db Al b c h l - acu DT Db Al b c h s)).toReal

theorem exp_acu (b c h l : ℕ) : Ideal.exp (acu DT Db Al b c h l) = (pe DT Db Al b c h l : EReal) := exp_real _ (acu_ne DT Db Al b c h l)

theorem exp_acu_sub (b c h l s : ℕ) (hs : s ≤ l) : Ideal.exp (acu DT Db Al b c h l - acu DT Db Al b c h s) = (we DT Db Al b c h l s : EReal) :=
  exp_real _ (acu_sub_ne DT Db Al b c h l s hs)

theorem dt_we (b c h l s : ℕ) (hs : s ≤ l) : dt DT Db b (128 * c + s) h * we DT Db Al b c h l s
    = dt DT Db b (128 * c + s) h * ex (Al h) (loc DT Db Al b c h l - loc DT Db Al b c h s) := by
  unfold we acu ex bo
  by_cases ht : Al h = ⊤
  · simp only [if_pos ht, mul_zero]
    by_cases h0 : 0 < dt DT Db b (128 * c + s) h
    · rw [if_pos ⟨s, hs, h0⟩, sub_eq_add_neg, EReal.bot_add, Ideal.exp_bot, EReal.toReal_zero, mul_zero]
    · rw [le_antisymm (not_lt.1 h0) (sp_nonneg _), zero_mul]
  · simp only [if_neg ht]
    rw [← EReal.coe_sub, Ideal.exp_coe, EReal.toReal_coe]

theorem state_pe (b c n j l : ℕ) : state U W Bc DT Db Al b c n j * pe DT Db Al b c (j / 64) l
    = state U W Bc DT Db Al b c n j * ex (Al (j / 64)) (loc DT Db Al b c (j / 64) l) := by
  by_cases ht : Al (j / 64) = ⊤
  · have : state U W Bc DT Db Al b c n j = 0 := by
      unfold state ex
      refine Finset.sum_eq_zero fun s _ => ?_
      rw [if_pos ht, mul_zero, mul_zero, mul_zero]
    rw [this, zero_mul, zero_mul]
  · unfold pe acu ex
    rw [if_neg ht, if_neg ht, Ideal.exp_coe, EReal.toReal_coe]

/-- The state of the next chunk, as the kernel computes it. -/
theorem state_step (b c n j : ℕ) : state U W Bc DT Db Al b c n j * pe DT Db Al b c (j / 64) 127
    + ∑ k : Fin 128, cv U W Bc b (128 * c + k.val) (4096 + 128 * (j / 512) + n) * (cv U W Bc b (128 * c + k.val) j
      * (dt DT Db b (128 * c + k.val) (j / 64) * we DT Db Al b c (j / 64) 127 k.val))
    = state U W Bc DT Db Al b (c + 1) n j := by
  rw [← state_step0, state_pe]
  congr 1
  refine Finset.sum_congr rfl fun k _ => ?_
  rw [dt_we DT Db Al b c (j / 64) 127 k.val (by omega)]

/-- A chunk's result, as the kernel computes it. -/
theorem scan_step (b c j l : ℕ) (hl : l < 128) :
    (∑ n : Fin 128, cv U W Bc b (128 * c + l) (5120 + 128 * (j / 512) + n.val) * state U W Bc DT Db Al b c n.val j) * pe DT Db Al b c (j / 64) l
    + ∑ k : Fin 128, (if k.val ≤ l then cb U W Bc b (128 * c + l) (128 * c + k.val) (j / 512)
        * we DT Db Al b c (j / 64) l k.val * (cv U W Bc b (128 * c + k.val) j * dt DT Db b (128 * c + k.val) (j / 64)) else 0)
    = scan U W Bc DT Db Al b (128 * c + l) j := by
  rw [← scan_step0 U W Bc DT Db Al b c j l hl, Finset.sum_mul, Finset.sum_mul]
  congr 1
  · refine Finset.sum_congr rfl fun n _ => ?_
    rw [mul_assoc, mul_assoc, state_pe]
  · refine Finset.sum_congr rfl fun k _ => ?_
    split
    · next hk =>
      have := dt_we DT Db Al b c (j / 64) l k.val hk
      linear_combination cb U W Bc b (128 * c + l) (128 * c + k.val) (j / 512) * cv U W Bc b (128 * c + k.val) j * this
    · rfl

/-- The gated result of a row and a channel. -/
def gate (D : ℕ → EReal) (Z : ℕ → ℕ → EReal) (b t j : ℕ) : EReal :=
  ((scan U W Bc DT Db Al b t j : EReal) + D (j / 64) * (cv U W Bc b t j : EReal)) * (Z (8192 * b + t) j * Ideal.logistic (Z (8192 * b + t) j))

/-- The normed result. -/
def out (D : ℕ → EReal) (Z : ℕ → ℕ → EReal) (N : ℕ → EReal) (b t j : ℕ) : EReal :=
  gate U W Bc DT Db Al D Z b t j * Ideal.rsqrt (Ideal.div (∑ k : Fin 512, gate U W Bc DT Db Al D Z b t (512 * (j / 512) + k.val)
    * gate U W Bc DT Db Al D Z b t (512 * (j / 512) + k.val)) (Ideal.ofBits FTy.f32 0x44000000#32) + Ideal.ofBits FTy.f32 0x358637BD#32) * N j

end Model

end Cert.Scan

end
-- ==== Proof.Scan.Common.lean ====
module

public import proofs.«01_k».proof.Proof.Gen.Kernel12Ideal.Value
public import proofs.«01_k».proof.Proof.Scan.Math
public import Idealize.ShloMosaic.Lib.Pointwise

@[expose] public section

set_option maxRecDepth 16384
noncomputable section

namespace Cert.Kernel12Ideal.Scan

open Cert.Kernel12Ideal Cert.Kernel12Ideal.Gen Idealize.ShloMosaic Idealize.ShloMosaic.TcCoe Idealize.SL.Sem Cert.Scan Cert.Attn

/-- One doubling step of the running sums down the rows. -/
def stage (s : BitVec 32) (x : FVec Ideal S128x128 .f32) : FVec Ideal S128x128 .f32 :=
  addf x (select (cmpi .sge (iota .tc S128x128 32 [0] iota_S128x128_d0_w32) (broadcast S128x128 s))
    (dynamicRotate 0 s none x rotates_S128x128_d0) (broadcast S128x128 (Scalar.ofBits .f32 0x00000000#32 : Ideal .f32)))

theorem pay12_eq (v31 : FVec Ideal S128x128 .f32) (v34 v35 : FVec Ideal S1x128 .f32) : k0_pay12 v31 v34 v35
    = stage 32#32 (stage 16#32 (stage 8#32 (stage 4#32 (stage 2#32 (stage 1#32 (mulf v31 (broadcastTo S128x128 (subf v35 v34) broadcasts_S1x128_S128x128))))))) := rfl

theorem pay14_eq (v75 : FVec Ideal S128x128 .f32) : k0_pay14 (iota Kind.tc S128x128 32 [0] iota_S128x128_d0_w32) v75 k0_pay13 = stage 64#32 v75 := rfl

theorem row_ge (s : ℕ) (hs : s < 128) (l : Fin 128) : IntOp.cmpi CmpIPredicate.sge (BitVec.ofNat 32 l.val) (BitVec.ofNat 32 s)
    = if s ≤ l.val then 1#1 else 0#1 := by
  have : ∀ l s : Fin 128, IntOp.cmpi CmpIPredicate.sge (BitVec.ofNat 32 l.val) (BitVec.ofNat 32 s.val) = if s.val ≤ l.val then 1#1 else 0#1 := by
    decide +kernel
  exact this l ⟨s, hs⟩

theorem stage_apply (s : ℕ) (hs : s < 128) (x : FVec Ideal S128x128 .f32) (l h : Fin 128) :
    stage (BitVec.ofNat 32 s) x (ix2 l h) = x (ix2 l h) + if s ≤ l.val then x (ix2 ⟨l.val - s, by omega⟩ h) else 0 := by
  have hl := l.isLt
  unfold stage
  pointwise []
  rw [row_ge s hs l]
  congr 1
  have hn : (BitVec.ofNat 32 s).toNat = s := by rw [BitVec.toNat_ofNat]; omega
  split
  · refine congrArg (fun y => x (ix2 y h)) (Fin.ext ?_)
    show (l.val + 128 - (BitVec.ofNat 32 s).toNat % 128) % 128 = l.val - s
    rw [hn]
    omega
  · rfl

theorem coe_max (a b : ℝ) : ((max a b : ℝ) : EReal) = max (a : EReal) (b : EReal) := EReal.coe_strictMono.monotone.map_max

/-- The logarithm of one plus the exponential, as both programs compute it. -/
theorem softplus_real (r : ℝ) : Ideal.log1p (Ideal.exp (0 - max (r : EReal) (-(r : EReal)))) = ((Real.log (1 + Real.exp (-|r|)) : ℝ) : EReal) := by
  rw [← EReal.coe_neg, ← coe_max, ← EReal.coe_zero, ← EReal.coe_sub, Ideal.exp_coe, zero_sub]
  have : max r (-r) = |r| := rfl
  rw [this]
  unfold Ideal.log1p
  rw [← EReal.coe_one, ← EReal.coe_add]
  have hp : 0 < 1 + Real.exp (-|r|) := by positivity
  rw [Ideal.log_coe, if_neg (not_le.2 hp)]

theorem softplus_lo (x : Option ℝ) : max (lo x) 0 + Ideal.log1p (Ideal.exp (0 - max (lo x) (-lo x))) = (sp x : EReal) := by
  cases x with
  | none =>
    show max (⊥ : EReal) 0 + Ideal.log1p (Ideal.exp (0 - max (⊥ : EReal) (-⊥))) = ((0 : ℝ) : EReal)
    rw [EReal.neg_bot, max_eq_right bot_le, max_eq_right bot_le, zero_sub, EReal.neg_top, Ideal.exp_bot, zero_add]
    unfold Ideal.log1p
    rw [add_zero, ← EReal.coe_one, Ideal.log_coe, if_neg (not_le.2 one_pos), Real.log_one]
  | some r =>
    show max (r : EReal) 0 + Ideal.log1p (Ideal.exp (0 - max (r : EReal) (-(r : EReal)))) = _
    rw [softplus_real, ← EReal.coe_zero, ← coe_max, ← EReal.coe_add]
    rfl

theorem dt_apply (x3 : Vec Ideal S128x128 .f32) (x8 : Vec Ideal S1x128 .f32) (l h : Fin 128) (a d : Option ℝ) (h3 : x3 (ix2 l h) = lo a)
    (h8 : x8 (ix2 0 h) = lo d) : k0_pay9 x3 x8 (ix2 l h) = (sp (plus a d) : EReal) := by
  pointwise [k0_pay9]
  rw [if_neg (fun h => h rfl), h3, h8, lo_plus, ← softplus_lo]
  rfl

theorem da_apply (v31 : FVec Ideal S128x128 .f32) (x9 : Vec Ideal S1x128 .f32) (l h : Fin 128) :
    (mulf v31 (broadcastTo S128x128 (subf k0_pay11 (k0_pay10 x9)) broadcasts_S1x128_S128x128)) (ix2 l h) = v31 (ix2 l h) * (0 - Ideal.exp (x9 (ix2 0 h))) := by
  pointwise [k0_pay11, k0_pay10]

theorem pay15_apply (v39 v75 v76) (l h : Fin 128) : (k0_pay15 (F := Ideal) v39 v75 v76) (ix2 h l) = k0_pay14 v39 v75 v76 (ix2 l h) := by
  pointwise [k0_pay15]

theorem pay16_apply (v39 v75 v76) (h : Fin 128) : (k0_pay16 (F := Ideal) v39 v75 v76) (ix2 0 h) = k0_pay14 v39 v75 v76 (ix2 127 h) := by
  pointwise [k0_pay16]

theorem pay18_apply0 (v31 v39 v75 v76 x12) (l : Fin 128) (j : Fin 4096) : (k0_pay18 (F := Ideal) v31 v39 v75 v76 x12) (ix2 ⟨l.val, by omega⟩ j)
    = ∑ k : Fin 128, v31 (ix2 l k) * x12 (ix2 k j) := by
  pointwise [k0_pay18, k0_pay17]

theorem pay18_apply1 (v31 v39 v75 v76 x12) (l : Fin 128) (j : Fin 4096) : (k0_pay18 (F := Ideal) v31 v39 v75 v76 x12) (ix2 ⟨128 + l.val, by omega⟩ j)
    = ∑ k : Fin 128, (v31 (ix2 l k) * Ideal.exp (k0_pay14 v39 v75 v76 (ix2 127 k) - k0_pay14 v39 v75 v76 (ix2 l k))) * x12 (ix2 k j) := by
  pointwise [k0_pay18, k0_pay17, k0_pay16]

theorem pay18_apply2 (v31 v39 v75 v76 x12) (l : Fin 128) (j : Fin 4096) : (k0_pay18 (F := Ideal) v31 v39 v75 v76 x12) (ix2 ⟨256 + l.val, by omega⟩ j)
    = ∑ k : Fin 128, Ideal.exp (k0_pay14 v39 v75 v76 (ix2 l k)) * x12 (ix2 k j) := by
  pointwise [k0_pay18, k0_pay17, k0_pay16]
  refine Finset.sum_congr rfl fun k _ => ?_
  rw [dif_neg (by omega), dif_neg (by omega)]
  refine congrArg (fun y => Ideal.exp (k0_pay14 v39 v75 v76 (ix2 y k)) * x12 (ix2 k j)) (Fin.ext ?_)
  show 256 + l.val - 128 - 128 = l.val
  omega

theorem pay19_apply (v39 v75 v76 x12) (j : Fin 4096) : (k0_pay19 (F := Ideal) v39 v75 v76 x12) (ix2 0 j)
    = (∑ k : Fin 128, Ideal.exp (k0_pay14 v39 v75 v76 (ix2 127 k)) * x12 (ix2 k j))
      + ∑ k : Fin 128, (Ideal.exp (k0_pay14 v39 v75 v76 (ix2 127 k)) - Ideal.exp (k0_pay14 v39 v75 v76 (ix2 127 k))) * x12 (ix2 k j) := by
  pointwise [k0_pay19, k0_pay17, k0_pay16]

theorem pay20_apply (l s : Fin 128) : k0_pay20 (ix2 l s) = if s.val ≤ l.val then 1#1 else 0#1 := by
  rw [← row_ge s.val s.isLt l]
  pointwise [k0_pay20]

theorem pay21_apply (s q : Fin 128) : k0_pay21 (ix2 s q) = if q.val < 64 then 1#1 else 0#1 := by
  have : ∀ d : Fin 128, IntOp.cmpi CmpIPredicate.slt (BitVec.ofNat 32 d.val) 64#32 = if d.val < 64 then 1#1 else 0#1 := by decide +kernel
  rw [← this]
  pointwise [k0_pay21]

end Cert.Kernel12Ideal.Scan

end
-- ==== Proof.Scan.CommonReal.lean ====
module

public import proofs.«01_k».proof.Proof.Scan.Common

@[expose] public section

set_option maxRecDepth 16384
noncomputable section

namespace Cert.Kernel12Ideal.Scan

open Cert.Kernel12Ideal Cert.Kernel12Ideal.Gen Idealize.ShloMosaic Idealize.ShloMosaic.TcCoe Idealize.SL.Sem Cert.Scan Cert.Attn

theorem stage_real (f : ℕ → ℝ) (s : ℕ) (hs : s < 128) (x : FVec Ideal S128x128 .f32) (h : Fin 128)
    (hx : ∀ l : Fin 128, x (ix2 l h) = (win f s l.val : EReal)) (l : Fin 128) : stage (BitVec.ofNat 32 s) x (ix2 l h) = (win f (2 * s) l.val : EReal) := by
  rw [stage_apply s hs, ← win_double, hx]
  split
  · next hl => rw [hx, EReal.coe_add]
  · next hl => simp

theorem stage_bo (P : ℕ → Prop) (s : ℕ) (hs : s < 128) (x : FVec Ideal S128x128 .f32) (h : Fin 128)
    (hx : ∀ l : Fin 128, x (ix2 l h) = bo (∃ r ≤ l.val, l.val < r + s ∧ P r)) (l : Fin 128) :
    stage (BitVec.ofNat 32 s) x (ix2 l h) = bo (∃ r ≤ l.val, l.val < r + 2 * s ∧ P r) := by
  have e : (if s ≤ l.val then x (ix2 ⟨l.val - s, by omega⟩ h) else 0) = bo (s ≤ l.val ∧ ∃ r ≤ l.val - s, l.val - s < r + s ∧ P r) := by
    split
    · next hl =>
      rw [hx]
      exact congrArg bo (propext ⟨fun h => ⟨hl, h⟩, fun h => h.2⟩)
    · next hl =>
      unfold bo
      rw [if_neg (fun h => hl h.1)]
  rw [stage_apply s hs, hx, e, bo_add]
  congr 1
  refine propext ⟨?_, ?_⟩
  · rintro (⟨r, h1, h2, h3⟩ | ⟨h0, r, h1, h2, h3⟩)
    · exact ⟨r, h1, by omega, h3⟩
    · exact ⟨r, by omega, by omega, h3⟩
  · rintro ⟨r, h1, h2, h3⟩
    by_cases h4 : l.val < r + s
    · exact Or.inl ⟨r, h1, h4, h3⟩
    · exact Or.inr ⟨by omega, r, by omega, by omega, h3⟩

section Common

variable (x3 : Vec Ideal S128x128 .f32) (x8 x9 : Vec Ideal S1x128 .f32) (x12 : Vec Ideal S128x4096 .bf16)

/-- The running sums. -/
abbrev V75 : FVec Ideal S128x128 .f32 := k0_pay12 (k0_pay9 x3 x8) (k0_pay10 x9) k0_pay11
abbrev V81 : FVec Ideal S128x128 .f32 := k0_pay14 (iota Kind.tc S128x128 32 [0] iota_S128x128_d0_w32) (V75 x3 x8 x9) k0_pay13
abbrev V82 : FVec Ideal S128x128 .f32 := k0_pay15 (iota Kind.tc S128x128 32 [0] iota_S128x128_d0_w32) (V75 x3 x8 x9) k0_pay13
abbrev V93 : FVec Ideal S384x4096 .f32 := k0_pay18 (k0_pay9 x3 x8) (iota Kind.tc S128x128 32 [0] iota_S128x128_d0_w32) (V75 x3 x8 x9) k0_pay13 x12
abbrev V104 : FVec Ideal S1x4096 .f32 := k0_pay19 (iota Kind.tc S128x128 32 [0] iota_S128x128_d0_w32) (V75 x3 x8 x9) k0_pay13 x12

variable (DT : ℕ → ℕ → Option ℝ) (Db : ℕ → Option ℝ) (Al : ℕ → EReal) (b c : ℕ)

variable (h3 : ∀ l h : Fin 128, h.val < 64 → x3 (ix2 l h) = lo (DT (8192 * b + (128 * c + l.val)) h.val))
variable (h8 : ∀ h : Fin 128, h.val < 64 → x8 (ix2 0 h) = lo (Db h.val))
variable (h9 : ∀ h : Fin 128, h.val < 64 → x9 (ix2 0 h) = Al h.val)
variable (h12 : ∀ (k : Fin 128) (j : Fin 4096), x12 (ix2 k j) = if k.val = j.val / 64 then 1 else 0)

include h3 h8

theorem dt_real (l h : Fin 128) (hh : h.val < 64) : k0_pay9 x3 x8 (ix2 l h) = (dt DT Db b (128 * c + l.val) h.val : EReal) :=
  dt_apply x3 x8 l h _ _ (h3 l h hh) (h8 h hh)

include h9

theorem acum_real (l h : Fin 128) (hh : h.val < 64) : V81 x3 x8 x9 (ix2 l h) = acu DT Db Al b c h.val l.val := by
  unfold acu
  split
  · next ht =>
    have e : (∃ r ≤ l.val, 0 < dt DT Db b (128 * c + r) h.val) = ∃ r ≤ l.val, l.val < r + 2 * 64 ∧ 0 < dt DT Db b (128 * c + r) h.val := by
      refine propext ⟨?_, ?_⟩
      · rintro ⟨r, h1, h2⟩
        exact ⟨r, h1, by omega, h2⟩
      · rintro ⟨r, h1, _, h2⟩
        exact ⟨r, h1, h2⟩
    rw [V81, pay14_eq, V75, pay12_eq]
    simp only [e]
    refine stage_bo _ 64 (by decide) _ h (fun l => ?_) l
    refine stage_bo _ 32 (by decide) _ h (fun l => ?_) l
    refine stage_bo _ 16 (by decide) _ h (fun l => ?_) l
    refine stage_bo _ 8 (by decide) _ h (fun l => ?_) l
    refine stage_bo _ 4 (by decide) _ h (fun l => ?_) l
    refine stage_bo _ 2 (by decide) _ h (fun l => ?_) l
    refine stage_bo _ 1 (by decide) _ h (fun l => ?_) l
    rw [da_apply, dt_real x3 x8 DT Db b c h3 h8 l h hh, h9 h hh, ht, Ideal.exp_top, zero_sub, EReal.neg_top, mul_bot_of (dt DT Db b (128 * c + l.val) h.val) (sp_nonneg _)]
    congr 1
    refine propext ⟨fun h0 => ⟨l.val, le_refl _, by omega, h0⟩, ?_⟩
    rintro ⟨r, h1, h2, h0⟩
    rw [show l.val = r by omega]
    exact h0
  · next ht =>
    rw [V81, pay14_eq, V75, pay12_eq, loc_eq, ← win_all (fun r => da DT Db Al b (128 * c + r) h.val) 128 l.val l.isLt]
    refine stage_real _ 64 (by decide) _ h (fun l => ?_) l
    refine stage_real _ 32 (by decide) _ h (fun l => ?_) l
    refine stage_real _ 16 (by decide) _ h (fun l => ?_) l
    refine stage_real _ 8 (by decide) _ h (fun l => ?_) l
    refine stage_real _ 4 (by decide) _ h (fun l => ?_) l
    refine stage_real _ 2 (by decide) _ h (fun l => ?_) l
    refine stage_real _ 1 (by decide) _ h (fun l => ?_) l
    rw [da_apply, dt_real x3 x8 DT Db b c h3 h8 l h hh, h9 h hh, win_one, exp_real _ ht, ← EReal.coe_zero, ← EReal.coe_sub, ← EReal.coe_mul, zero_sub]
    rfl

theorem acumT_real (l h : Fin 128) (hh : h.val < 64) : V82 x3 x8 x9 (ix2 h l) = acu DT Db Al b c h.val l.val := by
  rw [V82, pay15_apply]
  exact acum_real x3 x8 x9 DT Db Al b c h3 h8 h9 l h hh

theorem decay_real (l s h : Fin 128) (hh : h.val < 64) (hs : s.val ≤ l.val) : Ideal.exp (V81 x3 x8 x9 (ix2 l h) - V82 x3 x8 x9 (ix2 h s))
    = (we DT Db Al b c h.val l.val s.val : EReal) := by
  rw [acum_real x3 x8 x9 DT Db Al b c h3 h8 h9 l h hh, acumT_real x3 x8 x9 DT Db Al b c h3 h8 h9 s h hh]
  exact exp_acu_sub DT Db Al b c h.val l.val s.val hs

omit h3 h8 h9
include h12

/-- A sum against a column of the expanding matrix picks the column's head. -/
theorem pick (v : Fin 128 → EReal) (j : Fin 4096) : (∑ k : Fin 128, v k * x12 (ix2 k j)) = v ⟨j.val / 64, by omega⟩ := by
  rw [Finset.sum_eq_single ⟨j.val / 64, by omega⟩]
  · rw [h12, if_pos rfl, mul_one]
  · intro k _ hk
    rw [h12, if_neg (fun h => hk (Fin.ext h)), mul_zero]
  · intro h
    exact absurd (Finset.mem_univ _) h

include h3 h8

theorem e0_real (l : Fin 128) (j : Fin 4096) : V93 x3 x8 x9 x12 (ix2 ⟨l.val, by omega⟩ j) = (dt DT Db b (128 * c + l.val) (j.val / 64) : EReal) := by
  rw [V93, pay18_apply0, pick x12 h12]
  exact dt_real x3 x8 DT Db b c h3 h8 l _ (show j.val / 64 < 64 by omega)

include h9

theorem e1_real (l : Fin 128) (j : Fin 4096) : V93 x3 x8 x9 x12 (ix2 ⟨128 + l.val, by omega⟩ j)
    = (dt DT Db b (128 * c + l.val) (j.val / 64) * we DT Db Al b c (j.val / 64) 127 l.val : ℝ) := by
  rw [V93, pay18_apply1, pick x12 h12 (fun k => k0_pay9 x3 x8 (ix2 l k) * Ideal.exp (V81 x3 x8 x9 (ix2 127 k) - V81 x3 x8 x9 (ix2 l k)))]
  rw [dt_real x3 x8 DT Db b c h3 h8 l _ (show j.val / 64 < 64 by omega), acum_real x3 x8 x9 DT Db Al b c h3 h8 h9 127 _ (show j.val / 64 < 64 by omega),
    acum_real x3 x8 x9 DT Db Al b c h3 h8 h9 l _ (show j.val / 64 < 64 by omega), exp_acu_sub DT Db Al b c _ _ _ (show l.val ≤ (127 : Fin 128).val from Nat.le_of_lt_succ l.isLt), ← EReal.coe_mul]
  rfl

theorem e2_real (l : Fin 128) (j : Fin 4096) : V93 x3 x8 x9 x12 (ix2 ⟨256 + l.val, by omega⟩ j)
    = (pe DT Db Al b c (j.val / 64) l.val : EReal) := by
  rw [V93, pay18_apply2, pick x12 h12 (fun k => Ideal.exp (V81 x3 x8 x9 (ix2 l k)))]
  rw [acum_real x3 x8 x9 DT Db Al b c h3 h8 h9 l _ (show j.val / 64 < 64 by omega), exp_acu]

theorem last_real (j : Fin 4096) : V104 x3 x8 x9 x12 (ix2 0 j) = (pe DT Db Al b c (j.val / 64) 127 : EReal) := by
  rw [V104, pay19_apply, pick x12 h12 (fun k => Ideal.exp (V81 x3 x8 x9 (ix2 127 k))),
    pick x12 h12 (fun k => Ideal.exp (V81 x3 x8 x9 (ix2 127 k)) - Ideal.exp (V81 x3 x8 x9 (ix2 127 k)))]
  rw [acum_real x3 x8 x9 DT Db Al b c h3 h8 h9 127 _ (show j.val / 64 < 64 by omega), exp_acu, ← EReal.coe_sub, ← EReal.coe_add, sub_self, add_zero]
  rfl

end Common

end Cert.Kernel12Ideal.Scan

end
-- ==== Proof.Scan.GroupReal.lean ====
module

public import proofs.«01_k».proof.Proof.Scan.GroupVals
public import proofs.«01_k».proof.Proof.Scan.CommonReal

@[expose] public section

set_option maxRecDepth 16384
noncomputable section

namespace Cert.Kernel12Ideal.Scan

open Cert.Kernel12Ideal Cert.Kernel12Ideal.Gen Idealize.ShloMosaic Idealize.ShloMosaic.TcCoe Idealize.SL.Sem Cert.Scan Cert.Attn

section Group

variable (g : Fin 8) (v81 v82 : FVec Ideal S128x128 .f32) (v93 : FVec Ideal S384x4096 .f32) (v104 : FVec Ideal S1x4096 .f32)
variable (xg : FVec Ideal S128x512 .f32) (bg cg : FVec Ideal S128x128 .f32) (st : Vec Ideal S128x512 .f32)
variable (d p q : ℕ → ℕ → ℝ) (w : ℕ → ℕ → ℕ → ℝ) (x S B C : ℕ → ℕ → ℝ)

variable (h8 : ∀ l s h : Fin 128, h.val < 64 → s.val ≤ l.val → Ideal.exp (v81 (ix2 l h) - v82 (ix2 h s)) = (w h.val l.val s.val : EReal))
variable (h0 : ∀ (l : Fin 128) (j : Fin 4096) (h : l.val < 384), v93 (ix2 ⟨l.val, h⟩ j) = (d (j.val / 64) l.val : EReal))
variable (h1 : ∀ (l : Fin 128) (j : Fin 4096) (h : 128 + l.val < 384), v93 (ix2 ⟨128 + l.val, h⟩ j) = (d (j.val / 64) l.val * q (j.val / 64) l.val : ℝ))
variable (h2 : ∀ (l : Fin 128) (j : Fin 4096) (h : 256 + l.val < 384), v93 (ix2 ⟨256 + l.val, h⟩ j) = (p (j.val / 64) l.val : EReal))
variable (hl : ∀ j : Fin 4096, v104 (ix2 0 j) = (p (j.val / 64) 127 : EReal))
variable (hx : ∀ (l : Fin 128) (j : Fin 512), xg (ix2 l j) = (x l.val (512 * g.val + j.val) : EReal))
variable (hB : ∀ l n : Fin 128, bg (ix2 l n) = (B l.val n.val : EReal))
variable (hC : ∀ l n : Fin 128, cg (ix2 l n) = (C l.val n.val : EReal))
variable (hs : ∀ (n : Fin 128) (j : Fin 512), st (ix2 n j) = (S n.val (512 * g.val + j.val) : EReal))

include h1 hl hx hB hs in
theorem state_real (n : Fin 128) (j : Fin 512) : stateOut g v93 v104 xg bg st (ix2 n j)
    = ((S n.val (512 * g.val + j.val) * p ((512 * g.val + j.val) / 64) 127
      + ∑ k : Fin 128, B k.val n.val * (x k.val (512 * g.val + j.val) * (d ((512 * g.val + j.val) / 64) k.val
        * q ((512 * g.val + j.val) / 64) k.val)) : ℝ) : EReal) := by
  rw [stateOut_apply, hs, hl, EReal.coe_add, EReal.coe_mul, ← coe_sum]
  congr 1
  refine Finset.sum_congr rfl fun k _ => ?_
  rw [scaled_apply, hB, hx, EReal.coe_mul, EReal.coe_mul]
  congr 2
  exact h1 k ⟨512 * g.val + j.val, by omega⟩ (by omega)

include h2 hC hs in
theorem fromState_real (l : Fin 128) (j : Fin 512) : fromState g v93 cg st (ix2 l j)
    = (((∑ n : Fin 128, C l.val n.val * S n.val (512 * g.val + j.val)) * p ((512 * g.val + j.val) / 64) l.val : ℝ) : EReal) := by
  rw [fromState_apply, EReal.coe_mul, ← coe_sum]
  congr 1
  · refine Finset.sum_congr rfl fun n _ => ?_
    rw [hC, hs, EReal.coe_mul]
  · exact h2 l ⟨512 * g.val + j.val, by omega⟩ (by omega)

include h8 hB hC in
theorem mat_real (i : Fin 8) (l s : Fin 128) : mat g i v81 v82 k0_pay20 (prods bg cg) (ix2 l s)
    = ((if s.val ≤ l.val then (∑ n : Fin 128, C l.val n.val * B s.val n.val) * w (8 * g.val + i.val) l.val s.val else 0 : ℝ) : EReal) := by
  have hp : prods bg cg (ix2 l s) = ((∑ n : Fin 128, C l.val n.val * B s.val n.val : ℝ) : EReal) := by
    rw [prods_apply, ← coe_sum]
    refine Finset.sum_congr rfl fun n _ => ?_
    rw [hC, hB, EReal.coe_mul]
  rw [mat_apply, pay20_apply, hp]
  by_cases h : s.val ≤ l.val
  · rw [if_pos h, if_pos h, if_pos rfl, h8 l s _ (show 8 * g.val + i.val < 64 by omega) h,
      ← EReal.coe_mul]
  · rw [if_neg h, if_neg h, if_neg (by decide), Ideal.exp_bot, mul_zero, EReal.coe_zero]

include h8 h0 hx hB hC in
theorem fromChunk_real (l : Fin 128) (j : Fin 512) : fromChunk g v81 v82 v93 k0_pay20 k0_pay21 xg bg cg (ix2 l j)
    = ((∑ k : Fin 128, (if k.val ≤ l.val then (∑ n : Fin 128, C l.val n.val * B k.val n.val)
        * w ((512 * g.val + j.val) / 64) l.val k.val
        * (x k.val (512 * g.val + j.val) * d ((512 * g.val + j.val) / 64) k.val) else 0) : ℝ) : EReal) := by
  obtain ⟨p, q, rfl⟩ : ∃ (p : Fin 4) (q : Fin 128), j = ⟨128 * p.val + q.val, by omega⟩ :=
    ⟨⟨j.val / 128, by omega⟩, ⟨j.val % 128, by omega⟩, Fin.ext (by show j.val = 128 * (j.val / 128) + j.val % 128; omega)⟩
  have hd : ∀ s : Fin 128, scaled 0 g v93 xg (ix2 s ⟨128 * p.val + q.val, by omega⟩)
      = ((x s.val (512 * g.val + (128 * p.val + q.val)) * d ((512 * g.val + (128 * p.val + q.val)) / 64) s.val : ℝ) : EReal) := by
    intro s
    rw [scaled_apply, hx, EReal.coe_mul]
    congr 1
    refine Eq.trans (congrArg v93 ?_) (h0 s ⟨512 * g.val + (128 * p.val + q.val), by omega⟩ (by omega))
    refine congrArg (fun y => ix2 y _) (Fin.ext ?_)
    show 128 * 0 + s.val = s.val
    omega
  have key : ∀ (i : Fin 8) (s : Fin 128), 8 * g.val + i.val = (512 * g.val + (128 * p.val + q.val)) / 64 →
      mat g i v81 v82 k0_pay20 (prods bg cg) (ix2 l s) * scaled 0 g v93 xg (ix2 s ⟨128 * p.val + q.val, by omega⟩)
      = ((if s.val ≤ l.val then (∑ n : Fin 128, C l.val n.val * B s.val n.val)
        * w ((512 * g.val + (128 * p.val + q.val)) / 64) l.val s.val
        * (x s.val (512 * g.val + (128 * p.val + q.val)) * d ((512 * g.val + (128 * p.val + q.val)) / 64) s.val) else 0 : ℝ) : EReal) := by
    intro i s hi
    rw [mat_real g v81 v82 bg cg w B C h8 hB hC, hd, ← EReal.coe_mul, hi]
    congr 1
    split
    · rfl
    · exact zero_mul _
  rw [fromChunk_apply, pair_apply, ← coe_sum]
  by_cases hq : q.val < 64
  · rw [Finset.sum_eq_zero (s := Finset.univ) (f := fun s : Fin 128 => if k0_pay21 (ix2 s q) = 1#1 then (0 : EReal) else _) (fun s _ => by
      rw [pay21_apply, if_pos hq, if_pos rfl]), add_zero]
    refine Finset.sum_congr rfl fun s _ => ?_
    rw [pay21_apply, if_pos hq, if_pos rfl]
    exact key ⟨2 * p.val, by omega⟩ s (by show 8 * g.val + 2 * p.val = _; omega)
  · rw [Finset.sum_eq_zero (s := Finset.univ) (f := fun s : Fin 128 => if k0_pay21 (ix2 s q) = 1#1 then _ else (0 : EReal)) (fun s _ => by
      rw [pay21_apply, if_neg hq, if_neg (by decide)]), zero_add]
    refine Finset.sum_congr rfl fun s _ => ?_
    rw [pay21_apply, if_neg hq, if_neg (by decide)]
    exact key ⟨2 * p.val + 1, by omega⟩ s (by show 8 * g.val + (2 * p.val + 1) = _; omega)

end Group

end Cert.Kernel12Ideal.Scan

end
-- ==== Proof.Scan.GroupModel.lean ====
module

public import proofs.«01_k».proof.Proof.Scan.GroupReal

@[expose] public section

set_option maxRecDepth 16384
noncomputable section

namespace Cert.Kernel12Ideal.Scan

open Cert.Kernel12Ideal Cert.Kernel12Ideal.Gen Idealize.ShloMosaic Idealize.ShloMosaic.TcCoe Idealize.SL.Sem Cert.Scan Cert.Attn

section Conv

variable (U W : ℕ → ℕ → ℝ) (Bc : ℕ → Option ℝ) (b c o : ℕ)

theorem silu_real (x : Option ℝ) : lo x * Ideal.logistic (lo x) = (sil x : EReal) := by
  cases x with
  | none =>
    show (⊥ : EReal) * Ideal.logistic ⊥ = ((0 : ℝ) : EReal)
    rw [Ideal.logistic_bot, mul_zero, EReal.coe_zero]
  | some r =>
    show (r : EReal) * Ideal.logistic (r : EReal) = ((r * (1 + Real.exp (-r))⁻¹ : ℝ) : EReal)
    rw [Ideal.logistic_coe, EReal.coe_mul]

theorem convX_real (w w0 w1 w2 w3 : Vec Ideal S1x512 .f32) (u0 u1 u2 u3 : Vec Ideal S128x512 .f32)
    (hb : ∀ j : Fin 512, w (ix2 0 j) = lo (Bc (o + j.val)))
    (hw0 : ∀ j : Fin 512, w0 (ix2 0 j) = (W 0 (o + j.val) : EReal))
    (hw1 : ∀ j : Fin 512, w1 (ix2 0 j) = (W 1 (o + j.val) : EReal))
    (hw2 : ∀ j : Fin 512, w2 (ix2 0 j) = (W 2 (o + j.val) : EReal))
    (hw3 : ∀ j : Fin 512, w3 (ix2 0 j) = (W 3 (o + j.val) : EReal))
    (hu0 : ∀ (l : Fin 128) (j : Fin 512), u0 (ix2 l j) = (past U b (128 * c + l.val) (o + j.val) : EReal))
    (hu1 : ∀ (l : Fin 128) (j : Fin 512), u1 (ix2 l j) = (past U b (128 * c + l.val + 1) (o + j.val) : EReal))
    (hu2 : ∀ (l : Fin 128) (j : Fin 512), u2 (ix2 l j) = (past U b (128 * c + l.val + 2) (o + j.val) : EReal))
    (hu3 : ∀ (l : Fin 128) (j : Fin 512), u3 (ix2 l j) = (past U b (128 * c + l.val + 3) (o + j.val) : EReal))
    (l : Fin 128) (j : Fin 512) : convX w w0 w1 w2 w3 u0 u1 u2 u3 (ix2 l j) = (cv U W Bc b (128 * c + l.val) (o + j.val) : EReal) := by
  have hp : preX w w0 w1 w2 w3 u0 u1 u2 u3 (ix2 l j) = lo (pre U W Bc b (128 * c + l.val) (o + j.val)) := by
    rw [preX_apply, hb, hw0, hw1, hw2, hw3, hu0, hu1, hu2, hu3]
    simp only [← EReal.coe_mul, lo_add]
    rfl
  rw [convX_apply, hp, silu_real]
  rfl

theorem convB_real (w w0 w1 w2 w3 : Vec Ideal S1x128 .f32) (u0 u1 u2 u3 : Vec Ideal S128x128 .f32)
    (hb : ∀ j : Fin 128, w (ix2 0 j) = lo (Bc (o + j.val)))
    (hw0 : ∀ j : Fin 128, w0 (ix2 0 j) = (W 0 (o + j.val) : EReal))
    (hw1 : ∀ j : Fin 128, w1 (ix2 0 j) = (W 1 (o + j.val) : EReal))
    (hw2 : ∀ j : Fin 128, w2 (ix2 0 j) = (W 2 (o + j.val) : EReal))
    (hw3 : ∀ j : Fin 128, w3 (ix2 0 j) = (W 3 (o + j.val) : EReal))
    (hu0 : ∀ (l : Fin 128) (j : Fin 128), u0 (ix2 l j) = (past U b (128 * c + l.val) (o + j.val) : EReal))
    (hu1 : ∀ (l : Fin 128) (j : Fin 128), u1 (ix2 l j) = (past U b (128 * c + l.val + 1) (o + j.val) : EReal))
    (hu2 : ∀ (l : Fin 128) (j : Fin 128), u2 (ix2 l j) = (past U b (128 * c + l.val + 2) (o + j.val) : EReal))
    (hu3 : ∀ (l : Fin 128) (j : Fin 128), u3 (ix2 l j) = (past U b (128 * c + l.val + 3) (o + j.val) : EReal))
    (l : Fin 128) (j : Fin 128) : convB w w0 w1 w2 w3 u0 u1 u2 u3 (ix2 l j) = (cv U W Bc b (128 * c + l.val) (o + j.val) : EReal) := by
  have hp : preB w w0 w1 w2 w3 u0 u1 u2 u3 (ix2 l j) = lo (pre U W Bc b (128 * c + l.val) (o + j.val)) := by
    rw [preB_apply, hb, hw0, hw1, hw2, hw3, hu0, hu1, hu2, hu3]
    simp only [← EReal.coe_mul, lo_add]
    rfl
  rw [convB_apply, hp, silu_real]
  rfl

end Conv

section Block

variable (g : Fin 8) (x3 : Vec Ideal S128x128 .f32) (x8 x9 : Vec Ideal S1x128 .f32) (x12 : Vec Ideal S128x4096 .bf16)
variable (U W : ℕ → ℕ → ℝ) (Bc : ℕ → Option ℝ) (DT : ℕ → ℕ → Option ℝ) (Db : ℕ → Option ℝ) (Al : ℕ → EReal) (D : ℕ → EReal) (Z : ℕ → ℕ → EReal) (N : ℕ → EReal) (b c : ℕ)
variable (xg : FVec Ideal S128x512 .f32) (bg cg : FVec Ideal S128x128 .f32) (st : Vec Ideal S128x512 .f32) (d : Vec Ideal S1x512 .f32)
variable (z : Vec Ideal S128x512 .bf16) (nw : Vec Ideal S1x512 .f32)
variable (h3 : ∀ l h : Fin 128, h.val < 64 → x3 (ix2 l h) = lo (DT (8192 * b + (128 * c + l.val)) h.val))
variable (h8 : ∀ h : Fin 128, h.val < 64 → x8 (ix2 0 h) = lo (Db h.val))
variable (h9 : ∀ h : Fin 128, h.val < 64 → x9 (ix2 0 h) = Al h.val)
variable (h12 : ∀ (k : Fin 128) (j : Fin 4096), x12 (ix2 k j) = if k.val = j.val / 64 then 1 else 0)
variable (hx : ∀ (l : Fin 128) (j : Fin 512), xg (ix2 l j) = (cv U W Bc b (128 * c + l.val) (512 * g.val + j.val) : EReal))
variable (hB : ∀ l n : Fin 128, bg (ix2 l n) = (cv U W Bc b (128 * c + l.val) (4096 + 128 * g.val + n.val) : EReal))
variable (hC : ∀ l n : Fin 128, cg (ix2 l n) = (cv U W Bc b (128 * c + l.val) (5120 + 128 * g.val + n.val) : EReal))
variable (hs : ∀ (n : Fin 128) (j : Fin 512), st (ix2 n j) = (state U W Bc DT Db Al b c n.val (512 * g.val + j.val) : EReal))
variable (hd : ∀ j : Fin 512, d (ix2 0 j) = D ((512 * g.val + j.val) / 64))
variable (hz : ∀ (l : Fin 128) (j : Fin 512), z (ix2 l j) = Z (8192 * b + (128 * c + l.val)) (512 * g.val + j.val))
variable (hn : ∀ j : Fin 512, nw (ix2 0 j) = N (512 * g.val + j.val))

include h3 h8 h9 h12 hx hB hs in
/-- A group's state after a chunk. -/
theorem state_next (n : Fin 128) (j : Fin 512) : stateOut g (V93 x3 x8 x9 x12) (V104 x3 x8 x9 x12) xg bg st (ix2 n j)
    = (state U W Bc DT Db Al b (c + 1) n.val (512 * g.val + j.val) : EReal) := by
  rw [state_real g (V93 x3 x8 x9 x12) (V104 x3 x8 x9 x12) xg bg st (fun h l => dt DT Db b (128 * c + l) h) (pe DT Db Al b c) (fun h l => we DT Db Al b c h 127 l)
    (fun l j => cv U W Bc b (128 * c + l) j) (fun n j => state U W Bc DT Db Al b c n j) (fun l n => cv U W Bc b (128 * c + l) (4096 + 128 * g.val + n))
    (fun l j _ => e1_real x3 x8 x9 x12 DT Db Al b c h3 h8 h9 h12 l j) (last_real x3 x8 x9 x12 DT Db Al b c h3 h8 h9 h12) hx hB hs]
  have h := state_step U W Bc DT Db Al b c n.val (512 * g.val + j.val)
  rw [show (512 * g.val + j.val) / 512 = g.val by omega] at h
  exact congrArg _ h

include h3 h8 h9 h12 hx hB hC hs hd hz in
/-- A group's gated result. -/
theorem gated_next (l : Fin 128) (j : Fin 512) : gated g (V81 x3 x8 x9) (V82 x3 x8 x9) (V93 x3 x8 x9 x12) k0_pay20 k0_pay21 xg bg cg st d z (ix2 l j)
    = gate U W Bc DT Db Al D Z b (128 * c + l.val) (512 * g.val + j.val) := by
  rw [gated_apply, fromState_real g (V93 x3 x8 x9 x12) cg st (pe DT Db Al b c) (fun n j => state U W Bc DT Db Al b c n j)
      (fun l n => cv U W Bc b (128 * c + l) (5120 + 128 * g.val + n)) (fun l j _ => e2_real x3 x8 x9 x12 DT Db Al b c h3 h8 h9 h12 l j) hC hs,
    fromChunk_real g (V81 x3 x8 x9) (V82 x3 x8 x9) (V93 x3 x8 x9 x12) xg bg cg (fun h l => dt DT Db b (128 * c + l) h) (we DT Db Al b c)
      (fun l j => cv U W Bc b (128 * c + l) j) (fun l n => cv U W Bc b (128 * c + l) (4096 + 128 * g.val + n))
      (fun l n => cv U W Bc b (128 * c + l) (5120 + 128 * g.val + n)) (decay_real x3 x8 x9 DT Db Al b c h3 h8 h9) (fun l j _ => e0_real x3 x8 x9 x12 DT Db b c h3 h8 h12 l j) hx hB hC,
    hd, hx, hz, ← EReal.coe_add]
  have h := scan_step U W Bc DT Db Al b c (512 * g.val + j.val) l.val l.isLt
  unfold cb at h
  rw [show (512 * g.val + j.val) / 512 = g.val by omega] at h
  unfold gate
  rw [← h]

include h3 h8 h9 h12 hx hB hC hs hd hz hn in
/-- A group's result. -/
theorem out_next (l : Fin 128) (j : Fin 512) : normed (gated g (V81 x3 x8 x9) (V82 x3 x8 x9) (V93 x3 x8 x9 x12) k0_pay20 k0_pay21 xg bg cg st d z) nw (ix2 l j)
    = out U W Bc DT Db Al D Z N b (128 * c + l.val) (512 * g.val + j.val) := by
  rw [normed_apply, hn]
  simp only [gated_next g x3 x8 x9 x12 U W Bc DT Db Al D Z b c xg bg cg st d z h3 h8 h9 h12 hx hB hC hs hd hz]
  unfold out
  rw [show (512 * g.val + j.val) / 512 = g.val by omega]

end Block

end Cert.Kernel12Ideal.Scan

end
-- ==== Proof.Scan.Strips.lean ====
module

public import proofs.«01_k».proof.Proof.Scan.Canon
public import proofs.«01_k».proof.Proof.Scan.Math
public import Idealize.ShloMosaic.Lib.WritesUnit

@[expose] public section

set_option maxRecDepth 16384
noncomputable section

namespace Cert.Kernel12Ideal.Scan

open Cert.Kernel12Ideal Cert.Kernel12Ideal.Gen Idealize.ShloMosaic Idealize.ShloMosaic.TcCoe Idealize.SL.Sem Cert.Scan

section Strips

variable {sig' : RefSig} {κ : Kind} {sp : Space} {n m : ℕ} (v : View sig' κ sp (⟨2, ![136, n]⟩ : Shape) .f32)
variable (U : ℕ → ℕ → ℝ) (b c q : ℕ)

/-- A window of rows, read over the new rows and what stood before them. -/
theorem strip_old (f : v.ty.Contents (Elt Ideal)) (inb8) (w : (⟨2, ![128, n]⟩ : Shape).Idx → Elt Ideal .f32)
    (hf : ∀ (r : Fin 136) (j : Fin n), 5 ≤ r.val → r.val < 8 → v.read (Elt Ideal) f (ix2 r j) = (past U b (128 * c + (r.val - 5)) (q + j.val) : EReal))
    (hw : ∀ (r : Fin 128) (j : Fin n), w (ix2 r j) = (past U b (128 * c + (r.val + 3)) (q + j.val) : EReal))
    (k o o' : ℕ) (hk : k ≤ 3) (ho : q + o = o') (inb) (l : Fin 128) (j : Fin m) :
    View.ld (v.read (Elt Ideal) (v.writes (Elt Ideal) f [⟨Rect.unit (s := ⟨2, ![136, n]⟩) ![8, 0] ![128, n] inb8, w⟩]))
      (Rect.unit (s := ⟨2, ![136, n]⟩) ![5 + k, o] ![128, m] inb) (ix2 l j) = (past U b (128 * c + l.val + k) (o' + j.val) : EReal) := by
  subst ho
  rw [Nat.add_assoc q o j.val]
  have hj : o + j.val < n := lt_of_lt_of_le (by omega) (show o + m ≤ n from inb 1)
  have hy : (Rect.unit (s := ⟨2, ![136, n]⟩) ![5 + k, o] ![128, m] inb).emb (ix2 l j) = (ix2 ⟨5 + k + l.val, by omega⟩ ⟨o + j.val, hj⟩ : (⟨2, ![136, n]⟩ : Shape).Idx) := by
    refine funext fun a => Fin.ext ?_
    match a with
    | ⟨0, _⟩ => show 5 + k + 1 * l.val = _; rw [Nat.one_mul]; rfl
    | ⟨1, _⟩ => show o + 1 * j.val = _; rw [Nat.one_mul]; rfl
  show v.read (Elt Ideal) _ ((Rect.unit (s := ⟨2, ![136, n]⟩) ![5 + k, o] ![128, m] inb).emb (ix2 l j)) = _
  rw [hy]
  by_cases h : 8 ≤ 5 + k + l.val
  · rw [View.read_writes_cons_rows_of_mem v f inb8 w [] _ (ix2 ⟨5 + k + l.val - 8, by omega⟩ ⟨o + j.val, hj⟩) rfl
      (show 5 + k + l.val = 8 + (5 + k + l.val - 8) by omega) rfl]
    refine (hw _ _).trans ?_
    congr 2
    show 128 * c + (5 + k + l.val - 8 + 3) = _
    omega
  · rw [View.read_writes_cons_rows_of_not_mem v f inb8 w [] _ rfl rfl (Or.inl (show 5 + k + l.val < 8 by omega))]
    refine (hf _ _ (show 5 ≤ 5 + k + l.val by omega) (show 5 + k + l.val < 8 by omega)).trans ?_
    congr 2
    show 128 * c + (5 + k + l.val - 5) = _
    omega

/-- The window of the new rows alone. -/
theorem strip_new (L : List (View.Piece (Elt Ideal) (⟨2, ![136, n]⟩ : Shape) .f32)) (inb8) (w : (⟨2, ![128, n]⟩ : Shape).Idx → Elt Ideal .f32)
    (hw : ∀ (r : Fin 128) (j : Fin n), w (ix2 r j) = (past U b (128 * c + (r.val + 3)) (q + j.val) : EReal))
    (o o' : ℕ) (ho : q + o = o') (inb) (l : Fin 128) (j : Fin m) :
    v.readCov (Val := Elt Ideal) (⟨Rect.unit (s := ⟨2, ![136, n]⟩) ![8, 0] ![128, n] inb8, w⟩ :: L)
      (Rect.unit (s := ⟨2, ![136, n]⟩) ![8, o] ![128, m] inb).toLoadRect (ix2 l j) = (past U b (128 * c + l.val + 3) (o' + j.val) : EReal) := by
  subst ho
  rw [Nat.add_assoc q o j.val]
  have hj : o + j.val < n := lt_of_lt_of_le (by omega) (show o + m ≤ n from inb 1)
  rw [View.readCov_eq_canon']
  have hy : (Rect.unit (s := ⟨2, ![136, n]⟩) ![8, o] ![128, m] inb).toLoadRect.idx (ix2 l j)
      = (Rect.unit (s := ⟨2, ![136, n]⟩) ![8, 0] ![128, n] inb8).emb (ix2 l ⟨o + j.val, hj⟩) := by
    refine funext fun a => Fin.ext ?_
    match a with
    | ⟨0, _⟩ => rfl
    | ⟨1, _⟩ => show o + 1 * j.val = 0 + 1 * (o + j.val); omega
  show View.canon _ ((Rect.unit (s := ⟨2, ![136, n]⟩) ![8, o] ![128, m] inb).toLoadRect.idx (ix2 l j)) = _
  rw [hy, View.canon_cons_emb]
  exact hw _ _

/-- A window of rows of a batch's first chunk. -/
theorem strip_first (inb8 inb0) (w : (⟨2, ![128, n]⟩ : Shape).Idx → Elt Ideal .f32) (w0 : (⟨2, ![8, n]⟩ : Shape).Idx → Elt Ideal .f32)
    (hw : ∀ (r : Fin 128) (j : Fin n), w (ix2 r j) = (past U b (128 * c + (r.val + 3)) (q + j.val) : EReal))
    (h0 : ∀ (r : Fin 8) (j : Fin n), w0 (ix2 r j) = 0) (hc : c = 0)
    (k o o' : ℕ) (hk : k ≤ 3) (ho : q + o = o') (inb) (l : Fin 128) (j : Fin m) :
    v.readCov (Val := Elt Ideal) [⟨Rect.unit (s := ⟨2, ![136, n]⟩) ![8, 0] ![128, n] inb8, w⟩, ⟨Rect.unit (s := ⟨2, ![136, n]⟩) ![0, 0] ![8, n] inb0, w0⟩]
      (Rect.unit (s := ⟨2, ![136, n]⟩) ![5 + k, o] ![128, m] inb).toLoadRect (ix2 l j) = (past U b (128 * c + l.val + k) (o' + j.val) : EReal) := by
  subst ho
  rw [Nat.add_assoc q o j.val]
  subst hc
  have hj : o + j.val < n := lt_of_lt_of_le (by omega) (show o + m ≤ n from inb 1)
  rw [View.readCov_eq_canon']
  show View.canon _ ((Rect.unit (s := ⟨2, ![136, n]⟩) ![5 + k, o] ![128, m] inb).toLoadRect.idx (ix2 l j)) = _
  by_cases h : 8 ≤ 5 + k + l.val
  · have hy : (Rect.unit (s := ⟨2, ![136, n]⟩) ![5 + k, o] ![128, m] inb).toLoadRect.idx (ix2 l j)
        = (Rect.unit (s := ⟨2, ![136, n]⟩) ![8, 0] ![128, n] inb8).emb (ix2 ⟨5 + k + l.val - 8, by omega⟩ ⟨o + j.val, hj⟩) := by
      refine funext fun a => Fin.ext ?_
      match a with
      | ⟨0, _⟩ => show 5 + k + 1 * l.val = 8 + 1 * (5 + k + l.val - 8); omega
      | ⟨1, _⟩ => show o + 1 * j.val = 0 + 1 * (o + j.val); omega
    rw [hy, View.canon_cons_emb]
    refine (hw _ _).trans ?_
    congr 2
    show 128 * 0 + (5 + k + l.val - 8 + 3) = _
    omega
  · have hy : (Rect.unit (s := ⟨2, ![136, n]⟩) ![5 + k, o] ![128, m] inb).toLoadRect.idx (ix2 l j)
        = (Rect.unit (s := ⟨2, ![136, n]⟩) ![0, 0] ![8, n] inb0).emb (ix2 ⟨5 + k + l.val, by omega⟩ ⟨o + j.val, hj⟩) := by
      refine funext fun a => Fin.ext ?_
      match a with
      | ⟨0, _⟩ => show 5 + k + 1 * l.val = 0 + 1 * (5 + k + l.val); omega
      | ⟨1, _⟩ => show o + 1 * j.val = 0 + 1 * (o + j.val); omega
    rw [View.canon_cons_of_not_mem, hy, View.canon_cons_emb]
    · refine (h0 _ _).trans ?_
      unfold past
      rw [if_pos (by omega), EReal.coe_zero]
    · rw [Rect.mem_set_unit]
      intro hall
      have h1 : 8 ≤ 5 + k + 1 * l.val := (hall 0).1
      omega

/-- The last rows, carried to the next chunk. -/
theorem carry (L L' : List (View.Piece (Elt Ideal) (⟨2, ![136, n]⟩ : Shape) .f32)) (inb0 inb8 inbT) (w : (⟨2, ![128, n]⟩ : Shape).Idx → Elt Ideal .f32)
    (p : (⟨2, ![8, n]⟩ : Shape).Idx → Elt Ideal .f32)
    (hp : p = v.readCov (Val := Elt Ideal) (⟨Rect.unit (s := ⟨2, ![136, n]⟩) ![8, 0] ![128, n] inb8, w⟩ :: L')
      (Rect.unit (s := ⟨2, ![136, n]⟩) ![128, 0] ![8, n] inbT).toLoadRect)
    (hw : ∀ (r : Fin 128) (j : Fin n), w (ix2 r j) = (past U b (128 * c + (r.val + 3)) (q + j.val) : EReal))
    (r : Fin 136) (j : Fin n) (h5 : 5 ≤ r.val) (h8 : r.val < 8) :
    View.canon (Val := Elt Ideal) (⟨Rect.unit (s := ⟨2, ![136, n]⟩) ![0, 0] ![8, n] inb0, p⟩ :: L) (ix2 r j)
      = (past U b (128 * (c + 1) + (r.val - 5)) (q + j.val) : EReal) := by
  have hy : (ix2 r j : (⟨2, ![136, n]⟩ : Shape).Idx) = (Rect.unit (s := ⟨2, ![136, n]⟩) ![0, 0] ![8, n] inb0).emb (ix2 ⟨r.val, h8⟩ j) := by
    refine funext fun a => Fin.ext ?_
    match a with
    | ⟨0, _⟩ => show r.val = 0 + 1 * r.val; omega
    | ⟨1, _⟩ => show j.val = 0 + 1 * j.val; omega
  rw [hy, View.canon_cons_emb, hp, View.readCov_eq_canon']
  have hz : (Rect.unit (s := ⟨2, ![136, n]⟩) ![128, 0] ![8, n] inbT).toLoadRect.idx (ix2 ⟨r.val, h8⟩ j)
      = (Rect.unit (s := ⟨2, ![136, n]⟩) ![8, 0] ![128, n] inb8).emb (ix2 ⟨120 + r.val, by omega⟩ j) := by
    refine funext fun a => Fin.ext ?_
    match a with
    | ⟨0, _⟩ => show 128 + 1 * r.val = 8 + 1 * (120 + r.val); omega
    | ⟨1, _⟩ => rfl
  show View.canon _ ((Rect.unit (s := ⟨2, ![136, n]⟩) ![128, 0] ![8, n] inbT).toLoadRect.idx (ix2 ⟨r.val, h8⟩ j)) = _
  rw [hz, View.canon_cons_emb]
  refine (hw _ _).trans ?_
  congr 2
  show 128 * c + (120 + r.val + 3) = _
  omega

end Strips

/-- One row of a window. -/
theorem ld_row {R n m' : ℕ} {e : EltTy} (X : (⟨2, ![R, n]⟩ : Shape).Idx → Elt Ideal e) (k o : ℕ) (inb) (j : Fin m') (hk : k < R) (ho : o + j.val < n) :
    View.ld X (Rect.unit (s := ⟨2, ![R, n]⟩) ![k, o] ![1, m'] inb) (ix2 0 j) = X (ix2 ⟨k, hk⟩ ⟨o + j.val, ho⟩) := by
  refine congrArg X (funext fun a => Fin.ext ?_)
  match a with
  | ⟨0, _⟩ => show k + 1 * 0 = k; omega
  | ⟨1, _⟩ => show o + 1 * j.val = o + j.val; omega

/-- A stretch of a window's columns. -/
theorem ld_cols {R n m' : ℕ} {e : EltTy} (X : (⟨2, ![R, n]⟩ : Shape).Idx → Elt Ideal e) (o : ℕ) (inb) (l : Fin R) (j : Fin m') (ho : o + j.val < n) :
    View.ld X (Rect.unit (s := ⟨2, ![R, n]⟩) ![0, o] ![R, m'] inb) (ix2 l j) = X (ix2 l ⟨o + j.val, ho⟩) := by
  refine congrArg X (funext fun a => Fin.ext ?_)
  match a with
  | ⟨0, _⟩ => show 0 + 1 * l.val = l.val; omega
  | ⟨1, _⟩ => show o + 1 * j.val = o + j.val; omega

theorem pay2_eq (x : Vec Ideal S8x4096 .f32) : k0_pay2 x = x := by
  funext i
  pointwise [k0_pay2]

theorem pay3_eq (x : Vec Ideal S8x2048 .f32) : k0_pay3 x = x := by
  funext i
  pointwise [k0_pay3]

theorem pay4_apply (r : Fin 8) (j : Fin 4096) : (k0_pay4 : FVec Ideal S8x4096 .f32) (ix2 r j) = (0 : EReal) := by
  pointwise [k0_pay4]

theorem pay5_apply (r : Fin 8) (j : Fin 2048) : (k0_pay5 : FVec Ideal S8x2048 .f32) (ix2 r j) = (0 : EReal) := by
  pointwise [k0_pay5]

theorem pay6_apply (n : Fin 128) (j : Fin 4096) : (k0_pay6 : FVec Ideal S128x4096 .f32) (ix2 n j) = (0 : EReal) := by
  pointwise [k0_pay6]

theorem pay7_apply (x : Vec Ideal S128x4096 .bf16) (n : Fin 128) (j : Fin 4096) : k0_pay7 x (ix2 n j) = x (ix2 n j) := by
  pointwise [k0_pay7]

theorem pay8_apply (x : Vec Ideal S128x2048 .bf16) (n : Fin 128) (j : Fin 2048) : k0_pay8 x (ix2 n j) = x (ix2 n j) := by
  pointwise [k0_pay8]

end Cert.Kernel12Ideal.Scan

end
-- ==== Proof.Scan.Host.lean ====
module

public import proofs.«01_k».proof.Proof.Gen.Kernel12Ideal.Value
public import Idealize.ShloMosaic.Lib.Pointwise
public import Idealize.ShloMosaic.Lib.Pipeline.ValueKit
public import Idealize.ShloMosaic.Lib.Pipeline.Covers
public import Idealize.ShloMosaic.Lib.StableHlo.Run

@[expose] public section

set_option maxRecDepth 16384
noncomputable section

namespace Cert.Kernel12Ideal.Scan

open Cert.Kernel12Ideal Cert.Kernel12Ideal.Gen Idealize.ShloMosaic Idealize.ShloMosaic.TcCoe Idealize.SL.Sem Idealize.ShloMosaic.StableHlo

variable (m : (ℓ : Loc nD τ sig) → Buf (Elt Ideal) ℓ)

theorem idx0 : ∀ t : Fin grid0.N, win0_0.index t = ![t.val, 0] := by decide +kernel
theorem idx1 : ∀ t : Fin grid0.N, win0_1.index t = ![t.val, 1] := by decide +kernel
theorem idx2 : ∀ t : Fin grid0.N, win0_2.index t = ![t.val, 4] := by decide +kernel
theorem idx3 : ∀ t : Fin grid0.N, win0_3.index t = ![t.val, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![0, 0] := by decide +kernel
theorem idx7 : ∀ t : Fin grid0.N, win0_7.index t = ![0, 0] := by decide +kernel
theorem idx8 : ∀ t : Fin grid0.N, win0_8.index t = ![0, 0] := by decide +kernel
theorem idx9 : ∀ t : Fin grid0.N, win0_9.index t = ![0, 0] := by decide +kernel
theorem idx10 : ∀ t : Fin grid0.N, win0_10.index t = ![0, 0] := by decide +kernel
theorem idx11 : ∀ t : Fin grid0.N, win0_11.index t = ![0, 0] := by decide +kernel
theorem idx12 : ∀ t : Fin grid0.N, win0_12.index t = ![0, 0] := by decide +kernel
theorem idx13 : ∀ t : Fin grid0.N, win0_13.index t = ![t.val, 0] := by decide +kernel

theorem V_v0 (c : Dev nD) : V m c main_v0 = extractStridedSlice S4x4096 ![0, 0] (m ((c : Thread nD τ).loc main_arg2) : Vec Ideal S4x6144 .f32) slices_S4x6144_S4x4096_0_0 := by
  simp only [V, hostOps0, hostOps0_1, hostOps0_2, hostOps0_3, hostOps0_4, hostOps0_5, hostOps0_6, List.flatten_cons, List.flatten_nil, List.append_nil, List.cons_append, List.nil_append]
  after_results_simp <;> rfl
theorem V_v1 (c : Dev nD) : V m c main_v1 = extractStridedSlice S4x2048 ![0, 4096] (m ((c : Thread nD τ).loc main_arg2) : Vec Ideal S4x6144 .f32) slices_S4x6144_S4x2048_0_4096 := by
  simp only [V, hostOps0, hostOps0_1, hostOps0_2, hostOps0_3, hostOps0_4, hostOps0_5, hostOps0_6, List.flatten_cons, List.flatten_nil, List.append_nil, List.cons_append, List.nil_append]
  after_results_simp <;> rfl
theorem V_v3 (c : Dev nD) : V m c main_v3 = shapeCast S1x4096 (extractStridedSlice S4096 ![0] (m ((c : Thread nD τ).loc main_arg3) : Vec Ideal S6144 .f32) slices_S6144_S4096_0) shapeCasts_S4096_S1x4096 := by
  simp only [V, hostOps0, hostOps0_1, hostOps0_2, hostOps0_3, hostOps0_4, hostOps0_5, hostOps0_6, List.flatten_cons, List.flatten_nil, List.append_nil, List.cons_append, List.nil_append]
  after_results_simp <;> rfl
theorem V_v5 (c : Dev nD) : V m c main_v5 = shapeCast S1x2048 (extractStridedSlice S2048 ![4096] (m ((c : Thread nD τ).loc main_arg3) : Vec Ideal S6144 .f32) slices_S6144_S2048_4096) shapeCasts_S2048_S1x2048 := by
  simp only [V, hostOps0, hostOps0_1, hostOps0_2, hostOps0_3, hostOps0_4, hostOps0_5, hostOps0_6, List.flatten_cons, List.flatten_nil, List.append_nil, List.cons_append, List.nil_append]
  after_results_simp <;> rfl
theorem V_v7 (c : Dev nD) : V m c main_v7 = shapeCast S1x128 (pad S128 ![0] ![64] ![0] (show FVec Ideal S64 .f32 from m ((c : Thread nD τ).loc main_arg4)) (sitofp .f32 (constantI S_ 32 0#32) : FVec Ideal S_ .f32) pads_S64_S128_0640 h_S_) shapeCasts_S128_S1x128 := by
  simp only [V, hostOps0, hostOps0_1, hostOps0_2, hostOps0_3, hostOps0_4, hostOps0_5, hostOps0_6, List.flatten_cons, List.flatten_nil, List.append_nil, List.cons_append, List.nil_append]
  after_results_simp <;> rfl
theorem V_v9 (c : Dev nD) : V m c main_v9 = shapeCast S1x128 (pad S128 ![0] ![64] ![0] (show FVec Ideal S64 .f32 from m ((c : Thread nD τ).loc main_arg5)) (sitofp .f32 (constantI S_ 32 0#32) : FVec Ideal S_ .f32) pads_S64_S128_0640 h_S_) shapeCasts_S128_S1x128 := by
  simp only [V, hostOps0, hostOps0_1, hostOps0_2, hostOps0_3, hostOps0_4, hostOps0_5, hostOps0_6, List.flatten_cons, List.flatten_nil, List.append_nil, List.cons_append, List.nil_append]
  after_results_simp <;> rfl
theorem V_v12 (c : Dev nD) : V m c main_v12 = shapeCast S1x4096 (shapeCast S4096 (broadcastInDim S64x64 ![0] bcast_S64_S64x64_0 (m ((c : Thread nD τ).loc main_arg6) : Vec Ideal S64 .f32)) shapeCasts_S64x64_S4096) shapeCasts_S4096_S1x4096 := by
  simp only [V, hostOps0, hostOps0_1, hostOps0_2, hostOps0_3, hostOps0_4, hostOps0_5, hostOps0_6, List.flatten_cons, List.flatten_nil, List.append_nil, List.cons_append, List.nil_append]
  after_results_simp <;> rfl
theorem V_v13 (c : Dev nD) : V m c main_v13 = shapeCast S1x4096 (m ((c : Thread nD τ).loc main_arg7) : Vec Ideal S4096 .f32) shapeCasts_S4096_S1x4096 := by
  simp only [V, hostOps0, hostOps0_1, hostOps0_2, hostOps0_3, hostOps0_4, hostOps0_5, hostOps0_6, List.flatten_cons, List.flatten_nil, List.append_nil, List.cons_append, List.nil_append]
  after_results_simp <;> rfl

/-- The channel indices, in one row. -/
def chans : IVec S1x4096 32 := broadcastInDim S1x4096 ![1] bcast_S4096_S1x4096_1 (iotaInDim S4096 32 0)
/-- One number over the row. -/
def overRow (x : IVec S_ 32) : IVec S1x4096 32 := broadcastInDim S1x4096 ![] bcast_S_S1x4096 x
/-- The channels' heads. -/
def heads : IVec S1x4096 32 :=
  select (andi (cmpi .ne (signi chans) (overRow (signi (constantI S_ 32 64#32)))) (cmpi .ne (Host.remsi chans (overRow (constantI S_ 32 64#32))) (overRow (constantI S_ 32 0#32))))
    (subi (Host.divsi chans (overRow (constantI S_ 32 64#32))) (overRow (constantI S_ 32 1#32))) (Host.divsi chans (overRow (constantI S_ 32 64#32)))

theorem heads_apply : ∀ j : Fin 4096, heads (ix2 0 j) = BitVec.ofNat 32 (j.val / 64) := by
  have h : ∀ j : Fin 4096, heads (ix2 0 j) = (let x := BitVec.ofNat 32 j.val
    Scalar.select (Scalar.andi (Scalar.cmpi .ne (if x = 0 then 0 else if x.msb then -1 else 1) 1#32) (Scalar.cmpi .ne (IntOp.remsi .host x 64#32) 0#32)) (IntOp.divsi .host x 64#32 - 1#32) (IntOp.divsi .host x 64#32)) := by
    intro j
    have hc : chans (ix2 0 j) = BitVec.ofNat 32 j.val := by pointwise [chans]
    have ho : ∀ x : BitVec 32, overRow (constantI S_ 32 x) (ix2 0 j) = x := fun x => by pointwise [overRow]
    show Scalar.select (Scalar.andi (Scalar.cmpi .ne (signi chans (ix2 0 j)) (overRow (signi (constantI S_ 32 64#32)) (ix2 0 j))) (Scalar.cmpi .ne (IntOp.remsi .host (chans (ix2 0 j)) (overRow (constantI S_ 32 64#32) (ix2 0 j))) (overRow (constantI S_ 32 0#32) (ix2 0 j)))) (IntOp.divsi .host (chans (ix2 0 j)) (overRow (constantI S_ 32 64#32) (ix2 0 j)) - (overRow (constantI S_ 32 1#32) (ix2 0 j))) (IntOp.divsi .host (chans (ix2 0 j)) (overRow (constantI S_ 32 64#32) (ix2 0 j))) = _
    have hs : signi (constantI S_ 32 64#32) = constantI S_ 32 1#32 := by funext i; show (if (64#32 : BitVec 32) = 0 then (0 : BitVec 32) else if (64#32 : BitVec 32).msb then -1 else 1) = 1#32; decide
    rw [hs]
    simp only [ho]
    unfold signi
    rw [hc]
  intro j
  rw [h]
  revert j
  decide +kernel

theorem V_v22 (c : Dev nD) : V m c main_v22 = (uitofp .bf16 (cmpi .eq (broadcastInDim S128x4096 ![0, 1] bcast_S1x4096_S128x4096_0_1 heads)
    (broadcastInDim S128x4096 ![0, 1] bcast_S128x1_S128x4096_0_1 (broadcastInDim S128x1 ![0] bcast_S128_S128x1_0 (iotaInDim S128 32 0)))) : FVec Ideal S128x4096 .bf16) := by
  simp only [V, hostOps0, hostOps0_1, hostOps0_2, hostOps0_3, hostOps0_4, hostOps0_5, hostOps0_6, List.flatten_cons, List.flatten_nil, List.append_nil, List.cons_append, List.nil_append]
  after_results_simp <;> rfl

end Cert.Kernel12Ideal.Scan

end
-- ==== Proof.Scan.Blocks.lean ====
module

public import proofs.«01_k».proof.Proof.Scan.Host
public import proofs.«01_k».proof.Proof.Scan.Math

@[expose] public section

set_option maxRecDepth 16384
noncomputable section

namespace Cert.Kernel12Ideal.Scan

open Cert.Kernel12Ideal Cert.Kernel12Ideal.Gen Idealize.ShloMosaic Idealize.ShloMosaic.TcCoe Idealize.SL.Sem Idealize.ShloMosaic.StableHlo Cert.Scan

theorem flat_row (x : Vec Ideal S4096 .f32) (j : Fin 4096) : shapeCast S1x4096 x shapeCasts_S4096_S1x4096 (ix2 0 j) = x (ix1 j) := by
  pointwise

/-- The launch memory, as the model's numbers. -/
structure Holds (m : (ℓ : Loc nD τ sig) → Buf (Elt Ideal) ℓ) (c : Dev nD) (U W : ℕ → ℕ → ℝ) (Bc : ℕ → Option ℝ) (DT : ℕ → ℕ → Option ℝ) (Db : ℕ → Option ℝ) (Al : ℕ → EReal)
    (D : ℕ → EReal) (Z : ℕ → ℕ → EReal) (N : ℕ → EReal) : Prop where
  z : ∀ (i : Fin 16384) (j : Fin 10240), j.val < 4096 → (m ((c : Thread nD τ).loc main_arg0) : Vec Ideal S16384x10240 .bf16) (ix2 i j) = Z i.val j.val
  u : ∀ (i : Fin 16384) (j : Fin 10240), 4096 ≤ j.val → (m ((c : Thread nD τ).loc main_arg0) : Vec Ideal S16384x10240 .bf16) (ix2 i j) = (U i.val (j.val - 4096) : EReal)
  dt : ∀ (i : Fin 16384) (j : Fin 128), j.val < 64 → (m ((c : Thread nD τ).loc main_arg1) : Vec Ideal S16384x128 .f32) (ix2 i j) = lo (DT i.val j.val)
  w : ∀ (k : Fin 4) (j : Fin 6144), (m ((c : Thread nD τ).loc main_arg2) : Vec Ideal S4x6144 .f32) (ix2 k j) = (W k.val j.val : EReal)
  bc : ∀ j : Fin 6144, (m ((c : Thread nD τ).loc main_arg3) : Vec Ideal S6144 .f32) (ix1 j) = lo (Bc j.val)
  db : ∀ j : Fin 64, (m ((c : Thread nD τ).loc main_arg4) : Vec Ideal S64 .f32) (ix1 j) = lo (Db j.val)
  al : ∀ j : Fin 64, (m ((c : Thread nD τ).loc main_arg5) : Vec Ideal S64 .f32) (ix1 j) = Al j.val
  d : ∀ j : Fin 64, (m ((c : Thread nD τ).loc main_arg6) : Vec Ideal S64 .f32) (ix1 j) = D j.val
  n : ∀ j : Fin 4096, (m ((c : Thread nD τ).loc main_arg7) : Vec Ideal S4096 .f32) (ix1 j) = N j.val

variable (m : (ℓ : Loc nD τ sig) → Buf (Elt Ideal) ℓ) (c : Dev nD) (U W : ℕ → ℕ → ℝ) (Bc : ℕ → Option ℝ) (DT : ℕ → ℕ → Option ℝ) (Db : ℕ → Option ℝ) (Al : ℕ → EReal)
variable (D : ℕ → EReal) (Z : ℕ → ℕ → EReal) (N : ℕ → EReal) (H : Holds m c U W Bc DT Db Al D Z N)

theorem tlt (t : Fin cfg0.N) : t.val < 128 := lt_of_lt_of_eq t.isLt N_0

theorem X0_0_apply (t : Fin cfg0.N) (j : (cfg0.win 0).block.Idx) : X0_0 m c t j = iblk m c 0 t (fun a => ⟨(j a).val, ((cfg0.win 0).moved_iff _ j).mp (moved0_0 t j) a⟩) := by
  unfold X0_0 Pipeline.Window.fill
  rw [dif_pos (moved0_0 t j)]

theorem X0_1_apply (t : Fin cfg0.N) (j : (cfg0.win 1).block.Idx) : X0_1 m c t j = iblk m c 1 t (fun a => ⟨(j a).val, ((cfg0.win 1).moved_iff _ j).mp (moved0_1 t j) a⟩) := by
  unfold X0_1 Pipeline.Window.fill
  rw [dif_pos (moved0_1 t j)]

include H

theorem read0 (t : Fin cfg0.N) (l : Fin 128) (j : Fin 4096) : (X0_0 m c t : Vec Ideal S128x4096 .bf16) (ix2 l j)
    = Z (8192 * (t.val / 64) + (128 * (t.val % 64) + l.val)) j.val := by
  have ht := tlt t
  refine (X0_0_apply m c t _).trans ?_
  blk_simp [iblk]
  refine Eq.trans ?_ (H.z ⟨8192 * (t.val / 64) + (128 * (t.val % 64) + l.val), by omega⟩ ⟨j.val, by omega⟩ j.isLt)
  rw [V_main_arg0]
  refine congrArg (m ((c : Thread nD τ).loc main_arg0)) (funext fun a => Fin.ext ?_)
  blk_simp [idx0]
  match a with
  | ⟨0, _⟩ => show t.val * 128 + l.val = 8192 * (t.val / 64) + (128 * (t.val % 64) + l.val); omega
  | ⟨1, _⟩ => show 0 * 4096 + j.val = j.val; omega

theorem read1 (t : Fin cfg0.N) (l : Fin 128) (j : Fin 4096) : (X0_1 m c t : Vec Ideal S128x4096 .bf16) (ix2 l j)
    = (U (8192 * (t.val / 64) + (128 * (t.val % 64) + l.val)) j.val : EReal) := by
  have ht := tlt t
  refine (X0_1_apply m c t _).trans ?_
  blk_simp [iblk]
  refine Eq.trans ?_ ((H.u ⟨8192 * (t.val / 64) + (128 * (t.val % 64) + l.val), by omega⟩ ⟨4096 + j.val, by omega⟩ (Nat.le_add_right _ _)).trans ?_)
  · rw [V_main_arg0]
    refine congrArg (m ((c : Thread nD τ).loc main_arg0)) (funext fun a => Fin.ext ?_)
    blk_simp [idx1]
    match a with
    | ⟨0, _⟩ => show t.val * 128 + l.val = 8192 * (t.val / 64) + (128 * (t.val % 64) + l.val); omega
    | ⟨1, _⟩ => show 1 * 4096 + j.val = 4096 + j.val; omega
  · show ((U _ (4096 + j.val - 4096) : ℝ) : EReal) = _
    rw [Nat.add_sub_cancel_left]

theorem read2 (t : Fin cfg0.N) (l : Fin 128) (j : Fin 2048) : (iblk m c 2 t : Vec Ideal S128x2048 .bf16) (ix2 l j)
    = (U (8192 * (t.val / 64) + (128 * (t.val % 64) + l.val)) (4096 + j.val) : EReal) := by
  have ht := tlt t
  blk_simp [iblk]
  refine Eq.trans ?_ ((H.u ⟨8192 * (t.val / 64) + (128 * (t.val % 64) + l.val), by omega⟩ ⟨8192 + j.val, by omega⟩ (show 4096 ≤ 8192 + j.val by omega)).trans ?_)
  · rw [V_main_arg0]
    refine congrArg (m ((c : Thread nD τ).loc main_arg0)) (funext fun a => Fin.ext ?_)
    blk_simp [idx2]
    match a with
    | ⟨0, _⟩ => show t.val * 128 + l.val = 8192 * (t.val / 64) + (128 * (t.val % 64) + l.val); omega
    | ⟨1, _⟩ => show 4 * 2048 + j.val = 8192 + j.val; omega
  · show ((U _ (8192 + j.val - 4096) : ℝ) : EReal) = _
    rw [show 8192 + j.val - 4096 = 4096 + j.val by omega]

theorem read3 (t : Fin cfg0.N) (l h : Fin 128) (hh : h.val < 64) : (iblk m c 3 t : Vec Ideal S128x128 .f32) (ix2 l h)
    = lo (DT (8192 * (t.val / 64) + (128 * (t.val % 64) + l.val)) h.val) := by
  have ht := tlt t
  blk_simp [iblk]
  refine Eq.trans ?_ (H.dt ⟨8192 * (t.val / 64) + (128 * (t.val % 64) + l.val), by omega⟩ h hh)
  rw [V_main_arg1]
  refine congrArg (m ((c : Thread nD τ).loc main_arg1)) (funext fun a => Fin.ext ?_)
  blk_simp [idx3]
  match a with
  | ⟨0, _⟩ => show t.val * 128 + l.val = 8192 * (t.val / 64) + (128 * (t.val % 64) + l.val); omega
  | ⟨1, _⟩ => show 0 * 128 + h.val = h.val; omega

theorem read4 (t : Fin cfg0.N) (k : Fin 4) (j : Fin 4096) : (iblk m c 4 t : Vec Ideal S4x4096 .f32) (ix2 k j) = (W k.val j.val : EReal) := by
  blk_simp [iblk]
  rw [V_v0]
  have e : (win0_4.blk t).view.emb (ix2 k j) = (ix2 k j : S4x4096.Idx) := by
    refine funext fun a => Fin.ext ?_
    blk_simp [idx4]
    match a with
    | ⟨0, _⟩ => show 0 * 4 + (k : Fin 4).val = (k : Fin 4).val; omega
    | ⟨1, _⟩ => show 0 * 4096 + j.val = j.val; omega
  rw [e]
  refine Eq.trans ?_ (H.w k ⟨j.val, by omega⟩)
  pointwise

theorem read5 (t : Fin cfg0.N) (j : Fin 4096) : (iblk m c 5 t : Vec Ideal S1x4096 .f32) (ix2 0 j) = lo (Bc j.val) := by
  blk_simp [iblk]
  rw [V_v3]
  have e : (win0_5.blk t).view.emb (ix2 0 j) = (ix2 0 j : S1x4096.Idx) := by
    refine funext fun a => Fin.ext ?_
    blk_simp [idx5]
    match a with
    | ⟨0, _⟩ => show 0 * 1 + (0 : Fin 1).val = (0 : Fin 1).val; omega
    | ⟨1, _⟩ => show 0 * 4096 + j.val = j.val; omega
  rw [e]
  refine Eq.trans ?_ (H.bc ⟨j.val, by omega⟩)
  pointwise

theorem read6 (t : Fin cfg0.N) (k : Fin 4) (j : Fin 2048) : (iblk m c 6 t : Vec Ideal S4x2048 .f32) (ix2 k j) = (W k.val (4096 + j.val) : EReal) := by
  blk_simp [iblk]
  rw [V_v1]
  have e : (win0_6.blk t).view.emb (ix2 k j) = (ix2 k j : S4x2048.Idx) := by
    refine funext fun a => Fin.ext ?_
    blk_simp [idx6]
    match a with
    | ⟨0, _⟩ => show 0 * 4 + (k : Fin 4).val = (k : Fin 4).val; omega
    | ⟨1, _⟩ => show 0 * 2048 + j.val = j.val; omega
  rw [e]
  refine Eq.trans ?_ (H.w k ⟨4096 + j.val, by omega⟩)
  pointwise

theorem read7 (t : Fin cfg0.N) (j : Fin 2048) : (iblk m c 7 t : Vec Ideal S1x2048 .f32) (ix2 0 j) = lo (Bc (4096 + j.val)) := by
  blk_simp [iblk]
  rw [V_v5]
  have e : (win0_7.blk t).view.emb (ix2 0 j) = (ix2 0 j : S1x2048.Idx) := by
    refine funext fun a => Fin.ext ?_
    blk_simp [idx7]
    match a with
    | ⟨0, _⟩ => show 0 * 1 + (0 : Fin 1).val = (0 : Fin 1).val; omega
    | ⟨1, _⟩ => show 0 * 2048 + j.val = j.val; omega
  rw [e]
  refine Eq.trans ?_ (H.bc ⟨4096 + j.val, by omega⟩)
  pointwise

theorem read8 (t : Fin cfg0.N) (j : Fin 128) (hj : j.val < 64) : (iblk m c 8 t : Vec Ideal S1x128 .f32) (ix2 0 j) = lo (Db j.val) := by
  blk_simp [iblk]
  rw [V_v7]
  have e : (win0_8.blk t).view.emb (ix2 0 j) = (ix2 0 j : S1x128.Idx) := by
    refine funext fun a => Fin.ext ?_
    blk_simp [idx8]
    match a with
    | ⟨0, _⟩ => show 0 * 1 + (0 : Fin 1).val = (0 : Fin 1).val; omega
    | ⟨1, _⟩ => show 0 * 128 + j.val = j.val; omega
  rw [e]
  refine Eq.trans ?_ (H.db ⟨j.val, hj⟩)
  pointwise
  rw [dif_pos hj]

theorem read9 (t : Fin cfg0.N) (j : Fin 128) (hj : j.val < 64) : (iblk m c 9 t : Vec Ideal S1x128 .f32) (ix2 0 j) = Al j.val := by
  blk_simp [iblk]
  rw [V_v9]
  have e : (win0_9.blk t).view.emb (ix2 0 j) = (ix2 0 j : S1x128.Idx) := by
    refine funext fun a => Fin.ext ?_
    blk_simp [idx9]
    match a with
    | ⟨0, _⟩ => show 0 * 1 + (0 : Fin 1).val = (0 : Fin 1).val; omega
    | ⟨1, _⟩ => show 0 * 128 + j.val = j.val; omega
  rw [e]
  refine Eq.trans ?_ (H.al ⟨j.val, hj⟩)
  pointwise
  rw [dif_pos hj]

theorem read10 (t : Fin cfg0.N) (j : Fin 4096) : (iblk m c 10 t : Vec Ideal S1x4096 .f32) (ix2 0 j) = D (j.val / 64) := by
  blk_simp [iblk]
  rw [V_v12]
  have e : (win0_10.blk t).view.emb (ix2 0 j) = (ix2 0 j : S1x4096.Idx) := by
    refine funext fun a => Fin.ext ?_
    blk_simp [idx10]
    match a with
    | ⟨0, _⟩ => show 0 * 1 + (0 : Fin 1).val = (0 : Fin 1).val; omega
    | ⟨1, _⟩ => show 0 * 4096 + j.val = j.val; omega
  rw [e]
  refine Eq.trans ?_ (H.d ⟨j.val / 64, by omega⟩)
  pointwise

theorem read11 (t : Fin cfg0.N) (j : Fin 4096) : (iblk m c 11 t : Vec Ideal S1x4096 .f32) (ix2 0 j) = N j.val := by
  blk_simp [iblk]
  rw [V_v13]
  have e : (win0_11.blk t).view.emb (ix2 0 j) = (ix2 0 j : S1x4096.Idx) := by
    refine funext fun a => Fin.ext ?_
    blk_simp [idx11]
    match a with
    | ⟨0, _⟩ => show 0 * 1 + (0 : Fin 1).val = (0 : Fin 1).val; omega
    | ⟨1, _⟩ => show 0 * 4096 + j.val = j.val; omega
  rw [e]
  refine Eq.trans ?_ (H.n j)
  exact flat_row _ j

omit H

theorem read12 (t : Fin cfg0.N) (k : Fin 128) (j : Fin 4096) : (iblk m c 12 t : Vec Ideal S128x4096 .bf16) (ix2 k j) = (if k.val = j.val / 64 then 1 else 0 : EReal) := by
  blk_simp [iblk]
  rw [V_v22]
  have e : (win0_12.blk t).view.emb (ix2 k j) = (ix2 k j : S128x4096.Idx) := by
    refine funext fun a => Fin.ext ?_
    blk_simp [idx12]
    match a with
    | ⟨0, _⟩ => show 0 * 128 + (k : Fin 128).val = (k : Fin 128).val; omega
    | ⟨1, _⟩ => show 0 * 4096 + j.val = j.val; omega
  rw [e]
  have h : (uitofp .bf16 (cmpi .eq (broadcastInDim S128x4096 ![0, 1] bcast_S1x4096_S128x4096_0_1 heads)
      (broadcastInDim S128x4096 ![0, 1] bcast_S128x1_S128x4096_0_1 (broadcastInDim S128x1 ![0] bcast_S128_S128x1_0 (iotaInDim S128 32 0)))) : FVec Ideal S128x4096 .bf16) (ix2 k j)
      = (((IntOp.cmpi .eq (BitVec.ofNat 32 (j.val / 64)) (BitVec.ofNat 32 k.val)).toNat : ℝ) : EReal) := by
    rw [← heads_apply j]
    pointwise
    rfl
  rw [h]
  have hk := k.isLt
  have hj := j.isLt
  by_cases hkj : k.val = j.val / 64
  · rw [if_pos hkj, hkj]
    simp [IntOp.cmpi]
  · have hne : BitVec.ofNat 32 (j.val / 64) ≠ BitVec.ofNat 32 k.val := by
      intro he
      have := congrArg BitVec.toNat he
      rw [BitVec.toNat_ofNat, BitVec.toNat_ofNat] at this
      omega
    rw [if_neg hkj]
    simp [IntOp.cmpi, beq_eq_false_iff_ne.mpr hne]

end Cert.Kernel12Ideal.Scan

end
-- ==== Proof.Scan.Parts.lean ====
module

public import proofs.«01_k».proof.Proof.Scan.GroupModel
public import proofs.«01_k».proof.Proof.Scan.Strips
public import proofs.«01_k».proof.Proof.Scan.Blocks

@[expose] public section

set_option maxRecDepth 16384
noncomputable section

namespace Cert.Kernel12Ideal.Scan

open Cert.Kernel12Ideal Cert.Kernel12Ideal.Gen Idealize.ShloMosaic Idealize.ShloMosaic.TcCoe Idealize.SL.Sem Cert.Scan

variable (m : (ℓ : Loc nD τ sig) → Buf (Elt Ideal) ℓ) (c : Dev nD) (U W : ℕ → ℕ → ℝ) (Bc : ℕ → Option ℝ) (DT : ℕ → ℕ → Option ℝ) (Db : ℕ → Option ℝ) (Al : ℕ → EReal)
variable (D : ℕ → EReal) (Z : ℕ → ℕ → EReal) (N : ℕ → EReal) (H : Holds m c U W Bc DT Db Al D Z N)

include H

theorem wx (t : Fin cfg0.N) (k o : ℕ) (hk : k < 4) (ho : o + 512 ≤ 4096) (inb) (j : Fin 512) :
    View.ld (iblk m c 4 t : Vec Ideal S4x4096 .f32) (Rect.unit (s := S4x4096) ![k, o] ![1, 512] inb) (ix2 0 j) = (W k (o + j.val) : EReal) :=
  (ld_row (e := .f32) (iblk m c 4 t) k o inb j hk (by omega)).trans (read4 m c U W Bc DT Db Al D Z N H t _ _)

theorem bx (t : Fin cfg0.N) (o : ℕ) (ho : o + 512 ≤ 4096) (inb) (j : Fin 512) :
    View.ld (iblk m c 5 t : Vec Ideal S1x4096 .f32) (Rect.unit (s := S1x4096) ![0, o] ![1, 512] inb) (ix2 0 j) = lo (Bc (o + j.val)) :=
  (ld_row (e := .f32) (iblk m c 5 t) 0 o inb j (by omega) (by omega)).trans (read5 m c U W Bc DT Db Al D Z N H t _)

theorem wb (t : Fin cfg0.N) (k o o' : ℕ) (hk : k < 4) (ho : o + 128 ≤ 2048) (ho' : 4096 + o = o') (inb) (j : Fin 128) :
    View.ld (iblk m c 6 t : Vec Ideal S4x2048 .f32) (Rect.unit (s := S4x2048) ![k, o] ![1, 128] inb) (ix2 0 j) = (W k (o' + j.val) : EReal) := by
  subst ho'
  rw [Nat.add_assoc]
  exact (ld_row (e := .f32) (iblk m c 6 t) k o inb j hk (by omega)).trans (read6 m c U W Bc DT Db Al D Z N H t _ _)

theorem bb (t : Fin cfg0.N) (o o' : ℕ) (ho : o + 128 ≤ 2048) (ho' : 4096 + o = o') (inb) (j : Fin 128) :
    View.ld (iblk m c 7 t : Vec Ideal S1x2048 .f32) (Rect.unit (s := S1x2048) ![0, o] ![1, 128] inb) (ix2 0 j) = lo (Bc (o' + j.val)) := by
  subst ho'
  rw [Nat.add_assoc]
  exact (ld_row (e := .f32) (iblk m c 7 t) 0 o inb j (by omega) (by omega)).trans (read7 m c U W Bc DT Db Al D Z N H t _)

theorem dx (t : Fin cfg0.N) (o : ℕ) (ho : o + 512 ≤ 4096) (inb) (j : Fin 512) :
    View.ld (iblk m c 10 t : Vec Ideal S1x4096 .f32) (Rect.unit (s := S1x4096) ![0, o] ![1, 512] inb) (ix2 0 j) = D ((o + j.val) / 64) :=
  (ld_row (e := .f32) (iblk m c 10 t) 0 o inb j (by omega) (by omega)).trans (read10 m c U W Bc DT Db Al D Z N H t _)

theorem nx (t : Fin cfg0.N) (o : ℕ) (ho : o + 512 ≤ 4096) (inb) (j : Fin 512) :
    View.ld (iblk m c 11 t : Vec Ideal S1x4096 .f32) (Rect.unit (s := S1x4096) ![0, o] ![1, 512] inb) (ix2 0 j) = N (o + j.val) :=
  (ld_row (e := .f32) (iblk m c 11 t) 0 o inb j (by omega) (by omega)).trans (read11 m c U W Bc DT Db Al D Z N H t _)

theorem zx (t : Fin cfg0.N) (o : ℕ) (ho : o + 512 ≤ 4096) (inb) (l : Fin 128) (j : Fin 512) :
    View.ld (X0_0 m c t : Vec Ideal S128x4096 .bf16) (Rect.unit (s := S128x4096) ![0, o] ![128, 512] inb) (ix2 l j)
      = Z (8192 * (t.val / 64) + (128 * (t.val % 64) + l.val)) (o + j.val) :=
  (ld_cols (e := .bf16) (X0_0 m c t) o inb l j (by omega)).trans (read0 m c U W Bc DT Db Al D Z N H t _ _)

theorem newX (t : Fin cfg0.N) (r : Fin 128) (j : Fin 4096) : k0_pay7 (X0_1 m c t) (ix2 r j)
    = (past U (t.val / 64) (128 * (t.val % 64) + (r.val + 3)) (0 + j.val) : EReal) := by
  rw [pay7_apply]
  refine (read1 m c U W Bc DT Db Al D Z N H t r j).trans ?_
  unfold past
  rw [if_neg (by omega), Nat.zero_add, show 128 * (t.val % 64) + (r.val + 3) - 3 = 128 * (t.val % 64) + r.val by omega]

theorem newB (t : Fin cfg0.N) (r : Fin 128) (j : Fin 2048) : k0_pay8 (iblk m c 2 t) (ix2 r j)
    = (past U (t.val / 64) (128 * (t.val % 64) + (r.val + 3)) (4096 + j.val) : EReal) := by
  rw [pay8_apply]
  refine (read2 m c U W Bc DT Db Al D Z N H t r j).trans ?_
  unfold past
  rw [if_neg (by omega), show 128 * (t.val % 64) + (r.val + 3) - 3 = 128 * (t.val % 64) + r.val by omega]

omit H

theorem out_at (g : Fin 8) (b k : ℕ) (gv : FVec Ideal S128x512 .bf16) (y : S128x4096.Idx) (x : S128x512.Idx)
    (h : ∀ (l : Fin 128) (j : Fin 512), gv (ix2 l j) = out U W Bc DT Db Al D Z N b (128 * k + l.val) (512 * g.val + j.val))
    (h0 : (y 0).val = 0 + (x 0).val) (h1 : (y 1).val = 512 * g.val + (x 1).val) :
    gv x = out U W Bc DT Db Al D Z N b (128 * k + (y 0).val) (y 1).val := by
  have hx : x = (ix2 (x 0) (x 1) : S128x512.Idx) := by
    funext a
    match a with
    | ⟨0, _⟩ => rfl
    | ⟨1, _⟩ => rfl
  rw [h1, h0, Nat.zero_add, hx]
  exact h _ _

theorem st_at (g : Fin 8) (b k : ℕ) (gv : FVec Ideal S128x512 .f32) (y : S128x4096.Idx) (x : S128x512.Idx)
    (h : ∀ (l : Fin 128) (j : Fin 512), gv (ix2 l j) = (state U W Bc DT Db Al b k l.val (512 * g.val + j.val) : EReal))
    (h0 : (y 0).val = 0 + (x 0).val) (h1 : (y 1).val = 512 * g.val + (x 1).val) :
    gv x = (state U W Bc DT Db Al b k (y 0).val (y 1).val : EReal) := by
  have hx : x = (ix2 (x 0) (x 1) : S128x512.Idx) := by
    funext a
    match a with
    | ⟨0, _⟩ => rfl
    | ⟨1, _⟩ => rfl
  rw [h1, h0, Nat.zero_add, hx]
  exact h _ _

/-- What a point leaves for the next. -/
structure Left (n : ℕ) (h : n < cfg0.N) : Prop where
  ux : ∀ (r : Fin 136) (j : Fin 4096), 5 ≤ r.val → r.val < 8 → ((outsAt0 m c n h).2.1 : Vec Ideal S136x4096 .f32) (ix2 r j)
    = (past U (n / 64) (128 * (n % 64 + 1) + (r.val - 5)) (0 + j.val) : EReal)
  ub : ∀ (r : Fin 136) (j : Fin 2048), 5 ≤ r.val → r.val < 8 → ((outsAt0 m c n h).2.2.1 : Vec Ideal S136x2048 .f32) (ix2 r j)
    = (past U (n / 64) (128 * (n % 64 + 1) + (r.val - 5)) (4096 + j.val) : EReal)
  st : ∀ y : S128x4096.Idx, ((outsAt0 m c n h).2.2.2 : Vec Ideal S128x4096 .f32) y = (state U W Bc DT Db Al (n / 64) (n % 64 + 1) (y 0).val (y 1).val : EReal)

theorem zeros : ∀ a : Fin 2, (![0, 0] : Fin 2 → ℕ) a = 0 := by decide

theorem zero_state {k b : ℕ} (h : k = 0) (n j : ℕ) : (0 : EReal) = (state U W Bc DT Db Al b k n j : EReal) := by
  subst h
  unfold state
  simp

/-- Eight stores that cover the state leave what they hold. -/
theorem canon_eight (G : S128x4096.Idx → Elt Ideal .f32) (i0 i1 i2 i3 i4 i5 i6 i7) (p0 p1 p2 p3 p4 p5 p6 p7 : S128x512.Idx → Elt Ideal .f32)
    (q : View.Piece (Elt Ideal) S128x4096 .f32)
    (h7 : ∀ x : S128x512.Idx, p7 x = G ((Rect.unit (s := S128x4096) ![0, 3584] ![128, 512] i7).emb x))
    (h6 : ∀ x : S128x512.Idx, p6 x = G ((Rect.unit (s := S128x4096) ![0, 3072] ![128, 512] i6).emb x))
    (h5 : ∀ x : S128x512.Idx, p5 x = G ((Rect.unit (s := S128x4096) ![0, 2560] ![128, 512] i5).emb x))
    (h4 : ∀ x : S128x512.Idx, p4 x = G ((Rect.unit (s := S128x4096) ![0, 2048] ![128, 512] i4).emb x))
    (h3 : ∀ x : S128x512.Idx, p3 x = G ((Rect.unit (s := S128x4096) ![0, 1536] ![128, 512] i3).emb x))
    (h2 : ∀ x : S128x512.Idx, p2 x = G ((Rect.unit (s := S128x4096) ![0, 1024] ![128, 512] i2).emb x))
    (h1 : ∀ x : S128x512.Idx, p1 x = G ((Rect.unit (s := S128x4096) ![0, 512] ![128, 512] i1).emb x))
    (h0 : ∀ x : S128x512.Idx, p0 x = G ((Rect.unit (s := S128x4096) ![0, 0] ![128, 512] i0).emb x))
    (y : S128x4096.Idx) : View.canon (Val := Elt Ideal) (e := .f32) [⟨Rect.unit (s := S128x4096) ![0, 3584] ![128, 512] i7, p7⟩, ⟨Rect.unit (s := S128x4096) ![0, 3072] ![128, 512] i6, p6⟩, ⟨Rect.unit (s := S128x4096) ![0, 2560] ![128, 512] i5, p5⟩, ⟨Rect.unit (s := S128x4096) ![0, 2048] ![128, 512] i4, p4⟩, ⟨Rect.unit (s := S128x4096) ![0, 1536] ![128, 512] i3, p3⟩, ⟨Rect.unit (s := S128x4096) ![0, 1024] ![128, 512] i2, p2⟩, ⟨Rect.unit (s := S128x4096) ![0, 512] ![128, 512] i1, p1⟩, ⟨Rect.unit (s := S128x4096) ![0, 0] ![128, 512] i0, p0⟩, q] y = G y := by
  refine View.canon_append_of_piecesOf G [q] [⟨Rect.unit (s := S128x4096) ![0, 3584] ![128, 512] i7, p7⟩, ⟨Rect.unit (s := S128x4096) ![0, 3072] ![128, 512] i6, p6⟩, ⟨Rect.unit (s := S128x4096) ![0, 2560] ![128, 512] i5, p5⟩, ⟨Rect.unit (s := S128x4096) ![0, 2048] ![128, 512] i4, p4⟩, ⟨Rect.unit (s := S128x4096) ![0, 1536] ![128, 512] i3, p3⟩, ⟨Rect.unit (s := S128x4096) ![0, 1024] ![128, 512] i2, p2⟩, ⟨Rect.unit (s := S128x4096) ![0, 512] ![128, 512] i1, p1⟩, ⟨Rect.unit (s := S128x4096) ![0, 0] ![128, 512] i0, p0⟩] ⟨h7, h6, h5, h4, h3, h2, h1, h0, trivial⟩ y ?_
  have hy0 : (y 0).val < 128 := (y 0).isLt
  have hy1 : (y 1).val < 4096 := (y 1).isLt
  have hc : (y 1).val / 512 = 0 ∨ (y 1).val / 512 = 1 ∨ (y 1).val / 512 = 2 ∨ (y 1).val / 512 = 3 ∨ (y 1).val / 512 = 4 ∨ (y 1).val / 512 = 5 ∨ (y 1).val / 512 = 6 ∨ (y 1).val / 512 = 7 := by omega
  rcases hc with hc | hc | hc | hc | hc | hc | hc | hc
  · refine ⟨⟨Rect.unit (s := S128x4096) ![0, 0] ![128, 512] i0, p0⟩, by simp, ?_⟩
    rw [Rect.mem_set_unit]
    exact Fin.forall_fin_two.mpr ⟨⟨Nat.zero_le _, by show (y 0).val < 0 + 128; omega⟩, ⟨by show 0 ≤ (y 1).val; omega, by show (y 1).val < 0 + 512; omega⟩⟩
  · refine ⟨⟨Rect.unit (s := S128x4096) ![0, 512] ![128, 512] i1, p1⟩, by simp, ?_⟩
    rw [Rect.mem_set_unit]
    exact Fin.forall_fin_two.mpr ⟨⟨Nat.zero_le _, by show (y 0).val < 0 + 128; omega⟩, ⟨by show 512 ≤ (y 1).val; omega, by show (y 1).val < 512 + 512; omega⟩⟩
  · refine ⟨⟨Rect.unit (s := S128x4096) ![0, 1024] ![128, 512] i2, p2⟩, by simp, ?_⟩
    rw [Rect.mem_set_unit]
    exact Fin.forall_fin_two.mpr ⟨⟨Nat.zero_le _, by show (y 0).val < 0 + 128; omega⟩, ⟨by show 1024 ≤ (y 1).val; omega, by show (y 1).val < 1024 + 512; omega⟩⟩
  · refine ⟨⟨Rect.unit (s := S128x4096) ![0, 1536] ![128, 512] i3, p3⟩, by simp, ?_⟩
    rw [Rect.mem_set_unit]
    exact Fin.forall_fin_two.mpr ⟨⟨Nat.zero_le _, by show (y 0).val < 0 + 128; omega⟩, ⟨by show 1536 ≤ (y 1).val; omega, by show (y 1).val < 1536 + 512; omega⟩⟩
  · refine ⟨⟨Rect.unit (s := S128x4096) ![0, 2048] ![128, 512] i4, p4⟩, by simp, ?_⟩
    rw [Rect.mem_set_unit]
    exact Fin.forall_fin_two.mpr ⟨⟨Nat.zero_le _, by show (y 0).val < 0 + 128; omega⟩, ⟨by show 2048 ≤ (y 1).val; omega, by show (y 1).val < 2048 + 512; omega⟩⟩
  · refine ⟨⟨Rect.unit (s := S128x4096) ![0, 2560] ![128, 512] i5, p5⟩, by simp, ?_⟩
    rw [Rect.mem_set_unit]
    exact Fin.forall_fin_two.mpr ⟨⟨Nat.zero_le _, by show (y 0).val < 0 + 128; omega⟩, ⟨by show 2560 ≤ (y 1).val; omega, by show (y 1).val < 2560 + 512; omega⟩⟩
  · refine ⟨⟨Rect.unit (s := S128x4096) ![0, 3072] ![128, 512] i6, p6⟩, by simp, ?_⟩
    rw [Rect.mem_set_unit]
    exact Fin.forall_fin_two.mpr ⟨⟨Nat.zero_le _, by show (y 0).val < 0 + 128; omega⟩, ⟨by show 3072 ≤ (y 1).val; omega, by show (y 1).val < 3072 + 512; omega⟩⟩
  · refine ⟨⟨Rect.unit (s := S128x4096) ![0, 3584] ![128, 512] i7, p7⟩, by simp, ?_⟩
    rw [Rect.mem_set_unit]
    exact Fin.forall_fin_two.mpr ⟨⟨Nat.zero_le _, by show (y 0).val < 0 + 128; omega⟩, ⟨by show 3584 ≤ (y 1).val; omega, by show (y 1).val < 3584 + 512; omega⟩⟩

end Cert.Kernel12Ideal.Scan

end
-- ==== Proof.Scan.OutA.lean ====
module

public import proofs.«01_k».proof.Proof.Scan.Parts

@[expose] public section

set_option maxRecDepth 16384
noncomputable section

namespace Cert.Kernel12Ideal.Scan

open Cert.Kernel12Ideal Cert.Kernel12Ideal.Gen Idealize.ShloMosaic Idealize.ShloMosaic.TcCoe Idealize.SL.Sem Cert.Scan

variable (m : (ℓ : Loc nD τ sig) → Buf (Elt Ideal) ℓ) (c : Dev nD) (U W : ℕ → ℕ → ℝ) (Bc : ℕ → Option ℝ) (DT : ℕ → ℕ → Option ℝ) (Db : ℕ → Option ℝ) (Al : ℕ → EReal)
variable (D : ℕ → EReal) (Z : ℕ → ℕ → EReal) (N : ℕ → EReal) (H : Holds m c U W Bc DT Db Al D Z N)

include H

theorem out_A (t : Fin cfg0.N) (h : t.val % 64 = 0) (y : S128x4096.Idx) :
    (outsAt0 m c t.val t.isLt).1 y = out U W Bc DT Db Al D Z N (t.val / 64) (128 * (t.val % 64) + (y 0).val) (y 1).val := by
  rw [outsAt0_A m c t h]
  frame_out
  canon_tiles x hx
  · refine Eq.trans (b := normed (gated 7 _ _ _ _ _ (convX _ _ _ _ _ _ _ _ _) (convB _ _ _ _ _ _ _ _ _) (convB _ _ _ _ _ _ _ _ _) _ _ _) _ x) rfl ?_
    refine out_at U W Bc DT Db Al D Z N 7 (t.val / 64) (t.val % 64) _ y x (out_next 7 (iblk m c 3 t) (iblk m c 8 t) (iblk m c 9 t) (iblk m c 12 t) U W Bc DT Db Al D Z N
      (t.val / 64) (t.val % 64) _ _ _ _ _ _ _ (read3 m c U W Bc DT Db Al D Z N H t) (read8 m c U W Bc DT Db Al D Z N H t) (read9 m c U W Bc DT Db Al D Z N H t) (read12 m c t)
      (fun l j => convX_real U W Bc (t.val / 64) (t.val % 64) (512 * (7 : Fin 8).val) _ _ _ _ _ _ _ _ _ (bx m c U W Bc DT Db Al D Z N H t 3584 (by decide) _) (wx m c U W Bc DT Db Al D Z N H t 0 3584 (by decide) (by decide) _) (wx m c U W Bc DT Db Al D Z N H t 1 3584 (by decide) (by decide) _) (wx m c U W Bc DT Db Al D Z N H t 2 3584 (by decide) (by decide) _) (wx m c U W Bc DT Db Al D Z N H t 3 3584 (by decide) (by decide) _)
      (strip_first (n := 4096) (View.whole cc0_scratch0) U (t.val / 64) (t.val % 64) 0 _ _ _ _ (newX m c U W Bc DT Db Al D Z N H t) pay4_apply h 0 3584 (512 * (7 : Fin 8).val) (by decide) rfl _) (strip_first (n := 4096) (View.whole cc0_scratch0) U (t.val / 64) (t.val % 64) 0 _ _ _ _ (newX m c U W Bc DT Db Al D Z N H t) pay4_apply h 1 3584 (512 * (7 : Fin 8).val) (by decide) rfl _) (strip_first (n := 4096) (View.whole cc0_scratch0) U (t.val / 64) (t.val % 64) 0 _ _ _ _ (newX m c U W Bc DT Db Al D Z N H t) pay4_apply h 2 3584 (512 * (7 : Fin 8).val) (by decide) rfl _) (strip_first (n := 4096) (View.whole cc0_scratch0) U (t.val / 64) (t.val % 64) 0 _ _ _ _ (newX m c U W Bc DT Db Al D Z N H t) pay4_apply h 3 3584 (512 * (7 : Fin 8).val) (by decide) rfl _) l j)
      (fun l j => convB_real U W Bc (t.val / 64) (t.val % 64) (4096 + 128 * (7 : Fin 8).val) _ _ _ _ _ _ _ _ _ (bb m c U W Bc DT Db Al D Z N H t 896 (4096 + 128 * (7 : Fin 8).val) (by decide) rfl _) (wb m c U W Bc DT Db Al D Z N H t 0 896 (4096 + 128 * (7 : Fin 8).val) (by decide) (by decide) rfl _) (wb m c U W Bc DT Db Al D Z N H t 1 896 (4096 + 128 * (7 : Fin 8).val) (by decide) (by decide) rfl _) (wb m c U W Bc DT Db Al D Z N H t 2 896 (4096 + 128 * (7 : Fin 8).val) (by decide) (by decide) rfl _) (wb m c U W Bc DT Db Al D Z N H t 3 896 (4096 + 128 * (7 : Fin 8).val) (by decide) (by decide) rfl _)
      (strip_first (n := 2048) (View.whole cc0_scratch1) U (t.val / 64) (t.val % 64) 4096 _ _ _ _ (newB m c U W Bc DT Db Al D Z N H t) pay5_apply h 0 896 (4096 + 128 * (7 : Fin 8).val) (by decide) rfl _) (strip_first (n := 2048) (View.whole cc0_scratch1) U (t.val / 64) (t.val % 64) 4096 _ _ _ _ (newB m c U W Bc DT Db Al D Z N H t) pay5_apply h 1 896 (4096 + 128 * (7 : Fin 8).val) (by decide) rfl _) (strip_first (n := 2048) (View.whole cc0_scratch1) U (t.val / 64) (t.val % 64) 4096 _ _ _ _ (newB m c U W Bc DT Db Al D Z N H t) pay5_apply h 2 896 (4096 + 128 * (7 : Fin 8).val) (by decide) rfl _) (strip_first (n := 2048) (View.whole cc0_scratch1) U (t.val / 64) (t.val % 64) 4096 _ _ _ _ (newB m c U W Bc DT Db Al D Z N H t) pay5_apply h 3 896 (4096 + 128 * (7 : Fin 8).val) (by decide) rfl _) l j)
      (fun l j => convB_real U W Bc (t.val / 64) (t.val % 64) (5120 + 128 * (7 : Fin 8).val) _ _ _ _ _ _ _ _ _ (bb m c U W Bc DT Db Al D Z N H t 1920 (5120 + 128 * (7 : Fin 8).val) (by decide) rfl _) (wb m c U W Bc DT Db Al D Z N H t 0 1920 (5120 + 128 * (7 : Fin 8).val) (by decide) (by decide) rfl _) (wb m c U W Bc DT Db Al D Z N H t 1 1920 (5120 + 128 * (7 : Fin 8).val) (by decide) (by decide) rfl _) (wb m c U W Bc DT Db Al D Z N H t 2 1920 (5120 + 128 * (7 : Fin 8).val) (by decide) (by decide) rfl _) (wb m c U W Bc DT Db Al D Z N H t 3 1920 (5120 + 128 * (7 : Fin 8).val) (by decide) (by decide) rfl _)
      (strip_first (n := 2048) (View.whole cc0_scratch1) U (t.val / 64) (t.val % 64) 4096 _ _ _ _ (newB m c U W Bc DT Db Al D Z N H t) pay5_apply h 0 1920 (5120 + 128 * (7 : Fin 8).val) (by decide) rfl _) (strip_first (n := 2048) (View.whole cc0_scratch1) U (t.val / 64) (t.val % 64) 4096 _ _ _ _ (newB m c U W Bc DT Db Al D Z N H t) pay5_apply h 1 1920 (5120 + 128 * (7 : Fin 8).val) (by decide) rfl _) (strip_first (n := 2048) (View.whole cc0_scratch1) U (t.val / 64) (t.val % 64) 4096 _ _ _ _ (newB m c U W Bc DT Db Al D Z N H t) pay5_apply h 2 1920 (5120 + 128 * (7 : Fin 8).val) (by decide) rfl _) (strip_first (n := 2048) (View.whole cc0_scratch1) U (t.val / 64) (t.val % 64) 4096 _ _ _ _ (newB m c U W Bc DT Db Al D Z N H t) pay5_apply h 3 1920 (5120 + 128 * (7 : Fin 8).val) (by decide) rfl _) l j)
      (fun n j => (congrFun (View.readCov_skip _ _ _ _ _ rfl) _).trans ((congrFun (View.readCov_skip _ _ _ _ _ rfl) _).trans ((congrFun (View.readCov_skip _ _ _ _ _ rfl) _).trans ((congrFun (View.readCov_skip _ _ _ _ _ rfl) _).trans ((congrFun (View.readCov_skip _ _ _ _ _ rfl) _).trans ((congrFun (View.readCov_skip _ _ _ _ _ rfl) _).trans ((congrFun (View.readCov_skip _ _ _ _ _ rfl) _).trans ((congrFun (View.readCov_fill (View.whole cc0_scratch2) _ _ _ _ zeros) _).trans ((ld_cols (e := .f32) _ 3584 _ n j (by omega)).trans ((pay6_apply _ _).trans (zero_state U W Bc DT Db Al h _ _)))))))))))
      (dx m c U W Bc DT Db Al D Z N H t 3584 (by decide) _) (zx m c U W Bc DT Db Al D Z N H t 3584 (by decide) _) (nx m c U W Bc DT Db Al D Z N H t 3584 (by decide) _)) (hx0.trans (Nat.zero_add _).symm) hx1
  · refine Eq.trans (b := normed (gated 6 _ _ _ _ _ (convX _ _ _ _ _ _ _ _ _) (convB _ _ _ _ _ _ _ _ _) (convB _ _ _ _ _ _ _ _ _) _ _ _) _ x) rfl ?_
    refine out_at U W Bc DT Db Al D Z N 6 (t.val / 64) (t.val % 64) _ y x (out_next 6 (iblk m c 3 t) (iblk m c 8 t) (iblk m c 9 t) (iblk m c 12 t) U W Bc DT Db Al D Z N
      (t.val / 64) (t.val % 64) _ _ _ _ _ _ _ (read3 m c U W Bc DT Db Al D Z N H t) (read8 m c U W Bc DT Db Al D Z N H t) (read9 m c U W Bc DT Db Al D Z N H t) (read12 m c t)
      (fun l j => convX_real U W Bc (t.val / 64) (t.val % 64) (512 * (6 : Fin 8).val) _ _ _ _ _ _ _ _ _ (bx m c U W Bc DT Db Al D Z N H t 3072 (by decide) _) (wx m c U W Bc DT Db Al D Z N H t 0 3072 (by decide) (by decide) _) (wx m c U W Bc DT Db Al D Z N H t 1 3072 (by decide) (by decide) _) (wx m c U W Bc DT Db Al D Z N H t 2 3072 (by decide) (by decide) _) (wx m c U W Bc DT Db Al D Z N H t 3 3072 (by decide) (by decide) _)
      (strip_first (n := 4096) (View.whole cc0_scratch0) U (t.val / 64) (t.val % 64) 0 _ _ _ _ (newX m c U W Bc DT Db Al D Z N H t) pay4_apply h 0 3072 (512 * (6 : Fin 8).val) (by decide) rfl _) (strip_first (n := 4096) (View.whole cc0_scratch0) U (t.val / 64) (t.val % 64) 0 _ _ _ _ (newX m c U W Bc DT Db Al D Z N H t) pay4_apply h 1 3072 (512 * (6 : Fin 8).val) (by decide) rfl _) (strip_first (n := 4096) (View.whole cc0_scratch0) U (t.val / 64) (t.val % 64) 0 _ _ _ _ (newX m c U W Bc DT Db Al D Z N H t) pay4_apply h 2 3072 (512 * (6 : Fin 8).val) (by decide) rfl _) (strip_first (n := 4096) (View.whole cc0_scratch0) U (t.val / 64) (t.val % 64) 0 _ _ _ _ (newX m c U W Bc DT Db Al D Z N H t) pay4_apply h 3 3072 (512 * (6 : Fin 8).val) (by decide) rfl _) l j)
      (fun l j => convB_real U W Bc (t.val / 64) (t.val % 64) (4096 + 128 * (6 : Fin 8).val) _ _ _ _ _ _ _ _ _ (bb m c U W Bc DT Db Al D Z N H t 768 (4096 + 128 * (6 : Fin 8).val) (by decide) rfl _) (wb m c U W Bc DT Db Al D Z N H t 0 768 (4096 + 128 * (6 : Fin 8).val) (by decide) (by decide) rfl _) (wb m c U W Bc DT Db Al D Z N H t 1 768 (4096 + 128 * (6 : Fin 8).val) (by decide) (by decide) rfl _) (wb m c U W Bc DT Db Al D Z N H t 2 768 (4096 + 128 * (6 : Fin 8).val) (by decide) (by decide) rfl _) (wb m c U W Bc DT Db Al D Z N H t 3 768 (4096 + 128 * (6 : Fin 8).val) (by decide) (by decide) rfl _)
      (strip_first (n := 2048) (View.whole cc0_scratch1) U (t.val / 64) (t.val % 64) 4096 _ _ _ _ (newB m c U W Bc DT Db Al D Z N H t) pay5_apply h 0 768 (4096 + 128 * (6 : Fin 8).val) (by decide) rfl _) (strip_first (n := 2048) (View.whole cc0_scratch1) U (t.val / 64) (t.val % 64) 4096 _ _ _ _ (newB m c U W Bc DT Db Al D Z N H t) pay5_apply h 1 768 (4096 + 128 * (6 : Fin 8).val) (by decide) rfl _) (strip_first (n := 2048) (View.whole cc0_scratch1) U (t.val / 64) (t.val % 64) 4096 _ _ _ _ (newB m c U W Bc DT Db Al D Z N H t) pay5_apply h 2 768 (4096 + 128 * (6 : Fin 8).val) (by decide) rfl _) (strip_first (n := 2048) (View.whole cc0_scratch1) U (t.val / 64) (t.val % 64) 4096 _ _ _ _ (newB m c U W Bc DT Db Al D Z N H t) pay5_apply h 3 768 (4096 + 128 * (6 : Fin 8).val) (by decide) rfl _) l j)
      (fun l j => convB_real U W Bc (t.val / 64) (t.val % 64) (5120 + 128 * (6 : Fin 8).val) _ _ _ _ _ _ _ _ _ (bb m c U W Bc DT Db Al D Z N H t 1792 (5120 + 128 * (6 : Fin 8).val) (by decide) rfl _) (wb m c U W Bc DT Db Al D Z N H t 0 1792 (5120 + 128 * (6 : Fin 8).val) (by decide) (by decide) rfl _) (wb m c U W Bc DT Db Al D Z N H t 1 1792 (5120 + 128 * (6 : Fin 8).val) (by decide) (by decide) rfl _) (wb m c U W Bc DT Db Al D Z N H t 2 1792 (5120 + 128 * (6 : Fin 8).val) (by decide) (by decide) rfl _) (wb m c U W Bc DT Db Al D Z N H t 3 1792 (5120 + 128 * (6 : Fin 8).val) (by decide) (by decide) rfl _)
      (strip_first (n := 2048) (View.whole cc0_scratch1) U (t.val / 64) (t.val % 64) 4096 _ _ _ _ (newB m c U W Bc DT Db Al D Z N H t) pay5_apply h 0 1792 (5120 + 128 * (6 : Fin 8).val) (by decide) rfl _) (strip_first (n := 2048) (View.whole cc0_scratch1) U (t.val / 64) (t.val % 64) 4096 _ _ _ _ (newB m c U W Bc DT Db Al D Z N H t) pay5_apply h 1 1792 (5120 + 128 * (6 : Fin 8).val) (by decide) rfl _) (strip_first (n := 2048) (View.whole cc0_scratch1) U (t.val / 64) (t.val % 64) 4096 _ _ _ _ (newB m c U W Bc DT Db Al D Z N H t) pay5_apply h 2 1792 (5120 + 128 * (6 : Fin 8).val) (by decide) rfl _) (strip_first (n := 2048) (View.whole cc0_scratch1) U (t.val / 64) (t.val % 64) 4096 _ _ _ _ (newB m c U W Bc DT Db Al D Z N H t) pay5_apply h 3 1792 (5120 + 128 * (6 : Fin 8).val) (by decide) rfl _) l j)
      (fun n j => (congrFun (View.readCov_skip _ _ _ _ _ rfl) _).trans ((congrFun (View.readCov_skip _ _ _ _ _ rfl) _).trans ((congrFun (View.readCov_skip _ _ _ _ _ rfl) _).trans ((congrFun (View.readCov_skip _ _ _ _ _ rfl) _).trans ((congrFun (View.readCov_skip _ _ _ _ _ rfl) _).trans ((congrFun (View.readCov_skip _ _ _ _ _ rfl) _).trans ((congrFun (View.readCov_fill (View.whole cc0_scratch2) _ _ _ _ zeros) _).trans ((ld_cols (e := .f32) _ 3072 _ n j (by omega)).trans ((pay6_apply _ _).trans (zero_state U W Bc DT Db Al h _ _))))))))))
      (dx m c U W Bc DT Db Al D Z N H t 3072 (by decide) _) (zx m c U W Bc DT Db Al D Z N H t 3072 (by decide) _) (nx m c U W Bc DT Db Al D Z N H t 3072 (by decide) _)) (hx0.trans (Nat.zero_add _).symm) hx1
  · refine Eq.trans (b := normed (gated 5 _ _ _ _ _ (convX _ _ _ _ _ _ _ _ _) (convB _ _ _ _ _ _ _ _ _) (convB _ _ _ _ _ _ _ _ _) _ _ _) _ x) rfl ?_
    refine out_at U W Bc DT Db Al D Z N 5 (t.val / 64) (t.val % 64) _ y x (out_next 5 (iblk m c 3 t) (iblk m c 8 t) (iblk m c 9 t) (iblk m c 12 t) U W Bc DT Db Al D Z N
      (t.val / 64) (t.val % 64) _ _ _ _ _ _ _ (read3 m c U W Bc DT Db Al D Z N H t) (read8 m c U W Bc DT Db Al D Z N H t) (read9 m c U W Bc DT Db Al D Z N H t) (read12 m c t)
      (fun l j => convX_real U W Bc (t.val / 64) (t.val % 64) (512 * (5 : Fin 8).val) _ _ _ _ _ _ _ _ _ (bx m c U W Bc DT Db Al D Z N H t 2560 (by decide) _) (wx m c U W Bc DT Db Al D Z N H t 0 2560 (by decide) (by decide) _) (wx m c U W Bc DT Db Al D Z N H t 1 2560 (by decide) (by decide) _) (wx m c U W Bc DT Db Al D Z N H t 2 2560 (by decide) (by decide) _) (wx m c U W Bc DT Db Al D Z N H t 3 2560 (by decide) (by decide) _)
      (strip_first (n := 4096) (View.whole cc0_scratch0) U (t.val / 64) (t.val % 64) 0 _ _ _ _ (newX m c U W Bc DT Db Al D Z N H t) pay4_apply h 0 2560 (512 * (5 : Fin 8).val) (by decide) rfl _) (strip_first (n := 4096) (View.whole cc0_scratch0) U (t.val / 64) (t.val % 64) 0 _ _ _ _ (newX m c U W Bc DT Db Al D Z N H t) pay4_apply h 1 2560 (512 * (5 : Fin 8).val) (by decide) rfl _) (strip_first (n := 4096) (View.whole cc0_scratch0) U (t.val / 64) (t.val % 64) 0 _ _ _ _ (newX m c U W Bc DT Db Al D Z N H t) pay4_apply h 2 2560 (512 * (5 : Fin 8).val) (by decide) rfl _) (strip_first (n := 4096) (View.whole cc0_scratch0) U (t.val / 64) (t.val % 64) 0 _ _ _ _ (newX m c U W Bc DT Db Al D Z N H t) pay4_apply h 3 2560 (512 * (5 : Fin 8).val) (by decide) rfl _) l j)
      (fun l j => convB_real U W Bc (t.val / 64) (t.val % 64) (4096 + 128 * (5 : Fin 8).val) _ _ _ _ _ _ _ _ _ (bb m c U W Bc DT Db Al D Z N H t 640 (4096 + 128 * (5 : Fin 8).val) (by decide) rfl _) (wb m c U W Bc DT Db Al D Z N H t 0 640 (4096 + 128 * (5 : Fin 8).val) (by decide) (by decide) rfl _) (wb m c U W Bc DT Db Al D Z N H t 1 640 (4096 + 128 * (5 : Fin 8).val) (by decide) (by decide) rfl _) (wb m c U W Bc DT Db Al D Z N H t 2 640 (4096 + 128 * (5 : Fin 8).val) (by decide) (by decide) rfl _) (wb m c U W Bc DT Db Al D Z N H t 3 640 (4096 + 128 * (5 : Fin 8).val) (by decide) (by decide) rfl _)
      (strip_first (n := 2048) (View.whole cc0_scratch1) U (t.val / 64) (t.val % 64) 4096 _ _ _ _ (newB m c U W Bc DT Db Al D Z N H t) pay5_apply h 0 640 (4096 + 128 * (5 : Fin 8).val) (by decide) rfl _) (strip_first (n := 2048) (View.whole cc0_scratch1) U (t.val / 64) (t.val % 64) 4096 _ _ _ _ (newB m c U W Bc DT Db Al D Z N H t) pay5_apply h 1 640 (4096 + 128 * (5 : Fin 8).val) (by decide) rfl _) (strip_first (n := 2048) (View.whole cc0_scratch1) U (t.val / 64) (t.val % 64) 4096 _ _ _ _ (newB m c U W Bc DT Db Al D Z N H t) pay5_apply h 2 640 (4096 + 128 * (5 : Fin 8).val) (by decide) rfl _) (strip_first (n := 2048) (View.whole cc0_scratch1) U (t.val / 64) (t.val % 64) 4096 _ _ _ _ (newB m c U W Bc DT Db Al D Z N H t) pay5_apply h 3 640 (4096 + 128 * (5 : Fin 8).val) (by decide) rfl _) l j)
      (fun l j => convB_real U W Bc (t.val / 64) (t.val % 64) (5120 + 128 * (5 : Fin 8).val) _ _ _ _ _ _ _ _ _ (bb m c U W Bc DT Db Al D Z N H t 1664 (5120 + 128 * (5 : Fin 8).val) (by decide) rfl _) (wb m c U W Bc DT Db Al D Z N H t 0 1664 (5120 + 128 * (5 : Fin 8).val) (by decide) (by decide) rfl _) (wb m c U W Bc DT Db Al D Z N H t 1 1664 (5120 + 128 * (5 : Fin 8).val) (by decide) (by decide) rfl _) (wb m c U W Bc DT Db Al D Z N H t 2 1664 (5120 + 128 * (5 : Fin 8).val) (by decide) (by decide) rfl _) (wb m c U W Bc DT Db Al D Z N H t 3 1664 (5120 + 128 * (5 : Fin 8).val) (by decide) (by decide) rfl _)
      (strip_first (n := 2048) (View.whole cc0_scratch1) U (t.val / 64) (t.val % 64) 4096 _ _ _ _ (newB m c U W Bc DT Db Al D Z N H t) pay5_apply h 0 1664 (5120 + 128 * (5 : Fin 8).val) (by decide) rfl _) (strip_first (n := 2048) (View.whole cc0_scratch1) U (t.val / 64) (t.val % 64) 4096 _ _ _ _ (newB m c U W Bc DT Db Al D Z N H t) pay5_apply h 1 1664 (5120 + 128 * (5 : Fin 8).val) (by decide) rfl _) (strip_first (n := 2048) (View.whole cc0_scratch1) U (t.val / 64) (t.val % 64) 4096 _ _ _ _ (newB m c U W Bc DT Db Al D Z N H t) pay5_apply h 2 1664 (5120 + 128 * (5 : Fin 8).val) (by decide) rfl _) (strip_first (n := 2048) (View.whole cc0_scratch1) U (t.val / 64) (t.val % 64) 4096 _ _ _ _ (newB m c U W Bc DT Db Al D Z N H t) pay5_apply h 3 1664 (5120 + 128 * (5 : Fin 8).val) (by decide) rfl _) l j)
      (fun n j => (congrFun (View.readCov_skip _ _ _ _ _ rfl) _).trans ((congrFun (View.readCov_skip _ _ _ _ _ rfl) _).trans ((congrFun (View.readCov_skip _ _ _ _ _ rfl) _).trans ((congrFun (View.readCov_skip _ _ _ _ _ rfl) _).trans ((congrFun (View.readCov_skip _ _ _ _ _ rfl) _).trans ((congrFun (View.readCov_fill (View.whole cc0_scratch2) _ _ _ _ zeros) _).trans ((ld_cols (e := .f32) _ 2560 _ n j (by omega)).trans ((pay6_apply _ _).trans (zero_state U W Bc DT Db Al h _ _)))))))))
      (dx m c U W Bc DT Db Al D Z N H t 2560 (by decide) _) (zx m c U W Bc DT Db Al D Z N H t 2560 (by decide) _) (nx m c U W Bc DT Db Al D Z N H t 2560 (by decide) _)) (hx0.trans (Nat.zero_add _).symm) hx1
  · refine Eq.trans (b := normed (gated 4 _ _ _ _ _ (convX _ _ _ _ _ _ _ _ _) (convB _ _ _ _ _ _ _ _ _) (convB _ _ _ _ _ _ _ _ _) _ _ _) _ x) rfl ?_
    refine out_at U W Bc DT Db Al D Z N 4 (t.val / 64) (t.val % 64) _ y x (out_next 4 (iblk m c 3 t) (iblk m c 8 t) (iblk m c 9 t) (iblk m c 12 t) U W Bc DT Db Al D Z N
      (t.val / 64) (t.val % 64) _ _ _ _ _ _ _ (read3 m c U W Bc DT Db Al D Z N H t) (read8 m c U W Bc DT Db Al D Z N H t) (read9 m c U W Bc DT Db Al D Z N H t) (read12 m c t)
      (fun l j => convX_real U W Bc (t.val / 64) (t.val % 64) (512 * (4 : Fin 8).val) _ _ _ _ _ _ _ _ _ (bx m c U W Bc DT Db Al D Z N H t 2048 (by decide) _) (wx m c U W Bc DT Db Al D Z N H t 0 2048 (by decide) (by decide) _) (wx m c U W Bc DT Db Al D Z N H t 1 2048 (by decide) (by decide) _) (wx m c U W Bc DT Db Al D Z N H t 2 2048 (by decide) (by decide) _) (wx m c U W Bc DT Db Al D Z N H t 3 2048 (by decide) (by decide) _)
      (strip_first (n := 4096) (View.whole cc0_scratch0) U (t.val / 64) (t.val % 64) 0 _ _ _ _ (newX m c U W Bc DT Db Al D Z N H t) pay4_apply h 0 2048 (512 * (4 : Fin 8).val) (by decide) rfl _) (strip_first (n := 4096) (View.whole cc0_scratch0) U (t.val / 64) (t.val % 64) 0 _ _ _ _ (newX m c U W Bc DT Db Al D Z N H t) pay4_apply h 1 2048 (512 * (4 : Fin 8).val) (by decide) rfl _) (strip_first (n := 4096) (View.whole cc0_scratch0) U (t.val / 64) (t.val % 64) 0 _ _ _ _ (newX m c U W Bc DT Db Al D Z N H t) pay4_apply h 2 2048 (512 * (4 : Fin 8).val) (by decide) rfl _) (strip_first (n := 4096) (View.whole cc0_scratch0) U (t.val / 64) (t.val % 64) 0 _ _ _ _ (newX m c U W Bc DT Db Al D Z N H t) pay4_apply h 3 2048 (512 * (4 : Fin 8).val) (by decide) rfl _) l j)
      (fun l j => convB_real U W Bc (t.val / 64) (t.val % 64) (4096 + 128 * (4 : Fin 8).val) _ _ _ _ _ _ _ _ _ (bb m c U W Bc DT Db Al D Z N H t 512 (4096 + 128 * (4 : Fin 8).val) (by decide) rfl _) (wb m c U W Bc DT Db Al D Z N H t 0 512 (4096 + 128 * (4 : Fin 8).val) (by decide) (by decide) rfl _) (wb m c U W Bc DT Db Al D Z N H t 1 512 (4096 + 128 * (4 : Fin 8).val) (by decide) (by decide) rfl _) (wb m c U W Bc DT Db Al D Z N H t 2 512 (4096 + 128 * (4 : Fin 8).val) (by decide) (by decide) rfl _) (wb m c U W Bc DT Db Al D Z N H t 3 512 (4096 + 128 * (4 : Fin 8).val) (by decide) (by decide) rfl _)
      (strip_first (n := 2048) (View.whole cc0_scratch1) U (t.val / 64) (t.val % 64) 4096 _ _ _ _ (newB m c U W Bc DT Db Al D Z N H t) pay5_apply h 0 512 (4096 + 128 * (4 : Fin 8).val) (by decide) rfl _) (strip_first (n := 2048) (View.whole cc0_scratch1) U (t.val / 64) (t.val % 64) 4096 _ _ _ _ (newB m c U W Bc DT Db Al D Z N H t) pay5_apply h 1 512 (4096 + 128 * (4 : Fin 8).val) (by decide) rfl _) (strip_first (n := 2048) (View.whole cc0_scratch1) U (t.val / 64) (t.val % 64) 4096 _ _ _ _ (newB m c U W Bc DT Db Al D Z N H t) pay5_apply h 2 512 (4096 + 128 * (4 : Fin 8).val) (by decide) rfl _) (strip_first (n := 2048) (View.whole cc0_scratch1) U (t.val / 64) (t.val % 64) 4096 _ _ _ _ (newB m c U W Bc DT Db Al D Z N H t) pay5_apply h 3 512 (4096 + 128 * (4 : Fin 8).val) (by decide) rfl _) l j)
      (fun l j => convB_real U W Bc (t.val / 64) (t.val % 64) (5120 + 128 * (4 : Fin 8).val) _ _ _ _ _ _ _ _ _ (bb m c U W Bc DT Db Al D Z N H t 1536 (5120 + 128 * (4 : Fin 8).val) (by decide) rfl _) (wb m c U W Bc DT Db Al D Z N H t 0 1536 (5120 + 128 * (4 : Fin 8).val) (by decide) (by decide) rfl _) (wb m c U W Bc DT Db Al D Z N H t 1 1536 (5120 + 128 * (4 : Fin 8).val) (by decide) (by decide) rfl _) (wb m c U W Bc DT Db Al D Z N H t 2 1536 (5120 + 128 * (4 : Fin 8).val) (by decide) (by decide) rfl _) (wb m c U W Bc DT Db Al D Z N H t 3 1536 (5120 + 128 * (4 : Fin 8).val) (by decide) (by decide) rfl _)
      (strip_first (n := 2048) (View.whole cc0_scratch1) U (t.val / 64) (t.val % 64) 4096 _ _ _ _ (newB m c U W Bc DT Db Al D Z N H t) pay5_apply h 0 1536 (5120 + 128 * (4 : Fin 8).val) (by decide) rfl _) (strip_first (n := 2048) (View.whole cc0_scratch1) U (t.val / 64) (t.val % 64) 4096 _ _ _ _ (newB m c U W Bc DT Db Al D Z N H t) pay5_apply h 1 1536 (5120 + 128 * (4 : Fin 8).val) (by decide) rfl _) (strip_first (n := 2048) (View.whole cc0_scratch1) U (t.val / 64) (t.val % 64) 4096 _ _ _ _ (newB m c U W Bc DT Db Al D Z N H t) pay5_apply h 2 1536 (5120 + 128 * (4 : Fin 8).val) (by decide) rfl _) (strip_first (n := 2048) (View.whole cc0_scratch1) U (t.val / 64) (t.val % 64) 4096 _ _ _ _ (newB m c U W Bc DT Db Al D Z N H t) pay5_apply h 3 1536 (5120 + 128 * (4 : Fin 8).val) (by decide) rfl _) l j)
      (fun n j => (congrFun (View.readCov_skip _ _ _ _ _ rfl) _).trans ((congrFun (View.readCov_skip _ _ _ _ _ rfl) _).trans ((congrFun (View.readCov_skip _ _ _ _ _ rfl) _).trans ((congrFun (View.readCov_skip _ _ _ _ _ rfl) _).trans ((congrFun (View.readCov_fill (View.whole cc0_scratch2) _ _ _ _ zeros) _).trans ((ld_cols (e := .f32) _ 2048 _ n j (by omega)).trans ((pay6_apply _ _).trans (zero_state U W Bc DT Db Al h _ _))))))))
      (dx m c U W Bc DT Db Al D Z N H t 2048 (by decide) _) (zx m c U W Bc DT Db Al D Z N H t 2048 (by decide) _) (nx m c U W Bc DT Db Al D Z N H t 2048 (by decide) _)) (hx0.trans (Nat.zero_add _).symm) hx1
  · refine Eq.trans (b := normed (gated 3 _ _ _ _ _ (convX _ _ _ _ _ _ _ _ _) (convB _ _ _ _ _ _ _ _ _) (convB _ _ _ _ _ _ _ _ _) _ _ _) _ x) rfl ?_
    refine out_at U W Bc DT Db Al D Z N 3 (t.val / 64) (t.val % 64) _ y x (out_next 3 (iblk m c 3 t) (iblk m c 8 t) (iblk m c 9 t) (iblk m c 12 t) U W Bc DT Db Al D Z N
      (t.val / 64) (t.val % 64) _ _ _ _ _ _ _ (read3 m c U W Bc DT Db Al D Z N H t) (read8 m c U W Bc DT Db Al D Z N H t) (read9 m c U W Bc DT Db Al D Z N H t) (read12 m c t)
      (fun l j => convX_real U W Bc (t.val / 64) (t.val % 64) (512 * (3 : Fin 8).val) _ _ _ _ _ _ _ _ _ (bx m c U W Bc DT Db Al D Z N H t 1536 (by decide) _) (wx m c U W Bc DT Db Al D Z N H t 0 1536 (by decide) (by decide) _) (wx m c U W Bc DT Db Al D Z N H t 1 1536 (by decide) (by decide) _) (wx m c U W Bc DT Db Al D Z N H t 2 1536 (by decide) (by decide) _) (wx m c U W Bc DT Db Al D Z N H t 3 1536 (by decide) (by decide) _)
      (strip_first (n := 4096) (View.whole cc0_scratch0) U (t.val / 64) (t.val % 64) 0 _ _ _ _ (newX m c U W Bc DT Db Al D Z N H t) pay4_apply h 0 1536 (512 * (3 : Fin 8).val) (by decide) rfl _) (strip_first (n := 4096) (View.whole cc0_scratch0) U (t.val / 64) (t.val % 64) 0 _ _ _ _ (newX m c U W Bc DT Db Al D Z N H t) pay4_apply h 1 1536 (512 * (3 : Fin 8).val) (by decide) rfl _) (strip_first (n := 4096) (View.whole cc0_scratch0) U (t.val / 64) (t.val % 64) 0 _ _ _ _ (newX m c U W Bc DT Db Al D Z N H t) pay4_apply h 2 1536 (512 * (3 : Fin 8).val) (by decide) rfl _) (strip_first (n := 4096) (View.whole cc0_scratch0) U (t.val / 64) (t.val % 64) 0 _ _ _ _ (newX m c U W Bc DT Db Al D Z N H t) pay4_apply h 3 1536 (512 * (3 : Fin 8).val) (by decide) rfl _) l j)
      (fun l j => convB_real U W Bc (t.val / 64) (t.val % 64) (4096 + 128 * (3 : Fin 8).val) _ _ _ _ _ _ _ _ _ (bb m c U W Bc DT Db Al D Z N H t 384 (4096 + 128 * (3 : Fin 8).val) (by decide) rfl _) (wb m c U W Bc DT Db Al D Z N H t 0 384 (4096 + 128 * (3 : Fin 8).val) (by decide) (by decide) rfl _) (wb m c U W Bc DT Db Al D Z N H t 1 384 (4096 + 128 * (3 : Fin 8).val) (by decide) (by decide) rfl _) (wb m c U W Bc DT Db Al D Z N H t 2 384 (4096 + 128 * (3 : Fin 8).val) (by decide) (by decide) rfl _) (wb m c U W Bc DT Db Al D Z N H t 3 384 (4096 + 128 * (3 : Fin 8).val) (by decide) (by decide) rfl _)
      (strip_first (n := 2048) (View.whole cc0_scratch1) U (t.val / 64) (t.val % 64) 4096 _ _ _ _ (newB m c U W Bc DT Db Al D Z N H t) pay5_apply h 0 384 (4096 + 128 * (3 : Fin 8).val) (by decide) rfl _) (strip_first (n := 2048) (View.whole cc0_scratch1) U (t.val / 64) (t.val % 64) 4096 _ _ _ _ (newB m c U W Bc DT Db Al D Z N H t) pay5_apply h 1 384 (4096 + 128 * (3 : Fin 8).val) (by decide) rfl _) (strip_first (n := 2048) (View.whole cc0_scratch1) U (t.val / 64) (t.val % 64) 4096 _ _ _ _ (newB m c U W Bc DT Db Al D Z N H t) pay5_apply h 2 384 (4096 + 128 * (3 : Fin 8).val) (by decide) rfl _) (strip_first (n := 2048) (View.whole cc0_scratch1) U (t.val / 64) (t.val % 64) 4096 _ _ _ _ (newB m c U W Bc DT Db Al D Z N H t) pay5_apply h 3 384 (4096 + 128 * (3 : Fin 8).val) (by decide) rfl _) l j)
      (fun l j => convB_real U W Bc (t.val / 64) (t.val % 64) (5120 + 128 * (3 : Fin 8).val) _ _ _ _ _ _ _ _ _ (bb m c U W Bc DT Db Al D Z N H t 1408 (5120 + 128 * (3 : Fin 8).val) (by decide) rfl _) (wb m c U W Bc DT Db Al D Z N H t 0 1408 (5120 + 128 * (3 : Fin 8).val) (by decide) (by decide) rfl _) (wb m c U W Bc DT Db Al D Z N H t 1 1408 (5120 + 128 * (3 : Fin 8).val) (by decide) (by decide) rfl _) (wb m c U W Bc DT Db Al D Z N H t 2 1408 (5120 + 128 * (3 : Fin 8).val) (by decide) (by decide) rfl _) (wb m c U W Bc DT Db Al D Z N H t 3 1408 (5120 + 128 * (3 : Fin 8).val) (by decide) (by decide) rfl _)
      (strip_first (n := 2048) (View.whole cc0_scratch1) U (t.val / 64) (t.val % 64) 4096 _ _ _ _ (newB m c U W Bc DT Db Al D Z N H t) pay5_apply h 0 1408 (5120 + 128 * (3 : Fin 8).val) (by decide) rfl _) (strip_first (n := 2048) (View.whole cc0_scratch1) U (t.val / 64) (t.val % 64) 4096 _ _ _ _ (newB m c U W Bc DT Db Al D Z N H t) pay5_apply h 1 1408 (5120 + 128 * (3 : Fin 8).val) (by decide) rfl _) (strip_first (n := 2048) (View.whole cc0_scratch1) U (t.val / 64) (t.val % 64) 4096 _ _ _ _ (newB m c U W Bc DT Db Al D Z N H t) pay5_apply h 2 1408 (5120 + 128 * (3 : Fin 8).val) (by decide) rfl _) (strip_first (n := 2048) (View.whole cc0_scratch1) U (t.val / 64) (t.val % 64) 4096 _ _ _ _ (newB m c U W Bc DT Db Al D Z N H t) pay5_apply h 3 1408 (5120 + 128 * (3 : Fin 8).val) (by decide) rfl _) l j)
      (fun n j => (congrFun (View.readCov_skip _ _ _ _ _ rfl) _).trans ((congrFun (View.readCov_skip _ _ _ _ _ rfl) _).trans ((congrFun (View.readCov_skip _ _ _ _ _ rfl) _).trans ((congrFun (View.readCov_fill (View.whole cc0_scratch2) _ _ _ _ zeros) _).trans ((ld_cols (e := .f32) _ 1536 _ n j (by omega)).trans ((pay6_apply _ _).trans (zero_state U W Bc DT Db Al h _ _)))))))
      (dx m c U W Bc DT Db Al D Z N H t 1536 (by decide) _) (zx m c U W Bc DT Db Al D Z N H t 1536 (by decide) _) (nx m c U W Bc DT Db Al D Z N H t 1536 (by decide) _)) (hx0.trans (Nat.zero_add _).symm) hx1
  · refine Eq.trans (b := normed (gated 2 _ _ _ _ _ (convX _ _ _ _ _ _ _ _ _) (convB _ _ _ _ _ _ _ _ _) (convB _ _ _ _ _ _ _ _ _) _ _ _) _ x) rfl ?_
    refine out_at U W Bc DT Db Al D Z N 2 (t.val / 64) (t.val % 64) _ y x (out_next 2 (iblk m c 3 t) (iblk m c 8 t) (iblk m c 9 t) (iblk m c 12 t) U W Bc DT Db Al D Z N
      (t.val / 64) (t.val % 64) _ _ _ _ _ _ _ (read3 m c U W Bc DT Db Al D Z N H t) (read8 m c U W Bc DT Db Al D Z N H t) (read9 m c U W Bc DT Db Al D Z N H t) (read12 m c t)
      (fun l j => convX_real U W Bc (t.val / 64) (t.val % 64) (512 * (2 : Fin 8).val) _ _ _ _ _ _ _ _ _ (bx m c U W Bc DT Db Al D Z N H t 1024 (by decide) _) (wx m c U W Bc DT Db Al D Z N H t 0 1024 (by decide) (by decide) _) (wx m c U W Bc DT Db Al D Z N H t 1 1024 (by decide) (by decide) _) (wx m c U W Bc DT Db Al D Z N H t 2 1024 (by decide) (by decide) _) (wx m c U W Bc DT Db Al D Z N H t 3 1024 (by decide) (by decide) _)
      (strip_first (n := 4096) (View.whole cc0_scratch0) U (t.val / 64) (t.val % 64) 0 _ _ _ _ (newX m c U W Bc DT Db Al D Z N H t) pay4_apply h 0 1024 (512 * (2 : Fin 8).val) (by decide) rfl _) (strip_first (n := 4096) (View.whole cc0_scratch0) U (t.val / 64) (t.val % 64) 0 _ _ _ _ (newX m c U W Bc DT Db Al D Z N H t) pay4_apply h 1 1024 (512 * (2 : Fin 8).val) (by decide) rfl _) (strip_first (n := 4096) (View.whole cc0_scratch0) U (t.val / 64) (t.val % 64) 0 _ _ _ _ (newX m c U W Bc DT Db Al D Z N H t) pay4_apply h 2 1024 (512 * (2 : Fin 8).val) (by decide) rfl _) (strip_first (n := 4096) (View.whole cc0_scratch0) U (t.val / 64) (t.val % 64) 0 _ _ _ _ (newX m c U W Bc DT Db Al D Z N H t) pay4_apply h 3 1024 (512 * (2 : Fin 8).val) (by decide) rfl _) l j)
      (fun l j => convB_real U W Bc (t.val / 64) (t.val % 64) (4096 + 128 * (2 : Fin 8).val) _ _ _ _ _ _ _ _ _ (bb m c U W Bc DT Db Al D Z N H t 256 (4096 + 128 * (2 : Fin 8).val) (by decide) rfl _) (wb m c U W Bc DT Db Al D Z N H t 0 256 (4096 + 128 * (2 : Fin 8).val) (by decide) (by decide) rfl _) (wb m c U W Bc DT Db Al D Z N H t 1 256 (4096 + 128 * (2 : Fin 8).val) (by decide) (by decide) rfl _) (wb m c U W Bc DT Db Al D Z N H t 2 256 (4096 + 128 * (2 : Fin 8).val) (by decide) (by decide) rfl _) (wb m c U W Bc DT Db Al D Z N H t 3 256 (4096 + 128 * (2 : Fin 8).val) (by decide) (by decide) rfl _)
      (strip_first (n := 2048) (View.whole cc0_scratch1) U (t.val / 64) (t.val % 64) 4096 _ _ _ _ (newB m c U W Bc DT Db Al D Z N H t) pay5_apply h 0 256 (4096 + 128 * (2 : Fin 8).val) (by decide) rfl _) (strip_first (n := 2048) (View.whole cc0_scratch1) U (t.val / 64) (t.val % 64) 4096 _ _ _ _ (newB m c U W Bc DT Db Al D Z N H t) pay5_apply h 1 256 (4096 + 128 * (2 : Fin 8).val) (by decide) rfl _) (strip_first (n := 2048) (View.whole cc0_scratch1) U (t.val / 64) (t.val % 64) 4096 _ _ _ _ (newB m c U W Bc DT Db Al D Z N H t) pay5_apply h 2 256 (4096 + 128 * (2 : Fin 8).val) (by decide) rfl _) (strip_first (n := 2048) (View.whole cc0_scratch1) U (t.val / 64) (t.val % 64) 4096 _ _ _ _ (newB m c U W Bc DT Db Al D Z N H t) pay5_apply h 3 256 (4096 + 128 * (2 : Fin 8).val) (by decide) rfl _) l j)
      (fun l j => convB_real U W Bc (t.val / 64) (t.val % 64) (5120 + 128 * (2 : Fin 8).val) _ _ _ _ _ _ _ _ _ (bb m c U W Bc DT Db Al D Z N H t 1280 (5120 + 128 * (2 : Fin 8).val) (by decide) rfl _) (wb m c U W Bc DT Db Al D Z N H t 0 1280 (5120 + 128 * (2 : Fin 8).val) (by decide) (by decide) rfl _) (wb m c U W Bc DT Db Al D Z N H t 1 1280 (5120 + 128 * (2 : Fin 8).val) (by decide) (by decide) rfl _) (wb m c U W Bc DT Db Al D Z N H t 2 1280 (5120 + 128 * (2 : Fin 8).val) (by decide) (by decide) rfl _) (wb m c U W Bc DT Db Al D Z N H t 3 1280 (5120 + 128 * (2 : Fin 8).val) (by decide) (by decide) rfl _)
      (strip_first (n := 2048) (View.whole cc0_scratch1) U (t.val / 64) (t.val % 64) 4096 _ _ _ _ (newB m c U W Bc DT Db Al D Z N H t) pay5_apply h 0 1280 (5120 + 128 * (2 : Fin 8).val) (by decide) rfl _) (strip_first (n := 2048) (View.whole cc0_scratch1) U (t.val / 64) (t.val % 64) 4096 _ _ _ _ (newB m c U W Bc DT Db Al D Z N H t) pay5_apply h 1 1280 (5120 + 128 * (2 : Fin 8).val) (by decide) rfl _) (strip_first (n := 2048) (View.whole cc0_scratch1) U (t.val / 64) (t.val % 64) 4096 _ _ _ _ (newB m c U W Bc DT Db Al D Z N H t) pay5_apply h 2 1280 (5120 + 128 * (2 : Fin 8).val) (by decide) rfl _) (strip_first (n := 2048) (View.whole cc0_scratch1) U (t.val / 64) (t.val % 64) 4096 _ _ _ _ (newB m c U W Bc DT Db Al D Z N H t) pay5_apply h 3 1280 (5120 + 128 * (2 : Fin 8).val) (by decide) rfl _) l j)
      (fun n j => (congrFun (View.readCov_skip _ _ _ _ _ rfl) _).trans ((congrFun (View.readCov_skip _ _ _ _ _ rfl) _).trans ((congrFun (View.readCov_fill (View.whole cc0_scratch2) _ _ _ _ zeros) _).trans ((ld_cols (e := .f32) _ 1024 _ n j (by omega)).trans ((pay6_apply _ _).trans (zero_state U W Bc DT Db Al h _ _))))))
      (dx m c U W Bc DT Db Al D Z N H t 1024 (by decide) _) (zx m c U W Bc DT Db Al D Z N H t 1024 (by decide) _) (nx m c U W Bc DT Db Al D Z N H t 1024 (by decide) _)) (hx0.trans (Nat.zero_add _).symm) hx1
  · refine Eq.trans (b := normed (gated 1 _ _ _ _ _ (convX _ _ _ _ _ _ _ _ _) (convB _ _ _ _ _ _ _ _ _) (convB _ _ _ _ _ _ _ _ _) _ _ _) _ x) rfl ?_
    refine out_at U W Bc DT Db Al D Z N 1 (t.val / 64) (t.val % 64) _ y x (out_next 1 (iblk m c 3 t) (iblk m c 8 t) (iblk m c 9 t) (iblk m c 12 t) U W Bc DT Db Al D Z N
      (t.val / 64) (t.val % 64) _ _ _ _ _ _ _ (read3 m c U W Bc DT Db Al D Z N H t) (read8 m c U W Bc DT Db Al D Z N H t) (read9 m c U W Bc DT Db Al D Z N H t) (read12 m c t)
      (fun l j => convX_real U W Bc (t.val / 64) (t.val % 64) (512 * (1 : Fin 8).val) _ _ _ _ _ _ _ _ _ (bx m c U W Bc DT Db Al D Z N H t 512 (by decide) _) (wx m c U W Bc DT Db Al D Z N H t 0 512 (by decide) (by decide) _) (wx m c U W Bc DT Db Al D Z N H t 1 512 (by decide) (by decide) _) (wx m c U W Bc DT Db Al D Z N H t 2 512 (by decide) (by decide) _) (wx m c U W Bc DT Db Al D Z N H t 3 512 (by decide) (by decide) _)
      (strip_first (n := 4096) (View.whole cc0_scratch0) U (t.val / 64) (t.val % 64) 0 _ _ _ _ (newX m c U W Bc DT Db Al D Z N H t) pay4_apply h 0 512 (512 * (1 : Fin 8).val) (by decide) rfl _) (strip_first (n := 4096) (View.whole cc0_scratch0) U (t.val / 64) (t.val % 64) 0 _ _ _ _ (newX m c U W Bc DT Db Al D Z N H t) pay4_apply h 1 512 (512 * (1 : Fin 8).val) (by decide) rfl _) (strip_first (n := 4096) (View.whole cc0_scratch0) U (t.val / 64) (t.val % 64) 0 _ _ _ _ (newX m c U W Bc DT Db Al D Z N H t) pay4_apply h 2 512 (512 * (1 : Fin 8).val) (by decide) rfl _) (strip_first (n := 4096) (View.whole cc0_scratch0) U (t.val / 64) (t.val % 64) 0 _ _ _ _ (newX m c U W Bc DT Db Al D Z N H t) pay4_apply h 3 512 (512 * (1 : Fin 8).val) (by decide) rfl _) l j)
      (fun l j => convB_real U W Bc (t.val / 64) (t.val % 64) (4096 + 128 * (1 : Fin 8).val) _ _ _ _ _ _ _ _ _ (bb m c U W Bc DT Db Al D Z N H t 128 (4096 + 128 * (1 : Fin 8).val) (by decide) rfl _) (wb m c U W Bc DT Db Al D Z N H t 0 128 (4096 + 128 * (1 : Fin 8).val) (by decide) (by decide) rfl _) (wb m c U W Bc DT Db Al D Z N H t 1 128 (4096 + 128 * (1 : Fin 8).val) (by decide) (by decide) rfl _) (wb m c U W Bc DT Db Al D Z N H t 2 128 (4096 + 128 * (1 : Fin 8).val) (by decide) (by decide) rfl _) (wb m c U W Bc DT Db Al D Z N H t 3 128 (4096 + 128 * (1 : Fin 8).val) (by decide) (by decide) rfl _)
      (strip_first (n := 2048) (View.whole cc0_scratch1) U (t.val / 64) (t.val % 64) 4096 _ _ _ _ (newB m c U W Bc DT Db Al D Z N H t) pay5_apply h 0 128 (4096 + 128 * (1 : Fin 8).val) (by decide) rfl _) (strip_first (n := 2048) (View.whole cc0_scratch1) U (t.val / 64) (t.val % 64) 4096 _ _ _ _ (newB m c U W Bc DT Db Al D Z N H t) pay5_apply h 1 128 (4096 + 128 * (1 : Fin 8).val) (by decide) rfl _) (strip_first (n := 2048) (View.whole cc0_scratch1) U (t.val / 64) (t.val % 64) 4096 _ _ _ _ (newB m c U W Bc DT Db Al D Z N H t) pay5_apply h 2 128 (4096 + 128 * (1 : Fin 8).val) (by decide) rfl _) (strip_first (n := 2048) (View.whole cc0_scratch1) U (t.val / 64) (t.val % 64) 4096 _ _ _ _ (newB m c U W Bc DT Db Al D Z N H t) pay5_apply h 3 128 (4096 + 128 * (1 : Fin 8).val) (by decide) rfl _) l j)
      (fun l j => convB_real U W Bc (t.val / 64) (t.val % 64) (5120 + 128 * (1 : Fin 8).val) _ _ _ _ _ _ _ _ _ (bb m c U W Bc DT Db Al D Z N H t 1152 (5120 + 128 * (1 : Fin 8).val) (by decide) rfl _) (wb m c U W Bc DT Db Al D Z N H t 0 1152 (5120 + 128 * (1 : Fin 8).val) (by decide) (by decide) rfl _) (wb m c U W Bc DT Db Al D Z N H t 1 1152 (5120 + 128 * (1 : Fin 8).val) (by decide) (by decide) rfl _) (wb m c U W Bc DT Db Al D Z N H t 2 1152 (5120 + 128 * (1 : Fin 8).val) (by decide) (by decide) rfl _) (wb m c U W Bc DT Db Al D Z N H t 3 1152 (5120 + 128 * (1 : Fin 8).val) (by decide) (by decide) rfl _)
      (strip_first (n := 2048) (View.whole cc0_scratch1) U (t.val / 64) (t.val % 64) 4096 _ _ _ _ (newB m c U W Bc DT Db Al D Z N H t) pay5_apply h 0 1152 (5120 + 128 * (1 : Fin 8).val) (by decide) rfl _) (strip_first (n := 2048) (View.whole cc0_scratch1) U (t.val / 64) (t.val % 64) 4096 _ _ _ _ (newB m c U W Bc DT Db Al D Z N H t) pay5_apply h 1 1152 (5120 + 128 * (1 : Fin 8).val) (by decide) rfl _) (strip_first (n := 2048) (View.whole cc0_scratch1) U (t.val / 64) (t.val % 64) 4096 _ _ _ _ (newB m c U W Bc DT Db Al D Z N H t) pay5_apply h 2 1152 (5120 + 128 * (1 : Fin 8).val) (by decide) rfl _) (strip_first (n := 2048) (View.whole cc0_scratch1) U (t.val / 64) (t.val % 64) 4096 _ _ _ _ (newB m c U W Bc DT Db Al D Z N H t) pay5_apply h 3 1152 (5120 + 128 * (1 : Fin 8).val) (by decide) rfl _) l j)
      (fun n j => (congrFun (View.readCov_skip _ _ _ _ _ rfl) _).trans ((congrFun (View.readCov_fill (View.whole cc0_scratch2) _ _ _ _ zeros) _).trans ((ld_cols (e := .f32) _ 512 _ n j (by omega)).trans ((pay6_apply _ _).trans (zero_state U W Bc DT Db Al h _ _)))))
      (dx m c U W Bc DT Db Al D Z N H t 512 (by decide) _) (zx m c U W Bc DT Db Al D Z N H t 512 (by decide) _) (nx m c U W Bc DT Db Al D Z N H t 512 (by decide) _)) (hx0.trans (Nat.zero_add _).symm) hx1
  · refine Eq.trans (b := normed (gated 0 _ _ _ _ _ (convX _ _ _ _ _ _ _ _ _) (convB _ _ _ _ _ _ _ _ _) (convB _ _ _ _ _ _ _ _ _) _ _ _) _ x) rfl ?_
    refine out_at U W Bc DT Db Al D Z N 0 (t.val / 64) (t.val % 64) _ y x (out_next 0 (iblk m c 3 t) (iblk m c 8 t) (iblk m c 9 t) (iblk m c 12 t) U W Bc DT Db Al D Z N
      (t.val / 64) (t.val % 64) _ _ _ _ _ _ _ (read3 m c U W Bc DT Db Al D Z N H t) (read8 m c U W Bc DT Db Al D Z N H t) (read9 m c U W Bc DT Db Al D Z N H t) (read12 m c t)
      (fun l j => convX_real U W Bc (t.val / 64) (t.val % 64) (512 * (0 : Fin 8).val) _ _ _ _ _ _ _ _ _ (bx m c U W Bc DT Db Al D Z N H t 0 (by decide) _) (wx m c U W Bc DT Db Al D Z N H t 0 0 (by decide) (by decide) _) (wx m c U W Bc DT Db Al D Z N H t 1 0 (by decide) (by decide) _) (wx m c U W Bc DT Db Al D Z N H t 2 0 (by decide) (by decide) _) (wx m c U W Bc DT Db Al D Z N H t 3 0 (by decide) (by decide) _)
      (strip_first (n := 4096) (View.whole cc0_scratch0) U (t.val / 64) (t.val % 64) 0 _ _ _ _ (newX m c U W Bc DT Db Al D Z N H t) pay4_apply h 0 0 (512 * (0 : Fin 8).val) (by decide) rfl _) (strip_first (n := 4096) (View.whole cc0_scratch0) U (t.val / 64) (t.val % 64) 0 _ _ _ _ (newX m c U W Bc DT Db Al D Z N H t) pay4_apply h 1 0 (512 * (0 : Fin 8).val) (by decide) rfl _) (strip_first (n := 4096) (View.whole cc0_scratch0) U (t.val / 64) (t.val % 64) 0 _ _ _ _ (newX m c U W Bc DT Db Al D Z N H t) pay4_apply h 2 0 (512 * (0 : Fin 8).val) (by decide) rfl _) (strip_first (n := 4096) (View.whole cc0_scratch0) U (t.val / 64) (t.val % 64) 0 _ _ _ _ (newX m c U W Bc DT Db Al D Z N H t) pay4_apply h 3 0 (512 * (0 : Fin 8).val) (by decide) rfl _) l j)
      (fun l j => convB_real U W Bc (t.val / 64) (t.val % 64) (4096 + 128 * (0 : Fin 8).val) _ _ _ _ _ _ _ _ _ (bb m c U W Bc DT Db Al D Z N H t 0 (4096 + 128 * (0 : Fin 8).val) (by decide) rfl _) (wb m c U W Bc DT Db Al D Z N H t 0 0 (4096 + 128 * (0 : Fin 8).val) (by decide) (by decide) rfl _) (wb m c U W Bc DT Db Al D Z N H t 1 0 (4096 + 128 * (0 : Fin 8).val) (by decide) (by decide) rfl _) (wb m c U W Bc DT Db Al D Z N H t 2 0 (4096 + 128 * (0 : Fin 8).val) (by decide) (by decide) rfl _) (wb m c U W Bc DT Db Al D Z N H t 3 0 (4096 + 128 * (0 : Fin 8).val) (by decide) (by decide) rfl _)
      (strip_first (n := 2048) (View.whole cc0_scratch1) U (t.val / 64) (t.val % 64) 4096 _ _ _ _ (newB m c U W Bc DT Db Al D Z N H t) pay5_apply h 0 0 (4096 + 128 * (0 : Fin 8).val) (by decide) rfl _) (strip_first (n := 2048) (View.whole cc0_scratch1) U (t.val / 64) (t.val % 64) 4096 _ _ _ _ (newB m c U W Bc DT Db Al D Z N H t) pay5_apply h 1 0 (4096 + 128 * (0 : Fin 8).val) (by decide) rfl _) (strip_first (n := 2048) (View.whole cc0_scratch1) U (t.val / 64) (t.val % 64) 4096 _ _ _ _ (newB m c U W Bc DT Db Al D Z N H t) pay5_apply h 2 0 (4096 + 128 * (0 : Fin 8).val) (by decide) rfl _) (strip_first (n := 2048) (View.whole cc0_scratch1) U (t.val / 64) (t.val % 64) 4096 _ _ _ _ (newB m c U W Bc DT Db Al D Z N H t) pay5_apply h 3 0 (4096 + 128 * (0 : Fin 8).val) (by decide) rfl _) l j)
      (fun l j => convB_real U W Bc (t.val / 64) (t.val % 64) (5120 + 128 * (0 : Fin 8).val) _ _ _ _ _ _ _ _ _ (bb m c U W Bc DT Db Al D Z N H t 1024 (5120 + 128 * (0 : Fin 8).val) (by decide) rfl _) (wb m c U W Bc DT Db Al D Z N H t 0 1024 (5120 + 128 * (0 : Fin 8).val) (by decide) (by decide) rfl _) (wb m c U W Bc DT Db Al D Z N H t 1 1024 (5120 + 128 * (0 : Fin 8).val) (by decide) (by decide) rfl _) (wb m c U W Bc DT Db Al D Z N H t 2 1024 (5120 + 128 * (0 : Fin 8).val) (by decide) (by decide) rfl _) (wb m c U W Bc DT Db Al D Z N H t 3 1024 (5120 + 128 * (0 : Fin 8).val) (by decide) (by decide) rfl _)
      (strip_first (n := 2048) (View.whole cc0_scratch1) U (t.val / 64) (t.val % 64) 4096 _ _ _ _ (newB m c U W Bc DT Db Al D Z N H t) pay5_apply h 0 1024 (5120 + 128 * (0 : Fin 8).val) (by decide) rfl _) (strip_first (n := 2048) (View.whole cc0_scratch1) U (t.val / 64) (t.val % 64) 4096 _ _ _ _ (newB m c U W Bc DT Db Al D Z N H t) pay5_apply h 1 1024 (5120 + 128 * (0 : Fin 8).val) (by decide) rfl _) (strip_first (n := 2048) (View.whole cc0_scratch1) U (t.val / 64) (t.val % 64) 4096 _ _ _ _ (newB m c U W Bc DT Db Al D Z N H t) pay5_apply h 2 1024 (5120 + 128 * (0 : Fin 8).val) (by decide) rfl _) (strip_first (n := 2048) (View.whole cc0_scratch1) U (t.val / 64) (t.val % 64) 4096 _ _ _ _ (newB m c U W Bc DT Db Al D Z N H t) pay5_apply h 3 1024 (5120 + 128 * (0 : Fin 8).val) (by decide) rfl _) l j)
      (fun n j => (congrFun (View.readCov_fill (View.whole cc0_scratch2) _ _ _ _ zeros) _).trans ((ld_cols (e := .f32) _ 0 _ n j (by omega)).trans ((pay6_apply _ _).trans (zero_state U W Bc DT Db Al h _ _))))
      (dx m c U W Bc DT Db Al D Z N H t 0 (by decide) _) (zx m c U W Bc DT Db Al D Z N H t 0 (by decide) _) (nx m c U W Bc DT Db Al D Z N H t 0 (by decide) _)) (hx0.trans (Nat.zero_add _).symm) (hx1.trans (Nat.zero_add _).symm)

end Cert.Kernel12Ideal.Scan

end
-- ==== Proof.Scan.OutB.lean ====
module

public import proofs.«01_k».proof.Proof.Scan.Parts

@[expose] public section

set_option maxRecDepth 16384
noncomputable section

namespace Cert.Kernel12Ideal.Scan

open Cert.Kernel12Ideal Cert.Kernel12Ideal.Gen Idealize.ShloMosaic Idealize.ShloMosaic.TcCoe Idealize.SL.Sem Cert.Scan

variable (m : (ℓ : Loc nD τ sig) → Buf (Elt Ideal) ℓ) (c : Dev nD) (U W : ℕ → ℕ → ℝ) (Bc : ℕ → Option ℝ) (DT : ℕ → ℕ → Option ℝ) (Db : ℕ → Option ℝ) (Al : ℕ → EReal)
variable (D : ℕ → EReal) (Z : ℕ → ℕ → EReal) (N : ℕ → EReal) (H : Holds m c U W Bc DT Db Al D Z N)

include H

theorem out_B (t : Fin cfg0.N) (h : ¬ t.val % 64 = 0)
    (hux : ∀ (r : Fin 136) (j : Fin 4096), 5 ≤ r.val → r.val < 8 → (View.whole cc0_scratch0).read (Elt Ideal) ((Memref.isWhole_whole cc0_scratch0).unread (outsAt0 m c (t.val - 1) (lt_of_le_of_lt (Nat.sub_le _ _) t.isLt)).2.1) (ix2 r j)
      = (past U (t.val / 64) (128 * (t.val % 64) + (r.val - 5)) (0 + j.val) : EReal))
    (hub : ∀ (r : Fin 136) (j : Fin 2048), 5 ≤ r.val → r.val < 8 → (View.whole cc0_scratch1).read (Elt Ideal) ((Memref.isWhole_whole cc0_scratch1).unread (outsAt0 m c (t.val - 1) (lt_of_le_of_lt (Nat.sub_le _ _) t.isLt)).2.2.1) (ix2 r j)
      = (past U (t.val / 64) (128 * (t.val % 64) + (r.val - 5)) (4096 + j.val) : EReal))
    (hst : ∀ y : S128x4096.Idx, (View.whole cc0_scratch2).read (Elt Ideal) ((Memref.isWhole_whole cc0_scratch2).unread (outsAt0 m c (t.val - 1) (lt_of_le_of_lt (Nat.sub_le _ _) t.isLt)).2.2.2) y
      = (state U W Bc DT Db Al (t.val / 64) (t.val % 64) (y 0).val (y 1).val : EReal))
    (y : S128x4096.Idx) :
    (outsAt0 m c t.val t.isLt).1 y = out U W Bc DT Db Al D Z N (t.val / 64) (128 * (t.val % 64) + (y 0).val) (y 1).val := by
  rw [outsAt0_B m c t h]
  frame_out
  canon_tiles x hx
  · refine Eq.trans (b := normed (gated 7 _ _ _ _ _ (convX _ _ _ _ _ _ _ _ _) (convB _ _ _ _ _ _ _ _ _) (convB _ _ _ _ _ _ _ _ _) _ _ _) _ x) rfl ?_
    refine out_at U W Bc DT Db Al D Z N 7 (t.val / 64) (t.val % 64) _ y x (out_next 7 (iblk m c 3 t) (iblk m c 8 t) (iblk m c 9 t) (iblk m c 12 t) U W Bc DT Db Al D Z N
      (t.val / 64) (t.val % 64) _ _ _ _ _ _ _ (read3 m c U W Bc DT Db Al D Z N H t) (read8 m c U W Bc DT Db Al D Z N H t) (read9 m c U W Bc DT Db Al D Z N H t) (read12 m c t)
      (fun l j => convX_real U W Bc (t.val / 64) (t.val % 64) (512 * (7 : Fin 8).val) _ _ _ _ _ _ _ _ _ (bx m c U W Bc DT Db Al D Z N H t 3584 (by decide) _) (wx m c U W Bc DT Db Al D Z N H t 0 3584 (by decide) (by decide) _) (wx m c U W Bc DT Db Al D Z N H t 1 3584 (by decide) (by decide) _) (wx m c U W Bc DT Db Al D Z N H t 2 3584 (by decide) (by decide) _) (wx m c U W Bc DT Db Al D Z N H t 3 3584 (by decide) (by decide) _)
      (strip_old (n := 4096) (View.whole cc0_scratch0) U (t.val / 64) (t.val % 64) 0 _ _ _ hux (newX m c U W Bc DT Db Al D Z N H t) 0 3584 (512 * (7 : Fin 8).val) (by decide) rfl _) (strip_old (n := 4096) (View.whole cc0_scratch0) U (t.val / 64) (t.val % 64) 0 _ _ _ hux (newX m c U W Bc DT Db Al D Z N H t) 1 3584 (512 * (7 : Fin 8).val) (by decide) rfl _) (strip_old (n := 4096) (View.whole cc0_scratch0) U (t.val / 64) (t.val % 64) 0 _ _ _ hux (newX m c U W Bc DT Db Al D Z N H t) 2 3584 (512 * (7 : Fin 8).val) (by decide) rfl _) (strip_new (n := 4096) (View.whole cc0_scratch0) U (t.val / 64) (t.val % 64) 0 [] _ _ (newX m c U W Bc DT Db Al D Z N H t) 3584 (512 * (7 : Fin 8).val) rfl _) l j)
      (fun l j => convB_real U W Bc (t.val / 64) (t.val % 64) (4096 + 128 * (7 : Fin 8).val) _ _ _ _ _ _ _ _ _ (bb m c U W Bc DT Db Al D Z N H t 896 (4096 + 128 * (7 : Fin 8).val) (by decide) rfl _) (wb m c U W Bc DT Db Al D Z N H t 0 896 (4096 + 128 * (7 : Fin 8).val) (by decide) (by decide) rfl _) (wb m c U W Bc DT Db Al D Z N H t 1 896 (4096 + 128 * (7 : Fin 8).val) (by decide) (by decide) rfl _) (wb m c U W Bc DT Db Al D Z N H t 2 896 (4096 + 128 * (7 : Fin 8).val) (by decide) (by decide) rfl _) (wb m c U W Bc DT Db Al D Z N H t 3 896 (4096 + 128 * (7 : Fin 8).val) (by decide) (by decide) rfl _)
      (strip_old (n := 2048) (View.whole cc0_scratch1) U (t.val / 64) (t.val % 64) 4096 _ _ _ hub (newB m c U W Bc DT Db Al D Z N H t) 0 896 (4096 + 128 * (7 : Fin 8).val) (by decide) rfl _) (strip_old (n := 2048) (View.whole cc0_scratch1) U (t.val / 64) (t.val % 64) 4096 _ _ _ hub (newB m c U W Bc DT Db Al D Z N H t) 1 896 (4096 + 128 * (7 : Fin 8).val) (by decide) rfl _) (strip_old (n := 2048) (View.whole cc0_scratch1) U (t.val / 64) (t.val % 64) 4096 _ _ _ hub (newB m c U W Bc DT Db Al D Z N H t) 2 896 (4096 + 128 * (7 : Fin 8).val) (by decide) rfl _) (strip_new (n := 2048) (View.whole cc0_scratch1) U (t.val / 64) (t.val % 64) 4096 [] _ _ (newB m c U W Bc DT Db Al D Z N H t) 896 (4096 + 128 * (7 : Fin 8).val) rfl _) l j)
      (fun l j => convB_real U W Bc (t.val / 64) (t.val % 64) (5120 + 128 * (7 : Fin 8).val) _ _ _ _ _ _ _ _ _ (bb m c U W Bc DT Db Al D Z N H t 1920 (5120 + 128 * (7 : Fin 8).val) (by decide) rfl _) (wb m c U W Bc DT Db Al D Z N H t 0 1920 (5120 + 128 * (7 : Fin 8).val) (by decide) (by decide) rfl _) (wb m c U W Bc DT Db Al D Z N H t 1 1920 (5120 + 128 * (7 : Fin 8).val) (by decide) (by decide) rfl _) (wb m c U W Bc DT Db Al D Z N H t 2 1920 (5120 + 128 * (7 : Fin 8).val) (by decide) (by decide) rfl _) (wb m c U W Bc DT Db Al D Z N H t 3 1920 (5120 + 128 * (7 : Fin 8).val) (by decide) (by decide) rfl _)
      (strip_old (n := 2048) (View.whole cc0_scratch1) U (t.val / 64) (t.val % 64) 4096 _ _ _ hub (newB m c U W Bc DT Db Al D Z N H t) 0 1920 (5120 + 128 * (7 : Fin 8).val) (by decide) rfl _) (strip_old (n := 2048) (View.whole cc0_scratch1) U (t.val / 64) (t.val % 64) 4096 _ _ _ hub (newB m c U W Bc DT Db Al D Z N H t) 1 1920 (5120 + 128 * (7 : Fin 8).val) (by decide) rfl _) (strip_old (n := 2048) (View.whole cc0_scratch1) U (t.val / 64) (t.val % 64) 4096 _ _ _ hub (newB m c U W Bc DT Db Al D Z N H t) 2 1920 (5120 + 128 * (7 : Fin 8).val) (by decide) rfl _) (strip_new (n := 2048) (View.whole cc0_scratch1) U (t.val / 64) (t.val % 64) 4096 [] _ _ (newB m c U W Bc DT Db Al D Z N H t) 1920 (5120 + 128 * (7 : Fin 8).val) rfl _) l j)
      (fun n j => (ld_cols (e := .f32) _ 3584 _ n j (by omega)).trans (hst _))
      (dx m c U W Bc DT Db Al D Z N H t 3584 (by decide) _) (zx m c U W Bc DT Db Al D Z N H t 3584 (by decide) _) (nx m c U W Bc DT Db Al D Z N H t 3584 (by decide) _)) (hx0.trans (Nat.zero_add _).symm) hx1
  · refine Eq.trans (b := normed (gated 6 _ _ _ _ _ (convX _ _ _ _ _ _ _ _ _) (convB _ _ _ _ _ _ _ _ _) (convB _ _ _ _ _ _ _ _ _) _ _ _) _ x) rfl ?_
    refine out_at U W Bc DT Db Al D Z N 6 (t.val / 64) (t.val % 64) _ y x (out_next 6 (iblk m c 3 t) (iblk m c 8 t) (iblk m c 9 t) (iblk m c 12 t) U W Bc DT Db Al D Z N
      (t.val / 64) (t.val % 64) _ _ _ _ _ _ _ (read3 m c U W Bc DT Db Al D Z N H t) (read8 m c U W Bc DT Db Al D Z N H t) (read9 m c U W Bc DT Db Al D Z N H t) (read12 m c t)
      (fun l j => convX_real U W Bc (t.val / 64) (t.val % 64) (512 * (6 : Fin 8).val) _ _ _ _ _ _ _ _ _ (bx m c U W Bc DT Db Al D Z N H t 3072 (by decide) _) (wx m c U W Bc DT Db Al D Z N H t 0 3072 (by decide) (by decide) _) (wx m c U W Bc DT Db Al D Z N H t 1 3072 (by decide) (by decide) _) (wx m c U W Bc DT Db Al D Z N H t 2 3072 (by decide) (by decide) _) (wx m c U W Bc DT Db Al D Z N H t 3 3072 (by decide) (by decide) _)
      (strip_old (n := 4096) (View.whole cc0_scratch0) U (t.val / 64) (t.val % 64) 0 _ _ _ hux (newX m c U W Bc DT Db Al D Z N H t) 0 3072 (512 * (6 : Fin 8).val) (by decide) rfl _) (strip_old (n := 4096) (View.whole cc0_scratch0) U (t.val / 64) (t.val % 64) 0 _ _ _ hux (newX m c U W Bc DT Db Al D Z N H t) 1 3072 (512 * (6 : Fin 8).val) (by decide) rfl _) (strip_old (n := 4096) (View.whole cc0_scratch0) U (t.val / 64) (t.val % 64) 0 _ _ _ hux (newX m c U W Bc DT Db Al D Z N H t) 2 3072 (512 * (6 : Fin 8).val) (by decide) rfl _) (strip_new (n := 4096) (View.whole cc0_scratch0) U (t.val / 64) (t.val % 64) 0 [] _ _ (newX m c U W Bc DT Db Al D Z N H t) 3072 (512 * (6 : Fin 8).val) rfl _) l j)
      (fun l j => convB_real U W Bc (t.val / 64) (t.val % 64) (4096 + 128 * (6 : Fin 8).val) _ _ _ _ _ _ _ _ _ (bb m c U W Bc DT Db Al D Z N H t 768 (4096 + 128 * (6 : Fin 8).val) (by decide) rfl _) (wb m c U W Bc DT Db Al D Z N H t 0 768 (4096 + 128 * (6 : Fin 8).val) (by decide) (by decide) rfl _) (wb m c U W Bc DT Db Al D Z N H t 1 768 (4096 + 128 * (6 : Fin 8).val) (by decide) (by decide) rfl _) (wb m c U W Bc DT Db Al D Z N H t 2 768 (4096 + 128 * (6 : Fin 8).val) (by decide) (by decide) rfl _) (wb m c U W Bc DT Db Al D Z N H t 3 768 (4096 + 128 * (6 : Fin 8).val) (by decide) (by decide) rfl _)
      (strip_old (n := 2048) (View.whole cc0_scratch1) U (t.val / 64) (t.val % 64) 4096 _ _ _ hub (newB m c U W Bc DT Db Al D Z N H t) 0 768 (4096 + 128 * (6 : Fin 8).val) (by decide) rfl _) (strip_old (n := 2048) (View.whole cc0_scratch1) U (t.val / 64) (t.val % 64) 4096 _ _ _ hub (newB m c U W Bc DT Db Al D Z N H t) 1 768 (4096 + 128 * (6 : Fin 8).val) (by decide) rfl _) (strip_old (n := 2048) (View.whole cc0_scratch1) U (t.val / 64) (t.val % 64) 4096 _ _ _ hub (newB m c U W Bc DT Db Al D Z N H t) 2 768 (4096 + 128 * (6 : Fin 8).val) (by decide) rfl _) (strip_new (n := 2048) (View.whole cc0_scratch1) U (t.val / 64) (t.val % 64) 4096 [] _ _ (newB m c U W Bc DT Db Al D Z N H t) 768 (4096 + 128 * (6 : Fin 8).val) rfl _) l j)
      (fun l j => convB_real U W Bc (t.val / 64) (t.val % 64) (5120 + 128 * (6 : Fin 8).val) _ _ _ _ _ _ _ _ _ (bb m c U W Bc DT Db Al D Z N H t 1792 (5120 + 128 * (6 : Fin 8).val) (by decide) rfl _) (wb m c U W Bc DT Db Al D Z N H t 0 1792 (5120 + 128 * (6 : Fin 8).val) (by decide) (by decide) rfl _) (wb m c U W Bc DT Db Al D Z N H t 1 1792 (5120 + 128 * (6 : Fin 8).val) (by decide) (by decide) rfl _) (wb m c U W Bc DT Db Al D Z N H t 2 1792 (5120 + 128 * (6 : Fin 8).val) (by decide) (by decide) rfl _) (wb m c U W Bc DT Db Al D Z N H t 3 1792 (5120 + 128 * (6 : Fin 8).val) (by decide) (by decide) rfl _)
      (strip_old (n := 2048) (View.whole cc0_scratch1) U (t.val / 64) (t.val % 64) 4096 _ _ _ hub (newB m c U W Bc DT Db Al D Z N H t) 0 1792 (5120 + 128 * (6 : Fin 8).val) (by decide) rfl _) (strip_old (n := 2048) (View.whole cc0_scratch1) U (t.val / 64) (t.val % 64) 4096 _ _ _ hub (newB m c U W Bc DT Db Al D Z N H t) 1 1792 (5120 + 128 * (6 : Fin 8).val) (by decide) rfl _) (strip_old (n := 2048) (View.whole cc0_scratch1) U (t.val / 64) (t.val % 64) 4096 _ _ _ hub (newB m c U W Bc DT Db Al D Z N H t) 2 1792 (5120 + 128 * (6 : Fin 8).val) (by decide) rfl _) (strip_new (n := 2048) (View.whole cc0_scratch1) U (t.val / 64) (t.val % 64) 4096 [] _ _ (newB m c U W Bc DT Db Al D Z N H t) 1792 (5120 + 128 * (6 : Fin 8).val) rfl _) l j)
      (fun n j => (ld_cols (e := .f32) _ 3072 _ n j (by omega)).trans (hst _))
      (dx m c U W Bc DT Db Al D Z N H t 3072 (by decide) _) (zx m c U W Bc DT Db Al D Z N H t 3072 (by decide) _) (nx m c U W Bc DT Db Al D Z N H t 3072 (by decide) _)) (hx0.trans (Nat.zero_add _).symm) hx1
  · refine Eq.trans (b := normed (gated 5 _ _ _ _ _ (convX _ _ _ _ _ _ _ _ _) (convB _ _ _ _ _ _ _ _ _) (convB _ _ _ _ _ _ _ _ _) _ _ _) _ x) rfl ?_
    refine out_at U W Bc DT Db Al D Z N 5 (t.val / 64) (t.val % 64) _ y x (out_next 5 (iblk m c 3 t) (iblk m c 8 t) (iblk m c 9 t) (iblk m c 12 t) U W Bc DT Db Al D Z N
      (t.val / 64) (t.val % 64) _ _ _ _ _ _ _ (read3 m c U W Bc DT Db Al D Z N H t) (read8 m c U W Bc DT Db Al D Z N H t) (read9 m c U W Bc DT Db Al D Z N H t) (read12 m c t)
      (fun l j => convX_real U W Bc (t.val / 64) (t.val % 64) (512 * (5 : Fin 8).val) _ _ _ _ _ _ _ _ _ (bx m c U W Bc DT Db Al D Z N H t 2560 (by decide) _) (wx m c U W Bc DT Db Al D Z N H t 0 2560 (by decide) (by decide) _) (wx m c U W Bc DT Db Al D Z N H t 1 2560 (by decide) (by decide) _) (wx m c U W Bc DT Db Al D Z N H t 2 2560 (by decide) (by decide) _) (wx m c U W Bc DT Db Al D Z N H t 3 2560 (by decide) (by decide) _)
      (strip_old (n := 4096) (View.whole cc0_scratch0) U (t.val / 64) (t.val % 64) 0 _ _ _ hux (newX m c U W Bc DT Db Al D Z N H t) 0 2560 (512 * (5 : Fin 8).val) (by decide) rfl _) (strip_old (n := 4096) (View.whole cc0_scratch0) U (t.val / 64) (t.val % 64) 0 _ _ _ hux (newX m c U W Bc DT Db Al D Z N H t) 1 2560 (512 * (5 : Fin 8).val) (by decide) rfl _) (strip_old (n := 4096) (View.whole cc0_scratch0) U (t.val / 64) (t.val % 64) 0 _ _ _ hux (newX m c U W Bc DT Db Al D Z N H t) 2 2560 (512 * (5 : Fin 8).val) (by decide) rfl _) (strip_new (n := 4096) (View.whole cc0_scratch0) U (t.val / 64) (t.val % 64) 0 [] _ _ (newX m c U W Bc DT Db Al D Z N H t) 2560 (512 * (5 : Fin 8).val) rfl _) l j)
      (fun l j => convB_real U W Bc (t.val / 64) (t.val % 64) (4096 + 128 * (5 : Fin 8).val) _ _ _ _ _ _ _ _ _ (bb m c U W Bc DT Db Al D Z N H t 640 (4096 + 128 * (5 : Fin 8).val) (by decide) rfl _) (wb m c U W Bc DT Db Al D Z N H t 0 640 (4096 + 128 * (5 : Fin 8).val) (by decide) (by decide) rfl _) (wb m c U W Bc DT Db Al D Z N H t 1 640 (4096 + 128 * (5 : Fin 8).val) (by decide) (by decide) rfl _) (wb m c U W Bc DT Db Al D Z N H t 2 640 (4096 + 128 * (5 : Fin 8).val) (by decide) (by decide) rfl _) (wb m c U W Bc DT Db Al D Z N H t 3 640 (4096 + 128 * (5 : Fin 8).val) (by decide) (by decide) rfl _)
      (strip_old (n := 2048) (View.whole cc0_scratch1) U (t.val / 64) (t.val % 64) 4096 _ _ _ hub (newB m c U W Bc DT Db Al D Z N H t) 0 640 (4096 + 128 * (5 : Fin 8).val) (by decide) rfl _) (strip_old (n := 2048) (View.whole cc0_scratch1) U (t.val / 64) (t.val % 64) 4096 _ _ _ hub (newB m c U W Bc DT Db Al D Z N H t) 1 640 (4096 + 128 * (5 : Fin 8).val) (by decide) rfl _) (strip_old (n := 2048) (View.whole cc0_scratch1) U (t.val / 64) (t.val % 64) 4096 _ _ _ hub (newB m c U W Bc DT Db Al D Z N H t) 2 640 (4096 + 128 * (5 : Fin 8).val) (by decide) rfl _) (strip_new (n := 2048) (View.whole cc0_scratch1) U (t.val / 64) (t.val % 64) 4096 [] _ _ (newB m c U W Bc DT Db Al D Z N H t) 640 (4096 + 128 * (5 : Fin 8).val) rfl _) l j)
      (fun l j => convB_real U W Bc (t.val / 64) (t.val % 64) (5120 + 128 * (5 : Fin 8).val) _ _ _ _ _ _ _ _ _ (bb m c U W Bc DT Db Al D Z N H t 1664 (5120 + 128 * (5 : Fin 8).val) (by decide) rfl _) (wb m c U W Bc DT Db Al D Z N H t 0 1664 (5120 + 128 * (5 : Fin 8).val) (by decide) (by decide) rfl _) (wb m c U W Bc DT Db Al D Z N H t 1 1664 (5120 + 128 * (5 : Fin 8).val) (by decide) (by decide) rfl _) (wb m c U W Bc DT Db Al D Z N H t 2 1664 (5120 + 128 * (5 : Fin 8).val) (by decide) (by decide) rfl _) (wb m c U W Bc DT Db Al D Z N H t 3 1664 (5120 + 128 * (5 : Fin 8).val) (by decide) (by decide) rfl _)
      (strip_old (n := 2048) (View.whole cc0_scratch1) U (t.val / 64) (t.val % 64) 4096 _ _ _ hub (newB m c U W Bc DT Db Al D Z N H t) 0 1664 (5120 + 128 * (5 : Fin 8).val) (by decide) rfl _) (strip_old (n := 2048) (View.whole cc0_scratch1) U (t.val / 64) (t.val % 64) 4096 _ _ _ hub (newB m c U W Bc DT Db Al D Z N H t) 1 1664 (5120 + 128 * (5 : Fin 8).val) (by decide) rfl _) (strip_old (n := 2048) (View.whole cc0_scratch1) U (t.val / 64) (t.val % 64) 4096 _ _ _ hub (newB m c U W Bc DT Db Al D Z N H t) 2 1664 (5120 + 128 * (5 : Fin 8).val) (by decide) rfl _) (strip_new (n := 2048) (View.whole cc0_scratch1) U (t.val / 64) (t.val % 64) 4096 [] _ _ (newB m c U W Bc DT Db Al D Z N H t) 1664 (5120 + 128 * (5 : Fin 8).val) rfl _) l j)
      (fun n j => (ld_cols (e := .f32) _ 2560 _ n j (by omega)).trans (hst _))
      (dx m c U W Bc DT Db Al D Z N H t 2560 (by decide) _) (zx m c U W Bc DT Db Al D Z N H t 2560 (by decide) _) (nx m c U W Bc DT Db Al D Z N H t 2560 (by decide) _)) (hx0.trans (Nat.zero_add _).symm) hx1
  · refine Eq.trans (b := normed (gated 4 _ _ _ _ _ (convX _ _ _ _ _ _ _ _ _) (convB _ _ _ _ _ _ _ _ _) (convB _ _ _ _ _ _ _ _ _) _ _ _) _ x) rfl ?_
    refine out_at U W Bc DT Db Al D Z N 4 (t.val / 64) (t.val % 64) _ y x (out_next 4 (iblk m c 3 t) (iblk m c 8 t) (iblk m c 9 t) (iblk m c 12 t) U W Bc DT Db Al D Z N
      (t.val / 64) (t.val % 64) _ _ _ _ _ _ _ (read3 m c U W Bc DT Db Al D Z N H t) (read8 m c U W Bc DT Db Al D Z N H t) (read9 m c U W Bc DT Db Al D Z N H t) (read12 m c t)
      (fun l j => convX_real U W Bc (t.val / 64) (t.val % 64) (512 * (4 : Fin 8).val) _ _ _ _ _ _ _ _ _ (bx m c U W Bc DT Db Al D Z N H t 2048 (by decide) _) (wx m c U W Bc DT Db Al D Z N H t 0 2048 (by decide) (by decide) _) (wx m c U W Bc DT Db Al D Z N H t 1 2048 (by decide) (by decide) _) (wx m c U W Bc DT Db Al D Z N H t 2 2048 (by decide) (by decide) _) (wx m c U W Bc DT Db Al D Z N H t 3 2048 (by decide) (by decide) _)
      (strip_old (n := 4096) (View.whole cc0_scratch0) U (t.val / 64) (t.val % 64) 0 _ _ _ hux (newX m c U W Bc DT Db Al D Z N H t) 0 2048 (512 * (4 : Fin 8).val) (by decide) rfl _) (strip_old (n := 4096) (View.whole cc0_scratch0) U (t.val / 64) (t.val % 64) 0 _ _ _ hux (newX m c U W Bc DT Db Al D Z N H t) 1 2048 (512 * (4 : Fin 8).val) (by decide) rfl _) (strip_old (n := 4096) (View.whole cc0_scratch0) U (t.val / 64) (t.val % 64) 0 _ _ _ hux (newX m c U W Bc DT Db Al D Z N H t) 2 2048 (512 * (4 : Fin 8).val) (by decide) rfl _) (strip_new (n := 4096) (View.whole cc0_scratch0) U (t.val / 64) (t.val % 64) 0 [] _ _ (newX m c U W Bc DT Db Al D Z N H t) 2048 (512 * (4 : Fin 8).val) rfl _) l j)
      (fun l j => convB_real U W Bc (t.val / 64) (t.val % 64) (4096 + 128 * (4 : Fin 8).val) _ _ _ _ _ _ _ _ _ (bb m c U W Bc DT Db Al D Z N H t 512 (4096 + 128 * (4 : Fin 8).val) (by decide) rfl _) (wb m c U W Bc DT Db Al D Z N H t 0 512 (4096 + 128 * (4 : Fin 8).val) (by decide) (by decide) rfl _) (wb m c U W Bc DT Db Al D Z N H t 1 512 (4096 + 128 * (4 : Fin 8).val) (by decide) (by decide) rfl _) (wb m c U W Bc DT Db Al D Z N H t 2 512 (4096 + 128 * (4 : Fin 8).val) (by decide) (by decide) rfl _) (wb m c U W Bc DT Db Al D Z N H t 3 512 (4096 + 128 * (4 : Fin 8).val) (by decide) (by decide) rfl _)
      (strip_old (n := 2048) (View.whole cc0_scratch1) U (t.val / 64) (t.val % 64) 4096 _ _ _ hub (newB m c U W Bc DT Db Al D Z N H t) 0 512 (4096 + 128 * (4 : Fin 8).val) (by decide) rfl _) (strip_old (n := 2048) (View.whole cc0_scratch1) U (t.val / 64) (t.val % 64) 4096 _ _ _ hub (newB m c U W Bc DT Db Al D Z N H t) 1 512 (4096 + 128 * (4 : Fin 8).val) (by decide) rfl _) (strip_old (n := 2048) (View.whole cc0_scratch1) U (t.val / 64) (t.val % 64) 4096 _ _ _ hub (newB m c U W Bc DT Db Al D Z N H t) 2 512 (4096 + 128 * (4 : Fin 8).val) (by decide) rfl _) (strip_new (n := 2048) (View.whole cc0_scratch1) U (t.val / 64) (t.val % 64) 4096 [] _ _ (newB m c U W Bc DT Db Al D Z N H t) 512 (4096 + 128 * (4 : Fin 8).val) rfl _) l j)
      (fun l j => convB_real U W Bc (t.val / 64) (t.val % 64) (5120 + 128 * (4 : Fin 8).val) _ _ _ _ _ _ _ _ _ (bb m c U W Bc DT Db Al D Z N H t 1536 (5120 + 128 * (4 : Fin 8).val) (by decide) rfl _) (wb m c U W Bc DT Db Al D Z N H t 0 1536 (5120 + 128 * (4 : Fin 8).val) (by decide) (by decide) rfl _) (wb m c U W Bc DT Db Al D Z N H t 1 1536 (5120 + 128 * (4 : Fin 8).val) (by decide) (by decide) rfl _) (wb m c U W Bc DT Db Al D Z N H t 2 1536 (5120 + 128 * (4 : Fin 8).val) (by decide) (by decide) rfl _) (wb m c U W Bc DT Db Al D Z N H t 3 1536 (5120 + 128 * (4 : Fin 8).val) (by decide) (by decide) rfl _)
      (strip_old (n := 2048) (View.whole cc0_scratch1) U (t.val / 64) (t.val % 64) 4096 _ _ _ hub (newB m c U W Bc DT Db Al D Z N H t) 0 1536 (5120 + 128 * (4 : Fin 8).val) (by decide) rfl _) (strip_old (n := 2048) (View.whole cc0_scratch1) U (t.val / 64) (t.val % 64) 4096 _ _ _ hub (newB m c U W Bc DT Db Al D Z N H t) 1 1536 (5120 + 128 * (4 : Fin 8).val) (by decide) rfl _) (strip_old (n := 2048) (View.whole cc0_scratch1) U (t.val / 64) (t.val % 64) 4096 _ _ _ hub (newB m c U W Bc DT Db Al D Z N H t) 2 1536 (5120 + 128 * (4 : Fin 8).val) (by decide) rfl _) (strip_new (n := 2048) (View.whole cc0_scratch1) U (t.val / 64) (t.val % 64) 4096 [] _ _ (newB m c U W Bc DT Db Al D Z N H t) 1536 (5120 + 128 * (4 : Fin 8).val) rfl _) l j)
      (fun n j => (ld_cols (e := .f32) _ 2048 _ n j (by omega)).trans (hst _))
      (dx m c U W Bc DT Db Al D Z N H t 2048 (by decide) _) (zx m c U W Bc DT Db Al D Z N H t 2048 (by decide) _) (nx m c U W Bc DT Db Al D Z N H t 2048 (by decide) _)) (hx0.trans (Nat.zero_add _).symm) hx1
  · refine Eq.trans (b := normed (gated 3 _ _ _ _ _ (convX _ _ _ _ _ _ _ _ _) (convB _ _ _ _ _ _ _ _ _) (convB _ _ _ _ _ _ _ _ _) _ _ _) _ x) rfl ?_
    refine out_at U W Bc DT Db Al D Z N 3 (t.val / 64) (t.val % 64) _ y x (out_next 3 (iblk m c 3 t) (iblk m c 8 t) (iblk m c 9 t) (iblk m c 12 t) U W Bc DT Db Al D Z N
      (t.val / 64) (t.val % 64) _ _ _ _ _ _ _ (read3 m c U W Bc DT Db Al D Z N H t) (read8 m c U W Bc DT Db Al D Z N H t) (read9 m c U W Bc DT Db Al D Z N H t) (read12 m c t)
      (fun l j => convX_real U W Bc (t.val / 64) (t.val % 64) (512 * (3 : Fin 8).val) _ _ _ _ _ _ _ _ _ (bx m c U W Bc DT Db Al D Z N H t 1536 (by decide) _) (wx m c U W Bc DT Db Al D Z N H t 0 1536 (by decide) (by decide) _) (wx m c U W Bc DT Db Al D Z N H t 1 1536 (by decide) (by decide) _) (wx m c U W Bc DT Db Al D Z N H t 2 1536 (by decide) (by decide) _) (wx m c U W Bc DT Db Al D Z N H t 3 1536 (by decide) (by decide) _)
      (strip_old (n := 4096) (View.whole cc0_scratch0) U (t.val / 64) (t.val % 64) 0 _ _ _ hux (newX m c U W Bc DT Db Al D Z N H t) 0 1536 (512 * (3 : Fin 8).val) (by decide) rfl _) (strip_old (n := 4096) (View.whole cc0_scratch0) U (t.val / 64) (t.val % 64) 0 _ _ _ hux (newX m c U W Bc DT Db Al D Z N H t) 1 1536 (512 * (3 : Fin 8).val) (by decide) rfl _) (strip_old (n := 4096) (View.whole cc0_scratch0) U (t.val / 64) (t.val % 64) 0 _ _ _ hux (newX m c U W Bc DT Db Al D Z N H t) 2 1536 (512 * (3 : Fin 8).val) (by decide) rfl _) (strip_new (n := 4096) (View.whole cc0_scratch0) U (t.val / 64) (t.val % 64) 0 [] _ _ (newX m c U W Bc DT Db Al D Z N H t) 1536 (512 * (3 : Fin 8).val) rfl _) l j)
      (fun l j => convB_real U W Bc (t.val / 64) (t.val % 64) (4096 + 128 * (3 : Fin 8).val) _ _ _ _ _ _ _ _ _ (bb m c U W Bc DT Db Al D Z N H t 384 (4096 + 128 * (3 : Fin 8).val) (by decide) rfl _) (wb m c U W Bc DT Db Al D Z N H t 0 384 (4096 + 128 * (3 : Fin 8).val) (by decide) (by decide) rfl _) (wb m c U W Bc DT Db Al D Z N H t 1 384 (4096 + 128 * (3 : Fin 8).val) (by decide) (by decide) rfl _) (wb m c U W Bc DT Db Al D Z N H t 2 384 (4096 + 128 * (3 : Fin 8).val) (by decide) (by decide) rfl _) (wb m c U W Bc DT Db Al D Z N H t 3 384 (4096 + 128 * (3 : Fin 8).val) (by decide) (by decide) rfl _)
      (strip_old (n := 2048) (View.whole cc0_scratch1) U (t.val / 64) (t.val % 64) 4096 _ _ _ hub (newB m c U W Bc DT Db Al D Z N H t) 0 384 (4096 + 128 * (3 : Fin 8).val) (by decide) rfl _) (strip_old (n := 2048) (View.whole cc0_scratch1) U (t.val / 64) (t.val % 64) 4096 _ _ _ hub (newB m c U W Bc DT Db Al D Z N H t) 1 384 (4096 + 128 * (3 : Fin 8).val) (by decide) rfl _) (strip_old (n := 2048) (View.whole cc0_scratch1) U (t.val / 64) (t.val % 64) 4096 _ _ _ hub (newB m c U W Bc DT Db Al D Z N H t) 2 384 (4096 + 128 * (3 : Fin 8).val) (by decide) rfl _) (strip_new (n := 2048) (View.whole cc0_scratch1) U (t.val / 64) (t.val % 64) 4096 [] _ _ (newB m c U W Bc DT Db Al D Z N H t) 384 (4096 + 128 * (3 : Fin 8).val) rfl _) l j)
      (fun l j => convB_real U W Bc (t.val / 64) (t.val % 64) (5120 + 128 * (3 : Fin 8).val) _ _ _ _ _ _ _ _ _ (bb m c U W Bc DT Db Al D Z N H t 1408 (5120 + 128 * (3 : Fin 8).val) (by decide) rfl _) (wb m c U W Bc DT Db Al D Z N H t 0 1408 (5120 + 128 * (3 : Fin 8).val) (by decide) (by decide) rfl _) (wb m c U W Bc DT Db Al D Z N H t 1 1408 (5120 + 128 * (3 : Fin 8).val) (by decide) (by decide) rfl _) (wb m c U W Bc DT Db Al D Z N H t 2 1408 (5120 + 128 * (3 : Fin 8).val) (by decide) (by decide) rfl _) (wb m c U W Bc DT Db Al D Z N H t 3 1408 (5120 + 128 * (3 : Fin 8).val) (by decide) (by decide) rfl _)
      (strip_old (n := 2048) (View.whole cc0_scratch1) U (t.val / 64) (t.val % 64) 4096 _ _ _ hub (newB m c U W Bc DT Db Al D Z N H t) 0 1408 (5120 + 128 * (3 : Fin 8).val) (by decide) rfl _) (strip_old (n := 2048) (View.whole cc0_scratch1) U (t.val / 64) (t.val % 64) 4096 _ _ _ hub (newB m c U W Bc DT Db Al D Z N H t) 1 1408 (5120 + 128 * (3 : Fin 8).val) (by decide) rfl _) (strip_old (n := 2048) (View.whole cc0_scratch1) U (t.val / 64) (t.val % 64) 4096 _ _ _ hub (newB m c U W Bc DT Db Al D Z N H t) 2 1408 (5120 + 128 * (3 : Fin 8).val) (by decide) rfl _) (strip_new (n := 2048) (View.whole cc0_scratch1) U (t.val / 64) (t.val % 64) 4096 [] _ _ (newB m c U W Bc DT Db Al D Z N H t) 1408 (5120 + 128 * (3 : Fin 8).val) rfl _) l j)
      (fun n j => (ld_cols (e := .f32) _ 1536 _ n j (by omega)).trans (hst _))
      (dx m c U W Bc DT Db Al D Z N H t 1536 (by decide) _) (zx m c U W Bc DT Db Al D Z N H t 1536 (by decide) _) (nx m c U W Bc DT Db Al D Z N H t 1536 (by decide) _)) (hx0.trans (Nat.zero_add _).symm) hx1
  · refine Eq.trans (b := normed (gated 2 _ _ _ _ _ (convX _ _ _ _ _ _ _ _ _) (convB _ _ _ _ _ _ _ _ _) (convB _ _ _ _ _ _ _ _ _) _ _ _) _ x) rfl ?_
    refine out_at U W Bc DT Db Al D Z N 2 (t.val / 64) (t.val % 64) _ y x (out_next 2 (iblk m c 3 t) (iblk m c 8 t) (iblk m c 9 t) (iblk m c 12 t) U W Bc DT Db Al D Z N
      (t.val / 64) (t.val % 64) _ _ _ _ _ _ _ (read3 m c U W Bc DT Db Al D Z N H t) (read8 m c U W Bc DT Db Al D Z N H t) (read9 m c U W Bc DT Db Al D Z N H t) (read12 m c t)
      (fun l j => convX_real U W Bc (t.val / 64) (t.val % 64) (512 * (2 : Fin 8).val) _ _ _ _ _ _ _ _ _ (bx m c U W Bc DT Db Al D Z N H t 1024 (by decide) _) (wx m c U W Bc DT Db Al D Z N H t 0 1024 (by decide) (by decide) _) (wx m c U W Bc DT Db Al D Z N H t 1 1024 (by decide) (by decide) _) (wx m c U W Bc DT Db Al D Z N H t 2 1024 (by decide) (by decide) _) (wx m c U W Bc DT Db Al D Z N H t 3 1024 (by decide) (by decide) _)
      (strip_old (n := 4096) (View.whole cc0_scratch0) U (t.val / 64) (t.val % 64) 0 _ _ _ hux (newX m c U W Bc DT Db Al D Z N H t) 0 1024 (512 * (2 : Fin 8).val) (by decide) rfl _) (strip_old (n := 4096) (View.whole cc0_scratch0) U (t.val / 64) (t.val % 64) 0 _ _ _ hux (newX m c U W Bc DT Db Al D Z N H t) 1 1024 (512 * (2 : Fin 8).val) (by decide) rfl _) (strip_old (n := 4096) (View.whole cc0_scratch0) U (t.val / 64) (t.val % 64) 0 _ _ _ hux (newX m c U W Bc DT Db Al D Z N H t) 2 1024 (512 * (2 : Fin 8).val) (by decide) rfl _) (strip_new (n := 4096) (View.whole cc0_scratch0) U (t.val / 64) (t.val % 64) 0 [] _ _ (newX m c U W Bc DT Db Al D Z N H t) 1024 (512 * (2 : Fin 8).val) rfl _) l j)
      (fun l j => convB_real U W Bc (t.val / 64) (t.val % 64) (4096 + 128 * (2 : Fin 8).val) _ _ _ _ _ _ _ _ _ (bb m c U W Bc DT Db Al D Z N H t 256 (4096 + 128 * (2 : Fin 8).val) (by decide) rfl _) (wb m c U W Bc DT Db Al D Z N H t 0 256 (4096 + 128 * (2 : Fin 8).val) (by decide) (by decide) rfl _) (wb m c U W Bc DT Db Al D Z N H t 1 256 (4096 + 128 * (2 : Fin 8).val) (by decide) (by decide) rfl _) (wb m c U W Bc DT Db Al D Z N H t 2 256 (4096 + 128 * (2 : Fin 8).val) (by decide) (by decide) rfl _) (wb m c U W Bc DT Db Al D Z N H t 3 256 (4096 + 128 * (2 : Fin 8).val) (by decide) (by decide) rfl _)
      (strip_old (n := 2048) (View.whole cc0_scratch1) U (t.val / 64) (t.val % 64) 4096 _ _ _ hub (newB m c U W Bc DT Db Al D Z N H t) 0 256 (4096 + 128 * (2 : Fin 8).val) (by decide) rfl _) (strip_old (n := 2048) (View.whole cc0_scratch1) U (t.val / 64) (t.val % 64) 4096 _ _ _ hub (newB m c U W Bc DT Db Al D Z N H t) 1 256 (4096 + 128 * (2 : Fin 8).val) (by decide) rfl _) (strip_old (n := 2048) (View.whole cc0_scratch1) U (t.val / 64) (t.val % 64) 4096 _ _ _ hub (newB m c U W Bc DT Db Al D Z N H t) 2 256 (4096 + 128 * (2 : Fin 8).val) (by decide) rfl _) (strip_new (n := 2048) (View.whole cc0_scratch1) U (t.val / 64) (t.val % 64) 4096 [] _ _ (newB m c U W Bc DT Db Al D Z N H t) 256 (4096 + 128 * (2 : Fin 8).val) rfl _) l j)
      (fun l j => convB_real U W Bc (t.val / 64) (t.val % 64) (5120 + 128 * (2 : Fin 8).val) _ _ _ _ _ _ _ _ _ (bb m c U W Bc DT Db Al D Z N H t 1280 (5120 + 128 * (2 : Fin 8).val) (by decide) rfl _) (wb m c U W Bc DT Db Al D Z N H t 0 1280 (5120 + 128 * (2 : Fin 8).val) (by decide) (by decide) rfl _) (wb m c U W Bc DT Db Al D Z N H t 1 1280 (5120 + 128 * (2 : Fin 8).val) (by decide) (by decide) rfl _) (wb m c U W Bc DT Db Al D Z N H t 2 1280 (5120 + 128 * (2 : Fin 8).val) (by decide) (by decide) rfl _) (wb m c U W Bc DT Db Al D Z N H t 3 1280 (5120 + 128 * (2 : Fin 8).val) (by decide) (by decide) rfl _)
      (strip_old (n := 2048) (View.whole cc0_scratch1) U (t.val / 64) (t.val % 64) 4096 _ _ _ hub (newB m c U W Bc DT Db Al D Z N H t) 0 1280 (5120 + 128 * (2 : Fin 8).val) (by decide) rfl _) (strip_old (n := 2048) (View.whole cc0_scratch1) U (t.val / 64) (t.val % 64) 4096 _ _ _ hub (newB m c U W Bc DT Db Al D Z N H t) 1 1280 (5120 + 128 * (2 : Fin 8).val) (by decide) rfl _) (strip_old (n := 2048) (View.whole cc0_scratch1) U (t.val / 64) (t.val % 64) 4096 _ _ _ hub (newB m c U W Bc DT Db Al D Z N H t) 2 1280 (5120 + 128 * (2 : Fin 8).val) (by decide) rfl _) (strip_new (n := 2048) (View.whole cc0_scratch1) U (t.val / 64) (t.val % 64) 4096 [] _ _ (newB m c U W Bc DT Db Al D Z N H t) 1280 (5120 + 128 * (2 : Fin 8).val) rfl _) l j)
      (fun n j => (ld_cols (e := .f32) _ 1024 _ n j (by omega)).trans (hst _))
      (dx m c U W Bc DT Db Al D Z N H t 1024 (by decide) _) (zx m c U W Bc DT Db Al D Z N H t 1024 (by decide) _) (nx m c U W Bc DT Db Al D Z N H t 1024 (by decide) _)) (hx0.trans (Nat.zero_add _).symm) hx1
  · refine Eq.trans (b := normed (gated 1 _ _ _ _ _ (convX _ _ _ _ _ _ _ _ _) (convB _ _ _ _ _ _ _ _ _) (convB _ _ _ _ _ _ _ _ _) _ _ _) _ x) rfl ?_
    refine out_at U W Bc DT Db Al D Z N 1 (t.val / 64) (t.val % 64) _ y x (out_next 1 (iblk m c 3 t) (iblk m c 8 t) (iblk m c 9 t) (iblk m c 12 t) U W Bc DT Db Al D Z N
      (t.val / 64) (t.val % 64) _ _ _ _ _ _ _ (read3 m c U W Bc DT Db Al D Z N H t) (read8 m c U W Bc DT Db Al D Z N H t) (read9 m c U W Bc DT Db Al D Z N H t) (read12 m c t)
      (fun l j => convX_real U W Bc (t.val / 64) (t.val % 64) (512 * (1 : Fin 8).val) _ _ _ _ _ _ _ _ _ (bx m c U W Bc DT Db Al D Z N H t 512 (by decide) _) (wx m c U W Bc DT Db Al D Z N H t 0 512 (by decide) (by decide) _) (wx m c U W Bc DT Db Al D Z N H t 1 512 (by decide) (by decide) _) (wx m c U W Bc DT Db Al D Z N H t 2 512 (by decide) (by decide) _) (wx m c U W Bc DT Db Al D Z N H t 3 512 (by decide) (by decide) _)
      (strip_old (n := 4096) (View.whole cc0_scratch0) U (t.val / 64) (t.val % 64) 0 _ _ _ hux (newX m c U W Bc DT Db Al D Z N H t) 0 512 (512 * (1 : Fin 8).val) (by decide) rfl _) (strip_old (n := 4096) (View.whole cc0_scratch0) U (t.val / 64) (t.val % 64) 0 _ _ _ hux (newX m c U W Bc DT Db Al D Z N H t) 1 512 (512 * (1 : Fin 8).val) (by decide) rfl _) (strip_old (n := 4096) (View.whole cc0_scratch0) U (t.val / 64) (t.val % 64) 0 _ _ _ hux (newX m c U W Bc DT Db Al D Z N H t) 2 512 (512 * (1 : Fin 8).val) (by decide) rfl _) (strip_new (n := 4096) (View.whole cc0_scratch0) U (t.val / 64) (t.val % 64) 0 [] _ _ (newX m c U W Bc DT Db Al D Z N H t) 512 (512 * (1 : Fin 8).val) rfl _) l j)
      (fun l j => convB_real U W Bc (t.val / 64) (t.val % 64) (4096 + 128 * (1 : Fin 8).val) _ _ _ _ _ _ _ _ _ (bb m c U W Bc DT Db Al D Z N H t 128 (4096 + 128 * (1 : Fin 8).val) (by decide) rfl _) (wb m c U W Bc DT Db Al D Z N H t 0 128 (4096 + 128 * (1 : Fin 8).val) (by decide) (by decide) rfl _) (wb m c U W Bc DT Db Al D Z N H t 1 128 (4096 + 128 * (1 : Fin 8).val) (by decide) (by decide) rfl _) (wb m c U W Bc DT Db Al D Z N H t 2 128 (4096 + 128 * (1 : Fin 8).val) (by decide) (by decide) rfl _) (wb m c U W Bc DT Db Al D Z N H t 3 128 (4096 + 128 * (1 : Fin 8).val) (by decide) (by decide) rfl _)
      (strip_old (n := 2048) (View.whole cc0_scratch1) U (t.val / 64) (t.val % 64) 4096 _ _ _ hub (newB m c U W Bc DT Db Al D Z N H t) 0 128 (4096 + 128 * (1 : Fin 8).val) (by decide) rfl _) (strip_old (n := 2048) (View.whole cc0_scratch1) U (t.val / 64) (t.val % 64) 4096 _ _ _ hub (newB m c U W Bc DT Db Al D Z N H t) 1 128 (4096 + 128 * (1 : Fin 8).val) (by decide) rfl _) (strip_old (n := 2048) (View.whole cc0_scratch1) U (t.val / 64) (t.val % 64) 4096 _ _ _ hub (newB m c U W Bc DT Db Al D Z N H t) 2 128 (4096 + 128 * (1 : Fin 8).val) (by decide) rfl _) (strip_new (n := 2048) (View.whole cc0_scratch1) U (t.val / 64) (t.val % 64) 4096 [] _ _ (newB m c U W Bc DT Db Al D Z N H t) 128 (4096 + 128 * (1 : Fin 8).val) rfl _) l j)
      (fun l j => convB_real U W Bc (t.val / 64) (t.val % 64) (5120 + 128 * (1 : Fin 8).val) _ _ _ _ _ _ _ _ _ (bb m c U W Bc DT Db Al D Z N H t 1152 (5120 + 128 * (1 : Fin 8).val) (by decide) rfl _) (wb m c U W Bc DT Db Al D Z N H t 0 1152 (5120 + 128 * (1 : Fin 8).val) (by decide) (by decide) rfl _) (wb m c U W Bc DT Db Al D Z N H t 1 1152 (5120 + 128 * (1 : Fin 8).val) (by decide) (by decide) rfl _) (wb m c U W Bc DT Db Al D Z N H t 2 1152 (5120 + 128 * (1 : Fin 8).val) (by decide) (by decide) rfl _) (wb m c U W Bc DT Db Al D Z N H t 3 1152 (5120 + 128 * (1 : Fin 8).val) (by decide) (by decide) rfl _)
      (strip_old (n := 2048) (View.whole cc0_scratch1) U (t.val / 64) (t.val % 64) 4096 _ _ _ hub (newB m c U W Bc DT Db Al D Z N H t) 0 1152 (5120 + 128 * (1 : Fin 8).val) (by decide) rfl _) (strip_old (n := 2048) (View.whole cc0_scratch1) U (t.val / 64) (t.val % 64) 4096 _ _ _ hub (newB m c U W Bc DT Db Al D Z N H t) 1 1152 (5120 + 128 * (1 : Fin 8).val) (by decide) rfl _) (strip_old (n := 2048) (View.whole cc0_scratch1) U (t.val / 64) (t.val % 64) 4096 _ _ _ hub (newB m c U W Bc DT Db Al D Z N H t) 2 1152 (5120 + 128 * (1 : Fin 8).val) (by decide) rfl _) (strip_new (n := 2048) (View.whole cc0_scratch1) U (t.val / 64) (t.val % 64) 4096 [] _ _ (newB m c U W Bc DT Db Al D Z N H t) 1152 (5120 + 128 * (1 : Fin 8).val) rfl _) l j)
      (fun n j => (ld_cols (e := .f32) _ 512 _ n j (by omega)).trans (hst _))
      (dx m c U W Bc DT Db Al D Z N H t 512 (by decide) _) (zx m c U W Bc DT Db Al D Z N H t 512 (by decide) _) (nx m c U W Bc DT Db Al D Z N H t 512 (by decide) _)) (hx0.trans (Nat.zero_add _).symm) hx1
  · refine Eq.trans (b := normed (gated 0 _ _ _ _ _ (convX _ _ _ _ _ _ _ _ _) (convB _ _ _ _ _ _ _ _ _) (convB _ _ _ _ _ _ _ _ _) _ _ _) _ x) rfl ?_
    refine out_at U W Bc DT Db Al D Z N 0 (t.val / 64) (t.val % 64) _ y x (out_next 0 (iblk m c 3 t) (iblk m c 8 t) (iblk m c 9 t) (iblk m c 12 t) U W Bc DT Db Al D Z N
      (t.val / 64) (t.val % 64) _ _ _ _ _ _ _ (read3 m c U W Bc DT Db Al D Z N H t) (read8 m c U W Bc DT Db Al D Z N H t) (read9 m c U W Bc DT Db Al D Z N H t) (read12 m c t)
      (fun l j => convX_real U W Bc (t.val / 64) (t.val % 64) (512 * (0 : Fin 8).val) _ _ _ _ _ _ _ _ _ (bx m c U W Bc DT Db Al D Z N H t 0 (by decide) _) (wx m c U W Bc DT Db Al D Z N H t 0 0 (by decide) (by decide) _) (wx m c U W Bc DT Db Al D Z N H t 1 0 (by decide) (by decide) _) (wx m c U W Bc DT Db Al D Z N H t 2 0 (by decide) (by decide) _) (wx m c U W Bc DT Db Al D Z N H t 3 0 (by decide) (by decide) _)
      (strip_old (n := 4096) (View.whole cc0_scratch0) U (t.val / 64) (t.val % 64) 0 _ _ _ hux (newX m c U W Bc DT Db Al D Z N H t) 0 0 (512 * (0 : Fin 8).val) (by decide) rfl _) (strip_old (n := 4096) (View.whole cc0_scratch0) U (t.val / 64) (t.val % 64) 0 _ _ _ hux (newX m c U W Bc DT Db Al D Z N H t) 1 0 (512 * (0 : Fin 8).val) (by decide) rfl _) (strip_old (n := 4096) (View.whole cc0_scratch0) U (t.val / 64) (t.val % 64) 0 _ _ _ hux (newX m c U W Bc DT Db Al D Z N H t) 2 0 (512 * (0 : Fin 8).val) (by decide) rfl _) (strip_new (n := 4096) (View.whole cc0_scratch0) U (t.val / 64) (t.val % 64) 0 [] _ _ (newX m c U W Bc DT Db Al D Z N H t) 0 (512 * (0 : Fin 8).val) rfl _) l j)
      (fun l j => convB_real U W Bc (t.val / 64) (t.val % 64) (4096 + 128 * (0 : Fin 8).val) _ _ _ _ _ _ _ _ _ (bb m c U W Bc DT Db Al D Z N H t 0 (4096 + 128 * (0 : Fin 8).val) (by decide) rfl _) (wb m c U W Bc DT Db Al D Z N H t 0 0 (4096 + 128 * (0 : Fin 8).val) (by decide) (by decide) rfl _) (wb m c U W Bc DT Db Al D Z N H t 1 0 (4096 + 128 * (0 : Fin 8).val) (by decide) (by decide) rfl _) (wb m c U W Bc DT Db Al D Z N H t 2 0 (4096 + 128 * (0 : Fin 8).val) (by decide) (by decide) rfl _) (wb m c U W Bc DT Db Al D Z N H t 3 0 (4096 + 128 * (0 : Fin 8).val) (by decide) (by decide) rfl _)
      (strip_old (n := 2048) (View.whole cc0_scratch1) U (t.val / 64) (t.val % 64) 4096 _ _ _ hub (newB m c U W Bc DT Db Al D Z N H t) 0 0 (4096 + 128 * (0 : Fin 8).val) (by decide) rfl _) (strip_old (n := 2048) (View.whole cc0_scratch1) U (t.val / 64) (t.val % 64) 4096 _ _ _ hub (newB m c U W Bc DT Db Al D Z N H t) 1 0 (4096 + 128 * (0 : Fin 8).val) (by decide) rfl _) (strip_old (n := 2048) (View.whole cc0_scratch1) U (t.val / 64) (t.val % 64) 4096 _ _ _ hub (newB m c U W Bc DT Db Al D Z N H t) 2 0 (4096 + 128 * (0 : Fin 8).val) (by decide) rfl _) (strip_new (n := 2048) (View.whole cc0_scratch1) U (t.val / 64) (t.val % 64) 4096 [] _ _ (newB m c U W Bc DT Db Al D Z N H t) 0 (4096 + 128 * (0 : Fin 8).val) rfl _) l j)
      (fun l j => convB_real U W Bc (t.val / 64) (t.val % 64) (5120 + 128 * (0 : Fin 8).val) _ _ _ _ _ _ _ _ _ (bb m c U W Bc DT Db Al D Z N H t 1024 (5120 + 128 * (0 : Fin 8).val) (by decide) rfl _) (wb m c U W Bc DT Db Al D Z N H t 0 1024 (5120 + 128 * (0 : Fin 8).val) (by decide) (by decide) rfl _) (wb m c U W Bc DT Db Al D Z N H t 1 1024 (5120 + 128 * (0 : Fin 8).val) (by decide) (by decide) rfl _) (wb m c U W Bc DT Db Al D Z N H t 2 1024 (5120 + 128 * (0 : Fin 8).val) (by decide) (by decide) rfl _) (wb m c U W Bc DT Db Al D Z N H t 3 1024 (5120 + 128 * (0 : Fin 8).val) (by decide) (by decide) rfl _)
      (strip_old (n := 2048) (View.whole cc0_scratch1) U (t.val / 64) (t.val % 64) 4096 _ _ _ hub (newB m c U W Bc DT Db Al D Z N H t) 0 1024 (5120 + 128 * (0 : Fin 8).val) (by decide) rfl _) (strip_old (n := 2048) (View.whole cc0_scratch1) U (t.val / 64) (t.val % 64) 4096 _ _ _ hub (newB m c U W Bc DT Db Al D Z N H t) 1 1024 (5120 + 128 * (0 : Fin 8).val) (by decide) rfl _) (strip_old (n := 2048) (View.whole cc0_scratch1) U (t.val / 64) (t.val % 64) 4096 _ _ _ hub (newB m c U W Bc DT Db Al D Z N H t) 2 1024 (5120 + 128 * (0 : Fin 8).val) (by decide) rfl _) (strip_new (n := 2048) (View.whole cc0_scratch1) U (t.val / 64) (t.val % 64) 4096 [] _ _ (newB m c U W Bc DT Db Al D Z N H t) 1024 (5120 + 128 * (0 : Fin 8).val) rfl _) l j)
      (fun n j => (ld_cols (e := .f32) _ 0 _ n j (by omega)).trans (hst _))
      (dx m c U W Bc DT Db Al D Z N H t 0 (by decide) _) (zx m c U W Bc DT Db Al D Z N H t 0 (by decide) _) (nx m c U W Bc DT Db Al D Z N H t 0 (by decide) _)) (hx0.trans (Nat.zero_add _).symm) (hx1.trans (Nat.zero_add _).symm)

end Cert.Kernel12Ideal.Scan

end
-- ==== Proof.Scan.StA.lean ====
module

public import proofs.«01_k».proof.Proof.Scan.Parts

@[expose] public section

set_option maxRecDepth 16384
noncomputable section

namespace Cert.Kernel12Ideal.Scan

open Cert.Kernel12Ideal Cert.Kernel12Ideal.Gen Idealize.ShloMosaic Idealize.ShloMosaic.TcCoe Idealize.SL.Sem Cert.Scan

variable (m : (ℓ : Loc nD τ sig) → Buf (Elt Ideal) ℓ) (c : Dev nD) (U W : ℕ → ℕ → ℝ) (Bc : ℕ → Option ℝ) (DT : ℕ → ℕ → Option ℝ) (Db : ℕ → Option ℝ) (Al : ℕ → EReal)
variable (D : ℕ → EReal) (Z : ℕ → ℕ → EReal) (N : ℕ → EReal) (H : Holds m c U W Bc DT Db Al D Z N)

include H

theorem st_A (t : Fin cfg0.N) (h : t.val % 64 = 0) (y : S128x4096.Idx) :
    (outsAt0 m c t.val t.isLt).2.2.2 y = (state U W Bc DT Db Al (t.val / 64) (t.val % 64 + 1) (y 0).val (y 1).val : EReal) := by
  rw [outsAt0_A m c t h]
  frame_out
  refine canon_eight (fun y => (state U W Bc DT Db Al (t.val / 64) (t.val % 64 + 1) (y 0).val (y 1).val : EReal)) _ _ _ _ _ _ _ _ _ _ _ _ _ _ _ _ _
    (fun x => ?_) (fun x => ?_) (fun x => ?_) (fun x => ?_) (fun x => ?_) (fun x => ?_) (fun x => ?_) (fun x => ?_) y
  · refine Eq.trans (b := stateOut 7 _ _ (convX _ _ _ _ _ _ _ _ _) (convB _ _ _ _ _ _ _ _ _) _ x) rfl ?_
    refine st_at U W Bc DT Db Al 7 (t.val / 64) (t.val % 64 + 1) _ _ x (state_next 7 (iblk m c 3 t) (iblk m c 8 t) (iblk m c 9 t) (iblk m c 12 t) U W Bc DT Db Al
      (t.val / 64) (t.val % 64) _ _ _ (read3 m c U W Bc DT Db Al D Z N H t) (read8 m c U W Bc DT Db Al D Z N H t) (read9 m c U W Bc DT Db Al D Z N H t) (read12 m c t)
      (fun l j => convX_real U W Bc (t.val / 64) (t.val % 64) (512 * (7 : Fin 8).val) _ _ _ _ _ _ _ _ _ (bx m c U W Bc DT Db Al D Z N H t 3584 (by decide) _) (wx m c U W Bc DT Db Al D Z N H t 0 3584 (by decide) (by decide) _) (wx m c U W Bc DT Db Al D Z N H t 1 3584 (by decide) (by decide) _) (wx m c U W Bc DT Db Al D Z N H t 2 3584 (by decide) (by decide) _) (wx m c U W Bc DT Db Al D Z N H t 3 3584 (by decide) (by decide) _)
      (strip_first (n := 4096) (View.whole cc0_scratch0) U (t.val / 64) (t.val % 64) 0 _ _ _ _ (newX m c U W Bc DT Db Al D Z N H t) pay4_apply h 0 3584 (512 * (7 : Fin 8).val) (by decide) rfl _) (strip_first (n := 4096) (View.whole cc0_scratch0) U (t.val / 64) (t.val % 64) 0 _ _ _ _ (newX m c U W Bc DT Db Al D Z N H t) pay4_apply h 1 3584 (512 * (7 : Fin 8).val) (by decide) rfl _) (strip_first (n := 4096) (View.whole cc0_scratch0) U (t.val / 64) (t.val % 64) 0 _ _ _ _ (newX m c U W Bc DT Db Al D Z N H t) pay4_apply h 2 3584 (512 * (7 : Fin 8).val) (by decide) rfl _) (strip_first (n := 4096) (View.whole cc0_scratch0) U (t.val / 64) (t.val % 64) 0 _ _ _ _ (newX m c U W Bc DT Db Al D Z N H t) pay4_apply h 3 3584 (512 * (7 : Fin 8).val) (by decide) rfl _) l j)
      (fun l j => convB_real U W Bc (t.val / 64) (t.val % 64) (4096 + 128 * (7 : Fin 8).val) _ _ _ _ _ _ _ _ _ (bb m c U W Bc DT Db Al D Z N H t 896 (4096 + 128 * (7 : Fin 8).val) (by decide) rfl _) (wb m c U W Bc DT Db Al D Z N H t 0 896 (4096 + 128 * (7 : Fin 8).val) (by decide) (by decide) rfl _) (wb m c U W Bc DT Db Al D Z N H t 1 896 (4096 + 128 * (7 : Fin 8).val) (by decide) (by decide) rfl _) (wb m c U W Bc DT Db Al D Z N H t 2 896 (4096 + 128 * (7 : Fin 8).val) (by decide) (by decide) rfl _) (wb m c U W Bc DT Db Al D Z N H t 3 896 (4096 + 128 * (7 : Fin 8).val) (by decide) (by decide) rfl _)
      (strip_first (n := 2048) (View.whole cc0_scratch1) U (t.val / 64) (t.val % 64) 4096 _ _ _ _ (newB m c U W Bc DT Db Al D Z N H t) pay5_apply h 0 896 (4096 + 128 * (7 : Fin 8).val) (by decide) rfl _) (strip_first (n := 2048) (View.whole cc0_scratch1) U (t.val / 64) (t.val % 64) 4096 _ _ _ _ (newB m c U W Bc DT Db Al D Z N H t) pay5_apply h 1 896 (4096 + 128 * (7 : Fin 8).val) (by decide) rfl _) (strip_first (n := 2048) (View.whole cc0_scratch1) U (t.val / 64) (t.val % 64) 4096 _ _ _ _ (newB m c U W Bc DT Db Al D Z N H t) pay5_apply h 2 896 (4096 + 128 * (7 : Fin 8).val) (by decide) rfl _) (strip_first (n := 2048) (View.whole cc0_scratch1) U (t.val / 64) (t.val % 64) 4096 _ _ _ _ (newB m c U W Bc DT Db Al D Z N H t) pay5_apply h 3 896 (4096 + 128 * (7 : Fin 8).val) (by decide) rfl _) l j)
      (fun n j => (congrFun (View.readCov_skip _ _ _ _ _ rfl) _).trans ((congrFun (View.readCov_skip _ _ _ _ _ rfl) _).trans ((congrFun (View.readCov_skip _ _ _ _ _ rfl) _).trans ((congrFun (View.readCov_skip _ _ _ _ _ rfl) _).trans ((congrFun (View.readCov_skip _ _ _ _ _ rfl) _).trans ((congrFun (View.readCov_skip _ _ _ _ _ rfl) _).trans ((congrFun (View.readCov_skip _ _ _ _ _ rfl) _).trans ((congrFun (View.readCov_fill (View.whole cc0_scratch2) _ _ _ _ zeros) _).trans ((ld_cols (e := .f32) _ 3584 _ n j (by omega)).trans ((pay6_apply _ _).trans (zero_state U W Bc DT Db Al h _ _)))))))))))) (congrArg (0 + ·) (Nat.one_mul _)) (congrArg (3584 + ·) (Nat.one_mul _))
  · refine Eq.trans (b := stateOut 6 _ _ (convX _ _ _ _ _ _ _ _ _) (convB _ _ _ _ _ _ _ _ _) _ x) rfl ?_
    refine st_at U W Bc DT Db Al 6 (t.val / 64) (t.val % 64 + 1) _ _ x (state_next 6 (iblk m c 3 t) (iblk m c 8 t) (iblk m c 9 t) (iblk m c 12 t) U W Bc DT Db Al
      (t.val / 64) (t.val % 64) _ _ _ (read3 m c U W Bc DT Db Al D Z N H t) (read8 m c U W Bc DT Db Al D Z N H t) (read9 m c U W Bc DT Db Al D Z N H t) (read12 m c t)
      (fun l j => convX_real U W Bc (t.val / 64) (t.val % 64) (512 * (6 : Fin 8).val) _ _ _ _ _ _ _ _ _ (bx m c U W Bc DT Db Al D Z N H t 3072 (by decide) _) (wx m c U W Bc DT Db Al D Z N H t 0 3072 (by decide) (by decide) _) (wx m c U W Bc DT Db Al D Z N H t 1 3072 (by decide) (by decide) _) (wx m c U W Bc DT Db Al D Z N H t 2 3072 (by decide) (by decide) _) (wx m c U W Bc DT Db Al D Z N H t 3 3072 (by decide) (by decide) _)
      (strip_first (n := 4096) (View.whole cc0_scratch0) U (t.val / 64) (t.val % 64) 0 _ _ _ _ (newX m c U W Bc DT Db Al D Z N H t) pay4_apply h 0 3072 (512 * (6 : Fin 8).val) (by decide) rfl _) (strip_first (n := 4096) (View.whole cc0_scratch0) U (t.val / 64) (t.val % 64) 0 _ _ _ _ (newX m c U W Bc DT Db Al D Z N H t) pay4_apply h 1 3072 (512 * (6 : Fin 8).val) (by decide) rfl _) (strip_first (n := 4096) (View.whole cc0_scratch0) U (t.val / 64) (t.val % 64) 0 _ _ _ _ (newX m c U W Bc DT Db Al D Z N H t) pay4_apply h 2 3072 (512 * (6 : Fin 8).val) (by decide) rfl _) (strip_first (n := 4096) (View.whole cc0_scratch0) U (t.val / 64) (t.val % 64) 0 _ _ _ _ (newX m c U W Bc DT Db Al D Z N H t) pay4_apply h 3 3072 (512 * (6 : Fin 8).val) (by decide) rfl _) l j)
      (fun l j => convB_real U W Bc (t.val / 64) (t.val % 64) (4096 + 128 * (6 : Fin 8).val) _ _ _ _ _ _ _ _ _ (bb m c U W Bc DT Db Al D Z N H t 768 (4096 + 128 * (6 : Fin 8).val) (by decide) rfl _) (wb m c U W Bc DT Db Al D Z N H t 0 768 (4096 + 128 * (6 : Fin 8).val) (by decide) (by decide) rfl _) (wb m c U W Bc DT Db Al D Z N H t 1 768 (4096 + 128 * (6 : Fin 8).val) (by decide) (by decide) rfl _) (wb m c U W Bc DT Db Al D Z N H t 2 768 (4096 + 128 * (6 : Fin 8).val) (by decide) (by decide) rfl _) (wb m c U W Bc DT Db Al D Z N H t 3 768 (4096 + 128 * (6 : Fin 8).val) (by decide) (by decide) rfl _)
      (strip_first (n := 2048) (View.whole cc0_scratch1) U (t.val / 64) (t.val % 64) 4096 _ _ _ _ (newB m c U W Bc DT Db Al D Z N H t) pay5_apply h 0 768 (4096 + 128 * (6 : Fin 8).val) (by decide) rfl _) (strip_first (n := 2048) (View.whole cc0_scratch1) U (t.val / 64) (t.val % 64) 4096 _ _ _ _ (newB m c U W Bc DT Db Al D Z N H t) pay5_apply h 1 768 (4096 + 128 * (6 : Fin 8).val) (by decide) rfl _) (strip_first (n := 2048) (View.whole cc0_scratch1) U (t.val / 64) (t.val % 64) 4096 _ _ _ _ (newB m c U W Bc DT Db Al D Z N H t) pay5_apply h 2 768 (4096 + 128 * (6 : Fin 8).val) (by decide) rfl _) (strip_first (n := 2048) (View.whole cc0_scratch1) U (t.val / 64) (t.val % 64) 4096 _ _ _ _ (newB m c U W Bc DT Db Al D Z N H t) pay5_apply h 3 768 (4096 + 128 * (6 : Fin 8).val) (by decide) rfl _) l j)
      (fun n j => (congrFun (View.readCov_skip _ _ _ _ _ rfl) _).trans ((congrFun (View.readCov_skip _ _ _ _ _ rfl) _).trans ((congrFun (View.readCov_skip _ _ _ _ _ rfl) _).trans ((congrFun (View.readCov_skip _ _ _ _ _ rfl) _).trans ((congrFun (View.readCov_skip _ _ _ _ _ rfl) _).trans ((congrFun (View.readCov_skip _ _ _ _ _ rfl) _).trans ((congrFun (View.readCov_fill (View.whole cc0_scratch2) _ _ _ _ zeros) _).trans ((ld_cols (e := .f32) _ 3072 _ n j (by omega)).trans ((pay6_apply _ _).trans (zero_state U W Bc DT Db Al h _ _))))))))))) (congrArg (0 + ·) (Nat.one_mul _)) (congrArg (3072 + ·) (Nat.one_mul _))
  · refine Eq.trans (b := stateOut 5 _ _ (convX _ _ _ _ _ _ _ _ _) (convB _ _ _ _ _ _ _ _ _) _ x) rfl ?_
    refine st_at U W Bc DT Db Al 5 (t.val / 64) (t.val % 64 + 1) _ _ x (state_next 5 (iblk m c 3 t) (iblk m c 8 t) (iblk m c 9 t) (iblk m c 12 t) U W Bc DT Db Al
      (t.val / 64) (t.val % 64) _ _ _ (read3 m c U W Bc DT Db Al D Z N H t) (read8 m c U W Bc DT Db Al D Z N H t) (read9 m c U W Bc DT Db Al D Z N H t) (read12 m c t)
      (fun l j => convX_real U W Bc (t.val / 64) (t.val % 64) (512 * (5 : Fin 8).val) _ _ _ _ _ _ _ _ _ (bx m c U W Bc DT Db Al D Z N H t 2560 (by decide) _) (wx m c U W Bc DT Db Al D Z N H t 0 2560 (by decide) (by decide) _) (wx m c U W Bc DT Db Al D Z N H t 1 2560 (by decide) (by decide) _) (wx m c U W Bc DT Db Al D Z N H t 2 2560 (by decide) (by decide) _) (wx m c U W Bc DT Db Al D Z N H t 3 2560 (by decide) (by decide) _)
      (strip_first (n := 4096) (View.whole cc0_scratch0) U (t.val / 64) (t.val % 64) 0 _ _ _ _ (newX m c U W Bc DT Db Al D Z N H t) pay4_apply h 0 2560 (512 * (5 : Fin 8).val) (by decide) rfl _) (strip_first (n := 4096) (View.whole cc0_scratch0) U (t.val / 64) (t.val % 64) 0 _ _ _ _ (newX m c U W Bc DT Db Al D Z N H t) pay4_apply h 1 2560 (512 * (5 : Fin 8).val) (by decide) rfl _) (strip_first (n := 4096) (View.whole cc0_scratch0) U (t.val / 64) (t.val % 64) 0 _ _ _ _ (newX m c U W Bc DT Db Al D Z N H t) pay4_apply h 2 2560 (512 * (5 : Fin 8).val) (by decide) rfl _) (strip_first (n := 4096) (View.whole cc0_scratch0) U (t.val / 64) (t.val % 64) 0 _ _ _ _ (newX m c U W Bc DT Db Al D Z N H t) pay4_apply h 3 2560 (512 * (5 : Fin 8).val) (by decide) rfl _) l j)
      (fun l j => convB_real U W Bc (t.val / 64) (t.val % 64) (4096 + 128 * (5 : Fin 8).val) _ _ _ _ _ _ _ _ _ (bb m c U W Bc DT Db Al D Z N H t 640 (4096 + 128 * (5 : Fin 8).val) (by decide) rfl _) (wb m c U W Bc DT Db Al D Z N H t 0 640 (4096 + 128 * (5 : Fin 8).val) (by decide) (by decide) rfl _) (wb m c U W Bc DT Db Al D Z N H t 1 640 (4096 + 128 * (5 : Fin 8).val) (by decide) (by decide) rfl _) (wb m c U W Bc DT Db Al D Z N H t 2 640 (4096 + 128 * (5 : Fin 8).val) (by decide) (by decide) rfl _) (wb m c U W Bc DT Db Al D Z N H t 3 640 (4096 + 128 * (5 : Fin 8).val) (by decide) (by decide) rfl _)
      (strip_first (n := 2048) (View.whole cc0_scratch1) U (t.val / 64) (t.val % 64) 4096 _ _ _ _ (newB m c U W Bc DT Db Al D Z N H t) pay5_apply h 0 640 (4096 + 128 * (5 : Fin 8).val) (by decide) rfl _) (strip_first (n := 2048) (View.whole cc0_scratch1) U (t.val / 64) (t.val % 64) 4096 _ _ _ _ (newB m c U W Bc DT Db Al D Z N H t) pay5_apply h 1 640 (4096 + 128 * (5 : Fin 8).val) (by decide) rfl _) (strip_first (n := 2048) (View.whole cc0_scratch1) U (t.val / 64) (t.val % 64) 4096 _ _ _ _ (newB m c U W Bc DT Db Al D Z N H t) pay5_apply h 2 640 (4096 + 128 * (5 : Fin 8).val) (by decide) rfl _) (strip_first (n := 2048) (View.whole cc0_scratch1) U (t.val / 64) (t.val % 64) 4096 _ _ _ _ (newB m c U W Bc DT Db Al D Z N H t) pay5_apply h 3 640 (4096 + 128 * (5 : Fin 8).val) (by decide) rfl _) l j)
      (fun n j => (congrFun (View.readCov_skip _ _ _ _ _ rfl) _).trans ((congrFun (View.readCov_skip _ _ _ _ _ rfl) _).trans ((congrFun (View.readCov_skip _ _ _ _ _ rfl) _).trans ((congrFun (View.readCov_skip _ _ _ _ _ rfl) _).trans ((congrFun (View.readCov_skip _ _ _ _ _ rfl) _).trans ((congrFun (View.readCov_fill (View.whole cc0_scratch2) _ _ _ _ zeros) _).trans ((ld_cols (e := .f32) _ 2560 _ n j (by omega)).trans ((pay6_apply _ _).trans (zero_state U W Bc DT Db Al h _ _)))))))))) (congrArg (0 + ·) (Nat.one_mul _)) (congrArg (2560 + ·) (Nat.one_mul _))
  · refine Eq.trans (b := stateOut 4 _ _ (convX _ _ _ _ _ _ _ _ _) (convB _ _ _ _ _ _ _ _ _) _ x) rfl ?_
    refine st_at U W Bc DT Db Al 4 (t.val / 64) (t.val % 64 + 1) _ _ x (state_next 4 (iblk m c 3 t) (iblk m c 8 t) (iblk m c 9 t) (iblk m c 12 t) U W Bc DT Db Al
      (t.val / 64) (t.val % 64) _ _ _ (read3 m c U W Bc DT Db Al D Z N H t) (read8 m c U W Bc DT Db Al D Z N H t) (read9 m c U W Bc DT Db Al D Z N H t) (read12 m c t)
      (fun l j => convX_real U W Bc (t.val / 64) (t.val % 64) (512 * (4 : Fin 8).val) _ _ _ _ _ _ _ _ _ (bx m c U W Bc DT Db Al D Z N H t 2048 (by decide) _) (wx m c U W Bc DT Db Al D Z N H t 0 2048 (by decide) (by decide) _) (wx m c U W Bc DT Db Al D Z N H t 1 2048 (by decide) (by decide) _) (wx m c U W Bc DT Db Al D Z N H t 2 2048 (by decide) (by decide) _) (wx m c U W Bc DT Db Al D Z N H t 3 2048 (by decide) (by decide) _)
      (strip_first (n := 4096) (View.whole cc0_scratch0) U (t.val / 64) (t.val % 64) 0 _ _ _ _ (newX m c U W Bc DT Db Al D Z N H t) pay4_apply h 0 2048 (512 * (4 : Fin 8).val) (by decide) rfl _) (strip_first (n := 4096) (View.whole cc0_scratch0) U (t.val / 64) (t.val % 64) 0 _ _ _ _ (newX m c U W Bc DT Db Al D Z N H t) pay4_apply h 1 2048 (512 * (4 : Fin 8).val) (by decide) rfl _) (strip_first (n := 4096) (View.whole cc0_scratch0) U (t.val / 64) (t.val % 64) 0 _ _ _ _ (newX m c U W Bc DT Db Al D Z N H t) pay4_apply h 2 2048 (512 * (4 : Fin 8).val) (by decide) rfl _) (strip_first (n := 4096) (View.whole cc0_scratch0) U (t.val / 64) (t.val % 64) 0 _ _ _ _ (newX m c U W Bc DT Db Al D Z N H t) pay4_apply h 3 2048 (512 * (4 : Fin 8).val) (by decide) rfl _) l j)
      (fun l j => convB_real U W Bc (t.val / 64) (t.val % 64) (4096 + 128 * (4 : Fin 8).val) _ _ _ _ _ _ _ _ _ (bb m c U W Bc DT Db Al D Z N H t 512 (4096 + 128 * (4 : Fin 8).val) (by decide) rfl _) (wb m c U W Bc DT Db Al D Z N H t 0 512 (4096 + 128 * (4 : Fin 8).val) (by decide) (by decide) rfl _) (wb m c U W Bc DT Db Al D Z N H t 1 512 (4096 + 128 * (4 : Fin 8).val) (by decide) (by decide) rfl _) (wb m c U W Bc DT Db Al D Z N H t 2 512 (4096 + 128 * (4 : Fin 8).val) (by decide) (by decide) rfl _) (wb m c U W Bc DT Db Al D Z N H t 3 512 (4096 + 128 * (4 : Fin 8).val) (by decide) (by decide) rfl _)
      (strip_first (n := 2048) (View.whole cc0_scratch1) U (t.val / 64) (t.val % 64) 4096 _ _ _ _ (newB m c U W Bc DT Db Al D Z N H t) pay5_apply h 0 512 (4096 + 128 * (4 : Fin 8).val) (by decide) rfl _) (strip_first (n := 2048) (View.whole cc0_scratch1) U (t.val / 64) (t.val % 64) 4096 _ _ _ _ (newB m c U W Bc DT Db Al D Z N H t) pay5_apply h 1 512 (4096 + 128 * (4 : Fin 8).val) (by decide) rfl _) (strip_first (n := 2048) (View.whole cc0_scratch1) U (t.val / 64) (t.val % 64) 4096 _ _ _ _ (newB m c U W Bc DT Db Al D Z N H t) pay5_apply h 2 512 (4096 + 128 * (4 : Fin 8).val) (by decide) rfl _) (strip_first (n := 2048) (View.whole cc0_scratch1) U (t.val / 64) (t.val % 64) 4096 _ _ _ _ (newB m c U W Bc DT Db Al D Z N H t) pay5_apply h 3 512 (4096 + 128 * (4 : Fin 8).val) (by decide) rfl _) l j)
      (fun n j => (congrFun (View.readCov_skip _ _ _ _ _ rfl) _).trans ((congrFun (View.readCov_skip _ _ _ _ _ rfl) _).trans ((congrFun (View.readCov_skip _ _ _ _ _ rfl) _).trans ((congrFun (View.readCov_skip _ _ _ _ _ rfl) _).trans ((congrFun (View.readCov_fill (View.whole cc0_scratch2) _ _ _ _ zeros) _).trans ((ld_cols (e := .f32) _ 2048 _ n j (by omega)).trans ((pay6_apply _ _).trans (zero_state U W Bc DT Db Al h _ _))))))))) (congrArg (0 + ·) (Nat.one_mul _)) (congrArg (2048 + ·) (Nat.one_mul _))
  · refine Eq.trans (b := stateOut 3 _ _ (convX _ _ _ _ _ _ _ _ _) (convB _ _ _ _ _ _ _ _ _) _ x) rfl ?_
    refine st_at U W Bc DT Db Al 3 (t.val / 64) (t.val % 64 + 1) _ _ x (state_next 3 (iblk m c 3 t) (iblk m c 8 t) (iblk m c 9 t) (iblk m c 12 t) U W Bc DT Db Al
      (t.val / 64) (t.val % 64) _ _ _ (read3 m c U W Bc DT Db Al D Z N H t) (read8 m c U W Bc DT Db Al D Z N H t) (read9 m c U W Bc DT Db Al D Z N H t) (read12 m c t)
      (fun l j => convX_real U W Bc (t.val / 64) (t.val % 64) (512 * (3 : Fin 8).val) _ _ _ _ _ _ _ _ _ (bx m c U W Bc DT Db Al D Z N H t 1536 (by decide) _) (wx m c U W Bc DT Db Al D Z N H t 0 1536 (by decide) (by decide) _) (wx m c U W Bc DT Db Al D Z N H t 1 1536 (by decide) (by decide) _) (wx m c U W Bc DT Db Al D Z N H t 2 1536 (by decide) (by decide) _) (wx m c U W Bc DT Db Al D Z N H t 3 1536 (by decide) (by decide) _)
      (strip_first (n := 4096) (View.whole cc0_scratch0) U (t.val / 64) (t.val % 64) 0 _ _ _ _ (newX m c U W Bc DT Db Al D Z N H t) pay4_apply h 0 1536 (512 * (3 : Fin 8).val) (by decide) rfl _) (strip_first (n := 4096) (View.whole cc0_scratch0) U (t.val / 64) (t.val % 64) 0 _ _ _ _ (newX m c U W Bc DT Db Al D Z N H t) pay4_apply h 1 1536 (512 * (3 : Fin 8).val) (by decide) rfl _) (strip_first (n := 4096) (View.whole cc0_scratch0) U (t.val / 64) (t.val % 64) 0 _ _ _ _ (newX m c U W Bc DT Db Al D Z N H t) pay4_apply h 2 1536 (512 * (3 : Fin 8).val) (by decide) rfl _) (strip_first (n := 4096) (View.whole cc0_scratch0) U (t.val / 64) (t.val % 64) 0 _ _ _ _ (newX m c U W Bc DT Db Al D Z N H t) pay4_apply h 3 1536 (512 * (3 : Fin 8).val) (by decide) rfl _) l j)
      (fun l j => convB_real U W Bc (t.val / 64) (t.val % 64) (4096 + 128 * (3 : Fin 8).val) _ _ _ _ _ _ _ _ _ (bb m c U W Bc DT Db Al D Z N H t 384 (4096 + 128 * (3 : Fin 8).val) (by decide) rfl _) (wb m c U W Bc DT Db Al D Z N H t 0 384 (4096 + 128 * (3 : Fin 8).val) (by decide) (by decide) rfl _) (wb m c U W Bc DT Db Al D Z N H t 1 384 (4096 + 128 * (3 : Fin 8).val) (by decide) (by decide) rfl _) (wb m c U W Bc DT Db Al D Z N H t 2 384 (4096 + 128 * (3 : Fin 8).val) (by decide) (by decide) rfl _) (wb m c U W Bc DT Db Al D Z N H t 3 384 (4096 + 128 * (3 : Fin 8).val) (by decide) (by decide) rfl _)
      (strip_first (n := 2048) (View.whole cc0_scratch1) U (t.val / 64) (t.val % 64) 4096 _ _ _ _ (newB m c U W Bc DT Db Al D Z N H t) pay5_apply h 0 384 (4096 + 128 * (3 : Fin 8).val) (by decide) rfl _) (strip_first (n := 2048) (View.whole cc0_scratch1) U (t.val / 64) (t.val % 64) 4096 _ _ _ _ (newB m c U W Bc DT Db Al D Z N H t) pay5_apply h 1 384 (4096 + 128 * (3 : Fin 8).val) (by decide) rfl _) (strip_first (n := 2048) (View.whole cc0_scratch1) U (t.val / 64) (t.val % 64) 4096 _ _ _ _ (newB m c U W Bc DT Db Al D Z N H t) pay5_apply h 2 384 (4096 + 128 * (3 : Fin 8).val) (by decide) rfl _) (strip_first (n := 2048) (View.whole cc0_scratch1) U (t.val / 64) (t.val % 64) 4096 _ _ _ _ (newB m c U W Bc DT Db Al D Z N H t) pay5_apply h 3 384 (4096 + 128 * (3 : Fin 8).val) (by decide) rfl _) l j)
      (fun n j => (congrFun (View.readCov_skip _ _ _ _ _ rfl) _).trans ((congrFun (View.readCov_skip _ _ _ _ _ rfl) _).trans ((congrFun (View.readCov_skip _ _ _ _ _ rfl) _).trans ((congrFun (View.readCov_fill (View.whole cc0_scratch2) _ _ _ _ zeros) _).trans ((ld_cols (e := .f32) _ 1536 _ n j (by omega)).trans ((pay6_apply _ _).trans (zero_state U W Bc DT Db Al h _ _)))))))) (congrArg (0 + ·) (Nat.one_mul _)) (congrArg (1536 + ·) (Nat.one_mul _))
  · refine Eq.trans (b := stateOut 2 _ _ (convX _ _ _ _ _ _ _ _ _) (convB _ _ _ _ _ _ _ _ _) _ x) rfl ?_
    refine st_at U W Bc DT Db Al 2 (t.val / 64) (t.val % 64 + 1) _ _ x (state_next 2 (iblk m c 3 t) (iblk m c 8 t) (iblk m c 9 t) (iblk m c 12 t) U W Bc DT Db Al
      (t.val / 64) (t.val % 64) _ _ _ (read3 m c U W Bc DT Db Al D Z N H t) (read8 m c U W Bc DT Db Al D Z N H t) (read9 m c U W Bc DT Db Al D Z N H t) (read12 m c t)
      (fun l j => convX_real U W Bc (t.val / 64) (t.val % 64) (512 * (2 : Fin 8).val) _ _ _ _ _ _ _ _ _ (bx m c U W Bc DT Db Al D Z N H t 1024 (by decide) _) (wx m c U W Bc DT Db Al D Z N H t 0 1024 (by decide) (by decide) _) (wx m c U W Bc DT Db Al D Z N H t 1 1024 (by decide) (by decide) _) (wx m c U W Bc DT Db Al D Z N H t 2 1024 (by decide) (by decide) _) (wx m c U W Bc DT Db Al D Z N H t 3 1024 (by decide) (by decide) _)
      (strip_first (n := 4096) (View.whole cc0_scratch0) U (t.val / 64) (t.val % 64) 0 _ _ _ _ (newX m c U W Bc DT Db Al D Z N H t) pay4_apply h 0 1024 (512 * (2 : Fin 8).val) (by decide) rfl _) (strip_first (n := 4096) (View.whole cc0_scratch0) U (t.val / 64) (t.val % 64) 0 _ _ _ _ (newX m c U W Bc DT Db Al D Z N H t) pay4_apply h 1 1024 (512 * (2 : Fin 8).val) (by decide) rfl _) (strip_first (n := 4096) (View.whole cc0_scratch0) U (t.val / 64) (t.val % 64) 0 _ _ _ _ (newX m c U W Bc DT Db Al D Z N H t) pay4_apply h 2 1024 (512 * (2 : Fin 8).val) (by decide) rfl _) (strip_first (n := 4096) (View.whole cc0_scratch0) U (t.val / 64) (t.val % 64) 0 _ _ _ _ (newX m c U W Bc DT Db Al D Z N H t) pay4_apply h 3 1024 (512 * (2 : Fin 8).val) (by decide) rfl _) l j)
      (fun l j => convB_real U W Bc (t.val / 64) (t.val % 64) (4096 + 128 * (2 : Fin 8).val) _ _ _ _ _ _ _ _ _ (bb m c U W Bc DT Db Al D Z N H t 256 (4096 + 128 * (2 : Fin 8).val) (by decide) rfl _) (wb m c U W Bc DT Db Al D Z N H t 0 256 (4096 + 128 * (2 : Fin 8).val) (by decide) (by decide) rfl _) (wb m c U W Bc DT Db Al D Z N H t 1 256 (4096 + 128 * (2 : Fin 8).val) (by decide) (by decide) rfl _) (wb m c U W Bc DT Db Al D Z N H t 2 256 (4096 + 128 * (2 : Fin 8).val) (by decide) (by decide) rfl _) (wb m c U W Bc DT Db Al D Z N H t 3 256 (4096 + 128 * (2 : Fin 8).val) (by decide) (by decide) rfl _)
      (strip_first (n := 2048) (View.whole cc0_scratch1) U (t.val / 64) (t.val % 64) 4096 _ _ _ _ (newB m c U W Bc DT Db Al D Z N H t) pay5_apply h 0 256 (4096 + 128 * (2 : Fin 8).val) (by decide) rfl _) (strip_first (n := 2048) (View.whole cc0_scratch1) U (t.val / 64) (t.val % 64) 4096 _ _ _ _ (newB m c U W Bc DT Db Al D Z N H t) pay5_apply h 1 256 (4096 + 128 * (2 : Fin 8).val) (by decide) rfl _) (strip_first (n := 2048) (View.whole cc0_scratch1) U (t.val / 64) (t.val % 64) 4096 _ _ _ _ (newB m c U W Bc DT Db Al D Z N H t) pay5_apply h 2 256 (4096 + 128 * (2 : Fin 8).val) (by decide) rfl _) (strip_first (n := 2048) (View.whole cc0_scratch1) U (t.val / 64) (t.val % 64) 4096 _ _ _ _ (newB m c U W Bc DT Db Al D Z N H t) pay5_apply h 3 256 (4096 + 128 * (2 : Fin 8).val) (by decide) rfl _) l j)
      (fun n j => (congrFun (View.readCov_skip _ _ _ _ _ rfl) _).trans ((congrFun (View.readCov_skip _ _ _ _ _ rfl) _).trans ((congrFun (View.readCov_fill (View.whole cc0_scratch2) _ _ _ _ zeros) _).trans ((ld_cols (e := .f32) _ 1024 _ n j (by omega)).trans ((pay6_apply _ _).trans (zero_state U W Bc DT Db Al h _ _))))))) (congrArg (0 + ·) (Nat.one_mul _)) (congrArg (1024 + ·) (Nat.one_mul _))
  · refine Eq.trans (b := stateOut 1 _ _ (convX _ _ _ _ _ _ _ _ _) (convB _ _ _ _ _ _ _ _ _) _ x) rfl ?_
    refine st_at U W Bc DT Db Al 1 (t.val / 64) (t.val % 64 + 1) _ _ x (state_next 1 (iblk m c 3 t) (iblk m c 8 t) (iblk m c 9 t) (iblk m c 12 t) U W Bc DT Db Al
      (t.val / 64) (t.val % 64) _ _ _ (read3 m c U W Bc DT Db Al D Z N H t) (read8 m c U W Bc DT Db Al D Z N H t) (read9 m c U W Bc DT Db Al D Z N H t) (read12 m c t)
      (fun l j => convX_real U W Bc (t.val / 64) (t.val % 64) (512 * (1 : Fin 8).val) _ _ _ _ _ _ _ _ _ (bx m c U W Bc DT Db Al D Z N H t 512 (by decide) _) (wx m c U W Bc DT Db Al D Z N H t 0 512 (by decide) (by decide) _) (wx m c U W Bc DT Db Al D Z N H t 1 512 (by decide) (by decide) _) (wx m c U W Bc DT Db Al D Z N H t 2 512 (by decide) (by decide) _) (wx m c U W Bc DT Db Al D Z N H t 3 512 (by decide) (by decide) _)
      (strip_first (n := 4096) (View.whole cc0_scratch0) U (t.val / 64) (t.val % 64) 0 _ _ _ _ (newX m c U W Bc DT Db Al D Z N H t) pay4_apply h 0 512 (512 * (1 : Fin 8).val) (by decide) rfl _) (strip_first (n := 4096) (View.whole cc0_scratch0) U (t.val / 64) (t.val % 64) 0 _ _ _ _ (newX m c U W Bc DT Db Al D Z N H t) pay4_apply h 1 512 (512 * (1 : Fin 8).val) (by decide) rfl _) (strip_first (n := 4096) (View.whole cc0_scratch0) U (t.val / 64) (t.val % 64) 0 _ _ _ _ (newX m c U W Bc DT Db Al D Z N H t) pay4_apply h 2 512 (512 * (1 : Fin 8).val) (by decide) rfl _) (strip_first (n := 4096) (View.whole cc0_scratch0) U (t.val / 64) (t.val % 64) 0 _ _ _ _ (newX m c U W Bc DT Db Al D Z N H t) pay4_apply h 3 512 (512 * (1 : Fin 8).val) (by decide) rfl _) l j)
      (fun l j => convB_real U W Bc (t.val / 64) (t.val % 64) (4096 + 128 * (1 : Fin 8).val) _ _ _ _ _ _ _ _ _ (bb m c U W Bc DT Db Al D Z N H t 128 (4096 + 128 * (1 : Fin 8).val) (by decide) rfl _) (wb m c U W Bc DT Db Al D Z N H t 0 128 (4096 + 128 * (1 : Fin 8).val) (by decide) (by decide) rfl _) (wb m c U W Bc DT Db Al D Z N H t 1 128 (4096 + 128 * (1 : Fin 8).val) (by decide) (by decide) rfl _) (wb m c U W Bc DT Db Al D Z N H t 2 128 (4096 + 128 * (1 : Fin 8).val) (by decide) (by decide) rfl _) (wb m c U W Bc DT Db Al D Z N H t 3 128 (4096 + 128 * (1 : Fin 8).val) (by decide) (by decide) rfl _)
      (strip_first (n := 2048) (View.whole cc0_scratch1) U (t.val / 64) (t.val % 64) 4096 _ _ _ _ (newB m c U W Bc DT Db Al D Z N H t) pay5_apply h 0 128 (4096 + 128 * (1 : Fin 8).val) (by decide) rfl _) (strip_first (n := 2048) (View.whole cc0_scratch1) U (t.val / 64) (t.val % 64) 4096 _ _ _ _ (newB m c U W Bc DT Db Al D Z N H t) pay5_apply h 1 128 (4096 + 128 * (1 : Fin 8).val) (by decide) rfl _) (strip_first (n := 2048) (View.whole cc0_scratch1) U (t.val / 64) (t.val % 64) 4096 _ _ _ _ (newB m c U W Bc DT Db Al D Z N H t) pay5_apply h 2 128 (4096 + 128 * (1 : Fin 8).val) (by decide) rfl _) (strip_first (n := 2048) (View.whole cc0_scratch1) U (t.val / 64) (t.val % 64) 4096 _ _ _ _ (newB m c U W Bc DT Db Al D Z N H t) pay5_apply h 3 128 (4096 + 128 * (1 : Fin 8).val) (by decide) rfl _) l j)
      (fun n j => (congrFun (View.readCov_skip _ _ _ _ _ rfl) _).trans ((congrFun (View.readCov_fill (View.whole cc0_scratch2) _ _ _ _ zeros) _).trans ((ld_cols (e := .f32) _ 512 _ n j (by omega)).trans ((pay6_apply _ _).trans (zero_state U W Bc DT Db Al h _ _)))))) (congrArg (0 + ·) (Nat.one_mul _)) (congrArg (512 + ·) (Nat.one_mul _))
  · refine Eq.trans (b := stateOut 0 _ _ (convX _ _ _ _ _ _ _ _ _) (convB _ _ _ _ _ _ _ _ _) _ x) rfl ?_
    refine st_at U W Bc DT Db Al 0 (t.val / 64) (t.val % 64 + 1) _ _ x (state_next 0 (iblk m c 3 t) (iblk m c 8 t) (iblk m c 9 t) (iblk m c 12 t) U W Bc DT Db Al
      (t.val / 64) (t.val % 64) _ _ _ (read3 m c U W Bc DT Db Al D Z N H t) (read8 m c U W Bc DT Db Al D Z N H t) (read9 m c U W Bc DT Db Al D Z N H t) (read12 m c t)
      (fun l j => convX_real U W Bc (t.val / 64) (t.val % 64) (512 * (0 : Fin 8).val) _ _ _ _ _ _ _ _ _ (bx m c U W Bc DT Db Al D Z N H t 0 (by decide) _) (wx m c U W Bc DT Db Al D Z N H t 0 0 (by decide) (by decide) _) (wx m c U W Bc DT Db Al D Z N H t 1 0 (by decide) (by decide) _) (wx m c U W Bc DT Db Al D Z N H t 2 0 (by decide) (by decide) _) (wx m c U W Bc DT Db Al D Z N H t 3 0 (by decide) (by decide) _)
      (strip_first (n := 4096) (View.whole cc0_scratch0) U (t.val / 64) (t.val % 64) 0 _ _ _ _ (newX m c U W Bc DT Db Al D Z N H t) pay4_apply h 0 0 (512 * (0 : Fin 8).val) (by decide) rfl _) (strip_first (n := 4096) (View.whole cc0_scratch0) U (t.val / 64) (t.val % 64) 0 _ _ _ _ (newX m c U W Bc DT Db Al D Z N H t) pay4_apply h 1 0 (512 * (0 : Fin 8).val) (by decide) rfl _) (strip_first (n := 4096) (View.whole cc0_scratch0) U (t.val / 64) (t.val % 64) 0 _ _ _ _ (newX m c U W Bc DT Db Al D Z N H t) pay4_apply h 2 0 (512 * (0 : Fin 8).val) (by decide) rfl _) (strip_first (n := 4096) (View.whole cc0_scratch0) U (t.val / 64) (t.val % 64) 0 _ _ _ _ (newX m c U W Bc DT Db Al D Z N H t) pay4_apply h 3 0 (512 * (0 : Fin 8).val) (by decide) rfl _) l j)
      (fun l j => convB_real U W Bc (t.val / 64) (t.val % 64) (4096 + 128 * (0 : Fin 8).val) _ _ _ _ _ _ _ _ _ (bb m c U W Bc DT Db Al D Z N H t 0 (4096 + 128 * (0 : Fin 8).val) (by decide) rfl _) (wb m c U W Bc DT Db Al D Z N H t 0 0 (4096 + 128 * (0 : Fin 8).val) (by decide) (by decide) rfl _) (wb m c U W Bc DT Db Al D Z N H t 1 0 (4096 + 128 * (0 : Fin 8).val) (by decide) (by decide) rfl _) (wb m c U W Bc DT Db Al D Z N H t 2 0 (4096 + 128 * (0 : Fin 8).val) (by decide) (by decide) rfl _) (wb m c U W Bc DT Db Al D Z N H t 3 0 (4096 + 128 * (0 : Fin 8).val) (by decide) (by decide) rfl _)
      (strip_first (n := 2048) (View.whole cc0_scratch1) U (t.val / 64) (t.val % 64) 4096 _ _ _ _ (newB m c U W Bc DT Db Al D Z N H t) pay5_apply h 0 0 (4096 + 128 * (0 : Fin 8).val) (by decide) rfl _) (strip_first (n := 2048) (View.whole cc0_scratch1) U (t.val / 64) (t.val % 64) 4096 _ _ _ _ (newB m c U W Bc DT Db Al D Z N H t) pay5_apply h 1 0 (4096 + 128 * (0 : Fin 8).val) (by decide) rfl _) (strip_first (n := 2048) (View.whole cc0_scratch1) U (t.val / 64) (t.val % 64) 4096 _ _ _ _ (newB m c U W Bc DT Db Al D Z N H t) pay5_apply h 2 0 (4096 + 128 * (0 : Fin 8).val) (by decide) rfl _) (strip_first (n := 2048) (View.whole cc0_scratch1) U (t.val / 64) (t.val % 64) 4096 _ _ _ _ (newB m c U W Bc DT Db Al D Z N H t) pay5_apply h 3 0 (4096 + 128 * (0 : Fin 8).val) (by decide) rfl _) l j)
      (fun n j => (congrFun (View.readCov_fill (View.whole cc0_scratch2) _ _ _ _ zeros) _).trans ((ld_cols (e := .f32) _ 0 _ n j (by omega)).trans ((pay6_apply _ _).trans (zero_state U W Bc DT Db Al h _ _))))) (congrArg (0 + ·) (Nat.one_mul _)) (congrArg (0 + ·) (Nat.one_mul _))

end Cert.Kernel12Ideal.Scan

end
-- ==== Proof.Scan.StB.lean ====
module

public import proofs.«01_k».proof.Proof.Scan.Parts

@[expose] public section

set_option maxRecDepth 16384
noncomputable section

namespace Cert.Kernel12Ideal.Scan

open Cert.Kernel12Ideal Cert.Kernel12Ideal.Gen Idealize.ShloMosaic Idealize.ShloMosaic.TcCoe Idealize.SL.Sem Cert.Scan

variable (m : (ℓ : Loc nD τ sig) → Buf (Elt Ideal) ℓ) (c : Dev nD) (U W : ℕ → ℕ → ℝ) (Bc : ℕ → Option ℝ) (DT : ℕ → ℕ → Option ℝ) (Db : ℕ → Option ℝ) (Al : ℕ → EReal)
variable (D : ℕ → EReal) (Z : ℕ → ℕ → EReal) (N : ℕ → EReal) (H : Holds m c U W Bc DT Db Al D Z N)

include H

theorem st_B (t : Fin cfg0.N) (h : ¬ t.val % 64 = 0)
    (hux : ∀ (r : Fin 136) (j : Fin 4096), 5 ≤ r.val → r.val < 8 → (View.whole cc0_scratch0).read (Elt Ideal) ((Memref.isWhole_whole cc0_scratch0).unread (outsAt0 m c (t.val - 1) (lt_of_le_of_lt (Nat.sub_le _ _) t.isLt)).2.1) (ix2 r j)
      = (past U (t.val / 64) (128 * (t.val % 64) + (r.val - 5)) (0 + j.val) : EReal))
    (hub : ∀ (r : Fin 136) (j : Fin 2048), 5 ≤ r.val → r.val < 8 → (View.whole cc0_scratch1).read (Elt Ideal) ((Memref.isWhole_whole cc0_scratch1).unread (outsAt0 m c (t.val - 1) (lt_of_le_of_lt (Nat.sub_le _ _) t.isLt)).2.2.1) (ix2 r j)
      = (past U (t.val / 64) (128 * (t.val % 64) + (r.val - 5)) (4096 + j.val) : EReal))
    (hst : ∀ y : S128x4096.Idx, (View.whole cc0_scratch2).read (Elt Ideal) ((Memref.isWhole_whole cc0_scratch2).unread (outsAt0 m c (t.val - 1) (lt_of_le_of_lt (Nat.sub_le _ _) t.isLt)).2.2.2) y
      = (state U W Bc DT Db Al (t.val / 64) (t.val % 64) (y 0).val (y 1).val : EReal))
    (y : S128x4096.Idx) :
    (outsAt0 m c t.val t.isLt).2.2.2 y = (state U W Bc DT Db Al (t.val / 64) (t.val % 64 + 1) (y 0).val (y 1).val : EReal) := by
  rw [outsAt0_B m c t h]
  frame_out
  canon_tiles x hx
  · refine Eq.trans (b := stateOut 7 _ _ (convX _ _ _ _ _ _ _ _ _) (convB _ _ _ _ _ _ _ _ _) _ x) rfl ?_
    refine st_at U W Bc DT Db Al 7 (t.val / 64) (t.val % 64 + 1) _ y x (state_next 7 (iblk m c 3 t) (iblk m c 8 t) (iblk m c 9 t) (iblk m c 12 t) U W Bc DT Db Al
      (t.val / 64) (t.val % 64) _ _ _ (read3 m c U W Bc DT Db Al D Z N H t) (read8 m c U W Bc DT Db Al D Z N H t) (read9 m c U W Bc DT Db Al D Z N H t) (read12 m c t)
      (fun l j => convX_real U W Bc (t.val / 64) (t.val % 64) (512 * (7 : Fin 8).val) _ _ _ _ _ _ _ _ _ (bx m c U W Bc DT Db Al D Z N H t 3584 (by decide) _) (wx m c U W Bc DT Db Al D Z N H t 0 3584 (by decide) (by decide) _) (wx m c U W Bc DT Db Al D Z N H t 1 3584 (by decide) (by decide) _) (wx m c U W Bc DT Db Al D Z N H t 2 3584 (by decide) (by decide) _) (wx m c U W Bc DT Db Al D Z N H t 3 3584 (by decide) (by decide) _)
      (strip_old (n := 4096) (View.whole cc0_scratch0) U (t.val / 64) (t.val % 64) 0 _ _ _ hux (newX m c U W Bc DT Db Al D Z N H t) 0 3584 (512 * (7 : Fin 8).val) (by decide) rfl _) (strip_old (n := 4096) (View.whole cc0_scratch0) U (t.val / 64) (t.val % 64) 0 _ _ _ hux (newX m c U W Bc DT Db Al D Z N H t) 1 3584 (512 * (7 : Fin 8).val) (by decide) rfl _) (strip_old (n := 4096) (View.whole cc0_scratch0) U (t.val / 64) (t.val % 64) 0 _ _ _ hux (newX m c U W Bc DT Db Al D Z N H t) 2 3584 (512 * (7 : Fin 8).val) (by decide) rfl _) (strip_new (n := 4096) (View.whole cc0_scratch0) U (t.val / 64) (t.val % 64) 0 [] _ _ (newX m c U W Bc DT Db Al D Z N H t) 3584 (512 * (7 : Fin 8).val) rfl _) l j)
      (fun l j => convB_real U W Bc (t.val / 64) (t.val % 64) (4096 + 128 * (7 : Fin 8).val) _ _ _ _ _ _ _ _ _ (bb m c U W Bc DT Db Al D Z N H t 896 (4096 + 128 * (7 : Fin 8).val) (by decide) rfl _) (wb m c U W Bc DT Db Al D Z N H t 0 896 (4096 + 128 * (7 : Fin 8).val) (by decide) (by decide) rfl _) (wb m c U W Bc DT Db Al D Z N H t 1 896 (4096 + 128 * (7 : Fin 8).val) (by decide) (by decide) rfl _) (wb m c U W Bc DT Db Al D Z N H t 2 896 (4096 + 128 * (7 : Fin 8).val) (by decide) (by decide) rfl _) (wb m c U W Bc DT Db Al D Z N H t 3 896 (4096 + 128 * (7 : Fin 8).val) (by decide) (by decide) rfl _)
      (strip_old (n := 2048) (View.whole cc0_scratch1) U (t.val / 64) (t.val % 64) 4096 _ _ _ hub (newB m c U W Bc DT Db Al D Z N H t) 0 896 (4096 + 128 * (7 : Fin 8).val) (by decide) rfl _) (strip_old (n := 2048) (View.whole cc0_scratch1) U (t.val / 64) (t.val % 64) 4096 _ _ _ hub (newB m c U W Bc DT Db Al D Z N H t) 1 896 (4096 + 128 * (7 : Fin 8).val) (by decide) rfl _) (strip_old (n := 2048) (View.whole cc0_scratch1) U (t.val / 64) (t.val % 64) 4096 _ _ _ hub (newB m c U W Bc DT Db Al D Z N H t) 2 896 (4096 + 128 * (7 : Fin 8).val) (by decide) rfl _) (strip_new (n := 2048) (View.whole cc0_scratch1) U (t.val / 64) (t.val % 64) 4096 [] _ _ (newB m c U W Bc DT Db Al D Z N H t) 896 (4096 + 128 * (7 : Fin 8).val) rfl _) l j)
      (fun n j => (ld_cols (e := .f32) _ 3584 _ n j (by omega)).trans (hst _))) (hx0.trans (Nat.zero_add _).symm) hx1
  · refine Eq.trans (b := stateOut 6 _ _ (convX _ _ _ _ _ _ _ _ _) (convB _ _ _ _ _ _ _ _ _) _ x) rfl ?_
    refine st_at U W Bc DT Db Al 6 (t.val / 64) (t.val % 64 + 1) _ y x (state_next 6 (iblk m c 3 t) (iblk m c 8 t) (iblk m c 9 t) (iblk m c 12 t) U W Bc DT Db Al
      (t.val / 64) (t.val % 64) _ _ _ (read3 m c U W Bc DT Db Al D Z N H t) (read8 m c U W Bc DT Db Al D Z N H t) (read9 m c U W Bc DT Db Al D Z N H t) (read12 m c t)
      (fun l j => convX_real U W Bc (t.val / 64) (t.val % 64) (512 * (6 : Fin 8).val) _ _ _ _ _ _ _ _ _ (bx m c U W Bc DT Db Al D Z N H t 3072 (by decide) _) (wx m c U W Bc DT Db Al D Z N H t 0 3072 (by decide) (by decide) _) (wx m c U W Bc DT Db Al D Z N H t 1 3072 (by decide) (by decide) _) (wx m c U W Bc DT Db Al D Z N H t 2 3072 (by decide) (by decide) _) (wx m c U W Bc DT Db Al D Z N H t 3 3072 (by decide) (by decide) _)
      (strip_old (n := 4096) (View.whole cc0_scratch0) U (t.val / 64) (t.val % 64) 0 _ _ _ hux (newX m c U W Bc DT Db Al D Z N H t) 0 3072 (512 * (6 : Fin 8).val) (by decide) rfl _) (strip_old (n := 4096) (View.whole cc0_scratch0) U (t.val / 64) (t.val % 64) 0 _ _ _ hux (newX m c U W Bc DT Db Al D Z N H t) 1 3072 (512 * (6 : Fin 8).val) (by decide) rfl _) (strip_old (n := 4096) (View.whole cc0_scratch0) U (t.val / 64) (t.val % 64) 0 _ _ _ hux (newX m c U W Bc DT Db Al D Z N H t) 2 3072 (512 * (6 : Fin 8).val) (by decide) rfl _) (strip_new (n := 4096) (View.whole cc0_scratch0) U (t.val / 64) (t.val % 64) 0 [] _ _ (newX m c U W Bc DT Db Al D Z N H t) 3072 (512 * (6 : Fin 8).val) rfl _) l j)
      (fun l j => convB_real U W Bc (t.val / 64) (t.val % 64) (4096 + 128 * (6 : Fin 8).val) _ _ _ _ _ _ _ _ _ (bb m c U W Bc DT Db Al D Z N H t 768 (4096 + 128 * (6 : Fin 8).val) (by decide) rfl _) (wb m c U W Bc DT Db Al D Z N H t 0 768 (4096 + 128 * (6 : Fin 8).val) (by decide) (by decide) rfl _) (wb m c U W Bc DT Db Al D Z N H t 1 768 (4096 + 128 * (6 : Fin 8).val) (by decide) (by decide) rfl _) (wb m c U W Bc DT Db Al D Z N H t 2 768 (4096 + 128 * (6 : Fin 8).val) (by decide) (by decide) rfl _) (wb m c U W Bc DT Db Al D Z N H t 3 768 (4096 + 128 * (6 : Fin 8).val) (by decide) (by decide) rfl _)
      (strip_old (n := 2048) (View.whole cc0_scratch1) U (t.val / 64) (t.val % 64) 4096 _ _ _ hub (newB m c U W Bc DT Db Al D Z N H t) 0 768 (4096 + 128 * (6 : Fin 8).val) (by decide) rfl _) (strip_old (n := 2048) (View.whole cc0_scratch1) U (t.val / 64) (t.val % 64) 4096 _ _ _ hub (newB m c U W Bc DT Db Al D Z N H t) 1 768 (4096 + 128 * (6 : Fin 8).val) (by decide) rfl _) (strip_old (n := 2048) (View.whole cc0_scratch1) U (t.val / 64) (t.val % 64) 4096 _ _ _ hub (newB m c U W Bc DT Db Al D Z N H t) 2 768 (4096 + 128 * (6 : Fin 8).val) (by decide) rfl _) (strip_new (n := 2048) (View.whole cc0_scratch1) U (t.val / 64) (t.val % 64) 4096 [] _ _ (newB m c U W Bc DT Db Al D Z N H t) 768 (4096 + 128 * (6 : Fin 8).val) rfl _) l j)
      (fun n j => (ld_cols (e := .f32) _ 3072 _ n j (by omega)).trans (hst _))) (hx0.trans (Nat.zero_add _).symm) hx1
  · refine Eq.trans (b := stateOut 5 _ _ (convX _ _ _ _ _ _ _ _ _) (convB _ _ _ _ _ _ _ _ _) _ x) rfl ?_
    refine st_at U W Bc DT Db Al 5 (t.val / 64) (t.val % 64 + 1) _ y x (state_next 5 (iblk m c 3 t) (iblk m c 8 t) (iblk m c 9 t) (iblk m c 12 t) U W Bc DT Db Al
      (t.val / 64) (t.val % 64) _ _ _ (read3 m c U W Bc DT Db Al D Z N H t) (read8 m c U W Bc DT Db Al D Z N H t) (read9 m c U W Bc DT Db Al D Z N H t) (read12 m c t)
      (fun l j => convX_real U W Bc (t.val / 64) (t.val % 64) (512 * (5 : Fin 8).val) _ _ _ _ _ _ _ _ _ (bx m c U W Bc DT Db Al D Z N H t 2560 (by decide) _) (wx m c U W Bc DT Db Al D Z N H t 0 2560 (by decide) (by decide) _) (wx m c U W Bc DT Db Al D Z N H t 1 2560 (by decide) (by decide) _) (wx m c U W Bc DT Db Al D Z N H t 2 2560 (by decide) (by decide) _) (wx m c U W Bc DT Db Al D Z N H t 3 2560 (by decide) (by decide) _)
      (strip_old (n := 4096) (View.whole cc0_scratch0) U (t.val / 64) (t.val % 64) 0 _ _ _ hux (newX m c U W Bc DT Db Al D Z N H t) 0 2560 (512 * (5 : Fin 8).val) (by decide) rfl _) (strip_old (n := 4096) (View.whole cc0_scratch0) U (t.val / 64) (t.val % 64) 0 _ _ _ hux (newX m c U W Bc DT Db Al D Z N H t) 1 2560 (512 * (5 : Fin 8).val) (by decide) rfl _) (strip_old (n := 4096) (View.whole cc0_scratch0) U (t.val / 64) (t.val % 64) 0 _ _ _ hux (newX m c U W Bc DT Db Al D Z N H t) 2 2560 (512 * (5 : Fin 8).val) (by decide) rfl _) (strip_new (n := 4096) (View.whole cc0_scratch0) U (t.val / 64) (t.val % 64) 0 [] _ _ (newX m c U W Bc DT Db Al D Z N H t) 2560 (512 * (5 : Fin 8).val) rfl _) l j)
      (fun l j => convB_real U W Bc (t.val / 64) (t.val % 64) (4096 + 128 * (5 : Fin 8).val) _ _ _ _ _ _ _ _ _ (bb m c U W Bc DT Db Al D Z N H t 640 (4096 + 128 * (5 : Fin 8).val) (by decide) rfl _) (wb m c U W Bc DT Db Al D Z N H t 0 640 (4096 + 128 * (5 : Fin 8).val) (by decide) (by decide) rfl _) (wb m c U W Bc DT Db Al D Z N H t 1 640 (4096 + 128 * (5 : Fin 8).val) (by decide) (by decide) rfl _) (wb m c U W Bc DT Db Al D Z N H t 2 640 (4096 + 128 * (5 : Fin 8).val) (by decide) (by decide) rfl _) (wb m c U W Bc DT Db Al D Z N H t 3 640 (4096 + 128 * (5 : Fin 8).val) (by decide) (by decide) rfl _)
      (strip_old (n := 2048) (View.whole cc0_scratch1) U (t.val / 64) (t.val % 64) 4096 _ _ _ hub (newB m c U W Bc DT Db Al D Z N H t) 0 640 (4096 + 128 * (5 : Fin 8).val) (by decide) rfl _) (strip_old (n := 2048) (View.whole cc0_scratch1) U (t.val / 64) (t.val % 64) 4096 _ _ _ hub (newB m c U W Bc DT Db Al D Z N H t) 1 640 (4096 + 128 * (5 : Fin 8).val) (by decide) rfl _) (strip_old (n := 2048) (View.whole cc0_scratch1) U (t.val / 64) (t.val % 64) 4096 _ _ _ hub (newB m c U W Bc DT Db Al D Z N H t) 2 640 (4096 + 128 * (5 : Fin 8).val) (by decide) rfl _) (strip_new (n := 2048) (View.whole cc0_scratch1) U (t.val / 64) (t.val % 64) 4096 [] _ _ (newB m c U W Bc DT Db Al D Z N H t) 640 (4096 + 128 * (5 : Fin 8).val) rfl _) l j)
      (fun n j => (ld_cols (e := .f32) _ 2560 _ n j (by omega)).trans (hst _))) (hx0.trans (Nat.zero_add _).symm) hx1
  · refine Eq.trans (b := stateOut 4 _ _ (convX _ _ _ _ _ _ _ _ _) (convB _ _ _ _ _ _ _ _ _) _ x) rfl ?_
    refine st_at U W Bc DT Db Al 4 (t.val / 64) (t.val % 64 + 1) _ y x (state_next 4 (iblk m c 3 t) (iblk m c 8 t) (iblk m c 9 t) (iblk m c 12 t) U W Bc DT Db Al
      (t.val / 64) (t.val % 64) _ _ _ (read3 m c U W Bc DT Db Al D Z N H t) (read8 m c U W Bc DT Db Al D Z N H t) (read9 m c U W Bc DT Db Al D Z N H t) (read12 m c t)
      (fun l j => convX_real U W Bc (t.val / 64) (t.val % 64) (512 * (4 : Fin 8).val) _ _ _ _ _ _ _ _ _ (bx m c U W Bc DT Db Al D Z N H t 2048 (by decide) _) (wx m c U W Bc DT Db Al D Z N H t 0 2048 (by decide) (by decide) _) (wx m c U W Bc DT Db Al D Z N H t 1 2048 (by decide) (by decide) _) (wx m c U W Bc DT Db Al D Z N H t 2 2048 (by decide) (by decide) _) (wx m c U W Bc DT Db Al D Z N H t 3 2048 (by decide) (by decide) _)
      (strip_old (n := 4096) (View.whole cc0_scratch0) U (t.val / 64) (t.val % 64) 0 _ _ _ hux (newX m c U W Bc DT Db Al D Z N H t) 0 2048 (512 * (4 : Fin 8).val) (by decide) rfl _) (strip_old (n := 4096) (View.whole cc0_scratch0) U (t.val / 64) (t.val % 64) 0 _ _ _ hux (newX m c U W Bc DT Db Al D Z N H t) 1 2048 (512 * (4 : Fin 8).val) (by decide) rfl _) (strip_old (n := 4096) (View.whole cc0_scratch0) U (t.val / 64) (t.val % 64) 0 _ _ _ hux (newX m c U W Bc DT Db Al D Z N H t) 2 2048 (512 * (4 : Fin 8).val) (by decide) rfl _) (strip_new (n := 4096) (View.whole cc0_scratch0) U (t.val / 64) (t.val % 64) 0 [] _ _ (newX m c U W Bc DT Db Al D Z N H t) 2048 (512 * (4 : Fin 8).val) rfl _) l j)
      (fun l j => convB_real U W Bc (t.val / 64) (t.val % 64) (4096 + 128 * (4 : Fin 8).val) _ _ _ _ _ _ _ _ _ (bb m c U W Bc DT Db Al D Z N H t 512 (4096 + 128 * (4 : Fin 8).val) (by decide) rfl _) (wb m c U W Bc DT Db Al D Z N H t 0 512 (4096 + 128 * (4 : Fin 8).val) (by decide) (by decide) rfl _) (wb m c U W Bc DT Db Al D Z N H t 1 512 (4096 + 128 * (4 : Fin 8).val) (by decide) (by decide) rfl _) (wb m c U W Bc DT Db Al D Z N H t 2 512 (4096 + 128 * (4 : Fin 8).val) (by decide) (by decide) rfl _) (wb m c U W Bc DT Db Al D Z N H t 3 512 (4096 + 128 * (4 : Fin 8).val) (by decide) (by decide) rfl _)
      (strip_old (n := 2048) (View.whole cc0_scratch1) U (t.val / 64) (t.val % 64) 4096 _ _ _ hub (newB m c U W Bc DT Db Al D Z N H t) 0 512 (4096 + 128 * (4 : Fin 8).val) (by decide) rfl _) (strip_old (n := 2048) (View.whole cc0_scratch1) U (t.val / 64) (t.val % 64) 4096 _ _ _ hub (newB m c U W Bc DT Db Al D Z N H t) 1 512 (4096 + 128 * (4 : Fin 8).val) (by decide) rfl _) (strip_old (n := 2048) (View.whole cc0_scratch1) U (t.val / 64) (t.val % 64) 4096 _ _ _ hub (newB m c U W Bc DT Db Al D Z N H t) 2 512 (4096 + 128 * (4 : Fin 8).val) (by decide) rfl _) (strip_new (n := 2048) (View.whole cc0_scratch1) U (t.val / 64) (t.val % 64) 4096 [] _ _ (newB m c U W Bc DT Db Al D Z N H t) 512 (4096 + 128 * (4 : Fin 8).val) rfl _) l j)
      (fun n j => (ld_cols (e := .f32) _ 2048 _ n j (by omega)).trans (hst _))) (hx0.trans (Nat.zero_add _).symm) hx1
  · refine Eq.trans (b := stateOut 3 _ _ (convX _ _ _ _ _ _ _ _ _) (convB _ _ _ _ _ _ _ _ _) _ x) rfl ?_
    refine st_at U W Bc DT Db Al 3 (t.val / 64) (t.val % 64 + 1) _ y x (state_next 3 (iblk m c 3 t) (iblk m c 8 t) (iblk m c 9 t) (iblk m c 12 t) U W Bc DT Db Al
      (t.val / 64) (t.val % 64) _ _ _ (read3 m c U W Bc DT Db Al D Z N H t) (read8 m c U W Bc DT Db Al D Z N H t) (read9 m c U W Bc DT Db Al D Z N H t) (read12 m c t)
      (fun l j => convX_real U W Bc (t.val / 64) (t.val % 64) (512 * (3 : Fin 8).val) _ _ _ _ _ _ _ _ _ (bx m c U W Bc DT Db Al D Z N H t 1536 (by decide) _) (wx m c U W Bc DT Db Al D Z N H t 0 1536 (by decide) (by decide) _) (wx m c U W Bc DT Db Al D Z N H t 1 1536 (by decide) (by decide) _) (wx m c U W Bc DT Db Al D Z N H t 2 1536 (by decide) (by decide) _) (wx m c U W Bc DT Db Al D Z N H t 3 1536 (by decide) (by decide) _)
      (strip_old (n := 4096) (View.whole cc0_scratch0) U (t.val / 64) (t.val % 64) 0 _ _ _ hux (newX m c U W Bc DT Db Al D Z N H t) 0 1536 (512 * (3 : Fin 8).val) (by decide) rfl _) (strip_old (n := 4096) (View.whole cc0_scratch0) U (t.val / 64) (t.val % 64) 0 _ _ _ hux (newX m c U W Bc DT Db Al D Z N H t) 1 1536 (512 * (3 : Fin 8).val) (by decide) rfl _) (strip_old (n := 4096) (View.whole cc0_scratch0) U (t.val / 64) (t.val % 64) 0 _ _ _ hux (newX m c U W Bc DT Db Al D Z N H t) 2 1536 (512 * (3 : Fin 8).val) (by decide) rfl _) (strip_new (n := 4096) (View.whole cc0_scratch0) U (t.val / 64) (t.val % 64) 0 [] _ _ (newX m c U W Bc DT Db Al D Z N H t) 1536 (512 * (3 : Fin 8).val) rfl _) l j)
      (fun l j => convB_real U W Bc (t.val / 64) (t.val % 64) (4096 + 128 * (3 : Fin 8).val) _ _ _ _ _ _ _ _ _ (bb m c U W Bc DT Db Al D Z N H t 384 (4096 + 128 * (3 : Fin 8).val) (by decide) rfl _) (wb m c U W Bc DT Db Al D Z N H t 0 384 (4096 + 128 * (3 : Fin 8).val) (by decide) (by decide) rfl _) (wb m c U W Bc DT Db Al D Z N H t 1 384 (4096 + 128 * (3 : Fin 8).val) (by decide) (by decide) rfl _) (wb m c U W Bc DT Db Al D Z N H t 2 384 (4096 + 128 * (3 : Fin 8).val) (by decide) (by decide) rfl _) (wb m c U W Bc DT Db Al D Z N H t 3 384 (4096 + 128 * (3 : Fin 8).val) (by decide) (by decide) rfl _)
      (strip_old (n := 2048) (View.whole cc0_scratch1) U (t.val / 64) (t.val % 64) 4096 _ _ _ hub (newB m c U W Bc DT Db Al D Z N H t) 0 384 (4096 + 128 * (3 : Fin 8).val) (by decide) rfl _) (strip_old (n := 2048) (View.whole cc0_scratch1) U (t.val / 64) (t.val % 64) 4096 _ _ _ hub (newB m c U W Bc DT Db Al D Z N H t) 1 384 (4096 + 128 * (3 : Fin 8).val) (by decide) rfl _) (strip_old (n := 2048) (View.whole cc0_scratch1) U (t.val / 64) (t.val % 64) 4096 _ _ _ hub (newB m c U W Bc DT Db Al D Z N H t) 2 384 (4096 + 128 * (3 : Fin 8).val) (by decide) rfl _) (strip_new (n := 2048) (View.whole cc0_scratch1) U (t.val / 64) (t.val % 64) 4096 [] _ _ (newB m c U W Bc DT Db Al D Z N H t) 384 (4096 + 128 * (3 : Fin 8).val) rfl _) l j)
      (fun n j => (ld_cols (e := .f32) _ 1536 _ n j (by omega)).trans (hst _))) (hx0.trans (Nat.zero_add _).symm) hx1
  · refine Eq.trans (b := stateOut 2 _ _ (convX _ _ _ _ _ _ _ _ _) (convB _ _ _ _ _ _ _ _ _) _ x) rfl ?_
    refine st_at U W Bc DT Db Al 2 (t.val / 64) (t.val % 64 + 1) _ y x (state_next 2 (iblk m c 3 t) (iblk m c 8 t) (iblk m c 9 t) (iblk m c 12 t) U W Bc DT Db Al
      (t.val / 64) (t.val % 64) _ _ _ (read3 m c U W Bc DT Db Al D Z N H t) (read8 m c U W Bc DT Db Al D Z N H t) (read9 m c U W Bc DT Db Al D Z N H t) (read12 m c t)
      (fun l j => convX_real U W Bc (t.val / 64) (t.val % 64) (512 * (2 : Fin 8).val) _ _ _ _ _ _ _ _ _ (bx m c U W Bc DT Db Al D Z N H t 1024 (by decide) _) (wx m c U W Bc DT Db Al D Z N H t 0 1024 (by decide) (by decide) _) (wx m c U W Bc DT Db Al D Z N H t 1 1024 (by decide) (by decide) _) (wx m c U W Bc DT Db Al D Z N H t 2 1024 (by decide) (by decide) _) (wx m c U W Bc DT Db Al D Z N H t 3 1024 (by decide) (by decide) _)
      (strip_old (n := 4096) (View.whole cc0_scratch0) U (t.val / 64) (t.val % 64) 0 _ _ _ hux (newX m c U W Bc DT Db Al D Z N H t) 0 1024 (512 * (2 : Fin 8).val) (by decide) rfl _) (strip_old (n := 4096) (View.whole cc0_scratch0) U (t.val / 64) (t.val % 64) 0 _ _ _ hux (newX m c U W Bc DT Db Al D Z N H t) 1 1024 (512 * (2 : Fin 8).val) (by decide) rfl _) (strip_old (n := 4096) (View.whole cc0_scratch0) U (t.val / 64) (t.val % 64) 0 _ _ _ hux (newX m c U W Bc DT Db Al D Z N H t) 2 1024 (512 * (2 : Fin 8).val) (by decide) rfl _) (strip_new (n := 4096) (View.whole cc0_scratch0) U (t.val / 64) (t.val % 64) 0 [] _ _ (newX m c U W Bc DT Db Al D Z N H t) 1024 (512 * (2 : Fin 8).val) rfl _) l j)
      (fun l j => convB_real U W Bc (t.val / 64) (t.val % 64) (4096 + 128 * (2 : Fin 8).val) _ _ _ _ _ _ _ _ _ (bb m c U W Bc DT Db Al D Z N H t 256 (4096 + 128 * (2 : Fin 8).val) (by decide) rfl _) (wb m c U W Bc DT Db Al D Z N H t 0 256 (4096 + 128 * (2 : Fin 8).val) (by decide) (by decide) rfl _) (wb m c U W Bc DT Db Al D Z N H t 1 256 (4096 + 128 * (2 : Fin 8).val) (by decide) (by decide) rfl _) (wb m c U W Bc DT Db Al D Z N H t 2 256 (4096 + 128 * (2 : Fin 8).val) (by decide) (by decide) rfl _) (wb m c U W Bc DT Db Al D Z N H t 3 256 (4096 + 128 * (2 : Fin 8).val) (by decide) (by decide) rfl _)
      (strip_old (n := 2048) (View.whole cc0_scratch1) U (t.val / 64) (t.val % 64) 4096 _ _ _ hub (newB m c U W Bc DT Db Al D Z N H t) 0 256 (4096 + 128 * (2 : Fin 8).val) (by decide) rfl _) (strip_old (n := 2048) (View.whole cc0_scratch1) U (t.val / 64) (t.val % 64) 4096 _ _ _ hub (newB m c U W Bc DT Db Al D Z N H t) 1 256 (4096 + 128 * (2 : Fin 8).val) (by decide) rfl _) (strip_old (n := 2048) (View.whole cc0_scratch1) U (t.val / 64) (t.val % 64) 4096 _ _ _ hub (newB m c U W Bc DT Db Al D Z N H t) 2 256 (4096 + 128 * (2 : Fin 8).val) (by decide) rfl _) (strip_new (n := 2048) (View.whole cc0_scratch1) U (t.val / 64) (t.val % 64) 4096 [] _ _ (newB m c U W Bc DT Db Al D Z N H t) 256 (4096 + 128 * (2 : Fin 8).val) rfl _) l j)
      (fun n j => (ld_cols (e := .f32) _ 1024 _ n j (by omega)).trans (hst _))) (hx0.trans (Nat.zero_add _).symm) hx1
  · refine Eq.trans (b := stateOut 1 _ _ (convX _ _ _ _ _ _ _ _ _) (convB _ _ _ _ _ _ _ _ _) _ x) rfl ?_
    refine st_at U W Bc DT Db Al 1 (t.val / 64) (t.val % 64 + 1) _ y x (state_next 1 (iblk m c 3 t) (iblk m c 8 t) (iblk m c 9 t) (iblk m c 12 t) U W Bc DT Db Al
      (t.val / 64) (t.val % 64) _ _ _ (read3 m c U W Bc DT Db Al D Z N H t) (read8 m c U W Bc DT Db Al D Z N H t) (read9 m c U W Bc DT Db Al D Z N H t) (read12 m c t)
      (fun l j => convX_real U W Bc (t.val / 64) (t.val % 64) (512 * (1 : Fin 8).val) _ _ _ _ _ _ _ _ _ (bx m c U W Bc DT Db Al D Z N H t 512 (by decide) _) (wx m c U W Bc DT Db Al D Z N H t 0 512 (by decide) (by decide) _) (wx m c U W Bc DT Db Al D Z N H t 1 512 (by decide) (by decide) _) (wx m c U W Bc DT Db Al D Z N H t 2 512 (by decide) (by decide) _) (wx m c U W Bc DT Db Al D Z N H t 3 512 (by decide) (by decide) _)
      (strip_old (n := 4096) (View.whole cc0_scratch0) U (t.val / 64) (t.val % 64) 0 _ _ _ hux (newX m c U W Bc DT Db Al D Z N H t) 0 512 (512 * (1 : Fin 8).val) (by decide) rfl _) (strip_old (n := 4096) (View.whole cc0_scratch0) U (t.val / 64) (t.val % 64) 0 _ _ _ hux (newX m c U W Bc DT Db Al D Z N H t) 1 512 (512 * (1 : Fin 8).val) (by decide) rfl _) (strip_old (n := 4096) (View.whole cc0_scratch0) U (t.val / 64) (t.val % 64) 0 _ _ _ hux (newX m c U W Bc DT Db Al D Z N H t) 2 512 (512 * (1 : Fin 8).val) (by decide) rfl _) (strip_new (n := 4096) (View.whole cc0_scratch0) U (t.val / 64) (t.val % 64) 0 [] _ _ (newX m c U W Bc DT Db Al D Z N H t) 512 (512 * (1 : Fin 8).val) rfl _) l j)
      (fun l j => convB_real U W Bc (t.val / 64) (t.val % 64) (4096 + 128 * (1 : Fin 8).val) _ _ _ _ _ _ _ _ _ (bb m c U W Bc DT Db Al D Z N H t 128 (4096 + 128 * (1 : Fin 8).val) (by decide) rfl _) (wb m c U W Bc DT Db Al D Z N H t 0 128 (4096 + 128 * (1 : Fin 8).val) (by decide) (by decide) rfl _) (wb m c U W Bc DT Db Al D Z N H t 1 128 (4096 + 128 * (1 : Fin 8).val) (by decide) (by decide) rfl _) (wb m c U W Bc DT Db Al D Z N H t 2 128 (4096 + 128 * (1 : Fin 8).val) (by decide) (by decide) rfl _) (wb m c U W Bc DT Db Al D Z N H t 3 128 (4096 + 128 * (1 : Fin 8).val) (by decide) (by decide) rfl _)
      (strip_old (n := 2048) (View.whole cc0_scratch1) U (t.val / 64) (t.val % 64) 4096 _ _ _ hub (newB m c U W Bc DT Db Al D Z N H t) 0 128 (4096 + 128 * (1 : Fin 8).val) (by decide) rfl _) (strip_old (n := 2048) (View.whole cc0_scratch1) U (t.val / 64) (t.val % 64) 4096 _ _ _ hub (newB m c U W Bc DT Db Al D Z N H t) 1 128 (4096 + 128 * (1 : Fin 8).val) (by decide) rfl _) (strip_old (n := 2048) (View.whole cc0_scratch1) U (t.val / 64) (t.val % 64) 4096 _ _ _ hub (newB m c U W Bc DT Db Al D Z N H t) 2 128 (4096 + 128 * (1 : Fin 8).val) (by decide) rfl _) (strip_new (n := 2048) (View.whole cc0_scratch1) U (t.val / 64) (t.val % 64) 4096 [] _ _ (newB m c U W Bc DT Db Al D Z N H t) 128 (4096 + 128 * (1 : Fin 8).val) rfl _) l j)
      (fun n j => (ld_cols (e := .f32) _ 512 _ n j (by omega)).trans (hst _))) (hx0.trans (Nat.zero_add _).symm) hx1
  · refine Eq.trans (b := stateOut 0 _ _ (convX _ _ _ _ _ _ _ _ _) (convB _ _ _ _ _ _ _ _ _) _ x) rfl ?_
    refine st_at U W Bc DT Db Al 0 (t.val / 64) (t.val % 64 + 1) _ y x (state_next 0 (iblk m c 3 t) (iblk m c 8 t) (iblk m c 9 t) (iblk m c 12 t) U W Bc DT Db Al
      (t.val / 64) (t.val % 64) _ _ _ (read3 m c U W Bc DT Db Al D Z N H t) (read8 m c U W Bc DT Db Al D Z N H t) (read9 m c U W Bc DT Db Al D Z N H t) (read12 m c t)
      (fun l j => convX_real U W Bc (t.val / 64) (t.val % 64) (512 * (0 : Fin 8).val) _ _ _ _ _ _ _ _ _ (bx m c U W Bc DT Db Al D Z N H t 0 (by decide) _) (wx m c U W Bc DT Db Al D Z N H t 0 0 (by decide) (by decide) _) (wx m c U W Bc DT Db Al D Z N H t 1 0 (by decide) (by decide) _) (wx m c U W Bc DT Db Al D Z N H t 2 0 (by decide) (by decide) _) (wx m c U W Bc DT Db Al D Z N H t 3 0 (by decide) (by decide) _)
      (strip_old (n := 4096) (View.whole cc0_scratch0) U (t.val / 64) (t.val % 64) 0 _ _ _ hux (newX m c U W Bc DT Db Al D Z N H t) 0 0 (512 * (0 : Fin 8).val) (by decide) rfl _) (strip_old (n := 4096) (View.whole cc0_scratch0) U (t.val / 64) (t.val % 64) 0 _ _ _ hux (newX m c U W Bc DT Db Al D Z N H t) 1 0 (512 * (0 : Fin 8).val) (by decide) rfl _) (strip_old (n := 4096) (View.whole cc0_scratch0) U (t.val / 64) (t.val % 64) 0 _ _ _ hux (newX m c U W Bc DT Db Al D Z N H t) 2 0 (512 * (0 : Fin 8).val) (by decide) rfl _) (strip_new (n := 4096) (View.whole cc0_scratch0) U (t.val / 64) (t.val % 64) 0 [] _ _ (newX m c U W Bc DT Db Al D Z N H t) 0 (512 * (0 : Fin 8).val) rfl _) l j)
      (fun l j => convB_real U W Bc (t.val / 64) (t.val % 64) (4096 + 128 * (0 : Fin 8).val) _ _ _ _ _ _ _ _ _ (bb m c U W Bc DT Db Al D Z N H t 0 (4096 + 128 * (0 : Fin 8).val) (by decide) rfl _) (wb m c U W Bc DT Db Al D Z N H t 0 0 (4096 + 128 * (0 : Fin 8).val) (by decide) (by decide) rfl _) (wb m c U W Bc DT Db Al D Z N H t 1 0 (4096 + 128 * (0 : Fin 8).val) (by decide) (by decide) rfl _) (wb m c U W Bc DT Db Al D Z N H t 2 0 (4096 + 128 * (0 : Fin 8).val) (by decide) (by decide) rfl _) (wb m c U W Bc DT Db Al D Z N H t 3 0 (4096 + 128 * (0 : Fin 8).val) (by decide) (by decide) rfl _)
      (strip_old (n := 2048) (View.whole cc0_scratch1) U (t.val / 64) (t.val % 64) 4096 _ _ _ hub (newB m c U W Bc DT Db Al D Z N H t) 0 0 (4096 + 128 * (0 : Fin 8).val) (by decide) rfl _) (strip_old (n := 2048) (View.whole cc0_scratch1) U (t.val / 64) (t.val % 64) 4096 _ _ _ hub (newB m c U W Bc DT Db Al D Z N H t) 1 0 (4096 + 128 * (0 : Fin 8).val) (by decide) rfl _) (strip_old (n := 2048) (View.whole cc0_scratch1) U (t.val / 64) (t.val % 64) 4096 _ _ _ hub (newB m c U W Bc DT Db Al D Z N H t) 2 0 (4096 + 128 * (0 : Fin 8).val) (by decide) rfl _) (strip_new (n := 2048) (View.whole cc0_scratch1) U (t.val / 64) (t.val % 64) 4096 [] _ _ (newB m c U W Bc DT Db Al D Z N H t) 0 (4096 + 128 * (0 : Fin 8).val) rfl _) l j)
      (fun n j => (ld_cols (e := .f32) _ 0 _ n j (by omega)).trans (hst _))) (hx0.trans (Nat.zero_add _).symm) (hx1.trans (Nat.zero_add _).symm)

end Cert.Kernel12Ideal.Scan

end
-- ==== Proof.Scan.Run.lean ====
module

public import proofs.«01_k».proof.Proof.Scan.OutA
public import proofs.«01_k».proof.Proof.Scan.OutB
public import proofs.«01_k».proof.Proof.Scan.StA
public import proofs.«01_k».proof.Proof.Scan.StB

@[expose] public section

set_option maxRecDepth 16384
noncomputable section

namespace Cert.Kernel12Ideal.Scan

open Cert.Kernel12Ideal Cert.Kernel12Ideal.Gen Idealize.ShloMosaic Idealize.ShloMosaic.TcCoe Idealize.SL.Sem Cert.Scan

variable (m : (ℓ : Loc nD τ sig) → Buf (Elt Ideal) ℓ) (c : Dev nD) (U W : ℕ → ℕ → ℝ) (Bc : ℕ → Option ℝ) (DT : ℕ → ℕ → Option ℝ) (Db : ℕ → Option ℝ) (Al : ℕ → EReal)
variable (D : ℕ → EReal) (Z : ℕ → ℕ → EReal) (N : ℕ → EReal) (H : Holds m c U W Bc DT Db Al D Z N)

include H

theorem left_A (t : Fin cfg0.N) (h : t.val % 64 = 0) : Left m c U W Bc DT Db Al t.val t.isLt where
  ux r j h5 h8 := by
    rw [outsAt0_A m c t h]
    frame_out
    exact carry (n := 4096) (View.whole cc0_scratch0) U (t.val / 64) (t.val % 64) 0 _ _ _ _ _ _ _ (pay2_eq _) (newX m c U W Bc DT Db Al D Z N H t) r j h5 h8
  ub r j h5 h8 := by
    rw [outsAt0_A m c t h]
    frame_out
    exact carry (n := 2048) (View.whole cc0_scratch1) U (t.val / 64) (t.val % 64) 4096 _ _ _ _ _ _ _ (pay3_eq _) (newB m c U W Bc DT Db Al D Z N H t) r j h5 h8
  st y := st_A m c U W Bc DT Db Al D Z N H t h y

section Step

variable (t : Fin cfg0.N) (h : ¬ t.val % 64 = 0) (P : Left m c U W Bc DT Db Al (t.val - 1) (lt_of_le_of_lt (Nat.sub_le _ _) t.isLt))

omit H
include h

theorem prev_div : (t.val - 1) / 64 = t.val / 64 := by omega

theorem prev_mod : (t.val - 1) % 64 + 1 = t.val % 64 := by omega

include P

theorem old_ux (r : Fin 136) (j : Fin 4096) (h5 : 5 ≤ r.val) (h8 : r.val < 8) :
    (View.whole cc0_scratch0).read (Elt Ideal) ((Memref.isWhole_whole cc0_scratch0).unread (outsAt0 m c (t.val - 1) (lt_of_le_of_lt (Nat.sub_le _ _) t.isLt)).2.1) (ix2 r j)
      = (past U (t.val / 64) (128 * (t.val % 64) + (r.val - 5)) (0 + j.val) : EReal) := by
  refine (congrFun (read_unread_whole cc0_scratch0 _ _) _).trans ((P.ux r j h5 h8).trans ?_)
  rw [prev_div t h, prev_mod t h]

theorem old_ub (r : Fin 136) (j : Fin 2048) (h5 : 5 ≤ r.val) (h8 : r.val < 8) :
    (View.whole cc0_scratch1).read (Elt Ideal) ((Memref.isWhole_whole cc0_scratch1).unread (outsAt0 m c (t.val - 1) (lt_of_le_of_lt (Nat.sub_le _ _) t.isLt)).2.2.1) (ix2 r j)
      = (past U (t.val / 64) (128 * (t.val % 64) + (r.val - 5)) (4096 + j.val) : EReal) := by
  refine (congrFun (read_unread_whole cc0_scratch1 _ _) _).trans ((P.ub r j h5 h8).trans ?_)
  rw [prev_div t h, prev_mod t h]

theorem old_st (y : S128x4096.Idx) :
    (View.whole cc0_scratch2).read (Elt Ideal) ((Memref.isWhole_whole cc0_scratch2).unread (outsAt0 m c (t.val - 1) (lt_of_le_of_lt (Nat.sub_le _ _) t.isLt)).2.2.2) y
      = (state U W Bc DT Db Al (t.val / 64) (t.val % 64) (y 0).val (y 1).val : EReal) := by
  refine (congrFun (read_unread_whole cc0_scratch2 _ _) _).trans ((P.st y).trans ?_)
  rw [prev_div t h, prev_mod t h]

include H

theorem left_B : Left m c U W Bc DT Db Al t.val t.isLt where
  ux r j h5 h8 := by
    rw [outsAt0_B m c t h]
    frame_out
    exact carry (n := 4096) (View.whole cc0_scratch0) U (t.val / 64) (t.val % 64) 0 _ _ _ _ _ _ _ (pay2_eq _) (newX m c U W Bc DT Db Al D Z N H t) r j h5 h8
  ub r j h5 h8 := by
    rw [outsAt0_B m c t h]
    frame_out
    exact carry (n := 2048) (View.whole cc0_scratch1) U (t.val / 64) (t.val % 64) 4096 _ _ _ _ _ _ _ (pay3_eq _) (newB m c U W Bc DT Db Al D Z N H t) r j h5 h8
  st y := st_B m c U W Bc DT Db Al D Z N H t h (old_ux m c U W Bc DT Db Al t h P) (old_ub m c U W Bc DT Db Al t h P) (old_st m c U W Bc DT Db Al t h P) y

end Step

/-- Every point leaves the last rows and the state. -/
theorem left : ∀ (n : ℕ) (hn : n < cfg0.N), Left m c U W Bc DT Db Al n hn
  | 0, hn => left_A m c U W Bc DT Db Al D Z N H ⟨0, hn⟩ rfl
  | n + 1, hn => by
    by_cases h : (n + 1) % 64 = 0
    · exact left_A m c U W Bc DT Db Al D Z N H ⟨n + 1, hn⟩ h
    · exact left_B m c U W Bc DT Db Al D Z N H ⟨n + 1, hn⟩ h (left n _)

/-- What a grid point leaves in its block of the output. -/
theorem point_out (t : Fin cfg0.N) (y : S128x4096.Idx) :
    (outsAt0 m c t.val t.isLt).1 y = out U W Bc DT Db Al D Z N (t.val / 64) (128 * (t.val % 64) + (y 0).val) (y 1).val := by
  by_cases h : t.val % 64 = 0
  · exact out_A m c U W Bc DT Db Al D Z N H t h y
  · have P := left m c U W Bc DT Db Al D Z N H (t.val - 1) (lt_of_le_of_lt (Nat.sub_le _ _) t.isLt)
    exact out_B m c U W Bc DT Db Al D Z N H t h (old_ux m c U W Bc DT Db Al t h P) (old_ub m c U W Bc DT Db Al t h P) (old_st m c U W Bc DT Db Al t h P) y

/-- The output array after the run. -/
theorem final : (dats m 0 c).arrAt 13 cfg0.N
    = (fun i => out U W Bc DT Db Al D Z N ((i 0).val / 8192) ((i 0).val % 8192) (i 1).val : Vec Ideal S16384x4096 .bf16) := by
  refine (dats m 0 c).arrAt_eq_of_covers 13 _ ?_ fun t hf y => ?_
  · refine Pipeline.Window.covers_of_index_surj _ rfl (by decide) fun β => ?_
    have b0 : (β 0).val < 128 := (β 0).isLt
    have b1 : (β 1).val < 1 := (β 1).isLt
    refine ⟨⟨(β 0).val, lt_of_lt_of_eq b0 N_0.symm⟩, fun a => ?_⟩
    have hi : (cfg0.win 13).index ⟨(β 0).val, lt_of_lt_of_eq b0 N_0.symm⟩ = ![(β 0).val, 0] := idx13 _
    rw [hi]
    match a with
    | ⟨0, _⟩ => rfl
    | ⟨1, _⟩ => show 0 = (β 1).val; omega
  · blk_simp
    rw [after0_13]
    refine (point_out m c U W Bc DT Db Al D Z N H t y).trans ?_
    have ht := tlt t
    have hy0 : (y 0).val < 128 := (y 0).isLt
    blk_simp [idx13]
    show out U W Bc DT Db Al D Z N _ _ _ = out U W Bc DT Db Al D Z N ((t.val * 128 + (y 0).val) / 8192) ((t.val * 128 + (y 0).val) % 8192) (y 1).val
    congr 1 <;> omega

end Cert.Kernel12Ideal.Scan

end
-- ==== Proof.Scan.RefVals.lean ====
module

public import proofs.«01_k».proof.Proof.Gen.Reference12Ideal.Run
public import proofs.«01_k».proof.Proof.Scan.Math
public import proofs.«01_k».proof.Proof.Attn.RefVals
public import proofs.«01_k».proof.Proof.Scan.Common
public import Idealize.ShloMosaic.Lib.Pointwise

@[expose] public section

set_option maxRecDepth 16384
noncomputable section

namespace Cert.Reference12Ideal.Scan

open Cert.Reference12Ideal Cert.Reference12Ideal.Gen Cert.Reference12Ideal.Value Idealize.ShloMosaic Idealize.ShloMosaic.TcCoe Idealize.SL.Sem Idealize.ShloMosaic.StableHlo Cert.Scan Cert.Attn

variable (V0 : Valuation τ sig (Elt Ideal))

abbrev A0 : Vec Ideal S16384x10240 .bf16 := V0 (Proc.devRef .tc main_arg0)
abbrev A1 : Vec Ideal S16384x128 .f32 := V0 (Proc.devRef .tc main_arg1)
abbrev A2 : Vec Ideal S4x6144 .f32 := V0 (Proc.devRef .tc main_arg2)
abbrev A3 : Vec Ideal S6144 .f32 := V0 (Proc.devRef .tc main_arg3)
abbrev A4 : Vec Ideal S64 .f32 := V0 (Proc.devRef .tc main_arg4)
abbrev A5 : Vec Ideal S64 .f32 := V0 (Proc.devRef .tc main_arg5)
abbrev A6 : Vec Ideal S64 .f32 := V0 (Proc.devRef .tc main_arg6)
abbrev A7 : Vec Ideal S4096 .f32 := V0 (Proc.devRef .tc main_arg7)

abbrev R6 : Vec Ideal S2x8195x6144 .f32 := res_main_v6 V0
abbrev R36 : Vec Ideal S2x8192x6144 .f32 := res_main_v36 V0
abbrev R37 : Vec Ideal S2x8192x6144 .f32 := res_main_v37 V0
abbrev R39 : Vec Ideal S2x8192x64x64 .f32 := res_main_v39 V0
abbrev R48 : Vec Ideal S2x8192x64 .f32 := res_main_v48 V0
abbrev R49 : Vec Ideal S2x8192x64 .f32 := res_main_v49 V0
abbrev R64 : Vec Ideal S2x64x8192 .f32 := res_main_v64 V0
abbrev R1 : Vec Ideal S16384x4096 .f32 := res_main_v1 V0
abbrev R89 : Vec Ideal S16384x8x512 .f32 := res_main_v89 V0
abbrev R61 : IVec S8192x8192 1 := res_main_v61 V0

theorem one_word : Ideal.ofBits FTy.f32 0x3F800000#32 = 1 := by
  simp [Ideal.ofBits, Ideal.ieee, -EReal.coe_mul]; norm_num

theorem zero_word : Ideal.ofBits FTy.f32 0#32 = 0 := by simp [Ideal.ofBits, Ideal.ieee]

theorem silu_real (x : Option ℝ) : lo x * Ideal.div 1 (1 + Ideal.exp (-lo x)) = (sil x : EReal) := by
  show lo x * Ideal.logistic (lo x) = _
  cases x with
  | none =>
    show (⊥ : EReal) * Ideal.logistic ⊥ = ((0 : ℝ) : EReal)
    rw [Ideal.logistic_bot, mul_zero, EReal.coe_zero]
  | some r =>
    show (r : EReal) * Ideal.logistic (r : EReal) = ((r * (1 + Real.exp (-r))⁻¹ : ℝ) : EReal)
    rw [Ideal.logistic_coe, EReal.coe_mul]

theorem v1_apply (i : Fin 16384) (j : Fin 4096) : R1 V0 (ix2 i j) = A0 V0 (ix2 i ⟨j.val, by omega⟩) := by
  pointwise [res_main_v1]

theorem v6_apply (b : Fin 2) (s : Fin 8195) (j : Fin 6144) : R6 V0 (ix3 b s j)
    = if h : s.val < 3 then (0 : EReal) else A0 V0 (ix2 ⟨b.val * 8192 + (s.val - 3), by omega⟩ ⟨4096 + j.val, by omega⟩) := by
  pointwise [res_main_v6]

theorem v36_apply (b : Fin 2) (s : Fin 8192) (j : Fin 6144) : R36 V0 (ix3 b s j)
    = A3 V0 (ix1 j) + R6 V0 (ix3 b ⟨s.val, by omega⟩ j) * A2 V0 (ix2 0 j)
      + R6 V0 (ix3 b ⟨1 + s.val, by omega⟩ j) * A2 V0 (ix2 1 j)
      + R6 V0 (ix3 b ⟨2 + s.val, by omega⟩ j) * A2 V0 (ix2 2 j)
      + R6 V0 (ix3 b ⟨3 + s.val, by omega⟩ j) * A2 V0 (ix2 3 j) := by
  pointwise [res_main_v36]

theorem v37_apply (b : Fin 2) (s : Fin 8192) (j : Fin 6144) : R37 V0 (ix3 b s j)
    = R36 V0 (ix3 b s j)
      * Ideal.div 1 (1 + Ideal.exp (-R36 V0 (ix3 b s j))) := by
  rw [← one_word]
  pointwise [res_main_v37]

theorem v39_apply (b : Fin 2) (s : Fin 8192) (h e : Fin 64) : R39 V0 (ix4 b s h e)
    = R37 V0 (ix3 b s ⟨h.val * 64 + e.val, by omega⟩) := by
  pointwise [res_main_v39]

theorem v48_apply (b : Fin 2) (s : Fin 8192) (h : Fin 64) : R48 V0 (ix3 b s h)
    = A1 V0 (ix2 ⟨b.val * 8192 + s.val, by omega⟩ ⟨h.val, by omega⟩) + A4 V0 (ix1 h) := by
  pointwise [res_main_v48]

theorem v49_apply (b : Fin 2) (s : Fin 8192) (h : Fin 64) : R49 V0 (ix3 b s h)
    = max (R48 V0 (ix3 b s h)) 0 + Ideal.log1p (Ideal.exp (-(max (R48 V0 (ix3 b s h)) (-(R48 V0 (ix3 b s h)))))) := by
  pointwise [res_main_v49, res_main_call1_v3, res_main_call1_cst]
  exact if_neg (fun h => h rfl)

theorem v61_apply (t s : Fin 8192) : R61 V0 (ix2 t s) = if s.val ≤ t.val then 1#1 else 0#1 := by
  rw [← Cert.ReferenceIdeal.Attn.sle_val]
  pointwise [res_main_v61, res_main_v56]

theorem v64_apply (b : Fin 2) (h : Fin 64) (t : Fin 8192) : R64 V0 (ix3 b h t)
    = ∑ r : Fin 8192, if r.val ≤ t.val then R49 V0 (ix3 b r h) * -Ideal.exp (A5 V0 (ix1 h)) else 0 := by
  pointwise [res_main_v64]
  refine Finset.sum_congr rfl (fun r _ => ?_)
  rw [show res_main_v61 V0 (ix2 t r) = _ from v61_apply V0 t r, show (id (constant (F := Ideal) S_ FTy.f32 0#32) ix0 : EReal) = 0 from zero_word]
  by_cases hr : r.val ≤ t.val
  · rw [if_pos hr, if_pos hr]; rfl
  · rw [if_neg hr, if_neg hr]; rfl

theorem v89_apply (b : Fin 2) (t : Fin 8192) (h e : Fin 64) : R89 V0 (ix3 ⟨b.val * 8192 + t.val, by omega⟩ ⟨h.val / 8, by omega⟩ ⟨h.val % 8 * 64 + e.val, by omega⟩)
    = ((∑ s : Fin 8192, R39 V0 (ix4 b s h e) * R49 V0 (ix3 b s h) * ((∑ n : Fin 128, R37 V0 (ix3 b t ⟨5120 + (h.val / 8 * 128 + n.val), by omega⟩) * R37 V0 (ix3 b s ⟨4096 + (h.val / 8 * 128 + n.val), by omega⟩))
        * Ideal.exp (if s.val ≤ t.val then R64 V0 (ix3 b h t) - R64 V0 (ix3 b h s) else ⊥))) + A6 V0 (ix1 h) * R39 V0 (ix4 b t h e))
      * (R1 V0 (ix2 ⟨b.val * 8192 + t.val, by omega⟩ ⟨h.val / 8 * 512 + (h.val % 8 * 64 + e.val), by omega⟩)
        * Ideal.div 1 (1 + Ideal.exp (-R1 V0 (ix2 ⟨b.val * 8192 + t.val, by omega⟩ ⟨h.val / 8 * 512 + (h.val % 8 * 64 + e.val), by omega⟩)))) := by
  rw [← one_word]
  pointwise [res_main_v89]
  have e : ∀ x : Fin 8192, Scalar.select (res_main_v61 V0 (ix2 t x)) (R64 V0 (ix3 b h t) - R64 V0 (ix3 b h x))
      (id (constant (F := Ideal) S_ FTy.f32 4286578688#32) ix0) = if x.val ≤ t.val then R64 V0 (ix3 b h t) - R64 V0 (ix3 b h x) else ⊥ := fun x => by
    rw [show res_main_v61 V0 (ix2 t x) = _ from v61_apply V0 t x, show (id (constant (F := Ideal) S_ FTy.f32 4286578688#32) ix0 : EReal) = ⊥ from Cert.ReferenceIdeal.Attn.bot_word]
    by_cases hr : x.val ≤ t.val
    · rw [if_pos hr, if_pos hr]; rfl
    · rw [if_neg hr, if_neg hr]; rfl
  rw [Finset.sum_congr rfl (fun x _ => by rw [e x])]

/-- The result. -/
abbrev R104 : Vec Ideal S16384x4096 .bf16 := truncf .bf16 (mulf (shapeCast _ (mulf (res_main_v89 V0) (broadcastInDim S16384x8x512 ![0, 1, 2] bcast_S16384x8x1_S16384x8x512_0_1_2 (Host.rsqrt (addf (Host.divf (broadcastInDim S16384x8x1 ![0, 1] bcast_S16384x8_S16384x8x1_0_1 (Host.reduceAdd (mulf (res_main_v89 V0) (res_main_v89 V0)) (constant S_ .f32 0x00000000#32) reducesTo_S16384x8x512_S16384x8_d2 h_S_)) (broadcastInDim S16384x8x1 ![] bcast_S_S16384x8x1 (constant S_ .f32 0x44000000#32))) (broadcastInDim S16384x8x1 ![] bcast_S_S16384x8x1 (constant S_ .f32 0x358637BD#32)))))) shapeCasts_S16384x8x512_S16384x4096) (broadcastInDim S16384x4096 ![0, 1] bcast_S1x4096_S16384x4096_0_1 (broadcastInDim S1x4096 ![1] bcast_S4096_S1x4096_1 (V0 (Proc.devRef .tc main_arg7))))) bitsLt_bf16_f32

theorem v104_apply (i : Fin 16384) (g : Fin 8) (e : Fin 512) : R104 V0 (ix2 i ⟨g.val * 512 + e.val, by omega⟩)
    = R89 V0 (ix3 i g e) * Ideal.rsqrt (Ideal.div (∑ k : Fin 512, R89 V0 (ix3 i g k) * R89 V0 (ix3 i g k)) (Ideal.ofBits FTy.f32 0x44000000#32)
        + Ideal.ofBits FTy.f32 0x358637BD#32) * A7 V0 (ix1 ⟨g.val * 512 + e.val, by omega⟩) := by
  pointwise [R104]

/-- What the arguments hold: reals, or values below infinity, but for the gate's input, the logs of the rates, the skip weights and the norm's weights. -/
structure Holds (U W : ℕ → ℕ → ℝ) (Bc : ℕ → Option ℝ) (DT : ℕ → ℕ → Option ℝ) (Db : ℕ → Option ℝ) (Al : ℕ → EReal) (D : ℕ → EReal) (Z : ℕ → ℕ → EReal) (N : ℕ → EReal) : Prop where
  z : ∀ (i : Fin 16384) (j : Fin 10240), j.val < 4096 → A0 V0 (ix2 i j) = Z i.val j.val
  u : ∀ (i : Fin 16384) (j : Fin 10240), 4096 ≤ j.val → A0 V0 (ix2 i j) = (U i.val (j.val - 4096) : EReal)
  dt : ∀ (i : Fin 16384) (j : Fin 128), j.val < 64 → A1 V0 (ix2 i j) = lo (DT i.val j.val)
  w : ∀ (k : Fin 4) (j : Fin 6144), A2 V0 (ix2 k j) = (W k.val j.val : EReal)
  bc : ∀ j : Fin 6144, A3 V0 (ix1 j) = lo (Bc j.val)
  db : ∀ j : Fin 64, A4 V0 (ix1 j) = lo (Db j.val)
  al : ∀ j : Fin 64, A5 V0 (ix1 j) = Al j.val
  d : ∀ j : Fin 64, A6 V0 (ix1 j) = D j.val
  n : ∀ j : Fin 4096, A7 V0 (ix1 j) = N j.val

variable {V0}
variable {U W : ℕ → ℕ → ℝ} {Bc : ℕ → Option ℝ} {DT : ℕ → ℕ → Option ℝ} {Db : ℕ → Option ℝ} {Al : ℕ → EReal} {D : ℕ → EReal} {Z : ℕ → ℕ → EReal} {N : ℕ → EReal}
  (H : Holds V0 U W Bc DT Db Al D Z N)
include H

theorem v6_real (b : Fin 2) (s : Fin 8195) (j : Fin 6144) : R6 V0 (ix3 b s j) = (past U b.val s.val j.val : EReal) := by
  rw [v6_apply]
  unfold past
  by_cases h : s.val < 3
  · rw [dif_pos h, if_pos h, EReal.coe_zero]
  · rw [dif_neg h, if_neg h, H.u _ _ (by show 4096 ≤ 4096 + j.val; omega)]
    show ((U (b.val * 8192 + (s.val - 3)) (4096 + j.val - 4096) : ℝ) : EReal) = _
    rw [Nat.add_sub_cancel_left, Nat.mul_comm]

theorem v36_real (b : Fin 2) (s : Fin 8192) (j : Fin 6144) : R36 V0 (ix3 b s j) = lo (pre U W Bc b.val s.val j.val) := by
  rw [v36_apply, H.bc, H.w, H.w, H.w, H.w, v6_real H, v6_real H, v6_real H, v6_real H]
  simp only [← EReal.coe_mul, lo_add]
  unfold pre
  rw [Nat.add_comm s.val 1, Nat.add_comm s.val 2, Nat.add_comm s.val 3]
  rfl

theorem v37_real (b : Fin 2) (s : Fin 8192) (j : Fin 6144) : R37 V0 (ix3 b s j) = (cv U W Bc b.val s.val j.val : EReal) := by
  rw [v37_apply, v36_real H]
  exact silu_real _

theorem v39_real (b : Fin 2) (s : Fin 8192) (h e : Fin 64) : R39 V0 (ix4 b s h e) = (cv U W Bc b.val s.val (64 * h.val + e.val) : EReal) := by
  rw [v39_apply, v37_real H, Nat.mul_comm 64]

theorem v49_real (b : Fin 2) (s : Fin 8192) (h : Fin 64) : R49 V0 (ix3 b s h) = (dt DT Db b.val s.val h.val : EReal) := by
  rw [v49_apply, v48_apply, H.dt _ _ h.isLt, H.db, lo_plus, ← zero_sub (max _ _), Cert.Kernel12Ideal.Scan.softplus_lo]
  unfold dt
  rw [Nat.mul_comm 8192]

/-- The exponents of the sequence: minus infinity from the first positive step on, in a head whose rate is infinite. -/
theorem v64_real (b : Fin 2) (h : Fin 64) (t : Fin 8192) : R64 V0 (ix3 b h t) = if Al h.val = ⊤ then bo (∃ r ∈ (Finset.univ : Finset (Fin 8192)), r.val ≤ t.val ∧ 0 < dt DT Db b.val r.val h.val)
    else (cum DT Db Al b.val h.val (t.val + 1) : EReal) := by
  rw [v64_apply, H.al]
  split
  · next ht =>
    rw [← bo_sum]
    refine Finset.sum_congr rfl (fun r _ => ?_)
    rw [v49_real H, ht, Ideal.exp_top, EReal.neg_top, mul_bot_of (dt DT Db b.val r.val h.val) (sp_nonneg _)]
    by_cases hr : r.val ≤ t.val
    · rw [if_pos hr]
      exact congrArg bo (propext ⟨fun h => ⟨hr, h⟩, fun h => h.2⟩)
    · rw [if_neg hr]
      unfold bo
      rw [if_neg (fun h => hr h.1)]
  · next ht =>
    unfold cum
    rw [← sum_causal (fun r => da DT Db Al b.val r h.val) 8192 t.val t.isLt, ← coe_sum]
    refine Finset.sum_congr rfl (fun r _ => ?_)
    rw [v49_real H, exp_real _ ht, ← EReal.coe_neg, ← EReal.coe_mul]
    by_cases hr : r.val ≤ t.val
    · rw [if_pos hr, if_pos hr]; rfl
    · rw [if_neg hr, if_neg hr, EReal.coe_zero]

/-- A row's step with its decay. -/
theorem decay_real (b : Fin 2) (h : Fin 64) (t s : Fin 8192) (hs : s.val ≤ t.val) : (dt DT Db b.val s.val h.val : EReal) * Ideal.exp (R64 V0 (ix3 b h t) - R64 V0 (ix3 b h s))
    = ((dt DT Db b.val s.val h.val * ex (Al h.val) (cum DT Db Al b.val h.val (t.val + 1) - cum DT Db Al b.val h.val (s.val + 1)) : ℝ) : EReal) := by
  rw [v64_real H, v64_real H]
  unfold ex
  by_cases ht : Al h.val = ⊤
  · simp only [if_pos ht]
    rw [mul_zero, EReal.coe_zero]
    by_cases h0 : 0 < dt DT Db b.val s.val h.val
    · unfold bo
      rw [if_pos ⟨s, Finset.mem_univ _, hs, h0⟩, sub_eq_add_neg, EReal.bot_add, Ideal.exp_bot, mul_zero]
    · rw [show dt DT Db b.val s.val h.val = 0 from le_antisymm (not_lt.1 h0) (sp_nonneg _), EReal.coe_zero, zero_mul]
  · simp only [if_neg ht]
    rw [← EReal.coe_sub, Ideal.exp_coe, ← EReal.coe_mul]

theorem cb_real (b : Fin 2) (t s : Fin 8192) (g : ℕ) (hg : g < 8) : (∑ n : Fin 128, R37 V0 (ix3 b t ⟨5120 + (g * 128 + n.val), by omega⟩)
      * R37 V0 (ix3 b s ⟨4096 + (g * 128 + n.val), by omega⟩)) = (cb U W Bc b.val t.val s.val g : EReal) := by
  unfold cb
  rw [← coe_sum]
  refine Finset.sum_congr rfl (fun n _ => ?_)
  rw [v37_real H, v37_real H, ← EReal.coe_mul, Nat.mul_comm 128, Nat.add_assoc, Nat.add_assoc]

theorem v89_real (b : Fin 2) (t : Fin 8192) (h e : Fin 64) : R89 V0 (ix3 ⟨b.val * 8192 + t.val, by omega⟩ ⟨h.val / 8, by omega⟩ ⟨h.val % 8 * 64 + e.val, by omega⟩)
    = gate U W Bc DT Db Al D Z b.val t.val (64 * h.val + e.val) := by
  have hd : (64 * h.val + e.val) / 64 = h.val := by omega
  have hg : (64 * h.val + e.val) / 512 = h.val / 8 := by omega
  have hz : h.val / 8 * 512 + (h.val % 8 * 64 + e.val) = 64 * h.val + e.val := by omega
  rw [v89_apply, v1_apply, H.d, v39_real H, H.z _ _ (by show h.val / 8 * 512 + (h.val % 8 * 64 + e.val) < 4096; omega)]
  unfold gate
  rw [hd]
  show _ * (Z (b.val * 8192 + t.val) (h.val / 8 * 512 + (h.val % 8 * 64 + e.val)) * Ideal.logistic (Z (b.val * 8192 + t.val) (h.val / 8 * 512 + (h.val % 8 * 64 + e.val)))) = _
  rw [hz, Nat.mul_comm 8192]
  congr 2
  unfold Cert.Scan.scan
  rw [← sum_causal (fun s => term U W Bc DT Db Al b.val t.val (64 * h.val + e.val) s) 8192 t.val t.isLt, ← coe_sum]
  refine Finset.sum_congr rfl (fun s _ => ?_)
  rw [cb_real H b t s (h.val / 8) (by omega), v39_real H, v49_real H]
  by_cases hr : s.val ≤ t.val
  · rw [if_pos hr, if_pos hr, mul_assoc, mul_left_comm (dt DT Db b.val s.val h.val : EReal), decay_real H b h t s hr, ← EReal.coe_mul, ← EReal.coe_mul]
    unfold term
    rw [hd, hg]
    congr 1
    ring
  · rw [if_neg hr, if_neg hr, Ideal.exp_bot, mul_zero, mul_zero, EReal.coe_zero]

theorem v89_gate (b : Fin 2) (t : Fin 8192) (g : Fin 8) (k : Fin 512) : R89 V0 (ix3 ⟨b.val * 8192 + t.val, by omega⟩ g k)
    = gate U W Bc DT Db Al D Z b.val t.val (512 * g.val + k.val) := by
  have := v89_real H b t ⟨8 * g.val + k.val / 64, by omega⟩ ⟨k.val % 64, by omega⟩
  rw [show 512 * g.val + k.val = 64 * (8 * g.val + k.val / 64) + k.val % 64 by omega]
  refine Eq.trans ?_ this
  congr 2
  · exact Fin.ext (by show g.val = (8 * g.val + k.val / 64) / 8; omega)
  · exact Fin.ext (by show k.val = (8 * g.val + k.val / 64) % 8 * 64 + k.val % 64; omega)

/-- The reference's result. -/
theorem res_apply (i : Fin 16384) (j : Fin 4096) : R104 V0 (ix2 i j) = Cert.Scan.out U W Bc DT Db Al D Z N (i.val / 8192) (i.val % 8192) j.val := by
  have ei : i = ⟨(⟨i.val / 8192, by omega⟩ : Fin 2).val * 8192 + (⟨i.val % 8192, by omega⟩ : Fin 8192).val, by show i.val / 8192 * 8192 + i.val % 8192 < 16384; omega⟩ :=
    Fin.ext (by show i.val = i.val / 8192 * 8192 + i.val % 8192; omega)
  have ej : j = ⟨(⟨j.val / 512, by omega⟩ : Fin 8).val * 512 + (⟨j.val % 512, by omega⟩ : Fin 512).val, by show j.val / 512 * 512 + j.val % 512 < 4096; omega⟩ :=
    Fin.ext (by show j.val = j.val / 512 * 512 + j.val % 512; omega)
  have hv := v104_apply V0 i ⟨j.val / 512, by omega⟩ ⟨j.val % 512, by omega⟩
  have hr : ∀ (g : Fin 8) (k : Fin 512), R89 V0 (ix3 i g k) = gate U W Bc DT Db Al D Z (i.val / 8192) (i.val % 8192) (512 * g.val + k.val) := fun g k => by
    have := v89_gate H ⟨i.val / 8192, by omega⟩ ⟨i.val % 8192, by omega⟩ g k
    rw [← ei] at this
    exact this
  rw [← ej, H.n] at hv
  rw [hv]
  simp only [hr]
  unfold Cert.Scan.out
  rw [show 512 * (j.val / 512) + j.val % 512 = j.val by omega]

end Cert.Reference12Ideal.Scan

end
-- ==== Proof.Scan.Claims.lean ====
module

public import proofs.«01_k».proof.Defs
public import proofs.«01_k».proof.Proof.Attn.Claims
public import proofs.«01_k».proof.Proof.Scan.Run
public import proofs.«01_k».proof.Proof.Scan.RefVals
public import proofs.«01_k».proof.Proof.Gen.Kernel12Ideal
public import proofs.«01_k».proof.Proof.Gen.Reference12Ideal

@[expose] public section

set_option maxRecDepth 16384
noncomputable section

namespace Cert.ScanClaims

open Idealize.ShloMosaic Idealize.ShloMosaic.TcCoe Idealize.SL.Sem Idealize.ShloMosaic.StableHlo

/-- The side conditions that the printed precondition states. -/
theorem preFacts : Cert.Pre_finite_scan.Facts := ⟨by decide, by decide, by decide, by decide, by decide, by decide, by decide⟩

/-- What one part of the precondition says of its array. -/
theorem finite_any {s : Shape} {e : FTy} (x : FVec Ideal s e) (w : BitVec e.bits) (hw : Ideal.ofBits e w = ⊤)
    (hb : Cert.Pre_finite_scan.S_.BroadcastsInDim s (![] : Fin 0 → Fin s.rank))
    (h : (cmpf .olt (Host.absf x) (broadcastInDim s ![] hb (constant (F := Ideal) Cert.Pre_finite_scan.S_ e w)) : IVec s 1) = fun _ => 1#1)
    (i : s.Idx) : ∃ r : ℝ, x i = (r : EReal) := by
  refine Cert.AttnClaims.real_of_abs ?_
  rw [← hw]
  exact congrFun h i

/-- The same for a part that bounds its array from above. -/
theorem low_any {s : Shape} {e : FTy} (x : FVec Ideal s e) (w : BitVec e.bits) (hw : Ideal.ofBits e w = ⊤)
    (hb : Cert.Pre_finite_scan.S_.BroadcastsInDim s (![] : Fin 0 → Fin s.rank))
    (h : (cmpf .olt x (broadcastInDim s ![] hb (constant (F := Ideal) Cert.Pre_finite_scan.S_ e w)) : IVec s 1) = fun _ => 1#1)
    (i : s.Idx) : ∃ r : Option ℝ, x i = Cert.Scan.lo r := by
  have hi : Ideal.cmp CmpFPredicate.olt (x i) ⊤ = 1#1 := by
    rw [← hw]
    exact congrFun h i
  have hne : x i ≠ ⊤ := by
    intro hx
    rw [hx] at hi
    unfold Ideal.cmp at hi
    simp at hi
  revert hne
  generalize (x i : EReal) = y
  intro hne
  induction y using EReal.rec with
  | bot => exact ⟨none, rfl⟩
  | coe r => exact ⟨some r, rfl⟩
  | top => exact absurd rfl hne

/-- Reals at every place of a row are a sequence of reals. -/
theorem seq_one {n : ℕ} (f : Fin n → EReal) (h : ∀ i, ∃ r : ℝ, f i = (r : EReal)) : ∃ g : ℕ → ℝ, ∀ i : Fin n, f i = (g i.val : EReal) := by
  choose g hg using h
  exact ⟨fun i => if hi : i < n then g ⟨i, hi⟩ else 0, fun i => by dsimp only; rw [dif_pos i.isLt]; exact hg i⟩

/-- The same for a table. -/
theorem seq_two {n k : ℕ} (f : Fin n → Fin k → EReal) (h : ∀ i j, ∃ r : ℝ, f i j = (r : EReal)) :
    ∃ g : ℕ → ℕ → ℝ, ∀ (i : Fin n) (j : Fin k), f i j = (g i.val j.val : EReal) := by
  choose g hg using h
  exact ⟨fun i j => if hi : i < n ∧ j < k then g ⟨i, hi.1⟩ ⟨j, hi.2⟩ else 0, fun i j => by dsimp only; rw [dif_pos ⟨i.isLt, j.isLt⟩]; exact hg i j⟩

/-- Values below infinity at every place of a row are a sequence of them. -/
theorem low_one {n : ℕ} (f : Fin n → EReal) (h : ∀ i, ∃ r : Option ℝ, f i = Cert.Scan.lo r) : ∃ g : ℕ → Option ℝ, ∀ i : Fin n, f i = Cert.Scan.lo (g i.val) := by
  choose g hg using h
  exact ⟨fun i => if hi : i < n then g ⟨i, hi⟩ else none, fun i => by dsimp only; rw [dif_pos i.isLt]; exact hg i⟩

/-- The same for a table. -/
theorem low_two {n k : ℕ} (f : Fin n → Fin k → EReal) (h : ∀ i j, ∃ r : Option ℝ, f i j = Cert.Scan.lo r) :
    ∃ g : ℕ → ℕ → Option ℝ, ∀ (i : Fin n) (j : Fin k), f i j = Cert.Scan.lo (g i.val j.val) := by
  choose g hg using h
  exact ⟨fun i j => if hi : i < n ∧ j < k then g ⟨i, hi.1⟩ ⟨j, hi.2⟩ else none, fun i j => by dsimp only; rw [dif_pos ⟨i.isLt, j.isLt⟩]; exact hg i j⟩

/-- A row of extended reals as a sequence. -/
theorem row_one {n : ℕ} (f : Fin n → EReal) : ∃ g : ℕ → EReal, ∀ i : Fin n, f i = g i.val :=
  ⟨fun i => if hi : i < n then f ⟨i, hi⟩ else 0, fun i => by dsimp only; rw [dif_pos i.isLt]⟩

/-- A table of extended reals as a sequence. -/
theorem row_two {n k : ℕ} (f : Fin n → Fin k → EReal) : ∃ g : ℕ → ℕ → EReal, ∀ (i : Fin n) (j : Fin k), f i j = g i.val j.val :=
  ⟨fun i j => if hi : i < n ∧ j < k then f ⟨i, hi.1⟩ ⟨j, hi.2⟩ else 0, fun i j => by dsimp only; rw [dif_pos ⟨i.isLt, j.isLt⟩]⟩

section

variable (m : (ℓ : Loc Cert.Kernel12Ideal.nD Cert.Kernel12Ideal.τ Cert.Kernel12Ideal.sig) → Buf (Elt Ideal) ℓ) (c : Dev Cert.Kernel12Ideal.nD)

/-- The arguments that the precondition names hold reals, or values below infinity. -/
theorem holds (hpre : Cert.Pre_Kernel12Ideal_finite_scan (hPre_finite_scan := preFacts) m) : ∃ (U W : ℕ → ℕ → ℝ) (Bc : ℕ → Option ℝ) (DT : ℕ → ℕ → Option ℝ) (Db : ℕ → Option ℝ) (Al : ℕ → EReal) (D : ℕ → EReal) (Z : ℕ → ℕ → EReal) (N : ℕ → EReal),
    Cert.Kernel12Ideal.Scan.Holds m c U W Bc DT Db Al D Z N := by
  obtain ⟨h0, h1, h2, h3, h4⟩ := hpre c
  obtain ⟨Z, hZ⟩ := row_two (fun (i : Fin 16384) (j : Fin 10240) => (m ((c.tc : Thread Cert.Kernel12Ideal.nD Cert.Kernel12Ideal.τ).loc Cert.Kernel12Ideal.main_arg0) : Vec Ideal Cert.Kernel12Ideal.S16384x10240 .bf16) (ix2 i j))
  obtain ⟨D, hD⟩ := row_one (fun (j : Fin 64) => (m ((c.tc : Thread Cert.Kernel12Ideal.nD Cert.Kernel12Ideal.τ).loc Cert.Kernel12Ideal.main_arg6) : Vec Ideal Cert.Kernel12Ideal.S64 .f32) (ix1 j))
  obtain ⟨N, hN⟩ := row_one (fun (j : Fin 4096) => (m ((c.tc : Thread Cert.Kernel12Ideal.nD Cert.Kernel12Ideal.τ).loc Cert.Kernel12Ideal.main_arg7) : Vec Ideal Cert.Kernel12Ideal.S4096 .f32) (ix1 j))
  obtain ⟨U, hU⟩ := seq_two (fun (i : Fin 16384) (j : Fin 6144) => (m ((c.tc : Thread Cert.Kernel12Ideal.nD Cert.Kernel12Ideal.τ).loc Cert.Kernel12Ideal.main_arg0) : FVec Ideal Cert.Pre_finite_scan.S16384x10240 .bf16) (ix2 i ⟨4096 + j.val, by omega⟩))
    (fun i j => by
      obtain ⟨r, hr⟩ := finite_any _ _ Cert.AttnClaims.top_bf16 _ h0 (ix2 i j)
      refine ⟨r, Eq.trans (congrArg _ ?_) hr⟩
      funext a
      match a with
      | ⟨0, _⟩ => exact Fin.ext (by show i.val = 0 + i.val; omega)
      | ⟨1, _⟩ => rfl)
  obtain ⟨DT, hDT⟩ := low_two (fun (i : Fin 16384) (j : Fin 64) => (m ((c.tc : Thread Cert.Kernel12Ideal.nD Cert.Kernel12Ideal.τ).loc Cert.Kernel12Ideal.main_arg1) : FVec Ideal Cert.Pre_finite_scan.S16384x128 .f32) (ix2 i ⟨j.val, by omega⟩))
    (fun i j => by
      obtain ⟨r, hr⟩ := low_any _ _ Cert.AttnClaims.top_f32 _ h1 (ix2 i j)
      refine ⟨r, Eq.trans (congrArg _ ?_) hr⟩
      funext a
      match a with
      | ⟨0, _⟩ => exact Fin.ext (by show i.val = 0 + i.val; omega)
      | ⟨1, _⟩ => exact Fin.ext (by show j.val = 0 + j.val; omega))
  obtain ⟨W, hW⟩ := seq_two (fun (i : Fin 4) (j : Fin 6144) => (m ((c.tc : Thread Cert.Kernel12Ideal.nD Cert.Kernel12Ideal.τ).loc Cert.Kernel12Ideal.main_arg2) : FVec Ideal Cert.Pre_finite_scan.S4x6144 .f32) (ix2 i j))
    (fun i j => finite_any _ _ Cert.AttnClaims.top_f32 _ h2 (ix2 i j))
  obtain ⟨Bc, hB⟩ := low_one (fun (j : Fin 6144) => (m ((c.tc : Thread Cert.Kernel12Ideal.nD Cert.Kernel12Ideal.τ).loc Cert.Kernel12Ideal.main_arg3) : FVec Ideal Cert.Pre_finite_scan.S6144 .f32) (ix1 j))
    (fun j => low_any _ _ Cert.AttnClaims.top_f32 _ h3 (ix1 j))
  obtain ⟨Db, hDb⟩ := low_one (fun (j : Fin 64) => (m ((c.tc : Thread Cert.Kernel12Ideal.nD Cert.Kernel12Ideal.τ).loc Cert.Kernel12Ideal.main_arg4) : FVec Ideal Cert.Pre_finite_scan.S64 .f32) (ix1 j))
    (fun j => low_any _ _ Cert.AttnClaims.top_f32 _ h4 (ix1 j))
  obtain ⟨Al, hAl⟩ := row_one (fun (j : Fin 64) => (m ((c.tc : Thread Cert.Kernel12Ideal.nD Cert.Kernel12Ideal.τ).loc Cert.Kernel12Ideal.main_arg5) : Vec Ideal Cert.Kernel12Ideal.S64 .f32) (ix1 j))
  refine ⟨U, W, Bc, DT, Db, Al, D, Z, N, ?_⟩
  constructor
  · exact fun i j _ => hZ i j
  · intro i j hj
    refine Eq.trans (congrArg (fun k => (m ((c.tc : Thread Cert.Kernel12Ideal.nD Cert.Kernel12Ideal.τ).loc Cert.Kernel12Ideal.main_arg0) : FVec Ideal Cert.Pre_finite_scan.S16384x10240 .bf16) (ix2 i k)) ?_) (hU i ⟨j.val - 4096, by omega⟩)
    exact Fin.ext (by show j.val = 4096 + (j.val - 4096); omega)
  · exact fun i j hj => hDT i ⟨j.val, hj⟩
  · exact hW
  · exact hB
  · exact hDb
  · exact hAl
  · exact hD
  · exact hN

end

/-- Over the reals the scan's result is the reference's, where the precondition's arguments are finite. -/
theorem algebraic : Cert.algebraic_Kernel12Ideal_Reference12Ideal_pre_finite_scan (hKernel12Ideal := Cert.Kernel12Ideal.Gen.facts)
    (hReference12Ideal := Cert.Reference12Ideal.Gen.facts) (hPre_finite_scan := preFacts) := by
  intro m g m' g' hpre hag
  have hH := fun c => holds m c hpre
  choose U W Bc DT Db Al D Z N H using hH
  refine ⟨fun c => fun i => Cert.Scan.out (U c) (W c) (Bc c) (DT c) (Db c) (Al c) (D c) (Z c) (N c) ((i 0).val / 8192) ((i 0).val % 8192) (i 1).val, ?_, ?_⟩
  · exact (θ_run _ _ _).mono (fun _ h c => ⟨(h c).1.trans (Cert.Kernel12Ideal.Scan.final m c _ _ _ _ _ _ _ _ _ (H c)), (h c).2⟩)
      (Cert.Kernel12Ideal.Value.run_blocks m g)
  · refine (θ_run _ _ _).mono (fun _ h c => ⟨(h c).1.trans ?_, (h c).2⟩) (Cert.Reference12Ideal.Value.run m' g')
    obtain ⟨h0, h1, h2, h3, h4, h5, h6, h7⟩ := hag c
    have HR : Cert.Reference12Ideal.Scan.Holds (launchContents m' c) (U c) (W c) (Bc c) (DT c) (Db c) (Al c) (D c) (Z c) (N c) := by
      constructor
      · exact fun i j hj => (congrFun h0 (ix2 i j)).trans ((H c).z i j hj)
      · exact fun i j hj => (congrFun h0 (ix2 i j)).trans ((H c).u i j hj)
      · exact fun i j hj => (congrFun h1 (ix2 i j)).trans ((H c).dt i j hj)
      · exact fun i j => (congrFun h2 (ix2 i j)).trans ((H c).w i j)
      · exact fun j => (congrFun h3 (ix1 j)).trans ((H c).bc j)
      · exact fun j => (congrFun h4 (ix1 j)).trans ((H c).db j)
      · exact fun j => (congrFun h5 (ix1 j)).trans ((H c).al j)
      · exact fun j => (congrFun h6 (ix1 j)).trans ((H c).d j)
      · exact fun j => (congrFun h7 (ix1 j)).trans ((H c).n j)
    show Cert.Reference12Ideal.Scan.R104 (launchContents m' c) = _
    funext j
    obtain ⟨r, k, rfl⟩ : ∃ (r : Fin 16384) (k : Fin 4096), j = ix2 r k := ⟨j 0, j 1, by
      funext a
      match a with
      | ⟨0, _⟩ => rfl
      | ⟨1, _⟩ => rfl⟩
    exact Cert.Reference12Ideal.Scan.res_apply HR r k

end Cert.ScanClaims

end
-- ==== Proof.GateUp.Kernel.lean ====
module

public import proofs.«01_k».proof.Proof.Gen.Kernel2Ideal.Value
public import Idealize.ShloMosaic.Lib.Pointwise
public import Idealize.ShloMosaic.Lib.Pipeline.ValueKit
public import Idealize.ShloMosaic.Lib.Pipeline.Covers
public import Idealize.ShloMosaic.Lib.StableHlo.Run

@[expose] public section

set_option maxRecDepth 16384
noncomputable section

namespace Cert.Kernel2Ideal.Dense

open Cert.Kernel2Ideal Cert.Kernel2Ideal.Gen Idealize.ShloMosaic Idealize.ShloMosaic.TcCoe Idealize.SL.Sem Idealize.ShloMosaic.StableHlo

/-- A gate's dot product, times its logistic, times the other dot product. -/
def gate (a b : EReal) : EReal := a * Ideal.div 1 (1 + Ideal.exp (-a)) * b

theorem pay_apply (x0 : Vec Ideal S1024x2048 .bf16) (x1 x2 : Vec Ideal S2048x512 .bf16) (r : Fin 1024) (k : Fin 512) :
    k0_pay1 x0 x1 x2 (ix2 r k) = gate (∑ e : Fin 2048, x0 (ix2 r e) * x1 (ix2 e k)) (∑ e : Fin 2048, x0 (ix2 r e) * x2 (ix2 e k)) := by
  unfold gate
  pointwise [k0_pay1]
  rfl

theorem out_eq (x0 : Vec Ideal S1024x2048 .bf16) (x1 x2 : Vec Ideal S2048x512 .bf16) : out0_3 x0 x1 x2 = k0_pay1 x0 x1 x2 := by
  frame_out

variable (m : (ℓ : Loc nD τ sig) → Buf (Elt Ideal) ℓ)

theorem idx0 : ∀ t : Fin grid0.N, win0_0.index t = ![(grid0.coords t 0).val, 0] := by decide +kernel
theorem idx1 : ∀ t : Fin grid0.N, win0_1.index t = ![0, (grid0.coords t 1).val] := by decide +kernel
theorem idx2 : ∀ t : Fin grid0.N, win0_2.index t = ![0, (grid0.coords t 1).val] := by decide +kernel
theorem idx3 : ∀ t : Fin grid0.N, win0_3.index t = ![(grid0.coords t 0).val, (grid0.coords t 1).val] := by decide +kernel

theorem c0 (t : Fin cfg0.N) : (grid0.coords t 0).val < 16 := (grid0.coords t 0).isLt
theorem c1 (t : Fin cfg0.N) : (grid0.coords t 1).val < 11 := (grid0.coords t 1).isLt

theorem V_v0 (c : Dev nD) : V m c main_v0 = (truncf (F := Ideal) (s := S2048x5632) (φ := .f32) .bf16 (m ((c : Thread nD τ).loc main_arg1)) bitsLt_bf16_f32 : FVec Ideal S2048x5632 .bf16) := by
  show StableHlo.after hostOps0 _ main_v0 = _
  after_results_simp <;> rfl
theorem V_v1 (c : Dev nD) : V m c main_v1 = (truncf (F := Ideal) (s := S2048x5632) (φ := .f32) .bf16 (m ((c : Thread nD τ).loc main_arg2)) bitsLt_bf16_f32 : FVec Ideal S2048x5632 .bf16) := by
  show StableHlo.after hostOps0 _ main_v1 = _
  after_results_simp <;> rfl

/-- The two products' row `i` and column `j`, gated. -/
def target (A : Vec Ideal S16384x2048 .bf16) (G U : Vec Ideal S2048x5632 .f32) (i : Fin 16384) (j : Fin 5632) : EReal :=
  gate (∑ e : Fin 2048, A (ix2 i e) * G (ix2 e j)) (∑ e : Fin 2048, A (ix2 i e) * U (ix2 e j))

theorem read0 (c : Dev nD) (t : Fin cfg0.N) (r : Fin 1024) (e : Fin 2048) : (iblk m c 0 t : Vec Ideal S1024x2048 .bf16) (ix2 r e)
    = (m ((c : Thread nD τ).loc main_arg0) : Vec Ideal S16384x2048 .bf16) (ix2 ⟨(grid0.coords t 0).val * 1024 + r.val, by have := c0 t; omega⟩ e) := by
  blk_simp [iblk]
  rw [V_main_arg0]
  refine congrArg (m ((c : Thread nD τ).loc main_arg0)) (funext fun a => Fin.ext ?_)
  blk_simp [idx0]
  match a with
  | ⟨0, _⟩ => rfl
  | ⟨1, _⟩ => show 0 * 2048 + e.val = e.val; ring

theorem read1 (c : Dev nD) (t : Fin cfg0.N) (e : Fin 2048) (k : Fin 512) : (iblk m c 1 t : Vec Ideal S2048x512 .bf16) (ix2 e k)
    = (m ((c : Thread nD τ).loc main_arg1) : Vec Ideal S2048x5632 .f32) (ix2 e ⟨(grid0.coords t 1).val * 512 + k.val, by have := c1 t; omega⟩) := by
  blk_simp [iblk]
  rw [V_v0]
  refine congrArg (m ((c : Thread nD τ).loc main_arg1)) (funext fun a => Fin.ext ?_)
  blk_simp [idx1]
  match a with
  | ⟨0, _⟩ => show 0 * 2048 + e.val = e.val; ring
  | ⟨1, _⟩ => rfl

theorem read2 (c : Dev nD) (t : Fin cfg0.N) (e : Fin 2048) (k : Fin 512) : (iblk m c 2 t : Vec Ideal S2048x512 .bf16) (ix2 e k)
    = (m ((c : Thread nD τ).loc main_arg2) : Vec Ideal S2048x5632 .f32) (ix2 e ⟨(grid0.coords t 1).val * 512 + k.val, by have := c1 t; omega⟩) := by
  blk_simp [iblk]
  rw [V_v1]
  refine congrArg (m ((c : Thread nD τ).loc main_arg2)) (funext fun a => Fin.ext ?_)
  blk_simp [idx2]
  match a with
  | ⟨0, _⟩ => show 0 * 2048 + e.val = e.val; ring
  | ⟨1, _⟩ => rfl

/-- The output array after the run. -/
theorem final (c : Dev nD) : (dats m 0 c).arrAt 3 cfg0.N = (fun i => target (m ((c : Thread nD τ).loc main_arg0)) (m ((c : Thread nD τ).loc main_arg1)) (m ((c : Thread nD τ).loc main_arg2)) (i 0) (i 1) : Vec Ideal S16384x5632 .bf16) := by
  refine (dats m 0 c).arrAt_eq_of_covers 3 _ ?_ fun t hf y => ?_
  · refine Pipeline.Window.covers_of_index_surj _ rfl (by decide) fun β => ?_
    have b0 : (β 0).val < 16 := (β 0).isLt
    have b1 : (β 1).val < 11 := (β 1).isLt
    obtain ⟨t, ht⟩ := grid0.coords_surjective (fun a => match a with | ⟨0, _⟩ => ⟨(β 0).val, b0⟩ | ⟨1, _⟩ => ⟨(β 1).val, b1⟩)
    refine ⟨t, fun a => ?_⟩
    have hi : (cfg0.win 3).index t = ![(grid0.coords t 0).val, (grid0.coords t 1).val] := idx3 t
    rw [hi, ht]
    match a with
    | ⟨0, _⟩ => rfl
    | ⟨1, _⟩ => rfl
  · blk_simp
    rw [after0_3, out_eq]
    obtain ⟨r, k, rfl⟩ : ∃ (r : Fin 1024) (k : Fin 512), y = (ix2 r k : S1024x512.Idx) := ⟨y 0, y 1, by
      funext a
      match a with
      | ⟨0, _⟩ => rfl
      | ⟨1, _⟩ => rfl⟩
    refine (pay_apply _ _ _ r k).trans ?_
    simp only [read0, read1, read2]
    have e0 : ((cfg0.win 3).blk t).view.emb (ix2 r k) 0 = (⟨(grid0.coords t 0).val * 1024 + r.val, by have := c0 t; omega⟩ : Fin 16384) := by
      refine Fin.ext ?_
      blk_simp [idx3]
    have e1 : ((cfg0.win 3).blk t).view.emb (ix2 r k) 1 = (⟨(grid0.coords t 1).val * 512 + k.val, by have := c1 t; omega⟩ : Fin 5632) := by
      refine Fin.ext ?_
      blk_simp [idx3]
    rw [e0, e1]
    rfl

end Cert.Kernel2Ideal.Dense
end
-- ==== Proof.GateUp.Ref.lean ====
module

public import proofs.«01_k».proof.Proof.Gen.Reference2Ideal.Run
public import proofs.«01_k».proof.Proof.GateUp.Kernel
public import proofs.«01_k».proof.Defs

@[expose] public section

set_option maxRecDepth 16384
noncomputable section

namespace Cert.Kernel2Ideal.Dense

open Idealize.ShloMosaic Idealize.ShloMosaic.TcCoe Idealize.SL.Sem Idealize.ShloMosaic.StableHlo

/-- Over the reals the gate and up call's result is the reference's. -/
theorem algebraic : Cert.algebraic_Kernel2Ideal_Reference2Ideal (hKernel2Ideal := Cert.Kernel2Ideal.Gen.facts)
    (hReference2Ideal := Cert.Reference2Ideal.Gen.facts) := by
  intro m g m' g' _ hag
  refine ⟨fun c => fun i => target (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (i 0) (i 1), ?_, ?_⟩
  · exact (θ_run _ _ _).mono (fun _ h c => ⟨(h c).1.trans (final m c), (h c).2⟩) (Cert.Kernel2Ideal.Value.run_blocks m g)
  · refine (θ_run _ _ _).mono (fun _ h c => ⟨(h c).1.trans ?_, (h c).2⟩) (Cert.Reference2Ideal.Value.run m' g')
    obtain ⟨h0, h1, h2⟩ := hag c
    rw [h0, h1, h2]
    funext j
    obtain ⟨r, k, rfl⟩ : ∃ (r : Fin 16384) (k : Fin 5632), j = ix2 r k := ⟨j 0, j 1, by
      funext a
      match a with
      | ⟨0, _⟩ => rfl
      | ⟨1, _⟩ => rfl⟩
    unfold target gate
    pointwise

end Cert.Kernel2Ideal.Dense
end
-- ==== Proof.OutProj.Math.lean ====
module

public import Idealize.ShloMosaic.Lib.Pointwise

@[expose] public section

noncomputable section

namespace Cert.OutProj

open Idealize.ShloMosaic

/-- A row over its root mean square, times its gains. -/
def normed (v w : Fin 2048 → EReal) (d : Fin 2048) : EReal :=
  v d * Ideal.rsqrt (Ideal.div (∑ e : Fin 2048, v e * v e) (Ideal.ofBits FTy.f32 0x45000000#32) + Ideal.ofBits FTy.f32 0x358637BD#32) * w d

/-- A sum over `J` runs of `n` terms is the sum over all the terms. -/
theorem sum_runs (J n : ℕ) (f : Fin (J * n) → EReal) (h : ∀ (s : Fin J) (k : Fin n), n * s.val + k.val < J * n) :
    ∑ s : Fin J, ∑ k : Fin n, f ⟨n * s.val + k.val, h s k⟩ = ∑ e : Fin (J * n), f e := by
  rw [← Equiv.sum_comp finProdFinEquiv f, Fintype.sum_prod_type]
  refine Finset.sum_congr rfl fun s _ => Finset.sum_congr rfl fun k _ => congrArg f (Fin.ext ?_)
  simp [finProdFinEquiv]
  ring

end Cert.OutProj
end
-- ==== Proof.Down.Kernel.lean ====
module

public import proofs.«01_k».proof.Proof.Gen.Kernel3Ideal.Value
public import Idealize.ShloMosaic.Lib.Pointwise
public import Idealize.ShloMosaic.Lib.Pipeline.ReadBack
public import proofs.«01_k».proof.Proof.OutProj.Math
public import Idealize.ShloMosaic.Lib.Pipeline.ValueKit
public import Idealize.ShloMosaic.Lib.Pipeline.Covers
public import Idealize.ShloMosaic.Lib.StableHlo.Run

@[expose] public section

set_option maxRecDepth 16384
noncomputable section

namespace Cert.Kernel3Ideal.Dense

open Cert.OutProj Cert.Kernel3Ideal Cert.Kernel3Ideal.Gen Idealize.ShloMosaic Idealize.ShloMosaic.TcCoe Idealize.SL.Sem Idealize.ShloMosaic.StableHlo

theorem pay1_apply (r : Fin 512) (d : Fin 2048) : (k0_pay1 (F := Ideal)) (ix2 r d) = 0 := by
  pointwise [k0_pay1]

theorem pay2_apply (s : Vec Ideal S512x2048 .f32) (a : Vec Ideal S512x512 .bf16) (w : Vec Ideal S512x2048 .bf16) (r : Fin 512) (d : Fin 2048) :
    k0_pay2 s a w (ix2 r d) = s (ix2 r d) + ∑ k : Fin 512, a (ix2 r k) * w (ix2 k d) := by
  pointwise [k0_pay2]

theorem pay3_apply (x s : Vec Ideal S512x2048 .f32) (w : Vec Ideal S1x2048 .f32) (r : Fin 512) (d : Fin 2048) :
    k0_pay3 x s w (ix2 r d) = x (ix2 r d) + normed (fun e => s (ix2 r e)) (fun e => w (ix2 0 e)) d := by
  unfold normed
  pointwise [k0_pay3]

theorem pay4_apply (x s : Vec Ideal S512x2048 .f32) (w n : Vec Ideal S1x2048 .f32) (r : Fin 512) (d : Fin 2048) :
    k0_pay4 x s w n (ix2 r d) = normed (fun e => k0_pay3 x s w (ix2 r e)) (fun e => n (ix2 0 e)) d := by
  unfold normed
  pointwise [k0_pay4, k0_pay3]

variable (m : (ℓ : Loc nD τ sig) → Buf (Elt Ideal) ℓ)

theorem acc_A (c : Dev nD) (t : Fin cfg0.N) (h : t.val % 11 = 0) :
    (outsAt0 m c t.val t.isLt).2.2 = k0_pay2 (k0_pay1 (F := Ideal)) (iblk m c 0 t) (iblk m c 1 t) := by
  rw [outsAt0_A m c t h (by omega)]
  frame_out

theorem acc_B (c : Dev nD) (t : Fin cfg0.N) (h : ¬t.val % 11 = 0) :
    (outsAt0 m c t.val t.isLt).2.2 = k0_pay2 (outsAt0 m c (t.val - 1) (Nat.lt_of_le_of_lt (Nat.sub_le _ _) t.isLt)).2.2 (iblk m c 0 t) (iblk m c 1 t) := by
  by_cases h1 : t.val % 11 = 10
  · rw [outsAt0_C m c t h h1]
    frame_out
    rw [read_unread_whole]
  · rw [outsAt0_B m c t h h1]
    frame_out
    rw [read_unread_whole]

theorem out5_C (c : Dev nD) (t : Fin cfg0.N) (h : t.val % 11 = 10) :
    (outsAt0 m c t.val t.isLt).1 = k0_pay3 (iblk m c 2 t) (outsAt0 m c t.val t.isLt).2.2 (iblk m c 3 t) := by
  rw [acc_B m c t (by omega), outsAt0_C m c t (by omega) h]
  frame_out
  rw [read_unread_whole]

theorem out6_C (c : Dev nD) (t : Fin cfg0.N) (h : t.val % 11 = 10) :
    (outsAt0 m c t.val t.isLt).2.1 = k0_pay4 (iblk m c 2 t) (outsAt0 m c t.val t.isLt).2.2 (iblk m c 3 t) (iblk m c 4 t) := by
  rw [acc_B m c t (by omega), outsAt0_C m c t (by omega) h]
  frame_out
  rw [read_unread_whole]

theorem idx0 : ∀ t : Fin grid0.N, win0_0.index t = ![t.val / 11, t.val % 11] := by decide +kernel
theorem idx1 : ∀ t : Fin grid0.N, win0_1.index t = ![t.val % 11, 0] := by decide +kernel
theorem idx2 : ∀ t : Fin grid0.N, win0_2.index t = ![t.val / 11, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![t.val / 11, 0] := by decide +kernel
theorem idx6 : ∀ t : Fin grid0.N, win0_6.index t = ![t.val / 11, 0] := by decide +kernel

theorem bound (t : Fin cfg0.N) : t.val < 352 := lt_of_lt_of_eq t.isLt N_0

theorem V_main_v0 (c : Dev nD) : V m c main_v0 = (truncf (F := Ideal) (s := S5632x2048) (φ := .f32) .bf16 (m ((c : Thread nD τ).loc main_arg1)) bitsLt_bf16_f32 : FVec Ideal S5632x2048 .bf16) := by
  show StableHlo.after hostOps0 _ main_v0 = _
  after_results_simp <;> rfl

theorem read0 (c : Dev nD) (t : Fin cfg0.N) (r k : Fin 512) : (iblk m c 0 t : Vec Ideal S512x512 .bf16) (ix2 r k)
    = (m ((c : Thread nD τ).loc main_arg0) : Vec Ideal S16384x5632 .bf16) (ix2 ⟨t.val / 11 * 512 + r.val, by have := bound t; omega⟩ ⟨512 * (t.val % 11) + k.val, by omega⟩) := by
  blk_simp [iblk]
  rw [V_main_arg0]
  refine congrArg (m ((c : Thread nD τ).loc main_arg0)) (funext fun a => Fin.ext ?_)
  blk_simp [idx0]
  match a with
  | ⟨0, _⟩ => rfl
  | ⟨1, _⟩ => show t.val % 11 * 512 + k.val = 512 * (t.val % 11) + k.val; ring

theorem read1 (c : Dev nD) (t : Fin cfg0.N) (k : Fin 512) (d : Fin 2048) : (iblk m c 1 t : Vec Ideal S512x2048 .bf16) (ix2 k d)
    = (m ((c : Thread nD τ).loc main_arg1) : Vec Ideal S5632x2048 .f32) (ix2 ⟨512 * (t.val % 11) + k.val, by omega⟩ d) := by
  blk_simp [iblk]
  rw [V_main_v0]
  refine congrArg (m ((c : Thread nD τ).loc main_arg1)) (funext fun a => Fin.ext ?_)
  blk_simp [idx1]
  match a with
  | ⟨0, _⟩ => show t.val % 11 * 512 + k.val = 512 * (t.val % 11) + k.val; ring
  | ⟨1, _⟩ => show 0 * 2048 + d.val = d.val; ring

theorem read2 (c : Dev nD) (t : Fin cfg0.N) (r : Fin 512) (d : Fin 2048) : (iblk m c 2 t : Vec Ideal S512x2048 .f32) (ix2 r d)
    = (m ((c : Thread nD τ).loc main_arg2) : Vec Ideal S16384x2048 .f32) (ix2 ⟨t.val / 11 * 512 + r.val, by have := bound t; omega⟩ d) := by
  blk_simp [iblk]
  rw [V_main_arg2]
  refine congrArg (m ((c : Thread nD τ).loc main_arg2)) (funext fun a => Fin.ext ?_)
  blk_simp [idx2]
  match a with
  | ⟨0, _⟩ => rfl
  | ⟨1, _⟩ => show 0 * 2048 + d.val = d.val; ring

theorem V_main_v1 (c : Dev nD) : V m c main_v1 = shapeCast S1x2048 (m ((c : Thread nD τ).loc main_arg3)) shapeCasts_S2048_S1x2048 := by
  show StableHlo.after hostOps0 _ main_v1 = _
  after_results_simp <;> rfl

theorem read3 (c : Dev nD) (t : Fin cfg0.N) (e : Fin 2048) : (iblk m c 3 t : Vec Ideal S1x2048 .f32) (ix2 0 e)
    = (m ((c : Thread nD τ).loc main_arg3) : Vec Ideal S2048 .f32) (ix1 e) := by
  blk_simp [iblk]
  rw [V_main_v1]
  have e1 : (win0_3.blk t).view.emb (ix2 0 e) = (ix2 0 e : S1x2048.Idx) := by
    refine funext fun a => Fin.ext ?_
    blk_simp [idx3]
    match a with
    | ⟨0, _⟩ => rfl
    | ⟨1, _⟩ => show 0 * 2048 + e.val = e.val; ring
  rw [e1]
  pointwise

theorem V_main_v2 (c : Dev nD) : V m c main_v2 = shapeCast S1x2048 (m ((c : Thread nD τ).loc main_arg4)) shapeCasts_S2048_S1x2048 := by
  show StableHlo.after hostOps0 _ main_v2 = _
  after_results_simp <;> rfl

theorem read4 (c : Dev nD) (t : Fin cfg0.N) (e : Fin 2048) : (iblk m c 4 t : Vec Ideal S1x2048 .f32) (ix2 0 e)
    = (m ((c : Thread nD τ).loc main_arg4) : Vec Ideal S2048 .f32) (ix1 e) := by
  blk_simp [iblk]
  rw [V_main_v2]
  have e1 : (win0_4.blk t).view.emb (ix2 0 e) = (ix2 0 e : S1x2048.Idx) := by
    refine funext fun a => Fin.ext ?_
    blk_simp [idx4]
    match a with
    | ⟨0, _⟩ => rfl
    | ⟨1, _⟩ => show 0 * 2048 + e.val = e.val; ring
  rw [e1]
  pointwise

/-- One product of the projection. -/
def pterm (A : Vec Ideal S16384x5632 .bf16) (W : Vec Ideal S5632x2048 .f32) (i : Fin 16384) (e : Fin 5632) (j : Fin 2048) : EReal :=
  A (ix2 i e) * W (ix2 e j)

/-- Row `i` of the left operand with column `j` of the weights. -/
def proj (A : Vec Ideal S16384x5632 .bf16) (W : Vec Ideal S5632x2048 .f32) (i : Fin 16384) (j : Fin 2048) : EReal :=
  ∑ e : Fin 5632, pterm A W i e j

/-- The residual row plus the normed projection. -/
def resid (A : Vec Ideal S16384x5632 .bf16) (W : Vec Ideal S5632x2048 .f32) (X : Vec Ideal S16384x2048 .f32) (P : Vec Ideal S2048 .f32)
    (i : Fin 16384) (j : Fin 2048) : EReal :=
  X (ix2 i j) + normed (fun e => proj A W i e) (fun e => P (ix1 e)) j

/-- The next sublayer's input: the new residual row, normed. -/
def next (A : Vec Ideal S16384x5632 .bf16) (W : Vec Ideal S5632x2048 .f32) (X : Vec Ideal S16384x2048 .f32) (P Q : Vec Ideal S2048 .f32)
    (i : Fin 16384) (j : Fin 2048) : EReal :=
  normed (fun e => resid A W X P i e) (fun e => Q (ix1 e)) j

/-- What a point adds to the accumulator. -/
def dot (A : Vec Ideal S512x512 .bf16) (W : Vec Ideal S512x2048 .bf16) (r : Fin 512) (d : Fin 2048) : EReal :=
  ∑ k : Fin 512, A (ix2 r k) * W (ix2 k d)

/-- What a run's last point leaves in the accumulator. -/
theorem acc_apply (c : Dev nD) (t : Fin cfg0.N) (h : t.val % 11 = 10) (r : Fin 512) (d : Fin 2048) :
    (outsAt0 m c t.val t.isLt).2.2 (ix2 r d)
      = proj (m ((c : Thread nD τ).loc main_arg0)) (m ((c : Thread nD τ).loc main_arg1)) ⟨t.val / 11 * 512 + r.val, by have := bound t; omega⟩ d := by
  have hb := bound t
  have key := Pipeline.eq_sum_fin_of_reset_step_apply_of_flush (fun n h' => fun i : Fin 512 × Fin 2048 => (outsAt0 m c n h').2.2 (ix2 i.1 i.2)) 11 (fun _ => (0 : EReal))
    (fun t i => dot (iblk m c 0 t) (iblk m c 1 t) i.1 i.2)
    (fun t h i => by
      show (outsAt0 m c t.val t.isLt).2.2 (ix2 i.1 i.2) = _
      rw [acc_A m c t h, pay2_apply, pay1_apply]
      rfl)
    (fun t h i => by
      show (outsAt0 m c t.val t.isLt).2.2 (ix2 i.1 i.2) = _
      rw [acc_B m c t h, pay2_apply]
      rfl)
    t h (r, d)
  refine key.trans ?_
  rw [zero_add]
  unfold proj
  refine Eq.trans ?_ (sum_runs 11 512 (fun e => pterm (m ((c : Thread nD τ).loc main_arg0)) (m ((c : Thread nD τ).loc main_arg1)) ⟨t.val / 11 * 512 + r.val, by omega⟩ e d) (fun s k => by omega))
  refine Finset.sum_congr rfl fun s _ => Finset.sum_congr rfl fun k _ => ?_
  have hs := s.isLt
  unfold pterm
  rw [read0, read1]
  have e0 : (11 * (t.val / 11) + s.val) / 11 = t.val / 11 := by omega
  have e1 : (11 * (t.val / 11) + s.val) % 11 = s.val := by omega
  congr 2
  · simp only [e0, e1]
  · simp only [e1]

theorem point_resid (c : Dev nD) (t : Fin cfg0.N) (h : t.val % 11 = 10) (r : Fin 512) (d : Fin 2048) :
    k0_pay3 (iblk m c 2 t) (outsAt0 m c t.val t.isLt).2.2 (iblk m c 3 t) (ix2 r d)
      = resid (m ((c : Thread nD τ).loc main_arg0)) (m ((c : Thread nD τ).loc main_arg1)) (m ((c : Thread nD τ).loc main_arg2)) (m ((c : Thread nD τ).loc main_arg3)) ⟨t.val / 11 * 512 + r.val, by have := bound t; omega⟩ d := by
  rw [pay3_apply]
  unfold resid
  simp only [read2, read3, acc_apply m c t h]

/-- Output array 0 after the run. -/
theorem final5 (c : Dev nD) : (dats m 0 c).arrAt 5 cfg0.N = (fun i => resid (m ((c : Thread nD τ).loc main_arg0)) (m ((c : Thread nD τ).loc main_arg1)) (m ((c : Thread nD τ).loc main_arg2)) (m ((c : Thread nD τ).loc main_arg3)) (i 0) (i 1) : Vec Ideal S16384x2048 .f32) := by
  refine (dats m 0 c).arrAt_eq_of_covers 5 _ ?_ fun t hf y => ?_
  · refine Pipeline.Window.covers_of_index_surj _ rfl (by decide) fun β => ?_
    have b0 : (β 0).val < 32 := (β 0).isLt
    have b1 : (β 1).val < 1 := (β 1).isLt
    have hN : 11 * (β 0).val < cfg0.N := by
      show _ < grid0.N
      rw [N_0]
      omega
    refine ⟨⟨11 * (β 0).val, hN⟩, fun a => ?_⟩
    have hi : (cfg0.win 5).index ⟨11 * (β 0).val, hN⟩ = ![11 * (β 0).val / 11, 0] := idx5 _
    rw [hi]
    match a with
    | ⟨0, _⟩ => show 11 * (β 0).val / 11 = (β 0).val; omega
    | ⟨1, _⟩ => show 0 = (β 1).val; omega
  · have ht := (flush0_5 t).mp hf
    have hb := bound t
    blk_simp
    rw [after0_5, out5_C m c t ht]
    obtain ⟨r, k, rfl⟩ : ∃ (r : Fin 512) (k : Fin 2048), y = (ix2 r k : S512x2048.Idx) := ⟨y 0, y 1, by
      funext a
      match a with
      | ⟨0, _⟩ => rfl
      | ⟨1, _⟩ => rfl⟩
    refine (point_resid m c t ht r k).trans ?_
    have e0 : ((cfg0.win 5).blk t).view.emb (ix2 r k) 0 = (⟨t.val / 11 * 512 + r.val, by omega⟩ : Fin 16384) := by
      refine Fin.ext ?_
      blk_simp [idx5]
    have e1 : ((cfg0.win 5).blk t).view.emb (ix2 r k) 1 = k := by
      refine Fin.ext ?_
      blk_simp [idx5]
    rw [e0, e1]

theorem point_next (c : Dev nD) (t : Fin cfg0.N) (h : t.val % 11 = 10) (r : Fin 512) (d : Fin 2048) :
    k0_pay4 (iblk m c 2 t) (outsAt0 m c t.val t.isLt).2.2 (iblk m c 3 t) (iblk m c 4 t) (ix2 r d)
      = next (m ((c : Thread nD τ).loc main_arg0)) (m ((c : Thread nD τ).loc main_arg1)) (m ((c : Thread nD τ).loc main_arg2)) (m ((c : Thread nD τ).loc main_arg3)) (m ((c : Thread nD τ).loc main_arg4)) ⟨t.val / 11 * 512 + r.val, by have := bound t; omega⟩ d := by
  rw [pay4_apply]
  unfold next
  simp only [point_resid m c t h, read4]

/-- Output array 1 after the run. -/
theorem final6 (c : Dev nD) : (dats m 0 c).arrAt 6 cfg0.N = (fun i => next (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) : Vec Ideal S16384x2048 .bf16) := by
  refine (dats m 0 c).arrAt_eq_of_covers 6 _ ?_ fun t hf y => ?_
  · refine Pipeline.Window.covers_of_index_surj _ rfl (by decide) fun β => ?_
    have b0 : (β 0).val < 32 := (β 0).isLt
    have b1 : (β 1).val < 1 := (β 1).isLt
    have hN : 11 * (β 0).val < cfg0.N := by
      show _ < grid0.N
      rw [N_0]
      omega
    refine ⟨⟨11 * (β 0).val, hN⟩, fun a => ?_⟩
    have hi : (cfg0.win 6).index ⟨11 * (β 0).val, hN⟩ = ![11 * (β 0).val / 11, 0] := idx6 _
    rw [hi]
    match a with
    | ⟨0, _⟩ => show 11 * (β 0).val / 11 = (β 0).val; omega
    | ⟨1, _⟩ => show 0 = (β 1).val; omega
  · have ht := (flush0_6 t).mp hf
    have hb := bound t
    blk_simp
    rw [after0_6, out6_C m c t ht]
    obtain ⟨r, k, rfl⟩ : ∃ (r : Fin 512) (k : Fin 2048), y = (ix2 r k : S512x2048.Idx) := ⟨y 0, y 1, by
      funext a
      match a with
      | ⟨0, _⟩ => rfl
      | ⟨1, _⟩ => rfl⟩
    refine (point_next m c t ht r k).trans ?_
    have e0 : ((cfg0.win 6).blk t).view.emb (ix2 r k) 0 = (⟨t.val / 11 * 512 + r.val, by omega⟩ : Fin 16384) := by
      refine Fin.ext ?_
      blk_simp [idx6]
    have e1 : ((cfg0.win 6).blk t).view.emb (ix2 r k) 1 = k := by
      refine Fin.ext ?_
      blk_simp [idx6]
    rw [e0, e1]

end Cert.Kernel3Ideal.Dense
end
-- ==== Proof.Down.Ref.lean ====
module

public import proofs.«01_k».proof.Proof.Gen.Reference3Ideal.Run
public import proofs.«01_k».proof.Proof.Down.Kernel
public import proofs.«01_k».proof.Defs

@[expose] public section

set_option maxRecDepth 16384
noncomputable section

namespace Cert.Kernel3Ideal.Dense

open Idealize.ShloMosaic Idealize.ShloMosaic.TcCoe Idealize.SL.Sem Idealize.ShloMosaic.StableHlo Cert.OutProj

open Cert.Reference3Ideal Cert.Reference3Ideal.Gen in
theorem normed_ref (X : FVec Ideal S16384x2048 .f32) (W : FVec Ideal S2048 .f32) (i : Fin 16384) (d : Fin 2048) :
    ((mulf (mulf X (broadcastInDim S16384x2048 ![0, 1] bcast_S16384x1_S16384x2048_0_1 (Host.rsqrt (addf (Host.divf
      (broadcastInDim S16384x1 ![0] bcast_S16384_S16384x1_0 (Host.reduceAdd (mulf X X) (constant S_ .f32 0x00000000#32) reducesTo_S16384x2048_S16384_d1 h_S_))
      (broadcastInDim S16384x1 ![] bcast_S_S16384x1 (constant S_ .f32 0x45000000#32))) (broadcastInDim S16384x1 ![] bcast_S_S16384x1 (constant S_ .f32 0x358637BD#32))))))
      (broadcastInDim S16384x2048 ![0, 1] bcast_S1x2048_S16384x2048_0_1 (broadcastInDim S1x2048 ![1] bcast_S2048_S1x2048_1 W))) : FVec Ideal S16384x2048 .f32)
      (ix2 i d) = normed (fun e => X (ix2 i e)) (fun e => W (ix1 e)) d := by
  unfold normed
  pointwise

open Cert.Reference3Ideal Cert.Reference3Ideal.Gen in
theorem proj_ref (A : FVec Ideal S16384x5632 .bf16) (W : FVec Ideal S5632x2048 .f32) (i : Fin 16384) (d : Fin 2048) :
    (Host.dotGeneral dot_S16384x5632_S5632x2048_S16384x2048_1_0_0_1_n_n none (extf .f32 A bitsLt_bf16_f32) W : FVec Ideal S16384x2048 .f32) (ix2 i d) = proj A W i d := by
  unfold proj pterm
  pointwise

open Cert.Reference3Ideal Cert.Reference3Ideal.Gen in
theorem resid_ref (A : Vec Ideal S16384x5632 .bf16) (W : Vec Ideal S5632x2048 .f32) (X : Vec Ideal S16384x2048 .f32) (P : Vec Ideal S2048 .f32) (Y : FVec Ideal S16384x2048 .f32) (hY : ∀ i d, Y (ix2 i d) = proj A W i d) (i : Fin 16384) (d : Fin 2048) :
    (addf X (mulf (mulf Y (broadcastInDim S16384x2048 ![0, 1] bcast_S16384x1_S16384x2048_0_1 (Host.rsqrt (addf (Host.divf
      (broadcastInDim S16384x1 ![0] bcast_S16384_S16384x1_0 (Host.reduceAdd (mulf Y Y) (constant S_ .f32 0x00000000#32) reducesTo_S16384x2048_S16384_d1 h_S_))
      (broadcastInDim S16384x1 ![] bcast_S_S16384x1 (constant S_ .f32 0x45000000#32))) (broadcastInDim S16384x1 ![] bcast_S_S16384x1 (constant S_ .f32 0x358637BD#32))))))
      (broadcastInDim S16384x2048 ![0, 1] bcast_S1x2048_S16384x2048_0_1 (broadcastInDim S1x2048 ![1] bcast_S2048_S1x2048_1 P))) : FVec Ideal S16384x2048 .f32)
      (ix2 i d) = resid A W X P i d := by
  refine (congrArg (fun z => X (ix2 i d) + z) (normed_ref Y P i d)).trans ?_
  unfold resid
  simp only [hY]

open Cert.Reference3Ideal Cert.Reference3Ideal.Gen in
theorem next_ref (A : Vec Ideal S16384x5632 .bf16) (W : Vec Ideal S5632x2048 .f32) (X : Vec Ideal S16384x2048 .f32) (P : Vec Ideal S2048 .f32) (Q : Vec Ideal S2048 .f32) (Z : FVec Ideal S16384x2048 .f32) (hZ : ∀ i d, Z (ix2 i d) = resid A W X P i d) (i : Fin 16384) (d : Fin 2048) :
    (truncf .bf16 (mulf (mulf Z (broadcastInDim S16384x2048 ![0, 1] bcast_S16384x1_S16384x2048_0_1 (Host.rsqrt (addf (Host.divf
      (broadcastInDim S16384x1 ![0] bcast_S16384_S16384x1_0 (Host.reduceAdd (mulf Z Z) (constant S_ .f32 0x00000000#32) reducesTo_S16384x2048_S16384_d1 h_S_))
      (broadcastInDim S16384x1 ![] bcast_S_S16384x1 (constant S_ .f32 0x45000000#32))) (broadcastInDim S16384x1 ![] bcast_S_S16384x1 (constant S_ .f32 0x358637BD#32))))))
      (broadcastInDim S16384x2048 ![0, 1] bcast_S1x2048_S16384x2048_0_1 (broadcastInDim S1x2048 ![1] bcast_S2048_S1x2048_1 Q))) bitsLt_bf16_f32 : FVec Ideal S16384x2048 .bf16)
      (ix2 i d) = next A W X P Q i d := by
  refine (normed_ref Z Q i d).trans ?_
  unfold next
  simp only [hZ]

/-- Over the reals the call's results are the reference's. -/
theorem algebraic : Cert.algebraic_Kernel3Ideal_Reference3Ideal (hKernel3Ideal := Cert.Kernel3Ideal.Gen.facts)
    (hReference3Ideal := Cert.Reference3Ideal.Gen.facts) := by
  intro m g m' g' _ hag
  refine ⟨fun c => fun i => resid (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (i 0) (i 1),
    fun c => fun i => next (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (i 0) (i 1), ?_, ?_⟩
  · exact (θ_run _ _ _).mono (fun _ h c => ⟨(h c).1.trans (final5 m c), (h c).2.1.trans (final6 m c), (h c).2.2⟩) (Cert.Kernel3Ideal.Value.run_blocks m g)
  · refine (θ_run _ _ _).mono (fun _ h c => ⟨(h c).1.trans ?_, (h c).2.1.trans ?_, (h c).2.2⟩) (Cert.Reference3Ideal.Value.run m' g')
    · obtain ⟨h0, h1, h2, h3, h4⟩ := hag c
      rw [h0, h1, h2, h3]
      funext j
      obtain ⟨r, k, rfl⟩ : ∃ (r : Fin 16384) (k : Fin 2048), j = ix2 r k := ⟨j 0, j 1, by
        funext a
        match a with
        | ⟨0, _⟩ => rfl
        | ⟨1, _⟩ => rfl⟩
      exact resid_ref _ _ _ _ _ (proj_ref _ _) r k
    · obtain ⟨h0, h1, h2, h3, h4⟩ := hag c
      unfold Cert.Reference3Ideal.Value.res_main_v29
      rw [h0, h1, h2, h3, h4]
      funext j
      obtain ⟨r, k, rfl⟩ : ∃ (r : Fin 16384) (k : Fin 2048), j = ix2 r k := ⟨j 0, j 1, by
        funext a
        match a with
        | ⟨0, _⟩ => rfl
        | ⟨1, _⟩ => rfl⟩
      exact next_ref _ _ _ _ _ _ (resid_ref _ _ _ _ _ (proj_ref _ _)) r k

end Cert.Kernel3Ideal.Dense
end
-- ==== Proof.LastDown.Kernel.lean ====
module

public import proofs.«01_k».proof.Proof.Gen.Kernel4Ideal.Value
public import Idealize.ShloMosaic.Lib.Pointwise
public import Idealize.ShloMosaic.Lib.Pipeline.ReadBack
public import proofs.«01_k».proof.Proof.OutProj.Math
public import Idealize.ShloMosaic.Lib.Pipeline.ValueKit
public import Idealize.ShloMosaic.Lib.Pipeline.Covers
public import Idealize.ShloMosaic.Lib.StableHlo.Run

@[expose] public section

set_option maxRecDepth 16384
noncomputable section

namespace Cert.Kernel4Ideal.Dense

open Cert.OutProj Cert.Kernel4Ideal Cert.Kernel4Ideal.Gen Idealize.ShloMosaic Idealize.ShloMosaic.TcCoe Idealize.SL.Sem Idealize.ShloMosaic.StableHlo

theorem pay1_apply (r : Fin 512) (d : Fin 2048) : (k0_pay1 (F := Ideal)) (ix2 r d) = 0 := by
  pointwise [k0_pay1]

theorem pay2_apply (s : Vec Ideal S512x2048 .f32) (a : Vec Ideal S512x512 .bf16) (w : Vec Ideal S512x2048 .bf16) (r : Fin 512) (d : Fin 2048) :
    k0_pay2 s a w (ix2 r d) = s (ix2 r d) + ∑ k : Fin 512, a (ix2 r k) * w (ix2 k d) := by
  pointwise [k0_pay2]

theorem pay3_apply (x s : Vec Ideal S512x2048 .f32) (w : Vec Ideal S1x2048 .f32) (r : Fin 512) (d : Fin 2048) :
    k0_pay3 x s w (ix2 r d) = x (ix2 r d) + normed (fun e => s (ix2 r e)) (fun e => w (ix2 0 e)) d := by
  unfold normed
  pointwise [k0_pay3]

variable (m : (ℓ : Loc nD τ sig) → Buf (Elt Ideal) ℓ)

theorem acc_A (c : Dev nD) (t : Fin cfg0.N) (h : t.val % 11 = 0) :
    (outsAt0 m c t.val t.isLt).2 = k0_pay2 (k0_pay1 (F := Ideal)) (iblk m c 0 t) (iblk m c 1 t) := by
  rw [outsAt0_A m c t h (by omega)]
  frame_out

theorem acc_B (c : Dev nD) (t : Fin cfg0.N) (h : ¬t.val % 11 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 11 = 10
  · rw [outsAt0_C m c t h h1]
    frame_out
    rw [read_unread_whole]
  · rw [outsAt0_B m c t h h1]
    frame_out
    rw [read_unread_whole]

theorem out5_C (c : Dev nD) (t : Fin cfg0.N) (h : t.val % 11 = 10) :
    (outsAt0 m c t.val t.isLt).1 = k0_pay3 (iblk m c 2 t) (outsAt0 m c t.val t.isLt).2 (iblk m c 3 t) := by
  rw [acc_B m c t (by omega), outsAt0_C m c t (by omega) h]
  frame_out
  rw [read_unread_whole]

theorem idx0 : ∀ t : Fin grid0.N, win0_0.index t = ![t.val / 11, t.val % 11] := by decide +kernel
theorem idx1 : ∀ t : Fin grid0.N, win0_1.index t = ![t.val % 11, 0] := by decide +kernel
theorem idx2 : ∀ t : Fin grid0.N, win0_2.index t = ![t.val / 11, 0] := by decide +kernel
theorem idx3 : ∀ t : Fin grid0.N, win0_3.index t = ![0, 0] := by decide +kernel
theorem idx5 : ∀ t : Fin grid0.N, win0_5.index t = ![t.val / 11, 0] := by decide +kernel

theorem bound (t : Fin cfg0.N) : t.val < 352 := lt_of_lt_of_eq t.isLt N_0

theorem V_main_v0 (c : Dev nD) : V m c main_v0 = (truncf (F := Ideal) (s := S5632x2048) (φ := .f32) .bf16 (m ((c : Thread nD τ).loc main_arg1)) bitsLt_bf16_f32 : FVec Ideal S5632x2048 .bf16) := by
  show StableHlo.after hostOps0 _ main_v0 = _
  after_results_simp <;> rfl

theorem read0 (c : Dev nD) (t : Fin cfg0.N) (r k : Fin 512) : (iblk m c 0 t : Vec Ideal S512x512 .bf16) (ix2 r k)
    = (m ((c : Thread nD τ).loc main_arg0) : Vec Ideal S16384x5632 .bf16) (ix2 ⟨t.val / 11 * 512 + r.val, by have := bound t; omega⟩ ⟨512 * (t.val % 11) + k.val, by omega⟩) := by
  blk_simp [iblk]
  rw [V_main_arg0]
  refine congrArg (m ((c : Thread nD τ).loc main_arg0)) (funext fun a => Fin.ext ?_)
  blk_simp [idx0]
  match a with
  | ⟨0, _⟩ => rfl
  | ⟨1, _⟩ => show t.val % 11 * 512 + k.val = 512 * (t.val % 11) + k.val; ring

theorem read1 (c : Dev nD) (t : Fin cfg0.N) (k : Fin 512) (d : Fin 2048) : (iblk m c 1 t : Vec Ideal S512x2048 .bf16) (ix2 k d)
    = (m ((c : Thread nD τ).loc main_arg1) : Vec Ideal S5632x2048 .f32) (ix2 ⟨512 * (t.val % 11) + k.val, by omega⟩ d) := by
  blk_simp [iblk]
  rw [V_main_v0]
  refine congrArg (m ((c : Thread nD τ).loc main_arg1)) (funext fun a => Fin.ext ?_)
  blk_simp [idx1]
  match a with
  | ⟨0, _⟩ => show t.val % 11 * 512 + k.val = 512 * (t.val % 11) + k.val; ring
  | ⟨1, _⟩ => show 0 * 2048 + d.val = d.val; ring

theorem read2 (c : Dev nD) (t : Fin cfg0.N) (r : Fin 512) (d : Fin 2048) : (iblk m c 2 t : Vec Ideal S512x2048 .f32) (ix2 r d)
    = (m ((c : Thread nD τ).loc main_arg2) : Vec Ideal S16384x2048 .f32) (ix2 ⟨t.val / 11 * 512 + r.val, by have := bound t; omega⟩ d) := by
  blk_simp [iblk]
  rw [V_main_arg2]
  refine congrArg (m ((c : Thread nD τ).loc main_arg2)) (funext fun a => Fin.ext ?_)
  blk_simp [idx2]
  match a with
  | ⟨0, _⟩ => rfl
  | ⟨1, _⟩ => show 0 * 2048 + d.val = d.val; ring

theorem V_main_v1 (c : Dev nD) : V m c main_v1 = shapeCast S1x2048 (m ((c : Thread nD τ).loc main_arg3)) shapeCasts_S2048_S1x2048 := by
  show StableHlo.after hostOps0 _ main_v1 = _
  after_results_simp <;> rfl

theorem read3 (c : Dev nD) (t : Fin cfg0.N) (e : Fin 2048) : (iblk m c 3 t : Vec Ideal S1x2048 .f32) (ix2 0 e)
    = (m ((c : Thread nD τ).loc main_arg3) : Vec Ideal S2048 .f32) (ix1 e) := by
  blk_simp [iblk]
  rw [V_main_v1]
  have e1 : (win0_3.blk t).view.emb (ix2 0 e) = (ix2 0 e : S1x2048.Idx) := by
    refine funext fun a => Fin.ext ?_
    blk_simp [idx3]
    match a with
    | ⟨0, _⟩ => rfl
    | ⟨1, _⟩ => show 0 * 2048 + e.val = e.val; ring
  rw [e1]
  pointwise

/-- One product of the projection. -/
def pterm (A : Vec Ideal S16384x5632 .bf16) (W : Vec Ideal S5632x2048 .f32) (i : Fin 16384) (e : Fin 5632) (j : Fin 2048) : EReal :=
  A (ix2 i e) * W (ix2 e j)

/-- Row `i` of the left operand with column `j` of the weights. -/
def proj (A : Vec Ideal S16384x5632 .bf16) (W : Vec Ideal S5632x2048 .f32) (i : Fin 16384) (j : Fin 2048) : EReal :=
  ∑ e : Fin 5632, pterm A W i e j

/-- The residual row plus the normed projection. -/
def resid (A : Vec Ideal S16384x5632 .bf16) (W : Vec Ideal S5632x2048 .f32) (X : Vec Ideal S16384x2048 .f32) (P : Vec Ideal S2048 .f32)
    (i : Fin 16384) (j : Fin 2048) : EReal :=
  X (ix2 i j) + normed (fun e => proj A W i e) (fun e => P (ix1 e)) j

/-- What a point adds to the accumulator. -/
def dot (A : Vec Ideal S512x512 .bf16) (W : Vec Ideal S512x2048 .bf16) (r : Fin 512) (d : Fin 2048) : EReal :=
  ∑ k : Fin 512, A (ix2 r k) * W (ix2 k d)

/-- What a run's last point leaves in the accumulator. -/
theorem acc_apply (c : Dev nD) (t : Fin cfg0.N) (h : t.val % 11 = 10) (r : Fin 512) (d : Fin 2048) :
    (outsAt0 m c t.val t.isLt).2 (ix2 r d)
      = proj (m ((c : Thread nD τ).loc main_arg0)) (m ((c : Thread nD τ).loc main_arg1)) ⟨t.val / 11 * 512 + r.val, by have := bound t; omega⟩ d := by
  have hb := bound t
  have key := Pipeline.eq_sum_fin_of_reset_step_apply_of_flush (fun n h' => fun i : Fin 512 × Fin 2048 => (outsAt0 m c n h').2 (ix2 i.1 i.2)) 11 (fun _ => (0 : EReal))
    (fun t i => dot (iblk m c 0 t) (iblk m c 1 t) i.1 i.2)
    (fun t h i => by
      show (outsAt0 m c t.val t.isLt).2 (ix2 i.1 i.2) = _
      rw [acc_A m c t h, pay2_apply, pay1_apply]
      rfl)
    (fun t h i => by
      show (outsAt0 m c t.val t.isLt).2 (ix2 i.1 i.2) = _
      rw [acc_B m c t h, pay2_apply]
      rfl)
    t h (r, d)
  refine key.trans ?_
  rw [zero_add]
  unfold proj
  refine Eq.trans ?_ (sum_runs 11 512 (fun e => pterm (m ((c : Thread nD τ).loc main_arg0)) (m ((c : Thread nD τ).loc main_arg1)) ⟨t.val / 11 * 512 + r.val, by omega⟩ e d) (fun s k => by omega))
  refine Finset.sum_congr rfl fun s _ => Finset.sum_congr rfl fun k _ => ?_
  have hs := s.isLt
  unfold pterm
  rw [read0, read1]
  have e0 : (11 * (t.val / 11) + s.val) / 11 = t.val / 11 := by omega
  have e1 : (11 * (t.val / 11) + s.val) % 11 = s.val := by omega
  congr 2
  · simp only [e0, e1]
  · simp only [e1]

theorem point_resid (c : Dev nD) (t : Fin cfg0.N) (h : t.val % 11 = 10) (r : Fin 512) (d : Fin 2048) :
    k0_pay3 (iblk m c 2 t) (outsAt0 m c t.val t.isLt).2 (iblk m c 3 t) (ix2 r d)
      = resid (m ((c : Thread nD τ).loc main_arg0)) (m ((c : Thread nD τ).loc main_arg1)) (m ((c : Thread nD τ).loc main_arg2)) (m ((c : Thread nD τ).loc main_arg3)) ⟨t.val / 11 * 512 + r.val, by have := bound t; omega⟩ d := by
  rw [pay3_apply]
  unfold resid
  simp only [read2, read3, acc_apply m c t h]

/-- Output array 0 after the run. -/
theorem final5 (c : Dev nD) : (dats m 0 c).arrAt 5 cfg0.N = (fun i => resid (m ((c : Thread nD τ).loc main_arg0)) (m ((c : Thread nD τ).loc main_arg1)) (m ((c : Thread nD τ).loc main_arg2)) (m ((c : Thread nD τ).loc main_arg3)) (i 0) (i 1) : Vec Ideal S16384x2048 .f32) := by
  refine (dats m 0 c).arrAt_eq_of_covers 5 _ ?_ fun t hf y => ?_
  · refine Pipeline.Window.covers_of_index_surj _ rfl (by decide) fun β => ?_
    have b0 : (β 0).val < 32 := (β 0).isLt
    have b1 : (β 1).val < 1 := (β 1).isLt
    have hN : 11 * (β 0).val < cfg0.N := by
      show _ < grid0.N
      rw [N_0]
      omega
    refine ⟨⟨11 * (β 0).val, hN⟩, fun a => ?_⟩
    have hi : (cfg0.win 5).index ⟨11 * (β 0).val, hN⟩ = ![11 * (β 0).val / 11, 0] := idx5 _
    rw [hi]
    match a with
    | ⟨0, _⟩ => show 11 * (β 0).val / 11 = (β 0).val; omega
    | ⟨1, _⟩ => show 0 = (β 1).val; omega
  · have ht := (flush0_5 t).mp hf
    have hb := bound t
    blk_simp
    rw [after0_5, out5_C m c t ht]
    obtain ⟨r, k, rfl⟩ : ∃ (r : Fin 512) (k : Fin 2048), y = (ix2 r k : S512x2048.Idx) := ⟨y 0, y 1, by
      funext a
      match a with
      | ⟨0, _⟩ => rfl
      | ⟨1, _⟩ => rfl⟩
    refine (point_resid m c t ht r k).trans ?_
    have e0 : ((cfg0.win 5).blk t).view.emb (ix2 r k) 0 = (⟨t.val / 11 * 512 + r.val, by omega⟩ : Fin 16384) := by
      refine Fin.ext ?_
      blk_simp [idx5]
    have e1 : ((cfg0.win 5).blk t).view.emb (ix2 r k) 1 = k := by
      refine Fin.ext ?_
      blk_simp [idx5]
    rw [e0, e1]

end Cert.Kernel4Ideal.Dense
end
-- ==== Proof.LastDown.Ref.lean ====
module

public import proofs.«01_k».proof.Proof.Gen.Reference4Ideal.Run
public import proofs.«01_k».proof.Proof.LastDown.Kernel
public import proofs.«01_k».proof.Defs

@[expose] public section

set_option maxRecDepth 16384
noncomputable section

namespace Cert.Kernel4Ideal.Dense

open Idealize.ShloMosaic Idealize.ShloMosaic.TcCoe Idealize.SL.Sem Idealize.ShloMosaic.StableHlo Cert.OutProj

open Cert.Reference4Ideal Cert.Reference4Ideal.Gen in
theorem normed_ref (X : FVec Ideal S16384x2048 .f32) (W : FVec Ideal S2048 .f32) (i : Fin 16384) (d : Fin 2048) :
    ((mulf (mulf X (broadcastInDim S16384x2048 ![0, 1] bcast_S16384x1_S16384x2048_0_1 (Host.rsqrt (addf (Host.divf
      (broadcastInDim S16384x1 ![0] bcast_S16384_S16384x1_0 (Host.reduceAdd (mulf X X) (constant S_ .f32 0x00000000#32) reducesTo_S16384x2048_S16384_d1 h_S_))
      (broadcastInDim S16384x1 ![] bcast_S_S16384x1 (constant S_ .f32 0x45000000#32))) (broadcastInDim S16384x1 ![] bcast_S_S16384x1 (constant S_ .f32 0x358637BD#32))))))
      (broadcastInDim S16384x2048 ![0, 1] bcast_S1x2048_S16384x2048_0_1 (broadcastInDim S1x2048 ![1] bcast_S2048_S1x2048_1 W))) : FVec Ideal S16384x2048 .f32)
      (ix2 i d) = normed (fun e => X (ix2 i e)) (fun e => W (ix1 e)) d := by
  unfold normed
  pointwise

open Cert.Reference4Ideal Cert.Reference4Ideal.Gen in
theorem proj_ref (A : FVec Ideal S16384x5632 .bf16) (W : FVec Ideal S5632x2048 .f32) (i : Fin 16384) (d : Fin 2048) :
    (Host.dotGeneral dot_S16384x5632_S5632x2048_S16384x2048_1_0_0_1_n_n none (extf .f32 A bitsLt_bf16_f32) W : FVec Ideal S16384x2048 .f32) (ix2 i d) = proj A W i d := by
  unfold proj pterm
  pointwise

open Cert.Reference4Ideal Cert.Reference4Ideal.Gen in
theorem resid_ref (A : Vec Ideal S16384x5632 .bf16) (W : Vec Ideal S5632x2048 .f32) (X : Vec Ideal S16384x2048 .f32) (P : Vec Ideal S2048 .f32) (Y : FVec Ideal S16384x2048 .f32) (hY : ∀ i d, Y (ix2 i d) = proj A W i d) (i : Fin 16384) (d : Fin 2048) :
    (addf X (mulf (mulf Y (broadcastInDim S16384x2048 ![0, 1] bcast_S16384x1_S16384x2048_0_1 (Host.rsqrt (addf (Host.divf
      (broadcastInDim S16384x1 ![0] bcast_S16384_S16384x1_0 (Host.reduceAdd (mulf Y Y) (constant S_ .f32 0x00000000#32) reducesTo_S16384x2048_S16384_d1 h_S_))
      (broadcastInDim S16384x1 ![] bcast_S_S16384x1 (constant S_ .f32 0x45000000#32))) (broadcastInDim S16384x1 ![] bcast_S_S16384x1 (constant S_ .f32 0x358637BD#32))))))
      (broadcastInDim S16384x2048 ![0, 1] bcast_S1x2048_S16384x2048_0_1 (broadcastInDim S1x2048 ![1] bcast_S2048_S1x2048_1 P))) : FVec Ideal S16384x2048 .f32)
      (ix2 i d) = resid A W X P i d := by
  refine (congrArg (fun z => X (ix2 i d) + z) (normed_ref Y P i d)).trans ?_
  unfold resid
  simp only [hY]

/-- Over the reals the call's results are the reference's. -/
theorem algebraic : Cert.algebraic_Kernel4Ideal_Reference4Ideal (hKernel4Ideal := Cert.Kernel4Ideal.Gen.facts)
    (hReference4Ideal := Cert.Reference4Ideal.Gen.facts) := by
  intro m g m' g' _ hag
  refine ⟨fun c => fun i => resid (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (i 0) (i 1),
    ?_, ?_⟩
  · exact (θ_run _ _ _).mono (fun _ h c => ⟨(h c).1.trans (final5 m c), (h c).2⟩) (Cert.Kernel4Ideal.Value.run_blocks m g)
  · refine (θ_run _ _ _).mono (fun _ h c => ⟨(h c).1.trans ?_, (h c).2⟩) (Cert.Reference4Ideal.Value.run m' g')
    · obtain ⟨h0, h1, h2, h3⟩ := hag c
      rw [h0, h1, h2, h3]
      funext j
      obtain ⟨r, k, rfl⟩ : ∃ (r : Fin 16384) (k : Fin 2048), j = ix2 r k := ⟨j 0, j 1, by
        funext a
        match a with
        | ⟨0, _⟩ => rfl
        | ⟨1, _⟩ => rfl⟩
      exact resid_ref _ _ _ _ _ (proj_ref _ _) r k

end Cert.Kernel4Ideal.Dense
end
-- ==== Proof.InProj.Kernel.lean ====
module

public import proofs.«01_k».proof.Proof.Gen.Kernel5Ideal.Value
public import Idealize.ShloMosaic.Lib.Pointwise
public import Idealize.ShloMosaic.Lib.Pipeline.ValueKit
public import Idealize.ShloMosaic.Lib.Pipeline.Covers
public import Idealize.ShloMosaic.Lib.StableHlo.Run

@[expose] public section

set_option maxRecDepth 16384
noncomputable section

namespace Cert.Kernel5Ideal.Dense

open Cert.Kernel5Ideal Cert.Kernel5Ideal.Gen Idealize.ShloMosaic Idealize.ShloMosaic.TcCoe Idealize.SL.Sem Idealize.ShloMosaic.StableHlo

theorem pay_apply (x0 : Vec Ideal S1024x2048 .bf16) (x1 : Vec Ideal S2048x1024 .bf16) (r : Fin 1024) (k : Fin 1024) :
    k0_pay1 x0 x1 (ix2 r k) = ∑ e : Fin 2048, x0 (ix2 r e) * x1 (ix2 e k) := by
  pointwise [k0_pay1]

theorem out_eq (x0 : Vec Ideal S1024x2048 .bf16) (x1 : Vec Ideal S2048x1024 .bf16) : out0_2 x0 x1 = k0_pay1 x0 x1 := by
  frame_out

variable (m : (ℓ : Loc nD τ sig) → Buf (Elt Ideal) ℓ)

theorem idx0 : ∀ t : Fin grid0.N, win0_0.index t = ![(grid0.coords t 0).val, 0] := by decide +kernel
theorem idx1 : ∀ t : Fin grid0.N, win0_1.index t = ![0, (grid0.coords t 1).val] := by decide +kernel
theorem idx2 : ∀ t : Fin grid0.N, win0_2.index t = ![(grid0.coords t 0).val, (grid0.coords t 1).val] := by decide +kernel

theorem c0 (t : Fin cfg0.N) : (grid0.coords t 0).val < 16 := (grid0.coords t 0).isLt
theorem c1 (t : Fin cfg0.N) : (grid0.coords t 1).val < 10 := (grid0.coords t 1).isLt

theorem V_main_v1 (c : Dev nD) : V m c main_v1 = (truncf (F := Ideal) (s := S2048x10240) (φ := .f32) .bf16 (extractStridedSlice S2048x10240 ![0, 0] (m ((c : Thread nD τ).loc main_arg1) : Vec Ideal S2048x10304 .f32) slices_S2048x10304_S2048x10240_0_0) bitsLt_bf16_f32 : FVec Ideal S2048x10240 .bf16) := by
  show StableHlo.after hostOps0 _ main_v1 = _
  after_results_simp <;> rfl

/-- Row `i` of the left operand with column `j` of the right one. -/
def target (A : Vec Ideal S16384x2048 .bf16) (W : Vec Ideal S2048x10304 .f32) (i : Fin 16384) (j : Fin 10240) : EReal :=
  ∑ e : Fin 2048, A (ix2 i e) * W (ix2 e ⟨j.val, by omega⟩)

theorem read0 (c : Dev nD) (t : Fin cfg0.N) (r : Fin 1024) (e : Fin 2048) : (iblk m c 0 t : Vec Ideal S1024x2048 .bf16) (ix2 r e)
    = (m ((c : Thread nD τ).loc main_arg0) : Vec Ideal S16384x2048 .bf16) (ix2 ⟨(grid0.coords t 0).val * 1024 + r.val, by have := c0 t; omega⟩ e) := by
  blk_simp [iblk]
  rw [V_main_arg0]
  refine congrArg (m ((c : Thread nD τ).loc main_arg0)) (funext fun a => Fin.ext ?_)
  blk_simp [idx0]
  match a with
  | ⟨0, _⟩ => rfl
  | ⟨1, _⟩ => show 0 * 2048 + e.val = e.val; ring

theorem read1 (c : Dev nD) (t : Fin cfg0.N) (e : Fin 2048) (k : Fin 1024) : (iblk m c 1 t : Vec Ideal S2048x1024 .bf16) (ix2 e k)
    = (m ((c : Thread nD τ).loc main_arg1) : Vec Ideal S2048x10304 .f32) (ix2 e ⟨(grid0.coords t 1).val * 1024 + k.val, by have := c1 t; omega⟩) := by
  blk_simp [iblk]
  rw [V_main_v1]
  have e1 : (win0_1.blk t).view.emb (ix2 e k) = (ix2 e ⟨(grid0.coords t 1).val * 1024 + k.val, by have := c1 t; omega⟩ : S2048x10240.Idx) := by
    refine funext fun a => Fin.ext ?_
    blk_simp [idx1]
    match a with
    | ⟨0, _⟩ => show 0 * 2048 + e.val = e.val; ring
    | ⟨1, _⟩ => rfl
  rw [e1]
  pointwise

/-- The output array after the run. -/
theorem final (c : Dev nD) : (dats m 0 c).arrAt 2 cfg0.N = (fun i => target (m ((c : Thread nD τ).loc main_arg0)) (m ((c : Thread nD τ).loc main_arg1)) (i 0) (i 1) : Vec Ideal S16384x10240 .bf16) := by
  refine (dats m 0 c).arrAt_eq_of_covers 2 _ ?_ fun t hf y => ?_
  · refine Pipeline.Window.covers_of_index_surj _ rfl (by decide) fun β => ?_
    have b0 : (β 0).val < 16 := (β 0).isLt
    have b1 : (β 1).val < 10 := (β 1).isLt
    obtain ⟨t, ht⟩ := grid0.coords_surjective (fun a => match a with | ⟨0, _⟩ => ⟨(β 0).val, b0⟩ | ⟨1, _⟩ => ⟨(β 1).val, b1⟩)
    refine ⟨t, fun a => ?_⟩
    have hi : (cfg0.win 2).index t = ![(grid0.coords t 0).val, (grid0.coords t 1).val] := idx2 t
    rw [hi, ht]
    match a with
    | ⟨0, _⟩ => rfl
    | ⟨1, _⟩ => rfl
  · blk_simp
    rw [after0_2, out_eq]
    obtain ⟨r, k, rfl⟩ : ∃ (r : Fin 1024) (k : Fin 1024), y = (ix2 r k : S1024x1024.Idx) := ⟨y 0, y 1, by
      funext a
      match a with
      | ⟨0, _⟩ => rfl
      | ⟨1, _⟩ => rfl⟩
    refine (pay_apply _ _ r k).trans ?_
    simp only [read0, read1]
    have e0 : ((cfg0.win 2).blk t).view.emb (ix2 r k) 0 = (⟨(grid0.coords t 0).val * 1024 + r.val, by have := c0 t; omega⟩ : Fin 16384) := by
      refine Fin.ext ?_
      blk_simp [idx2]
    have e1 : ((cfg0.win 2).blk t).view.emb (ix2 r k) 1 = (⟨(grid0.coords t 1).val * 1024 + k.val, by have := c1 t; omega⟩ : Fin 10240) := by
      refine Fin.ext ?_
      blk_simp [idx2]
    rw [e0, e1]
    rfl

end Cert.Kernel5Ideal.Dense
end
-- ==== Proof.InProj.Ref.lean ====
module

public import proofs.«01_k».proof.Proof.Gen.Reference5Ideal.Run
public import proofs.«01_k».proof.Proof.InProj.Kernel
public import proofs.«01_k».proof.Defs

@[expose] public section

set_option maxRecDepth 16384
noncomputable section

namespace Cert.Kernel5Ideal.Dense

open Idealize.ShloMosaic Idealize.ShloMosaic.TcCoe Idealize.SL.Sem Idealize.ShloMosaic.StableHlo

/-- Over the reals the input projection call's result is the reference's. -/
theorem algebraic : Cert.algebraic_Kernel5Ideal_Reference5Ideal (hKernel5Ideal := Cert.Kernel5Ideal.Gen.facts)
    (hReference5Ideal := Cert.Reference5Ideal.Gen.facts) := by
  intro m g m' g' _ hag
  refine ⟨fun c => fun i => target (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (i 0) (i 1), ?_, ?_⟩
  · exact (θ_run _ _ _).mono (fun _ h c => ⟨(h c).1.trans (final m c), (h c).2⟩) (Cert.Kernel5Ideal.Value.run_blocks m g)
  · refine (θ_run _ _ _).mono (fun _ h c => ⟨(h c).1.trans ?_, (h c).2⟩) (Cert.Reference5Ideal.Value.run m' g')
    obtain ⟨h0, h1⟩ := hag c
    rw [h0, h1]
    funext j
    obtain ⟨r, k, rfl⟩ : ∃ (r : Fin 16384) (k : Fin 10240), j = ix2 r k := ⟨j 0, j 1, by
      funext a
      match a with
      | ⟨0, _⟩ => rfl
      | ⟨1, _⟩ => rfl⟩
    unfold target
    pointwise

end Cert.Kernel5Ideal.Dense
end
-- ==== Proof.DtProj.Kernel.lean ====
module

public import proofs.«01_k».proof.Proof.Gen.Kernel6Ideal.Value
public import Idealize.ShloMosaic.Lib.Pointwise
public import Idealize.ShloMosaic.Lib.Pipeline.ValueKit
public import Idealize.ShloMosaic.Lib.Pipeline.Covers
public import Idealize.ShloMosaic.Lib.StableHlo.Run

@[expose] public section

set_option maxRecDepth 16384
noncomputable section

namespace Cert.Kernel6Ideal.Dense

open Cert.Kernel6Ideal Cert.Kernel6Ideal.Gen Idealize.ShloMosaic Idealize.ShloMosaic.TcCoe Idealize.SL.Sem Idealize.ShloMosaic.StableHlo

theorem pay_apply (x0 : Vec Ideal S1024x2048 .bf16) (x1 : Vec Ideal S2048x128 .bf16) (r : Fin 1024) (k : Fin 128) :
    k0_pay1 x0 x1 (ix2 r k) = ∑ e : Fin 2048, x0 (ix2 r e) * x1 (ix2 e k) := by
  pointwise [k0_pay1]

theorem out_eq (x0 : Vec Ideal S1024x2048 .bf16) (x1 : Vec Ideal S2048x128 .bf16) : out0_2 x0 x1 = k0_pay1 x0 x1 := by
  frame_out

variable (m : (ℓ : Loc nD τ sig) → Buf (Elt Ideal) ℓ)

theorem idx0 : ∀ t : Fin grid0.N, win0_0.index t = ![(grid0.coords t 0).val, 0] := by decide +kernel
theorem idx1 : ∀ t : Fin grid0.N, win0_1.index t = ![0, (grid0.coords t 1).val] := by decide +kernel
theorem idx2 : ∀ t : Fin grid0.N, win0_2.index t = ![(grid0.coords t 0).val, (grid0.coords t 1).val] := by decide +kernel

theorem c0 (t : Fin cfg0.N) : (grid0.coords t 0).val < 16 := (grid0.coords t 0).isLt
theorem c1 (t : Fin cfg0.N) : (grid0.coords t 1).val < 1 := (grid0.coords t 1).isLt

/-- The last 64 columns, filled up with 64 columns of zeros. -/
def padded (W : Vec Ideal S2048x10304 .f32) (e : Fin 2048) (j : Fin 128) : EReal :=
  if h : j.val < 64 then W (ix2 e ⟨10240 + j.val, by omega⟩) else 0

theorem V_main_v2 (c : Dev nD) : V m c main_v2 = (truncf (F := Ideal) (s := S2048x128) (φ := .f32) .bf16
    (pad S2048x128 ![0, 0] ![0, 64] ![0, 0] (extractStridedSlice S2048x64 ![0, 10240] (m ((c : Thread nD τ).loc main_arg1) : Vec Ideal S2048x10304 .f32) slices_S2048x10304_S2048x64_0_10240)
      (sitofp .f32 (constantI S_ 32 0#32)) pads_S2048x64_S2048x128_000_0640 h_S_) bitsLt_bf16_f32 : FVec Ideal S2048x128 .bf16) := by
  show StableHlo.after (List.flatten [hostOps0, hostOps0_1, hostOps0_2]) _ main_v2 = _
  simp only [hostOps0, hostOps0_1, hostOps0_2, List.flatten_cons, List.flatten_nil, List.append_nil, List.cons_append, List.nil_append, StableHlo.TRef.unary, StableHlo.TRef.binary, StableHlo.TRef.toBuf, StableHlo.TRef.ofBuf, cast_eq]
  after_results_simp <;> rfl

theorem zero_word : (FloatOps.sitofp (F := Ideal) FTy.f32 (0#32 : BitVec 32) : EReal) = 0 := by
  show ((((0#32 : BitVec 32).toInt : ℝ)) : EReal) = 0
  simp

theorem padded_apply (W : Vec Ideal S2048x10304 .f32) (e : Fin 2048) (j : Fin 128) :
    (truncf (F := Ideal) (s := S2048x128) (φ := .f32) .bf16
      (pad S2048x128 ![0, 0] ![0, 64] ![0, 0] (extractStridedSlice S2048x64 ![0, 10240] W slices_S2048x10304_S2048x64_0_10240)
        (sitofp .f32 (constantI S_ 32 0#32)) pads_S2048x64_S2048x128_000_0640 h_S_) bitsLt_bf16_f32 : FVec Ideal S2048x128 .bf16) (ix2 e j) = padded W e j := by
  unfold padded
  pointwise
  exact dite_congr rfl (fun _ => rfl) (fun _ => zero_word)

/-- Row `i` of the left operand with column `10240 + j` of the right one, and zero from column 64 on. -/
def target (A : Vec Ideal S16384x2048 .bf16) (W : Vec Ideal S2048x10304 .f32) (i : Fin 16384) (j : Fin 128) : EReal :=
  if h : j.val < 64 then ∑ e : Fin 2048, A (ix2 i e) * W (ix2 e ⟨10240 + j.val, by omega⟩) else 0

theorem read0 (c : Dev nD) (t : Fin cfg0.N) (r : Fin 1024) (e : Fin 2048) : (iblk m c 0 t : Vec Ideal S1024x2048 .bf16) (ix2 r e)
    = (m ((c : Thread nD τ).loc main_arg0) : Vec Ideal S16384x2048 .bf16) (ix2 ⟨(grid0.coords t 0).val * 1024 + r.val, by have := c0 t; omega⟩ e) := by
  blk_simp [iblk]
  rw [V_main_arg0]
  refine congrArg (m ((c : Thread nD τ).loc main_arg0)) (funext fun a => Fin.ext ?_)
  blk_simp [idx0]
  match a with
  | ⟨0, _⟩ => rfl
  | ⟨1, _⟩ => show 0 * 2048 + e.val = e.val; ring

theorem read1 (c : Dev nD) (t : Fin cfg0.N) (e : Fin 2048) (k : Fin 128) : (iblk m c 1 t : Vec Ideal S2048x128 .bf16) (ix2 e k)
    = padded (m ((c : Thread nD τ).loc main_arg1)) e k := by
  blk_simp [iblk]
  rw [V_main_v2]
  have e1 : (win0_1.blk t).view.emb (ix2 e k) = (ix2 e k : S2048x128.Idx) := by
    refine funext fun a => Fin.ext ?_
    blk_simp [idx1]
    match a with
    | ⟨0, _⟩ => show 0 * 2048 + e.val = e.val; ring
    | ⟨1, _⟩ => show 0 * 128 + k.val = k.val; ring
  rw [e1, padded_apply]

theorem sum_padded (A : Vec Ideal S16384x2048 .bf16) (W : Vec Ideal S2048x10304 .f32) (i : Fin 16384) (j : Fin 128) :
    (∑ e : Fin 2048, A (ix2 i e) * padded W e j) = target A W i j := by
  unfold padded target
  by_cases h : j.val < 64
  · simp only [h, dif_pos]
  · simp only [h, dif_neg, not_false_eq_true, mul_zero, Finset.sum_const_zero]

/-- The output array after the run. -/
theorem final (c : Dev nD) : (dats m 0 c).arrAt 2 cfg0.N = (fun i => target (m ((c : Thread nD τ).loc main_arg0)) (m ((c : Thread nD τ).loc main_arg1)) (i 0) (i 1) : Vec Ideal S16384x128 .f32) := by
  refine (dats m 0 c).arrAt_eq_of_covers 2 _ ?_ fun t hf y => ?_
  · refine Pipeline.Window.covers_of_index_surj _ rfl (by decide) fun β => ?_
    have b0 : (β 0).val < 16 := (β 0).isLt
    have b1 : (β 1).val < 1 := (β 1).isLt
    obtain ⟨t, ht⟩ := grid0.coords_surjective (fun a => match a with | ⟨0, _⟩ => ⟨(β 0).val, b0⟩ | ⟨1, _⟩ => ⟨(β 1).val, b1⟩)
    refine ⟨t, fun a => ?_⟩
    have hi : (cfg0.win 2).index t = ![(grid0.coords t 0).val, (grid0.coords t 1).val] := idx2 t
    rw [hi, ht]
    match a with
    | ⟨0, _⟩ => rfl
    | ⟨1, _⟩ => rfl
  · blk_simp
    rw [after0_2, out_eq]
    obtain ⟨r, k, rfl⟩ : ∃ (r : Fin 1024) (k : Fin 128), y = (ix2 r k : S1024x128.Idx) := ⟨y 0, y 1, by
      funext a
      match a with
      | ⟨0, _⟩ => rfl
      | ⟨1, _⟩ => rfl⟩
    refine (pay_apply _ _ r k).trans ?_
    simp only [read0, read1]
    have e0 : ((cfg0.win 2).blk t).view.emb (ix2 r k) 0 = (⟨(grid0.coords t 0).val * 1024 + r.val, by have := c0 t; omega⟩ : Fin 16384) := by
      refine Fin.ext ?_
      blk_simp [idx2]
    have e1 : ((cfg0.win 2).blk t).view.emb (ix2 r k) 1 = k := by
      refine Fin.ext ?_
      blk_simp [idx2]
    rw [e0, e1]
    exact sum_padded _ _ _ _

end Cert.Kernel6Ideal.Dense
end
-- ==== Proof.DtProj.Ref.lean ====
module

public import proofs.«01_k».proof.Proof.Gen.Reference6Ideal.Run
public import proofs.«01_k».proof.Proof.DtProj.Kernel
public import proofs.«01_k».proof.Defs

@[expose] public section

set_option maxRecDepth 16384
noncomputable section

namespace Cert.Kernel6Ideal.Dense

open Idealize.ShloMosaic Idealize.ShloMosaic.TcCoe Idealize.SL.Sem Idealize.ShloMosaic.StableHlo

/-- Over the reals the step size projection call's result is the reference's. -/
theorem algebraic : Cert.algebraic_Kernel6Ideal_Reference6Ideal (hKernel6Ideal := Cert.Kernel6Ideal.Gen.facts)
    (hReference6Ideal := Cert.Reference6Ideal.Gen.facts) := by
  intro m g m' g' _ hag
  refine ⟨fun c => fun i => target (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (i 0) (i 1), ?_, ?_⟩
  · exact (θ_run _ _ _).mono (fun _ h c => ⟨(h c).1.trans (final m c), (h c).2⟩) (Cert.Kernel6Ideal.Value.run_blocks m g)
  · refine (θ_run _ _ _).mono (fun _ h c => ⟨(h c).1.trans ?_, (h c).2⟩) (Cert.Reference6Ideal.Value.run m' g')
    obtain ⟨h0, h1⟩ := hag c
    rw [h0, h1]
    funext j
    obtain ⟨r, k, rfl⟩ : ∃ (r : Fin 16384) (k : Fin 128), j = ix2 r k := ⟨j 0, j 1, by
      funext a
      match a with
      | ⟨0, _⟩ => rfl
      | ⟨1, _⟩ => rfl⟩
    unfold target
    pointwise

end Cert.Kernel6Ideal.Dense
end
-- ==== Proof.Qkv.Kernel.lean ====
module

public import proofs.«01_k».proof.Proof.Gen.Kernel7Ideal.Value
public import Idealize.ShloMosaic.Lib.Pointwise
public import Idealize.ShloMosaic.Lib.Pipeline.ValueKit
public import Idealize.ShloMosaic.Lib.Pipeline.Covers
public import Idealize.ShloMosaic.Lib.StableHlo.Run

@[expose] public section

set_option maxRecDepth 16384
noncomputable section

namespace Cert.Kernel7Ideal.Dense

open Cert.Kernel7Ideal Cert.Kernel7Ideal.Gen Idealize.ShloMosaic Idealize.ShloMosaic.TcCoe Idealize.SL.Sem Idealize.ShloMosaic.StableHlo

theorem pay_apply (x0 : Vec Ideal S1024x2048 .bf16) (x1 : Vec Ideal S2048x1024 .bf16) (r : Fin 1024) (k : Fin 1024) :
    k0_pay1 x0 x1 (ix2 r k) = ∑ e : Fin 2048, x0 (ix2 r e) * x1 (ix2 e k) := by
  pointwise [k0_pay1]

theorem out_eq (x0 : Vec Ideal S1024x2048 .bf16) (x1 : Vec Ideal S2048x1024 .bf16) : out0_2 x0 x1 = k0_pay1 x0 x1 := by
  frame_out

variable (m : (ℓ : Loc nD τ sig) → Buf (Elt Ideal) ℓ)

theorem idx0 : ∀ t : Fin grid0.N, win0_0.index t = ![(grid0.coords t 0).val, 0] := by decide +kernel
theorem idx1 : ∀ t : Fin grid0.N, win0_1.index t = ![0, (grid0.coords t 1).val] := by decide +kernel
theorem idx2 : ∀ t : Fin grid0.N, win0_2.index t = ![(grid0.coords t 0).val, (grid0.coords t 1).val] := by decide +kernel

theorem c0 (t : Fin cfg0.N) : (grid0.coords t 0).val < 16 := (grid0.coords t 0).isLt
theorem c1 (t : Fin cfg0.N) : (grid0.coords t 1).val < 6 := (grid0.coords t 1).isLt

theorem V_main_v0 (c : Dev nD) : V m c main_v0 = (truncf (F := Ideal) (s := S2048x6144) (φ := .f32) .bf16 (m ((c : Thread nD τ).loc main_arg1)) bitsLt_bf16_f32 : FVec Ideal S2048x6144 .bf16) := by
  show StableHlo.after hostOps0 _ main_v0 = _
  after_results_simp <;> rfl

/-- Row `i` of the left operand with column `j` of the right one. -/
def target (A : Vec Ideal S16384x2048 .bf16) (W : Vec Ideal S2048x6144 .f32) (i : Fin 16384) (j : Fin 6144) : EReal :=
  ∑ e : Fin 2048, A (ix2 i e) * W (ix2 e ⟨j.val, by omega⟩)

theorem read0 (c : Dev nD) (t : Fin cfg0.N) (r : Fin 1024) (e : Fin 2048) : (iblk m c 0 t : Vec Ideal S1024x2048 .bf16) (ix2 r e)
    = (m ((c : Thread nD τ).loc main_arg0) : Vec Ideal S16384x2048 .bf16) (ix2 ⟨(grid0.coords t 0).val * 1024 + r.val, by have := c0 t; omega⟩ e) := by
  blk_simp [iblk]
  rw [V_main_arg0]
  refine congrArg (m ((c : Thread nD τ).loc main_arg0)) (funext fun a => Fin.ext ?_)
  blk_simp [idx0]
  match a with
  | ⟨0, _⟩ => rfl
  | ⟨1, _⟩ => show 0 * 2048 + e.val = e.val; ring

theorem read1 (c : Dev nD) (t : Fin cfg0.N) (e : Fin 2048) (k : Fin 1024) : (iblk m c 1 t : Vec Ideal S2048x1024 .bf16) (ix2 e k)
    = (m ((c : Thread nD τ).loc main_arg1) : Vec Ideal S2048x6144 .f32) (ix2 e ⟨(grid0.coords t 1).val * 1024 + k.val, by have := c1 t; omega⟩) := by
  blk_simp [iblk]
  rw [V_main_v0]
  refine congrArg (m ((c : Thread nD τ).loc main_arg1)) (funext fun a => Fin.ext ?_)
  blk_simp [idx1]
  match a with
  | ⟨0, _⟩ => show 0 * 2048 + e.val = e.val; ring
  | ⟨1, _⟩ => rfl

/-- The output array after the run. -/
theorem final (c : Dev nD) : (dats m 0 c).arrAt 2 cfg0.N = (fun i => target (m ((c : Thread nD τ).loc main_arg0)) (m ((c : Thread nD τ).loc main_arg1)) (i 0) (i 1) : Vec Ideal S16384x6144 .bf16) := by
  refine (dats m 0 c).arrAt_eq_of_covers 2 _ ?_ fun t hf y => ?_
  · refine Pipeline.Window.covers_of_index_surj _ rfl (by decide) fun β => ?_
    have b0 : (β 0).val < 16 := (β 0).isLt
    have b1 : (β 1).val < 6 := (β 1).isLt
    obtain ⟨t, ht⟩ := grid0.coords_surjective (fun a => match a with | ⟨0, _⟩ => ⟨(β 0).val, b0⟩ | ⟨1, _⟩ => ⟨(β 1).val, b1⟩)
    refine ⟨t, fun a => ?_⟩
    have hi : (cfg0.win 2).index t = ![(grid0.coords t 0).val, (grid0.coords t 1).val] := idx2 t
    rw [hi, ht]
    match a with
    | ⟨0, _⟩ => rfl
    | ⟨1, _⟩ => rfl
  · blk_simp
    rw [after0_2, out_eq]
    obtain ⟨r, k, rfl⟩ : ∃ (r : Fin 1024) (k : Fin 1024), y = (ix2 r k : S1024x1024.Idx) := ⟨y 0, y 1, by
      funext a
      match a with
      | ⟨0, _⟩ => rfl
      | ⟨1, _⟩ => rfl⟩
    refine (pay_apply _ _ r k).trans ?_
    simp only [read0, read1]
    have e0 : ((cfg0.win 2).blk t).view.emb (ix2 r k) 0 = (⟨(grid0.coords t 0).val * 1024 + r.val, by have := c0 t; omega⟩ : Fin 16384) := by
      refine Fin.ext ?_
      blk_simp [idx2]
    have e1 : ((cfg0.win 2).blk t).view.emb (ix2 r k) 1 = (⟨(grid0.coords t 1).val * 1024 + k.val, by have := c1 t; omega⟩ : Fin 6144) := by
      refine Fin.ext ?_
      blk_simp [idx2]
    rw [e0, e1]
    rfl

end Cert.Kernel7Ideal.Dense
end
-- ==== Proof.Qkv.Ref.lean ====
module

public import proofs.«01_k».proof.Proof.Gen.Reference7Ideal.Run
public import proofs.«01_k».proof.Proof.Qkv.Kernel
public import proofs.«01_k».proof.Defs

@[expose] public section

set_option maxRecDepth 16384
noncomputable section

namespace Cert.Kernel7Ideal.Dense

open Idealize.ShloMosaic Idealize.ShloMosaic.TcCoe Idealize.SL.Sem Idealize.ShloMosaic.StableHlo

/-- Over the reals the call that makes queries, keys and values has a result that result is the reference's. -/
theorem algebraic : Cert.algebraic_Kernel7Ideal_Reference7Ideal (hKernel7Ideal := Cert.Kernel7Ideal.Gen.facts)
    (hReference7Ideal := Cert.Reference7Ideal.Gen.facts) := by
  intro m g m' g' _ hag
  refine ⟨fun c => fun i => target (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (i 0) (i 1), ?_, ?_⟩
  · exact (θ_run _ _ _).mono (fun _ h c => ⟨(h c).1.trans (final m c), (h c).2⟩) (Cert.Kernel7Ideal.Value.run_blocks m g)
  · refine (θ_run _ _ _).mono (fun _ h c => ⟨(h c).1.trans ?_, (h c).2⟩) (Cert.Reference7Ideal.Value.run m' g')
    obtain ⟨h0, h1⟩ := hag c
    rw [h0, h1]
    funext j
    obtain ⟨r, k, rfl⟩ : ∃ (r : Fin 16384) (k : Fin 6144), j = ix2 r k := ⟨j 0, j 1, by
      funext a
      match a with
      | ⟨0, _⟩ => rfl
      | ⟨1, _⟩ => rfl⟩
    unfold target
    pointwise

end Cert.Kernel7Ideal.Dense
end
-- ==== Proof.SsdOut.Kernel.lean ====
module

public import proofs.«01_k».proof.Proof.Gen.Kernel8Ideal.Value
public import Idealize.ShloMosaic.Lib.Pointwise
public import Idealize.ShloMosaic.Lib.Pipeline.ReadBack
public import proofs.«01_k».proof.Proof.OutProj.Math
public import Idealize.ShloMosaic.Lib.Pipeline.ValueKit
public import Idealize.ShloMosaic.Lib.Pipeline.Covers
public import Idealize.ShloMosaic.Lib.StableHlo.Run

@[expose] public section

set_option maxRecDepth 16384
noncomputable section

namespace Cert.Kernel8Ideal.Dense

open Cert.OutProj Cert.Kernel8Ideal Cert.Kernel8Ideal.Gen Idealize.ShloMosaic Idealize.ShloMosaic.TcCoe Idealize.SL.Sem Idealize.ShloMosaic.StableHlo

theorem pay1_apply (r : Fin 512) (d : Fin 2048) : (k0_pay1 (F := Ideal)) (ix2 r d) = 0 := by
  pointwise [k0_pay1]

theorem pay2_apply (s : Vec Ideal S512x2048 .f32) (a : Vec Ideal S512x512 .bf16) (w : Vec Ideal S512x2048 .bf16) (r : Fin 512) (d : Fin 2048) :
    k0_pay2 s a w (ix2 r d) = s (ix2 r d) + ∑ k : Fin 512, a (ix2 r k) * w (ix2 k d) := by
  pointwise [k0_pay2]

theorem pay3_apply (x s : Vec Ideal S512x2048 .f32) (w : Vec Ideal S1x2048 .f32) (r : Fin 512) (d : Fin 2048) :
    k0_pay3 x s w (ix2 r d) = x (ix2 r d) + normed (fun e => s (ix2 r e)) (fun e => w (ix2 0 e)) d := by
  unfold normed
  pointwise [k0_pay3]

theorem pay4_apply (x s : Vec Ideal S512x2048 .f32) (w n : Vec Ideal S1x2048 .f32) (r : Fin 512) (d : Fin 2048) :
    k0_pay4 x s w n (ix2 r d) = normed (fun e => k0_pay3 x s w (ix2 r e)) (fun e => n (ix2 0 e)) d := by
  unfold normed
  pointwise [k0_pay4, k0_pay3]

variable (m : (ℓ : Loc nD τ sig) → Buf (Elt Ideal) ℓ)

theorem acc_A (c : Dev nD) (t : Fin cfg0.N) (h : t.val % 8 = 0) :
    (outsAt0 m c t.val t.isLt).2.2 = k0_pay2 (k0_pay1 (F := Ideal)) (iblk m c 0 t) (iblk m c 1 t) := by
  rw [outsAt0_A m c t h (by omega)]
  frame_out

theorem acc_B (c : Dev nD) (t : Fin cfg0.N) (h : ¬t.val % 8 = 0) :
    (outsAt0 m c t.val t.isLt).2.2 = k0_pay2 (outsAt0 m c (t.val - 1) (Nat.lt_of_le_of_lt (Nat.sub_le _ _) t.isLt)).2.2 (iblk m c 0 t) (iblk m c 1 t) := by
  by_cases h1 : t.val % 8 = 7
  · rw [outsAt0_C m c t h h1]
    frame_out
    rw [read_unread_whole]
  · rw [outsAt0_B m c t h h1]
    frame_out
    rw [read_unread_whole]

theorem out5_C (c : Dev nD) (t : Fin cfg0.N) (h : t.val % 8 = 7) :
    (outsAt0 m c t.val t.isLt).1 = k0_pay3 (iblk m c 2 t) (outsAt0 m c t.val t.isLt).2.2 (iblk m c 3 t) := by
  rw [acc_B m c t (by omega), outsAt0_C m c t (by omega) h]
  frame_out
  rw [read_unread_whole]

theorem out6_C (c : Dev nD) (t : Fin cfg0.N) (h : t.val % 8 = 7) :
    (outsAt0 m c t.val t.isLt).2.1 = k0_pay4 (iblk m c 2 t) (outsAt0 m c t.val t.isLt).2.2 (iblk m c 3 t) (iblk m c 4 t) := by
  rw [acc_B m c t (by omega), outsAt0_C m c t (by omega) h]
  frame_out
  rw [read_unread_whole]

theorem idx0 : ∀ t : Fin grid0.N, win0_0.index t = ![t.val / 8, t.val % 8] := by decide +kernel
theorem idx1 : ∀ t : Fin grid0.N, win0_1.index t = ![t.val % 8, 0] := by decide +kernel
theorem idx2 : ∀ t : Fin grid0.N, win0_2.index t = ![t.val / 8, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![t.val / 8, 0] := by decide +kernel
theorem idx6 : ∀ t : Fin grid0.N, win0_6.index t = ![t.val / 8, 0] := by decide +kernel

theorem bound (t : Fin cfg0.N) : t.val < 256 := lt_of_lt_of_eq t.isLt N_0

theorem V_main_v0 (c : Dev nD) : V m c main_v0 = (truncf (F := Ideal) (s := S4096x2048) (φ := .f32) .bf16 (m ((c : Thread nD τ).loc main_arg1)) bitsLt_bf16_f32 : FVec Ideal S4096x2048 .bf16) := by
  show StableHlo.after hostOps0 _ main_v0 = _
  after_results_simp <;> rfl

theorem read0 (c : Dev nD) (t : Fin cfg0.N) (r k : Fin 512) : (iblk m c 0 t : Vec Ideal S512x512 .bf16) (ix2 r k)
    = (m ((c : Thread nD τ).loc main_arg0) : Vec Ideal S16384x4096 .bf16) (ix2 ⟨t.val / 8 * 512 + r.val, by have := bound t; omega⟩ ⟨512 * (t.val % 8) + k.val, by omega⟩) := by
  blk_simp [iblk]
  rw [V_main_arg0]
  refine congrArg (m ((c : Thread nD τ).loc main_arg0)) (funext fun a => Fin.ext ?_)
  blk_simp [idx0]
  match a with
  | ⟨0, _⟩ => rfl
  | ⟨1, _⟩ => show t.val % 8 * 512 + k.val = 512 * (t.val % 8) + k.val; ring

theorem read1 (c : Dev nD) (t : Fin cfg0.N) (k : Fin 512) (d : Fin 2048) : (iblk m c 1 t : Vec Ideal S512x2048 .bf16) (ix2 k d)
    = (m ((c : Thread nD τ).loc main_arg1) : Vec Ideal S4096x2048 .f32) (ix2 ⟨512 * (t.val % 8) + k.val, by omega⟩ d) := by
  blk_simp [iblk]
  rw [V_main_v0]
  refine congrArg (m ((c : Thread nD τ).loc main_arg1)) (funext fun a => Fin.ext ?_)
  blk_simp [idx1]
  match a with
  | ⟨0, _⟩ => show t.val % 8 * 512 + k.val = 512 * (t.val % 8) + k.val; ring
  | ⟨1, _⟩ => show 0 * 2048 + d.val = d.val; ring

theorem read2 (c : Dev nD) (t : Fin cfg0.N) (r : Fin 512) (d : Fin 2048) : (iblk m c 2 t : Vec Ideal S512x2048 .f32) (ix2 r d)
    = (m ((c : Thread nD τ).loc main_arg2) : Vec Ideal S16384x2048 .f32) (ix2 ⟨t.val / 8 * 512 + r.val, by have := bound t; omega⟩ d) := by
  blk_simp [iblk]
  rw [V_main_arg2]
  refine congrArg (m ((c : Thread nD τ).loc main_arg2)) (funext fun a => Fin.ext ?_)
  blk_simp [idx2]
  match a with
  | ⟨0, _⟩ => rfl
  | ⟨1, _⟩ => show 0 * 2048 + d.val = d.val; ring

theorem V_main_v1 (c : Dev nD) : V m c main_v1 = shapeCast S1x2048 (m ((c : Thread nD τ).loc main_arg3)) shapeCasts_S2048_S1x2048 := by
  show StableHlo.after hostOps0 _ main_v1 = _
  after_results_simp <;> rfl

theorem read3 (c : Dev nD) (t : Fin cfg0.N) (e : Fin 2048) : (iblk m c 3 t : Vec Ideal S1x2048 .f32) (ix2 0 e)
    = (m ((c : Thread nD τ).loc main_arg3) : Vec Ideal S2048 .f32) (ix1 e) := by
  blk_simp [iblk]
  rw [V_main_v1]
  have e1 : (win0_3.blk t).view.emb (ix2 0 e) = (ix2 0 e : S1x2048.Idx) := by
    refine funext fun a => Fin.ext ?_
    blk_simp [idx3]
    match a with
    | ⟨0, _⟩ => rfl
    | ⟨1, _⟩ => show 0 * 2048 + e.val = e.val; ring
  rw [e1]
  pointwise

theorem V_main_v2 (c : Dev nD) : V m c main_v2 = shapeCast S1x2048 (m ((c : Thread nD τ).loc main_arg4)) shapeCasts_S2048_S1x2048 := by
  show StableHlo.after hostOps0 _ main_v2 = _
  after_results_simp <;> rfl

theorem read4 (c : Dev nD) (t : Fin cfg0.N) (e : Fin 2048) : (iblk m c 4 t : Vec Ideal S1x2048 .f32) (ix2 0 e)
    = (m ((c : Thread nD τ).loc main_arg4) : Vec Ideal S2048 .f32) (ix1 e) := by
  blk_simp [iblk]
  rw [V_main_v2]
  have e1 : (win0_4.blk t).view.emb (ix2 0 e) = (ix2 0 e : S1x2048.Idx) := by
    refine funext fun a => Fin.ext ?_
    blk_simp [idx4]
    match a with
    | ⟨0, _⟩ => rfl
    | ⟨1, _⟩ => show 0 * 2048 + e.val = e.val; ring
  rw [e1]
  pointwise

/-- One product of the projection. -/
def pterm (A : Vec Ideal S16384x4096 .bf16) (W : Vec Ideal S4096x2048 .f32) (i : Fin 16384) (e : Fin 4096) (j : Fin 2048) : EReal :=
  A (ix2 i e) * W (ix2 e j)

/-- Row `i` of the left operand with column `j` of the weights. -/
def proj (A : Vec Ideal S16384x4096 .bf16) (W : Vec Ideal S4096x2048 .f32) (i : Fin 16384) (j : Fin 2048) : EReal :=
  ∑ e : Fin 4096, pterm A W i e j

/-- The residual row plus the normed projection. -/
def resid (A : Vec Ideal S16384x4096 .bf16) (W : Vec Ideal S4096x2048 .f32) (X : Vec Ideal S16384x2048 .f32) (P : Vec Ideal S2048 .f32)
    (i : Fin 16384) (j : Fin 2048) : EReal :=
  X (ix2 i j) + normed (fun e => proj A W i e) (fun e => P (ix1 e)) j

/-- The next sublayer's input: the new residual row, normed. -/
def next (A : Vec Ideal S16384x4096 .bf16) (W : Vec Ideal S4096x2048 .f32) (X : Vec Ideal S16384x2048 .f32) (P Q : Vec Ideal S2048 .f32)
    (i : Fin 16384) (j : Fin 2048) : EReal :=
  normed (fun e => resid A W X P i e) (fun e => Q (ix1 e)) j

/-- What a point adds to the accumulator. -/
def dot (A : Vec Ideal S512x512 .bf16) (W : Vec Ideal S512x2048 .bf16) (r : Fin 512) (d : Fin 2048) : EReal :=
  ∑ k : Fin 512, A (ix2 r k) * W (ix2 k d)

/-- What a run's last point leaves in the accumulator. -/
theorem acc_apply (c : Dev nD) (t : Fin cfg0.N) (h : t.val % 8 = 7) (r : Fin 512) (d : Fin 2048) :
    (outsAt0 m c t.val t.isLt).2.2 (ix2 r d)
      = proj (m ((c : Thread nD τ).loc main_arg0)) (m ((c : Thread nD τ).loc main_arg1)) ⟨t.val / 8 * 512 + r.val, by have := bound t; omega⟩ d := by
  have hb := bound t
  have key := Pipeline.eq_sum_fin_of_reset_step_apply_of_flush (fun n h' => fun i : Fin 512 × Fin 2048 => (outsAt0 m c n h').2.2 (ix2 i.1 i.2)) 8 (fun _ => (0 : EReal))
    (fun t i => dot (iblk m c 0 t) (iblk m c 1 t) i.1 i.2)
    (fun t h i => by
      show (outsAt0 m c t.val t.isLt).2.2 (ix2 i.1 i.2) = _
      rw [acc_A m c t h, pay2_apply, pay1_apply]
      rfl)
    (fun t h i => by
      show (outsAt0 m c t.val t.isLt).2.2 (ix2 i.1 i.2) = _
      rw [acc_B m c t h, pay2_apply]
      rfl)
    t h (r, d)
  refine key.trans ?_
  rw [zero_add]
  unfold proj
  refine Eq.trans ?_ (sum_runs 8 512 (fun e => pterm (m ((c : Thread nD τ).loc main_arg0)) (m ((c : Thread nD τ).loc main_arg1)) ⟨t.val / 8 * 512 + r.val, by omega⟩ e d) (fun s k => by omega))
  refine Finset.sum_congr rfl fun s _ => Finset.sum_congr rfl fun k _ => ?_
  have hs := s.isLt
  unfold pterm
  rw [read0, read1]
  have e0 : (8 * (t.val / 8) + s.val) / 8 = t.val / 8 := by omega
  have e1 : (8 * (t.val / 8) + s.val) % 8 = s.val := by omega
  congr 2
  · simp only [e0, e1]
  · simp only [e1]

theorem point_resid (c : Dev nD) (t : Fin cfg0.N) (h : t.val % 8 = 7) (r : Fin 512) (d : Fin 2048) :
    k0_pay3 (iblk m c 2 t) (outsAt0 m c t.val t.isLt).2.2 (iblk m c 3 t) (ix2 r d)
      = resid (m ((c : Thread nD τ).loc main_arg0)) (m ((c : Thread nD τ).loc main_arg1)) (m ((c : Thread nD τ).loc main_arg2)) (m ((c : Thread nD τ).loc main_arg3)) ⟨t.val / 8 * 512 + r.val, by have := bound t; omega⟩ d := by
  rw [pay3_apply]
  unfold resid
  simp only [read2, read3, acc_apply m c t h]

/-- Output array 0 after the run. -/
theorem final5 (c : Dev nD) : (dats m 0 c).arrAt 5 cfg0.N = (fun i => resid (m ((c : Thread nD τ).loc main_arg0)) (m ((c : Thread nD τ).loc main_arg1)) (m ((c : Thread nD τ).loc main_arg2)) (m ((c : Thread nD τ).loc main_arg3)) (i 0) (i 1) : Vec Ideal S16384x2048 .f32) := by
  refine (dats m 0 c).arrAt_eq_of_covers 5 _ ?_ fun t hf y => ?_
  · refine Pipeline.Window.covers_of_index_surj _ rfl (by decide) fun β => ?_
    have b0 : (β 0).val < 32 := (β 0).isLt
    have b1 : (β 1).val < 1 := (β 1).isLt
    have hN : 8 * (β 0).val < cfg0.N := by
      show _ < grid0.N
      rw [N_0]
      omega
    refine ⟨⟨8 * (β 0).val, hN⟩, fun a => ?_⟩
    have hi : (cfg0.win 5).index ⟨8 * (β 0).val, hN⟩ = ![8 * (β 0).val / 8, 0] := idx5 _
    rw [hi]
    match a with
    | ⟨0, _⟩ => show 8 * (β 0).val / 8 = (β 0).val; omega
    | ⟨1, _⟩ => show 0 = (β 1).val; omega
  · have ht := (flush0_5 t).mp hf
    have hb := bound t
    blk_simp
    rw [after0_5, out5_C m c t ht]
    obtain ⟨r, k, rfl⟩ : ∃ (r : Fin 512) (k : Fin 2048), y = (ix2 r k : S512x2048.Idx) := ⟨y 0, y 1, by
      funext a
      match a with
      | ⟨0, _⟩ => rfl
      | ⟨1, _⟩ => rfl⟩
    refine (point_resid m c t ht r k).trans ?_
    have e0 : ((cfg0.win 5).blk t).view.emb (ix2 r k) 0 = (⟨t.val / 8 * 512 + r.val, by omega⟩ : Fin 16384) := by
      refine Fin.ext ?_
      blk_simp [idx5]
    have e1 : ((cfg0.win 5).blk t).view.emb (ix2 r k) 1 = k := by
      refine Fin.ext ?_
      blk_simp [idx5]
    rw [e0, e1]

theorem point_next (c : Dev nD) (t : Fin cfg0.N) (h : t.val % 8 = 7) (r : Fin 512) (d : Fin 2048) :
    k0_pay4 (iblk m c 2 t) (outsAt0 m c t.val t.isLt).2.2 (iblk m c 3 t) (iblk m c 4 t) (ix2 r d)
      = next (m ((c : Thread nD τ).loc main_arg0)) (m ((c : Thread nD τ).loc main_arg1)) (m ((c : Thread nD τ).loc main_arg2)) (m ((c : Thread nD τ).loc main_arg3)) (m ((c : Thread nD τ).loc main_arg4)) ⟨t.val / 8 * 512 + r.val, by have := bound t; omega⟩ d := by
  rw [pay4_apply]
  unfold next
  simp only [point_resid m c t h, read4]

/-- Output array 1 after the run. -/
theorem final6 (c : Dev nD) : (dats m 0 c).arrAt 6 cfg0.N = (fun i => next (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) : Vec Ideal S16384x2048 .bf16) := by
  refine (dats m 0 c).arrAt_eq_of_covers 6 _ ?_ fun t hf y => ?_
  · refine Pipeline.Window.covers_of_index_surj _ rfl (by decide) fun β => ?_
    have b0 : (β 0).val < 32 := (β 0).isLt
    have b1 : (β 1).val < 1 := (β 1).isLt
    have hN : 8 * (β 0).val < cfg0.N := by
      show _ < grid0.N
      rw [N_0]
      omega
    refine ⟨⟨8 * (β 0).val, hN⟩, fun a => ?_⟩
    have hi : (cfg0.win 6).index ⟨8 * (β 0).val, hN⟩ = ![8 * (β 0).val / 8, 0] := idx6 _
    rw [hi]
    match a with
    | ⟨0, _⟩ => show 8 * (β 0).val / 8 = (β 0).val; omega
    | ⟨1, _⟩ => show 0 = (β 1).val; omega
  · have ht := (flush0_6 t).mp hf
    have hb := bound t
    blk_simp
    rw [after0_6, out6_C m c t ht]
    obtain ⟨r, k, rfl⟩ : ∃ (r : Fin 512) (k : Fin 2048), y = (ix2 r k : S512x2048.Idx) := ⟨y 0, y 1, by
      funext a
      match a with
      | ⟨0, _⟩ => rfl
      | ⟨1, _⟩ => rfl⟩
    refine (point_next m c t ht r k).trans ?_
    have e0 : ((cfg0.win 6).blk t).view.emb (ix2 r k) 0 = (⟨t.val / 8 * 512 + r.val, by omega⟩ : Fin 16384) := by
      refine Fin.ext ?_
      blk_simp [idx6]
    have e1 : ((cfg0.win 6).blk t).view.emb (ix2 r k) 1 = k := by
      refine Fin.ext ?_
      blk_simp [idx6]
    rw [e0, e1]

end Cert.Kernel8Ideal.Dense
end
-- ==== Proof.SsdOut.Ref.lean ====
module

public import proofs.«01_k».proof.Proof.Gen.Reference8Ideal.Run
public import proofs.«01_k».proof.Proof.SsdOut.Kernel
public import proofs.«01_k».proof.Defs

@[expose] public section

set_option maxRecDepth 16384
noncomputable section

namespace Cert.Kernel8Ideal.Dense

open Idealize.ShloMosaic Idealize.ShloMosaic.TcCoe Idealize.SL.Sem Idealize.ShloMosaic.StableHlo Cert.OutProj

open Cert.Reference8Ideal Cert.Reference8Ideal.Gen in
theorem normed_ref (X : FVec Ideal S16384x2048 .f32) (W : FVec Ideal S2048 .f32) (i : Fin 16384) (d : Fin 2048) :
    ((mulf (mulf X (broadcastInDim S16384x2048 ![0, 1] bcast_S16384x1_S16384x2048_0_1 (Host.rsqrt (addf (Host.divf
      (broadcastInDim S16384x1 ![0] bcast_S16384_S16384x1_0 (Host.reduceAdd (mulf X X) (constant S_ .f32 0x00000000#32) reducesTo_S16384x2048_S16384_d1 h_S_))
      (broadcastInDim S16384x1 ![] bcast_S_S16384x1 (constant S_ .f32 0x45000000#32))) (broadcastInDim S16384x1 ![] bcast_S_S16384x1 (constant S_ .f32 0x358637BD#32))))))
      (broadcastInDim S16384x2048 ![0, 1] bcast_S1x2048_S16384x2048_0_1 (broadcastInDim S1x2048 ![1] bcast_S2048_S1x2048_1 W))) : FVec Ideal S16384x2048 .f32)
      (ix2 i d) = normed (fun e => X (ix2 i e)) (fun e => W (ix1 e)) d := by
  unfold normed
  pointwise

open Cert.Reference8Ideal Cert.Reference8Ideal.Gen in
theorem proj_ref (A : FVec Ideal S16384x4096 .bf16) (W : FVec Ideal S4096x2048 .f32) (i : Fin 16384) (d : Fin 2048) :
    (Host.dotGeneral dot_S16384x4096_S4096x2048_S16384x2048_1_0_0_1_n_n none (extf .f32 A bitsLt_bf16_f32) W : FVec Ideal S16384x2048 .f32) (ix2 i d) = proj A W i d := by
  unfold proj pterm
  pointwise

open Cert.Reference8Ideal Cert.Reference8Ideal.Gen in
theorem resid_ref (A : Vec Ideal S16384x4096 .bf16) (W : Vec Ideal S4096x2048 .f32) (X : Vec Ideal S16384x2048 .f32) (P : Vec Ideal S2048 .f32) (Y : FVec Ideal S16384x2048 .f32) (hY : ∀ i d, Y (ix2 i d) = proj A W i d) (i : Fin 16384) (d : Fin 2048) :
    (addf X (mulf (mulf Y (broadcastInDim S16384x2048 ![0, 1] bcast_S16384x1_S16384x2048_0_1 (Host.rsqrt (addf (Host.divf
      (broadcastInDim S16384x1 ![0] bcast_S16384_S16384x1_0 (Host.reduceAdd (mulf Y Y) (constant S_ .f32 0x00000000#32) reducesTo_S16384x2048_S16384_d1 h_S_))
      (broadcastInDim S16384x1 ![] bcast_S_S16384x1 (constant S_ .f32 0x45000000#32))) (broadcastInDim S16384x1 ![] bcast_S_S16384x1 (constant S_ .f32 0x358637BD#32))))))
      (broadcastInDim S16384x2048 ![0, 1] bcast_S1x2048_S16384x2048_0_1 (broadcastInDim S1x2048 ![1] bcast_S2048_S1x2048_1 P))) : FVec Ideal S16384x2048 .f32)
      (ix2 i d) = resid A W X P i d := by
  refine (congrArg (fun z => X (ix2 i d) + z) (normed_ref Y P i d)).trans ?_
  unfold resid
  simp only [hY]

open Cert.Reference8Ideal Cert.Reference8Ideal.Gen in
theorem next_ref (A : Vec Ideal S16384x4096 .bf16) (W : Vec Ideal S4096x2048 .f32) (X : Vec Ideal S16384x2048 .f32) (P : Vec Ideal S2048 .f32) (Q : Vec Ideal S2048 .f32) (Z : FVec Ideal S16384x2048 .f32) (hZ : ∀ i d, Z (ix2 i d) = resid A W X P i d) (i : Fin 16384) (d : Fin 2048) :
    (truncf .bf16 (mulf (mulf Z (broadcastInDim S16384x2048 ![0, 1] bcast_S16384x1_S16384x2048_0_1 (Host.rsqrt (addf (Host.divf
      (broadcastInDim S16384x1 ![0] bcast_S16384_S16384x1_0 (Host.reduceAdd (mulf Z Z) (constant S_ .f32 0x00000000#32) reducesTo_S16384x2048_S16384_d1 h_S_))
      (broadcastInDim S16384x1 ![] bcast_S_S16384x1 (constant S_ .f32 0x45000000#32))) (broadcastInDim S16384x1 ![] bcast_S_S16384x1 (constant S_ .f32 0x358637BD#32))))))
      (broadcastInDim S16384x2048 ![0, 1] bcast_S1x2048_S16384x2048_0_1 (broadcastInDim S1x2048 ![1] bcast_S2048_S1x2048_1 Q))) bitsLt_bf16_f32 : FVec Ideal S16384x2048 .bf16)
      (ix2 i d) = next A W X P Q i d := by
  refine (normed_ref Z Q i d).trans ?_
  unfold next
  simp only [hZ]

/-- Over the reals the call's results are the reference's. -/
theorem algebraic : Cert.algebraic_Kernel8Ideal_Reference8Ideal (hKernel8Ideal := Cert.Kernel8Ideal.Gen.facts)
    (hReference8Ideal := Cert.Reference8Ideal.Gen.facts) := by
  intro m g m' g' _ hag
  refine ⟨fun c => fun i => resid (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (i 0) (i 1),
    fun c => fun i => next (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (i 0) (i 1), ?_, ?_⟩
  · exact (θ_run _ _ _).mono (fun _ h c => ⟨(h c).1.trans (final5 m c), (h c).2.1.trans (final6 m c), (h c).2.2⟩) (Cert.Kernel8Ideal.Value.run_blocks m g)
  · refine (θ_run _ _ _).mono (fun _ h c => ⟨(h c).1.trans ?_, (h c).2.1.trans ?_, (h c).2.2⟩) (Cert.Reference8Ideal.Value.run m' g')
    · obtain ⟨h0, h1, h2, h3, h4⟩ := hag c
      rw [h0, h1, h2, h3]
      funext j
      obtain ⟨r, k, rfl⟩ : ∃ (r : Fin 16384) (k : Fin 2048), j = ix2 r k := ⟨j 0, j 1, by
        funext a
        match a with
        | ⟨0, _⟩ => rfl
        | ⟨1, _⟩ => rfl⟩
      exact resid_ref _ _ _ _ _ (proj_ref _ _) r k
    · obtain ⟨h0, h1, h2, h3, h4⟩ := hag c
      unfold Cert.Reference8Ideal.Value.res_main_v29
      rw [h0, h1, h2, h3, h4]
      funext j
      obtain ⟨r, k, rfl⟩ : ∃ (r : Fin 16384) (k : Fin 2048), j = ix2 r k := ⟨j 0, j 1, by
        funext a
        match a with
        | ⟨0, _⟩ => rfl
        | ⟨1, _⟩ => rfl⟩
      exact next_ref _ _ _ _ _ _ (resid_ref _ _ _ _ _ (proj_ref _ _)) r k

end Cert.Kernel8Ideal.Dense
end
-- ==== Proof.AttnOut.Kernel.lean ====
module

public import proofs.«01_k».proof.Proof.Gen.Kernel9Ideal.Value
public import Idealize.ShloMosaic.Lib.Pointwise
public import Idealize.ShloMosaic.Lib.Pipeline.ReadBack
public import proofs.«01_k».proof.Proof.OutProj.Math
public import Idealize.ShloMosaic.Lib.Pipeline.ValueKit
public import Idealize.ShloMosaic.Lib.Pipeline.Covers
public import Idealize.ShloMosaic.Lib.StableHlo.Run

@[expose] public section

set_option maxRecDepth 16384
noncomputable section

namespace Cert.Kernel9Ideal.Dense

open Cert.OutProj Cert.Kernel9Ideal Cert.Kernel9Ideal.Gen Idealize.ShloMosaic Idealize.ShloMosaic.TcCoe Idealize.SL.Sem Idealize.ShloMosaic.StableHlo

theorem pay1_apply (r : Fin 512) (d : Fin 2048) : (k0_pay1 (F := Ideal)) (ix2 r d) = 0 := by
  pointwise [k0_pay1]

theorem pay2_apply (s : Vec Ideal S512x2048 .f32) (a : Vec Ideal S512x512 .bf16) (w : Vec Ideal S512x2048 .bf16) (r : Fin 512) (d : Fin 2048) :
    k0_pay2 s a w (ix2 r d) = s (ix2 r d) + ∑ k : Fin 512, a (ix2 r k) * w (ix2 k d) := by
  pointwise [k0_pay2]

theorem pay3_apply (x s : Vec Ideal S512x2048 .f32) (w : Vec Ideal S1x2048 .f32) (r : Fin 512) (d : Fin 2048) :
    k0_pay3 x s w (ix2 r d) = x (ix2 r d) + normed (fun e => s (ix2 r e)) (fun e => w (ix2 0 e)) d := by
  unfold normed
  pointwise [k0_pay3]

theorem pay4_apply (x s : Vec Ideal S512x2048 .f32) (w n : Vec Ideal S1x2048 .f32) (r : Fin 512) (d : Fin 2048) :
    k0_pay4 x s w n (ix2 r d) = normed (fun e => k0_pay3 x s w (ix2 r e)) (fun e => n (ix2 0 e)) d := by
  unfold normed
  pointwise [k0_pay4, k0_pay3]

variable (m : (ℓ : Loc nD τ sig) → Buf (Elt Ideal) ℓ)

theorem acc_A (c : Dev nD) (t : Fin cfg0.N) (h : t.val % 4 = 0) :
    (outsAt0 m c t.val t.isLt).2.2 = k0_pay2 (k0_pay1 (F := Ideal)) (iblk m c 0 t) (iblk m c 1 t) := by
  rw [outsAt0_A m c t h (by omega)]
  frame_out

theorem acc_B (c : Dev nD) (t : Fin cfg0.N) (h : ¬t.val % 4 = 0) :
    (outsAt0 m c t.val t.isLt).2.2 = k0_pay2 (outsAt0 m c (t.val - 1) (Nat.lt_of_le_of_lt (Nat.sub_le _ _) t.isLt)).2.2 (iblk m c 0 t) (iblk m c 1 t) := by
  by_cases h1 : t.val % 4 = 3
  · rw [outsAt0_C m c t h h1]
    frame_out
    rw [read_unread_whole]
  · rw [outsAt0_B m c t h h1]
    frame_out
    rw [read_unread_whole]

theorem out5_C (c : Dev nD) (t : Fin cfg0.N) (h : t.val % 4 = 3) :
    (outsAt0 m c t.val t.isLt).1 = k0_pay3 (iblk m c 2 t) (outsAt0 m c t.val t.isLt).2.2 (iblk m c 3 t) := by
  rw [acc_B m c t (by omega), outsAt0_C m c t (by omega) h]
  frame_out
  rw [read_unread_whole]

theorem out6_C (c : Dev nD) (t : Fin cfg0.N) (h : t.val % 4 = 3) :
    (outsAt0 m c t.val t.isLt).2.1 = k0_pay4 (iblk m c 2 t) (outsAt0 m c t.val t.isLt).2.2 (iblk m c 3 t) (iblk m c 4 t) := by
  rw [acc_B m c t (by omega), outsAt0_C m c t (by omega) h]
  frame_out
  rw [read_unread_whole]

theorem idx0 : ∀ t : Fin grid0.N, win0_0.index t = ![t.val / 4, t.val % 4] := by decide +kernel
theorem idx1 : ∀ t : Fin grid0.N, win0_1.index t = ![t.val % 4, 0] := by decide +kernel
theorem idx2 : ∀ t : Fin grid0.N, win0_2.index t = ![t.val / 4, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![t.val / 4, 0] := by decide +kernel
theorem idx6 : ∀ t : Fin grid0.N, win0_6.index t = ![t.val / 4, 0] := by decide +kernel

theorem bound (t : Fin cfg0.N) : t.val < 128 := lt_of_lt_of_eq t.isLt N_0

theorem V_main_v0 (c : Dev nD) : V m c main_v0 = (truncf (F := Ideal) (s := S2048x2048) (φ := .f32) .bf16 (m ((c : Thread nD τ).loc main_arg1)) bitsLt_bf16_f32 : FVec Ideal S2048x2048 .bf16) := by
  show StableHlo.after hostOps0 _ main_v0 = _
  after_results_simp <;> rfl

theorem read0 (c : Dev nD) (t : Fin cfg0.N) (r k : Fin 512) : (iblk m c 0 t : Vec Ideal S512x512 .bf16) (ix2 r k)
    = (m ((c : Thread nD τ).loc main_arg0) : Vec Ideal S16384x2048 .bf16) (ix2 ⟨t.val / 4 * 512 + r.val, by have := bound t; omega⟩ ⟨512 * (t.val % 4) + k.val, by omega⟩) := by
  blk_simp [iblk]
  rw [V_main_arg0]
  refine congrArg (m ((c : Thread nD τ).loc main_arg0)) (funext fun a => Fin.ext ?_)
  blk_simp [idx0]
  match a with
  | ⟨0, _⟩ => rfl
  | ⟨1, _⟩ => show t.val % 4 * 512 + k.val = 512 * (t.val % 4) + k.val; ring

theorem read1 (c : Dev nD) (t : Fin cfg0.N) (k : Fin 512) (d : Fin 2048) : (iblk m c 1 t : Vec Ideal S512x2048 .bf16) (ix2 k d)
    = (m ((c : Thread nD τ).loc main_arg1) : Vec Ideal S2048x2048 .f32) (ix2 ⟨512 * (t.val % 4) + k.val, by omega⟩ d) := by
  blk_simp [iblk]
  rw [V_main_v0]
  refine congrArg (m ((c : Thread nD τ).loc main_arg1)) (funext fun a => Fin.ext ?_)
  blk_simp [idx1]
  match a with
  | ⟨0, _⟩ => show t.val % 4 * 512 + k.val = 512 * (t.val % 4) + k.val; ring
  | ⟨1, _⟩ => show 0 * 2048 + d.val = d.val; ring

theorem read2 (c : Dev nD) (t : Fin cfg0.N) (r : Fin 512) (d : Fin 2048) : (iblk m c 2 t : Vec Ideal S512x2048 .f32) (ix2 r d)
    = (m ((c : Thread nD τ).loc main_arg2) : Vec Ideal S16384x2048 .f32) (ix2 ⟨t.val / 4 * 512 + r.val, by have := bound t; omega⟩ d) := by
  blk_simp [iblk]
  rw [V_main_arg2]
  refine congrArg (m ((c : Thread nD τ).loc main_arg2)) (funext fun a => Fin.ext ?_)
  blk_simp [idx2]
  match a with
  | ⟨0, _⟩ => rfl
  | ⟨1, _⟩ => show 0 * 2048 + d.val = d.val; ring

theorem V_main_v1 (c : Dev nD) : V m c main_v1 = shapeCast S1x2048 (m ((c : Thread nD τ).loc main_arg3)) shapeCasts_S2048_S1x2048 := by
  show StableHlo.after hostOps0 _ main_v1 = _
  after_results_simp <;> rfl

theorem read3 (c : Dev nD) (t : Fin cfg0.N) (e : Fin 2048) : (iblk m c 3 t : Vec Ideal S1x2048 .f32) (ix2 0 e)
    = (m ((c : Thread nD τ).loc main_arg3) : Vec Ideal S2048 .f32) (ix1 e) := by
  blk_simp [iblk]
  rw [V_main_v1]
  have e1 : (win0_3.blk t).view.emb (ix2 0 e) = (ix2 0 e : S1x2048.Idx) := by
    refine funext fun a => Fin.ext ?_
    blk_simp [idx3]
    match a with
    | ⟨0, _⟩ => rfl
    | ⟨1, _⟩ => show 0 * 2048 + e.val = e.val; ring
  rw [e1]
  pointwise

theorem V_main_v2 (c : Dev nD) : V m c main_v2 = shapeCast S1x2048 (m ((c : Thread nD τ).loc main_arg4)) shapeCasts_S2048_S1x2048 := by
  show StableHlo.after hostOps0 _ main_v2 = _
  after_results_simp <;> rfl

theorem read4 (c : Dev nD) (t : Fin cfg0.N) (e : Fin 2048) : (iblk m c 4 t : Vec Ideal S1x2048 .f32) (ix2 0 e)
    = (m ((c : Thread nD τ).loc main_arg4) : Vec Ideal S2048 .f32) (ix1 e) := by
  blk_simp [iblk]
  rw [V_main_v2]
  have e1 : (win0_4.blk t).view.emb (ix2 0 e) = (ix2 0 e : S1x2048.Idx) := by
    refine funext fun a => Fin.ext ?_
    blk_simp [idx4]
    match a with
    | ⟨0, _⟩ => rfl
    | ⟨1, _⟩ => show 0 * 2048 + e.val = e.val; ring
  rw [e1]
  pointwise

/-- One product of the projection. -/
def pterm (A : Vec Ideal S16384x2048 .bf16) (W : Vec Ideal S2048x2048 .f32) (i : Fin 16384) (e : Fin 2048) (j : Fin 2048) : EReal :=
  A (ix2 i e) * W (ix2 e j)

/-- Row `i` of the left operand with column `j` of the weights. -/
def proj (A : Vec Ideal S16384x2048 .bf16) (W : Vec Ideal S2048x2048 .f32) (i : Fin 16384) (j : Fin 2048) : EReal :=
  ∑ e : Fin 2048, pterm A W i e j

/-- The residual row plus the normed projection. -/
def resid (A : Vec Ideal S16384x2048 .bf16) (W : Vec Ideal S2048x2048 .f32) (X : Vec Ideal S16384x2048 .f32) (P : Vec Ideal S2048 .f32)
    (i : Fin 16384) (j : Fin 2048) : EReal :=
  X (ix2 i j) + normed (fun e => proj A W i e) (fun e => P (ix1 e)) j

/-- The next sublayer's input: the new residual row, normed. -/
def next (A : Vec Ideal S16384x2048 .bf16) (W : Vec Ideal S2048x2048 .f32) (X : Vec Ideal S16384x2048 .f32) (P Q : Vec Ideal S2048 .f32)
    (i : Fin 16384) (j : Fin 2048) : EReal :=
  normed (fun e => resid A W X P i e) (fun e => Q (ix1 e)) j

/-- What a point adds to the accumulator. -/
def dot (A : Vec Ideal S512x512 .bf16) (W : Vec Ideal S512x2048 .bf16) (r : Fin 512) (d : Fin 2048) : EReal :=
  ∑ k : Fin 512, A (ix2 r k) * W (ix2 k d)

/-- What a run's last point leaves in the accumulator. -/
theorem acc_apply (c : Dev nD) (t : Fin cfg0.N) (h : t.val % 4 = 3) (r : Fin 512) (d : Fin 2048) :
    (outsAt0 m c t.val t.isLt).2.2 (ix2 r d)
      = proj (m ((c : Thread nD τ).loc main_arg0)) (m ((c : Thread nD τ).loc main_arg1)) ⟨t.val / 4 * 512 + r.val, by have := bound t; omega⟩ d := by
  have hb := bound t
  have key := Pipeline.eq_sum_fin_of_reset_step_apply_of_flush (fun n h' => fun i : Fin 512 × Fin 2048 => (outsAt0 m c n h').2.2 (ix2 i.1 i.2)) 4 (fun _ => (0 : EReal))
    (fun t i => dot (iblk m c 0 t) (iblk m c 1 t) i.1 i.2)
    (fun t h i => by
      show (outsAt0 m c t.val t.isLt).2.2 (ix2 i.1 i.2) = _
      rw [acc_A m c t h, pay2_apply, pay1_apply]
      rfl)
    (fun t h i => by
      show (outsAt0 m c t.val t.isLt).2.2 (ix2 i.1 i.2) = _
      rw [acc_B m c t h, pay2_apply]
      rfl)
    t h (r, d)
  refine key.trans ?_
  rw [zero_add]
  unfold proj
  refine Eq.trans ?_ (sum_runs 4 512 (fun e => pterm (m ((c : Thread nD τ).loc main_arg0)) (m ((c : Thread nD τ).loc main_arg1)) ⟨t.val / 4 * 512 + r.val, by omega⟩ e d) (fun s k => by omega))
  refine Finset.sum_congr rfl fun s _ => Finset.sum_congr rfl fun k _ => ?_
  have hs := s.isLt
  unfold pterm
  rw [read0, read1]
  have e0 : (4 * (t.val / 4) + s.val) / 4 = t.val / 4 := by omega
  have e1 : (4 * (t.val / 4) + s.val) % 4 = s.val := by omega
  congr 2
  · simp only [e0, e1]
  · simp only [e1]

theorem point_resid (c : Dev nD) (t : Fin cfg0.N) (h : t.val % 4 = 3) (r : Fin 512) (d : Fin 2048) :
    k0_pay3 (iblk m c 2 t) (outsAt0 m c t.val t.isLt).2.2 (iblk m c 3 t) (ix2 r d)
      = resid (m ((c : Thread nD τ).loc main_arg0)) (m ((c : Thread nD τ).loc main_arg1)) (m ((c : Thread nD τ).loc main_arg2)) (m ((c : Thread nD τ).loc main_arg3)) ⟨t.val / 4 * 512 + r.val, by have := bound t; omega⟩ d := by
  rw [pay3_apply]
  unfold resid
  simp only [read2, read3, acc_apply m c t h]

/-- Output array 0 after the run. -/
theorem final5 (c : Dev nD) : (dats m 0 c).arrAt 5 cfg0.N = (fun i => resid (m ((c : Thread nD τ).loc main_arg0)) (m ((c : Thread nD τ).loc main_arg1)) (m ((c : Thread nD τ).loc main_arg2)) (m ((c : Thread nD τ).loc main_arg3)) (i 0) (i 1) : Vec Ideal S16384x2048 .f32) := by
  refine (dats m 0 c).arrAt_eq_of_covers 5 _ ?_ fun t hf y => ?_
  · refine Pipeline.Window.covers_of_index_surj _ rfl (by decide) fun β => ?_
    have b0 : (β 0).val < 32 := (β 0).isLt
    have b1 : (β 1).val < 1 := (β 1).isLt
    have hN : 4 * (β 0).val < cfg0.N := by
      show _ < grid0.N
      rw [N_0]
      omega
    refine ⟨⟨4 * (β 0).val, hN⟩, fun a => ?_⟩
    have hi : (cfg0.win 5).index ⟨4 * (β 0).val, hN⟩ = ![4 * (β 0).val / 4, 0] := idx5 _
    rw [hi]
    match a with
    | ⟨0, _⟩ => show 4 * (β 0).val / 4 = (β 0).val; omega
    | ⟨1, _⟩ => show 0 = (β 1).val; omega
  · have ht := (flush0_5 t).mp hf
    have hb := bound t
    blk_simp
    rw [after0_5, out5_C m c t ht]
    obtain ⟨r, k, rfl⟩ : ∃ (r : Fin 512) (k : Fin 2048), y = (ix2 r k : S512x2048.Idx) := ⟨y 0, y 1, by
      funext a
      match a with
      | ⟨0, _⟩ => rfl
      | ⟨1, _⟩ => rfl⟩
    refine (point_resid m c t ht r k).trans ?_
    have e0 : ((cfg0.win 5).blk t).view.emb (ix2 r k) 0 = (⟨t.val / 4 * 512 + r.val, by omega⟩ : Fin 16384) := by
      refine Fin.ext ?_
      blk_simp [idx5]
    have e1 : ((cfg0.win 5).blk t).view.emb (ix2 r k) 1 = k := by
      refine Fin.ext ?_
      blk_simp [idx5]
    rw [e0, e1]

theorem point_next (c : Dev nD) (t : Fin cfg0.N) (h : t.val % 4 = 3) (r : Fin 512) (d : Fin 2048) :
    k0_pay4 (iblk m c 2 t) (outsAt0 m c t.val t.isLt).2.2 (iblk m c 3 t) (iblk m c 4 t) (ix2 r d)
      = next (m ((c : Thread nD τ).loc main_arg0)) (m ((c : Thread nD τ).loc main_arg1)) (m ((c : Thread nD τ).loc main_arg2)) (m ((c : Thread nD τ).loc main_arg3)) (m ((c : Thread nD τ).loc main_arg4)) ⟨t.val / 4 * 512 + r.val, by have := bound t; omega⟩ d := by
  rw [pay4_apply]
  unfold next
  simp only [point_resid m c t h, read4]

/-- Output array 1 after the run. -/
theorem final6 (c : Dev nD) : (dats m 0 c).arrAt 6 cfg0.N = (fun i => next (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) : Vec Ideal S16384x2048 .bf16) := by
  refine (dats m 0 c).arrAt_eq_of_covers 6 _ ?_ fun t hf y => ?_
  · refine Pipeline.Window.covers_of_index_surj _ rfl (by decide) fun β => ?_
    have b0 : (β 0).val < 32 := (β 0).isLt
    have b1 : (β 1).val < 1 := (β 1).isLt
    have hN : 4 * (β 0).val < cfg0.N := by
      show _ < grid0.N
      rw [N_0]
      omega
    refine ⟨⟨4 * (β 0).val, hN⟩, fun a => ?_⟩
    have hi : (cfg0.win 6).index ⟨4 * (β 0).val, hN⟩ = ![4 * (β 0).val / 4, 0] := idx6 _
    rw [hi]
    match a with
    | ⟨0, _⟩ => show 4 * (β 0).val / 4 = (β 0).val; omega
    | ⟨1, _⟩ => show 0 = (β 1).val; omega
  · have ht := (flush0_6 t).mp hf
    have hb := bound t
    blk_simp
    rw [after0_6, out6_C m c t ht]
    obtain ⟨r, k, rfl⟩ : ∃ (r : Fin 512) (k : Fin 2048), y = (ix2 r k : S512x2048.Idx) := ⟨y 0, y 1, by
      funext a
      match a with
      | ⟨0, _⟩ => rfl
      | ⟨1, _⟩ => rfl⟩
    refine (point_next m c t ht r k).trans ?_
    have e0 : ((cfg0.win 6).blk t).view.emb (ix2 r k) 0 = (⟨t.val / 4 * 512 + r.val, by omega⟩ : Fin 16384) := by
      refine Fin.ext ?_
      blk_simp [idx6]
    have e1 : ((cfg0.win 6).blk t).view.emb (ix2 r k) 1 = k := by
      refine Fin.ext ?_
      blk_simp [idx6]
    rw [e0, e1]

end Cert.Kernel9Ideal.Dense
end
-- ==== Proof.AttnOut.Ref.lean ====
module

public import proofs.«01_k».proof.Proof.Gen.Reference9Ideal.Run
public import proofs.«01_k».proof.Proof.AttnOut.Kernel
public import proofs.«01_k».proof.Defs

@[expose] public section

set_option maxRecDepth 16384
noncomputable section

namespace Cert.Kernel9Ideal.Dense

open Idealize.ShloMosaic Idealize.ShloMosaic.TcCoe Idealize.SL.Sem Idealize.ShloMosaic.StableHlo Cert.OutProj

open Cert.Reference9Ideal Cert.Reference9Ideal.Gen in
theorem normed_ref (X : FVec Ideal S16384x2048 .f32) (W : FVec Ideal S2048 .f32) (i : Fin 16384) (d : Fin 2048) :
    ((mulf (mulf X (broadcastInDim S16384x2048 ![0, 1] bcast_S16384x1_S16384x2048_0_1 (Host.rsqrt (addf (Host.divf
      (broadcastInDim S16384x1 ![0] bcast_S16384_S16384x1_0 (Host.reduceAdd (mulf X X) (constant S_ .f32 0x00000000#32) reducesTo_S16384x2048_S16384_d1 h_S_))
      (broadcastInDim S16384x1 ![] bcast_S_S16384x1 (constant S_ .f32 0x45000000#32))) (broadcastInDim S16384x1 ![] bcast_S_S16384x1 (constant S_ .f32 0x358637BD#32))))))
      (broadcastInDim S16384x2048 ![0, 1] bcast_S1x2048_S16384x2048_0_1 (broadcastInDim S1x2048 ![1] bcast_S2048_S1x2048_1 W))) : FVec Ideal S16384x2048 .f32)
      (ix2 i d) = normed (fun e => X (ix2 i e)) (fun e => W (ix1 e)) d := by
  unfold normed
  pointwise

open Cert.Reference9Ideal Cert.Reference9Ideal.Gen in
theorem proj_ref (A : FVec Ideal S16384x2048 .bf16) (W : FVec Ideal S2048x2048 .f32) (i : Fin 16384) (d : Fin 2048) :
    (Host.dotGeneral dot_S16384x2048_S2048x2048_S16384x2048_1_0_0_1_n_n none (extf .f32 A bitsLt_bf16_f32) W : FVec Ideal S16384x2048 .f32) (ix2 i d) = proj A W i d := by
  unfold proj pterm
  pointwise

open Cert.Reference9Ideal Cert.Reference9Ideal.Gen in
theorem resid_ref (A : Vec Ideal S16384x2048 .bf16) (W : Vec Ideal S2048x2048 .f32) (X : Vec Ideal S16384x2048 .f32) (P : Vec Ideal S2048 .f32) (Y : FVec Ideal S16384x2048 .f32) (hY : ∀ i d, Y (ix2 i d) = proj A W i d) (i : Fin 16384) (d : Fin 2048) :
    (addf X (mulf (mulf Y (broadcastInDim S16384x2048 ![0, 1] bcast_S16384x1_S16384x2048_0_1 (Host.rsqrt (addf (Host.divf
      (broadcastInDim S16384x1 ![0] bcast_S16384_S16384x1_0 (Host.reduceAdd (mulf Y Y) (constant S_ .f32 0x00000000#32) reducesTo_S16384x2048_S16384_d1 h_S_))
      (broadcastInDim S16384x1 ![] bcast_S_S16384x1 (constant S_ .f32 0x45000000#32))) (broadcastInDim S16384x1 ![] bcast_S_S16384x1 (constant S_ .f32 0x358637BD#32))))))
      (broadcastInDim S16384x2048 ![0, 1] bcast_S1x2048_S16384x2048_0_1 (broadcastInDim S1x2048 ![1] bcast_S2048_S1x2048_1 P))) : FVec Ideal S16384x2048 .f32)
      (ix2 i d) = resid A W X P i d := by
  refine (congrArg (fun z => X (ix2 i d) + z) (normed_ref Y P i d)).trans ?_
  unfold resid
  simp only [hY]

open Cert.Reference9Ideal Cert.Reference9Ideal.Gen in
theorem next_ref (A : Vec Ideal S16384x2048 .bf16) (W : Vec Ideal S2048x2048 .f32) (X : Vec Ideal S16384x2048 .f32) (P : Vec Ideal S2048 .f32) (Q : Vec Ideal S2048 .f32) (Z : FVec Ideal S16384x2048 .f32) (hZ : ∀ i d, Z (ix2 i d) = resid A W X P i d) (i : Fin 16384) (d : Fin 2048) :
    (truncf .bf16 (mulf (mulf Z (broadcastInDim S16384x2048 ![0, 1] bcast_S16384x1_S16384x2048_0_1 (Host.rsqrt (addf (Host.divf
      (broadcastInDim S16384x1 ![0] bcast_S16384_S16384x1_0 (Host.reduceAdd (mulf Z Z) (constant S_ .f32 0x00000000#32) reducesTo_S16384x2048_S16384_d1 h_S_))
      (broadcastInDim S16384x1 ![] bcast_S_S16384x1 (constant S_ .f32 0x45000000#32))) (broadcastInDim S16384x1 ![] bcast_S_S16384x1 (constant S_ .f32 0x358637BD#32))))))
      (broadcastInDim S16384x2048 ![0, 1] bcast_S1x2048_S16384x2048_0_1 (broadcastInDim S1x2048 ![1] bcast_S2048_S1x2048_1 Q))) bitsLt_bf16_f32 : FVec Ideal S16384x2048 .bf16)
      (ix2 i d) = next A W X P Q i d := by
  refine (normed_ref Z Q i d).trans ?_
  unfold next
  simp only [hZ]

/-- Over the reals the call's results are the reference's. -/
theorem algebraic : Cert.algebraic_Kernel9Ideal_Reference9Ideal (hKernel9Ideal := Cert.Kernel9Ideal.Gen.facts)
    (hReference9Ideal := Cert.Reference9Ideal.Gen.facts) := by
  intro m g m' g' _ hag
  refine ⟨fun c => fun i => resid (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (i 0) (i 1),
    fun c => fun i => next (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (i 0) (i 1), ?_, ?_⟩
  · exact (θ_run _ _ _).mono (fun _ h c => ⟨(h c).1.trans (final5 m c), (h c).2.1.trans (final6 m c), (h c).2.2⟩) (Cert.Kernel9Ideal.Value.run_blocks m g)
  · refine (θ_run _ _ _).mono (fun _ h c => ⟨(h c).1.trans ?_, (h c).2.1.trans ?_, (h c).2.2⟩) (Cert.Reference9Ideal.Value.run m' g')
    · obtain ⟨h0, h1, h2, h3, h4⟩ := hag c
      rw [h0, h1, h2, h3]
      funext j
      obtain ⟨r, k, rfl⟩ : ∃ (r : Fin 16384) (k : Fin 2048), j = ix2 r k := ⟨j 0, j 1, by
        funext a
        match a with
        | ⟨0, _⟩ => rfl
        | ⟨1, _⟩ => rfl⟩
      exact resid_ref _ _ _ _ _ (proj_ref _ _) r k
    · obtain ⟨h0, h1, h2, h3, h4⟩ := hag c
      unfold Cert.Reference9Ideal.Value.res_main_v29
      rw [h0, h1, h2, h3, h4]
      funext j
      obtain ⟨r, k, rfl⟩ : ∃ (r : Fin 16384) (k : Fin 2048), j = ix2 r k := ⟨j 0, j 1, by
        funext a
        match a with
        | ⟨0, _⟩ => rfl
        | ⟨1, _⟩ => rfl⟩
      exact next_ref _ _ _ _ _ _ (resid_ref _ _ _ _ _ (proj_ref _ _)) r k

end Cert.Kernel9Ideal.Dense
end
-- ==== Proof.FirstNorm.Kernel.lean ====
module

public import proofs.«01_k».proof.Proof.Gen.Kernel10Ideal.Value
public import Idealize.ShloMosaic.Lib.Pointwise
public import Idealize.ShloMosaic.Lib.Pipeline.ValueKit
public import Idealize.ShloMosaic.Lib.Pipeline.Covers
public import Idealize.ShloMosaic.Lib.StableHlo.Run

@[expose] public section

set_option maxRecDepth 16384
noncomputable section

namespace Cert.Kernel10Ideal.Dense

open Cert.Kernel10Ideal Cert.Kernel10Ideal.Gen Idealize.ShloMosaic Idealize.ShloMosaic.TcCoe Idealize.SL.Sem Idealize.ShloMosaic.StableHlo

/-- A row over its root mean square, times its gains. -/
def normed (v w : Fin 2048 → EReal) (d : Fin 2048) : EReal :=
  v d * Ideal.rsqrt (Ideal.div (∑ e : Fin 2048, v e * v e) (Ideal.ofBits FTy.f32 0x45000000#32) + Ideal.ofBits FTy.f32 0x358637BD#32) * w d

theorem pay_apply (x0 : Vec Ideal S512x2048 .f32) (x1 : Vec Ideal S1x2048 .f32) (r : Fin 512) (k : Fin 2048) :
    k0_pay1 x0 x1 (ix2 r k) = normed (fun e => x0 (ix2 r e)) (fun e => x1 (ix2 0 e)) k := by
  unfold normed
  pointwise [k0_pay1]

theorem out_eq (x0 : Vec Ideal S512x2048 .f32) (x1 : Vec Ideal S1x2048 .f32) : out0_2 x0 x1 = k0_pay1 x0 x1 := by
  frame_out

variable (m : (ℓ : Loc nD τ sig) → Buf (Elt Ideal) ℓ)

theorem idx0 : ∀ t : Fin grid0.N, win0_0.index t = ![(grid0.coords t 0).val, 0] := by decide +kernel
theorem idx1 : ∀ t : Fin grid0.N, win0_1.index t = ![0, 0] := by decide +kernel
theorem idx2 : ∀ t : Fin grid0.N, win0_2.index t = ![(grid0.coords t 0).val, 0] := by decide +kernel

theorem c0 (t : Fin cfg0.N) : (grid0.coords t 0).val < 32 := (grid0.coords t 0).isLt

theorem V_main_v0 (c : Dev nD) : V m c main_v0 = shapeCast S16384x2048 (m ((c : Thread nD τ).loc main_arg0)) shapeCasts_S2x8192x2048_S16384x2048 := by
  show StableHlo.after hostOps0 _ main_v0 = _
  after_results_simp <;> rfl
theorem V_main_v1 (c : Dev nD) : V m c main_v1 = shapeCast S1x2048 (m ((c : Thread nD τ).loc main_arg1)) shapeCasts_S2048_S1x2048 := by
  show StableHlo.after hostOps0 _ main_v1 = _
  after_results_simp <;> rfl

/-- Row `i` of the input, normed. -/
def target (X : Vec Ideal S2x8192x2048 .f32) (W : Vec Ideal S2048 .f32) (i : Fin 16384) (j : Fin 2048) : EReal :=
  normed (fun e => X (ix3 ⟨i.val / 8192, by omega⟩ ⟨i.val % 8192, by omega⟩ e)) (fun e => W (ix1 e)) j

theorem rows (X : Vec Ideal S2x8192x2048 .f32) (i : Fin 16384) (e : Fin 2048) :
    shapeCast S16384x2048 X shapeCasts_S2x8192x2048_S16384x2048 (ix2 i e) = X (ix3 ⟨i.val / 8192, by omega⟩ ⟨i.val % 8192, by omega⟩ e) := by
  pointwise

theorem read0 (c : Dev nD) (t : Fin cfg0.N) (r : Fin 512) (e : Fin 2048) : (iblk m c 0 t : Vec Ideal S512x2048 .f32) (ix2 r e)
    = (m ((c : Thread nD τ).loc main_arg0) : Vec Ideal S2x8192x2048 .f32) (ix3 ⟨((grid0.coords t 0).val * 512 + r.val) / 8192, by have := c0 t; omega⟩ ⟨((grid0.coords t 0).val * 512 + r.val) % 8192, by omega⟩ e) := by
  blk_simp [iblk]
  rw [V_main_v0]
  have e1 : (win0_0.blk t).view.emb (ix2 r e) = (ix2 ⟨(grid0.coords t 0).val * 512 + r.val, by have := c0 t; omega⟩ e : S16384x2048.Idx) := by
    refine funext fun a => Fin.ext ?_
    blk_simp [idx0]
    match a with
    | ⟨0, _⟩ => rfl
    | ⟨1, _⟩ => show 0 * 2048 + e.val = e.val; ring
  rw [e1]
  exact rows _ _ _

theorem read1 (c : Dev nD) (t : Fin cfg0.N) (e : Fin 2048) : (iblk m c 1 t : Vec Ideal S1x2048 .f32) (ix2 0 e)
    = (m ((c : Thread nD τ).loc main_arg1) : Vec Ideal S2048 .f32) (ix1 e) := by
  blk_simp [iblk]
  rw [V_main_v1]
  have e1 : (win0_1.blk t).view.emb (ix2 0 e) = (ix2 0 e : S1x2048.Idx) := by
    refine funext fun a => Fin.ext ?_
    blk_simp [idx1]
    match a with
    | ⟨0, _⟩ => rfl
    | ⟨1, _⟩ => show 0 * 2048 + e.val = e.val; ring
  rw [e1]
  pointwise

/-- The output array after the run. -/
theorem final (c : Dev nD) : (dats m 0 c).arrAt 2 cfg0.N = (fun i => target (m ((c : Thread nD τ).loc main_arg0)) (m ((c : Thread nD τ).loc main_arg1)) (i 0) (i 1) : Vec Ideal S16384x2048 .bf16) := by
  refine (dats m 0 c).arrAt_eq_of_covers 2 _ ?_ fun t hf y => ?_
  · refine Pipeline.Window.covers_of_index_surj _ rfl (by decide) fun β => ?_
    have b0 : (β 0).val < 32 := (β 0).isLt
    have b1 : (β 1).val < 1 := (β 1).isLt
    obtain ⟨t, ht⟩ := grid0.coords_surjective (fun a => match a with | ⟨0, _⟩ => ⟨(β 0).val, b0⟩)
    refine ⟨t, fun a => ?_⟩
    have hi : (cfg0.win 2).index t = ![(grid0.coords t 0).val, 0] := idx2 t
    rw [hi, ht]
    match a with
    | ⟨0, _⟩ => rfl
    | ⟨1, _⟩ => show 0 = (β 1).val; omega
  · blk_simp
    rw [after0_2, out_eq]
    obtain ⟨r, k, rfl⟩ : ∃ (r : Fin 512) (k : Fin 2048), y = (ix2 r k : S512x2048.Idx) := ⟨y 0, y 1, by
      funext a
      match a with
      | ⟨0, _⟩ => rfl
      | ⟨1, _⟩ => rfl⟩
    refine (pay_apply _ _ r k).trans ?_
    simp only [read0, read1]
    have e0 : ((cfg0.win 2).blk t).view.emb (ix2 r k) 0 = (⟨(grid0.coords t 0).val * 512 + r.val, by have := c0 t; omega⟩ : Fin 16384) := by
      refine Fin.ext ?_
      blk_simp [idx2]
    have e1 : ((cfg0.win 2).blk t).view.emb (ix2 r k) 1 = k := by
      refine Fin.ext ?_
      blk_simp [idx2]
    rw [e0, e1]
    rfl

end Cert.Kernel10Ideal.Dense
end
-- ==== Proof.FirstNorm.Ref.lean ====
module

public import proofs.«01_k».proof.Proof.Gen.Reference10Ideal.Run
public import proofs.«01_k».proof.Proof.FirstNorm.Kernel
public import proofs.«01_k».proof.Defs

@[expose] public section

set_option maxRecDepth 16384
noncomputable section

namespace Cert.Kernel10Ideal.Dense

open Idealize.ShloMosaic Idealize.ShloMosaic.TcCoe Idealize.SL.Sem Idealize.ShloMosaic.StableHlo

open Cert.Reference10Ideal Cert.Reference10Ideal.Gen in
theorem rows16 (X : FVec Ideal S2x8192x2048 .f32) (i : Fin 16384) (e : Fin 2048) :
    (truncf .bf16 (shapeCast S16384x2048 X shapeCasts_S2x8192x2048_S16384x2048) bitsLt_bf16_f32 : FVec Ideal S16384x2048 .bf16) (ix2 i e)
      = X (ix3 ⟨i.val / 8192, by omega⟩ ⟨i.val % 8192, by omega⟩ e) := by
  pointwise

open Cert.Reference10Ideal Cert.Reference10Ideal.Gen in
theorem normed_ref (X : Vec Ideal S2x8192x2048 .f32) (W : Vec Ideal S2048 .f32) (b : Fin 2) (s : Fin 8192) (d : Fin 2048) :
    (mulf (mulf X (broadcastInDim S2x8192x2048 ![0, 1, 2] bcast_S2x8192x1_S2x8192x2048_0_1_2 (Host.rsqrt (addf (Host.divf
      (broadcastInDim S2x8192x1 ![0, 1] bcast_S2x8192_S2x8192x1_0_1 (Host.reduceAdd (mulf X X) (constant S_ .f32 0x00000000#32) reducesTo_S2x8192x2048_S2x8192_d2 h_S_))
      (broadcastInDim S2x8192x1 ![] bcast_S_S2x8192x1 (constant S_ .f32 0x45000000#32))) (broadcastInDim S2x8192x1 ![] bcast_S_S2x8192x1 (constant S_ .f32 0x358637BD#32))))))
      (broadcastInDim S2x8192x2048 ![0, 1, 2] bcast_S1x1x2048_S2x8192x2048_0_1_2 (broadcastInDim S1x1x2048 ![2] bcast_S2048_S1x1x2048_2 W)) : FVec Ideal S2x8192x2048 .f32)
      (ix3 b s d) = normed (fun e => X (ix3 b s e)) (fun e => W (ix1 e)) d := by
  unfold normed
  pointwise

/-- Over the reals the first norm's result is the reference's. -/
theorem algebraic : Cert.algebraic_Kernel10Ideal_Reference10Ideal (hKernel10Ideal := Cert.Kernel10Ideal.Gen.facts)
    (hReference10Ideal := Cert.Reference10Ideal.Gen.facts) := by
  intro m g m' g' _ hag
  refine ⟨fun c => fun i => target (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (i 0) (i 1), ?_, ?_⟩
  · exact (θ_run _ _ _).mono (fun _ h c => ⟨(h c).1.trans (final m c), (h c).2⟩) (Cert.Kernel10Ideal.Value.run_blocks m g)
  · refine (θ_run _ _ _).mono (fun _ h c => ⟨(h c).1.trans ?_, (h c).2⟩) (Cert.Reference10Ideal.Value.run m' g')
    obtain ⟨h0, h1⟩ := hag c
    rw [h0, h1]
    funext j
    obtain ⟨r, k, rfl⟩ : ∃ (r : Fin 16384) (k : Fin 2048), j = ix2 r k := ⟨j 0, j 1, by
      funext a
      match a with
      | ⟨0, _⟩ => rfl
      | ⟨1, _⟩ => rfl⟩
    refine (rows16 _ r k).trans ?_
    exact normed_ref _ _ _ _ _

end Cert.Kernel10Ideal.Dense
end
-- ==== Proof.lean ====
module

public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Attn.Claims
public import proofs.«01_k».proof.Proof.Attn3.Claims
public import proofs.«01_k».proof.Proof.Scan.Claims
public import proofs.«01_k».proof.Proof.GateUp.Ref
public import proofs.«01_k».proof.Proof.Down.Ref
public import proofs.«01_k».proof.Proof.LastDown.Ref
public import proofs.«01_k».proof.Proof.InProj.Ref
public import proofs.«01_k».proof.Proof.DtProj.Ref
public import proofs.«01_k».proof.Proof.Qkv.Ref
public import proofs.«01_k».proof.Proof.SsdOut.Ref
public import proofs.«01_k».proof.Proof.AttnOut.Ref
public import proofs.«01_k».proof.Proof.FirstNorm.Ref
public import Idealize.ShloMosaic.Adequacy
public import Idealize.ShloMosaic.Init

@[expose] public section

noncomputable section

namespace Cert.Proof

open Idealize.ShloMosaic Idealize.SL.Sem

/-- The attention's reference runs and leaves its arguments unchanged; it declares no semaphore. -/
theorem attnRefFrame : Cert.quiescent_ReferenceIdeal (hReferenceIdeal := Cert.ReferenceIdeal.Gen.facts) := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- The reference of the gate and up call runs and leaves its arguments unchanged. -/
theorem refFrame2 : Cert.quiescent_Reference2Ideal (hReference2Ideal := Cert.Reference2Ideal.Gen.facts) := fun m g _ =>
  (θ_run Cert.Reference2Ideal.defs _ _).mono (fun r h => ⟨fun c => (h c).2, Idealize.ShloMosaic.sem_eq_zero_of_no_sems (by decide) r.2⟩)
    (Cert.Reference2Ideal.Value.run (F := Ideal) m g)

/-- The reference of the down call runs and leaves its arguments unchanged. -/
theorem refFrame3 : Cert.quiescent_Reference3Ideal (hReference3Ideal := Cert.Reference3Ideal.Gen.facts) := fun m g _ =>
  (θ_run Cert.Reference3Ideal.defs _ _).mono (fun r h => ⟨fun c => (h c).2.2, Idealize.ShloMosaic.sem_eq_zero_of_no_sems (by decide) r.2⟩)
    (Cert.Reference3Ideal.Value.run (F := Ideal) m g)

/-- The reference of the last down call runs and leaves its arguments unchanged. -/
theorem refFrame4 : Cert.quiescent_Reference4Ideal (hReference4Ideal := Cert.Reference4Ideal.Gen.facts) := fun m g _ =>
  (θ_run Cert.Reference4Ideal.defs _ _).mono (fun r h => ⟨fun c => (h c).2, Idealize.ShloMosaic.sem_eq_zero_of_no_sems (by decide) r.2⟩)
    (Cert.Reference4Ideal.Value.run (F := Ideal) m g)

/-- The reference of the state-space input projection runs and leaves its arguments unchanged. -/
theorem refFrame5 : Cert.quiescent_Reference5Ideal (hReference5Ideal := Cert.Reference5Ideal.Gen.facts) := fun m g _ =>
  (θ_run Cert.Reference5Ideal.defs _ _).mono (fun r h => ⟨fun c => (h c).2, Idealize.ShloMosaic.sem_eq_zero_of_no_sems (by decide) r.2⟩)
    (Cert.Reference5Ideal.Value.run (F := Ideal) m g)

/-- The reference of the step projection runs and leaves its arguments unchanged. -/
theorem refFrame6 : Cert.quiescent_Reference6Ideal (hReference6Ideal := Cert.Reference6Ideal.Gen.facts) := fun m g _ =>
  (θ_run Cert.Reference6Ideal.defs _ _).mono (fun r h => ⟨fun c => (h c).2, Idealize.ShloMosaic.sem_eq_zero_of_no_sems (by decide) r.2⟩)
    (Cert.Reference6Ideal.Value.run (F := Ideal) m g)

/-- The reference of the queries, keys and values call runs and leaves its arguments unchanged. -/
theorem refFrame7 : Cert.quiescent_Reference7Ideal (hReference7Ideal := Cert.Reference7Ideal.Gen.facts) := fun m g _ =>
  (θ_run Cert.Reference7Ideal.defs _ _).mono (fun r h => ⟨fun c => (h c).2, Idealize.ShloMosaic.sem_eq_zero_of_no_sems (by decide) r.2⟩)
    (Cert.Reference7Ideal.Value.run (F := Ideal) m g)

/-- The reference of the state-space output call runs and leaves its arguments unchanged. -/
theorem refFrame8 : Cert.quiescent_Reference8Ideal (hReference8Ideal := Cert.Reference8Ideal.Gen.facts) := fun m g _ =>
  (θ_run Cert.Reference8Ideal.defs _ _).mono (fun r h => ⟨fun c => (h c).2.2, Idealize.ShloMosaic.sem_eq_zero_of_no_sems (by decide) r.2⟩)
    (Cert.Reference8Ideal.Value.run (F := Ideal) m g)

/-- The reference of the attention output call runs and leaves its arguments unchanged. -/
theorem refFrame9 : Cert.quiescent_Reference9Ideal (hReference9Ideal := Cert.Reference9Ideal.Gen.facts) := fun m g _ =>
  (θ_run Cert.Reference9Ideal.defs _ _).mono (fun r h => ⟨fun c => (h c).2.2, Idealize.ShloMosaic.sem_eq_zero_of_no_sems (by decide) r.2⟩)
    (Cert.Reference9Ideal.Value.run (F := Ideal) m g)

/-- The reference of the first norm runs and leaves its arguments unchanged. -/
theorem refFrame10 : Cert.quiescent_Reference10Ideal (hReference10Ideal := Cert.Reference10Ideal.Gen.facts) := fun m g _ =>
  (θ_run Cert.Reference10Ideal.defs _ _).mono (fun r h => ⟨fun c => (h c).2, Idealize.ShloMosaic.sem_eq_zero_of_no_sems (by decide) r.2⟩)
    (Cert.Reference10Ideal.Value.run (F := Ideal) m g)

/-- The reference of the last attention call runs and leaves its arguments unchanged. -/
theorem refFrame11 : Cert.quiescent_Reference11Ideal (hReference11Ideal := Cert.Reference11Ideal.Gen.facts) := fun m g _ =>
  (θ_run Cert.Reference11Ideal.defs _ _).mono (fun r h => ⟨fun c => (h c).2, Idealize.ShloMosaic.sem_eq_zero_of_no_sems (by decide) r.2⟩)
    (Cert.Reference11Ideal.Value.run (F := Ideal) m g)

/-- The reference of the scan runs and leaves its arguments unchanged. -/
theorem refFrame12 : Cert.quiescent_Reference12Ideal (hReference12Ideal := Cert.Reference12Ideal.Gen.facts) := fun m g _ =>
  (θ_run Cert.Reference12Ideal.defs _ _).mono (fun r h => ⟨fun c => (h c).2, Idealize.ShloMosaic.sem_eq_zero_of_no_sems (by decide) r.2⟩)
    (Cert.Reference12Ideal.Value.run (F := Ideal) m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.AttnClaims.preFacts, Cert.ScanClaims.preFacts,
  fun m g _ => Cert.Kernel.Gen.frame m g,
  fun m g _ => Cert.KernelIdeal.Gen.frame m g,
  fun m g _ => Cert.KernelIdeal.Gen.frame m g,
  fun m g _ => attnRefFrame m g trivial,
  fun m g _ => attnRefFrame m g trivial,
  fun m g _ => Cert.Kernel2.Gen.frame m g,
  fun m g _ => Cert.Kernel2Ideal.Gen.frame m g,
  fun m g _ => refFrame2 m g trivial,
  fun m g _ => Cert.Kernel3.Gen.frame m g,
  fun m g _ => Cert.Kernel3Ideal.Gen.frame m g,
  fun m g _ => refFrame3 m g trivial,
  fun m g _ => Cert.Kernel4.Gen.frame m g,
  fun m g _ => Cert.Kernel4Ideal.Gen.frame m g,
  fun m g _ => refFrame4 m g trivial,
  fun m g _ => Cert.Kernel5.Gen.frame m g,
  fun m g _ => Cert.Kernel5Ideal.Gen.frame m g,
  fun m g _ => refFrame5 m g trivial,
  fun m g _ => Cert.Kernel6.Gen.frame m g,
  fun m g _ => Cert.Kernel6Ideal.Gen.frame m g,
  fun m g _ => refFrame6 m g trivial,
  fun m g _ => Cert.Kernel7.Gen.frame m g,
  fun m g _ => Cert.Kernel7Ideal.Gen.frame m g,
  fun m g _ => refFrame7 m g trivial,
  fun m g _ => Cert.Kernel8.Gen.frame m g,
  fun m g _ => Cert.Kernel8Ideal.Gen.frame m g,
  fun m g _ => refFrame8 m g trivial,
  fun m g _ => Cert.Kernel9.Gen.frame m g,
  fun m g _ => Cert.Kernel9Ideal.Gen.frame m g,
  fun m g _ => refFrame9 m g trivial,
  fun m g _ => Cert.Kernel10.Gen.frame m g,
  fun m g _ => Cert.Kernel10Ideal.Gen.frame m g,
  fun m g _ => refFrame10 m g trivial,
  fun m g _ => Cert.Kernel11.Gen.frame m g,
  fun m g _ => Cert.Kernel11Ideal.Gen.frame m g,
  fun m g _ => Cert.Kernel11Ideal.Gen.frame m g,
  fun m g _ => refFrame11 m g trivial,
  fun m g _ => refFrame11 m g trivial,
  fun m g _ => Cert.Kernel12.Gen.frame m g,
  fun m g _ => Cert.Kernel12Ideal.Gen.frame m g,
  fun m g _ => Cert.Kernel12Ideal.Gen.frame m g,
  fun m g _ => refFrame12 m g trivial,
  fun m g _ => refFrame12 m g trivial,
  trivial,
  Cert.AttnClaims.algebraic,
  trivial,
  Cert.Kernel2Ideal.Dense.algebraic,
  trivial,
  Cert.Kernel3Ideal.Dense.algebraic,
  trivial,
  Cert.Kernel4Ideal.Dense.algebraic,
  trivial,
  Cert.Kernel5Ideal.Dense.algebraic,
  trivial,
  Cert.Kernel6Ideal.Dense.algebraic,
  trivial,
  Cert.Kernel7Ideal.Dense.algebraic,
  trivial,
  Cert.Kernel8Ideal.Dense.algebraic,
  trivial,
  Cert.Kernel9Ideal.Dense.algebraic,
  trivial,
  Cert.Kernel10Ideal.Dense.algebraic,
  trivial,
  Cert.Attn3Claims.algebraic,
  trivial,
  Cert.ScanClaims.algebraic⟩

end Cert.Proof

end
